-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13)
      ∧ r.2.mem ((c.tc : Thread Cert.Kernel15.nD Cert.Kernel15.τ).loc Cert.Kernel15.main_arg14) = m ((c.tc : Thread Cert.Kernel15.nD Cert.Kernel15.τ).loc Cert.Kernel15.main_arg14)
      ∧ r.2.mem ((c.tc : Thread Cert.Kernel15.nD Cert.Kernel15.τ).loc Cert.Kernel15.main_arg15) = m ((c.tc : Thread Cert.Kernel15.nD Cert.Kernel15.τ).loc Cert.Kernel15.main_arg15)
      ∧ r.2.mem ((c.tc : Thread Cert.Kernel15.nD Cert.Kernel15.τ).loc Cert.Kernel15.main_arg16) = m ((c.tc : Thread Cert.Kernel15.nD Cert.Kernel15.τ).loc Cert.Kernel15.main_arg16)
      ∧ r.2.mem ((c.tc : Thread Cert.Kernel15.nD Cert.Kernel15.τ).loc Cert.Kernel15.main_arg17) = m ((c.tc : Thread Cert.Kernel15.nD Cert.Kernel15.τ).loc Cert.Kernel15.main_arg17)
      ∧ r.2.mem ((c.tc : Thread Cert.Kernel15.nD Cert.Kernel15.τ).loc Cert.Kernel15.main_arg18) = m ((c.tc : Thread Cert.Kernel15.nD Cert.Kernel15.τ).loc Cert.Kernel15.main_arg18)
      ∧ r.2.mem ((c.tc : Thread Cert.Kernel15.nD Cert.Kernel15.τ).loc Cert.Kernel15.main_arg19) = m ((c.tc : Thread Cert.Kernel15.nD Cert.Kernel15.τ).loc Cert.Kernel15.main_arg19)
      ∧ r.2.mem ((c.tc : Thread Cert.Kernel15.nD Cert.Kernel15.τ).loc Cert.Kernel15.main_arg20) = m ((c.tc : Thread Cert.Kernel15.nD Cert.Kernel15.τ).loc Cert.Kernel15.main_arg20)
      ∧ r.2.mem ((c.tc : Thread Cert.Kernel15.nD Cert.Kernel15.τ).loc Cert.Kernel15.main_arg21) = m ((c.tc : Thread Cert.Kernel15.nD Cert.Kernel15.τ).loc Cert.Kernel15.main_arg21)
      ∧ r.2.mem ((c.tc : Thread Cert.Kernel15.nD Cert.Kernel15.τ).loc Cert.Kernel15.main_arg22) = m ((c.tc : Thread Cert.Kernel15.nD Cert.Kernel15.τ).loc Cert.Kernel15.main_arg22)
      ∧ r.2.mem ((c.tc : Thread Cert.Kernel15.nD Cert.Kernel15.τ).loc Cert.Kernel15.main_arg23) = m ((c.tc : Thread Cert.Kernel15.nD Cert.Kernel15.τ).loc Cert.Kernel15.main_arg23)
      ∧ r.2.mem ((c.tc : Thread Cert.Kernel15.nD Cert.Kernel15.τ).loc Cert.Kernel15.main_arg24) = m ((c.tc : Thread Cert.Kernel15.nD Cert.Kernel15.τ).loc Cert.Kernel15.main_arg24)
      ∧ r.2.mem ((c.tc : Thread Cert.Kernel15.nD Cert.Kernel15.τ).loc Cert.Kernel15.main_arg25) = m ((c.tc : Thread Cert.Kernel15.nD Cert.Kernel15.τ).loc Cert.Kernel15.main_arg25)
      ∧ r.2.mem ((c.tc : Thread Cert.Kernel15.nD Cert.Kernel15.τ).loc Cert.Kernel15.main_arg26) = m ((c.tc : Thread Cert.Kernel15.nD Cert.Kernel15.τ).loc Cert.Kernel15.main_arg26)
      ∧ r.2.mem ((c.tc : Thread Cert.Kernel15.nD Cert.Kernel15.τ).loc Cert.Kernel15.main_arg27) = m ((c.tc : Thread Cert.Kernel15.nD Cert.Kernel15.τ).loc Cert.Kernel15.main_arg27))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
      ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
      ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
      ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
      ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
      ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
      ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
      ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
      ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
      ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
      ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
      ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
      ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
      ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
      ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13)
      ∧ r.2.mem ((c.tc : Thread Cert.Reference15Ideal.nD Cert.Reference15Ideal.τ).loc Cert.Reference15Ideal.main_arg14) = m ((c.tc : Thread Cert.Reference15Ideal.nD Cert.Reference15Ideal.τ).loc Cert.Reference15Ideal.main_arg14)
      ∧ r.2.mem ((c.tc : Thread Cert.Reference15Ideal.nD Cert.Reference15Ideal.τ).loc Cert.Reference15Ideal.main_arg15) = m ((c.tc : Thread Cert.Reference15Ideal.nD Cert.Reference15Ideal.τ).loc Cert.Reference15Ideal.main_arg15)
      ∧ r.2.mem ((c.tc : Thread Cert.Reference15Ideal.nD Cert.Reference15Ideal.τ).loc Cert.Reference15Ideal.main_arg16) = m ((c.tc : Thread Cert.Reference15Ideal.nD Cert.Reference15Ideal.τ).loc Cert.Reference15Ideal.main_arg16)
      ∧ r.2.mem ((c.tc : Thread Cert.Reference15Ideal.nD Cert.Reference15Ideal.τ).loc Cert.Reference15Ideal.main_arg17) = m ((c.tc : Thread Cert.Reference15Ideal.nD Cert.Reference15Ideal.τ).loc Cert.Reference15Ideal.main_arg17)
      ∧ r.2.mem ((c.tc : Thread Cert.Reference15Ideal.nD Cert.Reference15Ideal.τ).loc Cert.Reference15Ideal.main_arg18) = m ((c.tc : Thread Cert.Reference15Ideal.nD Cert.Reference15Ideal.τ).loc Cert.Reference15Ideal.main_arg18)
      ∧ r.2.mem ((c.tc : Thread Cert.Reference15Ideal.nD Cert.Reference15Ideal.τ).loc Cert.Reference15Ideal.main_arg19) = m ((c.tc : Thread Cert.Reference15Ideal.nD Cert.Reference15Ideal.τ).loc Cert.Reference15Ideal.main_arg19)
      ∧ r.2.mem ((c.tc : Thread Cert.Reference15Ideal.nD Cert.Reference15Ideal.τ).loc Cert.Reference15Ideal.main_arg20) = m ((c.tc : Thread Cert.Reference15Ideal.nD Cert.Reference15Ideal.τ).loc Cert.Reference15Ideal.main_arg20)
      ∧ r.2.mem ((c.tc : Thread Cert.Reference15Ideal.nD Cert.Reference15Ideal.τ).loc Cert.Reference15Ideal.main_arg21) = m ((c.tc : Thread Cert.Reference15Ideal.nD Cert.Reference15Ideal.τ).loc Cert.Reference15Ideal.main_arg21)
      ∧ r.2.mem ((c.tc : Thread Cert.Reference15Ideal.nD Cert.Reference15Ideal.τ).loc Cert.Reference15Ideal.main_arg22) = m ((c.tc : Thread Cert.Reference15Ideal.nD Cert.Reference15Ideal.τ).loc Cert.Reference15Ideal.main_arg22)
      ∧ r.2.mem ((c.tc : Thread Cert.Reference15Ideal.nD Cert.Reference15Ideal.τ).loc Cert.Reference15Ideal.main_arg23) = m ((c.tc : Thread Cert.Reference15Ideal.nD Cert.Reference15Ideal.τ).loc Cert.Reference15Ideal.main_arg23)
      ∧ r.2.mem ((c.tc : Thread Cert.Reference15Ideal.nD Cert.Reference15Ideal.τ).loc Cert.Reference15Ideal.main_arg24) = m ((c.tc : Thread Cert.Reference15Ideal.nD Cert.Reference15Ideal.τ).loc Cert.Reference15Ideal.main_arg24)
      ∧ r.2.mem ((c.tc : Thread Cert.Reference15Ideal.nD Cert.Reference15Ideal.τ).loc Cert.Reference15Ideal.main_arg25) = m ((c.tc : Thread Cert.Reference15Ideal.nD Cert.Reference15Ideal.τ).loc Cert.Reference15Ideal.main_arg25)
      ∧ r.2.mem ((c.tc : Thread Cert.Reference15Ideal.nD Cert.Reference15Ideal.τ).loc Cert.Reference15Ideal.main_arg26) = m ((c.tc : Thread Cert.Reference15Ideal.nD Cert.Reference15Ideal.τ).loc Cert.Reference15Ideal.main_arg26)
      ∧ r.2.mem ((c.tc : Thread Cert.Reference15Ideal.nD Cert.Reference15Ideal.τ).loc Cert.Reference15Ideal.main_arg27) = m ((c.tc : Thread Cert.Reference15Ideal.nD Cert.Reference15Ideal.τ).loc Cert.Reference15Ideal.main_arg27))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_v178) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_v34) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)) (v3 : (c : Dev Cert.Kernel3Ideal.nD) → Buf (Elt Ideal) ((c.tc : Thread Cert.Kernel3Ideal.nD Cert.Kernel3Ideal.τ).loc Cert.Kernel3Ideal.main_v18_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_v18_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_v72) = v2 c
          ∧ r.2.mem ((c.tc : Thread Cert.Reference3Ideal.nD Cert.Reference3Ideal.τ).loc Cert.Reference3Ideal.main_v55) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "k01" .f32 0x3D122279#32 ((80338380498831 / 2251799813685248 : ℝ) : EReal)
  ∧ IdealRules.named_const.Statement Cert.Kernel5Ideal.κ "k013" .f32 0x3DDB33B6#32 ((241015141496493 / 2251799813685248 : ℝ) : EReal)

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v131_0)) (v1 : (c : Dev Cert.Kernel6Ideal.nD) → Buf (Elt Ideal) ((c.tc : Thread Cert.Kernel6Ideal.nD Cert.Kernel6Ideal.τ).loc Cert.Kernel6Ideal.main_v131_1)) (v2 : (c : Dev Cert.Kernel6Ideal.nD) → Buf (Elt Ideal) ((c.tc : Thread Cert.Kernel6Ideal.nD Cert.Kernel6Ideal.τ).loc Cert.Kernel6Ideal.main_v131_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v131_0) = v0 c
          ∧ r.2.mem ((c.tc : Thread Cert.Kernel6Ideal.nD Cert.Kernel6Ideal.τ).loc Cert.Kernel6Ideal.main_v131_1) = v1 c
          ∧ r.2.mem ((c.tc : Thread Cert.Kernel6Ideal.nD Cert.Kernel6Ideal.τ).loc Cert.Kernel6Ideal.main_v131_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v342) = v0 c
          ∧ r.2.mem ((c.tc : Thread Cert.Reference6Ideal.nD Cert.Reference6Ideal.τ).loc Cert.Reference6Ideal.main_v343) = v1 c
          ∧ r.2.mem ((c.tc : Thread Cert.Reference6Ideal.nD Cert.Reference6Ideal.τ).loc Cert.Reference6Ideal.main_v344) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "mask" .f32 0xF149F2CA#32 ⊥

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v131) = v0 c
          ∧ r.2.mem ((c.tc : Thread Cert.Reference7Ideal.nD Cert.Reference7Ideal.τ).loc Cert.Reference7Ideal.main_v136) = v1 c
          ∧ r.2.mem ((c.tc : Thread Cert.Reference7Ideal.nD Cert.Reference7Ideal.τ).loc Cert.Reference7Ideal.main_v137) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v14) = v1 c
          ∧ r.2.mem ((c.tc : Thread Cert.Reference8Ideal.nD Cert.Reference8Ideal.τ).loc Cert.Reference8Ideal.main_v27) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v86) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v9)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)
      ∧ m' ((c.tc : Thread Cert.Reference15Ideal.nD Cert.Reference15Ideal.τ).loc Cert.Reference15Ideal.main_arg14) = m ((c.tc : Thread Cert.Kernel15Ideal.nD Cert.Kernel15Ideal.τ).loc Cert.Kernel15Ideal.main_arg14)
      ∧ m' ((c.tc : Thread Cert.Reference15Ideal.nD Cert.Reference15Ideal.τ).loc Cert.Reference15Ideal.main_arg15) = m ((c.tc : Thread Cert.Kernel15Ideal.nD Cert.Kernel15Ideal.τ).loc Cert.Kernel15Ideal.main_arg15)
      ∧ m' ((c.tc : Thread Cert.Reference15Ideal.nD Cert.Reference15Ideal.τ).loc Cert.Reference15Ideal.main_arg16) = m ((c.tc : Thread Cert.Kernel15Ideal.nD Cert.Kernel15Ideal.τ).loc Cert.Kernel15Ideal.main_arg16)
      ∧ m' ((c.tc : Thread Cert.Reference15Ideal.nD Cert.Reference15Ideal.τ).loc Cert.Reference15Ideal.main_arg17) = m ((c.tc : Thread Cert.Kernel15Ideal.nD Cert.Kernel15Ideal.τ).loc Cert.Kernel15Ideal.main_arg17)
      ∧ m' ((c.tc : Thread Cert.Reference15Ideal.nD Cert.Reference15Ideal.τ).loc Cert.Reference15Ideal.main_arg18) = m ((c.tc : Thread Cert.Kernel15Ideal.nD Cert.Kernel15Ideal.τ).loc Cert.Kernel15Ideal.main_arg18)
      ∧ m' ((c.tc : Thread Cert.Reference15Ideal.nD Cert.Reference15Ideal.τ).loc Cert.Reference15Ideal.main_arg19) = m ((c.tc : Thread Cert.Kernel15Ideal.nD Cert.Kernel15Ideal.τ).loc Cert.Kernel15Ideal.main_arg19)
      ∧ m' ((c.tc : Thread Cert.Reference15Ideal.nD Cert.Reference15Ideal.τ).loc Cert.Reference15Ideal.main_arg20) = m ((c.tc : Thread Cert.Kernel15Ideal.nD Cert.Kernel15Ideal.τ).loc Cert.Kernel15Ideal.main_arg20)
      ∧ m' ((c.tc : Thread Cert.Reference15Ideal.nD Cert.Reference15Ideal.τ).loc Cert.Reference15Ideal.main_arg21) = m ((c.tc : Thread Cert.Kernel15Ideal.nD Cert.Kernel15Ideal.τ).loc Cert.Kernel15Ideal.main_arg21)
      ∧ m' ((c.tc : Thread Cert.Reference15Ideal.nD Cert.Reference15Ideal.τ).loc Cert.Reference15Ideal.main_arg22) = m ((c.tc : Thread Cert.Kernel15Ideal.nD Cert.Kernel15Ideal.τ).loc Cert.Kernel15Ideal.main_arg22)
      ∧ m' ((c.tc : Thread Cert.Reference15Ideal.nD Cert.Reference15Ideal.τ).loc Cert.Reference15Ideal.main_arg23) = m ((c.tc : Thread Cert.Kernel15Ideal.nD Cert.Kernel15Ideal.τ).loc Cert.Kernel15Ideal.main_arg23)
      ∧ m' ((c.tc : Thread Cert.Reference15Ideal.nD Cert.Reference15Ideal.τ).loc Cert.Reference15Ideal.main_arg24) = m ((c.tc : Thread Cert.Kernel15Ideal.nD Cert.Kernel15Ideal.τ).loc Cert.Kernel15Ideal.main_arg24)
      ∧ m' ((c.tc : Thread Cert.Reference15Ideal.nD Cert.Reference15Ideal.τ).loc Cert.Reference15Ideal.main_arg25) = m ((c.tc : Thread Cert.Kernel15Ideal.nD Cert.Kernel15Ideal.τ).loc Cert.Kernel15Ideal.main_arg25)
      ∧ m' ((c.tc : Thread Cert.Reference15Ideal.nD Cert.Reference15Ideal.τ).loc Cert.Reference15Ideal.main_arg26) = m ((c.tc : Thread Cert.Kernel15Ideal.nD Cert.Kernel15Ideal.τ).loc Cert.Kernel15Ideal.main_arg26)
      ∧ m' ((c.tc : Thread Cert.Reference15Ideal.nD Cert.Reference15Ideal.τ).loc Cert.Reference15Ideal.main_arg27) = m ((c.tc : Thread Cert.Kernel15Ideal.nD Cert.Kernel15Ideal.τ).loc Cert.Kernel15Ideal.main_arg27)) →
    ∃ (v0 : (c : Dev Cert.Kernel15Ideal.nD) → Buf (Elt Ideal) ((c.tc : Thread Cert.Kernel15Ideal.nD Cert.Kernel15Ideal.τ).loc Cert.Kernel15Ideal.main_v60_0)) (v1 : (c : Dev Cert.Kernel15Ideal.nD) → Buf (Elt Ideal) ((c.tc : Thread Cert.Kernel15Ideal.nD Cert.Kernel15Ideal.τ).loc Cert.Kernel15Ideal.main_v60_1)) (v2 : (c : Dev Cert.Kernel15Ideal.nD) → Buf (Elt Ideal) ((c.tc : Thread Cert.Kernel15Ideal.nD Cert.Kernel15Ideal.τ).loc Cert.Kernel15Ideal.main_v60_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v60_0) = v0 c
          ∧ r.2.mem ((c.tc : Thread Cert.Kernel15Ideal.nD Cert.Kernel15Ideal.τ).loc Cert.Kernel15Ideal.main_v60_1) = v1 c
          ∧ r.2.mem ((c.tc : Thread Cert.Kernel15Ideal.nD Cert.Kernel15Ideal.τ).loc Cert.Kernel15Ideal.main_v60_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
          ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
          ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
          ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
          ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
          ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
          ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
          ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
          ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
          ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
          ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
          ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
          ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
          ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
          ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v182) = v0 c
          ∧ r.2.mem ((c.tc : Thread Cert.Reference15Ideal.nD Cert.Reference15Ideal.τ).loc Cert.Reference15Ideal.main_v197) = v1 c
          ∧ r.2.mem ((c.tc : Thread Cert.Reference15Ideal.nD Cert.Reference15Ideal.τ).loc Cert.Reference15Ideal.main_v212) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13)
          ∧ r.2.mem ((c.tc : Thread Cert.Reference15Ideal.nD Cert.Reference15Ideal.τ).loc Cert.Reference15Ideal.main_arg14) = m' ((c.tc : Thread Cert.Reference15Ideal.nD Cert.Reference15Ideal.τ).loc Cert.Reference15Ideal.main_arg14)
          ∧ r.2.mem ((c.tc : Thread Cert.Reference15Ideal.nD Cert.Reference15Ideal.τ).loc Cert.Reference15Ideal.main_arg15) = m' ((c.tc : Thread Cert.Reference15Ideal.nD Cert.Reference15Ideal.τ).loc Cert.Reference15Ideal.main_arg15)
          ∧ r.2.mem ((c.tc : Thread Cert.Reference15Ideal.nD Cert.Reference15Ideal.τ).loc Cert.Reference15Ideal.main_arg16) = m' ((c.tc : Thread Cert.Reference15Ideal.nD Cert.Reference15Ideal.τ).loc Cert.Reference15Ideal.main_arg16)
          ∧ r.2.mem ((c.tc : Thread Cert.Reference15Ideal.nD Cert.Reference15Ideal.τ).loc Cert.Reference15Ideal.main_arg17) = m' ((c.tc : Thread Cert.Reference15Ideal.nD Cert.Reference15Ideal.τ).loc Cert.Reference15Ideal.main_arg17)
          ∧ r.2.mem ((c.tc : Thread Cert.Reference15Ideal.nD Cert.Reference15Ideal.τ).loc Cert.Reference15Ideal.main_arg18) = m' ((c.tc : Thread Cert.Reference15Ideal.nD Cert.Reference15Ideal.τ).loc Cert.Reference15Ideal.main_arg18)
          ∧ r.2.mem ((c.tc : Thread Cert.Reference15Ideal.nD Cert.Reference15Ideal.τ).loc Cert.Reference15Ideal.main_arg19) = m' ((c.tc : Thread Cert.Reference15Ideal.nD Cert.Reference15Ideal.τ).loc Cert.Reference15Ideal.main_arg19)
          ∧ r.2.mem ((c.tc : Thread Cert.Reference15Ideal.nD Cert.Reference15Ideal.τ).loc Cert.Reference15Ideal.main_arg20) = m' ((c.tc : Thread Cert.Reference15Ideal.nD Cert.Reference15Ideal.τ).loc Cert.Reference15Ideal.main_arg20)
          ∧ r.2.mem ((c.tc : Thread Cert.Reference15Ideal.nD Cert.Reference15Ideal.τ).loc Cert.Reference15Ideal.main_arg21) = m' ((c.tc : Thread Cert.Reference15Ideal.nD Cert.Reference15Ideal.τ).loc Cert.Reference15Ideal.main_arg21)
          ∧ r.2.mem ((c.tc : Thread Cert.Reference15Ideal.nD Cert.Reference15Ideal.τ).loc Cert.Reference15Ideal.main_arg22) = m' ((c.tc : Thread Cert.Reference15Ideal.nD Cert.Reference15Ideal.τ).loc Cert.Reference15Ideal.main_arg22)
          ∧ r.2.mem ((c.tc : Thread Cert.Reference15Ideal.nD Cert.Reference15Ideal.τ).loc Cert.Reference15Ideal.main_arg23) = m' ((c.tc : Thread Cert.Reference15Ideal.nD Cert.Reference15Ideal.τ).loc Cert.Reference15Ideal.main_arg23)
          ∧ r.2.mem ((c.tc : Thread Cert.Reference15Ideal.nD Cert.Reference15Ideal.τ).loc Cert.Reference15Ideal.main_arg24) = m' ((c.tc : Thread Cert.Reference15Ideal.nD Cert.Reference15Ideal.τ).loc Cert.Reference15Ideal.main_arg24)
          ∧ r.2.mem ((c.tc : Thread Cert.Reference15Ideal.nD Cert.Reference15Ideal.τ).loc Cert.Reference15Ideal.main_arg25) = m' ((c.tc : Thread Cert.Reference15Ideal.nD Cert.Reference15Ideal.τ).loc Cert.Reference15Ideal.main_arg25)
          ∧ r.2.mem ((c.tc : Thread Cert.Reference15Ideal.nD Cert.Reference15Ideal.τ).loc Cert.Reference15Ideal.main_arg26) = m' ((c.tc : Thread Cert.Reference15Ideal.nD Cert.Reference15Ideal.τ).loc Cert.Reference15Ideal.main_arg26)
          ∧ r.2.mem ((c.tc : Thread Cert.Reference15Ideal.nD Cert.Reference15Ideal.τ).loc Cert.Reference15Ideal.main_arg27) = m' ((c.tc : Thread Cert.Reference15Ideal.nD Cert.Reference15Ideal.τ).loc Cert.Reference15Ideal.main_arg27))

def preserves_Kernel16_Kernel16Ideal : Prop :=
  IdealRules.named_const.Statement Cert.Kernel16Ideal.κ "k01" .f32 0x3D122279#32 ((80338380498831 / 2251799813685248 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)) (v2 : (c : Dev Cert.Kernel16Ideal.nD) → Buf (Elt Ideal) ((c.tc : Thread Cert.Kernel16Ideal.nD Cert.Kernel16Ideal.τ).loc Cert.Kernel16Ideal.main_v3_2)) (v3 : (c : Dev Cert.Kernel16Ideal.nD) → Buf (Elt Ideal) ((c.tc : Thread Cert.Kernel16Ideal.nD Cert.Kernel16Ideal.τ).loc Cert.Kernel16Ideal.main_v3_3)) (v4 : (c : Dev Cert.Kernel16Ideal.nD) → Buf (Elt Ideal) ((c.tc : Thread Cert.Kernel16Ideal.nD Cert.Kernel16Ideal.τ).loc Cert.Kernel16Ideal.main_v3_4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_v3_2) = v2 c
          ∧ r.2.mem ((c.tc : Thread Cert.Kernel16Ideal.nD Cert.Kernel16Ideal.τ).loc Cert.Kernel16Ideal.main_v3_3) = v3 c
          ∧ r.2.mem ((c.tc : Thread Cert.Kernel16Ideal.nD Cert.Kernel16Ideal.τ).loc Cert.Kernel16Ideal.main_v3_4) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v30) = v0 c
          ∧ r.2.mem ((c.tc : Thread Cert.Reference16Ideal.nD Cert.Reference16Ideal.τ).loc Cert.Reference16Ideal.main_v32) = v1 c
          ∧ r.2.mem ((c.tc : Thread Cert.Reference16Ideal.nD Cert.Reference16Ideal.τ).loc Cert.Reference16Ideal.main_v33) = v2 c
          ∧ r.2.mem ((c.tc : Thread Cert.Reference16Ideal.nD Cert.Reference16Ideal.τ).loc Cert.Reference16Ideal.main_v34) = v3 c
          ∧ r.2.mem ((c.tc : Thread Cert.Reference16Ideal.nD Cert.Reference16Ideal.τ).loc Cert.Reference16Ideal.main_v49) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite2 : Cert.Pre_finite2.Facts) (hPre_finite3 : Cert.Pre_finite3.Facts) (hPre_finite4 : Cert.Pre_finite4.Facts) (hPre_finite6 : Cert.Pre_finite6.Facts) (hPre_finite7 : Cert.Pre_finite7.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8192x2048 : Shape := ⟨2, ![8192, 2048]⟩
abbrev S8192x1024 : Shape := ⟨2, ![8192, 1024]⟩
abbrev S4x128x128 : Shape := ⟨3, ![4, 128, 128]⟩
abbrev S1x512 : Shape := ⟨2, ![1, 512]⟩
abbrev S8192x512 : Shape := ⟨2, ![8192, 512]⟩
abbrev S_ : Shape := ⟨0, ![]⟩

class Facts : Prop where
  slices_S8192x2048_S8192x512_0_1536 : S8192x2048.Slices ![0, 1536] S8192x512
  slices_S8192x1024_S8192x512_0_512 : S8192x1024.Slices ![0, 512] S8192x512
  bcast_S_S8192x512 : S_.BroadcastsInDim S8192x512 (![] : Fin 0 → Fin S8192x512.rank)
  reducesTo_S8192x512_S_d0_1 : S8192x512.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v5 : IVec S_ 1) (main_v9 : IVec S_ 1) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S8192x2048 .f32) (main_arg1 : FVec F S8192x1024 .f32) (main_arg2 : FVec F S4x128x128 .f32) (main_arg3 : FVec F S1x512 .f32) : IVec S_ 1 :=
  let main_v0 : FVec F S8192x512 .f32 := (extractStridedSlice S8192x512 ![0, 1536] · slices_S8192x2048_S8192x512_0_1536) main_arg0
  let main_v1 : FVec F S8192x512 .f32 := (extractStridedSlice S8192x512 ![0, 512] · slices_S8192x1024_S8192x512_0_512) main_arg1
  let main_v2 : FVec F S8192x512 .f32 := Host.absf main_v0
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_c : IVec S_ 1 := constantI S_ 1 1#1
  let main_v5 : IVec S_ 1 := (fun x v => Host.reduce IntOp.andi x v reducesTo_S8192x512_S_d0_1 h_S_) main_v4 main_c
  let main_v6 : FVec F S8192x512 .f32 := Host.absf main_v1
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : FVec F S4x128x128 .f32 := Host.absf main_arg2
  let main_cst_2 : FVec F S_ .f32 := constant S_ .f32 0x7F800000#32
  let main_v11 : FVec F S4x128x128 .f32 := broadcastInDim S4x128x128 ![] bcast_S_S4x128x128 main_cst_2
  let main_v12 : IVec S4x128x128 1 := cmpf .olt main_v10 main_v11
  let main_c_3 : IVec S_ 1 := constantI S_ 1 1#1
  let main_v13 : IVec S_ 1 := (fun x v => Host.reduce IntOp.andi x v reducesTo_S4x128x128_S_d0_1_2 h_S_) main_v12 main_c_3
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_v5 main_v9 main_v13 main_v16
-- ==== Pre_finite2.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x2816 .f32) (main_arg1 : FVec F S2816x1024 .f32) (main_arg2 : FVec F S8192x1024 .f32) (main_arg3 : FVec F S8192x1024 .f32) (main_arg4 : FVec F S1x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S8192x1024 .f32 := Host.absf main_arg3
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_arg4 main_v3 main_v7 main_v11 main_v15
-- ==== Pre_finite3.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_arg4 : FVec F S1024x5632 .f32) (main_arg5 : FVec F S8192x5632 .f32) (main_arg6 : FVec F S8192x1024 .f32) (main_v3 : IVec S_ 1) (main_v7 : IVec S_ 1) (main_v11 : IVec S_ 1) (main_v15 : IVec S_ 1) : IVec S_ 1 :=
  let main_v16 : FVec F S1024x5632 .f32 := Host.absf main_arg4
  let main_cst_6 : FVec F S_ .f32 := constant S_ .f32 0x7F800000#32
  let main_v17 : FVec F S1024x5632 .f32 := broadcastInDim S1024x5632 ![] bcast_S_S1024x5632 main_cst_6
  let main_v18 : IVec S1024x5632 1 := cmpf .olt main_v16 main_v17
  let main_c_7 : IVec S_ 1 := constantI S_ 1 1#1
  let main_v19 : IVec S_ 1 := (fun x v => Host.reduce IntOp.andi x v reducesTo_S1024x5632_S_d0_1 h_S_) main_v18 main_c_7
  let main_v20 : FVec F S8192x5632 .f32 := Host.absf main_arg5
  let main_cst_8 : FVec F S_ .f32 := constant S_ .f32 0x7F800000#32
  let main_v21 : FVec F S8192x5632 .f32 := broadcastInDim S8192x5632 ![] bcast_S_S8192x5632 main_cst_8
  let main_v22 : IVec S8192x5632 1 := cmpf .olt main_v20 main_v21
  let main_c_9 : IVec S_ 1 := constantI S_ 1 1#1
  let main_v23 : IVec S_ 1 := (fun x v => Host.reduce IntOp.andi x v reducesTo_S8192x5632_S_d0_1 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1024x5632 .f32) (main_arg5 : FVec F S8192x5632 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_v3 main_v7 main_v11 main_v15
-- ==== Pre_finite4.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x1024 .f32) (main_arg1 : FVec F S1x1024 .f32) (main_arg2 : FVec F S1024x2048 .f32) (main_arg3 : FVec F S8192x2048 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2048 .f32 := Host.absf main_arg2
  let main_cst_2 : FVec F S_ .f32 := constant S_ .f32 0x7F800000#32
  let main_v9 : FVec F S1024x2048 .f32 := broadcastInDim S1024x2048 ![] bcast_S_S1024x2048 main_cst_2
  let main_v10 : IVec S1024x2048 1 := cmpf .olt main_v8 main_v9
  let main_c_3 : IVec S_ 1 := constantI S_ 1 1#1
  let main_v11 : IVec S_ 1 := (fun x v => Host.reduce IntOp.andi x v reducesTo_S1024x2048_S_d0_1 h_S_) main_v10 main_c_3
  let main_v12 : FVec F S8192x2048 .f32 := Host.absf main_arg3
  let main_cst_4 : FVec F S_ .f32 := constant S_ .f32 0x7F800000#32
  let main_v13 : FVec F S8192x2048 .f32 := broadcastInDim S8192x2048 ![] bcast_S_S8192x2048 main_cst_4
  let main_v14 : IVec S8192x2048 1 := cmpf .olt main_v12 main_v13
  let main_c_5 : IVec S_ 1 := constantI S_ 1 1#1
  let main_v15 : IVec S_ 1 := (fun x v => Host.reduce IntOp.andi x v reducesTo_S8192x2048_S_d0_1 h_S_) main_v14 main_c_5
  fn_part1 (F := F) main_arg4 main_v3 main_v7 main_v11 main_v15
-- ==== Pre_finite6.lean ====
abbrev S8192x2048 : Shape := ⟨2, ![8192, 2048]⟩
abbrev S8192x1024 : Shape := ⟨2, ![8192, 1024]⟩
abbrev S8192x1536 : Shape := ⟨2, ![8192, 1536]⟩
abbrev S8192x512 : Shape := ⟨2, ![8192, 512]⟩
abbrev S_ : Shape := ⟨0, ![]⟩

class Facts : Prop where
  slices_S8192x2048_S8192x1536_0_0 : S8192x2048.Slices ![0, 0] S8192x1536
  slices_S8192x1024_S8192x512_0_0 : S8192x1024.Slices ![0, 0] S8192x512
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x2048 .f32) (main_arg1 : FVec F S8192x1024 .f32) : IVec S_ 1 :=
  let main_v0 : FVec F S8192x1536 .f32 := (extractStridedSlice S8192x1536 ![0, 0] · slices_S8192x2048_S8192x1536_0_0) main_arg0
  let main_v1 : FVec F S8192x512 .f32 := (extractStridedSlice S8192x512 ![0, 0] · slices_S8192x1024_S8192x512_0_0) main_arg1
  let main_v2 : FVec F S8192x1536 .f32 := Host.absf main_v0
  let main_cst : FVec F S_ .f32 := constant S_ .f32 0x7F800000#32
  let main_v3 : FVec F S8192x1536 .f32 := broadcastInDim S8192x1536 ![] bcast_S_S8192x1536 main_cst
  let main_v4 : IVec S8192x1536 1 := cmpf .olt main_v2 main_v3
  let main_c : IVec S_ 1 := constantI S_ 1 1#1
  let main_v5 : IVec S_ 1 := (fun x v => Host.reduce IntOp.andi x v reducesTo_S8192x1536_S_d0_1 h_S_) main_v4 main_c
  let main_v6 : FVec F S8192x512 .f32 := Host.absf main_v1
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v5 main_v9
  main_v10
-- ==== Pre_finite7.lean ====
abbrev S8192x2048 : Shape := ⟨2, ![8192, 2048]⟩
abbrev S8192x1536 : Shape := ⟨2, ![8192, 1536]⟩
abbrev S_ : Shape := ⟨0, ![]⟩

class Facts : Prop where
  slices_S8192x2048_S8192x1536_0_0 : S8192x2048.Slices ![0, 0] S8192x1536
  bcast_S_S8192x1536 : S_.BroadcastsInDim S8192x1536 (![] : Fin 0 → Fin S8192x1536.rank)
  reducesTo_S8192x1536_S_d0_1 : S8192x1536.ReducesTo [0, 1] S_
  h_S_ : 0 < S_.numel

variable [Facts]

def fn {F : FTy → Type} [FloatOps F] (main_arg0 : FVec F S8192x2048 .f32) : IVec S_ 1 :=
  let main_v0 : FVec F S8192x1536 .f32 := (extractStridedSlice S8192x1536 ![0, 0] · slices_S8192x2048_S8192x1536_0_0) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  main_v4
-- ==== Pre_finite9.lean ====
abbrev S8192x2048 : Shape := ⟨2, ![8192, 2048]⟩
abbrev S4x128x128 : Shape := ⟨3, ![4, 128, 128]⟩
abbrev S1x512 : Shape := ⟨2, ![1, 512]⟩
abbrev S8192x512 : Shape := ⟨2, ![8192, 512]⟩
abbrev S_ : Shape := ⟨0, ![]⟩

class Facts : Prop where
  slices_S8192x2048_S8192x512_0_1536 : S8192x2048.Slices ![0, 1536] S8192x512
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x2048 .f32) (main_arg1 : FVec F S4x128x128 .f32) (main_arg2 : FVec F S1x512 .f32) : IVec S_ 1 :=
  let main_v0 : FVec F S8192x512 .f32 := (extractStridedSlice S8192x512 ![0, 1536] · slices_S8192x2048_S8192x512_0_1536) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  main_v4
-- ==== Kernel.lean ====
abbrev S8192x2048 : Shape := ⟨2, ![8192, 2048]⟩
abbrev S8192x1024 : Shape := ⟨2, ![8192, 1024]⟩
abbrev S4x128x128 : Shape := ⟨3, ![4, 128, 128]⟩
abbrev S1x512 : Shape := ⟨2, ![1, 512]⟩
abbrev S8192x512 : Shape := ⟨2, ![8192, 512]⟩
abbrev S256x512 : Shape := ⟨2, ![256, 512]⟩
abbrev S16x512 : Shape := ⟨2, ![16, 512]⟩
abbrev S256x272 : Shape := ⟨2, ![256, 272]⟩
abbrev S272x1 : Shape := ⟨2, ![272, 1]⟩
abbrev S1x128x128 : Shape := ⟨3, ![1, 128, 128]⟩
abbrev S128x128 : Shape := ⟨2, ![128, 128]⟩
abbrev S256x128 : Shape := ⟨2, ![256, 128]⟩
abbrev S16x128 : Shape := ⟨2, ![16, 128]⟩
abbrev S272x128 : Shape := ⟨2, ![272, 128]⟩
abbrev S256x1 : Shape := ⟨2, ![256, 1]⟩
abbrev S1x128 : Shape := ⟨2, ![1, 128]⟩
abbrev S128 : Shape := ⟨1, ![128]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S4x128x128, .f32⟩
  | .hbm, ⟨3, _⟩ => ⟨S1x512, .f32⟩
  | .hbm, ⟨4, _⟩ => ⟨S8192x512, .bf16⟩
  | .hbm, ⟨5, _⟩ => ⟨S4x128x128, .f32⟩
  | .hbm, ⟨6, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S16x512, .f32⟩
  | .local _ .vmem, ⟨3, _⟩ => ⟨S16x512, .f32⟩
  | .local _ .vmem, ⟨4, _⟩ => ⟨S256x512, .f32⟩
  | .local _ .vmem, ⟨5, _⟩ => ⟨S256x512, .f32⟩
  | .local _ .vmem, ⟨6, _⟩ => ⟨S16x512, .f32⟩
  | .local _ .vmem, ⟨7, _⟩ => ⟨S16x512, .f32⟩
  | .local _ .vmem, ⟨8, _⟩ => ⟨S4x128x128, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | .local _ .vmem, ⟨12, _⟩ => ⟨S4x128x128, .f32⟩
  | .local _ .vmem, ⟨13, _⟩ => ⟨S1x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x2048 : Shape := ⟨2, ![8192, 2048]⟩
abbrev S8192x1024 : Shape := ⟨2, ![8192, 1024]⟩
abbrev S4x128x128 : Shape := ⟨3, ![4, 128, 128]⟩
abbrev S1x512 : Shape := ⟨2, ![1, 512]⟩
abbrev S8192x512 : Shape := ⟨2, ![8192, 512]⟩
abbrev S1x8192x512 : Shape := ⟨3, ![1, 8192, 512]⟩
abbrev S512 : Shape := ⟨1, ![512]⟩
abbrev S1x8192x4x128 : Shape := ⟨4, ![1, 8192, 4, 128]⟩
abbrev S8192 : Shape := ⟨1, ![8192]⟩
abbrev S1x8192x1x128 : Shape := ⟨4, ![1, 8192, 1, 128]⟩
abbrev S1x8192x128 : Shape := ⟨3, ![1, 8192, 128]⟩
abbrev S_ : Shape := ⟨0, ![]⟩
abbrev S1x2x128 : Shape := ⟨3, ![1, 2, 128]⟩
abbrev S1x8190x128 : Shape := ⟨3, ![1, 8190, 128]⟩
abbrev S1x8192x1 : Shape := ⟨3, ![1, 8192, 1]⟩
abbrev S1x128x128 : Shape := ⟨3, ![1, 128, 128]⟩
abbrev S128x128 : Shape := ⟨2, ![128, 128]⟩
abbrev S1x4x128 : Shape := ⟨3, ![1, 4, 128]⟩
abbrev S1x8188x128 : Shape := ⟨3, ![1, 8188, 128]⟩
abbrev S1x8x128 : Shape := ⟨3, ![1, 8, 128]⟩
abbrev S1x8184x128 : Shape := ⟨3, ![1, 8184, 128]⟩
abbrev S1x16x128 : Shape := ⟨3, ![1, 16, 128]⟩
abbrev S1x8176x128 : Shape := ⟨3, ![1, 8176, 128]⟩
abbrev S1x1x512 : Shape := ⟨3, ![1, 1, 512]⟩

abbrev nBuf : Space → Nat
  | .hbm => 229
  | .vmem => 0
  | .smem => 0
  | _ => 0

abbrev hbmTy0_0 (i : Nat) : BufTy := match i % 128 with
  | 0 => ⟨S8192x2048, .f32⟩
  | 1 => ⟨S8192x1024, .f32⟩
  | 2 => ⟨S4x128x128, .f32⟩
  | 3 => ⟨S1x512, .f32⟩
  | 4 => ⟨S8192x512, .f32⟩
  | 5 => ⟨S1x8192x512, .f32⟩
  | 6 => ⟨S8192x512, .f32⟩
  | 7 => ⟨S1x8192x512, .f32⟩
  | 8 => ⟨S512, .f32⟩
  | 9 => ⟨S1x8192x4x128, .f32⟩
  | 10 => ⟨S8192, .i32⟩
  | 11 => ⟨S1x8192x1x128, .f32⟩
  | 12 => ⟨S1x8192x128, .f32⟩
  | 13 => ⟨S_, .f32⟩
  | 14 => ⟨S_, .f32⟩
  | 15 => ⟨S1x8192x128, .f32⟩
  | 16 => ⟨S_, .f32⟩
  | 17 => ⟨S1x2x128, .f32⟩
  | 18 => ⟨S1x8190x128, .f32⟩
  | 19 => ⟨S1x8192x128, .f32⟩
  | 20 => ⟨S_, .f32⟩
  | 21 => ⟨S1x2x128, .f32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S8192, .f32⟩
  | 29 => ⟨S1x8192x1, .f32⟩
  | 30 => ⟨S1x8192x128, .f32⟩
  | 31 => ⟨S1x8192x128, .f32⟩
  | 32 => ⟨S1x8192x128, .f32⟩
  | 33 => ⟨S1x8192x128, .f32⟩
  | 34 => ⟨S1x128x128, .f32⟩
  | 35 => ⟨S128x128, .f32⟩
  | 36 => ⟨S1x8192x128, .f32⟩
  | 37 => ⟨S1x8192x1x128, .f32⟩
  | 38 => ⟨S1x8192x128, .f32⟩
  | 39 => ⟨S_, .f32⟩
  | 40 => ⟨S_, .f32⟩
  | 41 => ⟨S1x8192x128, .f32⟩
  | 42 => ⟨S_, .f32⟩
  | 43 => ⟨S1x4x128, .f32⟩
  | 44 => ⟨S1x8188x128, .f32⟩
  | 45 => ⟨S1x8192x128, .f32⟩
  | 46 => ⟨S_, .f32⟩
  | 47 => ⟨S1x4x128, .f32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .f32⟩
  | 55 => ⟨S1x8192x1, .f32⟩
  | 56 => ⟨S1x8192x128, .f32⟩
  | 57 => ⟨S1x8192x128, .f32⟩
  | 58 => ⟨S1x8192x128, .f32⟩
  | 59 => ⟨S1x8192x128, .f32⟩
  | 60 => ⟨S1x128x128, .f32⟩
  | 61 => ⟨S128x128, .f32⟩
  | 62 => ⟨S1x8192x128, .f32⟩
  | 63 => ⟨S1x8192x1x128, .f32⟩
  | 64 => ⟨S1x8192x128, .f32⟩
  | 65 => ⟨S_, .f32⟩
  | 66 => ⟨S_, .f32⟩
  | 67 => ⟨S1x8192x128, .f32⟩
  | 68 => ⟨S_, .f32⟩
  | 69 => ⟨S1x8x128, .f32⟩
  | 70 => ⟨S1x8184x128, .f32⟩
  | 71 => ⟨S1x8192x128, .f32⟩
  | 72 => ⟨S_, .f32⟩
  | 73 => ⟨S1x8x128, .f32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S8192, .f32⟩
  | 81 => ⟨S1x8192x1, .f32⟩
  | 82 => ⟨S1x8192x128, .f32⟩
  | 83 => ⟨S1x8192x128, .f32⟩
  | 84 => ⟨S1x8192x128, .f32⟩
  | 85 => ⟨S1x8192x128, .f32⟩
  | 86 => ⟨S1x128x128, .f32⟩
  | 87 => ⟨S128x128, .f32⟩
  | 88 => ⟨S1x8192x128, .f32⟩
  | 89 => ⟨S1x8192x1x128, .f32⟩
  | 90 => ⟨S1x8192x128, .f32⟩
  | 91 => ⟨S_, .f32⟩
  | 92 => ⟨S_, .f32⟩
  | 93 => ⟨S1x8192x128, .f32⟩
  | 94 => ⟨S_, .f32⟩
  | 95 => ⟨S1x16x128, .f32⟩
  | 96 => ⟨S1x8176x128, .f32⟩
  | 97 => ⟨S1x8192x128, .f32⟩
  | 98 => ⟨S_, .f32⟩
  | 99 => ⟨S1x16x128, .f32⟩
  | 100 => ⟨S_, .i32⟩
  | 101 => ⟨S8192, .i32⟩
  | 102 => ⟨S8192, .i32⟩
  | 103 => ⟨S_, .i32⟩
  | 104 => ⟨S8192, .i32⟩
  | 105 => ⟨S8192, .i32⟩
  | 106 => ⟨S8192, .f32⟩
  | 107 => ⟨S1x8192x1, .f32⟩
  | 108 => ⟨S1x8192x128, .f32⟩
  | 109 => ⟨S1x8192x128, .f32⟩
  | 110 => ⟨S1x8192x128, .f32⟩
  | 111 => ⟨S1x8192x128, .f32⟩
  | 112 => ⟨S1x128x128, .f32⟩
  | 113 => ⟨S128x128, .f32⟩
  | 114 => ⟨S1x8192x128, .f32⟩
  | 115 => ⟨S1x8192x512, .f32⟩
  | 116 => ⟨S1x1x512, .f32⟩
  | 117 => ⟨S1x8192x512, .f32⟩
  | 118 => ⟨S1x8192x512, .f32⟩
  | 119 => ⟨S1x8192x512, .f32⟩
  | 120 => ⟨S_, .f32⟩
  | 121 => ⟨S1x512, .f32⟩
  | 122 => ⟨S1x1x512, .f32⟩
  | 123 => ⟨S1x8192x512, .f32⟩
  | 124 => ⟨S1x8192x512, .f32⟩
  | 125 => ⟨S_, .f32⟩
  | 126 => ⟨S512, .f32⟩
  | 127 => ⟨S1x8192x128, .f32⟩
  | _ => ⟨S8192x2048, .f32⟩

abbrev hbmTy0_1 (i : Nat) : BufTy := match i % 128 with
  | 0 => ⟨S1x8192x128, .f32⟩
  | 1 => ⟨S1x8192x128, .f32⟩
  | 2 => ⟨S1x8192x128, .f32⟩
  | 3 => ⟨S128x128, .f32⟩
  | 4 => ⟨S128x128, .f32⟩
  | 5 => ⟨S1x8192x128, .f32⟩
  | 6 => ⟨S1x128x128, .f32⟩
  | 7 => ⟨S_, .f32⟩
  | 8 => ⟨S4x128x128, .f32⟩
  | 9 => ⟨S1x8192x128, .f32⟩
  | 10 => ⟨S1x8192x128, .f32⟩
  | 11 => ⟨S1x8192x128, .f32⟩
  | 12 => ⟨S1x8192x128, .f32⟩
  | 13 => ⟨S1x16x128, .f32⟩
  | 14 => ⟨S1x8176x128, .f32⟩
  | 15 => ⟨S_, .f32⟩
  | 16 => ⟨S1x8192x128, .f32⟩
  | 17 => ⟨S1x8192x128, .f32⟩
  | 18 => ⟨S_, .f32⟩
  | 19 => ⟨S_, .f32⟩
  | 20 => ⟨S1x8192x128, .f32⟩
  | 21 => ⟨S1x8192x128, .f32⟩
  | 22 => ⟨S1x8192x1x128, .f32⟩
  | 23 => ⟨S_, .f32⟩
  | 24 => ⟨S1x8192x4x128, .f32⟩
  | 25 => ⟨S128x128, .f32⟩
  | 26 => ⟨S128x128, .f32⟩
  | 27 => ⟨S1x8192x128, .f32⟩
  | 28 => ⟨S1x128x128, .f32⟩
  | 29 => ⟨S_, .f32⟩
  | 30 => ⟨S4x128x128, .f32⟩
  | 31 => ⟨S4x128x128, .f32⟩
  | 32 => ⟨S1x8192x128, .f32⟩
  | 33 => ⟨S1x8192x128, .f32⟩
  | 34 => ⟨S1x8192x128, .f32⟩
  | 35 => ⟨S1x8192x128, .f32⟩
  | 36 => ⟨S1x8x128, .f32⟩
  | 37 => ⟨S1x8184x128, .f32⟩
  | 38 => ⟨S_, .f32⟩
  | 39 => ⟨S1x8192x128, .f32⟩
  | 40 => ⟨S1x8192x128, .f32⟩
  | 41 => ⟨S_, .f32⟩
  | 42 => ⟨S_, .f32⟩
  | 43 => ⟨S1x8192x128, .f32⟩
  | 44 => ⟨S1x8192x128, .f32⟩
  | 45 => ⟨S1x8192x1x128, .f32⟩
  | 46 => ⟨S_, .f32⟩
  | 47 => ⟨S1x8192x4x128, .f32⟩
  | 48 => ⟨S1x8192x4x128, .f32⟩
  | 49 => ⟨S128x128, .f32⟩
  | 50 => ⟨S128x128, .f32⟩
  | 51 => ⟨S1x8192x128, .f32⟩
  | 52 => ⟨S1x128x128, .f32⟩
  | 53 => ⟨S_, .f32⟩
  | 54 => ⟨S4x128x128, .f32⟩
  | 55 => ⟨S4x128x128, .f32⟩
  | 56 => ⟨S1x8192x128, .f32⟩
  | 57 => ⟨S1x8192x128, .f32⟩
  | 58 => ⟨S1x8192x128, .f32⟩
  | 59 => ⟨S1x8192x128, .f32⟩
  | 60 => ⟨S1x4x128, .f32⟩
  | 61 => ⟨S1x8188x128, .f32⟩
  | 62 => ⟨S_, .f32⟩
  | 63 => ⟨S1x8192x128, .f32⟩
  | 64 => ⟨S1x8192x128, .f32⟩
  | 65 => ⟨S_, .f32⟩
  | 66 => ⟨S_, .f32⟩
  | 67 => ⟨S1x8192x128, .f32⟩
  | 68 => ⟨S1x8192x128, .f32⟩
  | 69 => ⟨S1x8192x1x128, .f32⟩
  | 70 => ⟨S_, .f32⟩
  | 71 => ⟨S1x8192x4x128, .f32⟩
  | 72 => ⟨S1x8192x4x128, .f32⟩
  | 73 => ⟨S128x128, .f32⟩
  | 74 => ⟨S128x128, .f32⟩
  | 75 => ⟨S1x8192x128, .f32⟩
  | 76 => ⟨S1x128x128, .f32⟩
  | 77 => ⟨S_, .f32⟩
  | 78 => ⟨S4x128x128, .f32⟩
  | 79 => ⟨S4x128x128, .f32⟩
  | 80 => ⟨S1x8192x128, .f32⟩
  | 81 => ⟨S1x8192x128, .f32⟩
  | 82 => ⟨S1x8192x128, .f32⟩
  | 83 => ⟨S1x8192x128, .f32⟩
  | 84 => ⟨S1x2x128, .f32⟩
  | 85 => ⟨S1x8190x128, .f32⟩
  | 86 => ⟨S_, .f32⟩
  | 87 => ⟨S1x8192x128, .f32⟩
  | 88 => ⟨S1x8192x128, .f32⟩
  | 89 => ⟨S_, .f32⟩
  | 90 => ⟨S_, .f32⟩
  | 91 => ⟨S1x8192x128, .f32⟩
  | 92 => ⟨S1x8192x128, .f32⟩
  | 93 => ⟨S1x8192x1x128, .f32⟩
  | 94 => ⟨S_, .f32⟩
  | 95 => ⟨S1x8192x4x128, .f32⟩
  | 96 => ⟨S1x8192x4x128, .f32⟩
  | 97 => ⟨S1x8192x512, .f32⟩
  | 98 => ⟨S8192x512, .f32⟩
  | 99 => ⟨S8192x512, .bf16⟩
  | 100 => ⟨S1x512, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_call0_cst : Ref sig .tc := ⟨.hbm, 13, rfl⟩
abbrev main_call0_call0_v0 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call1_call0_cst : Ref sig .tc := ⟨.hbm, 39, rfl⟩
abbrev main_call1_call0_v0 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call2_call0_cst : Ref sig .tc := ⟨.hbm, 65, rfl⟩
abbrev main_call2_call0_v0 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_c_8 : Ref sig .tc := ⟨.hbm, 74, rfl⟩
abbrev main_v54 : Ref sig .tc := ⟨.hbm, 75, rfl⟩
abbrev main_v55 : Ref sig .tc := ⟨.hbm, 76, rfl⟩
abbrev main_c_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call3_call0_cst : Ref sig .tc := ⟨.hbm, 91, rfl⟩
abbrev main_call3_call0_v0 : Ref sig .tc := ⟨.hbm, 92, rfl⟩
abbrev main_v69 : Ref sig .tc := ⟨.hbm, 93, rfl⟩
abbrev main_cst_10 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_11 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_14 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_15 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_16 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_17 : Ref sig .tc := ⟨.hbm, 143, rfl⟩
abbrev main_v112 : Ref sig .tc := ⟨.hbm, 144, rfl⟩
abbrev main_v113 : Ref sig .tc := ⟨.hbm, 145, rfl⟩
abbrev main_call4_call0_cst : Ref sig .tc := ⟨.hbm, 146, rfl⟩
abbrev main_call4_call0_v0 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_18 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_19 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_20 : Ref sig .tc := ⟨.hbm, 166, rfl⟩
abbrev main_v130 : Ref sig .tc := ⟨.hbm, 167, rfl⟩
abbrev main_v131 : Ref sig .tc := ⟨.hbm, 168, rfl⟩
abbrev main_call5_call0_cst : Ref sig .tc := ⟨.hbm, 169, rfl⟩
abbrev main_call5_call0_v0 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_21 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_22 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_23 : Ref sig .tc := ⟨.hbm, 190, rfl⟩
abbrev main_v149 : Ref sig .tc := ⟨.hbm, 191, rfl⟩
abbrev main_v150 : Ref sig .tc := ⟨.hbm, 192, rfl⟩
abbrev main_call6_call0_cst : Ref sig .tc := ⟨.hbm, 193, rfl⟩
abbrev main_call6_call0_v0 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_cst_24 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_25 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_cst_26 : Ref sig .tc := ⟨.hbm, 214, rfl⟩
abbrev main_v168 : Ref sig .tc := ⟨.hbm, 215, rfl⟩
abbrev main_v169 : Ref sig .tc := ⟨.hbm, 216, rfl⟩
abbrev main_call7_call0_cst : Ref sig .tc := ⟨.hbm, 217, rfl⟩
abbrev main_call7_call0_v0 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_cst_27 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩

abbrev nD : Nat := 1
abbrev τ : Topo := Topo.v7x

variable {F : FTy → Type} [FloatOps F]
-- ==== Kernel2.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S8x128 : Shape := ⟨2, ![8, 128]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x2816, .bf16⟩
  | .hbm, ⟨6, _⟩ => ⟨S2816x1024, .bf16⟩
  | .hbm, ⟨7, _⟩ => ⟨S8192x1024, .bf16⟩
  | .hbm, ⟨8, _⟩ => ⟨S8192x1024, .f32⟩
  | .hbm, ⟨9, _⟩ => ⟨S8x128, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | .local _ .vmem, ⟨13, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .bf16⟩
  | .hbm, ⟨73, _⟩ => ⟨S8x128, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S5632x1024 : Shape := ⟨2, ![5632, 1024]⟩
abbrev S512x2816 : Shape := ⟨2, ![512, 2816]⟩
abbrev S512x1024 : Shape := ⟨2, ![512, 1024]⟩
abbrev S256x2816 : Shape := ⟨2, ![256, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 32
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x5632, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x5632, .bf16⟩
  | .hbm, ⟨24, _⟩ => ⟨S8192x2816, .bf16⟩
  | .hbm, ⟨25, _⟩ => ⟨S8192x2816, .bf16⟩
  | .hbm, ⟨26, _⟩ => ⟨S5632x1024, .f32⟩
  | .hbm, ⟨27, _⟩ => ⟨S5632x1024, .bf16⟩
  | .hbm, ⟨28, _⟩ => ⟨S8192x1024, .f32⟩
  | .hbm, ⟨29, _⟩ => ⟨S1x1024, .f32⟩
  | .hbm, ⟨30, _⟩ => ⟨S8192x1024, .bf16⟩
  | .hbm, ⟨31, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x5632, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x5632, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S8192x512 : Shape := ⟨2, ![8192, 512]⟩
abbrev S2048x1024 : Shape := ⟨2, ![2048, 1024]⟩
abbrev S512x512 : Shape := ⟨2, ![512, 512]⟩
abbrev S512x1024 : Shape := ⟨2, ![512, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x2048, .f32⟩
  | .hbm, ⟨4, _⟩ => ⟨S8192x1024, .f32⟩
  | .hbm, ⟨5, _⟩ => ⟨S8192x2048, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S2048x1024, .f32⟩
  | .hbm, ⟨11, _⟩ => ⟨S2048x1024, .bf16⟩
  | .hbm, ⟨12, _⟩ => ⟨S8192x1024, .f32⟩
  | .hbm, ⟨13, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x2048, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel5.lean ====
abbrev S8192x1024 : Shape := ⟨2, ![8192, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S3x2816 : Shape := ⟨2, ![3, 2816]⟩
abbrev S1x2816 : Shape := ⟨2, ![1, 2816]⟩
abbrev S2048x256 : Shape := ⟨2, ![2048, 256]⟩
abbrev S16x256 : Shape := ⟨2, ![16, 256]⟩
abbrev S2048x1024 : Shape := ⟨2, ![2048, 1024]⟩
abbrev S16x1024 : Shape := ⟨2, ![16, 1024]⟩
abbrev S256x1024 : Shape := ⟨2, ![256, 1024]⟩
abbrev S3x256 : Shape := ⟨2, ![3, 256]⟩
abbrev S1x256 : Shape := ⟨2, ![1, 256]⟩
abbrev S512x1024 : Shape := ⟨2, ![512, 1024]⟩
abbrev S272x1024 : Shape := ⟨2, ![272, 1024]⟩
abbrev S272x256 : Shape := ⟨2, ![272, 256]⟩
abbrev S256x256 : Shape := ⟨2, ![256, 256]⟩
abbrev S256x512 : Shape := ⟨2, ![256, 512]⟩
abbrev S256 : Shape := ⟨1, ![256]⟩

abbrev nBuf : Space → Nat
  | .hbm => 53
  | .vmem => 44
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S2816x1024, .f32⟩
  | .hbm, ⟨5, _⟩ => ⟨S8192x1024, .f32⟩
  | .hbm, ⟨6, _⟩ => ⟨S8192x5632, .f32⟩
  | .hbm, ⟨7, _⟩ => ⟨S_, .f32⟩
  | .hbm, ⟨8, _⟩ => ⟨S2x5632, .f32⟩
  | .hbm, ⟨9, _⟩ => ⟨S8194x5632, .f32⟩
  | .hbm, ⟨10, _⟩ => ⟨S8192x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .bf16⟩
  | .hbm, ⟨36, _⟩ => ⟨S8192x5632, .bf16⟩
  | .hbm, ⟨37, _⟩ => ⟨S8192x2816, .bf16⟩
  | .hbm, ⟨38, _⟩ => ⟨S8192x2816, .bf16⟩
  | .hbm, ⟨39, _⟩ => ⟨S8192x2816, .bf16⟩
  | .hbm, ⟨40, _⟩ => ⟨S8192x2816, .bf16⟩
  | .hbm, ⟨41, _⟩ => ⟨S8192x1024, .bf16⟩
  | .hbm, ⟨42, _⟩ => ⟨S2816x1024, .bf16⟩
  | .hbm, ⟨43, _⟩ => ⟨S8192x1024, .bf16⟩
  | .hbm, ⟨44, _⟩ => ⟨S8192x2816, .bf16⟩
  | .hbm, ⟨45, _⟩ => ⟨S8192x2816, .bf16⟩
  | .hbm, ⟨46, _⟩ => ⟨S2816x1024, .bf16⟩
  | .hbm, ⟨47, _⟩ => ⟨S2816x1024, .bf16⟩
  | .hbm, ⟨48, _⟩ => ⟨S2816x1024, .bf16⟩
  | .hbm, ⟨49, _⟩ => ⟨S3x2816, .f32⟩
  | .hbm, ⟨50, _⟩ => ⟨S3x2816, .f32⟩
  | .hbm, ⟨51, _⟩ => ⟨S1x2816, .f32⟩
  | .hbm, ⟨52, _⟩ => ⟨S1x2816, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S16x256, .bf16⟩
  | .local _ .vmem, ⟨7, _⟩ => ⟨S16x256, .bf16⟩
  | .local _ .vmem, ⟨8, _⟩ => ⟨S2048x256, .bf16⟩
  | .local _ .vmem, ⟨9, _⟩ => ⟨S2048x256, .bf16⟩
  | .local _ .vmem, ⟨10, _⟩ => ⟨S16x256, .bf16⟩
  | .local _ .vmem, ⟨11, _⟩ => ⟨S16x256, .bf16⟩
  | .local _ .vmem, ⟨12, _⟩ => ⟨S2048x1024, .bf16⟩
  | .local _ .vmem, ⟨13, _⟩ => ⟨S2048x1024, .bf16⟩
  | .local _ .vmem, ⟨14, _⟩ => ⟨S16x1024, .bf16⟩
  | .local _ .vmem, ⟨15, _⟩ => ⟨S16x1024, .bf16⟩
  | .local _ .vmem, ⟨16, _⟩ => ⟨S256x1024, .bf16⟩
  | .local _ .vmem, ⟨17, _⟩ => ⟨S256x1024, .bf16⟩
  | .local _ .vmem, ⟨18, _⟩ => ⟨S2048x1024, .bf16⟩
  | .local _ .vmem, ⟨19, _⟩ => ⟨S2048x1024, .bf16⟩
  | .local _ .vmem, ⟨20, _⟩ => ⟨S3x256, .f32⟩
  | .local _ .vmem, ⟨21, _⟩ => ⟨S3x256, .f32⟩
  | .local _ .vmem, ⟨22, _⟩ => ⟨S3x256, .f32⟩
  | .local _ .vmem, ⟨23, _⟩ => ⟨S3x256, .f32⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S3x256, .f32⟩
  | .local _ .vmem, ⟨35, _⟩ => ⟨S3x256, .f32⟩
  | .local _ .vmem, ⟨36, _⟩ => ⟨S3x256, .f32⟩
  | .local _ .vmem, ⟨37, _⟩ => ⟨S3x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S512x1024, .f32⟩
  | .local _ .vmem, ⟨43, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36_0 : Ref sig .tc := ⟨.hbm, 44, rfl⟩
abbrev main_v36_1 : Ref sig .tc := ⟨.hbm, 45, rfl⟩
abbrev main_v36_2 : Ref sig .tc := ⟨.hbm, 46, rfl⟩
abbrev main_v36_3 : Ref sig .tc := ⟨.hbm, 47, rfl⟩
abbrev main_v36_4 : Ref sig .tc := ⟨.hbm, 48, rfl⟩
abbrev main_v36_5 : Ref sig .tc := ⟨.hbm, 49, rfl⟩
abbrev main_v36_6 : Ref sig .tc := ⟨.hbm, 50, rfl⟩
abbrev main_v36_7 : Ref sig .tc := ⟨.hbm, 51, rfl⟩
abbrev main_v36_8 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_scratch0 : Ref sig .tc := ⟨.vmem, 42, rfl⟩
abbrev cc0_scratch1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![11, 4], ![false, false]⟩

def k0_cond2 (i : grid0.Coords) : BitVec 1 :=
  let arg1 : BitVec 32 := BitVec.ofNat 32 (i 1).val
  let c3_i32_683 : BitVec 32 := 3#32
  let v1290 : BitVec 1 := Scalar.cmpi .eq arg1 c3_i32_683
  let v1291 : BitVec 32 := Scalar.extui v1290
  let c0_i32_684 : BitVec 32 := 0#32
  let v1292 : BitVec 1 := Scalar.cmpi .ne v1291 c0_i32_684
  v1292

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S3x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S3x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== Kernel5Ideal.lean ====
variable {F : FTy → Type} [FloatOps F] [Named F]
def κ : String → Option EReal := fun
  | "k01" => some ((80338380498831 / 2251799813685248 : ℝ) : EReal)
  | "k013" => some ((241015141496493 / 2251799813685248 : ℝ) : EReal)
  | _ => none
-- ==== Reference5Ideal.lean ====
abbrev S8192x1024 : Shape := ⟨2, ![8192, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S1024x2816 : Shape := ⟨2, ![1024, 2816]⟩
abbrev S5632x1024 : Shape := ⟨2, ![5632, 1024]⟩
abbrev S3x2816 : Shape := ⟨2, ![3, 2816]⟩
abbrev S1x2816 : Shape := ⟨2, ![1, 2816]⟩

abbrev nBuf : Space → Nat
  | .hbm => 158
  | .vmem => 0
  | .smem => 0
  | _ => 0

abbrev hbmTy0_0 (i : Nat) : BufTy := match i % 128 with
  | 0 => ⟨S8192x1024, .f32⟩
  | 1 => ⟨S1024x5632, .f32⟩
  | 2 => ⟨S3x5632, .f32⟩
  | 3 => ⟨S1x5632, .f32⟩
  | 4 => ⟨S2816x1024, .f32⟩
  | 5 => ⟨S8192x1024, .f32⟩
  | 6 => ⟨S8192x5632, .f32⟩
  | 7 => ⟨S_, .f32⟩
  | 8 => ⟨S2x5632, .f32⟩
  | 9 => ⟨S8194x5632, .f32⟩
  | 10 => ⟨S_, .f32⟩
  | 11 => ⟨S2x5632, .f32⟩
  | 12 => ⟨S8192x5632, .f32⟩
  | 13 => ⟨S1x5632, .f32⟩
  | 14 => ⟨S5632, .f32⟩
  | 15 => ⟨S1x5632, .f32⟩
  | 16 => ⟨S8192x5632, .f32⟩
  | 17 => ⟨S8192x5632, .f32⟩
  | 18 => ⟨S_, .f32⟩
  | 19 => ⟨S8192x5632, .f32⟩
  | 20 => ⟨S8192x5632, .f32⟩
  | 21 => ⟨S8192x5632, .f32⟩
  | 22 => ⟨S1x5632, .f32⟩
  | 23 => ⟨S5632, .f32⟩
  | 24 => ⟨S1x5632, .f32⟩
  | 25 => ⟨S8192x5632, .f32⟩
  | 26 => ⟨S8192x5632, .f32⟩
  | 27 => ⟨S8192x5632, .f32⟩
  | 28 => ⟨S8192x5632, .f32⟩
  | 29 => ⟨S1x5632, .f32⟩
  | 30 => ⟨S5632, .f32⟩
  | 31 => ⟨S1x5632, .f32⟩
  | 32 => ⟨S8192x5632, .f32⟩
  | 33 => ⟨S8192x5632, .f32⟩
  | 34 => ⟨S8192x5632, .f32⟩
  | 35 => ⟨S8192x5632, .f32⟩
  | 36 => ⟨S8192x5632, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S8192x2816, .f32⟩
  | 53 => ⟨S_, .f32⟩
  | 54 => ⟨S8192x2816, .f32⟩
  | 55 => ⟨S8192x2816, .f32⟩
  | 56 => ⟨S_, .f32⟩
  | 57 => ⟨S8192x2816, .f32⟩
  | 58 => ⟨S8192x2816, .f32⟩
  | 59 => ⟨S8192x2816, .f32⟩
  | 60 => ⟨S_, .f32⟩
  | 61 => ⟨S8192x2816, .f32⟩
  | 62 => ⟨S8192x2816, .f32⟩
  | 63 => ⟨S_, .f32⟩
  | 64 => ⟨S8192x2816, .f32⟩
  | 65 => ⟨S8192x2816, .f32⟩
  | 66 => ⟨S8192x2816, .f32⟩
  | 67 => ⟨S8192x2816, .f32⟩
  | 68 => ⟨S8192x1024, .f32⟩
  | 69 => ⟨S1024x2816, .f32⟩
  | 70 => ⟨S2816x1024, .f32⟩
  | 71 => ⟨S8192x2816, .f32⟩
  | 72 => ⟨S8192x2816, .f32⟩
  | 73 => ⟨S8192x2816, .f32⟩
  | 74 => ⟨S8192x2816, .f32⟩
  | 75 => ⟨S8192x2816, .f32⟩
  | 76 => ⟨S_, .f32⟩
  | 77 => ⟨S8192x2816, .f32⟩
  | 78 => ⟨S8192x2816, .f32⟩
  | 79 => ⟨S8192x2816, .f32⟩
  | 80 => ⟨S_, .f32⟩
  | 81 => ⟨S8192x2816, .f32⟩
  | 82 => ⟨S8192x2816, .f32⟩
  | 83 => ⟨S8192x2816, .f32⟩
  | 84 => ⟨S_, .f32⟩
  | 85 => ⟨S8192x2816, .f32⟩
  | 86 => ⟨S8192x2816, .f32⟩
  | 87 => ⟨S8192x2816, .f32⟩
  | 88 => ⟨S8192x2816, .f32⟩
  | 89 => ⟨S_, .f32⟩
  | 90 => ⟨S8192x5632, .f32⟩
  | 91 => ⟨S_, .f32⟩
  | 92 => ⟨S8192x5632, .f32⟩
  | 93 => ⟨S8192x5632, .f32⟩
  | 94 => ⟨S_, .f32⟩
  | 95 => ⟨S5632, .f32⟩
  | 96 => ⟨S1x5632, .f32⟩
  | 97 => ⟨S8192x5632, .f32⟩
  | 98 => ⟨S_, .f32⟩
  | 99 => ⟨S5632, .f32⟩
  | 100 => ⟨S1x5632, .f32⟩
  | 101 => ⟨S8192x5632, .f32⟩
  | 102 => ⟨S8192x5632, .f32⟩
  | 103 => ⟨S_, .f32⟩
  | 104 => ⟨S5632, .f32⟩
  | 105 => ⟨S1x5632, .f32⟩
  | 106 => ⟨S_, .f32⟩
  | 107 => ⟨S3x5632, .f32⟩
  | 108 => ⟨S_, .f32⟩
  | 109 => ⟨S8194x5632, .f32⟩
  | 110 => ⟨S8192x5632, .f32⟩
  | 111 => ⟨S_, .f32⟩
  | 112 => ⟨S5632, .f32⟩
  | 113 => ⟨S1x5632, .f32⟩
  | 114 => ⟨S8192x5632, .f32⟩
  | 115 => ⟨S8192x5632, .f32⟩
  | 116 => ⟨S_, .f32⟩
  | 117 => ⟨S5632, .f32⟩
  | 118 => ⟨S1x5632, .f32⟩
  | 119 => ⟨S_, .f32⟩
  | 120 => ⟨S3x5632, .f32⟩
  | 121 => ⟨S3x5632, .f32⟩
  | 122 => ⟨S_, .f32⟩
  | 123 => ⟨S8194x5632, .f32⟩
  | 124 => ⟨S8194x5632, .f32⟩
  | 125 => ⟨S8192x5632, .f32⟩
  | 126 => ⟨S_, .f32⟩
  | 127 => ⟨S5632, .f32⟩
  | _ => ⟨S8192x1024, .f32⟩

abbrev hbmTy0_1 (i : Nat) : BufTy := match i % 128 with
  | 0 => ⟨S1x5632, .f32⟩
  | 1 => ⟨S8192x5632, .f32⟩
  | 2 => ⟨S8192x5632, .f32⟩
  | 3 => ⟨S_, .f32⟩
  | 4 => ⟨S5632, .f32⟩
  | 5 => ⟨S1x5632, .f32⟩
  | 6 => ⟨S_, .f32⟩
  | 7 => ⟨S3x5632, .f32⟩
  | 8 => ⟨S3x5632, .f32⟩
  | 9 => ⟨S_, .f32⟩
  | 10 => ⟨S8194x5632, .f32⟩
  | 11 => ⟨S8194x5632, .f32⟩
  | 12 => ⟨S2x5632, .f32⟩
  | 13 => ⟨S8192x5632, .f32⟩
  | 14 => ⟨S5632x1024, .f32⟩
  | 15 => ⟨S1024x5632, .f32⟩
  | 16 => ⟨S5632x1024, .f32⟩
  | 17 => ⟨S8192x2816, .f32⟩
  | 18 => ⟨S8192x2816, .bf16⟩
  | 19 => ⟨S8192x2816, .f32⟩
  | 20 => ⟨S8192x2816, .bf16⟩
  | 21 => ⟨S2816x1024, .f32⟩
  | 22 => ⟨S2816x1024, .bf16⟩
  | 23 => ⟨S2816x1024, .f32⟩
  | 24 => ⟨S2816x1024, .bf16⟩
  | 25 => ⟨S2816x1024, .bf16⟩
  | 26 => ⟨S3x2816, .f32⟩
  | 27 => ⟨S3x2816, .f32⟩
  | 28 => ⟨S1x2816, .f32⟩
  | 29 => ⟨S1x2816, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_cst_13 : Ref sig .tc := ⟨.hbm, 91, rfl⟩
abbrev main_v71 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_cst_18 : Ref sig .tc := ⟨.hbm, 108, rfl⟩
abbrev main_v83 : Ref sig .tc := ⟨.hbm, 109, rfl⟩
abbrev main_v84 : Ref sig .tc := ⟨.hbm, 110, rfl⟩
abbrev main_cst_19 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_20 : Ref sig .tc := ⟨.hbm, 116, rfl⟩
abbrev main_v89 : Ref sig .tc := ⟨.hbm, 117, rfl⟩
abbrev main_v90 : Ref sig .tc := ⟨.hbm, 118, rfl⟩
abbrev main_cst_21 : Ref sig .tc := ⟨.hbm, 119, rfl⟩
abbrev main_v91 : Ref sig .tc := ⟨.hbm, 120, rfl⟩
abbrev main_v92 : Ref sig .tc := ⟨.hbm, 121, rfl⟩
abbrev main_cst_22 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_23 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_24 : Ref sig .tc := ⟨.hbm, 131, rfl⟩
abbrev main_v100 : Ref sig .tc := ⟨.hbm, 132, rfl⟩
abbrev main_v101 : Ref sig .tc := ⟨.hbm, 133, rfl⟩
abbrev main_cst_25 : Ref sig .tc := ⟨.hbm, 134, rfl⟩
abbrev main_v102 : Ref sig .tc := ⟨.hbm, 135, rfl⟩
abbrev main_v103 : Ref sig .tc := ⟨.hbm, 136, rfl⟩
abbrev main_cst_26 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩

abbrev nD : Nat := 1
abbrev τ : Topo := Topo.v7x

variable {F : FTy → Type} [FloatOps F]
-- ==== Kernel6.lean ====
abbrev S8192x2048 : Shape := ⟨2, ![8192, 2048]⟩
abbrev S8192x1024 : Shape := ⟨2, ![8192, 1024]⟩
abbrev S8192x1536 : Shape := ⟨2, ![8192, 1536]⟩
abbrev S8192x512 : Shape := ⟨2, ![8192, 512]⟩
abbrev S8192x8x64 : Shape := ⟨3, ![8192, 8, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8x8192x8192 : Shape := ⟨3, ![8, 8192, 8192]⟩
abbrev S8x8192 : Shape := ⟨2, ![8, 8192]⟩
abbrev S8x8192x1 : Shape := ⟨3, ![8, 8192, 1]⟩
abbrev S8x8192x64 : Shape := ⟨3, ![8, 8192, 64]⟩
abbrev S2048x128 : Shape := ⟨2, ![2048, 128]⟩
abbrev S1x128 : Shape := ⟨2, ![1, 128]⟩
abbrev S128x256 : Shape := ⟨2, ![128, 256]⟩
abbrev S256x256 : Shape := ⟨2, ![256, 256]⟩
abbrev S2048 : Shape := ⟨1, ![2048]⟩
abbrev S2048x1 : Shape := ⟨2, ![2048, 1]⟩
abbrev S128x128 : Shape := ⟨2, ![128, 128]⟩
abbrev S256x128 : Shape := ⟨2, ![256, 128]⟩
abbrev S512x128 : Shape := ⟨2, ![512, 128]⟩
abbrev S1920x128 : Shape := ⟨2, ![1920, 128]⟩
abbrev S1536x128 : Shape := ⟨2, ![1536, 128]⟩

abbrev nBuf : Space → Nat
  | .hbm => 169
  | .vmem => 43
  | .smem => 0
  | _ => 0

abbrev hbmTy0_0 (i : Nat) : BufTy := match i % 128 with
  | 0 => ⟨S8192x2048, .f32⟩
  | 1 => ⟨S8192x1024, .f32⟩
  | 2 => ⟨S8192x1536, .f32⟩
  | 3 => ⟨S8192x512, .f32⟩
  | 4 => ⟨S8192x512, .f32⟩
  | 5 => ⟨S8192x512, .f32⟩
  | 6 => ⟨S8192x8x64, .f32⟩
  | 7 => ⟨S8192x8x64, .f32⟩
  | 8 => ⟨S8192x8x64, .f32⟩
  | 9 => ⟨S8192, .i32⟩
  | 10 => ⟨S8192x1, .i32⟩
  | 11 => ⟨S1x8192, .i32⟩
  | 12 => ⟨S8192x8192, .i32⟩
  | 13 => ⟨S8192x8192, .i32⟩
  | 14 => ⟨S8192x8192, .i32⟩
  | 15 => ⟨S_, .i32⟩
  | 16 => ⟨S8192x8192, .i32⟩
  | 17 => ⟨S8192x8192, .i1⟩
  | 18 => ⟨S_, .i32⟩
  | 19 => ⟨S8192x8192, .i32⟩
  | 20 => ⟨S8192x8192, .i1⟩
  | 21 => ⟨S8192x8192, .i1⟩
  | 22 => ⟨S_, .i32⟩
  | 23 => ⟨S8192x8192, .i32⟩
  | 24 => ⟨S8192x8192, .i32⟩
  | 25 => ⟨S_, .i32⟩
  | 26 => ⟨S8192x8192, .i32⟩
  | 27 => ⟨S8192x8192, .i1⟩
  | 28 => ⟨S8192x8192, .i1⟩
  | 29 => ⟨S8x8192x8192, .f32⟩
  | 30 => ⟨S_, .f32⟩
  | 31 => ⟨S8x8192x8192, .f32⟩
  | 32 => ⟨S8x8192x8192, .f32⟩
  | 33 => ⟨S_, .f32⟩
  | 34 => ⟨S_, .f32⟩
  | 35 => ⟨S8x8192x8192, .i1⟩
  | 36 => ⟨S8x8192x8192, .f32⟩
  | 37 => ⟨S8x8192x8192, .f32⟩
  | 38 => ⟨S_, .f32⟩
  | 39 => ⟨S8x8192, .f32⟩
  | 40 => ⟨S8x8192x1, .f32⟩
  | 41 => ⟨S8x8192x8192, .f32⟩
  | 42 => ⟨S8x8192x8192, .f32⟩
  | 43 => ⟨S8x8192x8192, .f32⟩
  | 44 => ⟨S_, .f32⟩
  | 45 => ⟨S8x8192, .f32⟩
  | 46 => ⟨S8x8192x1, .f32⟩
  | 47 => ⟨S8x8192x64, .f32⟩
  | 48 => ⟨S8x8192x64, .f32⟩
  | 49 => ⟨S8x8192x64, .f32⟩
  | 50 => ⟨S8x8192x1, .f32⟩
  | 51 => ⟨S8x8192x1, .f32⟩
  | 52 => ⟨S8192, .i32⟩
  | 53 => ⟨S8192x1, .i32⟩
  | 54 => ⟨S1x8192, .i32⟩
  | 55 => ⟨S8192x8192, .i32⟩
  | 56 => ⟨S8192x8192, .i32⟩
  | 57 => ⟨S8192x8192, .i32⟩
  | 58 => ⟨S_, .i32⟩
  | 59 => ⟨S8192x8192, .i32⟩
  | 60 => ⟨S8192x8192, .i1⟩
  | 61 => ⟨S_, .i32⟩
  | 62 => ⟨S8192x8192, .i32⟩
  | 63 => ⟨S8192x8192, .i1⟩
  | 64 => ⟨S8192x8192, .i1⟩
  | 65 => ⟨S_, .i32⟩
  | 66 => ⟨S8192x8192, .i32⟩
  | 67 => ⟨S8192x8192, .i32⟩
  | 68 => ⟨S_, .i32⟩
  | 69 => ⟨S8192x8192, .i32⟩
  | 70 => ⟨S8192x8192, .i1⟩
  | 71 => ⟨S8192x8192, .i1⟩
  | 72 => ⟨S8x8192x8192, .f32⟩
  | 73 => ⟨S_, .f32⟩
  | 74 => ⟨S8x8192x8192, .f32⟩
  | 75 => ⟨S8x8192x8192, .f32⟩
  | 76 => ⟨S_, .f32⟩
  | 77 => ⟨S_, .f32⟩
  | 78 => ⟨S8x8192x8192, .i1⟩
  | 79 => ⟨S8x8192x8192, .f32⟩
  | 80 => ⟨S8x8192x8192, .f32⟩
  | 81 => ⟨S_, .f32⟩
  | 82 => ⟨S8x8192, .f32⟩
  | 83 => ⟨S8x8192x1, .f32⟩
  | 84 => ⟨S8x8192x8192, .f32⟩
  | 85 => ⟨S8x8192x8192, .f32⟩
  | 86 => ⟨S8x8192x8192, .f32⟩
  | 87 => ⟨S_, .f32⟩
  | 88 => ⟨S8x8192, .f32⟩
  | 89 => ⟨S8x8192x1, .f32⟩
  | 90 => ⟨S8x8192x64, .f32⟩
  | 91 => ⟨S8x8192x64, .f32⟩
  | 92 => ⟨S8x8192x64, .f32⟩
  | 93 => ⟨S8x8192x1, .f32⟩
  | 94 => ⟨S8x8192x1, .f32⟩
  | 95 => ⟨S8192, .i32⟩
  | 96 => ⟨S8192x1, .i32⟩
  | 97 => ⟨S1x8192, .i32⟩
  | 98 => ⟨S8192x8192, .i32⟩
  | 99 => ⟨S8192x8192, .i32⟩
  | 100 => ⟨S8192x8192, .i32⟩
  | 101 => ⟨S_, .i32⟩
  | 102 => ⟨S8192x8192, .i32⟩
  | 103 => ⟨S8192x8192, .i1⟩
  | 104 => ⟨S_, .i32⟩
  | 105 => ⟨S8192x8192, .i32⟩
  | 106 => ⟨S8192x8192, .i1⟩
  | 107 => ⟨S8192x8192, .i1⟩
  | 108 => ⟨S_, .i32⟩
  | 109 => ⟨S8192x8192, .i32⟩
  | 110 => ⟨S8192x8192, .i32⟩
  | 111 => ⟨S_, .i32⟩
  | 112 => ⟨S8192x8192, .i32⟩
  | 113 => ⟨S8192x8192, .i1⟩
  | 114 => ⟨S8192x8192, .i1⟩
  | 115 => ⟨S8x8192x8192, .f32⟩
  | 116 => ⟨S_, .f32⟩
  | 117 => ⟨S8x8192x8192, .f32⟩
  | 118 => ⟨S8x8192x8192, .f32⟩
  | 119 => ⟨S_, .f32⟩
  | 120 => ⟨S_, .f32⟩
  | 121 => ⟨S8x8192x8192, .i1⟩
  | 122 => ⟨S8x8192x8192, .f32⟩
  | 123 => ⟨S8x8192x8192, .f32⟩
  | 124 => ⟨S_, .f32⟩
  | 125 => ⟨S8x8192, .f32⟩
  | 126 => ⟨S8x8192x1, .f32⟩
  | 127 => ⟨S8x8192x8192, .f32⟩
  | _ => ⟨S8192x2048, .f32⟩

abbrev hbmTy0_1 (i : Nat) : BufTy := match i % 128 with
  | 0 => ⟨S8x8192x8192, .f32⟩
  | 1 => ⟨S8x8192x8192, .f32⟩
  | 2 => ⟨S_, .f32⟩
  | 3 => ⟨S8x8192, .f32⟩
  | 4 => ⟨S8x8192x1, .f32⟩
  | 5 => ⟨S8x8192x64, .f32⟩
  | 6 => ⟨S8x8192x64, .f32⟩
  | 7 => ⟨S8x8192x64, .f32⟩
  | 8 => ⟨S8x8192x1, .f32⟩
  | 9 => ⟨S8x8192x1, .f32⟩
  | 10 => ⟨S8x8192x1, .f32⟩
  | 11 => ⟨S8x8192x1, .f32⟩
  | 12 => ⟨S8x8192x1, .f32⟩
  | 13 => ⟨S8x8192x1, .f32⟩
  | 14 => ⟨S8x8192x1, .f32⟩
  | 15 => ⟨S8x8192x1, .f32⟩
  | 16 => ⟨S8x8192x1, .f32⟩
  | 17 => ⟨S8x8192x1, .f32⟩
  | 18 => ⟨S8x8192x1, .f32⟩
  | 19 => ⟨S8x8192x1, .f32⟩
  | 20 => ⟨S8x8192x1, .f32⟩
  | 21 => ⟨S8x8192x64, .f32⟩
  | 22 => ⟨S8x8192x64, .f32⟩
  | 23 => ⟨S8x8192x1, .f32⟩
  | 24 => ⟨S8x8192x64, .f32⟩
  | 25 => ⟨S8x8192x64, .f32⟩
  | 26 => ⟨S8x8192x64, .f32⟩
  | 27 => ⟨S8x8192x1, .f32⟩
  | 28 => ⟨S8x8192x64, .f32⟩
  | 29 => ⟨S8x8192x64, .f32⟩
  | 30 => ⟨S8x8192x64, .f32⟩
  | 31 => ⟨S8192x8x64, .f32⟩
  | 32 => ⟨S8192x512, .f32⟩
  | 33 => ⟨S8x8192x1, .f32⟩
  | 34 => ⟨S8x8192x1, .f32⟩
  | 35 => ⟨S8x8192x64, .f32⟩
  | 36 => ⟨S8192x8x64, .f32⟩
  | 37 => ⟨S8192x512, .f32⟩
  | 38 => ⟨S8192x512, .bf16⟩
  | 39 => ⟨S8192x512, .bf16⟩
  | 40 => ⟨S8192x512, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S2048x128, .f32⟩
  | .local _ .vmem, ⟨41, _⟩ => ⟨S2048x128, .f32⟩
  | .local _ .vmem, ⟨42, _⟩ => ⟨S2048x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_v18 : Ref sig .tc := ⟨.hbm, 23, rfl⟩
abbrev main_v19 : Ref sig .tc := ⟨.hbm, 24, rfl⟩
abbrev main_c_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_6 : Ref sig .tc := ⟨.hbm, 58, rfl⟩
abbrev main_v45 : Ref sig .tc := ⟨.hbm, 59, rfl⟩
abbrev main_v46 : Ref sig .tc := ⟨.hbm, 60, rfl⟩
abbrev main_c_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_c_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_14 : Ref sig .tc := ⟨.hbm, 101, rfl⟩
abbrev main_v77 : Ref sig .tc := ⟨.hbm, 102, rfl⟩
abbrev main_v78 : Ref sig .tc := ⟨.hbm, 103, rfl⟩
abbrev main_c_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_16 : Ref sig .tc := ⟨.hbm, 108, rfl⟩
abbrev main_v82 : Ref sig .tc := ⟨.hbm, 109, rfl⟩
abbrev main_v83 : Ref sig .tc := ⟨.hbm, 110, rfl⟩
abbrev main_c_17 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_18 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_v90 : Ref sig .tc := ⟨.hbm, 123, rfl⟩
abbrev main_cst_20 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_21 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131_0 : Ref sig .tc := ⟨.hbm, 166, rfl⟩
abbrev main_v131_1 : Ref sig .tc := ⟨.hbm, 167, rfl⟩
abbrev main_v131_2 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_scratch13 : Ref sig .tc := ⟨.vmem, 35, rfl⟩
abbrev cc0_scratch14 : Ref sig .tc := ⟨.vmem, 36, rfl⟩
abbrev cc0_scratch15 : Ref sig .tc := ⟨.vmem, 37, rfl⟩
abbrev cc0_scratch16 : Ref sig .tc := ⟨.vmem, 38, rfl⟩
abbrev cc0_scratch17 : Ref sig .tc := ⟨.vmem, 39, rfl⟩
abbrev cc0_scratch18 : Ref sig .tc := ⟨.vmem, 40, rfl⟩
abbrev cc0_scratch19 : Ref sig .tc := ⟨.vmem, 41, rfl⟩
abbrev cc0_scratch20 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 5], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .eq arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c4_i32 : BitVec 32 := 4#32
  let v1 : BitVec 32 := Scalar.addi c4_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c8_i32 : BitVec 32 := 8#32
  let v1 : BitVec 32 := Scalar.addi c8_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S8192x2048 : Shape := ⟨2, ![8192, 2048]⟩
abbrev S8192x1024 : Shape := ⟨2, ![8192, 1024]⟩
abbrev S8192x1536 : Shape := ⟨2, ![8192, 1536]⟩
abbrev S8192x512 : Shape := ⟨2, ![8192, 512]⟩
abbrev S8192x8x64 : Shape := ⟨3, ![8192, 8, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8x8192x8192 : Shape := ⟨3, ![8, 8192, 8192]⟩
abbrev S8x8192 : Shape := ⟨2, ![8, 8192]⟩
abbrev S8x8192x1 : Shape := ⟨3, ![8, 8192, 1]⟩
abbrev S8x8192x64 : Shape := ⟨3, ![8, 8192, 64]⟩
abbrev S8x64x8192 : Shape := ⟨3, ![8, 64, 8192]⟩

abbrev nBuf : Space → Nat
  | .hbm => 431
  | .vmem => 0
  | .smem => 0
  | _ => 0

abbrev hbmTy0_0 (i : Nat) : BufTy := match i % 128 with
  | 0 => ⟨S8192x2048, .f32⟩
  | 1 => ⟨S8192x1024, .f32⟩
  | 2 => ⟨S8192x1536, .f32⟩
  | 3 => ⟨S8192x512, .f32⟩
  | 4 => ⟨S8192x512, .f32⟩
  | 5 => ⟨S8192x512, .f32⟩
  | 6 => ⟨S8192x8x64, .f32⟩
  | 7 => ⟨S8192x8x64, .f32⟩
  | 8 => ⟨S8192x8x64, .f32⟩
  | 9 => ⟨S8192, .i32⟩
  | 10 => ⟨S8192x1, .i32⟩
  | 11 => ⟨S1x8192, .i32⟩
  | 12 => ⟨S8192x8192, .i32⟩
  | 13 => ⟨S8192x8192, .i32⟩
  | 14 => ⟨S8192x8192, .i32⟩
  | 15 => ⟨S_, .i32⟩
  | 16 => ⟨S8192x8192, .i32⟩
  | 17 => ⟨S8192x8192, .i1⟩
  | 18 => ⟨S_, .i32⟩
  | 19 => ⟨S8192x8192, .i32⟩
  | 20 => ⟨S8192x8192, .i1⟩
  | 21 => ⟨S8192x8192, .i1⟩
  | 22 => ⟨S_, .i32⟩
  | 23 => ⟨S8192x8192, .i32⟩
  | 24 => ⟨S8192x8192, .i32⟩
  | 25 => ⟨S_, .i32⟩
  | 26 => ⟨S8192x8192, .i32⟩
  | 27 => ⟨S8192x8192, .i1⟩
  | 28 => ⟨S8192x8192, .i1⟩
  | 29 => ⟨S8x8192x8192, .f32⟩
  | 30 => ⟨S_, .f32⟩
  | 31 => ⟨S8x8192x8192, .f32⟩
  | 32 => ⟨S8x8192x8192, .f32⟩
  | 33 => ⟨S_, .f32⟩
  | 34 => ⟨S_, .f32⟩
  | 35 => ⟨S8x8192x8192, .i1⟩
  | 36 => ⟨S8x8192x8192, .f32⟩
  | 37 => ⟨S8x8192x8192, .f32⟩
  | 38 => ⟨S_, .f32⟩
  | 39 => ⟨S8x8192x8192, .f32⟩
  | 40 => ⟨S_, .f32⟩
  | 41 => ⟨S8x8192, .f32⟩
  | 42 => ⟨S8x8192x1, .f32⟩
  | 43 => ⟨S8x8192x8192, .f32⟩
  | 44 => ⟨S8x8192x8192, .i1⟩
  | 45 => ⟨S8x8192x8192, .f32⟩
  | 46 => ⟨S_, .f32⟩
  | 47 => ⟨S8x8192, .f32⟩
  | 48 => ⟨S8x8192x1, .f32⟩
  | 49 => ⟨S8x8192x8192, .f32⟩
  | 50 => ⟨S8x8192x8192, .f32⟩
  | 51 => ⟨S8x8192x8192, .f32⟩
  | 52 => ⟨S_, .f32⟩
  | 53 => ⟨S8x8192, .f32⟩
  | 54 => ⟨S8x8192x1, .f32⟩
  | 55 => ⟨S8x8192x64, .f32⟩
  | 56 => ⟨S8x8192x64, .f32⟩
  | 57 => ⟨S8x8192x64, .f32⟩
  | 58 => ⟨S8x8192x1, .f32⟩
  | 59 => ⟨S_, .f32⟩
  | 60 => ⟨S8x8192x1, .f32⟩
  | 61 => ⟨S8x8192x1, .f32⟩
  | 62 => ⟨S8x8192x1, .f32⟩
  | 63 => ⟨S8x8192x1, .f32⟩
  | 64 => ⟨S8192, .i32⟩
  | 65 => ⟨S8192x1, .i32⟩
  | 66 => ⟨S1x8192, .i32⟩
  | 67 => ⟨S8192x8192, .i32⟩
  | 68 => ⟨S8192x8192, .i32⟩
  | 69 => ⟨S8192x8192, .i32⟩
  | 70 => ⟨S_, .i32⟩
  | 71 => ⟨S8192x8192, .i32⟩
  | 72 => ⟨S8192x8192, .i1⟩
  | 73 => ⟨S_, .i32⟩
  | 74 => ⟨S8192x8192, .i32⟩
  | 75 => ⟨S8192x8192, .i1⟩
  | 76 => ⟨S8192x8192, .i1⟩
  | 77 => ⟨S_, .i32⟩
  | 78 => ⟨S8192x8192, .i32⟩
  | 79 => ⟨S8192x8192, .i32⟩
  | 80 => ⟨S_, .i32⟩
  | 81 => ⟨S8192x8192, .i32⟩
  | 82 => ⟨S8192x8192, .i1⟩
  | 83 => ⟨S8192x8192, .i1⟩
  | 84 => ⟨S8x8192x8192, .f32⟩
  | 85 => ⟨S_, .f32⟩
  | 86 => ⟨S8x8192x8192, .f32⟩
  | 87 => ⟨S8x8192x8192, .f32⟩
  | 88 => ⟨S_, .f32⟩
  | 89 => ⟨S_, .f32⟩
  | 90 => ⟨S8x8192x8192, .i1⟩
  | 91 => ⟨S8x8192x8192, .f32⟩
  | 92 => ⟨S8x8192x8192, .f32⟩
  | 93 => ⟨S_, .f32⟩
  | 94 => ⟨S8x8192x8192, .f32⟩
  | 95 => ⟨S_, .f32⟩
  | 96 => ⟨S8x8192, .f32⟩
  | 97 => ⟨S8x8192x1, .f32⟩
  | 98 => ⟨S8x8192x8192, .f32⟩
  | 99 => ⟨S8x8192x8192, .i1⟩
  | 100 => ⟨S8x8192x8192, .f32⟩
  | 101 => ⟨S_, .f32⟩
  | 102 => ⟨S8x8192, .f32⟩
  | 103 => ⟨S8x8192x1, .f32⟩
  | 104 => ⟨S8x8192x8192, .f32⟩
  | 105 => ⟨S8x8192x8192, .f32⟩
  | 106 => ⟨S8x8192x8192, .f32⟩
  | 107 => ⟨S_, .f32⟩
  | 108 => ⟨S8x8192, .f32⟩
  | 109 => ⟨S8x8192x1, .f32⟩
  | 110 => ⟨S8x8192x64, .f32⟩
  | 111 => ⟨S8x8192x64, .f32⟩
  | 112 => ⟨S8x8192x64, .f32⟩
  | 113 => ⟨S8x8192x1, .f32⟩
  | 114 => ⟨S_, .f32⟩
  | 115 => ⟨S8x8192x1, .f32⟩
  | 116 => ⟨S8x8192x1, .f32⟩
  | 117 => ⟨S8x8192x1, .f32⟩
  | 118 => ⟨S8x8192x1, .f32⟩
  | 119 => ⟨S8192, .i32⟩
  | 120 => ⟨S8192x1, .i32⟩
  | 121 => ⟨S1x8192, .i32⟩
  | 122 => ⟨S8192x8192, .i32⟩
  | 123 => ⟨S8192x8192, .i32⟩
  | 124 => ⟨S8192x8192, .i32⟩
  | 125 => ⟨S_, .i32⟩
  | 126 => ⟨S8192x8192, .i32⟩
  | 127 => ⟨S8192x8192, .i1⟩
  | _ => ⟨S8192x2048, .f32⟩

abbrev hbmTy0_1 (i : Nat) : BufTy := match i % 128 with
  | 0 => ⟨S_, .i32⟩
  | 1 => ⟨S8192x8192, .i32⟩
  | 2 => ⟨S8192x8192, .i1⟩
  | 3 => ⟨S8192x8192, .i1⟩
  | 4 => ⟨S_, .i32⟩
  | 5 => ⟨S8192x8192, .i32⟩
  | 6 => ⟨S8192x8192, .i32⟩
  | 7 => ⟨S_, .i32⟩
  | 8 => ⟨S8192x8192, .i32⟩
  | 9 => ⟨S8192x8192, .i1⟩
  | 10 => ⟨S8192x8192, .i1⟩
  | 11 => ⟨S8x8192x8192, .f32⟩
  | 12 => ⟨S_, .f32⟩
  | 13 => ⟨S8x8192x8192, .f32⟩
  | 14 => ⟨S8x8192x8192, .f32⟩
  | 15 => ⟨S_, .f32⟩
  | 16 => ⟨S_, .f32⟩
  | 17 => ⟨S8x8192x8192, .i1⟩
  | 18 => ⟨S8x8192x8192, .f32⟩
  | 19 => ⟨S8x8192x8192, .f32⟩
  | 20 => ⟨S_, .f32⟩
  | 21 => ⟨S8x8192x8192, .f32⟩
  | 22 => ⟨S_, .f32⟩
  | 23 => ⟨S8x8192, .f32⟩
  | 24 => ⟨S8x8192x1, .f32⟩
  | 25 => ⟨S8x8192x8192, .f32⟩
  | 26 => ⟨S8x8192x8192, .i1⟩
  | 27 => ⟨S8x8192x8192, .f32⟩
  | 28 => ⟨S_, .f32⟩
  | 29 => ⟨S8x8192, .f32⟩
  | 30 => ⟨S8x8192x1, .f32⟩
  | 31 => ⟨S8x8192x8192, .f32⟩
  | 32 => ⟨S8x8192x8192, .f32⟩
  | 33 => ⟨S8x8192x8192, .f32⟩
  | 34 => ⟨S_, .f32⟩
  | 35 => ⟨S8x8192, .f32⟩
  | 36 => ⟨S8x8192x1, .f32⟩
  | 37 => ⟨S8x8192x64, .f32⟩
  | 38 => ⟨S8x8192x64, .f32⟩
  | 39 => ⟨S8x8192x64, .f32⟩
  | 40 => ⟨S8x8192x1, .f32⟩
  | 41 => ⟨S_, .f32⟩
  | 42 => ⟨S8x8192x1, .f32⟩
  | 43 => ⟨S8x8192x1, .f32⟩
  | 44 => ⟨S8x8192x1, .f32⟩
  | 45 => ⟨S8x8192x1, .f32⟩
  | 46 => ⟨S8x8192x1, .f32⟩
  | 47 => ⟨S8x8192x1, .i1⟩
  | 48 => ⟨S8x8192x1, .i1⟩
  | 49 => ⟨S_, .f32⟩
  | 50 => ⟨S8x8192x1, .f32⟩
  | 51 => ⟨S_, .f32⟩
  | 52 => ⟨S8x8192x1, .f32⟩
  | 53 => ⟨S_, .f32⟩
  | 54 => ⟨S8x8192x1, .f32⟩
  | 55 => ⟨S8x8192x1, .f32⟩
  | 56 => ⟨S8x8192x1, .f32⟩
  | 57 => ⟨S8x8192x1, .i1⟩
  | 58 => ⟨S8x8192x1, .i1⟩
  | 59 => ⟨S_, .f32⟩
  | 60 => ⟨S8x8192x1, .f32⟩
  | 61 => ⟨S_, .f32⟩
  | 62 => ⟨S8x8192x1, .f32⟩
  | 63 => ⟨S_, .f32⟩
  | 64 => ⟨S8x8192x1, .f32⟩
  | 65 => ⟨S8x8192x1, .f32⟩
  | 66 => ⟨S8x8192x1, .f32⟩
  | 67 => ⟨S8x8192x1, .f32⟩
  | 68 => ⟨S8x8192x1, .i1⟩
  | 69 => ⟨S8x8192x1, .i1⟩
  | 70 => ⟨S_, .f32⟩
  | 71 => ⟨S8x8192x1, .f32⟩
  | 72 => ⟨S_, .f32⟩
  | 73 => ⟨S8x8192x1, .f32⟩
  | 74 => ⟨S_, .f32⟩
  | 75 => ⟨S8x8192x1, .f32⟩
  | 76 => ⟨S8x8192x1, .f32⟩
  | 77 => ⟨S8x8192x1, .f32⟩
  | 78 => ⟨S8x8192x1, .i1⟩
  | 79 => ⟨S8x8192x1, .i1⟩
  | 80 => ⟨S_, .f32⟩
  | 81 => ⟨S8x8192x1, .f32⟩
  | 82 => ⟨S_, .f32⟩
  | 83 => ⟨S8x8192x1, .f32⟩
  | 84 => ⟨S_, .f32⟩
  | 85 => ⟨S8x8192x1, .f32⟩
  | 86 => ⟨S8x8192x1, .f32⟩
  | 87 => ⟨S8x8192x1, .f32⟩
  | 88 => ⟨S8x8192x1, .f32⟩
  | 89 => ⟨S8x8192x1, .f32⟩
  | 90 => ⟨S8x8192x1, .f32⟩
  | 91 => ⟨S8x8192x1, .f32⟩
  | 92 => ⟨S8x8192x1, .f32⟩
  | 93 => ⟨S8x8192x1, .f32⟩
  | 94 => ⟨S8x8192x1, .f32⟩
  | 95 => ⟨S8x8192x1, .f32⟩
  | 96 => ⟨S8x8192x1, .f32⟩
  | 97 => ⟨S8x8192x1, .f32⟩
  | 98 => ⟨S_, .f32⟩
  | 99 => ⟨S8x8192x1, .f32⟩
  | 100 => ⟨S8x8192x1, .f32⟩
  | 101 => ⟨S8x8192x64, .f32⟩
  | 102 => ⟨S8x8192x64, .f32⟩
  | 103 => ⟨S8x8192x1, .f32⟩
  | 104 => ⟨S8x8192x1, .f32⟩
  | 105 => ⟨S_, .f32⟩
  | 106 => ⟨S8x8192x1, .f32⟩
  | 107 => ⟨S8x8192x1, .f32⟩
  | 108 => ⟨S8x8192x64, .f32⟩
  | 109 => ⟨S8x8192x64, .f32⟩
  | 110 => ⟨S8x8192x64, .f32⟩
  | 111 => ⟨S8x8192x1, .f32⟩
  | 112 => ⟨S8x8192x1, .f32⟩
  | 113 => ⟨S_, .f32⟩
  | 114 => ⟨S8x8192x1, .f32⟩
  | 115 => ⟨S8x8192x1, .f32⟩
  | 116 => ⟨S8x8192x64, .f32⟩
  | 117 => ⟨S8x8192x64, .f32⟩
  | 118 => ⟨S8x8192x64, .f32⟩
  | 119 => ⟨S8192x8x64, .f32⟩
  | 120 => ⟨S8192x512, .f32⟩
  | 121 => ⟨S8x8192x1, .f32⟩
  | 122 => ⟨S8x8192x1, .f32⟩
  | 123 => ⟨S8x8192x64, .f32⟩
  | 124 => ⟨S8192x8x64, .f32⟩
  | 125 => ⟨S8192x512, .f32⟩
  | 126 => ⟨S8192x512, .f32⟩
  | 127 => ⟨S8192x8x64, .f32⟩
  | _ => ⟨S8192x2048, .f32⟩

abbrev hbmTy0_2 (i : Nat) : BufTy := match i % 128 with
  | 0 => ⟨S8x8192x64, .f32⟩
  | 1 => ⟨S8x8192x64, .f32⟩
  | 2 => ⟨S8x8192x64, .f32⟩
  | 3 => ⟨S8x8192x64, .f32⟩
  | 4 => ⟨S_, .f32⟩
  | 5 => ⟨S8x8192, .f32⟩
  | 6 => ⟨S8x8192x1, .f32⟩
  | 7 => ⟨S8x8192x1, .f32⟩
  | 8 => ⟨S8x8192x1, .f32⟩
  | 9 => ⟨S8x8192x1, .f32⟩
  | 10 => ⟨S8x8192x1, .f32⟩
  | 11 => ⟨S8x8192x64, .f32⟩
  | 12 => ⟨S8x8192x64, .f32⟩
  | 13 => ⟨S8x8192x64, .f32⟩
  | 14 => ⟨S_, .f32⟩
  | 15 => ⟨S8x8192, .f32⟩
  | 16 => ⟨S8x8192x1, .f32⟩
  | 17 => ⟨S8x8192x1, .f32⟩
  | 18 => ⟨S8x8192x1, .f32⟩
  | 19 => ⟨S8x8192x1, .f32⟩
  | 20 => ⟨S8x8192x1, .f32⟩
  | 21 => ⟨S8x8192x1, .f32⟩
  | 22 => ⟨S8x8192x64, .f32⟩
  | 23 => ⟨S8x8192x64, .f32⟩
  | 24 => ⟨S8x8192x64, .f32⟩
  | 25 => ⟨S_, .f32⟩
  | 26 => ⟨S8x8192, .f32⟩
  | 27 => ⟨S8x8192x1, .f32⟩
  | 28 => ⟨S8x8192x1, .f32⟩
  | 29 => ⟨S8x8192x1, .f32⟩
  | 30 => ⟨S8x8192x1, .f32⟩
  | 31 => ⟨S8x8192x1, .f32⟩
  | 32 => ⟨S8x8192x1, .f32⟩
  | 33 => ⟨S8x8192x1, .f32⟩
  | 34 => ⟨S8x8192x1, .f32⟩
  | 35 => ⟨S8x8192x1, .f32⟩
  | 36 => ⟨S8x8192x1, .f32⟩
  | 37 => ⟨S8x8192x1, .f32⟩
  | 38 => ⟨S8x8192x1, .f32⟩
  | 39 => ⟨S8x8192x1, .f32⟩
  | 40 => ⟨S8x8192x64, .f32⟩
  | 41 => ⟨S8x8192x64, .f32⟩
  | 42 => ⟨S8x8192x64, .f32⟩
  | 43 => ⟨S_, .f32⟩
  | 44 => ⟨S8x8192, .f32⟩
  | 45 => ⟨S8x8192x1, .f32⟩
  | 46 => ⟨S8x8192x1, .f32⟩
  | 47 => ⟨S8x8192x1, .f32⟩
  | 48 => ⟨S8x8192x64, .f32⟩
  | 49 => ⟨S8x8192x64, .f32⟩
  | 50 => ⟨S8x64x8192, .f32⟩
  | 51 => ⟨S8192x8x64, .f32⟩
  | 52 => ⟨S8x8192x8192, .f32⟩
  | 53 => ⟨S_, .f32⟩
  | 54 => ⟨S8x8192, .f32⟩
  | 55 => ⟨S8x8192x8192, .f32⟩
  | 56 => ⟨S8x8192x8192, .f32⟩
  | 57 => ⟨S8x8192x8192, .f32⟩
  | 58 => ⟨S8x8192x8192, .f32⟩
  | 59 => ⟨S_, .f32⟩
  | 60 => ⟨S8x8192, .f32⟩
  | 61 => ⟨S8x8192x1, .f32⟩
  | 62 => ⟨S8x8192x1, .f32⟩
  | 63 => ⟨S_, .f32⟩
  | 64 => ⟨S8x8192, .f32⟩
  | 65 => ⟨S8x8192, .f32⟩
  | 66 => ⟨S8x8192x8192, .f32⟩
  | 67 => ⟨S8x8192x8192, .f32⟩
  | 68 => ⟨S8x8192x8192, .f32⟩
  | 69 => ⟨S_, .f32⟩
  | 70 => ⟨S8x8192x8192, .f32⟩
  | 71 => ⟨S8x8192x8192, .f32⟩
  | 72 => ⟨S_, .f32⟩
  | 73 => ⟨S8x8192x8192, .f32⟩
  | 74 => ⟨S8x8192x8192, .f32⟩
  | 75 => ⟨S8x8192x64, .f32⟩
  | 76 => ⟨S8192x8x64, .f32⟩
  | 77 => ⟨S8x8192x64, .f32⟩
  | 78 => ⟨S8192x8x64, .f32⟩
  | 79 => ⟨S8x8192x1, .f32⟩
  | 80 => ⟨S8x8192x64, .f32⟩
  | 81 => ⟨S8x8192x64, .f32⟩
  | 82 => ⟨S8x8192x64, .f32⟩
  | 83 => ⟨S_, .f32⟩
  | 84 => ⟨S8x8192, .f32⟩
  | 85 => ⟨S8x8192x1, .f32⟩
  | 86 => ⟨S8x8192x1, .f32⟩
  | 87 => ⟨S8x8192x1, .f32⟩
  | 88 => ⟨S8x8192x64, .f32⟩
  | 89 => ⟨S8x8192x64, .f32⟩
  | 90 => ⟨S8x64x8192, .f32⟩
  | 91 => ⟨S8192x8x64, .f32⟩
  | 92 => ⟨S8192x8x64, .f32⟩
  | 93 => ⟨S8x8192x8192, .f32⟩
  | 94 => ⟨S_, .f32⟩
  | 95 => ⟨S8x8192, .f32⟩
  | 96 => ⟨S8x8192x8192, .f32⟩
  | 97 => ⟨S8x8192x8192, .f32⟩
  | 98 => ⟨S8x8192x8192, .f32⟩
  | 99 => ⟨S8x8192x8192, .f32⟩
  | 100 => ⟨S_, .f32⟩
  | 101 => ⟨S8x8192, .f32⟩
  | 102 => ⟨S8x8192x1, .f32⟩
  | 103 => ⟨S8x8192x1, .f32⟩
  | 104 => ⟨S_, .f32⟩
  | 105 => ⟨S8x8192, .f32⟩
  | 106 => ⟨S8x8192, .f32⟩
  | 107 => ⟨S8x8192x8192, .f32⟩
  | 108 => ⟨S8x8192x8192, .f32⟩
  | 109 => ⟨S8x8192x8192, .f32⟩
  | 110 => ⟨S_, .f32⟩
  | 111 => ⟨S8x8192x8192, .f32⟩
  | 112 => ⟨S8x8192x8192, .f32⟩
  | 113 => ⟨S_, .f32⟩
  | 114 => ⟨S8x8192x8192, .f32⟩
  | 115 => ⟨S8x8192x8192, .f32⟩
  | 116 => ⟨S8x8192x64, .f32⟩
  | 117 => ⟨S8192x8x64, .f32⟩
  | 118 => ⟨S8192x8x64, .f32⟩
  | 119 => ⟨S8x8192x64, .f32⟩
  | 120 => ⟨S8192x8x64, .f32⟩
  | 121 => ⟨S8192x8x64, .f32⟩
  | 122 => ⟨S8x8192x1, .f32⟩
  | 123 => ⟨S8x8192x64, .f32⟩
  | 124 => ⟨S8x8192x64, .f32⟩
  | 125 => ⟨S8x8192x64, .f32⟩
  | 126 => ⟨S_, .f32⟩
  | 127 => ⟨S8x8192, .f32⟩
  | _ => ⟨S8192x2048, .f32⟩

abbrev hbmTy0_3 (i : Nat) : BufTy := match i % 128 with
  | 0 => ⟨S8x8192x1, .f32⟩
  | 1 => ⟨S8x8192x1, .f32⟩
  | 2 => ⟨S8x8192x1, .f32⟩
  | 3 => ⟨S8x8192x64, .f32⟩
  | 4 => ⟨S8x8192x64, .f32⟩
  | 5 => ⟨S8x64x8192, .f32⟩
  | 6 => ⟨S8192x8x64, .f32⟩
  | 7 => ⟨S8192x8x64, .f32⟩
  | 8 => ⟨S8x8192x8192, .f32⟩
  | 9 => ⟨S_, .f32⟩
  | 10 => ⟨S8x8192, .f32⟩
  | 11 => ⟨S8x8192x8192, .f32⟩
  | 12 => ⟨S8x8192x8192, .f32⟩
  | 13 => ⟨S8x8192x8192, .f32⟩
  | 14 => ⟨S8x8192x8192, .f32⟩
  | 15 => ⟨S_, .f32⟩
  | 16 => ⟨S8x8192, .f32⟩
  | 17 => ⟨S8x8192x1, .f32⟩
  | 18 => ⟨S8x8192x1, .f32⟩
  | 19 => ⟨S_, .f32⟩
  | 20 => ⟨S8x8192, .f32⟩
  | 21 => ⟨S8x8192, .f32⟩
  | 22 => ⟨S8x8192x8192, .f32⟩
  | 23 => ⟨S8x8192x8192, .f32⟩
  | 24 => ⟨S8x8192x8192, .f32⟩
  | 25 => ⟨S_, .f32⟩
  | 26 => ⟨S8x8192x8192, .f32⟩
  | 27 => ⟨S8x8192x8192, .f32⟩
  | 28 => ⟨S_, .f32⟩
  | 29 => ⟨S8x8192x8192, .f32⟩
  | 30 => ⟨S8x8192x8192, .f32⟩
  | 31 => ⟨S8x8192x64, .f32⟩
  | 32 => ⟨S8192x8x64, .f32⟩
  | 33 => ⟨S8192x8x64, .f32⟩
  | 34 => ⟨S8x8192x64, .f32⟩
  | 35 => ⟨S8192x8x64, .f32⟩
  | 36 => ⟨S8192x8x64, .f32⟩
  | 37 => ⟨S8192x512, .f32⟩
  | 38 => ⟨S8192x512, .f32⟩
  | 39 => ⟨S8192x512, .f32⟩
  | 40 => ⟨S8192x1536, .f32⟩
  | 41 => ⟨S8192x512, .f32⟩
  | 42 => ⟨S8192x512, .f32⟩
  | 43 => ⟨S8192x512, .f32⟩
  | 44 => ⟨S8192x512, .bf16⟩
  | 45 => ⟨S8192x512, .bf16⟩
  | 46 => ⟨S8192x512, .bf16⟩
  | _ => ⟨S8192x2048, .f32⟩

abbrev hbmTy (i : Nat) : BufTy := match i / 128 with
  | 0 => hbmTy0_0 i
  | 1 => hbmTy0_1 i
  | 2 => hbmTy0_2 i
  | 3 => hbmTy0_3 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_v18 : Ref sig .tc := ⟨.hbm, 23, rfl⟩
abbrev main_v19 : Ref sig .tc := ⟨.hbm, 24, rfl⟩
abbrev main_c_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_call0_v0 : Ref sig .tc := ⟨.hbm, 34, rfl⟩
abbrev main_v26_1 : Ref sig .tc := ⟨.hbm, 35, rfl⟩
abbrev main_call0_v2 : Ref sig .tc := ⟨.hbm, 36, rfl⟩
abbrev main_v26_0 : Ref sig .tc := ⟨.hbm, 37, rfl⟩
abbrev main_call0_cst : Ref sig .tc := ⟨.hbm, 38, rfl⟩
abbrev main_v26_2 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_8 : Ref sig .tc := ⟨.hbm, 70, rfl⟩
abbrev main_v53 : Ref sig .tc := ⟨.hbm, 71, rfl⟩
abbrev main_v54 : Ref sig .tc := ⟨.hbm, 72, rfl⟩
abbrev main_c_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_10 : Ref sig .tc := ⟨.hbm, 77, rfl⟩
abbrev main_v58 : Ref sig .tc := ⟨.hbm, 78, rfl⟩
abbrev main_v59 : Ref sig .tc := ⟨.hbm, 79, rfl⟩
abbrev main_c_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_call1_v0 : Ref sig .tc := ⟨.hbm, 89, rfl⟩
abbrev main_v66_1 : Ref sig .tc := ⟨.hbm, 90, rfl⟩
abbrev main_call1_v2 : Ref sig .tc := ⟨.hbm, 91, rfl⟩
abbrev main_v66_0 : Ref sig .tc := ⟨.hbm, 92, rfl⟩
abbrev main_call1_cst : Ref sig .tc := ⟨.hbm, 93, rfl⟩
abbrev main_v66_2 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_16 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_18 : Ref sig .tc := ⟨.hbm, 125, rfl⟩
abbrev main_v93 : Ref sig .tc := ⟨.hbm, 126, rfl⟩
abbrev main_v94 : Ref sig .tc := ⟨.hbm, 127, rfl⟩
abbrev main_c_19 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_20 : Ref sig .tc := ⟨.hbm, 132, rfl⟩
abbrev main_v98 : Ref sig .tc := ⟨.hbm, 133, rfl⟩
abbrev main_v99 : Ref sig .tc := ⟨.hbm, 134, rfl⟩
abbrev main_c_21 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_22 : Ref sig .tc := ⟨.hbm, 140, rfl⟩
abbrev main_v104 : Ref sig .tc := ⟨.hbm, 141, rfl⟩
abbrev main_v105 : Ref sig .tc := ⟨.hbm, 142, rfl⟩
abbrev main_cst_23 : Ref sig .tc := ⟨.hbm, 143, rfl⟩
abbrev main_call2_v0 : Ref sig .tc := ⟨.hbm, 144, rfl⟩
abbrev main_v106_1 : Ref sig .tc := ⟨.hbm, 145, rfl⟩
abbrev main_call2_v2 : Ref sig .tc := ⟨.hbm, 146, rfl⟩
abbrev main_v106_0 : Ref sig .tc := ⟨.hbm, 147, rfl⟩
abbrev main_call2_cst : Ref sig .tc := ⟨.hbm, 148, rfl⟩
abbrev main_v106_2 : Ref sig .tc := ⟨.hbm, 149, rfl⟩
abbrev main_cst_24 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_25 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_26 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_27 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_28 : Ref sig .tc := ⟨.hbm, 177, rfl⟩
abbrev main_v130 : Ref sig .tc := ⟨.hbm, 178, rfl⟩
abbrev main_cst_29 : Ref sig .tc := ⟨.hbm, 179, rfl⟩
abbrev main_v131 : Ref sig .tc := ⟨.hbm, 180, rfl⟩
abbrev main_cst_30 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_31 : Ref sig .tc := ⟨.hbm, 187, rfl⟩
abbrev main_v137 : Ref sig .tc := ⟨.hbm, 188, rfl⟩
abbrev main_cst_32 : Ref sig .tc := ⟨.hbm, 189, rfl⟩
abbrev main_v138 : Ref sig .tc := ⟨.hbm, 190, rfl⟩
abbrev main_cst_33 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_34 : Ref sig .tc := ⟨.hbm, 198, rfl⟩
abbrev main_v145 : Ref sig .tc := ⟨.hbm, 199, rfl⟩
abbrev main_cst_35 : Ref sig .tc := ⟨.hbm, 200, rfl⟩
abbrev main_v146 : Ref sig .tc := ⟨.hbm, 201, rfl⟩
abbrev main_cst_36 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_cst_37 : Ref sig .tc := ⟨.hbm, 208, rfl⟩
abbrev main_v152 : Ref sig .tc := ⟨.hbm, 209, rfl⟩
abbrev main_cst_38 : Ref sig .tc := ⟨.hbm, 210, rfl⟩
abbrev main_v153 : Ref sig .tc := ⟨.hbm, 211, rfl⟩
abbrev main_cst_39 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_cst_40 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_cst_41 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_cst_42 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_cst_43 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_cst_44 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_cst_45 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_cst_46 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_cst_47 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_cst_48 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_cst_49 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_call3_cst : Ref sig .tc := ⟨.hbm, 325, rfl⟩
abbrev main_call3_v0 : Ref sig .tc := ⟨.hbm, 326, rfl⟩
abbrev main_v256 : Ref sig .tc := ⟨.hbm, 327, rfl⟩
abbrev main_cst_50 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_cst_51 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_cst_52 : Ref sig .tc := ⟨.hbm, 350, rfl⟩
abbrev main_v277 : Ref sig .tc := ⟨.hbm, 351, rfl⟩
abbrev main_v278 : Ref sig .tc := ⟨.hbm, 352, rfl⟩
abbrev main_v279 : Ref sig .tc := ⟨.hbm, 353, rfl⟩
abbrev main_v280 : Ref sig .tc := ⟨.hbm, 354, rfl⟩
abbrev main_v281 : Ref sig .tc := ⟨.hbm, 355, rfl⟩
abbrev main_cst_53 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_cst_54 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_call4_cst : Ref sig .tc := ⟨.hbm, 366, rfl⟩
abbrev main_call4_v0 : Ref sig .tc := ⟨.hbm, 367, rfl⟩
abbrev main_v290 : Ref sig .tc := ⟨.hbm, 368, rfl⟩
abbrev main_cst_55 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_v299 : Ref sig .tc := ⟨.hbm, 378, rfl⟩
abbrev main_v300 : Ref sig .tc := ⟨.hbm, 379, rfl⟩
abbrev main_v301 : Ref sig .tc := ⟨.hbm, 380, rfl⟩
abbrev main_v302 : Ref sig .tc := ⟨.hbm, 381, rfl⟩
abbrev main_cst_56 : Ref sig .tc := ⟨.hbm, 382, rfl⟩
abbrev main_v303 : Ref sig .tc := ⟨.hbm, 383, rfl⟩
abbrev main_v304 : Ref sig .tc := ⟨.hbm, 384, rfl⟩
abbrev main_v305 : Ref sig .tc := ⟨.hbm, 385, rfl⟩
abbrev main_v306 : Ref sig .tc := ⟨.hbm, 386, rfl⟩
abbrev main_v307 : Ref sig .tc := ⟨.hbm, 387, rfl⟩
abbrev main_v308 : Ref sig .tc := ⟨.hbm, 388, rfl⟩
abbrev main_v309 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_cst_57 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_v317 : Ref sig .tc := ⟨.hbm, 398, rfl⟩
abbrev main_cst_58 : Ref sig .tc := ⟨.hbm, 399, rfl⟩
abbrev main_v318 : Ref sig .tc := ⟨.hbm, 400, rfl⟩
abbrev main_v319 : Ref sig .tc := ⟨.hbm, 401, rfl⟩
abbrev main_v320 : Ref sig .tc := ⟨.hbm, 402, rfl⟩
abbrev main_cst_59 : Ref sig .tc := ⟨.hbm, 403, rfl⟩
abbrev main_v321 : Ref sig .tc := ⟨.hbm, 404, rfl⟩
abbrev main_v322 : Ref sig .tc := ⟨.hbm, 405, rfl⟩
abbrev main_v323 : Ref sig .tc := ⟨.hbm, 406, rfl⟩
abbrev main_v324 : Ref sig .tc := ⟨.hbm, 407, rfl⟩
abbrev main_v325 : Ref sig .tc := ⟨.hbm, 408, rfl⟩
abbrev main_call5_cst : Ref sig .tc := ⟨.hbm, 409, rfl⟩
abbrev main_call5_v0 : Ref sig .tc := ⟨.hbm, 410, rfl⟩
abbrev main_v326 : Ref sig .tc := ⟨.hbm, 411, rfl⟩
abbrev main_cst_60 : Ref sig .tc := ⟨.hbm, 412, rfl⟩
abbrev main_v327 : Ref sig .tc := ⟨.hbm, 413, rfl⟩
abbrev main_v328 : Ref sig .tc := ⟨.hbm, 414, rfl⟩
abbrev main_v329 : Ref sig .tc := ⟨.hbm, 415, rfl⟩
abbrev main_v330 : Ref sig .tc := ⟨.hbm, 416, rfl⟩
abbrev main_v331 : Ref sig .tc := ⟨.hbm, 417, rfl⟩
abbrev main_v332 : Ref sig .tc := ⟨.hbm, 418, rfl⟩
abbrev main_v333 : Ref sig .tc := ⟨.hbm, 419, rfl⟩
abbrev main_v334 : Ref sig .tc := ⟨.hbm, 420, rfl⟩
abbrev main_v335 : Ref sig .tc := ⟨.hbm, 421, rfl⟩
abbrev main_v336 : Ref sig .tc := ⟨.hbm, 422, rfl⟩
abbrev main_v337 : Ref sig .tc := ⟨.hbm, 423, rfl⟩
abbrev main_v338 : Ref sig .tc := ⟨.hbm, 424, rfl⟩
abbrev main_v339 : Ref sig .tc := ⟨.hbm, 425, rfl⟩
abbrev main_v340 : Ref sig .tc := ⟨.hbm, 426, rfl⟩
abbrev main_v341 : Ref sig .tc := ⟨.hbm, 427, rfl⟩
abbrev main_v342 : Ref sig .tc := ⟨.hbm, 428, rfl⟩
abbrev main_v343 : Ref sig .tc := ⟨.hbm, 429, rfl⟩
abbrev main_v344 : Ref sig .tc := ⟨.hbm, 430, rfl⟩

abbrev nD : Nat := 1
abbrev τ : Topo := Topo.v7x

variable {F : FTy → Type} [FloatOps F]
-- ==== Kernel7.lean ====
abbrev S8192x2048 : Shape := ⟨2, ![8192, 2048]⟩
abbrev S8192x512 : Shape := ⟨2, ![8192, 512]⟩
abbrev S2048x128 : Shape := ⟨2, ![2048, 128]⟩
abbrev S1x128 : Shape := ⟨2, ![1, 128]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S128x1 : Shape := ⟨2, ![128, 1]⟩

abbrev nBuf : Space → Nat
  | .hbm => 4
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S8192x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c4_i32 : BitVec 32 := 4#32
  let v1 : BitVec 32 := Scalar.addi c4_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c8_i32 : BitVec 32 := 8#32
  let v1 : BitVec 32 := Scalar.addi c8_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel7Ideal.lean ====
variable {F : FTy → Type} [FloatOps F] [Named F]
def κ : String → Option EReal := fun
  | "mask" => some ⊥
  | _ => none
-- ==== Reference7Ideal.lean ====
abbrev S8192x2048 : Shape := ⟨2, ![8192, 2048]⟩
abbrev S8192x1536 : Shape := ⟨2, ![8192, 1536]⟩
abbrev S8192x512 : Shape := ⟨2, ![8192, 512]⟩
abbrev S8192x8x64 : Shape := ⟨3, ![8192, 8, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8x8192x8192 : Shape := ⟨3, ![8, 8192, 8192]⟩
abbrev S8x8192 : Shape := ⟨2, ![8, 8192]⟩
abbrev S8x8192x1 : Shape := ⟨3, ![8, 8192, 1]⟩
abbrev S8x8192x64 : Shape := ⟨3, ![8, 8192, 64]⟩

abbrev nBuf : Space → Nat
  | .hbm => 163
  | .vmem => 0
  | .smem => 0
  | _ => 0

abbrev hbmTy0_0 (i : Nat) : BufTy := match i % 128 with
  | 0 => ⟨S8192x2048, .f32⟩
  | 1 => ⟨S8192x1536, .f32⟩
  | 2 => ⟨S8192x512, .f32⟩
  | 3 => ⟨S8192x512, .f32⟩
  | 4 => ⟨S8192x512, .f32⟩
  | 5 => ⟨S8192x8x64, .f32⟩
  | 6 => ⟨S8192x8x64, .f32⟩
  | 7 => ⟨S8192x8x64, .f32⟩
  | 8 => ⟨S8192, .i32⟩
  | 9 => ⟨S8192x1, .i32⟩
  | 10 => ⟨S1x8192, .i32⟩
  | 11 => ⟨S8192x8192, .i32⟩
  | 12 => ⟨S8192x8192, .i32⟩
  | 13 => ⟨S8192x8192, .i32⟩
  | 14 => ⟨S_, .i32⟩
  | 15 => ⟨S8192x8192, .i32⟩
  | 16 => ⟨S8192x8192, .i1⟩
  | 17 => ⟨S_, .i32⟩
  | 18 => ⟨S8192x8192, .i32⟩
  | 19 => ⟨S8192x8192, .i1⟩
  | 20 => ⟨S8192x8192, .i1⟩
  | 21 => ⟨S_, .i32⟩
  | 22 => ⟨S8192x8192, .i32⟩
  | 23 => ⟨S8192x8192, .i32⟩
  | 24 => ⟨S_, .i32⟩
  | 25 => ⟨S8192x8192, .i32⟩
  | 26 => ⟨S8192x8192, .i1⟩
  | 27 => ⟨S8192x8192, .i1⟩
  | 28 => ⟨S8x8192x8192, .f32⟩
  | 29 => ⟨S_, .f32⟩
  | 30 => ⟨S8x8192x8192, .f32⟩
  | 31 => ⟨S8x8192x8192, .f32⟩
  | 32 => ⟨S8x8192x8192, .i1⟩
  | 33 => ⟨S_, .f32⟩
  | 34 => ⟨S8x8192x8192, .f32⟩
  | 35 => ⟨S8x8192x8192, .f32⟩
  | 36 => ⟨S_, .f32⟩
  | 37 => ⟨S8x8192, .f32⟩
  | 38 => ⟨S8x8192x1, .f32⟩
  | 39 => ⟨S8x8192x8192, .f32⟩
  | 40 => ⟨S8x8192x8192, .f32⟩
  | 41 => ⟨S8x8192x8192, .f32⟩
  | 42 => ⟨S_, .f32⟩
  | 43 => ⟨S8x8192, .f32⟩
  | 44 => ⟨S8x8192x1, .f32⟩
  | 45 => ⟨S8x8192x64, .f32⟩
  | 46 => ⟨S8x8192x64, .f32⟩
  | 47 => ⟨S8x8192x64, .f32⟩
  | 48 => ⟨S8x8192x1, .f32⟩
  | 49 => ⟨S8x8192x1, .f32⟩
  | 50 => ⟨S8192, .i32⟩
  | 51 => ⟨S8192x1, .i32⟩
  | 52 => ⟨S1x8192, .i32⟩
  | 53 => ⟨S8192x8192, .i32⟩
  | 54 => ⟨S8192x8192, .i32⟩
  | 55 => ⟨S8192x8192, .i32⟩
  | 56 => ⟨S_, .i32⟩
  | 57 => ⟨S8192x8192, .i32⟩
  | 58 => ⟨S8192x8192, .i1⟩
  | 59 => ⟨S_, .i32⟩
  | 60 => ⟨S8192x8192, .i32⟩
  | 61 => ⟨S8192x8192, .i1⟩
  | 62 => ⟨S8192x8192, .i1⟩
  | 63 => ⟨S_, .i32⟩
  | 64 => ⟨S8192x8192, .i32⟩
  | 65 => ⟨S8192x8192, .i32⟩
  | 66 => ⟨S_, .i32⟩
  | 67 => ⟨S8192x8192, .i32⟩
  | 68 => ⟨S8192x8192, .i1⟩
  | 69 => ⟨S8192x8192, .i1⟩
  | 70 => ⟨S8x8192x8192, .f32⟩
  | 71 => ⟨S_, .f32⟩
  | 72 => ⟨S8x8192x8192, .f32⟩
  | 73 => ⟨S8x8192x8192, .f32⟩
  | 74 => ⟨S8x8192x8192, .i1⟩
  | 75 => ⟨S_, .f32⟩
  | 76 => ⟨S8x8192x8192, .f32⟩
  | 77 => ⟨S8x8192x8192, .f32⟩
  | 78 => ⟨S_, .f32⟩
  | 79 => ⟨S8x8192, .f32⟩
  | 80 => ⟨S8x8192x1, .f32⟩
  | 81 => ⟨S8x8192x8192, .f32⟩
  | 82 => ⟨S8x8192x8192, .f32⟩
  | 83 => ⟨S8x8192x8192, .f32⟩
  | 84 => ⟨S_, .f32⟩
  | 85 => ⟨S8x8192, .f32⟩
  | 86 => ⟨S8x8192x1, .f32⟩
  | 87 => ⟨S8x8192x64, .f32⟩
  | 88 => ⟨S8x8192x64, .f32⟩
  | 89 => ⟨S8x8192x64, .f32⟩
  | 90 => ⟨S8x8192x1, .f32⟩
  | 91 => ⟨S8x8192x1, .f32⟩
  | 92 => ⟨S8192, .i32⟩
  | 93 => ⟨S8192x1, .i32⟩
  | 94 => ⟨S1x8192, .i32⟩
  | 95 => ⟨S8192x8192, .i32⟩
  | 96 => ⟨S8192x8192, .i32⟩
  | 97 => ⟨S8192x8192, .i32⟩
  | 98 => ⟨S_, .i32⟩
  | 99 => ⟨S8192x8192, .i32⟩
  | 100 => ⟨S8192x8192, .i1⟩
  | 101 => ⟨S_, .i32⟩
  | 102 => ⟨S8192x8192, .i32⟩
  | 103 => ⟨S8192x8192, .i1⟩
  | 104 => ⟨S8192x8192, .i1⟩
  | 105 => ⟨S_, .i32⟩
  | 106 => ⟨S8192x8192, .i32⟩
  | 107 => ⟨S8192x8192, .i32⟩
  | 108 => ⟨S_, .i32⟩
  | 109 => ⟨S8192x8192, .i32⟩
  | 110 => ⟨S8192x8192, .i1⟩
  | 111 => ⟨S8192x8192, .i1⟩
  | 112 => ⟨S8x8192x8192, .f32⟩
  | 113 => ⟨S_, .f32⟩
  | 114 => ⟨S8x8192x8192, .f32⟩
  | 115 => ⟨S8x8192x8192, .f32⟩
  | 116 => ⟨S8x8192x8192, .i1⟩
  | 117 => ⟨S_, .f32⟩
  | 118 => ⟨S8x8192x8192, .f32⟩
  | 119 => ⟨S8x8192x8192, .f32⟩
  | 120 => ⟨S_, .f32⟩
  | 121 => ⟨S8x8192, .f32⟩
  | 122 => ⟨S8x8192x1, .f32⟩
  | 123 => ⟨S8x8192x8192, .f32⟩
  | 124 => ⟨S8x8192x8192, .f32⟩
  | 125 => ⟨S8x8192x8192, .f32⟩
  | 126 => ⟨S_, .f32⟩
  | 127 => ⟨S8x8192, .f32⟩
  | _ => ⟨S8192x2048, .f32⟩

abbrev hbmTy0_1 (i : Nat) : BufTy := match i % 128 with
  | 0 => ⟨S8x8192x1, .f32⟩
  | 1 => ⟨S8x8192x64, .f32⟩
  | 2 => ⟨S8x8192x64, .f32⟩
  | 3 => ⟨S8x8192x64, .f32⟩
  | 4 => ⟨S8x8192x1, .f32⟩
  | 5 => ⟨S8x8192x1, .f32⟩
  | 6 => ⟨S8x8192x1, .f32⟩
  | 7 => ⟨S8x8192x1, .f32⟩
  | 8 => ⟨S8x8192x1, .f32⟩
  | 9 => ⟨S8x8192x1, .f32⟩
  | 10 => ⟨S8x8192x1, .f32⟩
  | 11 => ⟨S8x8192x1, .f32⟩
  | 12 => ⟨S8x8192x1, .f32⟩
  | 13 => ⟨S8x8192x1, .f32⟩
  | 14 => ⟨S8x8192x1, .f32⟩
  | 15 => ⟨S8x8192x1, .f32⟩
  | 16 => ⟨S8x8192x1, .f32⟩
  | 17 => ⟨S8x8192x64, .f32⟩
  | 18 => ⟨S8x8192x64, .f32⟩
  | 19 => ⟨S8x8192x1, .f32⟩
  | 20 => ⟨S8x8192x64, .f32⟩
  | 21 => ⟨S8x8192x64, .f32⟩
  | 22 => ⟨S8x8192x64, .f32⟩
  | 23 => ⟨S8x8192x1, .f32⟩
  | 24 => ⟨S8x8192x64, .f32⟩
  | 25 => ⟨S8x8192x64, .f32⟩
  | 26 => ⟨S8x8192x64, .f32⟩
  | 27 => ⟨S8192x8x64, .f32⟩
  | 28 => ⟨S8192x512, .f32⟩
  | 29 => ⟨S8x8192x1, .f32⟩
  | 30 => ⟨S8x8192x1, .f32⟩
  | 31 => ⟨S8x8192x64, .f32⟩
  | 32 => ⟨S8192x8x64, .f32⟩
  | 33 => ⟨S8192x512, .f32⟩
  | 34 => ⟨S8192x512, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_c : Ref sig .tc := ⟨.hbm, 14, rfl⟩
abbrev main_v13 : Ref sig .tc := ⟨.hbm, 15, rfl⟩
abbrev main_v14 : Ref sig .tc := ⟨.hbm, 16, rfl⟩
abbrev main_c_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_1 : Ref sig .tc := ⟨.hbm, 21, rfl⟩
abbrev main_v18 : Ref sig .tc := ⟨.hbm, 22, rfl⟩
abbrev main_v19 : Ref sig .tc := ⟨.hbm, 23, rfl⟩
abbrev main_c_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_6 : Ref sig .tc := ⟨.hbm, 56, rfl⟩
abbrev main_v47 : Ref sig .tc := ⟨.hbm, 57, rfl⟩
abbrev main_v48 : Ref sig .tc := ⟨.hbm, 58, rfl⟩
abbrev main_c_7 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_8 : Ref sig .tc := ⟨.hbm, 63, rfl⟩
abbrev main_v52 : Ref sig .tc := ⟨.hbm, 64, rfl⟩
abbrev main_v53 : Ref sig .tc := ⟨.hbm, 65, rfl⟩
abbrev main_c_9 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_10 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_11 : Ref sig .tc := ⟨.hbm, 75, rfl⟩
abbrev main_v61 : Ref sig .tc := ⟨.hbm, 76, rfl⟩
abbrev main_v62 : Ref sig .tc := ⟨.hbm, 77, rfl⟩
abbrev main_cst_12 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_13 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_c_14 : Ref sig .tc := ⟨.hbm, 98, rfl⟩
abbrev main_v81 : Ref sig .tc := ⟨.hbm, 99, rfl⟩
abbrev main_v82 : Ref sig .tc := ⟨.hbm, 100, rfl⟩
abbrev main_c_15 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_c_16 : Ref sig .tc := ⟨.hbm, 105, rfl⟩
abbrev main_v86 : Ref sig .tc := ⟨.hbm, 106, rfl⟩
abbrev main_v87 : Ref sig .tc := ⟨.hbm, 107, rfl⟩
abbrev main_c_17 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_18 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_19 : Ref sig .tc := ⟨.hbm, 117, rfl⟩
abbrev main_v95 : Ref sig .tc := ⟨.hbm, 118, rfl⟩
abbrev main_v96 : Ref sig .tc := ⟨.hbm, 119, rfl⟩
abbrev main_cst_20 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_21 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩

abbrev nD : Nat := 1
abbrev τ : Topo := Topo.v7x

variable {F : FTy → Type} [FloatOps F]
-- ==== Kernel8.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x512, .bf16⟩
  | .hbm, ⟨7, _⟩ => ⟨S8192x512, .bf16⟩
  | .hbm, ⟨8, _⟩ => ⟨S1024x1024, .bf16⟩
  | .hbm, ⟨9, _⟩ => ⟨S8192x1024, .f32⟩
  | .hbm, ⟨10, _⟩ => ⟨S8192x1024, .f32⟩
  | .hbm, ⟨11, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel9.lean ====
abbrev S8192x2048 : Shape := ⟨2, ![8192, 2048]⟩
abbrev S4x128x128 : Shape := ⟨3, ![4, 128, 128]⟩
abbrev S1x512 : Shape := ⟨2, ![1, 512]⟩
abbrev S8192x512 : Shape := ⟨2, ![8192, 512]⟩
abbrev S256x512 : Shape := ⟨2, ![256, 512]⟩
abbrev S16x512 : Shape := ⟨2, ![16, 512]⟩
abbrev S256x128 : Shape := ⟨2, ![256, 128]⟩
abbrev S16x128 : Shape := ⟨2, ![16, 128]⟩
abbrev S272x128 : Shape := ⟨2, ![272, 128]⟩
abbrev S256x272 : Shape := ⟨2, ![256, 272]⟩
abbrev S256x1 : Shape := ⟨2, ![256, 1]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x128x128, .f32⟩
  | .hbm, ⟨2, _⟩ => ⟨S1x512, .f32⟩
  | .hbm, ⟨3, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S16x512, .f32⟩
  | .local _ .vmem, ⟨3, _⟩ => ⟨S16x512, .f32⟩
  | .local _ .vmem, ⟨4, _⟩ => ⟨S4x128x128, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x2048 : Shape := ⟨2, ![8192, 2048]⟩
abbrev S4x128x128 : Shape := ⟨3, ![4, 128, 128]⟩
abbrev S1x512 : Shape := ⟨2, ![1, 512]⟩
abbrev S8192x512 : Shape := ⟨2, ![8192, 512]⟩
abbrev S1x8192x512 : Shape := ⟨3, ![1, 8192, 512]⟩
abbrev S512 : Shape := ⟨1, ![512]⟩
abbrev S1x8192x4x128 : Shape := ⟨4, ![1, 8192, 4, 128]⟩
abbrev S8192 : Shape := ⟨1, ![8192]⟩
abbrev S1x8192x1x128 : Shape := ⟨4, ![1, 8192, 1, 128]⟩
abbrev S1x8192x128 : Shape := ⟨3, ![1, 8192, 128]⟩
abbrev S_ : Shape := ⟨0, ![]⟩
abbrev S1x2x128 : Shape := ⟨3, ![1, 2, 128]⟩
abbrev S1x8190x128 : Shape := ⟨3, ![1, 8190, 128]⟩
abbrev S1x8192x1 : Shape := ⟨3, ![1, 8192, 1]⟩
abbrev S1x128x128 : Shape := ⟨3, ![1, 128, 128]⟩
abbrev S128x128 : Shape := ⟨2, ![128, 128]⟩
abbrev S1x4x128 : Shape := ⟨3, ![1, 4, 128]⟩
abbrev S1x8188x128 : Shape := ⟨3, ![1, 8188, 128]⟩
abbrev S1x8x128 : Shape := ⟨3, ![1, 8, 128]⟩
abbrev S1x8184x128 : Shape := ⟨3, ![1, 8184, 128]⟩
abbrev S1x16x128 : Shape := ⟨3, ![1, 16, 128]⟩
abbrev S1x8176x128 : Shape := ⟨3, ![1, 8176, 128]⟩
abbrev S1x1x512 : Shape := ⟨3, ![1, 1, 512]⟩

abbrev nBuf : Space → Nat
  | .hbm => 110
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x128x128, .f32⟩
  | .hbm, ⟨2, _⟩ => ⟨S1x512, .f32⟩
  | .hbm, ⟨3, _⟩ => ⟨S8192x512, .f32⟩
  | .hbm, ⟨4, _⟩ => ⟨S1x8192x512, .f32⟩
  | .hbm, ⟨5, _⟩ => ⟨S512, .f32⟩
  | .hbm, ⟨6, _⟩ => ⟨S1x8192x4x128, .f32⟩
  | .hbm, ⟨7, _⟩ => ⟨S8192, .i32⟩
  | .hbm, ⟨8, _⟩ => ⟨S1x8192x1x128, .f32⟩
  | .hbm, ⟨9, _⟩ => ⟨S1x8192x128, .f32⟩
  | .hbm, ⟨10, _⟩ => ⟨S_, .f32⟩
  | .hbm, ⟨11, _⟩ => ⟨S_, .f32⟩
  | .hbm, ⟨12, _⟩ => ⟨S1x8192x128, .f32⟩
  | .hbm, ⟨13, _⟩ => ⟨S_, .f32⟩
  | .hbm, ⟨14, _⟩ => ⟨S1x2x128, .f32⟩
  | .hbm, ⟨15, _⟩ => ⟨S1x8190x128, .f32⟩
  | .hbm, ⟨16, _⟩ => ⟨S1x8192x128, .f32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .f32⟩
  | .hbm, ⟨24, _⟩ => ⟨S1x8192x1, .f32⟩
  | .hbm, ⟨25, _⟩ => ⟨S1x8192x128, .f32⟩
  | .hbm, ⟨26, _⟩ => ⟨S1x8192x128, .f32⟩
  | .hbm, ⟨27, _⟩ => ⟨S1x8192x128, .f32⟩
  | .hbm, ⟨28, _⟩ => ⟨S1x8192x128, .f32⟩
  | .hbm, ⟨29, _⟩ => ⟨S1x128x128, .f32⟩
  | .hbm, ⟨30, _⟩ => ⟨S128x128, .f32⟩
  | .hbm, ⟨31, _⟩ => ⟨S1x8192x128, .f32⟩
  | .hbm, ⟨32, _⟩ => ⟨S1x8192x1x128, .f32⟩
  | .hbm, ⟨33, _⟩ => ⟨S1x8192x128, .f32⟩
  | .hbm, ⟨34, _⟩ => ⟨S_, .f32⟩
  | .hbm, ⟨35, _⟩ => ⟨S_, .f32⟩
  | .hbm, ⟨36, _⟩ => ⟨S1x8192x128, .f32⟩
  | .hbm, ⟨37, _⟩ => ⟨S_, .f32⟩
  | .hbm, ⟨38, _⟩ => ⟨S1x4x128, .f32⟩
  | .hbm, ⟨39, _⟩ => ⟨S1x8188x128, .f32⟩
  | .hbm, ⟨40, _⟩ => ⟨S1x8192x128, .f32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .f32⟩
  | .hbm, ⟨48, _⟩ => ⟨S1x8192x1, .f32⟩
  | .hbm, ⟨49, _⟩ => ⟨S1x8192x128, .f32⟩
  | .hbm, ⟨50, _⟩ => ⟨S1x8192x128, .f32⟩
  | .hbm, ⟨51, _⟩ => ⟨S1x8192x128, .f32⟩
  | .hbm, ⟨52, _⟩ => ⟨S1x8192x128, .f32⟩
  | .hbm, ⟨53, _⟩ => ⟨S1x128x128, .f32⟩
  | .hbm, ⟨54, _⟩ => ⟨S128x128, .f32⟩
  | .hbm, ⟨55, _⟩ => ⟨S1x8192x128, .f32⟩
  | .hbm, ⟨56, _⟩ => ⟨S1x8192x1x128, .f32⟩
  | .hbm, ⟨57, _⟩ => ⟨S1x8192x128, .f32⟩
  | .hbm, ⟨58, _⟩ => ⟨S_, .f32⟩
  | .hbm, ⟨59, _⟩ => ⟨S_, .f32⟩
  | .hbm, ⟨60, _⟩ => ⟨S1x8192x128, .f32⟩
  | .hbm, ⟨61, _⟩ => ⟨S_, .f32⟩
  | .hbm, ⟨62, _⟩ => ⟨S1x8x128, .f32⟩
  | .hbm, ⟨63, _⟩ => ⟨S1x8184x128, .f32⟩
  | .hbm, ⟨64, _⟩ => ⟨S1x8192x128, .f32⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .f32⟩
  | .hbm, ⟨72, _⟩ => ⟨S1x8192x1, .f32⟩
  | .hbm, ⟨73, _⟩ => ⟨S1x8192x128, .f32⟩
  | .hbm, ⟨74, _⟩ => ⟨S1x8192x128, .f32⟩
  | .hbm, ⟨75, _⟩ => ⟨S1x8192x128, .f32⟩
  | .hbm, ⟨76, _⟩ => ⟨S1x8192x128, .f32⟩
  | .hbm, ⟨77, _⟩ => ⟨S1x128x128, .f32⟩
  | .hbm, ⟨78, _⟩ => ⟨S128x128, .f32⟩
  | .hbm, ⟨79, _⟩ => ⟨S1x8192x128, .f32⟩
  | .hbm, ⟨80, _⟩ => ⟨S1x8192x1x128, .f32⟩
  | .hbm, ⟨81, _⟩ => ⟨S1x8192x128, .f32⟩
  | .hbm, ⟨82, _⟩ => ⟨S_, .f32⟩
  | .hbm, ⟨83, _⟩ => ⟨S_, .f32⟩
  | .hbm, ⟨84, _⟩ => ⟨S1x8192x128, .f32⟩
  | .hbm, ⟨85, _⟩ => ⟨S_, .f32⟩
  | .hbm, ⟨86, _⟩ => ⟨S1x16x128, .f32⟩
  | .hbm, ⟨87, _⟩ => ⟨S1x8176x128, .f32⟩
  | .hbm, ⟨88, _⟩ => ⟨S1x8192x128, .f32⟩
  | .hbm, ⟨89, _⟩ => ⟨S_, .i32⟩
  | .hbm, ⟨90, _⟩ => ⟨S8192, .i32⟩
  | .hbm, ⟨91, _⟩ => ⟨S8192, .i32⟩
  | .hbm, ⟨92, _⟩ => ⟨S_, .i32⟩
  | .hbm, ⟨93, _⟩ => ⟨S8192, .i32⟩
  | .hbm, ⟨94, _⟩ => ⟨S8192, .i32⟩
  | .hbm, ⟨95, _⟩ => ⟨S8192, .f32⟩
  | .hbm, ⟨96, _⟩ => ⟨S1x8192x1, .f32⟩
  | .hbm, ⟨97, _⟩ => ⟨S1x8192x128, .f32⟩
  | .hbm, ⟨98, _⟩ => ⟨S1x8192x128, .f32⟩
  | .hbm, ⟨99, _⟩ => ⟨S1x8192x128, .f32⟩
  | .hbm, ⟨100, _⟩ => ⟨S1x8192x128, .f32⟩
  | .hbm, ⟨101, _⟩ => ⟨S1x128x128, .f32⟩
  | .hbm, ⟨102, _⟩ => ⟨S128x128, .f32⟩
  | .hbm, ⟨103, _⟩ => ⟨S1x8192x128, .f32⟩
  | .hbm, ⟨104, _⟩ => ⟨S1x8192x512, .f32⟩
  | .hbm, ⟨105, _⟩ => ⟨S1x1x512, .f32⟩
  | .hbm, ⟨106, _⟩ => ⟨S1x8192x512, .f32⟩
  | .hbm, ⟨107, _⟩ => ⟨S1x8192x512, .f32⟩
  | .hbm, ⟨108, _⟩ => ⟨S8192x512, .f32⟩
  | .hbm, ⟨109, _⟩ => ⟨S8192x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_cst : Ref sig .tc := ⟨.hbm, 10, rfl⟩
abbrev main_call0_call0_v0 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call1_call0_cst : Ref sig .tc := ⟨.hbm, 34, rfl⟩
abbrev main_call1_call0_v0 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call2_call0_cst : Ref sig .tc := ⟨.hbm, 58, rfl⟩
abbrev main_call2_call0_v0 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_5 : Ref sig .tc := ⟨.hbm, 65, rfl⟩
abbrev main_v49 : Ref sig .tc := ⟨.hbm, 66, rfl⟩
abbrev main_v50 : Ref sig .tc := ⟨.hbm, 67, rfl⟩
abbrev main_c_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_call3_call0_cst : Ref sig .tc := ⟨.hbm, 82, rfl⟩
abbrev main_call3_call0_v0 : Ref sig .tc := ⟨.hbm, 83, rfl⟩
abbrev main_v64 : Ref sig .tc := ⟨.hbm, 84, rfl⟩
abbrev main_cst_7 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_8 : Ref sig .tc := ⟨.hbm, 89, rfl⟩
abbrev main_v68 : Ref sig .tc := ⟨.hbm, 90, rfl⟩
abbrev main_v69 : Ref sig .tc := ⟨.hbm, 91, rfl⟩
abbrev main_c_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel11.lean ====
abbrev S8192x1024 : Shape := ⟨2, ![8192, 1024]⟩
abbrev S1024x2048 : Shape := ⟨2, ![1024, 2048]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S2048x1024, .f32⟩
  | .hbm, ⟨4, _⟩ => ⟨S2048x1024, .bf16⟩
  | .hbm, ⟨5, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S8192x1024 : Shape := ⟨2, ![8192, 1024]⟩
abbrev S8192x2048 : Shape := ⟨2, ![8192, 2048]⟩
abbrev S8192x512 : Shape := ⟨2, ![8192, 512]⟩
abbrev S2048x1024 : Shape := ⟨2, ![2048, 1024]⟩
abbrev S1024x512 : Shape := ⟨2, ![1024, 512]⟩
abbrev S1024x1024 : Shape := ⟨2, ![1024, 1024]⟩
abbrev S1024x2048 : Shape := ⟨2, ![1024, 2048]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x512, .f32⟩
  | .hbm, ⟨3, _⟩ => ⟨S8192x512, .bf16⟩
  | .hbm, ⟨4, _⟩ => ⟨S8192x512, .f32⟩
  | .hbm, ⟨5, _⟩ => ⟨S8192x512, .bf16⟩
  | .hbm, ⟨6, _⟩ => ⟨S8192x512, .f32⟩
  | .hbm, ⟨7, _⟩ => ⟨S8192x512, .bf16⟩
  | .hbm, ⟨8, _⟩ => ⟨S8192x512, .f32⟩
  | .hbm, ⟨9, _⟩ => ⟨S8192x512, .bf16⟩
  | .hbm, ⟨10, _⟩ => ⟨S8192x1024, .bf16⟩
  | .hbm, ⟨11, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v20 : BitVec 1 := Scalar.cmpi .eq arg0 c7_i32
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference12Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S8x256x1024 : Shape := ⟨3, ![8, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .f32⟩
  | .hbm, ⟨2, _⟩ => ⟨S_, .f32⟩
  | .hbm, ⟨3, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S1024x256 : Shape := ⟨2, ![1024, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S1x1024 : Shape := ⟨2, ![1, 1024]⟩
abbrev S1x512 : Shape := ⟨2, ![1, 512]⟩
abbrev S1x5632 : Shape := ⟨2, ![1, 5632]⟩
abbrev S1x4x128x128 : Shape := ⟨4, ![1, 4, 128, 128]⟩
abbrev S8x128 : Shape := ⟨2, ![8, 128]⟩
abbrev S_ : Shape := ⟨0, ![]⟩
abbrev S4x128 : Shape := ⟨2, ![4, 128]⟩
abbrev S44x128 : Shape := ⟨2, ![44, 128]⟩
abbrev S48x128 : Shape := ⟨2, ![48, 128]⟩
abbrev S512x128 : Shape := ⟨2, ![512, 128]⟩
abbrev S600x128 : Shape := ⟨2, ![600, 128]⟩

abbrev nBuf : Space → Nat
  | .hbm => 147
  | .vmem => 7
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x512, .f32⟩
  | 5 => ⟨S1x5632, .f32⟩
  | 6 => ⟨S1x4x128x128, .f32⟩
  | 7 => ⟨S1x1024, .f32⟩
  | 8 => ⟨S1x1024, .f32⟩
  | 9 => ⟨S1x1024, .f32⟩
  | 10 => ⟨S1x1024, .f32⟩
  | 11 => ⟨S1x512, .f32⟩
  | 12 => ⟨S1x5632, .f32⟩
  | 13 => ⟨S1x4x128x128, .f32⟩
  | 14 => ⟨S1x1024, .f32⟩
  | 15 => ⟨S1x1024, .f32⟩
  | 16 => ⟨S1x1024, .f32⟩
  | 17 => ⟨S1x1024, .f32⟩
  | 18 => ⟨S1x512, .f32⟩
  | 19 => ⟨S1x5632, .f32⟩
  | 20 => ⟨S1x4x128x128, .f32⟩
  | 21 => ⟨S1x1024, .f32⟩
  | 22 => ⟨S1x1024, .f32⟩
  | 23 => ⟨S1x1024, .f32⟩
  | 24 => ⟨S1x1024, .f32⟩
  | 25 => ⟨S1x512, .f32⟩
  | 26 => ⟨S1x5632, .f32⟩
  | 27 => ⟨S1x4x128x128, .f32⟩
  | 28 => ⟨S8x128, .f32⟩
  | 29 => ⟨S_, .i32⟩
  | 30 => ⟨S_, .f32⟩
  | 31 => ⟨S8x128, .f32⟩
  | 32 => ⟨S8x128, .f32⟩
  | 33 => ⟨S_, .i32⟩
  | 34 => ⟨S_, .f32⟩
  | 35 => ⟨S8x128, .f32⟩
  | 36 => ⟨S8x128, .f32⟩
  | 37 => ⟨S_, .i32⟩
  | 38 => ⟨S_, .f32⟩
  | 39 => ⟨S8x128, .f32⟩
  | 40 => ⟨S8x128, .f32⟩
  | 41 => ⟨S_, .i32⟩
  | 42 => ⟨S_, .f32⟩
  | 43 => ⟨S8x128, .f32⟩
  | 44 => ⟨S4x128, .f32⟩
  | 45 => ⟨S_, .i32⟩
  | 46 => ⟨S_, .f32⟩
  | 47 => ⟨S8x128, .f32⟩
  | 48 => ⟨S44x128, .f32⟩
  | 49 => ⟨S_, .i32⟩
  | 50 => ⟨S_, .f32⟩
  | 51 => ⟨S48x128, .f32⟩
  | 52 => ⟨S512x128, .f32⟩
  | 53 => ⟨S_, .i32⟩
  | 54 => ⟨S_, .f32⟩
  | 55 => ⟨S512x128, .f32⟩
  | 56 => ⟨S600x128, .f32⟩
  | 57 => ⟨S8x128, .f32⟩
  | 58 => ⟨S_, .i32⟩
  | 59 => ⟨S_, .f32⟩
  | 60 => ⟨S8x128, .f32⟩
  | 61 => ⟨S8x128, .f32⟩
  | 62 => ⟨S_, .i32⟩
  | 63 => ⟨S_, .f32⟩
  | 64 => ⟨S8x128, .f32⟩
  | 65 => ⟨S8x128, .f32⟩
  | 66 => ⟨S_, .i32⟩
  | 67 => ⟨S_, .f32⟩
  | 68 => ⟨S8x128, .f32⟩
  | 69 => ⟨S8x128, .f32⟩
  | 70 => ⟨S_, .i32⟩
  | 71 => ⟨S_, .f32⟩
  | 72 => ⟨S8x128, .f32⟩
  | 73 => ⟨S4x128, .f32⟩
  | 74 => ⟨S_, .i32⟩
  | 75 => ⟨S_, .f32⟩
  | 76 => ⟨S8x128, .f32⟩
  | 77 => ⟨S44x128, .f32⟩
  | 78 => ⟨S_, .i32⟩
  | 79 => ⟨S_, .f32⟩
  | 80 => ⟨S48x128, .f32⟩
  | 81 => ⟨S512x128, .f32⟩
  | 82 => ⟨S_, .i32⟩
  | 83 => ⟨S_, .f32⟩
  | 84 => ⟨S512x128, .f32⟩
  | 85 => ⟨S600x128, .f32⟩
  | 86 => ⟨S8x128, .f32⟩
  | 87 => ⟨S_, .i32⟩
  | 88 => ⟨S_, .f32⟩
  | 89 => ⟨S8x128, .f32⟩
  | 90 => ⟨S8x128, .f32⟩
  | 91 => ⟨S_, .i32⟩
  | 92 => ⟨S_, .f32⟩
  | 93 => ⟨S8x128, .f32⟩
  | 94 => ⟨S8x128, .f32⟩
  | 95 => ⟨S_, .i32⟩
  | 96 => ⟨S_, .f32⟩
  | 97 => ⟨S8x128, .f32⟩
  | 98 => ⟨S8x128, .f32⟩
  | 99 => ⟨S_, .i32⟩
  | 100 => ⟨S_, .f32⟩
  | 101 => ⟨S8x128, .f32⟩
  | 102 => ⟨S4x128, .f32⟩
  | 103 => ⟨S_, .i32⟩
  | 104 => ⟨S_, .f32⟩
  | 105 => ⟨S8x128, .f32⟩
  | 106 => ⟨S44x128, .f32⟩
  | 107 => ⟨S_, .i32⟩
  | 108 => ⟨S_, .f32⟩
  | 109 => ⟨S48x128, .f32⟩
  | 110 => ⟨S512x128, .f32⟩
  | 111 => ⟨S_, .i32⟩
  | 112 => ⟨S_, .f32⟩
  | 113 => ⟨S512x128, .f32⟩
  | 114 => ⟨S600x128, .f32⟩
  | 115 => ⟨S8x128, .f32⟩
  | 116 => ⟨S_, .i32⟩
  | 117 => ⟨S_, .f32⟩
  | 118 => ⟨S8x128, .f32⟩
  | 119 => ⟨S8x128, .f32⟩
  | 120 => ⟨S_, .i32⟩
  | 121 => ⟨S_, .f32⟩
  | 122 => ⟨S8x128, .f32⟩
  | 123 => ⟨S8x128, .f32⟩
  | 124 => ⟨S_, .i32⟩
  | 125 => ⟨S_, .f32⟩
  | 126 => ⟨S8x128, .f32⟩
  | 127 => ⟨S8x128, .f32⟩
  | _ => ⟨S1x1024, .f32⟩

abbrev hbmTy0_1 (i : Nat) : BufTy := match i % 128 with
  | 0 => ⟨S_, .i32⟩
  | 1 => ⟨S_, .f32⟩
  | 2 => ⟨S8x128, .f32⟩
  | 3 => ⟨S4x128, .f32⟩
  | 4 => ⟨S_, .i32⟩
  | 5 => ⟨S_, .f32⟩
  | 6 => ⟨S8x128, .f32⟩
  | 7 => ⟨S44x128, .f32⟩
  | 8 => ⟨S_, .i32⟩
  | 9 => ⟨S_, .f32⟩
  | 10 => ⟨S48x128, .f32⟩
  | 11 => ⟨S512x128, .f32⟩
  | 12 => ⟨S_, .i32⟩
  | 13 => ⟨S_, .f32⟩
  | 14 => ⟨S512x128, .f32⟩
  | 15 => ⟨S600x128, .f32⟩
  | 16 => ⟨S600x128, .f32⟩
  | 17 => ⟨S600x128, .f32⟩
  | 18 => ⟨S600x128, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | .local _ .vmem, ⟨0, _⟩ => ⟨S600x128, .f32⟩
  | .local _ .vmem, ⟨1, _⟩ => ⟨S600x128, .f32⟩
  | .local _ .vmem, ⟨2, _⟩ => ⟨S600x128, .f32⟩
  | .local _ .vmem, ⟨3, _⟩ => ⟨S600x128, .f32⟩
  | .local _ .vmem, ⟨4, _⟩ => ⟨S600x128, .f32⟩
  | .local _ .vmem, ⟨5, _⟩ => ⟨S600x128, .f32⟩
  | .local _ .vmem, ⟨6, _⟩ => ⟨S600x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_c : Ref sig .tc := ⟨.hbm, 29, rfl⟩
abbrev main_call0_v0 : Ref sig .tc := ⟨.hbm, 30, rfl⟩
abbrev main_v1 : Ref sig .tc := ⟨.hbm, 31, rfl⟩
abbrev main_v2 : Ref sig .tc := ⟨.hbm, 32, rfl⟩
abbrev main_c_0 : Ref sig .tc := ⟨.hbm, 33, rfl⟩
abbrev main_call1_v0 : Ref sig .tc := ⟨.hbm, 34, rfl⟩
abbrev main_v3 : Ref sig .tc := ⟨.hbm, 35, rfl⟩
abbrev main_v4 : Ref sig .tc := ⟨.hbm, 36, rfl⟩
abbrev main_c_1 : Ref sig .tc := ⟨.hbm, 37, rfl⟩
abbrev main_call2_v0 : Ref sig .tc := ⟨.hbm, 38, rfl⟩
abbrev main_v5 : Ref sig .tc := ⟨.hbm, 39, rfl⟩
abbrev main_v6 : Ref sig .tc := ⟨.hbm, 40, rfl⟩
abbrev main_c_2 : Ref sig .tc := ⟨.hbm, 41, rfl⟩
abbrev main_call3_v0 : Ref sig .tc := ⟨.hbm, 42, rfl⟩
abbrev main_v7 : Ref sig .tc := ⟨.hbm, 43, rfl⟩
abbrev main_v8 : Ref sig .tc := ⟨.hbm, 44, rfl⟩
abbrev main_c_3 : Ref sig .tc := ⟨.hbm, 45, rfl⟩
abbrev main_call4_v0 : Ref sig .tc := ⟨.hbm, 46, rfl⟩
abbrev main_v9 : Ref sig .tc := ⟨.hbm, 47, rfl⟩
abbrev main_v10 : Ref sig .tc := ⟨.hbm, 48, rfl⟩
abbrev main_c_4 : Ref sig .tc := ⟨.hbm, 49, rfl⟩
abbrev main_call5_v0 : Ref sig .tc := ⟨.hbm, 50, rfl⟩
abbrev main_v11 : Ref sig .tc := ⟨.hbm, 51, rfl⟩
abbrev main_v12 : Ref sig .tc := ⟨.hbm, 52, rfl⟩
abbrev main_c_5 : Ref sig .tc := ⟨.hbm, 53, rfl⟩
abbrev main_call6_v0 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_c_6 : Ref sig .tc := ⟨.hbm, 58, rfl⟩
abbrev main_call7_v0 : Ref sig .tc := ⟨.hbm, 59, rfl⟩
abbrev main_v16 : Ref sig .tc := ⟨.hbm, 60, rfl⟩
abbrev main_v17 : Ref sig .tc := ⟨.hbm, 61, rfl⟩
abbrev main_c_7 : Ref sig .tc := ⟨.hbm, 62, rfl⟩
abbrev main_call8_v0 : Ref sig .tc := ⟨.hbm, 63, rfl⟩
abbrev main_v18 : Ref sig .tc := ⟨.hbm, 64, rfl⟩
abbrev main_v19 : Ref sig .tc := ⟨.hbm, 65, rfl⟩
abbrev main_c_8 : Ref sig .tc := ⟨.hbm, 66, rfl⟩
abbrev main_call9_v0 : Ref sig .tc := ⟨.hbm, 67, rfl⟩
abbrev main_v20 : Ref sig .tc := ⟨.hbm, 68, rfl⟩
abbrev main_v21 : Ref sig .tc := ⟨.hbm, 69, rfl⟩
abbrev main_c_9 : Ref sig .tc := ⟨.hbm, 70, rfl⟩
abbrev main_call10_v0 : Ref sig .tc := ⟨.hbm, 71, rfl⟩
abbrev main_v22 : Ref sig .tc := ⟨.hbm, 72, rfl⟩
abbrev main_v23 : Ref sig .tc := ⟨.hbm, 73, rfl⟩
abbrev main_c_10 : Ref sig .tc := ⟨.hbm, 74, rfl⟩
abbrev main_call11_v0 : Ref sig .tc := ⟨.hbm, 75, rfl⟩
abbrev main_v24 : Ref sig .tc := ⟨.hbm, 76, rfl⟩
abbrev main_v25 : Ref sig .tc := ⟨.hbm, 77, rfl⟩
abbrev main_c_11 : Ref sig .tc := ⟨.hbm, 78, rfl⟩
abbrev main_call12_v0 : Ref sig .tc := ⟨.hbm, 79, rfl⟩
abbrev main_v26 : Ref sig .tc := ⟨.hbm, 80, rfl⟩
abbrev main_v27 : Ref sig .tc := ⟨.hbm, 81, rfl⟩
abbrev main_c_12 : Ref sig .tc := ⟨.hbm, 82, rfl⟩
abbrev main_call13_v0 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_c_13 : Ref sig .tc := ⟨.hbm, 87, rfl⟩
abbrev main_call14_v0 : Ref sig .tc := ⟨.hbm, 88, rfl⟩
abbrev main_v31 : Ref sig .tc := ⟨.hbm, 89, rfl⟩
abbrev main_v32 : Ref sig .tc := ⟨.hbm, 90, rfl⟩
abbrev main_c_14 : Ref sig .tc := ⟨.hbm, 91, rfl⟩
abbrev main_call15_v0 : Ref sig .tc := ⟨.hbm, 92, rfl⟩
abbrev main_v33 : Ref sig .tc := ⟨.hbm, 93, rfl⟩
abbrev main_v34 : Ref sig .tc := ⟨.hbm, 94, rfl⟩
abbrev main_c_15 : Ref sig .tc := ⟨.hbm, 95, rfl⟩
abbrev main_call16_v0 : Ref sig .tc := ⟨.hbm, 96, rfl⟩
abbrev main_v35 : Ref sig .tc := ⟨.hbm, 97, rfl⟩
abbrev main_v36 : Ref sig .tc := ⟨.hbm, 98, rfl⟩
abbrev main_c_16 : Ref sig .tc := ⟨.hbm, 99, rfl⟩
abbrev main_call17_v0 : Ref sig .tc := ⟨.hbm, 100, rfl⟩
abbrev main_v37 : Ref sig .tc := ⟨.hbm, 101, rfl⟩
abbrev main_v38 : Ref sig .tc := ⟨.hbm, 102, rfl⟩
abbrev main_c_17 : Ref sig .tc := ⟨.hbm, 103, rfl⟩
abbrev main_call18_v0 : Ref sig .tc := ⟨.hbm, 104, rfl⟩
abbrev main_v39 : Ref sig .tc := ⟨.hbm, 105, rfl⟩
abbrev main_v40 : Ref sig .tc := ⟨.hbm, 106, rfl⟩
abbrev main_c_18 : Ref sig .tc := ⟨.hbm, 107, rfl⟩
abbrev main_call19_v0 : Ref sig .tc := ⟨.hbm, 108, rfl⟩
abbrev main_v41 : Ref sig .tc := ⟨.hbm, 109, rfl⟩
abbrev main_v42 : Ref sig .tc := ⟨.hbm, 110, rfl⟩
abbrev main_c_19 : Ref sig .tc := ⟨.hbm, 111, rfl⟩
abbrev main_call20_v0 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_c_20 : Ref sig .tc := ⟨.hbm, 116, rfl⟩
abbrev main_call21_v0 : Ref sig .tc := ⟨.hbm, 117, rfl⟩
abbrev main_v46 : Ref sig .tc := ⟨.hbm, 118, rfl⟩
abbrev main_v47 : Ref sig .tc := ⟨.hbm, 119, rfl⟩
abbrev main_c_21 : Ref sig .tc := ⟨.hbm, 120, rfl⟩
abbrev main_call22_v0 : Ref sig .tc := ⟨.hbm, 121, rfl⟩
abbrev main_v48 : Ref sig .tc := ⟨.hbm, 122, rfl⟩
abbrev main_v49 : Ref sig .tc := ⟨.hbm, 123, rfl⟩
abbrev main_c_22 : Ref sig .tc := ⟨.hbm, 124, rfl⟩
abbrev main_call23_v0 : Ref sig .tc := ⟨.hbm, 125, rfl⟩
abbrev main_v50 : Ref sig .tc := ⟨.hbm, 126, rfl⟩
abbrev main_v51 : Ref sig .tc := ⟨.hbm, 127, rfl⟩
abbrev main_c_23 : Ref sig .tc := ⟨.hbm, 128, rfl⟩
abbrev main_call24_v0 : Ref sig .tc := ⟨.hbm, 129, rfl⟩
abbrev main_v52 : Ref sig .tc := ⟨.hbm, 130, rfl⟩
abbrev main_v53 : Ref sig .tc := ⟨.hbm, 131, rfl⟩
abbrev main_c_24 : Ref sig .tc := ⟨.hbm, 132, rfl⟩
abbrev main_call25_v0 : Ref sig .tc := ⟨.hbm, 133, rfl⟩
abbrev main_v54 : Ref sig .tc := ⟨.hbm, 134, rfl⟩
abbrev main_v55 : Ref sig .tc := ⟨.hbm, 135, rfl⟩
abbrev main_c_25 : Ref sig .tc := ⟨.hbm, 136, rfl⟩
abbrev main_call26_v0 : Ref sig .tc := ⟨.hbm, 137, rfl⟩
abbrev main_v56 : Ref sig .tc := ⟨.hbm, 138, rfl⟩
abbrev main_v57 : Ref sig .tc := ⟨.hbm, 139, rfl⟩
abbrev main_c_26 : Ref sig .tc := ⟨.hbm, 140, rfl⟩
abbrev main_call27_v0 : Ref sig .tc := ⟨.hbm, 141, rfl⟩
abbrev main_v58 : Ref sig .tc := ⟨.hbm, 142, rfl⟩
abbrev main_v59 : Ref sig .tc := ⟨.hbm, 143, rfl⟩
abbrev main_v60_0 : Ref sig .tc := ⟨.hbm, 144, rfl⟩
abbrev main_v60_1 : Ref sig .tc := ⟨.hbm, 145, rfl⟩
abbrev main_v60_2 : Ref sig .tc := ⟨.hbm, 146, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S600x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S600x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S600x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S600x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S600x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S600x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S600x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S1x1024 : Shape := ⟨2, ![1, 1024]⟩
abbrev S1x512 : Shape := ⟨2, ![1, 512]⟩
abbrev S1x5632 : Shape := ⟨2, ![1, 5632]⟩
abbrev S1x4x128x128 : Shape := ⟨4, ![1, 4, 128, 128]⟩
abbrev S_ : Shape := ⟨0, ![]⟩
abbrev S8x128 : Shape := ⟨2, ![8, 128]⟩
abbrev S4x128 : Shape := ⟨2, ![4, 128]⟩
abbrev S44x128 : Shape := ⟨2, ![44, 128]⟩
abbrev S48x128 : Shape := ⟨2, ![48, 128]⟩
abbrev S512x128 : Shape := ⟨2, ![512, 128]⟩
abbrev S600x128 : Shape := ⟨2, ![600, 128]⟩

abbrev nBuf : Space → Nat
  | .hbm => 346
  | .vmem => 0
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x512, .f32⟩
  | 5 => ⟨S1x5632, .f32⟩
  | 6 => ⟨S1x4x128x128, .f32⟩
  | 7 => ⟨S1x1024, .f32⟩
  | 8 => ⟨S1x1024, .f32⟩
  | 9 => ⟨S1x1024, .f32⟩
  | 10 => ⟨S1x1024, .f32⟩
  | 11 => ⟨S1x512, .f32⟩
  | 12 => ⟨S1x5632, .f32⟩
  | 13 => ⟨S1x4x128x128, .f32⟩
  | 14 => ⟨S1x1024, .f32⟩
  | 15 => ⟨S1x1024, .f32⟩
  | 16 => ⟨S1x1024, .f32⟩
  | 17 => ⟨S1x1024, .f32⟩
  | 18 => ⟨S1x512, .f32⟩
  | 19 => ⟨S1x5632, .f32⟩
  | 20 => ⟨S1x4x128x128, .f32⟩
  | 21 => ⟨S1x1024, .f32⟩
  | 22 => ⟨S1x1024, .f32⟩
  | 23 => ⟨S1x1024, .f32⟩
  | 24 => ⟨S1x1024, .f32⟩
  | 25 => ⟨S1x512, .f32⟩
  | 26 => ⟨S1x5632, .f32⟩
  | 27 => ⟨S1x4x128x128, .f32⟩
  | 28 => ⟨S_, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S_, .f32⟩
  | _ => ⟨S1x1024, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S_, .f32⟩
  | 33 => ⟨S1x512, .f32⟩
  | 34 => ⟨S1x512, .f32⟩
  | 35 => ⟨S_, .f32⟩
  | 36 => ⟨S1x512, .f32⟩
  | 37 => ⟨S1x512, .f32⟩
  | 38 => ⟨S1x512, .f32⟩
  | 39 => ⟨S_, .f32⟩
  | 40 => ⟨S1x512, .f32⟩
  | 41 => ⟨S1x512, .f32⟩
  | 42 => ⟨S1x512, .f32⟩
  | 43 => ⟨S_, .f32⟩
  | 44 => ⟨S1x512, .f32⟩
  | 45 => ⟨S1x512, .f32⟩
  | 46 => ⟨S1x512, .f32⟩
  | 47 => ⟨S_, .f32⟩
  | 48 => ⟨S1x512, .f32⟩
  | 49 => ⟨S1x512, .f32⟩
  | 50 => ⟨S_, .f32⟩
  | 51 => ⟨S1x512, .f32⟩
  | 52 => ⟨S1x512, .f32⟩
  | 53 => ⟨S1x512, .f32⟩
  | 54 => ⟨S_, .f32⟩
  | 55 => ⟨S1x512, .f32⟩
  | 56 => ⟨S1x512, .f32⟩
  | 57 => ⟨S1x512, .f32⟩
  | 58 => ⟨S_, .f32⟩
  | 59 => ⟨S1x512, .f32⟩
  | 60 => ⟨S1x512, .f32⟩
  | 61 => ⟨S1x512, .f32⟩
  | 62 => ⟨S_, .f32⟩
  | 63 => ⟨S1x512, .f32⟩
  | 64 => ⟨S1x512, .f32⟩
  | 65 => ⟨S_, .f32⟩
  | 66 => ⟨S1x5632, .f32⟩
  | 67 => ⟨S1x5632, .f32⟩
  | 68 => ⟨S_, .f32⟩
  | 69 => ⟨S1x5632, .f32⟩
  | 70 => ⟨S1x5632, .f32⟩
  | 71 => ⟨S1x5632, .f32⟩
  | 72 => ⟨S_, .f32⟩
  | 73 => ⟨S1x5632, .f32⟩
  | 74 => ⟨S1x5632, .f32⟩
  | 75 => ⟨S1x5632, .f32⟩
  | 76 => ⟨S_, .f32⟩
  | 77 => ⟨S1x5632, .f32⟩
  | 78 => ⟨S1x5632, .f32⟩
  | 79 => ⟨S1x5632, .f32⟩
  | 80 => ⟨S_, .f32⟩
  | 81 => ⟨S1x5632, .f32⟩
  | 82 => ⟨S1x5632, .f32⟩
  | 83 => ⟨S_, .f32⟩
  | 84 => ⟨S1x5632, .f32⟩
  | 85 => ⟨S1x5632, .f32⟩
  | 86 => ⟨S1x5632, .f32⟩
  | 87 => ⟨S_, .f32⟩
  | 88 => ⟨S1x5632, .f32⟩
  | 89 => ⟨S1x5632, .f32⟩
  | 90 => ⟨S1x5632, .f32⟩
  | 91 => ⟨S_, .f32⟩
  | 92 => ⟨S1x5632, .f32⟩
  | 93 => ⟨S1x5632, .f32⟩
  | 94 => ⟨S1x5632, .f32⟩
  | 95 => ⟨S_, .f32⟩
  | 96 => ⟨S1x5632, .f32⟩
  | 97 => ⟨S1x5632, .f32⟩
  | 98 => ⟨S_, .f32⟩
  | 99 => ⟨S1x4x128x128, .f32⟩
  | 100 => ⟨S1x4x128x128, .f32⟩
  | 101 => ⟨S_, .f32⟩
  | 102 => ⟨S1x4x128x128, .f32⟩
  | 103 => ⟨S1x4x128x128, .f32⟩
  | 104 => ⟨S1x4x128x128, .f32⟩
  | 105 => ⟨S_, .f32⟩
  | 106 => ⟨S1x4x128x128, .f32⟩
  | 107 => ⟨S1x4x128x128, .f32⟩
  | 108 => ⟨S1x4x128x128, .f32⟩
  | 109 => ⟨S_, .f32⟩
  | 110 => ⟨S1x4x128x128, .f32⟩
  | 111 => ⟨S1x4x128x128, .f32⟩
  | 112 => ⟨S1x4x128x128, .f32⟩
  | 113 => ⟨S_, .f32⟩
  | 114 => ⟨S1x4x128x128, .f32⟩
  | 115 => ⟨S1x4x128x128, .f32⟩
  | 116 => ⟨S_, .f32⟩
  | 117 => ⟨S1x4x128x128, .f32⟩
  | 118 => ⟨S1x4x128x128, .f32⟩
  | 119 => ⟨S1x4x128x128, .f32⟩
  | 120 => ⟨S_, .f32⟩
  | 121 => ⟨S1x4x128x128, .f32⟩
  | 122 => ⟨S1x4x128x128, .f32⟩
  | 123 => ⟨S1x4x128x128, .f32⟩
  | 124 => ⟨S_, .f32⟩
  | 125 => ⟨S1x4x128x128, .f32⟩
  | 126 => ⟨S1x4x128x128, .f32⟩
  | 127 => ⟨S1x4x128x128, .f32⟩
  | _ => ⟨S1x1024, .f32⟩

abbrev hbmTy0_2 (i : Nat) : BufTy := match i % 128 with
  | 0 => ⟨S_, .f32⟩
  | 1 => ⟨S1x4x128x128, .f32⟩
  | 2 => ⟨S1x4x128x128, .f32⟩
  | 3 => ⟨S8x128, .f32⟩
  | 4 => ⟨S_, .i32⟩
  | 5 => ⟨S_, .f32⟩
  | 6 => ⟨S8x128, .f32⟩
  | 7 => ⟨S8x128, .f32⟩
  | 8 => ⟨S_, .i32⟩
  | 9 => ⟨S_, .f32⟩
  | 10 => ⟨S8x128, .f32⟩
  | 11 => ⟨S8x128, .f32⟩
  | 12 => ⟨S_, .i32⟩
  | 13 => ⟨S_, .f32⟩
  | 14 => ⟨S8x128, .f32⟩
  | 15 => ⟨S8x128, .f32⟩
  | 16 => ⟨S_, .i32⟩
  | 17 => ⟨S_, .f32⟩
  | 18 => ⟨S8x128, .f32⟩
  | 19 => ⟨S4x128, .f32⟩
  | 20 => ⟨S_, .i32⟩
  | 21 => ⟨S_, .f32⟩
  | 22 => ⟨S8x128, .f32⟩
  | 23 => ⟨S44x128, .f32⟩
  | 24 => ⟨S_, .i32⟩
  | 25 => ⟨S_, .f32⟩
  | 26 => ⟨S48x128, .f32⟩
  | 27 => ⟨S512x128, .f32⟩
  | 28 => ⟨S_, .i32⟩
  | 29 => ⟨S_, .f32⟩
  | 30 => ⟨S512x128, .f32⟩
  | 31 => ⟨S600x128, .f32⟩
  | 32 => ⟨S8x128, .f32⟩
  | 33 => ⟨S_, .i32⟩
  | 34 => ⟨S_, .f32⟩
  | 35 => ⟨S8x128, .f32⟩
  | 36 => ⟨S8x128, .f32⟩
  | 37 => ⟨S_, .i32⟩
  | 38 => ⟨S_, .f32⟩
  | 39 => ⟨S8x128, .f32⟩
  | 40 => ⟨S8x128, .f32⟩
  | 41 => ⟨S_, .i32⟩
  | 42 => ⟨S_, .f32⟩
  | 43 => ⟨S8x128, .f32⟩
  | 44 => ⟨S8x128, .f32⟩
  | 45 => ⟨S_, .i32⟩
  | 46 => ⟨S_, .f32⟩
  | 47 => ⟨S8x128, .f32⟩
  | 48 => ⟨S4x128, .f32⟩
  | 49 => ⟨S_, .i32⟩
  | 50 => ⟨S_, .f32⟩
  | 51 => ⟨S8x128, .f32⟩
  | 52 => ⟨S44x128, .f32⟩
  | 53 => ⟨S_, .i32⟩
  | 54 => ⟨S_, .f32⟩
  | 55 => ⟨S48x128, .f32⟩
  | 56 => ⟨S512x128, .f32⟩
  | 57 => ⟨S_, .i32⟩
  | 58 => ⟨S_, .f32⟩
  | 59 => ⟨S512x128, .f32⟩
  | 60 => ⟨S600x128, .f32⟩
  | 61 => ⟨S8x128, .f32⟩
  | 62 => ⟨S_, .i32⟩
  | 63 => ⟨S_, .f32⟩
  | 64 => ⟨S8x128, .f32⟩
  | 65 => ⟨S8x128, .f32⟩
  | 66 => ⟨S_, .i32⟩
  | 67 => ⟨S_, .f32⟩
  | 68 => ⟨S8x128, .f32⟩
  | 69 => ⟨S8x128, .f32⟩
  | 70 => ⟨S_, .i32⟩
  | 71 => ⟨S_, .f32⟩
  | 72 => ⟨S8x128, .f32⟩
  | 73 => ⟨S8x128, .f32⟩
  | 74 => ⟨S_, .i32⟩
  | 75 => ⟨S_, .f32⟩
  | 76 => ⟨S8x128, .f32⟩
  | 77 => ⟨S4x128, .f32⟩
  | 78 => ⟨S_, .i32⟩
  | 79 => ⟨S_, .f32⟩
  | 80 => ⟨S8x128, .f32⟩
  | 81 => ⟨S44x128, .f32⟩
  | 82 => ⟨S_, .i32⟩
  | 83 => ⟨S_, .f32⟩
  | 84 => ⟨S48x128, .f32⟩
  | 85 => ⟨S512x128, .f32⟩
  | 86 => ⟨S_, .i32⟩
  | 87 => ⟨S_, .f32⟩
  | 88 => ⟨S512x128, .f32⟩
  | 89 => ⟨S600x128, .f32⟩
  | _ => ⟨S1x1024, .f32⟩

abbrev hbmTy (i : Nat) : BufTy := match i / 128 with
  | 0 => hbmTy0_0 i
  | 1 => hbmTy0_1 i
  | 2 => hbmTy0_2 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_c : Ref sig .tc := ⟨.hbm, 260, rfl⟩
abbrev main_call0_v0 : Ref sig .tc := ⟨.hbm, 261, rfl⟩
abbrev main_v169 : Ref sig .tc := ⟨.hbm, 262, rfl⟩
abbrev main_v170 : Ref sig .tc := ⟨.hbm, 263, rfl⟩
abbrev main_c_62 : Ref sig .tc := ⟨.hbm, 264, rfl⟩
abbrev main_call1_v0 : Ref sig .tc := ⟨.hbm, 265, rfl⟩
abbrev main_v171 : Ref sig .tc := ⟨.hbm, 266, rfl⟩
abbrev main_v172 : Ref sig .tc := ⟨.hbm, 267, rfl⟩
abbrev main_c_63 : Ref sig .tc := ⟨.hbm, 268, rfl⟩
abbrev main_call2_v0 : Ref sig .tc := ⟨.hbm, 269, rfl⟩
abbrev main_v173 : Ref sig .tc := ⟨.hbm, 270, rfl⟩
abbrev main_v174 : Ref sig .tc := ⟨.hbm, 271, rfl⟩
abbrev main_c_64 : Ref sig .tc := ⟨.hbm, 272, rfl⟩
abbrev main_call3_v0 : Ref sig .tc := ⟨.hbm, 273, rfl⟩
abbrev main_v175 : Ref sig .tc := ⟨.hbm, 274, rfl⟩
abbrev main_v176 : Ref sig .tc := ⟨.hbm, 275, rfl⟩
abbrev main_c_65 : Ref sig .tc := ⟨.hbm, 276, rfl⟩
abbrev main_call4_v0 : Ref sig .tc := ⟨.hbm, 277, rfl⟩
abbrev main_v177 : Ref sig .tc := ⟨.hbm, 278, rfl⟩
abbrev main_v178 : Ref sig .tc := ⟨.hbm, 279, rfl⟩
abbrev main_c_66 : Ref sig .tc := ⟨.hbm, 280, rfl⟩
abbrev main_call5_v0 : Ref sig .tc := ⟨.hbm, 281, rfl⟩
abbrev main_v179 : Ref sig .tc := ⟨.hbm, 282, rfl⟩
abbrev main_v180 : Ref sig .tc := ⟨.hbm, 283, rfl⟩
abbrev main_c_67 : Ref sig .tc := ⟨.hbm, 284, rfl⟩
abbrev main_call6_v0 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_c_68 : Ref sig .tc := ⟨.hbm, 289, rfl⟩
abbrev main_call7_v0 : Ref sig .tc := ⟨.hbm, 290, rfl⟩
abbrev main_v184 : Ref sig .tc := ⟨.hbm, 291, rfl⟩
abbrev main_v185 : Ref sig .tc := ⟨.hbm, 292, rfl⟩
abbrev main_c_69 : Ref sig .tc := ⟨.hbm, 293, rfl⟩
abbrev main_call8_v0 : Ref sig .tc := ⟨.hbm, 294, rfl⟩
abbrev main_v186 : Ref sig .tc := ⟨.hbm, 295, rfl⟩
abbrev main_v187 : Ref sig .tc := ⟨.hbm, 296, rfl⟩
abbrev main_c_70 : Ref sig .tc := ⟨.hbm, 297, rfl⟩
abbrev main_call9_v0 : Ref sig .tc := ⟨.hbm, 298, rfl⟩
abbrev main_v188 : Ref sig .tc := ⟨.hbm, 299, rfl⟩
abbrev main_v189 : Ref sig .tc := ⟨.hbm, 300, rfl⟩
abbrev main_c_71 : Ref sig .tc := ⟨.hbm, 301, rfl⟩
abbrev main_call10_v0 : Ref sig .tc := ⟨.hbm, 302, rfl⟩
abbrev main_v190 : Ref sig .tc := ⟨.hbm, 303, rfl⟩
abbrev main_v191 : Ref sig .tc := ⟨.hbm, 304, rfl⟩
abbrev main_c_72 : Ref sig .tc := ⟨.hbm, 305, rfl⟩
abbrev main_call11_v0 : Ref sig .tc := ⟨.hbm, 306, rfl⟩
abbrev main_v192 : Ref sig .tc := ⟨.hbm, 307, rfl⟩
abbrev main_v193 : Ref sig .tc := ⟨.hbm, 308, rfl⟩
abbrev main_c_73 : Ref sig .tc := ⟨.hbm, 309, rfl⟩
abbrev main_call12_v0 : Ref sig .tc := ⟨.hbm, 310, rfl⟩
abbrev main_v194 : Ref sig .tc := ⟨.hbm, 311, rfl⟩
abbrev main_v195 : Ref sig .tc := ⟨.hbm, 312, rfl⟩
abbrev main_c_74 : Ref sig .tc := ⟨.hbm, 313, rfl⟩
abbrev main_call13_v0 : Ref sig .tc := ⟨.hbm, 314, rfl⟩
abbrev main_v196 : Ref sig .tc := ⟨.hbm, 315, rfl⟩
abbrev main_v197 : Ref sig .tc := ⟨.hbm, 316, rfl⟩
abbrev main_v198 : Ref sig .tc := ⟨.hbm, 317, rfl⟩
abbrev main_c_75 : Ref sig .tc := ⟨.hbm, 318, rfl⟩
abbrev main_call14_v0 : Ref sig .tc := ⟨.hbm, 319, rfl⟩
abbrev main_v199 : Ref sig .tc := ⟨.hbm, 320, rfl⟩
abbrev main_v200 : Ref sig .tc := ⟨.hbm, 321, rfl⟩
abbrev main_c_76 : Ref sig .tc := ⟨.hbm, 322, rfl⟩
abbrev main_call15_v0 : Ref sig .tc := ⟨.hbm, 323, rfl⟩
abbrev main_v201 : Ref sig .tc := ⟨.hbm, 324, rfl⟩
abbrev main_v202 : Ref sig .tc := ⟨.hbm, 325, rfl⟩
abbrev main_c_77 : Ref sig .tc := ⟨.hbm, 326, rfl⟩
abbrev main_call16_v0 : Ref sig .tc := ⟨.hbm, 327, rfl⟩
abbrev main_v203 : Ref sig .tc := ⟨.hbm, 328, rfl⟩
abbrev main_v204 : Ref sig .tc := ⟨.hbm, 329, rfl⟩
abbrev main_c_78 : Ref sig .tc := ⟨.hbm, 330, rfl⟩
abbrev main_call17_v0 : Ref sig .tc := ⟨.hbm, 331, rfl⟩
abbrev main_v205 : Ref sig .tc := ⟨.hbm, 332, rfl⟩
abbrev main_v206 : Ref sig .tc := ⟨.hbm, 333, rfl⟩
abbrev main_c_79 : Ref sig .tc := ⟨.hbm, 334, rfl⟩
abbrev main_call18_v0 : Ref sig .tc := ⟨.hbm, 335, rfl⟩
abbrev main_v207 : Ref sig .tc := ⟨.hbm, 336, rfl⟩
abbrev main_v208 : Ref sig .tc := ⟨.hbm, 337, rfl⟩
abbrev main_c_80 : Ref sig .tc := ⟨.hbm, 338, rfl⟩
abbrev main_call19_v0 : Ref sig .tc := ⟨.hbm, 339, rfl⟩
abbrev main_v209 : Ref sig .tc := ⟨.hbm, 340, rfl⟩
abbrev main_v210 : Ref sig .tc := ⟨.hbm, 341, rfl⟩
abbrev main_c_81 : Ref sig .tc := ⟨.hbm, 342, rfl⟩
abbrev main_call20_v0 : Ref sig .tc := ⟨.hbm, 343, rfl⟩
abbrev main_v211 : Ref sig .tc := ⟨.hbm, 344, rfl⟩
abbrev main_v212 : Ref sig .tc := ⟨.hbm, 345, rfl⟩

abbrev nD : Nat := 1
abbrev τ : Topo := Topo.v7x

variable {F : FTy → Type} [FloatOps F]
-- ==== Kernel16.lean ====
abbrev S8192x1024 : Shape := ⟨2, ![8192, 1024]⟩
abbrev S1024x5632 : Shape := ⟨2, ![1024, 5632]⟩
abbrev S3x5632 : Shape := ⟨2, ![3, 5632]⟩
abbrev S1x5632 : Shape := ⟨2, ![1, 5632]⟩
abbrev S5632x1024 : Shape := ⟨2, ![5632, 1024]⟩
abbrev S8192x2816 : Shape := ⟨2, ![8192, 2816]⟩
abbrev S2048x1024 : Shape := ⟨2, ![2048, 1024]⟩
abbrev S256x1024 : Shape := ⟨2, ![256, 1024]⟩
abbrev S3x256 : Shape := ⟨2, ![3, 256]⟩
abbrev S1x256 : Shape := ⟨2, ![1, 256]⟩
abbrev S2048x256 : Shape := ⟨2, ![2048, 256]⟩
abbrev S11x2x8x256 : Shape := ⟨4, ![11, 2, 8, 256]⟩
abbrev S512x1024 : Shape := ⟨2, ![512, 1024]⟩
abbrev S1x1x8x256 : Shape := ⟨4, ![1, 1, 8, 256]⟩
abbrev S8x256 : Shape := ⟨2, ![8, 256]⟩
abbrev S256x512 : Shape := ⟨2, ![256, 512]⟩
abbrev S256x256 : Shape := ⟨2, ![256, 256]⟩
abbrev S264x256 : Shape := ⟨2, ![264, 256]⟩

abbrev nBuf : Space → Nat
  | .hbm => 12
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S8192x1024, .bf16⟩
  | .hbm, ⟨5, _⟩ => ⟨S5632x1024, .f32⟩
  | .hbm, ⟨6, _⟩ => ⟨S5632x1024, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .hbm, ⟨10, _⟩ => ⟨S8192x2816, .bf16⟩
  | .hbm, ⟨11, _⟩ => ⟨S8192x2816, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S11x2x8x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 11], ![false, false]⟩

def k0_off1 (i : grid0.Coords) : Fin 4 → Nat :=
  let arg1 : BitVec 32 := BitVec.ofNat 32 (i 1).val
  let v10 : Index := Scalar.indexCast arg1
  let c0_11 : Index := 0#32
  let c0_12 : Index := 0#32
  let c0_13 : Index := 0#32
  ![v10.toNat, 0, 0, 0]
def k0_off2 (i : grid0.Coords) : Fin 4 → Nat :=
  let arg1 : BitVec 32 := BitVec.ofNat 32 (i 1).val
  let v16 : Index := Scalar.indexCast arg1
  let c1 : Index := 1#32
  let c0_15 : Index := 0#32
  let c0_16 : Index := 0#32
  ![v16.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel16Ideal.lean ====
variable {F : FTy → Type} [FloatOps F] [Named F]
def κ : String → Option EReal := fun
  | "k01" => some ((80338380498831 / 2251799813685248 : ℝ) : EReal)
  | _ => none
-- ==== Reference16Ideal.lean ====
abbrev S8192x1024 : Shape := ⟨2, ![8192, 1024]⟩
abbrev S1024x5632 : Shape := ⟨2, ![1024, 5632]⟩
abbrev S3x5632 : Shape := ⟨2, ![3, 5632]⟩
abbrev S1x5632 : Shape := ⟨2, ![1, 5632]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S8192x5632, .f32⟩
  | .hbm, ⟨5, _⟩ => ⟨S_, .f32⟩
  | .hbm, ⟨6, _⟩ => ⟨S2x5632, .f32⟩
  | .hbm, ⟨7, _⟩ => ⟨S8194x5632, .f32⟩
  | .hbm, ⟨8, _⟩ => ⟨S8192x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .bf16⟩
  | .hbm, ⟨37, _⟩ => ⟨S8192x2816, .f32⟩
  | .hbm, ⟨38, _⟩ => ⟨S8192x2816, .bf16⟩
  | .hbm, ⟨39, _⟩ => ⟨S8192x2816, .bf16⟩
  | .hbm, ⟨40, _⟩ => ⟨S8192x2816, .bf16⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S_, .f32⟩
  | .hbm, ⟨52, _⟩ => ⟨S8192x2816, .f32⟩
  | .hbm, ⟨53, _⟩ => ⟨S8192x2816, .f32⟩
  | .hbm, ⟨54, _⟩ => ⟨S_, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Proof.Finite.lean ====
/-
  What `jnp.all(jnp.abs(x) < jnp.inf)` says of an array of extended reals: every entry is a real number.
-/
module

public import Idealize.ShloMosaic.Lib.ReduceAll
public import Idealize.ShloMosaic.Lib.Pointwise

@[expose] public section

noncomputable section

open Idealize.ShloMosaic

namespace Finite

theorem inf_word : Ideal.ofBits .f32 0x7F800000#32 = (⊤ : EReal) := by simp [Ideal.ofBits, Ideal.ieee]

/-- An extended real whose absolute value lies below infinity is its real part. -/
theorem eq_toReal {x : EReal} (h : max x (-x) < ⊤) : x = (x.toReal : EReal) := by
  refine (EReal.coe_toReal ?_ ?_).symm
  · rintro rfl; simp at h
  · rintro rfl; simp at h

/-- The predicate's test of one entry. -/
theorem entry {s : Shape} (x : FVec Ideal s .f32) (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    x i = ((x i).toReal : EReal) := by
  refine eq_toReal ?_
  have e : BitVec.ofBool (decide (max (x i) (-(x i)) < Ideal.ofBits .f32 0x7F800000#32)) = 1#1 := h
  rw [inf_word] at e
  by_contra hn
  rw [decide_eq_false hn] at e
  exact absurd e (by decide)

/-- The predicate's test of an array. -/
theorem all {s t u : Shape} [Subsingleton t.Idx] {axes : List (Fin s.rank)} (x : FVec Ideal s .f32)
    (hb : (⟨0, ![]⟩ : Shape).BroadcastsInDim s (![] : Fin 0 → Fin s.rank)) (init : u.Idx → BitVec 1) (hr : s.ReducesTo axes t) (hu : 0 < u.numel) (j : t.Idx)
    (h : Host.reduce IntOp.andi (cmpf .olt (Host.absf x) (broadcastInDim s ![] hb (constant (F := Ideal) ⟨0, ![]⟩ .f32 0x7F800000#32))) init hr hu j = 1#1)
    (i : s.Idx) : x i = ((x i).toReal : EReal) :=
  entry x hb i (Host.reduce_andi_all _ init hr hu j h i)

end Finite

end
-- ==== Proof.Pool.Spec.lean ====
/-
  The gradient of the multi-scale pooling mixer, in plain real numbers.

  Rows are natural numbers (the 8192 positions), columns the 4·128 of the mixer; group `g` averages the `2^(g+1)`
  latest rows. `u` is the mixer's input, `dy` the cotangent of its output, `W` the four channel mixes, `s` the scale.
-/
module

public import Mathlib.Data.Real.Basic
public import Mathlib.Tactic.Linarith
public import Mathlib.Algebra.BigOperators.Intervals
public import Mathlib.Algebra.BigOperators.Fin

@[expose] public section

noncomputable section

namespace Pool

open Finset

/-- Rows shifted down by 16, with zeros in the 16 rows that come before the first. -/
def padded (u : ℕ → ℝ) (p : ℕ) : ℝ := if p < 16 then 0 else u (p - 16)

/-- How many rows the window of `w` that ends at row `R` holds. -/
def cnt (w R : ℕ) : ℝ := ((min (R + 1) w : ℕ) : ℝ)

/-- One column of the pooled input: the mean of the window that ends at row `R`, minus the row. -/
def mean (w : ℕ) (u : ℕ → ℝ) (R : ℕ) : ℝ :=
  (∑ p ∈ Ico (R + 17 - w) (R + 17), padded u p) * (1 / cnt w R) - u R

/-- One column of the gradient of `mean`: what the cotangent `q` of the means puts on row `R`. -/
def meanGrad (w : ℕ) (q : ℕ → ℝ) (R : ℕ) : ℝ :=
  ∑ p ∈ Ico R (R + w), q p * (1 / cnt w p) - q R

variable (u dy : ℕ → ℕ → ℝ) (W : ℕ → ℕ → ℕ → ℝ) (s : ℕ → ℝ)

/-- The pooled input of group `g`. -/
def pooled (g R c : ℕ) : ℝ := mean (2 ^ (g + 1)) (fun R => u R (128 * g + c)) R

/-- The cotangent of group `g` before the scale; nothing past the last row. -/
def dz (g R d : ℕ) : ℝ := if R < 8192 then dy R (128 * g + d) * s (128 * g + d) else 0

/-- The cotangent of the pooled input. -/
def dp (g R c : ℕ) : ℝ := ∑ d : Fin 128, dz dy s g R d * W g c d

/-- The gradient of the input. -/
def du (g R c : ℕ) : ℝ := meanGrad (2 ^ (g + 1)) (fun R => dp dy W s g R c) R

/-- The gradient of the channel mix over the first `n` rows. -/
def gw (n g c d : ℕ) : ℝ := ∑ R ∈ range n, pooled u g R c * dz dy s g R d

/-- The gradient of the scale over the first `n` rows. -/
def gs (n g d : ℕ) : ℝ := ∑ R ∈ range n, dy R (128 * g + d) * ∑ c : Fin 128, pooled u g R c * W g c d

theorem cnt_pos {w : ℕ} (hw : 0 < w) (R : ℕ) : 0 < cnt w R := by
  unfold cnt
  exact_mod_cast lt_min (Nat.succ_pos R) hw

/-- The kernel's window row, as a masked sum over the 272 rows of a tile and the 16 before it. -/
theorem sum_prev_mask (w b r : ℕ) (hr : r < 256) (hw : w ≤ 16) (f : ℕ → ℝ) :
    ∑ j : Fin 272, (if r + 17 ≤ j.val + w ∧ j.val ≤ r + 16 then (1 : ℝ) else 0) * f (b + j.val)
      = ∑ p ∈ Ico (b + r + 17 - w) (b + r + 17), f p := by
  rw [Fin.sum_univ_eq_sum_range (fun j => (if r + 17 ≤ j + w ∧ j ≤ r + 16 then (1 : ℝ) else 0) * f (b + j)) 272]
  have h : ∀ j, (if r + 17 ≤ j + w ∧ j ≤ r + 16 then (1 : ℝ) else 0) * f (b + j)
      = if r + 17 ≤ j + w ∧ j ≤ r + 16 then f (b + j) else 0 := fun j => by split <;> simp
  simp only [h]
  rw [← sum_filter]
  have hf : (range 272).filter (fun j => r + 17 ≤ j + w ∧ j ≤ r + 16) = Ico (r + 17 - w) (r + 17) := by
    ext j; simp only [mem_filter, mem_range, mem_Ico]; omega
  rw [hf, sum_Ico_add (fun p => f p) (r + 17 - w) (r + 17) b]
  congr 2 <;> omega

/-- The kernel's look-ahead row, as a masked sum over the 272 rows that begin at a tile. -/
theorem sum_next_mask (w b r : ℕ) (hr : r < 256) (hw : w ≤ 16) (f : ℕ → ℝ) :
    ∑ j : Fin 272, (if r ≤ j.val ∧ j.val < r + w then (1 : ℝ) else 0) * f (b + j.val)
      = ∑ p ∈ Ico (b + r) (b + r + w), f p := by
  rw [Fin.sum_univ_eq_sum_range (fun j => (if r ≤ j ∧ j < r + w then (1 : ℝ) else 0) * f (b + j)) 272]
  have h : ∀ j, (if r ≤ j ∧ j < r + w then (1 : ℝ) else 0) * f (b + j)
      = if r ≤ j ∧ j < r + w then f (b + j) else 0 := fun j => by split <;> simp
  simp only [h]
  rw [← sum_filter]
  have hf : (range 272).filter (fun j => r ≤ j ∧ j < r + w) = Ico r (r + w) := by
    ext j; simp only [mem_filter, mem_range, mem_Ico]; omega
  rw [hf, sum_Ico_add (fun p => f p) r (r + w) b]
  congr 2 <;> omega

/-- A difference of running sums is the window's sum. -/
theorem cumsum_sub_lag (w R : ℕ) (hw : w ≤ 16) (u : ℕ → ℝ) :
    ∑ k ∈ range (R + 1), u k - (if w ≤ R then ∑ k ∈ range (R - w + 1), u k else 0)
      = ∑ p ∈ Ico (R + 17 - w) (R + 17), padded u p := by
  have h16 : ∀ n, ∑ k ∈ range n, u k = ∑ p ∈ range (16 + n), padded u p := fun n => by
    rw [sum_range_add (fun p => padded u p)]
    have h0 : ∑ p ∈ range 16, padded u p = 0 := sum_eq_zero fun p hp => if_pos (mem_range.mp hp)
    rw [h0, zero_add]
    exact sum_congr rfl fun k _ => by unfold padded; rw [if_neg (by omega), Nat.add_sub_cancel_left]
  have hl : (if w ≤ R then ∑ k ∈ range (R - w + 1), u k else 0) = ∑ p ∈ range (R + 17 - w), padded u p := by
    by_cases h : w ≤ R
    · rw [if_pos h, h16]; congr 2; omega
    · rw [if_neg h]
      exact (sum_eq_zero fun p hp => if_pos (by have := mem_range.mp hp; omega)).symm
  rw [hl, h16, show 16 + (R + 1) = R + 17 by omega, sum_Ico_eq_sub _ (by omega)]

/-- A reverse running sum of a difference of rows is the window's sum, where nothing lies past the last row. -/
theorem revsum_sub_lag (w R N : ℕ) (hR : R ≤ N) (q : ℕ → ℝ) (hq : ∀ p, N ≤ p → q p = 0) :
    ∑ k ∈ Ico R N, (q k - q (k + w)) = ∑ p ∈ Ico R (R + w), q p := by
  have hN : ∑ p ∈ Ico N (N + w), q p = 0 := sum_eq_zero fun p hp => hq p (mem_Ico.mp hp).1
  have h1 := sum_Ico_consecutive q hR (Nat.le_add_right N w)
  have h2 := sum_Ico_consecutive q (Nat.le_add_right R w) (Nat.add_le_add_right hR w)
  rw [sum_sub_distrib, sum_Ico_add' q R N w]
  linarith

end Pool

end
-- ==== Proof.Pool.Group.lean ====
/-
  What one group of the pooling gradient computes on one tile of 256 rows: the same operations for every group, with the
  window's length as an argument; the body's expressions are these, group by group.
-/
module

public import proofs.«01_k».proof.Proof.Gen.KernelIdeal.Value

@[expose] public section

set_option maxRecDepth 16384

noncomputable section

open Idealize.ShloMosaic

namespace Cert.KernelIdeal.Pool

open Cert.KernelIdeal Cert.KernelIdeal.Gen

variable {F : FTy → Type} [FloatOps F]

/-- Ones where the offset `d` lies in `[0, w)`. -/
def bandV (w : BitVec 32) (d : IVec S256x272 32) : FVec F S256x272 .bf16 :=
  truncf .bf16 (sitofp .f32 (extui 32 (andi (cmpi .sge d (broadcast S256x272 0#32)) (cmpi .slt d (broadcast S256x272 w)))
    natLt_1_32)) bitsLt_bf16_f32

/-- Row `r` of a tile and row `j` of the 16 rows before it and the tile: how far back `j` lies. -/
def backV : IVec S256x272 32 :=
  subi (addi (iota .tc S256x272 32 [0] iota_S256x272_d0_w32) (broadcast S256x272 16#32))
    (iota .tc S256x272 32 [1] iota_S256x272_d1_w32)

/-- Row `r` of a tile and row `j` of the rows from the tile's first on: how far ahead `j` lies. -/
def aheadV : IVec S256x272 32 :=
  subi (iota .tc S256x272 32 [1] iota_S256x272_d1_w32) (iota .tc S256x272 32 [0] iota_S256x272_d0_w32)

/-- A 0/1 matrix times a matrix of 272 rows, the latter split in two halves of bf16. -/
def bandSumV (m : FVec F S256x272 .bf16) (x : FVec F S272x128 .f32) : FVec F S256x128 .f32 :=
  addf
    (matmul dot_S256x272_S272x128_S256x128_1_0_0_1_n_n none m (truncf .bf16 x bitsLt_bf16_f32) (constant S256x128 .f32 0x00000000#32))
    (matmul dot_S256x272_S272x128_S256x128_1_0_0_1_n_n none m
      (truncf .bf16 (subf x (extf .f32 (truncf .bf16 x bitsLt_bf16_f32) bitsLt_bf16_f32)) bitsLt_bf16_f32)
      (constant S256x128 .f32 0x00000000#32))

/-- The pooled input of a tile: the windows' means minus the rows. -/
def pooledV (w a : BitVec 32) (ug : FVec F S256x128 .f32) (hg : FVec F S16x128 .f32) : FVec F S256x128 .bf16 :=
  truncf .bf16
    (subf
      (mulf
        (bandSumV (bandV w backV) (concatenate S272x128 0 [⟨S16x128, hg⟩, ⟨S256x128, ug⟩] concatenates_S16x128_S256x128_S272x128_d0))
        (broadcastTo S256x128
          (divf (broadcast S256x1 (Scalar.ofBits .f32 0x3F800000#32))
            (sitofp .f32
              (minsi
                (addi (addi (broadcast S256x1 (Scalar.muli a 256#32)) (iota .tc S256x1 32 [0] iota_S256x1_d0_w32))
                  (broadcast S256x1 1#32))
                (broadcast S256x1 w))))
          broadcasts_S256x1_S256x128))
      ug)
    bitsLt_bf16_f32

/-- The scaled cotangent of a tile. -/
def dzV (dy : FVec F S256x128 .f32) (s : Vec F S1x128 .f32) : FVec F S256x128 .f32 :=
  mulf dy (broadcastTo S256x128 s broadcasts_S1x128_S256x128)

/-- The cotangent of the pooled input of a tile and of the 16 rows after it. -/
def dpV (Wg : FVec F S128x128 .bf16) (dy : FVec F S256x128 .f32) (dn : FVec F S16x128 .f32) (s : Vec F S1x128 .f32) :
    FVec F S272x128 .f32 :=
  matmul dot_S272x128_S128x128_S272x128_1_1_0_0_n_n none
    (truncf .bf16
      (concatenate S272x128 0 [⟨S256x128, dzV dy s⟩, ⟨S16x128, mulf dn (broadcastTo S16x128 s broadcasts_S1x128_S16x128)⟩]
        concatenates_S256x128_S16x128_S272x128_d0)
      bitsLt_bf16_f32)
    Wg (constant S272x128 .f32 0x00000000#32)

/-- The gradient of the input on a tile. -/
def duV (w : BitVec 32) (rows : IVec S272x1 32) (dp : FVec F S272x128 .f32) : FVec F S256x128 .bf16 :=
  truncf .bf16
    (subf
      (bandSumV (bandV w aheadV)
        (mulf dp
          (broadcastTo S272x128
            (divf (broadcast S272x1 (Scalar.ofBits .f32 0x3F800000#32))
              (sitofp .f32 (minsi (addi rows (broadcast S272x1 1#32)) (broadcast S272x1 w))))
            broadcasts_S272x1_S272x128)))
      (extractStridedSlice S256x128 ![0, 0] dp slices_S272x128_o0_0_S256x128))
    bitsLt_bf16_f32

/-- One step of the channel mix's gradient. -/
def gwV (p : FVec F S256x128 .bf16) (dz : FVec F S256x128 .f32) (old : Vec F S1x128x128 .f32) : FVec F S1x128x128 .f32 :=
  shapeCast S1x128x128
    (addf (shapeCast S128x128 old shapeCasts_S1x128x128_S128x128)
      (matmul dot_S256x128_S256x128_S128x128_0_0_1_1_n_n none p (truncf .bf16 dz bitsLt_bf16_f32) (constant S128x128 .f32 0x00000000#32)))
    shapeCasts_S128x128_S1x128x128

/-- One step of the scale's gradient. -/
def gsV (p : FVec F S256x128 .bf16) (Wg : FVec F S128x128 .bf16) (dy : FVec F S256x128 .f32) (old : Vec F S1x128 .f32) :
    FVec F S1x128 .f32 :=
  addf (shapeCast S1x128 old shapeCasts_S1x128_S1x128)
    (shapeCast S1x128
      (multiReduction .add [0] S128
        (mulf dy (matmul dot_S256x128_S128x128_S256x128_1_0_0_1_n_n none p Wg (constant S256x128 .f32 0x00000000#32)))
        0x00000000#32 reduces_S256x128_S128 (.inl rfl) rfl)
      shapeCasts_S128_S1x128)

/-! ## The body's expressions -/

variable (a : BitVec 32) (v3 v8 : Vec F S256x512 .f32) (v7 v12 : Vec F S16x512 .f32)

/-- Columns `128 g …` of a tile. -/
def colsV (g : Fin 4) (v : Vec F S256x512 .f32) : FVec F S256x128 .f32 :=
  match g with
  | 0 => extractStridedSlice S256x128 ![0, 0] v slices_S256x512_o0_0_S256x128
  | 1 => extractStridedSlice S256x128 ![0, 128] v slices_S256x512_o0_128_S256x128
  | 2 => extractStridedSlice S256x128 ![0, 256] v slices_S256x512_o0_256_S256x128
  | 3 => extractStridedSlice S256x128 ![0, 384] v slices_S256x512_o0_384_S256x128

/-- Columns `128 g …` of the 16 rows next to a tile. -/
def edgeV (g : Fin 4) (v : Vec F S16x512 .f32) : FVec F S16x128 .f32 :=
  match g with
  | 0 => extractStridedSlice S16x128 ![0, 0] v slices_S16x512_o0_0_S16x128
  | 1 => extractStridedSlice S16x128 ![0, 128] v slices_S16x512_o0_128_S16x128
  | 2 => extractStridedSlice S16x128 ![0, 256] v slices_S16x512_o0_256_S16x128
  | 3 => extractStridedSlice S16x128 ![0, 384] v slices_S16x512_o0_384_S16x128

theorem pooled_0 : k0_pay11 a v3 v7 = pooledV 2#32 a (colsV 0 v3) (edgeV 0 v7) := rfl

theorem pooled_1 : k0_pay17 (k0_pay12 v3) (Scalar.muli a 256#32) (k0_pay14 v3 v7) (k0_pay15 v3 v7)
      (iota .tc S256x272 32 [0] iota_S256x272_d0_w32) (iota .tc S256x272 32 [1] iota_S256x272_d1_w32) k0_pay16
    = pooledV 4#32 a (colsV 1 v3) (edgeV 1 v7) := rfl

theorem pooled_2 : k0_pay23 (k0_pay18 v3) (Scalar.muli a 256#32) (k0_pay20 v3 v7) (k0_pay21 v3 v7) k0_pay22
      (constant S256x128 .f32 0x00000000#32)
    = pooledV 8#32 a (colsV 2 v3) (edgeV 2 v7) := rfl

theorem pooled_3 : k0_pay27 (k0_pay24 v3) (k0_pay25 v3 v7) (k0_pay26 a) = pooledV 16#32 a (colsV 3 v3) (edgeV 3 v7) := rfl

variable (s : Vec F S1x128 .f32) (w : Vec F S1x128x128 .f32)

theorem dz_0 : k0_pay28 v8 s = dzV (colsV 0 v8) s := rfl
theorem dz_1 : k0_pay29 v8 s = dzV (colsV 1 v8) s := rfl
theorem dz_2 : k0_pay30 v8 s = dzV (colsV 2 v8) s := rfl
theorem dz_3 : k0_pay31 v8 s = dzV (colsV 3 v8) s := rfl

theorem dp_0 : k0_pay36 (k0_pay7 w) (k0_pay32 v8 v12 s s) = dpV (k0_pay7 w) (colsV 0 v8) (edgeV 0 v12) s := rfl
theorem dp_1 : k0_pay37 (k0_pay8 w) (k0_pay33 v8 v12 s s) = dpV (k0_pay7 w) (colsV 1 v8) (edgeV 1 v12) s := rfl
theorem dp_2 : k0_pay38 (k0_pay9 w) (k0_pay34 v8 v12 s s) = dpV (k0_pay7 w) (colsV 2 v8) (edgeV 2 v12) s := rfl
theorem dp_3 : k0_pay39 (k0_pay10 w) (k0_pay31 v8 s) (k0_pay35 v12) s = dpV (k0_pay7 w) (colsV 3 v8) (edgeV 3 v12) s := rfl

variable (rows : IVec S272x1 32) (dp : FVec F S272x128 .f32)

theorem du_0 : k0_pay46 (iota .tc S256x272 32 [0] iota_S256x272_d0_w32) (iota .tc S256x272 32 [1] iota_S256x272_d1_w32) dp
    (k0_pay45 rows) = duV 2#32 rows dp := rfl
theorem du_1 : k0_pay49 (iota .tc S256x272 32 [0] iota_S256x272_d0_w32) (iota .tc S256x272 32 [1] iota_S256x272_d1_w32) rows dp
    1#32 = duV 4#32 rows dp := rfl
theorem du_2 : k0_pay54 (iota .tc S256x272 32 [0] iota_S256x272_d0_w32) (iota .tc S256x272 32 [1] iota_S256x272_d1_w32) rows dp
    = duV 8#32 rows dp := rfl
theorem du_3 : k0_pay1 (k0_pay58 (iota .tc S256x272 32 [0] iota_S256x272_d0_w32) (iota .tc S256x272 32 [1] iota_S256x272_d1_w32)
    rows dp) = duV 16#32 rows dp := rfl

variable (p : FVec F S256x128 .bf16) (z : FVec F S256x128 .f32) (g3 : Vec F S1x128x128 .f32) (g2 : Vec F S1x128 .f32)

theorem gw_0 : k0_pay43 p z g3 = gwV p z g3 := rfl
theorem gw_1 : k0_pay47 p z g3 = gwV p z g3 := rfl
theorem gw_2 : k0_pay50 p z g3 = gwV p z g3 := rfl
theorem gw_3 : k0_pay56 (k0_pay55 p z g3) = gwV p z g3 := rfl

theorem gs_0 : k0_pay44 v8 (k0_pay7 w) p g2 = gsV p (k0_pay7 w) (colsV 0 v8) g2 := rfl
theorem gs_1 : k0_pay48 v8 (k0_pay40 (k0_pay8 w) p) g2 = gsV p (k0_pay7 w) (colsV 1 v8) g2 := rfl
theorem gs_2 : k0_pay53 (k0_pay51 g2) (k0_pay52 v8 (k0_pay41 (k0_pay9 w) p)) = gsV p (k0_pay7 w) (colsV 2 v8) g2 := rfl
theorem gs_3 : k0_pay57 v8 (k0_pay42 (k0_pay10 w) p) g2 = gsV p (k0_pay7 w) (colsV 3 v8) g2 := rfl

end Cert.KernelIdeal.Pool

end
-- ==== Proof.Reals.lean ====
/-
  Sums of real numbers among the extended reals.
-/
module

public import Mathlib.Data.EReal.Operations
public import Mathlib.Algebra.BigOperators.Fin

@[expose] public section

namespace Reals

/-- The extended real of a finite sum of reals is the sum of their extended reals. -/
@[norm_cast] theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- A sum whose terms are reals is a real. -/
theorem sum_eq_coe {ι : Type*} {s : Finset ι} {f : ι → EReal} {g : ι → ℝ} (h : ∀ i ∈ s, f i = (g i : EReal)) :
    ∑ i ∈ s, f i = ((∑ i ∈ s, g i : ℝ) : EReal) := by
  rw [coe_sum]; exact Finset.sum_congr rfl h

end Reals
-- ==== Proof.Pool.Tile.lean ====
/-
  The blocks a group works on, read at a row and a column: the window matrices, the halves of a split operand, the counts
  and the three products, over arrays with real entries.
-/
module

public import proofs.«01_k».proof.Proof.Pool.Spec
public import proofs.«01_k».proof.Proof.Pool.Group
public import proofs.«01_k».proof.Proof.Reals
public import Idealize.ShloMosaic.Lib.Pointwise
public import Idealize.ShloMosaic.Lib.WordCmp

@[expose] public section

set_option maxRecDepth 16384

noncomputable section

open Idealize.ShloMosaic

namespace Cert.KernelIdeal.Pool

open Cert.KernelIdeal Cert.KernelIdeal.Gen

/-- A word that holds a small number. -/
theorem word_toInt (n : ℕ) (h : n < 2 ^ 31) : (BitVec.ofNat 32 n).toInt = n := WordCmp.toInt_ofNat_of_lt h

/-- Whether a word lies in `[0, w)`, as a number. -/
theorem band_word (w : ℕ) (hw : w ≤ 16) (d : BitVec 32) :
    (FloatOps.sitofp .f32 (BitVec.setWidth 32 (IntOp.andi (IntOp.cmpi .sge d 0#32) (IntOp.cmpi .slt d (BitVec.ofNat 32 w)))) : Ideal .f32)
      = (((if 0 ≤ d.toInt ∧ d.toInt < w then (1 : ℝ) else 0) : ℝ) : EReal) := by
  rw [WordCmp.cmpi_sge_eq, WordCmp.cmpi_slt_eq, word_toInt w (by omega), show (0#32 : BitVec 32).toInt = 0 from rfl]
  by_cases h0 : 0 ≤ d.toInt <;> by_cases h1 : d.toInt < w <;> (simp only [h0, h1, decide_true, decide_false, and_self, and_true, true_and, and_false, false_and, if_true, if_false]; refine (congrArg (fun x : ℝ => (x : EReal)) (?_ : (((_ : BitVec 32).toInt : ℝ)) = _)); simp [IntOp.andi])

/-- The count a tile divides by. -/
theorem count_word (w n : ℕ) (hw : w ≤ 16) (hn : n < 2 ^ 30) :
    (FloatOps.sitofp .f32 (IntOp.minsi (IntOp.addi (BitVec.ofNat 32 n) 1#32) (BitVec.ofNat 32 w)) : Ideal .f32)
      = ((Pool.cnt w n : ℝ) : EReal) := by
  have h : IntOp.minsi (IntOp.addi (BitVec.ofNat 32 n) 1#32) (BitVec.ofNat 32 w) = BitVec.ofNat 32 (min (n + 1) w) := by
    have h1 : IntOp.addi (BitVec.ofNat 32 n) 1#32 = BitVec.ofNat 32 (n + 1) := by
      apply BitVec.eq_of_toNat_eq; simp [IntOp.addi]
    rw [h1]
    unfold IntOp.minsi
    simp only [BitVec.slt, BitVec.sle, word_toInt w (by omega), word_toInt (n + 1) (by omega)]
    split <;> congr 1 <;> simp_all <;> omega
  rw [h]
  refine congrArg (fun x : ℝ => (x : EReal)) (?_ : (((BitVec.ofNat 32 (min (n + 1) w)).toInt : ℝ)) = _)
  rw [word_toInt _ (by omega)]
  unfold Pool.cnt
  norm_cast

theorem recip_coe (w n : ℕ) (hw0 : 0 < w) : Ideal.div 1 ((Pool.cnt w n : ℝ) : EReal) = ((1 / Pool.cnt w n : ℝ) : EReal) := by
  rw [Ideal.div_coe (Pool.cnt_pos hw0 n).ne', one_mul]

theorem bandV_back (w : ℕ) (hw : w ≤ 16) (r : Fin 256) (j : Fin 272) :
    bandV (F := Ideal) (BitVec.ofNat 32 w) backV (ix2 r j)
      = (((if r.val + 17 ≤ j.val + w ∧ j.val ≤ r.val + 16 then (1 : ℝ) else 0) : ℝ) : EReal) := by
  pointwise [bandV, backV]
  rw [band_word w hw]
  have h : (IntOp.subi (IntOp.addi (BitVec.ofNat 32 r.val) 16#32) (BitVec.ofNat 32 j.val)).toInt = (r.val : Int) + 16 - j.val := by
    have h1 : IntOp.addi (BitVec.ofNat 32 r.val) 16#32 = BitVec.ofNat 32 (r.val + 16) := by
      apply BitVec.eq_of_toNat_eq; simp [IntOp.addi]
    rw [h1, IntOp.subi, BitVec.toInt_sub, word_toInt _ (by omega), word_toInt _ (by omega)]
    simp [Int.bmod]; omega
  rw [h]
  congr 2
  refine propext ⟨fun h => ?_, fun h => ?_⟩ <;> omega

theorem bandV_ahead (w : ℕ) (hw : w ≤ 16) (r : Fin 256) (j : Fin 272) :
    bandV (F := Ideal) (BitVec.ofNat 32 w) aheadV (ix2 r j)
      = (((if r.val ≤ j.val ∧ j.val < r.val + w then (1 : ℝ) else 0) : ℝ) : EReal) := by
  pointwise [bandV, aheadV]
  rw [band_word w hw]
  have h : (IntOp.subi (BitVec.ofNat 32 j.val) (BitVec.ofNat 32 r.val)).toInt = (j.val : Int) - r.val := by
    rw [IntOp.subi, BitVec.toInt_sub, word_toInt _ (by omega), word_toInt _ (by omega)]
    simp [Int.bmod]; omega
  rw [h]
  congr 2
  refine propext ⟨fun h => ?_, fun h => ?_⟩ <;> omega

theorem bandSumV_apply (m : FVec Ideal S256x272 .bf16) (x : FVec Ideal S272x128 .f32) (r : Fin 256) (c : Fin 128)
    (b : Fin 272 → ℝ) (y : Fin 272 → ℝ) (hm : ∀ j, m (ix2 r j) = (b j : EReal)) (hx : ∀ j, x (ix2 j c) = (y j : EReal)) :
    bandSumV m x (ix2 r c) = ((∑ j : Fin 272, b j * y j : ℝ) : EReal) := by
  pointwise [bandSumV]
  simp only [hm, hx]
  norm_cast
  simp [Reals.coe_sum]

theorem pooledV_apply (w a : ℕ) (hw0 : 0 < w) (hw : w ≤ 16) (ha : a < 32) (ug : FVec Ideal S256x128 .f32) (hg : FVec Ideal S16x128 .f32)
    (u : ℕ → ℝ) (r : Fin 256) (c : Fin 128) (hu : ∀ k : Fin 256, ug (ix2 k c) = (u (256 * a + k.val) : EReal))
    (hh : ∀ k : Fin 16, hg (ix2 k c) = (Pool.padded u (256 * a + k.val) : EReal)) :
    pooledV (BitVec.ofNat 32 w) (BitVec.ofNat 32 a) ug hg (ix2 r c) = (Pool.mean w u (256 * a + r.val) : EReal) := by
  pointwise [pooledV]
  rw [bandSumV_apply _ _ r c _ (fun j => Pool.padded u (256 * a + j.val)) (fun j => bandV_back w hw r j) (fun j => by
    by_cases hj : j.val < 16
    · pointwise (disch := omega) [dif_pos hj]
      exact hh ⟨j.val, hj⟩
    · pointwise (disch := omega) [dif_neg hj]
      rw [hu ⟨j.val - 16, by omega⟩]
      unfold Pool.padded
      rw [if_neg (by omega)]
      congr 2; dsimp only; omega)]
  rw [Pool.sum_prev_mask w (256 * a) r.val r.isLt hw]
  have h1 : IntOp.addi (Scalar.muli (BitVec.ofNat 32 a) 256#32) (BitVec.ofNat 32 r.val) = BitVec.ofNat 32 (256 * a + r.val) := by
    apply BitVec.eq_of_toNat_eq; simp [IntOp.addi, Scalar.muli, IntOp.muli, Nat.mul_comm]
  rw [h1, count_word w _ hw (by omega), recip_coe w _ hw0, hu]
  unfold Pool.mean
  norm_cast

theorem dzV_apply (dy : FVec Ideal S256x128 .f32) (s : Vec Ideal S1x128 .f32) (r : Fin 256) (d : Fin 128) (x y : ℝ)
    (hx : dy (ix2 r d) = (x : EReal)) (hy : s (ix2 0 d) = (y : EReal)) : dzV dy s (ix2 r d) = ((x * y : ℝ) : EReal) := by
  pointwise [dzV]
  rw [hx, hy]
  norm_cast

/-- A tile's cotangents of the pooled input, and those of the 16 rows after it. -/
theorem dpV_apply (Wg : FVec Ideal S128x128 .bf16) (dy : FVec Ideal S256x128 .f32) (dn : FVec Ideal S16x128 .f32)
    (s : Vec Ideal S1x128 .f32) (k : Fin 272) (c : Fin 128) (z : ℕ → Fin 128 → ℝ) (sr : Fin 128 → ℝ) (w : Fin 128 → ℝ)
    (hs : ∀ d, s (ix2 0 d) = (sr d : EReal)) (hw : ∀ d, Wg (ix2 c d) = (w d : EReal))
    (hd : ∀ (r : Fin 256) d, dy (ix2 r d) = (z r.val d : EReal)) (hn : ∀ (r : Fin 16) d, dn (ix2 r d) = (z (256 + r.val) d : EReal)) :
    dpV Wg dy dn s (ix2 k c) = ((∑ d : Fin 128, z k.val d * sr d * w d : ℝ) : EReal) := by
  pointwise [dpV]
  refine Reals.sum_eq_coe fun d _ => ?_
  rw [hw]
  by_cases hk : k.val < 256
  · rw [dif_pos hk, dzV_apply dy s _ d _ _ (hd ⟨k.val, hk⟩ d) (hs d)]
    norm_cast
  · rw [dif_neg hk, hn ⟨k.val - 256, by omega⟩ d, hs]
    dsimp only
    rw [show 256 + (k.val - 256) = k.val by omega]
    norm_cast

theorem duV_apply (w a : ℕ) (hw0 : 0 < w) (hw : w ≤ 16) (ha : a < 32) (i : grid0.Coords) (hi : (i 0).val = a) (dp : FVec Ideal S272x128 .f32) (q : ℕ → ℝ)
    (r : Fin 256) (c : Fin 128) (hq : ∀ k : Fin 272, dp (ix2 k c) = (q (256 * a + k.val) : EReal)) :
    duV (BitVec.ofNat 32 w) (k0_pay6 i) dp (ix2 r c) = (Pool.meanGrad w q (256 * a + r.val) : EReal) := by
  pointwise [duV]
  rw [bandSumV_apply _ _ r c _ (fun j => q (256 * a + j.val) * (1 / Pool.cnt w (256 * a + j.val))) (fun j => bandV_ahead w hw r j)
    (fun j => by
      pointwise [k0_pay6]
      have h1 : IntOp.addi (Scalar.muli (BitVec.ofNat 32 (i 0).val) 256#32) (BitVec.ofNat 32 j.val)
          = BitVec.ofNat 32 (256 * a + j.val) := by
        rw [hi]; apply BitVec.eq_of_toNat_eq; simp [IntOp.addi, Scalar.muli, IntOp.muli, Nat.mul_comm]
      rw [h1, count_word w _ hw (by omega), recip_coe w _ hw0, hq]
      norm_cast)]
  rw [Pool.sum_next_mask w (256 * a) r.val r.isLt hw (fun p => q p * (1 / Pool.cnt w p)), hq ⟨r.val, by omega⟩]
  unfold Pool.meanGrad
  norm_cast

theorem gwV_apply (p : FVec Ideal S256x128 .bf16) (dz : FVec Ideal S256x128 .f32) (old : Vec Ideal S1x128x128 .f32)
    (c d : Fin 128) (x : ℝ) (pr zr : ℕ → ℝ) (hx : old (ix3 0 c d) = (x : EReal)) (hp : ∀ r : Fin 256, p (ix2 r c) = (pr r.val : EReal))
    (hz : ∀ r : Fin 256, dz (ix2 r d) = (zr r.val : EReal)) :
    gwV p dz old (ix3 0 c d) = ((x + ∑ r : Fin 256, pr r.val * zr r.val : ℝ) : EReal) := by
  pointwise [gwV]
  rw [hx, Reals.sum_eq_coe (g := fun r : Fin 256 => pr r.val * zr r.val) (fun r _ => by rw [hp, hz]; norm_cast)]
  norm_cast

theorem gsV_apply (p : FVec Ideal S256x128 .bf16) (Wg : FVec Ideal S128x128 .bf16) (dy : FVec Ideal S256x128 .f32)
    (old : Vec Ideal S1x128 .f32) (d : Fin 128) (x : ℝ) (pr : ℕ → ℕ → ℝ) (wr : ℕ → ℝ) (yr : ℕ → ℝ)
    (hx : old (ix2 0 d) = (x : EReal)) (hp : ∀ (r : Fin 256) (c : Fin 128), p (ix2 r c) = (pr r.val c.val : EReal))
    (hw : ∀ c : Fin 128, Wg (ix2 c d) = (wr c.val : EReal)) (hy : ∀ r : Fin 256, dy (ix2 r d) = (yr r.val : EReal)) :
    gsV p Wg dy old (ix2 0 d) = ((x + ∑ r : Fin 256, yr r.val * ∑ c : Fin 128, pr r.val c.val * wr c.val : ℝ) : EReal) := by
  pointwise [gsV]
  rw [hx, Reals.sum_eq_coe (g := fun r : Fin 256 => yr r.val * ∑ c : Fin 128, pr r.val c.val * wr c.val) (fun r _ => by
    rw [hy, Reals.sum_eq_coe (g := fun c : Fin 128 => pr r.val c.val * wr c.val) (fun c _ => by rw [hp, hw]; norm_cast)]
    norm_cast)]
  norm_cast

end Cert.KernelIdeal.Pool

end
-- ==== Proof.Pool.Body.lean ====
/-
  What one run of the pooling gradient's body leaves in its three output buffers, group by group.
-/
module

public import proofs.«01_k».proof.Proof.Pool.Group
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.Pool

open Cert.KernelIdeal Cert.KernelIdeal.Gen

variable {F : FTy → Type} [FloatOps F]

/-! ## Arrays put together from the four groups -/

/-- Columns `128 g …` from `f g`. -/
def byCols {α : Type} {R : ℕ} (f : Fin 4 → (⟨2, ![R, 128]⟩ : Shape).Idx → α) (y : (⟨2, ![R, 512]⟩ : Shape).Idx) : α :=
  f ⟨(y 1).val / 128, by have : (y 1).val < 512 := (y 1).isLt; omega⟩ (ix2 (y 0) ⟨(y 1).val % 128, Nat.mod_lt _ (by omega)⟩)

theorem byCols_emb {α : Type} {R : ℕ} (f : Fin 4 → (⟨2, ![R, 128]⟩ : Shape).Idx → α) (g : Fin 4) (o : ℕ) (ho : o = 128 * g.val)
    (inb) (x : (⟨2, ![R, 128]⟩ : Shape).Idx) :
    byCols f ((Rect.unit (s := ⟨2, ![R, 512]⟩) ![0, o] ![R, 128] inb).emb x) = f g x := by
  subst ho
  have h1 : (x 1).val < 128 := (x 1).isLt
  have e1 : ((Rect.unit (s := ⟨2, ![R, 512]⟩) ![0, 128 * g.val] ![R, 128] inb).emb x 1).val = 128 * g.val + (x 1).val := by
    show 128 * g.val + 1 * (x 1).val = _; omega
  have e0 : (Rect.unit (s := ⟨2, ![R, 512]⟩) ![0, 128 * g.val] ![R, 128] inb).emb x 0 = x 0 := Fin.ext (by
    show 0 + 1 * (x 0).val = _; omega)
  unfold byCols
  congr 1
  · exact Fin.ext ((congrArg (· / 128) e1).trans (by dsimp only; omega))
  · funext a
    match a with
    | ⟨0, _⟩ => exact e0
    | ⟨1, _⟩ => exact Fin.ext ((congrArg (· % 128) e1).trans (by show (128 * g.val + (x 1).val) % 128 = (x 1).val; omega))

/-- Slab `g` from `f g`. -/
def bySlab {α : Type} (f : Fin 4 → S1x128x128.Idx → α) (y : S4x128x128.Idx) : α := f (y 0) (ix3 0 (y 1) (y 2))

theorem bySlab_emb {α : Type} (f : Fin 4 → S1x128x128.Idx → α) (g : Fin 4) (o : ℕ) (ho : o = g.val) (inb) (x : S1x128x128.Idx) :
    bySlab f ((Rect.unit (s := S4x128x128) ![o, 0, 0] ![1, 128, 128] inb).emb x) = f g x := by
  subst ho
  have h0 : (x 0).val = 0 := by have : (x 0).val < 1 := (x 0).isLt; omega
  unfold bySlab
  congr 1
  · exact Fin.ext (by show g.val + 1 * (x 0).val = _; omega)
  · funext a
    match a with
    | ⟨0, _⟩ => exact Fin.ext h0.symm
    | ⟨1, _⟩ => exact Fin.ext ((Nat.zero_add _).trans (Nat.one_mul _))
    | ⟨2, _⟩ => exact Fin.ext ((Nat.zero_add _).trans (Nat.one_mul _))

theorem mem_cols {R : ℕ} (y : (⟨2, ![R, 512]⟩ : Shape).Idx) (o : ℕ) (inb) (h : o ≤ (y 1).val ∧ (y 1).val < o + 128) :
    y ∈ (Rect.unit (s := ⟨2, ![R, 512]⟩) ![0, o] ![R, 128] inb).set := by
  rw [Rect.mem_set_unit]
  exact Fin.forall_fin_two.mpr ⟨⟨Nat.zero_le _, lt_of_lt_of_eq (y 0).isLt (Nat.zero_add R).symm⟩, h⟩

theorem mem_slab (y : S4x128x128.Idx) (o : ℕ) (inb) (h : (y 0).val = o) :
    y ∈ (Rect.unit (s := S4x128x128) ![o, 0, 0] ![1, 128, 128] inb).set := by
  rw [Rect.mem_set_unit]
  intro a
  match a with
  | ⟨0, _⟩ => exact ⟨h.ge, by show (y 0).val < o + 1; omega⟩
  | ⟨1, _⟩ => exact ⟨Nat.zero_le _, lt_of_lt_of_eq (y 1).isLt (Nat.zero_add 128).symm⟩
  | ⟨2, _⟩ => exact ⟨Nat.zero_le _, lt_of_lt_of_eq (y 2).isLt (Nat.zero_add 128).symm⟩

/-- Four stores that are blocks of `G`, over any earlier stores, leave `G` where one of them covers. -/
theorem canon4 {S : Shape} {e : EltTy} (G : S.Idx → Elt F e) (p3 p2 p1 p0 : View.Piece (Elt F) S e) (L : List (View.Piece (Elt F) S e))
    (y : S.Idx) (h3 : ∀ x, p3.2 x = G (p3.1.emb x)) (h2 : ∀ x, p2.2 x = G (p2.1.emb x)) (h1 : ∀ x, p1.2 x = G (p1.1.emb x))
    (h0 : ∀ x, p0.2 x = G (p0.1.emb x)) (h : y ∈ p0.1.set ∨ y ∈ p1.1.set ∨ y ∈ p2.1.set ∨ y ∈ p3.1.set) :
    View.canon (p3 :: p2 :: p1 :: p0 :: L) y = G y := by
  refine View.canon_append_of_piecesOf G L [p3, p2, p1, p0] ⟨h3, h2, h1, h0, trivial⟩ y ?_
  rcases h with h | h | h | h
  · exact ⟨p0, .tail _ (.tail _ (.tail _ (.head _))), h⟩
  · exact ⟨p1, .tail _ (.tail _ (.head _)), h⟩
  · exact ⟨p2, .tail _ (.head _), h⟩
  · exact ⟨p3, .head _, h⟩

theorem cover_cols {R : ℕ} (y : (⟨2, ![R, 512]⟩ : Shape).Idx) (i0 i1 i2 i3) :
    y ∈ (Rect.unit (s := ⟨2, ![R, 512]⟩) ![0, 0] ![R, 128] i0).set ∨ y ∈ (Rect.unit (s := ⟨2, ![R, 512]⟩) ![0, 128] ![R, 128] i1).set
      ∨ y ∈ (Rect.unit (s := ⟨2, ![R, 512]⟩) ![0, 256] ![R, 128] i2).set
      ∨ y ∈ (Rect.unit (s := ⟨2, ![R, 512]⟩) ![0, 384] ![R, 128] i3).set := by
  have h : (y 1).val < 512 := (y 1).isLt
  rcases (by omega : (y 1).val < 128 ∨ (128 ≤ (y 1).val ∧ (y 1).val < 256) ∨ (256 ≤ (y 1).val ∧ (y 1).val < 384) ∨ 384 ≤ (y 1).val) with
    h | h | h | h
  · exact .inl (mem_cols y 0 _ (by omega))
  · exact .inr (.inl (mem_cols y 128 _ (by omega)))
  · exact .inr (.inr (.inl (mem_cols y 256 _ (by omega))))
  · exact .inr (.inr (.inr (mem_cols y 384 _ (by omega))))

theorem cover_slabs (y : S4x128x128.Idx) (i0 i1 i2 i3) :
    y ∈ (Rect.unit (s := S4x128x128) ![0, 0, 0] ![1, 128, 128] i0).set ∨ y ∈ (Rect.unit (s := S4x128x128) ![1, 0, 0] ![1, 128, 128] i1).set
      ∨ y ∈ (Rect.unit (s := S4x128x128) ![2, 0, 0] ![1, 128, 128] i2).set
      ∨ y ∈ (Rect.unit (s := S4x128x128) ![3, 0, 0] ![1, 128, 128] i3).set := by
  have h : (y 0).val < 4 := (y 0).isLt
  rcases (by omega : (y 0).val = 0 ∨ (y 0).val = 1 ∨ (y 0).val = 2 ∨ (y 0).val = 3) with h | h | h | h
  · exact .inl (mem_slab y 0 _ h)
  · exact .inr (.inl (mem_slab y 1 _ h))
  · exact .inr (.inr (.inl (mem_slab y 2 _ h)))
  · exact .inr (.inr (.inr (mem_slab y 3 _ h)))

/-! ## A group's arguments -/

/-- The window's length of group `g`. -/
def lenV (g : Fin 4) : BitVec 32 := match g with | 0 => 2#32 | 1 => 4#32 | 2 => 8#32 | 3 => 16#32

/-- A group's channel mix. -/
def mixV (g : Fin 4) (x : Vec F S4x128x128 .f32) : Vec F S1x128x128 .f32 := match g with
  | 0 => View.ld x (Rect.unit ![0, 0, 0] ![1, 128, 128] inb_S4x128x128_S1x128x128_0_0_0)
  | 1 => View.ld x (Rect.unit ![1, 0, 0] ![1, 128, 128] inb_S4x128x128_S1x128x128_1_0_0)
  | 2 => View.ld x (Rect.unit ![2, 0, 0] ![1, 128, 128] inb_S4x128x128_S1x128x128_2_0_0)
  | 3 => View.ld x (Rect.unit ![3, 0, 0] ![1, 128, 128] inb_S4x128x128_S1x128x128_3_0_0)

/-- A group's 128 columns of a row. -/
def rowV (g : Fin 4) (x : Vec F S1x512 .f32) : Vec F S1x128 .f32 := match g with
  | 0 => View.ld x (Rect.unit ![0, 0] ![1, 128] inb_S1x512_S1x128_0_0)
  | 1 => View.ld x (Rect.unit ![0, 128] ![1, 128] inb_S1x512_S1x128_0_128)
  | 2 => View.ld x (Rect.unit ![0, 256] ![1, 128] inb_S1x512_S1x128_0_256)
  | 3 => View.ld x (Rect.unit ![0, 384] ![1, 128] inb_S1x512_S1x128_0_384)

variable (c : Dev nD) (i : grid0.Coords) (a1 : Memref sig .tc .vmem S256x512 .f32) (h1 : a1.IsWhole)
  (a2 : Memref sig .tc .vmem S16x512 .f32) (h2 : a2.IsWhole) (a3 : Memref sig .tc .vmem S256x512 .f32) (h3 : a3.IsWhole)
  (a4 : Memref sig .tc .vmem S16x512 .f32) (h4 : a4.IsWhole) (a5 : Memref sig .tc .vmem S4x128x128 .f32) (h5 : a5.IsWhole)
  (a6 : Memref sig .tc .vmem S1x512 .f32) (h6 : a6.IsWhole) (a7 : Memref sig .tc .vmem S256x512 .bf16) (h7 : a7.IsWhole)
  (a8 : Memref sig .tc .vmem S4x128x128 .f32) (h8 : a8.IsWhole) (a9 : Memref sig .tc .vmem S1x512 .f32) (h9 : a9.IsWhole)
  (x0 : Vec F S256x512 .f32) (x1 : Vec F S16x512 .f32) (x2 : Vec F S256x512 .f32) (x3 : Vec F S16x512 .f32)
  (x4 : Vec F S4x128x128 .f32) (x5 : Vec F S1x512 .f32) (o7 : Vec F S4x128x128 .f32) (o8 : Vec F S1x512 .f32)

/-- A group's pooled input on the tile of point `i`. -/
def pooledT (g : Fin 4) : FVec F S256x128 .bf16 :=
  pooledV (lenV g) (BitVec.ofNat 32 (i 0).val) (colsV g x0) (edgeV g (k0_pay4 i x1))

/-- A group's gradient of the input on the tile of point `i`. -/
def duT (g : Fin 4) : FVec F S256x128 .bf16 :=
  duV (lenV g) (k0_pay6 i) (dpV (k0_pay7 (mixV g x4)) (colsV g x2) (edgeV g (k0_pay5 i x3)) (rowV g x5))

/-- A group's gradient of the channel mix after point `i`. -/
def gwT (g : Fin 4) (old : Vec F S1x128x128 .f32) : FVec F S1x128x128 .f32 :=
  gwV (pooledT i x0 x1 g) (dzV (colsV g x2) (rowV g x5)) old

/-- A group's gradient of the scale after point `i`. -/
def gsT (g : Fin 4) (old : Vec F S1x128 .f32) : FVec F S1x128 .f32 :=
  gsV (pooledT i x0 x1 g) (k0_pay7 (mixV g x4)) (colsV g x2) old

theorem hz2 : (![0, 0] : Fin 2 → Nat) = fun _ => 0 := funext fun a => by fin_cases a <;> rfl

/-- The first point leaves the gradient of the input on its tile. -/
theorem out_A6 (hc : cond0_0 i) :
    out0_A_6 c i a1 h1 a2 h2 a3 h3 a4 h4 a5 h5 a6 h6 a7 h7 a8 h8 a9 h9 hc x0 x1 x2 x3 x4 x5
      = byCols (duT i x2 x3 x4 x5) := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  simp (disch := first | rfl | decide) only [↓View.readCov_skip, View.readCov_fill, View.readAt_eq_ld, h1.read_unread, h2.read_unread, h3.read_unread, h4.read_unread,
    h5.read_unread, h6.read_unread, h8.read_unread, h9.read_unread, View.ld_unit_zero (S := S256x512) hz2, View.ld_unit_zero (S := S16x512) hz2]
  funext y
  refine canon4 _ _ _ _ _ _ y (fun x => ?_) (fun x => ?_) (fun x => ?_) (fun x => ?_) ?_
  rotate_left 4
  · exact cover_cols y inb_S256x512_S256x128_0_0 inb_S256x512_S256x128_0_128 inb_S256x512_S256x128_0_256 inb_S256x512_S256x128_0_384
  · exact (byCols_emb (duT i x2 x3 x4 x5) 3 384 rfl inb_S256x512_S256x128_0_384 x).symm
  · exact (byCols_emb (duT i x2 x3 x4 x5) 2 256 rfl inb_S256x512_S256x128_0_256 x).symm
  · exact (byCols_emb (duT i x2 x3 x4 x5) 1 128 rfl inb_S256x512_S256x128_0_128 x).symm
  · exact (byCols_emb (duT i x2 x3 x4 x5) 0 0 rfl inb_S256x512_S256x128_0_0 x).symm

/-- The first point leaves the channel mix's gradient, begun from zero. -/
theorem out_A7 (hc : cond0_0 i) :
    out0_A_7 c i a1 h1 a2 h2 a3 h3 a4 h4 a5 h5 a6 h6 a7 h7 a8 h8 a9 h9 hc x0 x1 x2 x3 x4 x5
      = bySlab (fun g => gwT i x0 x1 x2 x5 g (fun _ => Scalar.ofBits .f32 0x00000000#32)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  simp (disch := first | rfl | decide) only [↓View.readCov_skip, View.readCov_fill, View.readAt_eq_ld, h1.read_unread, h2.read_unread, h3.read_unread, h4.read_unread,
    h5.read_unread, h6.read_unread, h8.read_unread, h9.read_unread, View.ld_unit_zero (S := S256x512) hz2, View.ld_unit_zero (S := S16x512) hz2]
  funext y
  refine canon4 _ _ _ _ _ _ y (fun x => ?_) (fun x => ?_) (fun x => ?_) (fun x => ?_) ?_
  rotate_left 4
  · exact cover_slabs y inb_S4x128x128_S1x128x128_0_0_0 inb_S4x128x128_S1x128x128_1_0_0 inb_S4x128x128_S1x128x128_2_0_0 inb_S4x128x128_S1x128x128_3_0_0
  · exact (bySlab_emb (fun g => gwT i x0 x1 x2 x5 g (fun _ => Scalar.ofBits .f32 0x00000000#32)) 3 3 rfl inb_S4x128x128_S1x128x128_3_0_0 x).symm
  · exact (bySlab_emb (fun g => gwT i x0 x1 x2 x5 g (fun _ => Scalar.ofBits .f32 0x00000000#32)) 2 2 rfl inb_S4x128x128_S1x128x128_2_0_0 x).symm
  · exact (bySlab_emb (fun g => gwT i x0 x1 x2 x5 g (fun _ => Scalar.ofBits .f32 0x00000000#32)) 1 1 rfl inb_S4x128x128_S1x128x128_1_0_0 x).symm
  · exact (bySlab_emb (fun g => gwT i x0 x1 x2 x5 g (fun _ => Scalar.ofBits .f32 0x00000000#32)) 0 0 rfl inb_S4x128x128_S1x128x128_0_0_0 x).symm

/-- The first point leaves the scale's gradient, begun from zero. -/
theorem out_A8 (hc : cond0_0 i) :
    out0_A_8 c i a1 h1 a2 h2 a3 h3 a4 h4 a5 h5 a6 h6 a7 h7 a8 h8 a9 h9 hc x0 x1 x2 x3 x4 x5
      = byCols (fun g => gsT i x0 x1 x2 x4 g (fun _ => Scalar.ofBits .f32 0x00000000#32)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  simp (disch := first | rfl | decide) only [↓View.readCov_skip, View.readCov_fill, View.readAt_eq_ld, h1.read_unread, h2.read_unread, h3.read_unread, h4.read_unread,
    h5.read_unread, h6.read_unread, h8.read_unread, h9.read_unread, View.ld_unit_zero (S := S256x512) hz2, View.ld_unit_zero (S := S16x512) hz2]
  funext y
  refine canon4 _ _ _ _ _ _ y (fun x => ?_) (fun x => ?_) (fun x => ?_) (fun x => ?_) ?_
  rotate_left 4
  · exact cover_cols y inb_S1x512_S1x128_0_0 inb_S1x512_S1x128_0_128 inb_S1x512_S1x128_0_256 inb_S1x512_S1x128_0_384
  · exact (byCols_emb (fun g => gsT i x0 x1 x2 x4 g (fun _ => Scalar.ofBits .f32 0x00000000#32)) 3 384 rfl inb_S1x512_S1x128_0_384 x).symm
  · exact (byCols_emb (fun g => gsT i x0 x1 x2 x4 g (fun _ => Scalar.ofBits .f32 0x00000000#32)) 2 256 rfl inb_S1x512_S1x128_0_256 x).symm
  · exact (byCols_emb (fun g => gsT i x0 x1 x2 x4 g (fun _ => Scalar.ofBits .f32 0x00000000#32)) 1 128 rfl inb_S1x512_S1x128_0_128 x).symm
  · exact (byCols_emb (fun g => gsT i x0 x1 x2 x4 g (fun _ => Scalar.ofBits .f32 0x00000000#32)) 0 0 rfl inb_S1x512_S1x128_0_0 x).symm

/-- A later point leaves the gradient of the input on its tile. -/
theorem out_B6 (hc : ¬cond0_0 i) :
    out0_B_6 c i a1 h1 a2 h2 a3 h3 a4 h4 a5 h5 a6 h6 a7 h7 a8 h8 a9 h9 hc x0 x1 x2 x3 x4 x5 o7 o8
      = byCols (duT i x2 x3 x4 x5) := by
  unfold out0_B_6
  rw [View.read_writes_eq_canon _ _ _ (cover0_B_6 c i a1 h1 a2 h2 a3 h3 a4 h4 a5 h5 a6 h6 a7 h7 a8 h8 a9 h9 hc x0 x1 x2 x3 x4 x5 o7 o8)]
  unfold kernelRun0_B
  dsimp only
  sl_unfold_words
  simp (disch := first | rfl | decide) only [↓View.readCov_skip, View.readCov_fill, View.readAt_eq_ld, h1.read_unread, h2.read_unread, h3.read_unread, h4.read_unread,
    h5.read_unread, h6.read_unread, h8.read_unread, h9.read_unread, View.ld_unit_zero (S := S256x512) hz2, View.ld_unit_zero (S := S16x512) hz2]
  funext y
  refine canon4 _ _ _ _ _ _ y (fun x => ?_) (fun x => ?_) (fun x => ?_) (fun x => ?_) ?_
  rotate_left 4
  · exact cover_cols y inb_S256x512_S256x128_0_0 inb_S256x512_S256x128_0_128 inb_S256x512_S256x128_0_256 inb_S256x512_S256x128_0_384
  · exact (byCols_emb (duT i x2 x3 x4 x5) 3 384 rfl inb_S256x512_S256x128_0_384 x).symm
  · exact (byCols_emb (duT i x2 x3 x4 x5) 2 256 rfl inb_S256x512_S256x128_0_256 x).symm
  · exact (byCols_emb (duT i x2 x3 x4 x5) 1 128 rfl inb_S256x512_S256x128_0_128 x).symm
  · exact (byCols_emb (duT i x2 x3 x4 x5) 0 0 rfl inb_S256x512_S256x128_0_0 x).symm

/-- A later point leaves the channel mix's gradient, added to what the point before left. -/
theorem out_B7 (hc : ¬cond0_0 i) :
    out0_B_7 c i a1 h1 a2 h2 a3 h3 a4 h4 a5 h5 a6 h6 a7 h7 a8 h8 a9 h9 hc x0 x1 x2 x3 x4 x5 o7 o8
      = bySlab (fun g => gwT i x0 x1 x2 x5 g (mixV g o7)) := by
  unfold out0_B_7
  rw [View.read_writes_eq_canon _ _ _ (cover0_B_7 c i a1 h1 a2 h2 a3 h3 a4 h4 a5 h5 a6 h6 a7 h7 a8 h8 a9 h9 hc x0 x1 x2 x3 x4 x5 o7 o8)]
  unfold kernelRun0_B
  dsimp only
  sl_unfold_words
  simp (disch := first | rfl | decide) only [↓View.readCov_skip, View.readCov_fill, View.readAt_eq_ld, h1.read_unread, h2.read_unread, h3.read_unread, h4.read_unread,
    h5.read_unread, h6.read_unread, h8.read_unread, h9.read_unread, View.ld_unit_zero (S := S256x512) hz2, View.ld_unit_zero (S := S16x512) hz2]
  funext y
  refine canon4 _ _ _ _ _ _ y (fun x => ?_) (fun x => ?_) (fun x => ?_) (fun x => ?_) ?_
  rotate_left 4
  · exact cover_slabs y inb_S4x128x128_S1x128x128_0_0_0 inb_S4x128x128_S1x128x128_1_0_0 inb_S4x128x128_S1x128x128_2_0_0 inb_S4x128x128_S1x128x128_3_0_0
  · exact (bySlab_emb (fun g => gwT i x0 x1 x2 x5 g (mixV g o7)) 3 3 rfl inb_S4x128x128_S1x128x128_3_0_0 x).symm
  · exact (bySlab_emb (fun g => gwT i x0 x1 x2 x5 g (mixV g o7)) 2 2 rfl inb_S4x128x128_S1x128x128_2_0_0 x).symm
  · exact (bySlab_emb (fun g => gwT i x0 x1 x2 x5 g (mixV g o7)) 1 1 rfl inb_S4x128x128_S1x128x128_1_0_0 x).symm
  · exact (bySlab_emb (fun g => gwT i x0 x1 x2 x5 g (mixV g o7)) 0 0 rfl inb_S4x128x128_S1x128x128_0_0_0 x).symm

/-- A later point leaves the scale's gradient, added to what the point before left. -/
theorem out_B8 (hc : ¬cond0_0 i) :
    out0_B_8 c i a1 h1 a2 h2 a3 h3 a4 h4 a5 h5 a6 h6 a7 h7 a8 h8 a9 h9 hc x0 x1 x2 x3 x4 x5 o7 o8
      = byCols (fun g => gsT i x0 x1 x2 x4 g (rowV g o8)) := by
  unfold out0_B_8
  rw [View.read_writes_eq_canon _ _ _ (cover0_B_8 c i a1 h1 a2 h2 a3 h3 a4 h4 a5 h5 a6 h6 a7 h7 a8 h8 a9 h9 hc x0 x1 x2 x3 x4 x5 o7 o8)]
  unfold kernelRun0_B
  dsimp only
  sl_unfold_words
  simp (disch := first | rfl | decide) only [↓View.readCov_skip, View.readCov_fill, View.readAt_eq_ld, h1.read_unread, h2.read_unread, h3.read_unread, h4.read_unread,
    h5.read_unread, h6.read_unread, h8.read_unread, h9.read_unread, View.ld_unit_zero (S := S256x512) hz2, View.ld_unit_zero (S := S16x512) hz2]
  funext y
  refine canon4 _ _ _ _ _ _ y (fun x => ?_) (fun x => ?_) (fun x => ?_) (fun x => ?_) ?_
  rotate_left 4
  · exact cover_cols y inb_S1x512_S1x128_0_0 inb_S1x512_S1x128_0_128 inb_S1x512_S1x128_0_256 inb_S1x512_S1x128_0_384
  · exact (byCols_emb (fun g => gsT i x0 x1 x2 x4 g (rowV g o8)) 3 384 rfl inb_S1x512_S1x128_0_384 x).symm
  · exact (byCols_emb (fun g => gsT i x0 x1 x2 x4 g (rowV g o8)) 2 256 rfl inb_S1x512_S1x128_0_256 x).symm
  · exact (byCols_emb (fun g => gsT i x0 x1 x2 x4 g (rowV g o8)) 1 128 rfl inb_S1x512_S1x128_0_128 x).symm
  · exact (byCols_emb (fun g => gsT i x0 x1 x2 x4 g (rowV g o8)) 0 0 rfl inb_S1x512_S1x128_0_0 x).symm

end Cert.KernelIdeal.Pool

end
-- ==== Proof.Pool.Group2.lean ====
/-
  A group's expressions on one tile, in real numbers: where the blocks hold real entries, they are the gradient's sums.
-/
module

public import proofs.«01_k».proof.Proof.Pool.Tile
public import proofs.«01_k».proof.Proof.Pool.Body

@[expose] public section

set_option maxRecDepth 16384

noncomputable section

open Idealize.ShloMosaic

namespace Cert.KernelIdeal.Pool

open Cert.KernelIdeal Cert.KernelIdeal.Gen

theorem lenV_eq (g : Fin 4) : lenV g = BitVec.ofNat 32 (2 ^ (g.val + 1)) := by fin_cases g <;> rfl

theorem len_le (g : Fin 4) : 2 ^ (g.val + 1) ≤ 16 := by fin_cases g <;> decide

/-- A column of a group, as a column of the whole row. -/
abbrev col (g : Fin 4) (c : Fin 128) : Fin 512 := ⟨128 * g.val + c.val, by omega⟩

theorem colsV_apply (g : Fin 4) (v : Vec Ideal S256x512 .f32) (r : Fin 256) (c : Fin 128) : colsV g v (ix2 r c) = v (ix2 r (col g c)) := by
  fin_cases g <;> (pointwise [colsV] <;> exact congrArg v (congrArg (ix2 _) (Fin.ext (by simp))))

theorem edgeV_apply (g : Fin 4) (v : Vec Ideal S16x512 .f32) (r : Fin 16) (c : Fin 128) : edgeV g v (ix2 r c) = v (ix2 r (col g c)) := by
  fin_cases g <;> (pointwise [edgeV] <;> exact congrArg v (congrArg (ix2 _) (Fin.ext (by simp))))

theorem rowV_apply (g : Fin 4) (v : Vec Ideal S1x512 .f32) (c : Fin 128) : rowV g v (ix2 0 c) = v (ix2 0 (col g c)) := by
  fin_cases g <;> (pointwise [rowV] <;> exact congrArg v (congrArg (ix2 _) (Fin.ext (by simp))))

theorem mixV_apply (g : Fin 4) (v : Vec Ideal S4x128x128 .f32) (c d : Fin 128) : mixV g v (ix3 0 c d) = v (ix3 g c d) := by
  fin_cases g <;> pointwise [mixV]

theorem pay7_apply (x : Vec Ideal S1x128x128 .f32) (c d : Fin 128) : k0_pay7 x (ix2 c d) = x (ix3 0 c d) := by
  pointwise [k0_pay7]

theorem pay4_apply (t : ℕ) (ht : t < 32) (i : grid0.Coords) (hi : (i 0).val = t) (x1 : Vec Ideal S16x512 .f32) (j : Fin 16) (C : Fin 512) :
    k0_pay4 i x1 (ix2 j C) = if 0 < t then x1 (ix2 j C) else 0 := by
  pointwise [k0_pay4]
  have h : Scalar.cmpi .sgt (BitVec.ofNat 32 (i 0).val) 0#32 = BitVec.ofBool (decide (0 < t)) := by
    show IntOp.cmpi .sgt _ _ = _
    rw [WordCmp.cmpi_sgt_eq, hi, word_toInt t (by omega), show (0#32 : BitVec 32).toInt = 0 from rfl]
    congr 2; exact propext (by omega)
  rw [h]
  unfold Scalar.select
  by_cases h0 : 0 < t <;> simp [h0]

theorem pay5_apply (t : ℕ) (ht : t < 32) (i : grid0.Coords) (hi : (i 0).val = t) (x3 : Vec Ideal S16x512 .f32) (j : Fin 16) (C : Fin 512) :
    k0_pay5 i x3 (ix2 j C) = if t < 31 then x3 (ix2 j C) else 0 := by
  pointwise [k0_pay5]
  have h : Scalar.cmpi .slt (BitVec.ofNat 32 (i 0).val) 31#32 = BitVec.ofBool (decide (t < 31)) := by
    show IntOp.cmpi .slt _ _ = _
    rw [WordCmp.cmpi_slt_eq, hi, word_toInt t (by omega), show (31#32 : BitVec 32).toInt = 31 from rfl]
    congr 2; exact propext (by omega)
  rw [h]
  unfold Scalar.select
  by_cases h0 : t < 31 <;> simp [h0]

/-! ## The tile of point `t`, over blocks that hold the real entries -/

variable (u dy : ℕ → ℕ → ℝ) (W : ℕ → ℕ → ℕ → ℝ) (s : ℕ → ℝ)
variable (t : ℕ) (ht : t < 32) (i : grid0.Coords) (hi : (i 0).val = t)
variable (x0 : Vec Ideal S256x512 .f32) (x1 : Vec Ideal S16x512 .f32) (x2 : Vec Ideal S256x512 .f32) (x3 : Vec Ideal S16x512 .f32)
  (x4 : Vec Ideal S4x128x128 .f32) (x5 : Vec Ideal S1x512 .f32)
variable (hx0 : ∀ r C, x0 (ix2 r C) = (u (256 * t + r.val) C.val : EReal))
  (hx1 : 0 < t → ∀ j C, x1 (ix2 j C) = (u (256 * t - 16 + j.val) C.val : EReal))
  (hx2 : ∀ r C, x2 (ix2 r C) = (dy (256 * t + r.val) C.val : EReal))
  (hx3 : t < 31 → ∀ j C, x3 (ix2 j C) = (dy (256 * t + 256 + j.val) C.val : EReal))
  (hx4 : ∀ g c d, x4 (ix3 g c d) = (W g.val c.val d.val : EReal)) (hx5 : ∀ C, x5 (ix2 0 C) = (s C.val : EReal))

include ht hi hx0 hx1 in
theorem pooledT_apply (g : Fin 4) (r : Fin 256) (c : Fin 128) :
    pooledT i x0 x1 g (ix2 r c) = (Pool.pooled u g.val (256 * t + r.val) c.val : EReal) := by
  unfold pooledT
  rw [lenV_eq, hi]
  refine pooledV_apply _ t (by positivity) (len_le g) ht _ _ (fun R => u R (128 * g.val + c.val)) r c (fun k => ?_) (fun k => ?_)
  · rw [colsV_apply, hx0]
  · rw [edgeV_apply, pay4_apply t ht i hi]
    unfold Pool.padded
    by_cases h0 : 0 < t
    · rw [if_pos h0, hx1 h0, if_neg (by omega)]
      congr 2; omega
    · rw [if_neg h0, if_pos (by omega)]; rfl

include ht hi hx2 hx3 hx4 hx5 in
theorem duT_apply (g : Fin 4) (r : Fin 256) (c : Fin 128) :
    duT i x2 x3 x4 x5 g (ix2 r c) = (Pool.du dy W s g.val (256 * t + r.val) c.val : EReal) := by
  unfold duT
  rw [lenV_eq]
  refine duV_apply _ t (by positivity) (len_le g) ht i hi _ (fun R => Pool.dp dy W s g.val R c.val) r c (fun k => ?_)
  rw [dpV_apply _ _ _ _ k c (fun k d => if 256 * t + k < 8192 then dy (256 * t + k) (128 * g.val + d.val) else 0)
    (fun d => s (128 * g.val + d.val)) (fun d => W g.val c.val d.val) (fun d => by rw [rowV_apply, hx5])
    (fun d => by rw [pay7_apply, mixV_apply, hx4]) (fun r d => by rw [colsV_apply, hx2, if_pos (by omega)])
    (fun j d => by
      rw [edgeV_apply, pay5_apply t ht i hi]
      by_cases h0 : t < 31
      · rw [if_pos h0, hx3 h0, if_pos (by omega), Nat.add_assoc]
      · rw [if_neg h0, if_neg (by omega)]; rfl)]
  unfold Pool.dp Pool.dz
  congr 1
  refine Finset.sum_congr rfl fun d _ => ?_
  split <;> simp

/-- A sum over the first rows, one tile further. -/
theorem sum_tile (f : ℕ → ℝ) (t : ℕ) :
    ∑ R ∈ Finset.range (256 * t), f R + ∑ r : Fin 256, f (256 * t + r.val) = ∑ R ∈ Finset.range (256 * (t + 1)), f R := by
  rw [Fin.sum_univ_eq_sum_range (fun r => f (256 * t + r)) 256, ← Finset.sum_range_add]; rfl

include ht hi hx0 hx1 hx2 hx5 in
theorem gwT_apply (g : Fin 4) (old : Vec Ideal S1x128x128 .f32) (c d : Fin 128)
    (ho : old (ix3 0 c d) = (Pool.gw u dy s (256 * t) g.val c.val d.val : EReal)) :
    gwT i x0 x1 x2 x5 g old (ix3 0 c d) = (Pool.gw u dy s (256 * (t + 1)) g.val c.val d.val : EReal) := by
  unfold gwT
  rw [gwV_apply _ _ _ c d _ (fun r => Pool.pooled u g.val (256 * t + r) c.val) (fun r => Pool.dz dy s g.val (256 * t + r) d.val) ho
    (fun r => pooledT_apply u t ht i hi x0 x1 hx0 hx1 g r c) (fun r => by
      rw [dzV_apply _ _ r d _ _ (by rw [colsV_apply, hx2]) (by rw [rowV_apply, hx5])]
      unfold Pool.dz
      rw [if_pos (by omega)])]
  congr 1
  exact sum_tile (fun R => Pool.pooled u g.val R c.val * Pool.dz dy s g.val R d.val) t

include ht hi hx0 hx1 hx2 hx4 in
theorem gsT_apply (g : Fin 4) (old : Vec Ideal S1x128 .f32) (d : Fin 128)
    (ho : old (ix2 0 d) = (Pool.gs u dy W (256 * t) g.val d.val : EReal)) :
    gsT i x0 x1 x2 x4 g old (ix2 0 d) = (Pool.gs u dy W (256 * (t + 1)) g.val d.val : EReal) := by
  unfold gsT
  rw [gsV_apply _ _ _ _ d _ (fun r c => Pool.pooled u g.val (256 * t + r) c) (fun c => W g.val c d.val)
    (fun r => dy (256 * t + r) (128 * g.val + d.val)) ho (fun r c => pooledT_apply u t ht i hi x0 x1 hx0 hx1 g r c)
    (fun c => by rw [pay7_apply, mixV_apply, hx4]) (fun r => by rw [colsV_apply, hx2])]
  congr 1
  exact sum_tile (fun R => dy R (128 * g.val + d.val) * ∑ c : Fin 128, Pool.pooled u g.val R c.val * W g.val c.val d.val) t

end Cert.KernelIdeal.Pool

end
-- ==== Proof.Pool.Arrays.lean ====
/-
  What the three result arrays hold after the grid's 32 points, over arguments with real entries.
-/
module

public import proofs.«01_k».proof.Proof.Pool.Group2
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.Pool

open Cert.KernelIdeal Cert.KernelIdeal.Gen

variable (m : (ℓ : Loc nD τ sig) → Buf (Elt Ideal) ℓ)

/-- The arguments hold these reals: the mixer's input in columns 1536… of `proj`, the cotangent in columns 512… of `dcat`. -/
structure Holds (c : Dev nD) (u dy : ℕ → ℕ → ℝ) (W : ℕ → ℕ → ℕ → ℝ) (s : ℕ → ℝ) : Prop where
  u_eq : ∀ (R : Fin 8192) (C : Fin 512),
    (m ((c : Thread nD τ).loc main_arg0) : Vec Ideal S8192x2048 .f32) (ix2 R ⟨1536 + C.val, by omega⟩) = (u R.val C.val : EReal)
  dy_eq : ∀ (R : Fin 8192) (C : Fin 512),
    (m ((c : Thread nD τ).loc main_arg1) : Vec Ideal S8192x1024 .f32) (ix2 R ⟨512 + C.val, by omega⟩) = (dy R.val C.val : EReal)
  W_eq : ∀ (g : Fin 4) (a b : Fin 128),
    (m ((c : Thread nD τ).loc main_arg2) : Vec Ideal S4x128x128 .f32) (ix3 g a b) = (W g.val a.val b.val : EReal)
  s_eq : ∀ C : Fin 512, (m ((c : Thread nD τ).loc main_arg3) : Vec Ideal S1x512 .f32) (ix2 0 C) = (s C.val : EReal)

/-! ## The windows' blocks -/

theorem coord (t : Fin cfg0.N) : (grid0.coords t 0).val = t.val :=
  (by decide +kernel : ∀ t : Fin grid0.N, (grid0.coords t 0).val = t.val) t

theorem idx0 (t : Fin cfg0.N) : win0_0.index t 0 = t.val ∧ win0_0.index t 1 = 3 :=
  (by decide +kernel : ∀ t : Fin grid0.N, win0_0.index t 0 = t.val ∧ win0_0.index t 1 = 3) t
theorem idx1 (t : Fin cfg0.N) : win0_1.index t 0 = 16 * t.val - 1 ∧ win0_1.index t 1 = 3 :=
  (by decide +kernel : ∀ t : Fin grid0.N, win0_1.index t 0 = 16 * t.val - 1 ∧ win0_1.index t 1 = 3) t
theorem idx2 (t : Fin cfg0.N) : win0_2.index t 0 = t.val ∧ win0_2.index t 1 = 1 :=
  (by decide +kernel : ∀ t : Fin grid0.N, win0_2.index t 0 = t.val ∧ win0_2.index t 1 = 1) t
theorem idx3 (t : Fin cfg0.N) : win0_3.index t 0 = min (16 * (t.val + 1)) 511 ∧ win0_3.index t 1 = 1 :=
  (by decide +kernel : ∀ t : Fin grid0.N, win0_3.index t 0 = min (16 * (t.val + 1)) 511 ∧ win0_3.index t 1 = 1) t
theorem idx4 (t : Fin cfg0.N) : ∀ a, win0_4.index t a = 0 :=
  (by decide +kernel : ∀ t : Fin grid0.N, ∀ a, win0_4.index t a = 0) t
theorem idx5 (t : Fin cfg0.N) : ∀ a, win0_5.index t a = 0 :=
  (by decide +kernel : ∀ t : Fin grid0.N, ∀ a, win0_5.index t a = 0) t
theorem idx6 (t : Fin cfg0.N) : win0_6.index t 0 = t.val ∧ win0_6.index t 1 = 0 :=
  (by decide +kernel : ∀ t : Fin grid0.N, win0_6.index t 0 = t.val ∧ win0_6.index t 1 = 0) t
theorem idx7 (t : Fin cfg0.N) : ∀ a, win0_7.index t a = 0 :=
  (by decide +kernel : ∀ t : Fin grid0.N, ∀ a, win0_7.index t a = 0) t
theorem idx8 (t : Fin cfg0.N) : ∀ a, win0_8.index t a = 0 :=
  (by decide +kernel : ∀ t : Fin grid0.N, ∀ a, win0_8.index t a = 0) t

variable {m} {c : Dev nD} {u dy : ℕ → ℕ → ℝ} {W : ℕ → ℕ → ℕ → ℝ} {s : ℕ → ℝ} (H : Holds m c u dy W s) (t : Fin cfg0.N)

include H

theorem blk0 (r : Fin 256) (C : Fin 512) : (iblk m c 0 t : Vec Ideal S256x512 .f32) (ix2 r C) = (u (256 * t.val + r.val) C.val : EReal) := by
  have hN : t.val < 32 := lt_of_lt_of_eq t.isLt N_0
  refine Eq.trans ?_ (H.u_eq ⟨256 * t.val + r.val, by omega⟩ C)
  unfold iblk
  rw [View.read_apply]
  show V m c main_arg0 _ = m (c.tc.loc main_arg0) _
  unfold V
  congr 1
  funext a
  apply Fin.ext
  match a with
  | ⟨0, _⟩ => show win0_0.index t 0 * 256 + 1 * r.val = 256 * t.val + r.val; rw [(idx0 t).1]; omega
  | ⟨1, _⟩ => show win0_0.index t 1 * 512 + 1 * C.val = 1536 + C.val; rw [(idx0 t).2]; omega

theorem blk1 (h0 : 0 < t.val) (j : Fin 16) (C : Fin 512) :
    (iblk m c 1 t : Vec Ideal S16x512 .f32) (ix2 j C) = (u (256 * t.val - 16 + j.val) C.val : EReal) := by
  have hN : t.val < 32 := lt_of_lt_of_eq t.isLt N_0
  refine Eq.trans ?_ (H.u_eq ⟨256 * t.val - 16 + j.val, by omega⟩ C)
  unfold iblk
  rw [View.read_apply]
  show V m c main_arg0 _ = m (c.tc.loc main_arg0) _
  unfold V
  congr 1
  funext a
  apply Fin.ext
  match a with
  | ⟨0, _⟩ => show win0_1.index t 0 * 16 + 1 * j.val = 256 * t.val - 16 + j.val; rw [(idx1 t).1]; omega
  | ⟨1, _⟩ => show win0_1.index t 1 * 512 + 1 * C.val = 1536 + C.val; rw [(idx1 t).2]; omega

theorem blk2 (r : Fin 256) (C : Fin 512) : (iblk m c 2 t : Vec Ideal S256x512 .f32) (ix2 r C) = (dy (256 * t.val + r.val) C.val : EReal) := by
  have hN : t.val < 32 := lt_of_lt_of_eq t.isLt N_0
  refine Eq.trans ?_ (H.dy_eq ⟨256 * t.val + r.val, by omega⟩ C)
  unfold iblk
  rw [View.read_apply]
  show V m c main_arg1 _ = m (c.tc.loc main_arg1) _
  unfold V
  congr 1
  funext a
  apply Fin.ext
  match a with
  | ⟨0, _⟩ => show win0_2.index t 0 * 256 + 1 * r.val = 256 * t.val + r.val; rw [(idx2 t).1]; omega
  | ⟨1, _⟩ => show win0_2.index t 1 * 512 + 1 * C.val = 512 + C.val; rw [(idx2 t).2]; omega

theorem blk3 (h0 : t.val < 31) (j : Fin 16) (C : Fin 512) :
    (iblk m c 3 t : Vec Ideal S16x512 .f32) (ix2 j C) = (dy (256 * t.val + 256 + j.val) C.val : EReal) := by
  refine Eq.trans ?_ (H.dy_eq ⟨256 * t.val + 256 + j.val, by omega⟩ C)
  unfold iblk
  rw [View.read_apply]
  show V m c main_arg1 _ = m (c.tc.loc main_arg1) _
  unfold V
  congr 1
  funext a
  apply Fin.ext
  match a with
  | ⟨0, _⟩ => show win0_3.index t 0 * 16 + 1 * j.val = 256 * t.val + 256 + j.val; rw [(idx3 t).1]; omega
  | ⟨1, _⟩ => show win0_3.index t 1 * 512 + 1 * C.val = 512 + C.val; rw [(idx3 t).2]; omega

theorem blk4 (g : Fin 4) (p q : Fin 128) : (iblk m c 4 t : Vec Ideal S4x128x128 .f32) (ix3 g p q) = (W g.val p.val q.val : EReal) := by
  refine Eq.trans ?_ (H.W_eq g p q)
  unfold iblk
  rw [View.read_apply]
  show V m c main_arg2 _ = m (c.tc.loc main_arg2) _
  unfold V
  congr 1
  funext a
  apply Fin.ext
  match a with
  | ⟨0, _⟩ => show win0_4.index t 0 * 4 + 1 * g.val = g.val; rw [idx4 t]; omega
  | ⟨1, _⟩ => show win0_4.index t 1 * 128 + 1 * p.val = p.val; rw [idx4 t]; omega
  | ⟨2, _⟩ => show win0_4.index t 2 * 128 + 1 * q.val = q.val; rw [idx4 t]; omega

theorem blk5 (C : Fin 512) : (iblk m c 5 t : Vec Ideal S1x512 .f32) (ix2 0 C) = (s C.val : EReal) := by
  refine Eq.trans ?_ (H.s_eq C)
  unfold iblk
  rw [View.read_apply]
  show V m c main_arg3 _ = m (c.tc.loc main_arg3) _
  unfold V
  congr 1
  funext a
  apply Fin.ext
  match a with
  | ⟨0, _⟩ => show win0_5.index t 0 * 1 + 1 * 0 = 0; rw [idx5 t]
  | ⟨1, _⟩ => show win0_5.index t 1 * 512 + 1 * C.val = C.val; rw [idx5 t]; omega

omit H

/-! ## The result arrays -/

variable (u dy W s)

/-- The gradient of the mixer's input. -/
def duA : S8192x512.Idx → EReal := fun y => (Pool.du dy W s ((y 1).val / 128) (y 0).val ((y 1).val % 128) : EReal)

/-- The gradient of the channel mixes over the first `n` rows. -/
def gwA (n : ℕ) : S4x128x128.Idx → EReal := fun y => (Pool.gw u dy s n (y 0).val (y 1).val (y 2).val : EReal)

/-- The gradient of the scale over the first `n` rows. -/
def gsA (n : ℕ) : S1x512.Idx → EReal := fun y => (Pool.gs u dy W n ((y 1).val / 128) ((y 1).val % 128) : EReal)

variable {u dy W s}
include H

theorem byCols_duT (r : Fin 256) (C : Fin 512) :
    byCols (duT (grid0.coords t) (iblk m c 2 t) (iblk m c 3 t) (iblk m c 4 t) (iblk m c 5 t)) (ix2 r C)
      = (Pool.du dy W s (C.val / 128) (256 * t.val + r.val) (C.val % 128) : EReal) := by
  have hN : t.val < 32 := lt_of_lt_of_eq t.isLt N_0
  exact duT_apply dy W s t.val hN (grid0.coords t) (coord t) _ _ _ _ (blk2 H t) (blk3 H t) (blk4 H t) (blk5 H t) ⟨C.val / 128, _⟩ r ⟨C.val % 128, _⟩

theorem bySlab_gwT (old : Fin 4 → Vec Ideal S1x128x128 .f32)
    (ho : ∀ g a b, old g (ix3 0 a b) = (Pool.gw u dy s (256 * t.val) g.val a.val b.val : EReal)) :
    bySlab (fun g => gwT (grid0.coords t) (iblk m c 0 t) (iblk m c 1 t) (iblk m c 2 t) (iblk m c 5 t) g (old g))
      = gwA u dy s (256 * (t.val + 1)) := by
  have hN : t.val < 32 := lt_of_lt_of_eq t.isLt N_0
  funext y
  exact gwT_apply u dy s t.val hN (grid0.coords t) (coord t) _ _ _ _ (blk0 H t) (blk1 H t) (blk2 H t) (blk5 H t) (y 0) _ (y 1) (y 2) (ho _ _ _)

theorem byCols_gsT (old : Fin 4 → Vec Ideal S1x128 .f32)
    (ho : ∀ g d, old g (ix2 0 d) = (Pool.gs u dy W (256 * t.val) g.val d.val : EReal)) :
    byCols (fun g => gsT (grid0.coords t) (iblk m c 0 t) (iblk m c 1 t) (iblk m c 2 t) (iblk m c 4 t) g (old g))
      = gsA u dy W (256 * (t.val + 1)) := by
  have hN : t.val < 32 := lt_of_lt_of_eq t.isLt N_0
  funext y
  have h1 : (y 1).val < 512 := (y 1).isLt
  have hy : (ix2 (y 0) ⟨(y 1).val % 128, Nat.mod_lt _ (by omega)⟩ : S1x128.Idx) = ix2 0 ⟨(y 1).val % 128, Nat.mod_lt _ (by omega)⟩ :=
    congrArg (fun a : Fin 1 => (ix2 a _ : S1x128.Idx)) (Subsingleton.elim (α := Fin 1) _ _)
  refine (congrArg (gsT (grid0.coords t) (iblk m c 0 t) (iblk m c 1 t) (iblk m c 2 t) (iblk m c 4 t)
    ⟨(y 1).val / 128, by omega⟩ (old ⟨(y 1).val / 128, by omega⟩)) hy).trans ?_
  exact gsT_apply u dy W t.val hN (grid0.coords t) (coord t) _ _ _ _ (blk0 H t) (blk1 H t) (blk2 H t) (blk4 H t) ⟨(y 1).val / 128, by omega⟩
    _ ⟨(y 1).val % 128, by omega⟩ (ho _ _)

/-- What the two running gradients hold after point `n`. -/
theorem outs_eq : ∀ (n : ℕ) (h : n < cfg0.N), (outsAt0 m c n h).2.1 = gwA u dy s (256 * (n + 1)) ∧ (outsAt0 m c n h).2.2 = gsA u dy W (256 * (n + 1))
  | 0, h => by
    rw [outsAt0_A m c ⟨0, h⟩ rfl]
    dsimp only
    rw [out_A7, out_A8]
    exact ⟨bySlab_gwT H ⟨0, h⟩ _ fun g a b => Ideal.ofBits_zero_f32.trans (by simp [Pool.gw]),
      byCols_gsT H ⟨0, h⟩ _ fun g d => Ideal.ofBits_zero_f32.trans (by simp [Pool.gs])⟩
  | n + 1, h => by
    have hN : n + 1 < 32 := lt_of_lt_of_eq h N_0
    obtain ⟨h7, h8⟩ := outs_eq n (Nat.lt_of_succ_lt h)
    rw [outsAt0_B m c ⟨n + 1, h⟩ (by dsimp only; omega)]
    dsimp only
    rw [out_B7, out_B8]
    refine ⟨bySlab_gwT H ⟨n + 1, h⟩ _ fun g a b => ?_, byCols_gsT H ⟨n + 1, h⟩ _ fun g d => ?_⟩
    · rw [mixV_apply]
      exact congrFun h7 (ix3 g a b)
    · rw [rowV_apply]
      refine (congrFun h8 (ix2 0 (col g d))).trans ?_
      show ((Pool.gs u dy W (256 * (n + 1)) ((128 * g.val + d.val) / 128) ((128 * g.val + d.val) % 128) : ℝ) : EReal) = _
      rw [show (128 * g.val + d.val) / 128 = g.val by omega, show (128 * g.val + d.val) % 128 = d.val by omega]

/-- The first result. -/
theorem final6 : (dats m 0 c).arrAt 6 cfg0.N = duA dy W s :=
  (dats m 0 c).arrAt_eq_of_cover 6 (duA dy W s)
    (fun t hf => by
      have hN : t.val < 32 := lt_of_lt_of_eq t.isLt N_0
      have hout : (dats m 0 c).after 6 t = byCols (duT (grid0.coords t) (iblk m c 2 t) (iblk m c 3 t) (iblk m c 4 t) (iblk m c 5 t)) := by
        rw [after0_6]
        by_cases h0 : t.val % 32 = 0
        · rw [outsAt0_A m c t h0]; dsimp only; rw [out_A6]
        · rw [outsAt0_B m c t h0]; dsimp only; rw [out_B6]
      show (cfg0.win 6).cut (grid0.coords t) ((dats m 0 c).after 6 t) = _
      rw [hout]
      funext y
      refine Eq.trans (byCols_duT H t (y 0) (y 1)) ?_
      rw [View.read_apply]
      have e0 : (((cfg0.win 6).blk t).view.emb y 0).val = 256 * t.val + (y 0).val := by
        show win0_6.index t 0 * 256 + 1 * (y 0).val = _; rw [(idx6 t).1]; omega
      have e1 : (((cfg0.win 6).blk t).view.emb y 1).val = (y 1).val := by
        show win0_6.index t 1 * 512 + 1 * (y 1).val = _; rw [(idx6 t).2]; omega
      show _ = ((Pool.du dy W s ((((cfg0.win 6).blk t).view.emb y 1).val / 128) (((cfg0.win 6).blk t).view.emb y 0).val
        ((((cfg0.win 6).blk t).view.emb y 1).val % 128) : ℝ) : EReal)
      rw [e0, e1])
    fun i => by
      have h0 : (i 0).val < 8192 := (i 0).isLt
      have h1 : (i 1).val < 512 := (i 1).isLt
      let t : Fin cfg0.N := ⟨(i 0).val / 256, by rw [show cfg0.N = 32 from N_0]; omega⟩
      refine ⟨t, flush0_6 t, ?_⟩
      show i ∈ ((View.whole main_v0_0).slice (win0_6.rect t)).set
      rw [View.set_slice_whole, Rect.mem_set_unit]
      intro a
      match a with
      | ⟨0, _⟩ =>
        show win0_6.index t 0 * 256 ≤ (i 0).val ∧ (i 0).val < win0_6.index t 0 * 256 + 256
        rw [(idx6 t).1]; dsimp only [t]; omega
      | ⟨1, _⟩ =>
        show win0_6.index t 1 * 512 ≤ (i 1).val ∧ (i 1).val < win0_6.index t 1 * 512 + 512
        rw [(idx6 t).2]; omega

/-- The last point. -/
def tLast : Fin cfg0.N := ⟨31, by rw [show cfg0.N = 32 from N_0]; omega⟩

/-- The second result. -/
theorem final7 : (dats m 0 c).arrAt 7 cfg0.N = gwA u dy s 8192 :=
  (dats m 0 c).arrAt_eq_of_cover 7 (gwA u dy s 8192)
    (fun t hf => by
      have hN : t.val < 32 := lt_of_lt_of_eq t.isLt N_0
      have h31 : t.val = 31 := by have := (flush0_7 t).mp hf; omega
      show (cfg0.win 7).cut (grid0.coords t) ((dats m 0 c).after 7 t) = _
      rw [after0_7, (outs_eq H t.val t.isLt).1, h31]
      funext y
      rw [View.read_apply]
      have e : ((cfg0.win 7).blk t).view.emb y = y := funext fun a => Fin.ext (by
        match a with
        | ⟨0, _⟩ => show win0_7.index t 0 * 4 + 1 * (y 0).val = (y 0).val; rw [idx7 t]; omega
        | ⟨1, _⟩ => show win0_7.index t 1 * 128 + 1 * (y 1).val = (y 1).val; rw [idx7 t]; omega
        | ⟨2, _⟩ => show win0_7.index t 2 * 128 + 1 * (y 2).val = (y 2).val; rw [idx7 t]; omega)
      exact congrArg (gwA u dy s 8192) e.symm)
    fun i => ⟨tLast, (flush0_7 tLast).mpr rfl, by
      show i ∈ ((View.whole main_v0_1).slice (win0_7.rect tLast)).set
      rw [View.set_slice_whole, Rect.mem_set_unit]
      intro a
      match a with
      | ⟨0, _⟩ =>
        have h : (i 0).val < 4 := (i 0).isLt
        show win0_7.index tLast 0 * 4 ≤ (i 0).val ∧ (i 0).val < win0_7.index tLast 0 * 4 + 4
        rw [idx7]; omega
      | ⟨1, _⟩ =>
        have h : (i 1).val < 128 := (i 1).isLt
        show win0_7.index tLast 1 * 128 ≤ (i 1).val ∧ (i 1).val < win0_7.index tLast 1 * 128 + 128
        rw [idx7]; omega
      | ⟨2, _⟩ =>
        have h : (i 2).val < 128 := (i 2).isLt
        show win0_7.index tLast 2 * 128 ≤ (i 2).val ∧ (i 2).val < win0_7.index tLast 2 * 128 + 128
        rw [idx7]; omega⟩

/-- The third result. -/
theorem final8 : (dats m 0 c).arrAt 8 cfg0.N = gsA u dy W 8192 :=
  (dats m 0 c).arrAt_eq_of_cover 8 (gsA u dy W 8192)
    (fun t hf => by
      have hN : t.val < 32 := lt_of_lt_of_eq t.isLt N_0
      have h31 : t.val = 31 := by have := (flush0_8 t).mp hf; omega
      show (cfg0.win 8).cut (grid0.coords t) ((dats m 0 c).after 8 t) = _
      rw [after0_8, (outs_eq H t.val t.isLt).2, h31]
      funext y
      rw [View.read_apply]
      have e : ((cfg0.win 8).blk t).view.emb y = y := funext fun a => Fin.ext (by
        match a with
        | ⟨0, _⟩ => show win0_8.index t 0 * 1 + 1 * (y 0).val = (y 0).val; rw [idx8 t]; omega
        | ⟨1, _⟩ => show win0_8.index t 1 * 512 + 1 * (y 1).val = (y 1).val; rw [idx8 t]; omega)
      exact congrArg (gsA u dy W 8192) e.symm)
    fun i => ⟨tLast, (flush0_8 tLast).mpr rfl, by
      show i ∈ ((View.whole main_v0_2).slice (win0_8.rect tLast)).set
      rw [View.set_slice_whole, Rect.mem_set_unit]
      intro a
      match a with
      | ⟨0, _⟩ =>
        have h : (i 0).val < 1 := (i 0).isLt
        show win0_8.index tLast 0 * 1 ≤ (i 0).val ∧ (i 0).val < win0_8.index tLast 0 * 1 + 1
        rw [idx8]; omega
      | ⟨1, _⟩ =>
        have h : (i 1).val < 512 := (i 1).isLt
        show win0_8.index tLast 1 * 512 ≤ (i 1).val ∧ (i 1).val < win0_8.index tLast 1 * 512 + 512
        rw [idx8]; omega⟩

end Cert.KernelIdeal.Pool

end
-- ==== Proof.Pool.RefOps.lean ====
/-
  The reference's operations over one column group, read at a row and a column: running sums forwards and backwards,
  the shifted difference, and what they make of arrays with real entries.
-/
module

public import Idealize.ShloMosaic.Lib.Pointwise
public import Idealize.ShloMosaic.Lib.KernelVsHost
public import Idealize.ShloMosaic.PureOps.Ideal.Laws
public import proofs.«01_k».proof.Proof.Reals
public import proofs.«01_k».proof.Proof.Pool.Spec

@[expose] public section

set_option maxRecDepth 16384

noncomputable section

open Idealize.ShloMosaic

namespace PoolRef

/-- `n` rows of 128 columns under one leading entry. -/
abbrev Rows (n : ℕ) : Shape := ⟨3, ![1, n, 128]⟩

/-- The array holds these reals. -/
def Is {n : ℕ} (x : (Rows n).Idx → EReal) (f : ℕ → ℕ → ℝ) : Prop := ∀ (R : Fin n) (c : Fin 128), x (ix3 0 R c) = (f R.val c.val : EReal)

theorem foldl_add {ι : Type} (l : List ι) (f : ι → EReal) (v : EReal) : l.foldl (fun r i => r + f i) v = v + (l.map f).sum := by
  induction l generalizing v with
  | nil => simp
  | cons a l ih => rw [List.foldl_cons, ih, List.map_cons, List.sum_cons, add_assoc]

/-- The indices of a column are its rows. -/
def column (n : ℕ) : (⟨3, ![1, n, 1]⟩ : Shape).Idx ≃ Fin n where
  toFun i := i 1
  invFun k := ix3 0 k 0
  left_inv i := by
    funext a
    match a with
    | ⟨0, _⟩ => exact Subsingleton.elim (α := Fin 1) _ _
    | ⟨1, _⟩ => rfl
    | ⟨2, _⟩ => exact Subsingleton.elim (α := Fin 1) _ _
  right_inv _ := rfl

/-- A sum over windows of whole columns, padded with zeros: at row `R` the sum of the rows that the window covers. -/
theorem window_apply {n : ℕ} (lo hi : ℕ) (x : FVec Ideal (Rows n) .f32) (z : FVec Ideal ⟨0, ![]⟩ .f32) (hz : ∀ i, z i = (0 : EReal))
    (h : (Rows n).ReduceWindows ![1, n, 1] ![1, 1, 1] ![0, lo, 0] ![0, hi, 0] (Rows n)) (hu : 0 < (⟨0, ![]⟩ : Shape).numel)
    (f : ℕ → ℕ → ℝ) (hx : Is x f) (R : Fin n) (c : Fin 128) :
    Host.reduceWindowAdd ![1, n, 1] ![1, 1, 1] ![0, lo, 0] ![0, hi, 0] x z h hu (ix3 0 R c)
      = ((∑ k : Fin n, if lo ≤ R.val + k.val ∧ R.val + k.val - lo < n then f (R.val + k.val - lo) c.val else 0 : ℝ) : EReal) := by
  show List.foldl _ _ _ = _
  rw [foldl_add, hz, zero_add, ← List.ofFn_eq_map, List.sum_ofFn]
  refine (Fintype.sum_equiv ((⟨3, ![1, n, 1]⟩ : Shape).rowMajor.symm.trans (column n)) _
    (fun k : Fin n => ((if lo ≤ R.val + k.val ∧ R.val + k.val - lo < n then f (R.val + k.val - lo) c.val else 0 : ℝ) : EReal))
    fun i => ?_).trans (Reals.coe_sum _ _).symm
  generalize hk : ((⟨3, ![1, n, 1]⟩ : Shape).rowMajor.symm.trans (column n)) i = k
  have hw : (⟨3, ![1, n, 1]⟩ : Shape).rowMajor.symm i = (ix3 0 k 0 : (⟨3, ![1, n, 1]⟩ : Shape).Idx) := by
    rw [← hk]; exact ((column n).left_inv _).symm
  have hR := R.isLt
  dsimp only
  split
  · next hin =>
    have h1 := hin 1
    change lo ≤ R.val * 1 + ((⟨3, ![1, n, 1]⟩ : Shape).rowMajor.symm i 1).val ∧ R.val * 1 + ((⟨3, ![1, n, 1]⟩ : Shape).rowMajor.symm i 1).val - lo < n at h1
    rw [hw, Nat.mul_one] at h1
    change lo ≤ R.val + k.val ∧ R.val + k.val - lo < n at h1
    rw [if_pos h1]
    refine Eq.trans (congrArg x (funext fun a => Fin.ext ?_)) (hx ⟨R.val + k.val - lo, h1.2⟩ c)
    match a with
    | ⟨0, _⟩ => show 0 * 1 + ((⟨3, ![1, n, 1]⟩ : Shape).rowMajor.symm i 0).val - 0 = 0; rw [hw]; rfl
    | ⟨1, _⟩ => show R.val * 1 + ((⟨3, ![1, n, 1]⟩ : Shape).rowMajor.symm i 1).val - lo = R.val + k.val - lo; rw [hw, Nat.mul_one]; rfl
    | ⟨2, _⟩ => show c.val * 1 + ((⟨3, ![1, n, 1]⟩ : Shape).rowMajor.symm i 2).val - 0 = c.val; rw [hw, Nat.mul_one]; rfl
  · next hin =>
    rw [if_neg]
    · rfl
    · intro hle
      refine hin fun a => ?_
      match a with
      | ⟨0, _⟩ =>
        refine ⟨Nat.zero_le _, ?_⟩
        show 0 * 1 + ((⟨3, ![1, n, 1]⟩ : Shape).rowMajor.symm i 0).val - 0 < 1
        rw [hw]; exact Nat.one_pos
      | ⟨1, _⟩ =>
        show lo ≤ R.val * 1 + ((⟨3, ![1, n, 1]⟩ : Shape).rowMajor.symm i 1).val ∧ R.val * 1 + ((⟨3, ![1, n, 1]⟩ : Shape).rowMajor.symm i 1).val - lo < n
        rw [hw, Nat.mul_one]; exact hle
      | ⟨2, _⟩ =>
        refine ⟨Nat.zero_le _, ?_⟩
        show c.val * 1 + ((⟨3, ![1, n, 1]⟩ : Shape).rowMajor.symm i 2).val - 0 < 128
        rw [hw, Nat.mul_one]; exact c.isLt

/-- A running sum. -/
theorem cumsum_is {m : ℕ} (x : FVec Ideal (Rows (m + 1)) .f32) (z : FVec Ideal ⟨0, ![]⟩ .f32) (hz : ∀ i, z i = (0 : EReal))
    (h : (Rows (m + 1)).ReduceWindows ![1, m + 1, 1] ![1, 1, 1] ![0, m, 0] ![0, 0, 0] (Rows (m + 1))) (hu : 0 < (⟨0, ![]⟩ : Shape).numel)
    (f : ℕ → ℕ → ℝ) (hx : Is x f) :
    Is (n := m + 1) (Host.reduceWindowAdd ![1, m + 1, 1] ![1, 1, 1] ![0, m, 0] ![0, 0, 0] x z h hu) (fun R c => ∑ k ∈ Finset.range (R + 1), f k c) := fun R c => by
  rw [window_apply m 0 x z hz h hu f hx R c]
  congr 1
  have hR := R.isLt
  rw [Fin.sum_univ_eq_sum_range (fun k => if m ≤ R.val + k ∧ R.val + k - m < m + 1 then f (R.val + k - m) c.val else 0) (m + 1), ← Finset.sum_filter]
  refine Finset.sum_bij' (fun k _ => R.val + k - m) (fun k _ => k + m - R.val) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk ⊢; omega
  · intro k hk; simp only [Finset.mem_range] at hk ⊢; omega
  · intro k hk; rfl

/-- A running sum from the last row back. -/
theorem revsum_is {m : ℕ} (x : FVec Ideal (Rows (m + 1)) .f32) (z : FVec Ideal ⟨0, ![]⟩ .f32) (hz : ∀ i, z i = (0 : EReal))
    (h : (Rows (m + 1)).ReduceWindows ![1, m + 1, 1] ![1, 1, 1] ![0, 0, 0] ![0, m, 0] (Rows (m + 1))) (hu : 0 < (⟨0, ![]⟩ : Shape).numel)
    (f : ℕ → ℕ → ℝ) (hx : Is x f) :
    Is (n := m + 1) (Host.reduceWindowAdd ![1, m + 1, 1] ![1, 1, 1] ![0, 0, 0] ![0, m, 0] x z h hu) (fun R c => ∑ k ∈ Finset.Ico R (m + 1), f k c) := fun R c => by
  rw [window_apply 0 m x z hz h hu f hx R c]
  congr 1
  have hR := R.isLt
  rw [Fin.sum_univ_eq_sum_range (fun k => if 0 ≤ R.val + k ∧ R.val + k - 0 < m + 1 then f (R.val + k - 0) c.val else 0) (m + 1), ← Finset.sum_filter]
  refine Finset.sum_bij' (fun k _ => R.val + k) (fun k _ => k - R.val) ?_ ?_ ?_ ?_ ?_
  · intro k hk; simp only [Finset.mem_filter, Finset.mem_range, Finset.mem_Ico] at hk ⊢; omega
  · intro k hk; simp only [Finset.mem_filter, Finset.mem_range, Finset.mem_Ico] at hk ⊢; omega
  · intro k hk; omega
  · intro k hk; simp only [Finset.mem_Ico] at hk ⊢; omega
  · intro k hk; rfl

/-- The first `w` rows dropped off the end and `w` rows of zeros put before. -/
theorem lag_is (w v : ℕ) (a : (Rows w).Idx → EReal) (ha : ∀ i, a i = 0) (x : (Rows (w + v)).Idx → EReal) (f : ℕ → ℕ → ℝ) (hx : Is x f)
    (hs : (Rows (w + v)).Slices ![0, 0, 0] (Rows v)) (hc : Shape.Concatenates [Rows w, Rows v] (Rows (w + v)) 1) :
    Is (concatenate (Rows (w + v)) 1 [⟨Rows w, a⟩, ⟨Rows v, extractStridedSlice (Rows v) ![0, 0, 0] x hs⟩] hc)
      (fun R c => if w ≤ R then f (R - w) c else 0) := fun R c => by
  have hR := R.isLt
  by_cases h : w ≤ R.val
  · dsimp only
    rw [if_pos h]
    refine (concatenate_pair_apply_right 1 _ _ hc (ix3 0 R c) rfl rfl (ix3 0 ⟨R.val - w, by omega⟩ c) (fun b hb => ?_) ?_).trans ?_
    · match b with
      | ⟨0, _⟩ => rfl
      | ⟨1, _⟩ => exact absurd rfl hb
      | ⟨2, _⟩ => rfl
    · show R.val - w + w = R.val; omega
    · refine Eq.trans (congrArg x (funext fun b => Fin.ext ?_)) (hx ⟨R.val - w, by omega⟩ c)
      match b with
      | ⟨0, _⟩ => rfl
      | ⟨1, _⟩ => show 0 + (R.val - w) = R.val - w; omega
      | ⟨2, _⟩ => show 0 + c.val = c.val; omega
  · dsimp only
    rw [if_neg h]
    refine (concatenate_pair_apply_left 1 _ _ hc (ix3 0 R c) rfl (ix3 0 ⟨R.val, by omega⟩ c) (fun b => ?_)).trans (ha _)
    match b with
    | ⟨0, _⟩ => rfl
    | ⟨1, _⟩ => rfl
    | ⟨2, _⟩ => rfl

/-- The first `w` rows dropped and `w` rows of zeros put after. -/
theorem ahead_is (w v : ℕ) (z : FVec Ideal ⟨0, ![]⟩ .f32) (hz : ∀ i, z i = (0 : EReal)) (x : (Rows (w + v)).Idx → EReal) (f : ℕ → ℕ → ℝ)
    (hx : Is x f) (hs : (Rows (w + v)).Slices ![0, w, 0] (Rows v)) (hp : (Rows v).Pads ![0, 0, 0] ![0, w, 0] ![0, 0, 0] (Rows (w + v)))
    (hu : 0 < (⟨0, ![]⟩ : Shape).numel) :
    Is (pad (Rows (w + v)) ![0, 0, 0] ![0, w, 0] ![0, 0, 0] (extractStridedSlice (Rows v) ![0, w, 0] x hs) z hp hu)
      (fun R c => if R + w < w + v then f (R + w) c else 0) := fun R c => by
  have hR := R.isLt
  by_cases h : R.val + w < w + v
  · dsimp only
    rw [if_pos h]
    refine (pad_apply_of_inside _ _ _ _ z hp hu (ix3 0 R c) (ix3 0 ⟨R.val, by omega⟩ c) (fun a => ?_)).trans ?_
    · match a with
      | ⟨0, _⟩ => rfl
      | ⟨1, _⟩ => show R.val = 0 + R.val * (0 + 1); omega
      | ⟨2, _⟩ => show c.val = 0 + c.val * (0 + 1); omega
    · refine Eq.trans (congrArg x (funext fun b => Fin.ext ?_)) (hx ⟨R.val + w, by omega⟩ c)
      match b with
      | ⟨0, _⟩ => rfl
      | ⟨1, _⟩ => show w + R.val = R.val + w; omega
      | ⟨2, _⟩ => show 0 + c.val = c.val; omega
  · dsimp only
    rw [if_neg h]
    refine (pad_apply_of_not_inside _ _ _ _ z hp hu (ix3 0 R c) 1 fun hin => h ?_).trans (hz _)
    have h2 : (R.val - 0) / (0 + 1) < v := hin.2.2
    rw [Nat.sub_zero, Nat.div_one] at h2
    omega

/-- The mean over a window that ends at the row, minus the row. -/
theorem pooled_is (w : ℕ) (hw0 : 0 < w) (hw : w ≤ 16) (x cs lag cn : FVec Ideal (Rows 8192) .f32) (f : ℕ → ℕ → ℝ) (hx : Is x f)
    (hcs : Is cs fun R c => ∑ k ∈ Finset.range (R + 1), f k c)
    (hlag : Is lag fun R c => if w ≤ R then ∑ k ∈ Finset.range (R - w + 1), f k c else 0) (hcn : Is cn fun R _ => Pool.cnt w R) :
    Is (subf (Host.divf (subf cs lag) cn) x) fun R c => Pool.mean w (fun R => f R c) R := fun R c => by
  show Ideal.div (cs (ix3 0 R c) - lag (ix3 0 R c)) (cn (ix3 0 R c)) - x (ix3 0 R c) = _
  rw [hcs, hlag, hcn, hx, Ideal.div_coe (Pool.cnt_pos hw0 _).ne']
  unfold Pool.mean
  dsimp only
  rw [← Pool.cumsum_sub_lag w R.val hw fun R => f R c.val]
  norm_cast

/-- The cotangent of the means, summed back onto the rows. -/
theorem du_is (w v : ℕ) (hw0 : 0 < w) (hwv : w + v = 8192) (d cn back : FVec Ideal (Rows 8192) .f32) (q : ℕ → ℕ → ℝ) (hd : Is d q)
    (hq : ∀ R c, 8192 ≤ R → q R c = 0) (hcn : Is cn fun R _ => Pool.cnt w R) (ahead : FVec Ideal (Rows 8192) .f32)
    (hahead : ∀ f, Is (Host.negf (Host.divf d cn)) f → Is ahead fun R c => if R + w < w + v then f (R + w) c else 0)
    (hback : ∀ f, Is (addf (Host.divf d cn) ahead) f → Is back fun R c => ∑ k ∈ Finset.Ico R 8192, f k c) :
    Is (addf (Host.negf d) back) fun R c => Pool.meanGrad w (fun R => q R c) R := fun R c => by
  have hdiv : Is (Host.divf d cn) fun R c => q R c * (1 / Pool.cnt w R) := fun R c => by
    show Ideal.div (d (ix3 0 R c)) (cn (ix3 0 R c)) = _
    rw [hd, hcn, Ideal.div_coe (Pool.cnt_pos hw0 _).ne']
    norm_cast
  have hneg : Is (Host.negf (Host.divf d cn)) fun R c => -(q R c * (1 / Pool.cnt w R)) := fun R c => by
    show -(Host.divf d cn (ix3 0 R c)) = _
    rw [hdiv]; norm_cast
  have hsum : Is (addf (Host.divf d cn) ahead) fun R c => q R c * (1 / Pool.cnt w R) - q (R + w) c * (1 / Pool.cnt w (R + w)) := fun R c => by
    show Host.divf d cn (ix3 0 R c) + ahead (ix3 0 R c) = _
    rw [hdiv, hahead _ hneg]
    norm_cast
    dsimp only
    by_cases h : R.val + w < w + v
    · rw [if_pos h]; ring
    · rw [if_neg h, hq (R.val + w) c.val (by omega)]; ring
  show -(d (ix3 0 R c)) + back (ix3 0 R c) = _
  rw [hd, hback _ hsum]
  unfold Pool.meanGrad
  dsimp only
  rw [← Pool.revsum_sub_lag w R.val 8192 (le_of_lt R.isLt) (fun p => q p c.val * (1 / Pool.cnt w p)) fun p hp => by rw [hq p _ hp, zero_mul]]
  norm_cast
  ring

/-- A sum over rows of the products of two arrays' columns. -/
theorem rows_sum {n : ℕ} {x y : FVec Ideal (Rows n) .f32} {p q : ℕ → ℕ → ℝ} (hx : Is x p) (hy : Is y q) (a b : Fin 128) :
    ∑ i : Fin 1, ∑ R : Fin n, y (ix3 i R b) * x (ix3 i R a) = ((∑ R ∈ Finset.range n, p R a.val * q R b.val : ℝ) : EReal) := by
  rw [Fin.sum_univ_one, ← Fin.sum_univ_eq_sum_range (fun R => p R a.val * q R b.val) n]
  refine Reals.sum_eq_coe fun R _ => ?_
  rw [hx, hy]
  norm_cast
  ring

/-- A sum over rows of a mixed row's column times the cotangent's. -/
theorem scale_sum {n : ℕ} {x : FVec Ideal (Rows n) .f32} {p : ℕ → ℕ → ℝ} {V : ℕ → ℕ → ℝ} {e z : Fin n → EReal} {d : ℕ → ℝ} (hx : Is x p)
    (he : ∀ R, e R = (d R.val : EReal)) (C : Fin 128) (hz : ∀ R, z R = ∑ c : Fin 128, x (ix3 0 R c) * (V c.val C.val : EReal)) :
    ∑ R : Fin n, z R * e R = ((∑ R ∈ Finset.range n, d R * ∑ c : Fin 128, p R c.val * V c.val C.val : ℝ) : EReal) := by
  rw [← Fin.sum_univ_eq_sum_range (fun R => d R * ∑ c : Fin 128, p R c.val * V c.val C.val) n]
  refine Reals.sum_eq_coe fun R _ => ?_
  rw [hz, he, Reals.sum_eq_coe (g := fun c : Fin 128 => p R.val c.val * V c.val C.val) fun c _ => by rw [hx]; norm_cast]
  norm_cast
  ring

end PoolRef

end
-- ==== Proof.Pool.Reference.lean ====
/-
  The reference's three results over arguments with real entries.
-/
module

public import proofs.«01_k».proof.Proof.Gen.ReferenceIdeal.Read
public import proofs.«01_k».proof.Proof.Pool.RefOps
public import proofs.«01_k».proof.Proof.Pool.Tile

@[expose] public section

set_option maxRecDepth 16384

noncomputable section

open Idealize.ShloMosaic PoolRef

namespace Cert.ReferenceIdeal.Pool

open Cert.ReferenceIdeal Cert.ReferenceIdeal.Gen Cert.ReferenceIdeal.Read

/-- The arguments hold these reals: the mixer's input in columns 1536… of the first, the cotangent in columns 512… of the second. -/
structure Holds (x0 : FVec Ideal S8192x2048 .f32) (x1 : FVec Ideal S8192x1024 .f32) (x2 : FVec Ideal S4x128x128 .f32) (x3 : FVec Ideal S1x512 .f32)
    (u dy : ℕ → ℕ → ℝ) (W : ℕ → ℕ → ℕ → ℝ) (s : ℕ → ℝ) : Prop where
  u_eq : ∀ (R : Fin 8192) (C : Fin 512), x0 (ix2 R ⟨1536 + C.val, by omega⟩) = (u R.val C.val : EReal)
  dy_eq : ∀ (R : Fin 8192) (C : Fin 512), x1 (ix2 R ⟨512 + C.val, by omega⟩) = (dy R.val C.val : EReal)
  W_eq : ∀ (g : Fin 4) (a b : Fin 128), x2 (ix3 g a b) = (W g.val a.val b.val : EReal)
  s_eq : ∀ C : Fin 512, x3 (ix2 0 C) = (s C.val : EReal)

variable {x0 : FVec Ideal S8192x2048 .f32} {x1 : FVec Ideal S8192x1024 .f32} {x2 : FVec Ideal S4x128x128 .f32} {x3 : FVec Ideal S1x512 .f32}
  {u dy : ℕ → ℕ → ℝ} {W : ℕ → ℕ → ℕ → ℝ} {s : ℕ → ℝ} (H : Holds x0 x1 x2 x3 u dy W s)

/-- The reference's zeros. -/
theorem zero (i : S_.Idx) : (constant S_ .f32 0x00000000#32 : FVec Ideal S_ .f32) i = (0 : EReal) := Ideal.ofBits_zero_f32

/-! ## The counts -/

theorem cnt0 : Is (val_main_v21 (F := Ideal)) fun R _ => Pool.cnt 2 R := fun R c => by
  pointwise [val_main_v21, val_main_v19, val_main_v18, val_main_v17, val_main_v15, val_main_v16, val_main_v14, val_main_v6, val_main_c, val_main_c_1]
  exact Cert.KernelIdeal.Pool.count_word 2 R.val (by omega) (by omega)

theorem cnt1 : Is (val_main_v41 (F := Ideal)) fun R _ => Pool.cnt 4 R := fun R c => by
  pointwise [val_main_v41, val_main_v39, val_main_v38, val_main_v37, val_main_v35, val_main_v36, val_main_v34, val_main_v6, val_main_c_4, val_main_c_5]
  exact Cert.KernelIdeal.Pool.count_word 4 R.val (by omega) (by omega)

theorem cnt2 : Is (val_main_v61 (F := Ideal)) fun R _ => Pool.cnt 8 R := fun R c => by
  pointwise [val_main_v61, val_main_v59, val_main_v58, val_main_v57, val_main_v55, val_main_v56, val_main_v54, val_main_v6, val_main_c_8, val_main_c_9]
  exact Cert.KernelIdeal.Pool.count_word 8 R.val (by omega) (by omega)

theorem cnt3 : Is (val_main_v81 (F := Ideal)) fun R _ => Pool.cnt 16 R := fun R c => by
  pointwise [val_main_v81, val_main_v79, val_main_v78, val_main_v77, val_main_v75, val_main_v76, val_main_v74, val_main_v6, val_main_c_12, val_main_c_13]
  exact Cert.KernelIdeal.Pool.count_word 16 R.val (by omega) (by omega)

include H

/-! ## The pooled inputs -/

theorem u_all (g : Fin 4) (R : Fin 8192) (c : Fin 128) : val_main_v5 (F := Ideal) x0 (ix4 0 R g c) = (u R.val (128 * g.val + c.val) : EReal) := by
  pointwise [val_main_v5, val_main_v1, val_main_v0]
  refine Eq.trans ?_ (H.u_eq R ⟨128 * g.val + c.val, by omega⟩)
  congr 2
  apply Fin.ext
  dsimp only
  omega

theorem u0 : Is (val_main_v8 (F := Ideal) x0) fun R c => u R (128 * 0 + c) := fun R c => by
  pointwise [val_main_v8, val_main_v7]
  simpa using u_all H 0 R c

theorem pooled0 : Is (val_main_v23 (F := Ideal) x0) (Pool.pooled u 0) :=
  have h := cumsum_is (m := 8191) _ _ zero _ _ _ (u0 H)
  pooled_is 2 (by omega) (by omega) _ _ _ _ _ (u0 H) h (lag_is 2 8190 _ (fun _ => Ideal.ofBits_zero_f32) _ _ h _ _) cnt0

theorem u1 : Is (val_main_v28 (F := Ideal) x0) fun R c => u R (128 * 1 + c) := fun R c => by
  pointwise [val_main_v28, val_main_v27]
  simpa using u_all H 1 R c

theorem pooled1 : Is (val_main_v43 (F := Ideal) x0) (Pool.pooled u 1) :=
  have h := cumsum_is (m := 8191) _ _ zero _ _ _ (u1 H)
  pooled_is 4 (by omega) (by omega) _ _ _ _ _ (u1 H) h (lag_is 4 8188 _ (fun _ => Ideal.ofBits_zero_f32) _ _ h _ _) cnt1

theorem u2 : Is (val_main_v48 (F := Ideal) x0) fun R c => u R (128 * 2 + c) := fun R c => by
  pointwise [val_main_v48, val_main_v47]
  simpa using u_all H 2 R c

theorem pooled2 : Is (val_main_v63 (F := Ideal) x0) (Pool.pooled u 2) :=
  have h := cumsum_is (m := 8191) _ _ zero _ _ _ (u2 H)
  pooled_is 8 (by omega) (by omega) _ _ _ _ _ (u2 H) h (lag_is 8 8184 _ (fun _ => Ideal.ofBits_zero_f32) _ _ h _ _) cnt2

theorem u3 : Is (val_main_v68 (F := Ideal) x0) fun R c => u R (128 * 3 + c) := fun R c => by
  pointwise [val_main_v68, val_main_v67]
  simpa using u_all H 3 R c

theorem pooled3 : Is (val_main_v83 (F := Ideal) x0) (Pool.pooled u 3) :=
  have h := cumsum_is (m := 8191) _ _ zero _ _ _ (u3 H)
  pooled_is 16 (by omega) (by omega) _ _ _ _ _ (u3 H) h (lag_is 16 8176 _ (fun _ => Ideal.ofBits_zero_f32) _ _ h _ _) cnt3

/-! ## The cotangents before the scale, and of the pooled inputs -/

theorem dz_all (g : Fin 4) (R : Fin 8192) (c : Fin 128) (h : 128 * g.val + c.val < 512) :
    val_main_v95 (F := Ideal) x1 x3 (ix3 0 R ⟨128 * g.val + c.val, h⟩) = (Pool.dz dy s g.val R.val c.val : EReal) := by
  pointwise [val_main_v95, val_main_v3, val_main_v2, val_main_v94, val_main_v88, val_main_v4]
  refine (congrArg₂ (· * ·) (H.dy_eq R ⟨_, h⟩) (H.s_eq ⟨_, h⟩)).trans ?_
  unfold Pool.dz
  rw [if_pos R.isLt]
  norm_cast

omit H in
theorem dp_past (g R c : ℕ) (h : 8192 ≤ R) : Pool.dp dy W s g R c = 0 := by
  unfold Pool.dp Pool.dz
  simp [Nat.not_lt.mpr h]

theorem dz0 : Is (val_main_v97 (F := Ideal) x1 x3) (Pool.dz dy s 0) := fun R c => by
  pointwise [val_main_v97]
  refine Eq.trans ?_ (dz_all H 0 R c (by show 128 * 0 + c.val < 512; omega))
  congr 2 <;> (apply Fin.ext; show _ = 128 * 0 + c.val; dsimp only; omega)

theorem dp0 : Is (val_main_v158 (F := Ideal) x1 x2 x3) (Pool.dp dy W s 0) := fun R c => by
  pointwise [val_main_v158, val_main_v25, val_main_v24]
  exact Reals.sum_eq_coe fun d _ => (congrArg₂ (· * ·) (dz0 H R d) (H.W_eq 0 c d)).trans (EReal.coe_mul _ _).symm

theorem du0 : Is (val_main_v171 (F := Ideal) x1 x2 x3) (Pool.du dy W s 0) :=
  du_is 2 8190 (by omega) (by omega) _ _ _ _ (dp0 H) (dp_past 0) cnt0 _
    (fun f h => ahead_is 2 8190 _ zero _ f h _ _ _) (fun f h => revsum_is (m := 8191) _ _ zero _ _ f h)

theorem gw0 (a b : Fin 128) : val_main_v157 (F := Ideal) x0 x1 x3 (ix2 a b) = (Pool.gw u dy s 8192 0 a.val b.val : EReal) := by
  pointwise [val_main_v157, val_main_v156]
  exact rows_sum (pooled0 H) (dz0 H) a b

theorem gs0 (C : Fin 128) : ∑ R : Fin 8192, val_main_v26 (F := Ideal) x0 x2 (ix3 0 R C) * x1 (ix2 R ⟨512 + (128 * 0 + C.val), by omega⟩)
    = (Pool.gs u dy W 8192 0 C.val : EReal) := by
  refine scale_sum (V := fun c d => W 0 c d) (e := fun R => x1 (ix2 R ⟨512 + (128 * 0 + C.val), by omega⟩))
    (d := fun R => dy R (128 * 0 + C.val)) (pooled0 H) (fun R => H.dy_eq R ⟨128 * 0 + C.val, by omega⟩) C fun R => ?_
  pointwise [val_main_v26, val_main_v25, val_main_v24]
  exact Finset.sum_congr rfl fun c _ => congrArg₂ (· * ·) rfl (H.W_eq 0 c C)

theorem dz1 : Is (val_main_v98 (F := Ideal) x1 x3) (Pool.dz dy s 1) := fun R c => by
  pointwise [val_main_v98]
  refine Eq.trans ?_ (dz_all H 1 R c (by show 128 * 1 + c.val < 512; omega))
  congr 2 <;> (apply Fin.ext; show _ = 128 * 1 + c.val; dsimp only; omega)

theorem dp1 : Is (val_main_v139 (F := Ideal) x1 x2 x3) (Pool.dp dy W s 1) := fun R c => by
  pointwise [val_main_v139, val_main_v45, val_main_v44]
  exact Reals.sum_eq_coe fun d _ => (congrArg₂ (· * ·) (dz1 H R d) (H.W_eq 1 c d)).trans (EReal.coe_mul _ _).symm

theorem du1 : Is (val_main_v152 (F := Ideal) x1 x2 x3) (Pool.du dy W s 1) :=
  du_is 4 8188 (by omega) (by omega) _ _ _ _ (dp1 H) (dp_past 1) cnt1 _
    (fun f h => ahead_is 4 8188 _ zero _ f h _ _ _) (fun f h => revsum_is (m := 8191) _ _ zero _ _ f h)

theorem gw1 (a b : Fin 128) : val_main_v138 (F := Ideal) x0 x1 x3 (ix2 a b) = (Pool.gw u dy s 8192 1 a.val b.val : EReal) := by
  pointwise [val_main_v138, val_main_v137]
  exact rows_sum (pooled1 H) (dz1 H) a b

theorem gs1 (C : Fin 128) : ∑ R : Fin 8192, val_main_v46 (F := Ideal) x0 x2 (ix3 0 R C) * x1 (ix2 R ⟨512 + (128 * 1 + C.val), by omega⟩)
    = (Pool.gs u dy W 8192 1 C.val : EReal) := by
  refine scale_sum (V := fun c d => W 1 c d) (e := fun R => x1 (ix2 R ⟨512 + (128 * 1 + C.val), by omega⟩))
    (d := fun R => dy R (128 * 1 + C.val)) (pooled1 H) (fun R => H.dy_eq R ⟨128 * 1 + C.val, by omega⟩) C fun R => ?_
  pointwise [val_main_v46, val_main_v45, val_main_v44]
  exact Finset.sum_congr rfl fun c _ => congrArg₂ (· * ·) rfl (H.W_eq 1 c C)

theorem dz2 : Is (val_main_v99 (F := Ideal) x1 x3) (Pool.dz dy s 2) := fun R c => by
  pointwise [val_main_v99]
  refine Eq.trans ?_ (dz_all H 2 R c (by show 128 * 2 + c.val < 512; omega))
  congr 2 <;> (apply Fin.ext; show _ = 128 * 2 + c.val; dsimp only; omega)

theorem dp2 : Is (val_main_v120 (F := Ideal) x1 x2 x3) (Pool.dp dy W s 2) := fun R c => by
  pointwise [val_main_v120, val_main_v65, val_main_v64]
  exact Reals.sum_eq_coe fun d _ => (congrArg₂ (· * ·) (dz2 H R d) (H.W_eq 2 c d)).trans (EReal.coe_mul _ _).symm

theorem du2 : Is (val_main_v133 (F := Ideal) x1 x2 x3) (Pool.du dy W s 2) :=
  du_is 8 8184 (by omega) (by omega) _ _ _ _ (dp2 H) (dp_past 2) cnt2 _
    (fun f h => ahead_is 8 8184 _ zero _ f h _ _ _) (fun f h => revsum_is (m := 8191) _ _ zero _ _ f h)

theorem gw2 (a b : Fin 128) : val_main_v119 (F := Ideal) x0 x1 x3 (ix2 a b) = (Pool.gw u dy s 8192 2 a.val b.val : EReal) := by
  pointwise [val_main_v119, val_main_v118]
  exact rows_sum (pooled2 H) (dz2 H) a b

theorem gs2 (C : Fin 128) : ∑ R : Fin 8192, val_main_v66 (F := Ideal) x0 x2 (ix3 0 R C) * x1 (ix2 R ⟨512 + (128 * 2 + C.val), by omega⟩)
    = (Pool.gs u dy W 8192 2 C.val : EReal) := by
  refine scale_sum (V := fun c d => W 2 c d) (e := fun R => x1 (ix2 R ⟨512 + (128 * 2 + C.val), by omega⟩))
    (d := fun R => dy R (128 * 2 + C.val)) (pooled2 H) (fun R => H.dy_eq R ⟨128 * 2 + C.val, by omega⟩) C fun R => ?_
  pointwise [val_main_v66, val_main_v65, val_main_v64]
  exact Finset.sum_congr rfl fun c _ => congrArg₂ (· * ·) rfl (H.W_eq 2 c C)

theorem dz3 : Is (val_main_v100 (F := Ideal) x1 x3) (Pool.dz dy s 3) := fun R c => by
  pointwise [val_main_v100]
  refine Eq.trans ?_ (dz_all H 3 R c (by show 128 * 3 + c.val < 512; omega))
  congr 2 <;> (apply Fin.ext; show _ = 128 * 3 + c.val; dsimp only; omega)

theorem dp3 : Is (val_main_v103 (F := Ideal) x1 x2 x3) (Pool.dp dy W s 3) := fun R c => by
  pointwise [val_main_v103, val_main_v85, val_main_v84]
  exact Reals.sum_eq_coe fun d _ => (congrArg₂ (· * ·) (dz3 H R d) (H.W_eq 3 c d)).trans (EReal.coe_mul _ _).symm

theorem du3 : Is (val_main_v115 (F := Ideal) x1 x2 x3) (Pool.du dy W s 3) :=
  du_is 16 8176 (by omega) (by omega) _ _ _ _ (dp3 H) (dp_past 3) cnt3 _
    (fun f h => ahead_is 16 8176 _ zero _ f h _ _ _) (fun f h => revsum_is (m := 8191) _ _ zero _ _ f h)

theorem gw3 (a b : Fin 128) : val_main_v102 (F := Ideal) x0 x1 x3 (ix2 a b) = (Pool.gw u dy s 8192 3 a.val b.val : EReal) := by
  pointwise [val_main_v102, val_main_v101]
  exact rows_sum (pooled3 H) (dz3 H) a b

theorem gs3 (C : Fin 128) : ∑ R : Fin 8192, val_main_v86 (F := Ideal) x0 x2 (ix3 0 R C) * x1 (ix2 R ⟨512 + (128 * 3 + C.val), by omega⟩)
    = (Pool.gs u dy W 8192 3 C.val : EReal) := by
  refine scale_sum (V := fun c d => W 3 c d) (e := fun R => x1 (ix2 R ⟨512 + (128 * 3 + C.val), by omega⟩))
    (d := fun R => dy R (128 * 3 + C.val)) (pooled3 H) (fun R => H.dy_eq R ⟨128 * 3 + C.val, by omega⟩) C fun R => ?_
  pointwise [val_main_v86, val_main_v85, val_main_v84]
  exact Finset.sum_congr rfl fun c _ => congrArg₂ (· * ·) rfl (H.W_eq 3 c C)

/-! ## The results -/

omit H in
/-- A sum over two axes of one entry each is the entry. -/
theorem flat_sum (h : S1x1x512.ReducesTo [0, 1] S512) (v : S1x1x512.Idx → EReal) (init : EReal) (C : Fin 512) :
    Ideal.hostReduceAdd h v init (ix1 C) = init + v (ix3 0 0 C) := by
  have e : Finset.univ.filter (fun i => h.drop i = ix1 C) = {(ix3 0 0 C : S1x1x512.Idx)} := by
    ext i
    rw [Finset.mem_filter, Finset.mem_singleton]
    constructor
    · rintro ⟨-, hi⟩
      have h2 : (i 2).val = C.val := congrArg (fun k : S512.Idx => (k 0).val) hi
      funext a
      match a with
      | ⟨0, _⟩ => exact Subsingleton.elim (α := Fin 1) _ _
      | ⟨1, _⟩ => exact Subsingleton.elim (α := Fin 1) _ _
      | ⟨2, _⟩ => exact Fin.ext h2
    · rintro rfl
      refine ⟨Finset.mem_univ _, funext fun a => ?_⟩
      match a with
      | ⟨0, _⟩ => rfl
  unfold Ideal.hostReduceAdd
  rw [e, Finset.sum_singleton]

/-- The gradient of the scale. -/
theorem gs_all (g : Fin 4) (c : Fin 128) (h : 128 * g.val + c.val < 512) :
    val_main_v178 (F := Ideal) x0 x1 x2 (ix2 0 ⟨128 * g.val + c.val, h⟩) = (Pool.gs u dy W 8192 g.val c.val : EReal) := by
  pointwise [val_main_v178, val_main_v96]
  rw [flat_sum]
  pointwise [val_main_v93, val_main_v92, val_main_v91, val_main_v87, val_main_v3, val_main_v2]
  have z0 : val_main_cst_15 (F := Ideal) (Shape.Idx.first h_S_) = (0 : EReal) := zero _
  have z1 : val_main_cst_14 (F := Ideal) (Shape.Idx.first h_S_) = (0 : EReal) := zero _
  rw [z0, z1, zero_add, zero_add]
  fin_cases g
  · refine Eq.trans (Finset.sum_congr rfl fun R _ => ?_) (gs0 H c)
    rw [dif_pos (by simp)]; simp
  · refine Eq.trans (Finset.sum_congr rfl fun R _ => ?_) (gs1 H c)
    rw [dif_neg (by simp), dif_pos (by simp)]; simp
  · refine Eq.trans (Finset.sum_congr rfl fun R _ => ?_) (gs2 H c)
    rw [dif_neg (by simp; omega), dif_neg (by simp; omega), dif_pos (by simp; omega)]; simp [Nat.add_comm, Nat.add_sub_cancel]
  · refine Eq.trans (Finset.sum_congr rfl fun R _ => ?_) (gs3 H c)
    rw [dif_neg (by simp; omega), dif_neg (by simp; omega), dif_neg (by simp; omega)]
    simp
    congr 3
    exact Fin.ext (by dsimp only; omega)

/-- The gradient of the channel mixes. -/
theorem gw_all (g : Fin 4) (a b : Fin 128) : val_main_v161 (F := Ideal) x0 x1 x3 (ix3 g a b) = (Pool.gw u dy s 8192 g.val a.val b.val : EReal) := by
  have hz : (FloatOps.ofBits .f32 0x00000000#32 : Ideal .f32) = (0 : EReal) := Ideal.ofBits_zero_f32
  pointwise [val_main_v161, val_main_v160, val_main_v142, val_main_v141, val_main_v123, val_main_v122, val_main_v105, val_main_v159, val_main_v104, val_main_v121,
    val_main_v140, val_main_cst_16, val_main_cst_19, val_main_cst_22, val_main_cst_25]
  fin_cases g
  · simp [gw0 H]
  · simp [gw1 H]
  · simp [gw2 H]
  · simp [gw3 H]

/-- The gradient of the input. -/
theorem du_all (g : Fin 4) (R : Fin 8192) (c : Fin 128) (h : 128 * g.val + c.val < 512) :
    val_main_v177 (F := Ideal) x1 x2 x3 (ix2 R ⟨128 * g.val + c.val, h⟩) = (Pool.du dy W s g.val R.val c.val : EReal) := by
  have hz : (FloatOps.ofBits .f32 0x00000000#32 : Ideal .f32) = (0 : EReal) := Ideal.ofBits_zero_f32
  pointwise [val_main_v177, val_main_v176, val_main_v175, val_main_v174, val_main_v173, val_main_v172, val_main_v155, val_main_v154, val_main_v153,
    val_main_v136, val_main_v135, val_main_v134, val_main_v117, val_main_v116, val_main_cst_27, val_main_cst_18, val_main_cst_21, val_main_cst_24]
  fin_cases g
  · simp [du0 H R c]
  · simp [du1 H R c]
  · simp [du2 H R c]
  · simp [du3 H R c]

end Cert.ReferenceIdeal.Pool

end
-- ==== Proof.Pool.Equation.lean ====
/-
  Over arguments with finite entries the kernel's three result arrays are the reference's.
-/
module

public import proofs.«01_k».proof.Defs
public import proofs.«01_k».proof.Proof.Finite
public import proofs.«01_k».proof.Proof.Pool.Arrays
public import proofs.«01_k».proof.Proof.Pool.Reference
public import proofs.«01_k».proof.Proof.Gen.KernelIdeal.Value

@[expose] public section

set_option maxRecDepth 16384

noncomputable section

open Idealize.ShloMosaic Idealize.ShloMosaic.TcCoe Idealize.SL.Sem

namespace Cert.PoolEq

instance facts : Cert.Pre_finite.Facts where
  slices_S8192x2048_S8192x512_0_1536 := by decide
  bcast_S_S8192x512 := by decide
  reducesTo_S8192x512_S_d0_1 := by decide
  h_S_ := by decide
  slices_S8192x1024_S8192x512_0_512 := by decide
  bcast_S_S4x128x128 := by decide
  reducesTo_S4x128x128_S_d0_1_2 := by decide
  bcast_S_S1x512 := by decide
  reducesTo_S1x512_S_d0_1 := by decide

/-- The real at a row and a column of a matrix, from column `o` on. -/
def part {n k : ℕ} (x : (⟨2, ![n, k]⟩ : Shape).Idx → EReal) (o R C : ℕ) : ℝ :=
  if h : R < n ∧ o + C < k then (x (ix2 ⟨R, h.1⟩ ⟨o + C, h.2⟩)).toReal else 0

/-- The real at an entry of the four mixes. -/
def mix (x : Cert.ReferenceIdeal.S4x128x128.Idx → EReal) (g a b : ℕ) : ℝ :=
  if h : g < 4 ∧ a < 128 ∧ b < 128 then (x (ix3 ⟨g, h.1⟩ ⟨a, h.2.1⟩ ⟨b, h.2.2⟩)).toReal else 0

/-- The arguments' entries that the mixer reads are these reals, where the predicate holds. -/
theorem holds (x0 : FVec Ideal Cert.ReferenceIdeal.S8192x2048 .f32) (x1 : FVec Ideal Cert.ReferenceIdeal.S8192x1024 .f32)
    (x2 : FVec Ideal Cert.ReferenceIdeal.S4x128x128 .f32) (x3 : FVec Ideal Cert.ReferenceIdeal.S1x512 .f32)
    (h : Cert.Pre_finite.fn (F := Ideal) x0 x1 x2 x3 = fun _ => 1#1) :
    Cert.ReferenceIdeal.Pool.Holds x0 x1 x2 x3 (part x0 1536) (part x1 512) (mix x2) (part x3 0 0) := by
  have e := congrFun h ix0
  simp only [Cert.Pre_finite.fn, Cert.Pre_finite.fn_part1, andi] at e
  obtain ⟨e, e3⟩ := IntOp.andi_eq_one.1 e
  obtain ⟨e, e2⟩ := IntOp.andi_eq_one.1 e
  obtain ⟨e0, e1⟩ := IntOp.andi_eq_one.1 e
  haveI : Subsingleton (Cert.Pre_finite.S_).Idx := ⟨fun a b => funext fun k => k.elim0⟩
  refine ⟨fun R C => ?_, fun R C => ?_, fun g a b => ?_, fun C => ?_⟩
  · rw [part, dif_pos ⟨R.isLt, by omega⟩]
    have q := Finite.all _ _ _ _ _ ix0 e0 (ix2 R C)
    rw [show extractStridedSlice Cert.Pre_finite.S8192x512 ![0, 1536] x0 Cert.Pre_finite.Facts.slices_S8192x2048_S8192x512_0_1536 (ix2 R C)
      = x0 (ix2 R ⟨1536 + C.val, by omega⟩) by pointwise []] at q
    exact q
  · rw [part, dif_pos ⟨R.isLt, by omega⟩]
    have q := Finite.all _ _ _ _ _ ix0 e1 (ix2 R C)
    rw [show extractStridedSlice Cert.Pre_finite.S8192x512 ![0, 512] x1 Cert.Pre_finite.Facts.slices_S8192x1024_S8192x512_0_512 (ix2 R C)
      = x1 (ix2 R ⟨512 + C.val, by omega⟩) by pointwise []] at q
    exact q
  · rw [mix, dif_pos ⟨g.isLt, a.isLt, b.isLt⟩]
    exact Finite.all _ _ _ _ _ ix0 e2 (ix3 g a b)
  · rw [part, dif_pos ⟨by decide, by omega⟩]
    have q := Finite.all _ _ _ _ _ ix0 e3 (ix2 0 C)
    rw [show (⟨0 + C.val, by omega⟩ : Fin 512) = C from Fin.ext (Nat.zero_add _)]
    exact q

variable (m : (ℓ : Loc Cert.KernelIdeal.nD Cert.KernelIdeal.τ Cert.KernelIdeal.sig) → Buf (Elt Ideal) ℓ) (c : Dev Cert.KernelIdeal.nD)

/-- The kernel's arguments on a device. -/
abbrev a0 : FVec Ideal Cert.ReferenceIdeal.S8192x2048 .f32 := m ((c : Thread Cert.KernelIdeal.nD Cert.KernelIdeal.τ).loc Cert.KernelIdeal.main_arg0)
abbrev a1 : FVec Ideal Cert.ReferenceIdeal.S8192x1024 .f32 := m ((c : Thread Cert.KernelIdeal.nD Cert.KernelIdeal.τ).loc Cert.KernelIdeal.main_arg1)
abbrev a2 : FVec Ideal Cert.ReferenceIdeal.S4x128x128 .f32 := m ((c : Thread Cert.KernelIdeal.nD Cert.KernelIdeal.τ).loc Cert.KernelIdeal.main_arg2)
abbrev a3 : FVec Ideal Cert.ReferenceIdeal.S1x512 .f32 := m ((c : Thread Cert.KernelIdeal.nD Cert.KernelIdeal.τ).loc Cert.KernelIdeal.main_arg3)

variable {m}

theorem holdsK (h : Cert.Pre_KernelIdeal_finite m) :
    Cert.KernelIdeal.Pool.Holds m c (part (a0 m c) 1536) (part (a1 m c) 512) (mix (a2 m c)) (part (a3 m c) 0 0) :=
  have H := holds (a0 m c) (a1 m c) (a2 m c) (a3 m c) (h c)
  ⟨H.u_eq, H.dy_eq, H.W_eq, H.s_eq⟩

theorem col (y : Fin 512) : (⟨128 * (y.val / 128) + y.val % 128, by omega⟩ : Fin 512) = y := Fin.ext (Nat.div_add_mod _ _)

variable (h : Cert.Pre_KernelIdeal_finite m)
include h

/-- The gradient of the mixer's input. -/
theorem du_eq : (Cert.KernelIdeal.Gen.dats m 0 c).arrAt 6 Cert.KernelIdeal.cfg0.N
    = Cert.ReferenceIdeal.Read.val_main_v177 (F := Ideal) (a1 m c) (a2 m c) (a3 m c) := by
  refine (Cert.KernelIdeal.Pool.final6 (holdsK c h)).trans (funext fun y => ?_)
  obtain ⟨r, C, rfl⟩ : ∃ (r : Fin 8192) (C : Fin 512), y = ix2 r C := ⟨y 0, y 1, (ix2_eta y).symm⟩
  have q := Cert.ReferenceIdeal.Pool.du_all (holds _ _ _ _ (h c)) ⟨C.val / 128, by omega⟩ r ⟨C.val % 128, by omega⟩ (by dsimp only; omega)
  dsimp only at q
  rw [col C] at q
  exact q.symm

/-- The gradient of the channel mixes. -/
theorem gw_eq : (Cert.KernelIdeal.Gen.dats m 0 c).arrAt 7 Cert.KernelIdeal.cfg0.N
    = Cert.ReferenceIdeal.Read.val_main_v161 (F := Ideal) (a0 m c) (a1 m c) (a3 m c) := by
  refine (Cert.KernelIdeal.Pool.final7 (holdsK c h)).trans (funext fun y => ?_)
  obtain ⟨g, a, b, rfl⟩ : ∃ (g : Fin 4) (a b : Fin 128), y = ix3 g a b := ⟨y 0, y 1, y 2, (ix3_eta y).symm⟩
  exact (Cert.ReferenceIdeal.Pool.gw_all (holds _ _ _ _ (h c)) g a b).symm

/-- The gradient of the output scale. -/
theorem gs_eq : (Cert.KernelIdeal.Gen.dats m 0 c).arrAt 8 Cert.KernelIdeal.cfg0.N
    = Cert.ReferenceIdeal.Read.val_main_v178 (F := Ideal) (a0 m c) (a1 m c) (a2 m c) := by
  refine (Cert.KernelIdeal.Pool.final8 (holdsK c h)).trans (funext fun y => ?_)
  obtain ⟨r, C, rfl⟩ : ∃ (r : Fin 1) (C : Fin 512), y = ix2 r C := ⟨y 0, y 1, (ix2_eta y).symm⟩
  obtain rfl : r = 0 := Subsingleton.elim _ _
  have q := Cert.ReferenceIdeal.Pool.gs_all (holds _ _ _ _ (h c)) ⟨C.val / 128, by omega⟩ ⟨C.val % 128, by omega⟩ (by dsimp only; omega)
  dsimp only at q
  rw [col C] at q
  exact q.symm

end Cert.PoolEq

end
-- ==== Proof.Norm.Spec.lean ====
/-
  The RMS norm over rows of 1024 numbers, and its gradient, in real numbers.
-/
module

public import proofs.«01_k».proof.Proof.Reals
public import Idealize.ShloMosaic.PureOps.Ideal
public import Idealize.ShloMosaic.PureOps.Ideal.Laws
public import Mathlib.Tactic.Linarith
public import Mathlib.Tactic.FieldSimp
public import Mathlib.Tactic.Ring

@[expose] public section

noncomputable section

open Idealize.ShloMosaic

namespace NormGrad

/-- What is added under the root. -/
def eps : ℝ := 8796093 / 8796093022208

theorem eps_pos : 0 < eps := by unfold eps; norm_num

theorem eps_word : Ideal.ofBits .f32 0x358637BD#32 = (eps : EReal) := by
  unfold eps
  simp [Ideal.ofBits, Ideal.ieee, -EReal.coe_mul]; norm_num

theorem width_word : Ideal.ofBits .f32 0x44800000#32 = ((1024 : ℝ) : EReal) := by
  simp [Ideal.ofBits, Ideal.ieee, -EReal.coe_mul]; norm_num

theorem recip_word : Ideal.ofBits .f32 0x3A800000#32 = ((1 / 1024 : ℝ) : EReal) := by
  simp [Ideal.ofBits, Ideal.ieee, -EReal.coe_mul]; norm_num

theorem half_word : Ideal.ofBits .f32 0x3F000000#32 = ((1 / 2 : ℝ) : EReal) := by
  simp [Ideal.ofBits, Ideal.ieee, -EReal.coe_mul]; norm_num

theorem minus_half_word : Ideal.ofBits .f32 0xBF000000#32 = ((-(1 / 2) : ℝ) : EReal) := by
  simp [Ideal.ofBits, Ideal.ieee, -EReal.coe_mul, -EReal.coe_neg]; norm_num

theorem two_word : Ideal.ofBits .f32 0x40000000#32 = ((2 : ℝ) : EReal) := by
  simp [Ideal.ofBits, Ideal.ieee, -EReal.coe_mul]; norm_num

/-- A real divided by 1024. -/
theorem div_width (x : ℝ) : Ideal.div (x : EReal) ((1024 : ℝ) : EReal) = ((x / 1024 : ℝ) : EReal) := by
  rw [Ideal.div_coe (by norm_num)]
  norm_cast
  rw [mul_one_div]

/-- Real sums over a row. -/
theorem sum_mul {n : ℕ} {a b : Fin n → EReal} {p q : Fin n → ℝ} (ha : ∀ j, a j = (p j : EReal)) (hb : ∀ j, b j = (q j : EReal)) :
    ∑ j, a j * b j = ((∑ j, p j * q j : ℝ) : EReal) :=
  Reals.sum_eq_coe fun j _ => by rw [ha, hb]; norm_cast

variable (x : ℕ → ℕ → ℝ) (g : ℕ → ℝ) (dy : ℕ → ℕ → ℝ)

/-- A row's mean square, moved off zero. -/
def ms (R : ℕ) : ℝ := (∑ j : Fin 1024, x R j.val * x R j.val) / 1024 + eps
/-- A row's scale. -/
def rs (R : ℕ) : ℝ := (Real.sqrt (ms x R))⁻¹
/-- A scaled entry. -/
def xh (R C : ℕ) : ℝ := x R C * rs x R
/-- The norm. -/
def norm (R C : ℕ) : ℝ := xh x R C * g C
/-- The part of a row's cotangent along the row. -/
def along (R : ℕ) : ℝ := ∑ j : Fin 1024, g j.val * dy R j.val * xh x R j.val
/-- The gradient of the norm's argument. -/
def dx (R C : ℕ) : ℝ := rs x R * (g C * dy R C - xh x R C * (along x g dy R / 1024))
/-- The gradient of the norm's gain from the first `n` rows. -/
def dg (n C : ℕ) : ℝ := ∑ R ∈ Finset.range n, dy R C * xh x R C

theorem ms_pos (R : ℕ) : 0 < ms x R :=
  add_pos_of_nonneg_of_pos (div_nonneg (Finset.sum_nonneg fun j _ => mul_self_nonneg _) (by norm_num)) eps_pos

theorem rs_pos (R : ℕ) : 0 < rs x R := inv_pos.mpr (Real.sqrt_pos.mpr (ms_pos x R))

theorem rs_sq (R : ℕ) : rs x R * rs x R = (ms x R)⁻¹ := by
  unfold rs; rw [← mul_inv, Real.mul_self_sqrt (ms_pos x R).le]

/-- A row's scale at extended reals. -/
theorem rsqrt_ms {a : Fin 1024 → EReal} (R : ℕ) (ha : ∀ j, a j = (x R j.val : EReal)) :
    Ideal.rsqrt (Ideal.div (∑ j, a j * a j) (Ideal.ofBits .f32 0x44800000#32) + Ideal.ofBits .f32 0x358637BD#32) = (rs x R : EReal) := by
  rw [sum_mul ha ha, width_word, div_width, eps_word, ← EReal.coe_add]
  show Ideal.rsqrt ((ms x R : ℝ) : EReal) = _
  rw [Ideal.rsqrt_coe, if_neg (not_lt.mpr (ms_pos x R).le), if_neg (ms_pos x R).ne']
  rfl

/-- The gradient as the chain rule gives it: through the scaled entry, and through the row's scale. -/
theorem chain (R C : ℕ) (S : ℝ) (hS : S = ∑ j : Fin 1024, x R j.val * (dy R j.val * g j.val)) :
    dy R C * g C * rs x R + x R C * (S * (-(1 / 2) * (rs x R / ms x R)) / 1024) + S * (-(1 / 2) * (rs x R / ms x R)) / 1024 * x R C
      = dx x g dy R C := by
  have h1 : along x g dy R = S * rs x R := by
    rw [hS, Finset.sum_mul]; unfold along xh
    exact Finset.sum_congr rfl fun j _ => by ring
  unfold dx xh
  rw [h1, div_eq_mul_inv (rs x R) (ms x R), ← rs_sq x R]
  ring

theorem dg_add (n k C : ℕ) : dg x dy (n + k) C = dg x dy n C + ∑ r : Fin k, dy (n + r.val) C * xh x (n + r.val) C := by
  unfold dg
  rw [Finset.sum_range_add, Fin.sum_univ_eq_sum_range (fun r => dy (n + r) C * xh x (n + r) C) k]

end NormGrad

end
-- ==== Proof.Norm.Tile.lean ====
/-
  The RMS norm and its gradient on a tile of 256 rows, as the training step's kernels compute them.
-/
module

public import proofs.«01_k».proof.Proof.Norm.Spec
public import Idealize.ShloMosaic.Lib.Pointwise

@[expose] public section

set_option maxRecDepth 16384

noncomputable section

open Idealize.ShloMosaic

namespace NormGrad

abbrev T : Shape := ⟨2, ![256, 1024]⟩
abbrev Col : Shape := ⟨2, ![256, 1]⟩
abbrev Row : Shape := ⟨2, ![1, 1024]⟩
abbrev Rows : Shape := ⟨1, ![256]⟩
abbrev Cols : Shape := ⟨1, ![1024]⟩

theorem reduces_rows : T.Reduces [1] Rows := by decide
theorem reduces_cols : T.Reduces [0] Cols := by decide
theorem casts_col : Rows.ShapeCasts Col := by decide
theorem casts_row : Cols.ShapeCasts Row := by decide
theorem casts_same : Row.ShapeCasts Row := by decide
theorem spreads_col : Col.Broadcasts T := by decide
theorem spreads_row : Row.Broadcasts T := by decide

variable {F : FTy → Type} [FloatOps F]

/-- A mean over each row. -/
def meanV (x : FVec F T .f32) : FVec F Col .f32 :=
  divf (shapeCast Col (multiReduction .add [1] Rows x 0x00000000#32 reduces_rows (.inl rfl) rfl) casts_col)
    (broadcast Col (Scalar.ofBits .f32 0x44800000#32))
/-- The rows' scales. -/
def rsV (x : FVec F T .f32) : FVec F Col .f32 :=
  rsqrt (addf (meanV (mulf x x)) (broadcast Col (Scalar.ofBits .f32 0x358637BD#32)))
/-- The scaled rows. -/
def xhV (x : FVec F T .f32) : FVec F T .f32 := mulf x (broadcastTo T (rsV x) spreads_col)
/-- The gradient of the norm's argument. -/
def dxV (x : FVec F T .f32) (g : FVec F Row .f32) (dy : FVec F T .f32) : FVec F T .f32 :=
  mulf (broadcastTo T (rsV x) spreads_col)
    (subf (mulf (broadcastTo T g spreads_row) dy)
      (mulf (xhV x) (broadcastTo T (meanV (mulf (mulf (broadcastTo T g spreads_row) dy) (xhV x))) spreads_col)))
/-- The gradient of the gain, added to what earlier tiles gave. -/
def dgV (x dy : FVec F T .f32) (old : FVec F Row .f32) : FVec F Row .f32 :=
  addf (shapeCast Row old casts_same)
    (shapeCast Row (multiReduction .add [0] Cols (mulf dy (xhV x)) 0x00000000#32 reduces_cols (.inl rfl) rfl) casts_row)

/-! ## Over real entries: rows `o …` of a matrix -/

section
variable {xv : FVec Ideal T .f32} {gv : FVec Ideal Row .f32} {dv : FVec Ideal T .f32} {x : ℕ → ℕ → ℝ} {g : ℕ → ℝ} {dy : ℕ → ℕ → ℝ} {o : ℕ}
  (hx : ∀ (r : Fin 256) (C : Fin 1024), xv (ix2 r C) = (x (o + r.val) C.val : EReal))
include hx

theorem rsV_apply (r : Fin 256) : rsV xv (ix2 r 0) = (rs x (o + r.val) : EReal) := by
  pointwise [rsV, meanV]
  exact rsqrt_ms x (o + r.val) (hx r)

theorem xhV_apply (r : Fin 256) (C : Fin 1024) : xhV xv (ix2 r C) = (xh x (o + r.val) C.val : EReal) := by
  pointwise [xhV]
  rw [rsV_apply hx, hx]
  unfold xh; norm_cast

variable (hd : ∀ (r : Fin 256) (C : Fin 1024), dv (ix2 r C) = (dy (o + r.val) C.val : EReal))
include hd

theorem dgV_apply (old : FVec Ideal Row .f32) (C : Fin 1024) (p : ℝ) (ho : old (ix2 0 C) = (p : EReal)) :
    dgV xv dv old (ix2 0 C) = ((p + ∑ r : Fin 256, dy (o + r.val) C.val * xh x (o + r.val) C.val : ℝ) : EReal) := by
  pointwise [dgV]
  rw [ho, sum_mul (fun r => hd r C) (fun r => xhV_apply hx r C)]
  norm_cast

variable (hg : ∀ C : Fin 1024, gv (ix2 0 C) = (g C.val : EReal))
include hg

theorem dxV_apply (r : Fin 256) (C : Fin 1024) : dxV xv gv dv (ix2 r C) = (dx x g dy (o + r.val) C.val : EReal) := by
  pointwise [dxV, meanV]
  rw [sum_mul (p := fun j : Fin 1024 => g j.val * dy (o + r.val) j.val) (fun j => by rw [hg, hd]; norm_cast) (fun j => xhV_apply hx r j),
    width_word, div_width, rsV_apply hx, xhV_apply hx, hg, hd]
  unfold dx along
  norm_cast
end

end NormGrad

end
-- ==== Proof.Norm.Halves.lean ====
/-
  Blocks of 512 rows made of two tiles of 256.
-/
module

public import Idealize.ShloMosaic.Lib.Pipeline.ReadBack
public import Idealize.ShloMosaic.Lib.Pipeline.Value
public import Idealize.ShloMosaic.Lib.Pointwise

@[expose] public section

set_option maxRecDepth 16384

noncomputable section

open Idealize.ShloMosaic

namespace Halves

abbrev Blk (K : ℕ) : Shape := ⟨2, ![512, K]⟩
abbrev Tile (K : ℕ) : Shape := ⟨2, ![256, K]⟩

theorem hz2 : (![0, 0] : Fin 2 → Nat) = fun _ => 0 := funext fun a => by fin_cases a <;> rfl

theorem inb0 (K : ℕ) : ∀ a, (![0, 0] : Fin 2 → ℕ) a + (Tile K).size a ≤ (Blk K).size a := fun a => by
  match a with
  | ⟨0, _⟩ => show 0 + 256 ≤ 512; omega
  | ⟨1, _⟩ => show 0 + K ≤ K; omega
theorem inb1 (K : ℕ) : ∀ a, (![256, 0] : Fin 2 → ℕ) a + (Tile K).size a ≤ (Blk K).size a := fun a => by
  match a with
  | ⟨0, _⟩ => show 256 + 256 ≤ 512; omega
  | ⟨1, _⟩ => show 0 + K ≤ K; omega

variable {α : Type} {K : ℕ}

/-- A block's tile. -/
def tile (h : Fin 2) (x : (Blk K).Idx → α) : (Tile K).Idx → α := match h with
  | 0 => fun i => x ((Rect.unit (s := Blk K) ![0, 0] (Tile K).size (inb0 K)).idx i)
  | 1 => fun i => x ((Rect.unit (s := Blk K) ![256, 0] (Tile K).size (inb1 K)).idx i)

theorem tile_apply (h : Fin 2) (x : (Blk K).Idx → α) (r : Fin 256) (C : Fin K) :
    tile h x (ix2 r C) = x (ix2 ⟨256 * h.val + r.val, by omega⟩ C) := by
  match h with
  | 0 =>
    show x _ = _
    congr 1; funext a; apply Fin.ext
    match a with
    | ⟨0, _⟩ => show 0 + 1 * r.val = 256 * 0 + r.val; omega
    | ⟨1, _⟩ => show 0 + 1 * C.val = C.val; omega
  | 1 =>
    show x _ = _
    congr 1; funext a; apply Fin.ext
    match a with
    | ⟨0, _⟩ => show 256 + 1 * r.val = 256 * 1 + r.val; omega
    | ⟨1, _⟩ => show 0 + 1 * C.val = C.val; omega

/-- A block from its two tiles. -/
def both (f : Fin 2 → (Tile K).Idx → α) (y : (Blk K).Idx) : α :=
  f ⟨(y 0).val / 256, by have : (y 0).val < 512 := (y 0).isLt; omega⟩ (ix2 ⟨(y 0).val % 256, Nat.mod_lt _ (by omega)⟩ (y 1))

theorem both_emb (f : Fin 2 → (Tile K).Idx → α) (h : Fin 2) (o : ℕ) (ho : o = 256 * h.val) (inb) (x : (Tile K).Idx) :
    both f ((Rect.unit (s := Blk K) ![o, 0] (Tile K).size inb).emb x) = f h x := by
  subst ho
  have h0 : (x 0).val < 256 := (x 0).isLt
  have e0 : ((Rect.unit (s := Blk K) ![256 * h.val, 0] (Tile K).size inb).emb x 0).val = 256 * h.val + (x 0).val := by
    show 256 * h.val + 1 * (x 0).val = _; omega
  have e1 : (Rect.unit (s := Blk K) ![256 * h.val, 0] (Tile K).size inb).emb x 1 = x 1 := Fin.ext (by
    show 0 + 1 * (x 1).val = _; omega)
  unfold both
  congr 1
  · exact Fin.ext ((congrArg (· / 256) e0).trans (by dsimp only; omega))
  · funext a
    match a with
    | ⟨0, _⟩ => exact Fin.ext ((congrArg (· % 256) e0).trans (by show (256 * h.val + (x 0).val) % 256 = (x 0).val; omega))
    | ⟨1, _⟩ => exact e1

theorem both_apply (f : Fin 2 → (Tile K).Idx → α) (r : Fin 512) (C : Fin K) :
    both f (ix2 r C) = f ⟨r.val / 256, by omega⟩ (ix2 ⟨r.val % 256, Nat.mod_lt _ (by omega)⟩ C) := rfl

theorem cover (y : (Blk K).Idx) (i0 i1) : y ∈ (Rect.unit (s := Blk K) ![0, 0] (Tile K).size i0).set
    ∨ y ∈ (Rect.unit (s := Blk K) ![256, 0] (Tile K).size i1).set := by
  have h : (y 0).val < 512 := (y 0).isLt
  have h1 : (y 1).val < K := (y 1).isLt
  rcases (by omega : (y 0).val < 256 ∨ 256 ≤ (y 0).val) with h' | h'
  · refine .inl ((Rect.mem_set_unit ..).mpr fun a => ?_)
    match a with
    | ⟨0, _⟩ => show 0 ≤ (y 0).val ∧ (y 0).val < 0 + 256; omega
    | ⟨1, _⟩ => show 0 ≤ (y 1).val ∧ (y 1).val < 0 + K; omega
  · refine .inr ((Rect.mem_set_unit ..).mpr fun a => ?_)
    match a with
    | ⟨0, _⟩ => show 256 ≤ (y 0).val ∧ (y 0).val < 256 + 256; omega
    | ⟨1, _⟩ => show 0 ≤ (y 1).val ∧ (y 1).val < 0 + K; omega

/-- Two stores over the tiles leave the block made of them. -/
theorem canon_both {F : FTy → Type} [FloatOps F] {e : EltTy} (f : Fin 2 → (Tile K).Idx → Elt F e) (i0 i1) (L : List (View.Piece (Elt F) (Blk K) e)) :
    View.canon ((⟨Rect.unit (s := Blk K) ![256, 0] (Tile K).size i1, f 1⟩ : View.Piece (Elt F) (Blk K) e)
      :: ⟨Rect.unit (s := Blk K) ![0, 0] (Tile K).size i0, f 0⟩ :: L) = both f := by
  funext y
  refine View.canon_append_of_piecesOf (both f) L [⟨Rect.unit (s := Blk K) ![256, 0] (Tile K).size i1, f 1⟩, ⟨Rect.unit (s := Blk K) ![0, 0] (Tile K).size i0, f 0⟩]
    ⟨fun x => (both_emb f 1 256 rfl i1 x).symm, fun x => (both_emb f 0 0 rfl i0 x).symm, trivial⟩ y ?_
  rcases cover y i0 i1 with h | h
  · exact ⟨_, .tail _ (.head _), h⟩
  · exact ⟨_, .head _, h⟩

theorem canon_both_of {F : FTy → Type} [FloatOps F] {e : EltTy} (f : Fin 2 → (Tile K).Idx → Elt F e) (p0 p1 : (Tile K).Idx → Elt F e)
    (e0 : p0 = f 0) (e1 : p1 = f 1) (i0 i1) (L : List (View.Piece (Elt F) (Blk K) e)) :
    View.canon ((⟨Rect.unit (s := Blk K) ![256, 0] (Tile K).size i1, p1⟩ : View.Piece (Elt F) (Blk K) e)
      :: ⟨Rect.unit (s := Blk K) ![0, 0] (Tile K).size i0, p0⟩ :: L) = both f := by
  subst e0 e1; exact canon_both f i0 i1 L

end Halves

end
-- ==== Proof.FfnOut.Body.lean ====
/-
  What one run of the output layer's kernel leaves in its four output buffers.
-/
module

public import proofs.«01_k».proof.Proof.Norm.Tile
public import proofs.«01_k».proof.Proof.Norm.Halves
public import proofs.«01_k».proof.Proof.Gen.Kernel2Ideal.Frame
public import Idealize.ShloMosaic.Lib.Tactic

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen NormGrad Halves

variable {F : FTy → Type} [FloatOps F]

/-- The layer's output before its norm, on a tile. -/
def fV (y : Vec F S256x2816 .bf16) (w : Vec F S2816x1024 .bf16) : FVec F S256x1024 .f32 := k0_pay7 w y
/-- The prediction's error on a tile. -/
def errV (g : Vec F S1x1024 .f32) (f x t : FVec F S256x1024 .f32) : FVec F S256x1024 .f32 :=
  subf (addf x (mulf (xhV f) (broadcastTo T g spreads_row))) t
/-- The loss's cotangent at the prediction. -/
def dyV (e : FVec F S256x1024 .f32) : FVec F S256x1024 .f32 := mulf e (broadcast S256x1024 (Scalar.ofBits .f32 0x3A800000#32))
/-- The loss, added to what earlier tiles gave. -/
def lossV (e : FVec F S256x1024 .f32) (old : Vec F S8x128 .f32) : FVec F S8x128 .f32 := k0_pay3 e old

section
variable (y : Vec F S256x2816 .bf16) (w : Vec F S2816x1024 .bf16) (g old : Vec F S1x1024 .f32) (f x t d e : FVec F S256x1024 .f32) (o : Vec F S8x128 .f32)

/-! The body's stored values, in these terms. -/

theorem pay_f0 : k0_pay7 w y = fV y w := rfl
theorem pay_f1 : k0_pay8 w y = fV y w := rfl
theorem pay_e0 : k0_pay9 g w y x t = errV g (fV y w) x t := rfl
theorem pay_y0 : k0_pay10 g w y x t = dyV (errV g (fV y w) x t) := rfl
theorem pay_m0 : k0_pay11 w y = meanV (mulf (fV y w) (fV y w)) := rfl
theorem pay_d0 : k0_pay14 g f d (meanV (mulf f f)) (Scalar.ofBits .f32 0x358637BD#32) = truncf .bf16 (dxV f g d) bitsLt_bf16_f32 := rfl
theorem pay_g0 : k0_pay15 f d (meanV (mulf f f)) (Scalar.ofBits .f32 0x358637BD#32) old = dgV f d old := rfl
theorem pay_l0 : k0_pay18 (k0_pay16 o) (k0_pay17 e) = lossV e o := rfl
theorem pay_e1 : k0_pay19 g f x t = errV g f x t := rfl
theorem pay_y1 : k0_pay20 g f x t = dyV (errV g f x t) := rfl
theorem pay_d1 : k0_pay1 (k0_pay23 g f x t) = truncf .bf16 (dxV f g (dyV (errV g f x t))) bitsLt_bf16_f32 := rfl
theorem pay_g1 : k0_pay2 (k0_pay24 g f x t) old = dgV f (dyV (errV g f x t)) old := rfl
theorem pay_l1 : k0_pay3 e o = lossV e o := rfl
end

variable (c : Dev nD) (i : grid0.Coords)
  (a1 : Memref sig .tc .vmem S512x2816 .bf16) (h1 : a1.IsWhole)
  (a2 : Memref sig .tc .vmem S2816x1024 .bf16) (h2 : a2.IsWhole)
  (a3 : Memref sig .tc .vmem S512x1024 .f32) (h3 : a3.IsWhole)
  (a4 : Memref sig .tc .vmem S512x1024 .f32) (h4 : a4.IsWhole)
  (a5 : Memref sig .tc .vmem S1x1024 .f32) (h5 : a5.IsWhole)
  (a6 : Memref sig .tc .vmem S512x1024 .bf16) (h6 : a6.IsWhole)
  (a7 : Memref sig .tc .vmem S512x1024 .f32) (h7 : a7.IsWhole)
  (a8 : Memref sig .tc .vmem S8x128 .f32) (h8 : a8.IsWhole)
  (a9 : Memref sig .tc .vmem S1x1024 .f32) (h9 : a9.IsWhole)
  (x0 : Vec F S512x2816 .bf16) (x1 : Vec F S2816x1024 .bf16) (x2 : Vec F S512x1024 .f32) (x3 : Vec F S512x1024 .f32) (x4 : Vec F S1x1024 .f32)
  (o7 : Vec F S8x128 .f32) (o8 : Vec F S1x1024 .f32)

/-- Each tile's output before the norm. -/
def fT (h : Fin 2) : FVec F S256x1024 .f32 := fV (tile h x0) x1
/-- Each tile's error. -/
def errT (h : Fin 2) : FVec F S256x1024 .f32 := errV x4 (fT x0 x1 h) (tile h x2) (tile h x3)
/-- Each tile's cotangent of the prediction. -/
def dyT (h : Fin 2) : FVec F S256x1024 .f32 := dyV (errT x0 x1 x2 x3 x4 h)
/-- Each tile's gradient of the norm's argument. -/
def dfT (h : Fin 2) : FVec F S256x1024 .bf16 := truncf .bf16 (dxV (fT x0 x1 h) x4 (dyT x0 x1 x2 x3 x4 h)) bitsLt_bf16_f32
/-- The loss after both tiles. -/
def lossT (old : Vec F S8x128 .f32) : FVec F S8x128 .f32 := lossV (errT x0 x1 x2 x3 x4 1) (lossV (errT x0 x1 x2 x3 x4 0) old)
/-- The gain's gradient after both tiles. -/
def ggT (old : Vec F S1x1024 .f32) : FVec F S1x1024 .f32 :=
  dgV (fT x0 x1 1) (dyT x0 x1 x2 x3 x4 1) (dgV (fT x0 x1 0) (dyT x0 x1 x2 x3 x4 0) old)

theorem out_A5 (hc : cond0_0 i) :
    out0_A_5 c i a1 h1 a2 h2 a3 h3 a4 h4 a5 h5 a6 h6 a7 h7 a8 h8 a9 h9 hc x0 x1 x2 x3 x4
      = both (dfT x0 x1 x2 x3 x4) := by
  unfold out0_A_5
  rw [View.read_writes_eq_canon _ _ _ (cover0_A_5 c i a1 h1 a2 h2 a3 h3 a4 h4 a5 h5 a6 h6 a7 h7 a8 h8 a9 h9 hc x0 x1 x2 x3 x4)]
  unfold kernelRun0_A
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread,
    View.ld_unit_zero (S := S1x1024) hz2, View.ld_unit_zero (S := S2816x1024) hz2, View.ld_unit_zero (S := S8x128) hz2,
    pay_f0, pay_f1, pay_e0, pay_y0, pay_m0, pay_d0, pay_g0, pay_l0, pay_e1, pay_y1, pay_d1, pay_g1, pay_l1]
  exact canon_both_of (K := 1024) (e := .bf16) (dfT x0 x1 x2 x3 x4) _ _ (by simp only [dfT, dyT, errT, fT, tile]; rfl) (by simp only [dfT, dyT, errT, fT, tile]; rfl) _ _ _

theorem out_A6 (hc : cond0_0 i) :
    out0_A_6 c i a1 h1 a2 h2 a3 h3 a4 h4 a5 h5 a6 h6 a7 h7 a8 h8 a9 h9 hc x0 x1 x2 x3 x4
      = both (dyT x0 x1 x2 x3 x4) := by
  unfold out0_A_6
  rw [View.read_writes_eq_canon _ _ _ (cover0_A_6 c i a1 h1 a2 h2 a3 h3 a4 h4 a5 h5 a6 h6 a7 h7 a8 h8 a9 h9 hc x0 x1 x2 x3 x4)]
  unfold kernelRun0_A
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread,
    View.ld_unit_zero (S := S1x1024) hz2, View.ld_unit_zero (S := S2816x1024) hz2, View.ld_unit_zero (S := S8x128) hz2,
    pay_f0, pay_f1, pay_e0, pay_y0, pay_m0, pay_d0, pay_g0, pay_l0, pay_e1, pay_y1, pay_d1, pay_g1, pay_l1]
  exact canon_both_of (K := 1024) (e := .f32) (dyT x0 x1 x2 x3 x4) _ _ (by simp only [dyT, errT, fT, tile]; rfl) (by simp only [dyT, errT, fT, tile]; rfl) _ _ _

theorem out_A7 (hc : cond0_0 i) :
    out0_A_7 c i a1 h1 a2 h2 a3 h3 a4 h4 a5 h5 a6 h6 a7 h7 a8 h8 a9 h9 hc x0 x1 x2 x3 x4
      = lossT x0 x1 x2 x3 x4 (fun _ => Scalar.ofBits .f32 0x00000000#32) := by
  unfold out0_A_7
  rw [View.read_writes_eq_canon _ _ _ (cover0_A_7 c i a1 h1 a2 h2 a3 h3 a4 h4 a5 h5 a6 h6 a7 h7 a8 h8 a9 h9 hc x0 x1 x2 x3 x4)]
  unfold kernelRun0_A
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread,
    View.ld_unit_zero (S := S1x1024) hz2, View.ld_unit_zero (S := S2816x1024) hz2, View.ld_unit_zero (S := S8x128) hz2,
    pay_f0, pay_f1, pay_e0, pay_y0, pay_m0, pay_d0, pay_g0, pay_l0, pay_e1, pay_y1, pay_d1, pay_g1, pay_l1]
  exact View.canon_cons_unit_zero (S := S8x128) hz2 _ _ _

theorem out_A8 (hc : cond0_0 i) :
    out0_A_8 c i a1 h1 a2 h2 a3 h3 a4 h4 a5 h5 a6 h6 a7 h7 a8 h8 a9 h9 hc x0 x1 x2 x3 x4
      = ggT x0 x1 x2 x3 x4 (fun _ => Scalar.ofBits .f32 0x00000000#32) := by
  unfold out0_A_8
  rw [View.read_writes_eq_canon _ _ _ (cover0_A_8 c i a1 h1 a2 h2 a3 h3 a4 h4 a5 h5 a6 h6 a7 h7 a8 h8 a9 h9 hc x0 x1 x2 x3 x4)]
  unfold kernelRun0_A
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread,
    View.ld_unit_zero (S := S1x1024) hz2, View.ld_unit_zero (S := S2816x1024) hz2, View.ld_unit_zero (S := S8x128) hz2,
    pay_f0, pay_f1, pay_e0, pay_y0, pay_m0, pay_d0, pay_g0, pay_l0, pay_e1, pay_y1, pay_d1, pay_g1, pay_l1]
  exact View.canon_cons_unit_zero (S := S1x1024) hz2 _ _ _

theorem out_B5 (hc : ¬cond0_0 i) :
    out0_B_5 c i a1 h1 a2 h2 a3 h3 a4 h4 a5 h5 a6 h6 a7 h7 a8 h8 a9 h9 hc x0 x1 x2 x3 x4 o7 o8
      = both (dfT x0 x1 x2 x3 x4) := by
  unfold out0_B_5
  rw [View.read_writes_eq_canon _ _ _ (cover0_B_5 c i a1 h1 a2 h2 a3 h3 a4 h4 a5 h5 a6 h6 a7 h7 a8 h8 a9 h9 hc x0 x1 x2 x3 x4 o7 o8)]
  unfold kernelRun0_B
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread,
    View.ld_unit_zero (S := S1x1024) hz2, View.ld_unit_zero (S := S2816x1024) hz2, View.ld_unit_zero (S := S8x128) hz2,
    pay_f0, pay_f1, pay_e0, pay_y0, pay_m0, pay_d0, pay_g0, pay_l0, pay_e1, pay_y1, pay_d1, pay_g1, pay_l1]
  exact canon_both_of (K := 1024) (e := .bf16) (dfT x0 x1 x2 x3 x4) _ _ (by simp only [dfT, dyT, errT, fT, tile]; rfl) (by simp only [dfT, dyT, errT, fT, tile]; rfl) _ _ _

theorem out_B6 (hc : ¬cond0_0 i) :
    out0_B_6 c i a1 h1 a2 h2 a3 h3 a4 h4 a5 h5 a6 h6 a7 h7 a8 h8 a9 h9 hc x0 x1 x2 x3 x4 o7 o8
      = both (dyT x0 x1 x2 x3 x4) := by
  unfold out0_B_6
  rw [View.read_writes_eq_canon _ _ _ (cover0_B_6 c i a1 h1 a2 h2 a3 h3 a4 h4 a5 h5 a6 h6 a7 h7 a8 h8 a9 h9 hc x0 x1 x2 x3 x4 o7 o8)]
  unfold kernelRun0_B
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread,
    View.ld_unit_zero (S := S1x1024) hz2, View.ld_unit_zero (S := S2816x1024) hz2, View.ld_unit_zero (S := S8x128) hz2,
    pay_f0, pay_f1, pay_e0, pay_y0, pay_m0, pay_d0, pay_g0, pay_l0, pay_e1, pay_y1, pay_d1, pay_g1, pay_l1]
  exact canon_both_of (K := 1024) (e := .f32) (dyT x0 x1 x2 x3 x4) _ _ (by simp only [dyT, errT, fT, tile]; rfl) (by simp only [dyT, errT, fT, tile]; rfl) _ _ _

theorem out_B7 (hc : ¬cond0_0 i) :
    out0_B_7 c i a1 h1 a2 h2 a3 h3 a4 h4 a5 h5 a6 h6 a7 h7 a8 h8 a9 h9 hc x0 x1 x2 x3 x4 o7 o8
      = lossT x0 x1 x2 x3 x4 o7 := by
  unfold out0_B_7
  rw [View.read_writes_eq_canon _ _ _ (cover0_B_7 c i a1 h1 a2 h2 a3 h3 a4 h4 a5 h5 a6 h6 a7 h7 a8 h8 a9 h9 hc x0 x1 x2 x3 x4 o7 o8)]
  unfold kernelRun0_B
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread,
    View.ld_unit_zero (S := S1x1024) hz2, View.ld_unit_zero (S := S2816x1024) hz2, View.ld_unit_zero (S := S8x128) hz2,
    pay_f0, pay_f1, pay_e0, pay_y0, pay_m0, pay_d0, pay_g0, pay_l0, pay_e1, pay_y1, pay_d1, pay_g1, pay_l1]
  exact View.canon_cons_unit_zero (S := S8x128) hz2 _ _ _

theorem out_B8 (hc : ¬cond0_0 i) :
    out0_B_8 c i a1 h1 a2 h2 a3 h3 a4 h4 a5 h5 a6 h6 a7 h7 a8 h8 a9 h9 hc x0 x1 x2 x3 x4 o7 o8
      = ggT x0 x1 x2 x3 x4 o8 := by
  unfold out0_B_8
  rw [View.read_writes_eq_canon _ _ _ (cover0_B_8 c i a1 h1 a2 h2 a3 h3 a4 h4 a5 h5 a6 h6 a7 h7 a8 h8 a9 h9 hc x0 x1 x2 x3 x4 o7 o8)]
  unfold kernelRun0_B
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread,
    View.ld_unit_zero (S := S1x1024) hz2, View.ld_unit_zero (S := S2816x1024) hz2, View.ld_unit_zero (S := S8x128) hz2,
    pay_f0, pay_f1, pay_e0, pay_y0, pay_m0, pay_d0, pay_g0, pay_l0, pay_e1, pay_y1, pay_d1, pay_g1, pay_l1]
  exact View.canon_cons_unit_zero (S := S1x1024) hz2 _ _ _

end Cert.Kernel2Ideal.Ffn

end
-- ==== Proof.FfnOut.Arrays.lean ====
/-
  What the four result arrays of the output layer's kernel hold, over arguments with real entries.
-/
module

public import proofs.«01_k».proof.Proof.FfnOut.Body
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen NormGrad Halves

variable (m : (ℓ : Loc nD τ sig) → Buf (Elt Ideal) ℓ)

/-- The arguments hold these reals: the activations, the weight, the residual, the target, and the norm's gain. -/
structure Holds (c : Dev nD) (y w x t : ℕ → ℕ → ℝ) (g : ℕ → ℝ) : Prop where
  y_eq : ∀ (R : Fin 8192) (k : Fin 2816), (m ((c : Thread nD τ).loc main_arg0) : Vec Ideal S8192x2816 .f32) (ix2 R k) = (y R.val k.val : EReal)
  w_eq : ∀ (k : Fin 2816) (C : Fin 1024), (m ((c : Thread nD τ).loc main_arg1) : Vec Ideal S2816x1024 .f32) (ix2 k C) = (w k.val C.val : EReal)
  x_eq : ∀ (R : Fin 8192) (C : Fin 1024), (m ((c : Thread nD τ).loc main_arg2) : Vec Ideal S8192x1024 .f32) (ix2 R C) = (x R.val C.val : EReal)
  t_eq : ∀ (R : Fin 8192) (C : Fin 1024), (m ((c : Thread nD τ).loc main_arg3) : Vec Ideal S8192x1024 .f32) (ix2 R C) = (t R.val C.val : EReal)
  g_eq : ∀ C : Fin 1024, (m ((c : Thread nD τ).loc main_arg4) : Vec Ideal S1x1024 .f32) (ix2 0 C) = (g C.val : EReal)

/-- The layer's output before its norm. -/
def fR (y w : ℕ → ℕ → ℝ) (R C : ℕ) : ℝ := ∑ k : Fin 2816, y R k.val * w k.val C
/-- The prediction's error. -/
def errR (y w x t : ℕ → ℕ → ℝ) (g : ℕ → ℝ) (R C : ℕ) : ℝ := x R C + xh (fR y w) R C * g C - t R C
/-- The loss's cotangent of the prediction. -/
def dyR (y w x t : ℕ → ℕ → ℝ) (g : ℕ → ℝ) (R C : ℕ) : ℝ := errR y w x t g R C * (1 / 1024)
/-- The loss of the first `n` rows. -/
def lossR (y w x t : ℕ → ℕ → ℝ) (g : ℕ → ℝ) (n : ℕ) : ℝ :=
  1 / 2 * ∑ R ∈ Finset.range n, (∑ j : Fin 1024, errR y w x t g R j.val * errR y w x t g R j.val) / 1024

theorem loss_add (y w x t : ℕ → ℕ → ℝ) (g : ℕ → ℝ) (n k : ℕ) : lossR y w x t g (n + k) = lossR y w x t g n
    + 1 / 2 * ∑ r : Fin k, (∑ j : Fin 1024, errR y w x t g (n + r.val) j.val * errR y w x t g (n + r.val) j.val) / 1024 := by
  unfold lossR
  rw [Finset.sum_range_add, Fin.sum_univ_eq_sum_range (fun r => (∑ j : Fin 1024, errR y w x t g (n + r) j.val * errR y w x t g (n + r) j.val) / 1024) k, mul_add]

/-! ## A tile over real entries -/

section
variable {gv : FVec Ideal S1x1024 .f32} {fv xv tv ev : FVec Ideal S256x1024 .f32} {f x t e : ℕ → ℕ → ℝ} {g : ℕ → ℝ} {o : ℕ}

theorem errV_apply (hf : ∀ (r : Fin 256) (C : Fin 1024), fv (ix2 r C) = (f (o + r.val) C.val : EReal))
    (hx : ∀ (r : Fin 256) (C : Fin 1024), xv (ix2 r C) = (x (o + r.val) C.val : EReal))
    (ht : ∀ (r : Fin 256) (C : Fin 1024), tv (ix2 r C) = (t (o + r.val) C.val : EReal))
    (hg : ∀ C : Fin 1024, gv (ix2 0 C) = (g C.val : EReal)) (r : Fin 256) (C : Fin 1024) :
    errV gv fv xv tv (ix2 r C) = ((x (o + r.val) C.val + xh f (o + r.val) C.val * g C.val - t (o + r.val) C.val : ℝ) : EReal) := by
  pointwise [errV]
  rw [xhV_apply hf, hx, ht, hg]
  norm_cast

variable (he : ∀ (r : Fin 256) (C : Fin 1024), ev (ix2 r C) = (e (o + r.val) C.val : EReal))
include he

theorem dyV_apply (r : Fin 256) (C : Fin 1024) : dyV ev (ix2 r C) = ((e (o + r.val) C.val * (1 / 1024) : ℝ) : EReal) := by
  pointwise [dyV]
  rw [he, recip_word]
  norm_cast

omit he in
/-- A sum over one column is a sum over its rows. -/
theorem column_sum (v : S1x256x1.Idx → EReal) : ∑ i : S1x256x1.Idx, v i = ∑ r : Fin 256, v (ix3 0 r 0) := by
  refine (Fintype.sum_equiv ⟨fun r : Fin 256 => (ix3 0 r 0 : S1x256x1.Idx), fun i => i 1, fun r => rfl, fun i => ?_⟩ _ _ fun r => rfl).symm
  funext a
  match a with
  | ⟨0, _⟩ => exact Subsingleton.elim (α := Fin 1) _ _
  | ⟨1, _⟩ => rfl
  | ⟨2, _⟩ => exact Subsingleton.elim (α := Fin 1) _ _

theorem lossV_apply (old : Vec Ideal S8x128 .f32) (i : S8x128.Idx) (p : ℝ) (ho : old i = (p : EReal)) : lossV ev old i
    = ((p + 1 / 2 * ∑ r : Fin 256, (∑ j : Fin 1024, e (o + r.val) j.val * e (o + r.val) j.val) / 1024 : ℝ) : EReal) := by
  unfold lossV k0_pay3
  dsimp only
  rw [shapeCast_self]
  have h (v : FVec Ideal S1x256x1 .f32) : extractAt ![0, 0, 0] (shapeCast S1x1x1 (multiReduction .add [1, 2] S1 v 0x00000000#32 reduces_S1x256x1_S1 (.inl rfl) rfl)
      shapeCasts_S1_S1x1x1) inpos_S1x1x1_p0_0_0 = ∑ r : Fin 256, v (ix3 0 r 0) :=
    (Ideal.multiReduction_add_total v 0x00000000#32 _ (fun b => by match b with | ⟨0, _⟩ => rfl) (.inl rfl) rfl _).trans (column_sum v)
  refine (congrArg (fun z : EReal => old i + Ideal.ofBits .f32 0x3F000000#32 * z) (h _)).trans ?_
  have k (r : Fin 256) : shapeCast S1x256x1 (divf (shapeCast S256x1 (multiReduction .add [1] S256 (mulf ev ev) 0x00000000#32 reduces_S256x1024_S256 (.inl rfl) rfl)
      shapeCasts_S256_S256x1) (broadcast S256x1 (Scalar.ofBits .f32 0x44800000#32))) shapeCasts_S256x1_S1x256x1 (ix3 0 r 0)
      = (((∑ j : Fin 1024, e (o + r.val) j.val * e (o + r.val) j.val) / 1024 : ℝ) : EReal) := by
    pointwise
    rw [sum_mul (he r) (he r), width_word, div_width]
  rw [ho, Reals.sum_eq_coe fun r _ => k r]
  rw [half_word]
  norm_cast
end

/-! ## What the host prepares -/

variable (c : Dev nD)

/-- The activations and the weight. -/
abbrev argY : FVec Ideal S8192x2816 .f32 := m ((c : Thread nD τ).loc main_arg0)
abbrev argW : FVec Ideal S2816x1024 .f32 := m ((c : Thread nD τ).loc main_arg1)

theorem prep0 : @Eq (Vec Ideal S8192x2816 .bf16) (V m c main_v0) (truncf .bf16 (argY m c) bitsLt_bf16_f32) := by
  unfold_abbrev_sides
  after_results
theorem prep1 : @Eq (Vec Ideal S2816x1024 .bf16) (V m c main_v1) (truncf .bf16 (argW m c) bitsLt_bf16_f32) := by
  unfold_abbrev_sides
  after_results

/-! ## The windows' blocks -/

variable {m c}

theorem idx0 (t : Fin cfg0.N) : win0_0.index t 0 = t.val ∧ win0_0.index t 1 = 0 :=
  (by decide +kernel : ∀ t : Fin grid0.N, win0_0.index t 0 = t.val ∧ win0_0.index t 1 = 0) t
theorem row0 (t : Fin cfg0.N) (r : Fin 512) (C : Fin 2816) : (iblk m c 0 t : Vec Ideal S512x2816 .bf16) (ix2 r C)
    = (V m c main_v0 : Vec Ideal S8192x2816 .bf16) (ix2 ⟨512 * t.val + r.val, by have : t.val < 16 := lt_of_lt_of_eq t.isLt N_0; omega⟩ C) := by
  unfold iblk
  rw [View.read_apply]
  show V m c main_v0 _ = V m c main_v0 _
  congr 1
  funext a
  apply Fin.ext
  match a with
  | ⟨0, _⟩ => show win0_0.index t 0 * 512 + 1 * r.val = 512 * t.val + r.val; rw [(idx0 t).1]; omega
  | ⟨1, _⟩ => show win0_0.index t 1 * 2816 + 1 * C.val = C.val; rw [(idx0 t).2]; omega
theorem idx1 (t : Fin cfg0.N) : ∀ a, win0_1.index t a = 0 :=
  (by decide +kernel : ∀ t : Fin grid0.N, ∀ a, win0_1.index t a = 0) t
theorem row1 (t : Fin cfg0.N) (r : Fin 2816) (C : Fin 1024) : (iblk m c 1 t : Vec Ideal S2816x1024 .bf16) (ix2 r C)
    = (V m c main_v1 : Vec Ideal S2816x1024 .bf16) (ix2 r C) := by
  unfold iblk
  rw [View.read_apply]
  show V m c main_v1 _ = V m c main_v1 _
  congr 1
  funext a
  apply Fin.ext
  match a with
  | ⟨0, _⟩ => show win0_1.index t 0 * 2816 + 1 * r.val = r.val; rw [idx1 t 0]; omega
  | ⟨1, _⟩ => show win0_1.index t 1 * 1024 + 1 * C.val = C.val; rw [idx1 t 1]; omega
theorem idx2 (t : Fin cfg0.N) : win0_2.index t 0 = t.val ∧ win0_2.index t 1 = 0 :=
  (by decide +kernel : ∀ t : Fin grid0.N, win0_2.index t 0 = t.val ∧ win0_2.index t 1 = 0) t
theorem row2 (t : Fin cfg0.N) (r : Fin 512) (C : Fin 1024) : (iblk m c 2 t : Vec Ideal S512x1024 .f32) (ix2 r C)
    = (V m c main_arg2 : Vec Ideal S8192x1024 .f32) (ix2 ⟨512 * t.val + r.val, by have : t.val < 16 := lt_of_lt_of_eq t.isLt N_0; omega⟩ C) := by
  unfold iblk
  rw [View.read_apply]
  show V m c main_arg2 _ = V m c main_arg2 _
  congr 1
  funext a
  apply Fin.ext
  match a with
  | ⟨0, _⟩ => show win0_2.index t 0 * 512 + 1 * r.val = 512 * t.val + r.val; rw [(idx2 t).1]; omega
  | ⟨1, _⟩ => show win0_2.index t 1 * 1024 + 1 * C.val = C.val; rw [(idx2 t).2]; omega
theorem idx3 (t : Fin cfg0.N) : win0_3.index t 0 = t.val ∧ win0_3.index t 1 = 0 :=
  (by decide +kernel : ∀ t : Fin grid0.N, win0_3.index t 0 = t.val ∧ win0_3.index t 1 = 0) t
theorem row3 (t : Fin cfg0.N) (r : Fin 512) (C : Fin 1024) : (iblk m c 3 t : Vec Ideal S512x1024 .f32) (ix2 r C)
    = (V m c main_arg3 : Vec Ideal S8192x1024 .f32) (ix2 ⟨512 * t.val + r.val, by have : t.val < 16 := lt_of_lt_of_eq t.isLt N_0; omega⟩ C) := by
  unfold iblk
  rw [View.read_apply]
  show V m c main_arg3 _ = V m c main_arg3 _
  congr 1
  funext a
  apply Fin.ext
  match a with
  | ⟨0, _⟩ => show win0_3.index t 0 * 512 + 1 * r.val = 512 * t.val + r.val; rw [(idx3 t).1]; omega
  | ⟨1, _⟩ => show win0_3.index t 1 * 1024 + 1 * C.val = C.val; rw [(idx3 t).2]; omega
theorem idx4 (t : Fin cfg0.N) : ∀ a, win0_4.index t a = 0 :=
  (by decide +kernel : ∀ t : Fin grid0.N, ∀ a, win0_4.index t a = 0) t
theorem row4 (t : Fin cfg0.N) (r : Fin 1) (C : Fin 1024) : (iblk m c 4 t : Vec Ideal S1x1024 .f32) (ix2 r C)
    = (V m c main_arg4 : Vec Ideal S1x1024 .f32) (ix2 r C) := by
  unfold iblk
  rw [View.read_apply]
  show V m c main_arg4 _ = V m c main_arg4 _
  congr 1
  funext a
  apply Fin.ext
  match a with
  | ⟨0, _⟩ => show win0_4.index t 0 * 1 + 1 * r.val = r.val; rw [idx4 t 0]; omega
  | ⟨1, _⟩ => show win0_4.index t 1 * 1024 + 1 * C.val = C.val; rw [idx4 t 1]; omega
theorem idx5 (t : Fin cfg0.N) : win0_5.index t 0 = t.val ∧ win0_5.index t 1 = 0 :=
  (by decide +kernel : ∀ t : Fin grid0.N, win0_5.index t 0 = t.val ∧ win0_5.index t 1 = 0) t
theorem idx6 (t : Fin cfg0.N) : win0_6.index t 0 = t.val ∧ win0_6.index t 1 = 0 :=
  (by decide +kernel : ∀ t : Fin grid0.N, win0_6.index t 0 = t.val ∧ win0_6.index t 1 = 0) t
theorem idx7 (t : Fin cfg0.N) : win0_7.index t 0 = 0 ∧ win0_7.index t 1 = 0 :=
  (by decide +kernel : ∀ t : Fin grid0.N, win0_7.index t 0 = 0 ∧ win0_7.index t 1 = 0) t
theorem idx8 (t : Fin cfg0.N) : win0_8.index t 0 = 0 ∧ win0_8.index t 1 = 0 :=
  (by decide +kernel : ∀ t : Fin grid0.N, win0_8.index t 0 = 0 ∧ win0_8.index t 1 = 0) t

variable {y w x u : ℕ → ℕ → ℝ} {g : ℕ → ℝ} (H : Holds m c y w x u g) (t : Fin cfg0.N)

include H

theorem blk0 (r : Fin 512) (k : Fin 2816) : (iblk m c 0 t : Vec Ideal S512x2816 .bf16) (ix2 r k) = (y (512 * t.val + r.val) k.val : EReal) := by
  rw [row0, prep0]; pointwise
  exact H.y_eq ⟨_, _⟩ k
theorem blk1 (k : Fin 2816) (C : Fin 1024) : (iblk m c 1 t : Vec Ideal S2816x1024 .bf16) (ix2 k C) = (w k.val C.val : EReal) := by
  rw [row1, prep1]; pointwise
  exact H.w_eq k C
theorem blk2 (r : Fin 512) (C : Fin 1024) : (iblk m c 2 t : Vec Ideal S512x1024 .f32) (ix2 r C) = (x (512 * t.val + r.val) C.val : EReal) := by
  rw [row2, V_main_arg2]; exact H.x_eq ⟨_, _⟩ C
theorem blk3 (r : Fin 512) (C : Fin 1024) : (iblk m c 3 t : Vec Ideal S512x1024 .f32) (ix2 r C) = (u (512 * t.val + r.val) C.val : EReal) := by
  rw [row3, V_main_arg3]; exact H.t_eq ⟨_, _⟩ C
theorem blk4 (C : Fin 1024) : (iblk m c 4 t : Vec Ideal S1x1024 .f32) (ix2 0 C) = (g C.val : EReal) := by
  rw [row4, V_main_arg4]; exact H.g_eq C

/-! ## One point -/

omit H in
/-- A tile's row, as a row of the whole matrix. -/
theorem tile_row (h : Fin 2) (r : Fin 256) : 512 * t.val + (256 * h.val + r.val) = (512 * t.val + 256 * h.val) + r.val := by omega

theorem fT_apply (h : Fin 2) (r : Fin 256) (C : Fin 1024) : fT (iblk m c 0 t) (iblk m c 1 t) h (ix2 r C)
    = (fR y w ((512 * t.val + 256 * h.val) + r.val) C.val : EReal) := by
  pointwise [fT, fV, k0_pay7, k0_pay6]
  rw [sum_mul (fun k => (tile_apply h _ r k).trans (blk0 H t _ k)) (fun k => blk1 H t k C)]
  simp only [tile_row t h r]
  rfl

theorem xT (h : Fin 2) (r : Fin 256) (C : Fin 1024) : tile h (iblk m c 2 t : Vec Ideal S512x1024 .f32) (ix2 r C)
    = (x ((512 * t.val + 256 * h.val) + r.val) C.val : EReal) := by
  rw [tile_apply, ← tile_row]; exact blk2 H t _ C
theorem uT (h : Fin 2) (r : Fin 256) (C : Fin 1024) : tile h (iblk m c 3 t : Vec Ideal S512x1024 .f32) (ix2 r C)
    = (u ((512 * t.val + 256 * h.val) + r.val) C.val : EReal) := by
  rw [tile_apply, ← tile_row]; exact blk3 H t _ C

theorem errT_apply (h : Fin 2) (r : Fin 256) (C : Fin 1024) : errT (iblk m c 0 t) (iblk m c 1 t) (iblk m c 2 t) (iblk m c 3 t) (iblk m c 4 t) h (ix2 r C)
    = (errR y w x u g ((512 * t.val + 256 * h.val) + r.val) C.val : EReal) :=
  errV_apply (fT_apply H t h) (xT H t h) (uT H t h) (blk4 H t) r C

theorem dyT_apply (h : Fin 2) (r : Fin 256) (C : Fin 1024) : dyT (iblk m c 0 t) (iblk m c 1 t) (iblk m c 2 t) (iblk m c 3 t) (iblk m c 4 t) h (ix2 r C)
    = (dyR y w x u g ((512 * t.val + 256 * h.val) + r.val) C.val : EReal) :=
  dyV_apply (errT_apply H t h) r C

theorem dfT_apply (h : Fin 2) (r : Fin 256) (C : Fin 1024) : dfT (iblk m c 0 t) (iblk m c 1 t) (iblk m c 2 t) (iblk m c 3 t) (iblk m c 4 t) h (ix2 r C)
    = (dx (fR y w) g (dyR y w x u g) ((512 * t.val + 256 * h.val) + r.val) C.val : EReal) :=
  dxV_apply (fT_apply H t h) (dyT_apply H t h) (blk4 H t) r C

/-! ## The arrays -/

variable (y w x u g) in
/-- The gradient of the norm's argument. -/
def dfA : S8192x1024.Idx → EReal := fun i => (dx (fR y w) g (dyR y w x u g) (i 0).val (i 1).val : EReal)
variable (y w x u g) in
/-- The cotangent of the prediction. -/
def dyA : S8192x1024.Idx → EReal := fun i => (dyR y w x u g (i 0).val (i 1).val : EReal)
variable (y w x u g) in
/-- The loss over the first `n` rows, in every place. -/
def lossA (n : ℕ) : S8x128.Idx → EReal := fun _ => (lossR y w x u g n : EReal)
variable (y w x u g) in
/-- The gradient of the gain over the first `n` rows. -/
def ggA (n : ℕ) : S1x1024.Idx → EReal := fun i => (dg (fR y w) (dyR y w x u g) n (i 1).val : EReal)

theorem lossT_eq (old : Vec Ideal S8x128 .f32) (ho : ∀ i, old i = (lossR y w x u g (512 * t.val) : EReal)) :
    lossT (iblk m c 0 t) (iblk m c 1 t) (iblk m c 2 t) (iblk m c 3 t) (iblk m c 4 t) old = lossA y w x u g (512 * (t.val + 1)) := by
  funext i
  unfold lossT
  rw [lossV_apply (errT_apply H t 1) _ i _ (lossV_apply (errT_apply H t 0) old i _ (ho i))]
  unfold lossA
  rw [show 512 * (t.val + 1) = 512 * t.val + 256 * (0 : Fin 2).val + 256 + 256 by dsimp; omega, loss_add, loss_add]
  rfl

theorem ggT_eq (old : Vec Ideal S1x1024 .f32) (ho : ∀ C, old (ix2 0 C) = (dg (fR y w) (dyR y w x u g) (512 * t.val) C.val : EReal)) :
    ggT (iblk m c 0 t) (iblk m c 1 t) (iblk m c 2 t) (iblk m c 3 t) (iblk m c 4 t) old = ggA y w x u g (512 * (t.val + 1)) := by
  funext i
  have hi : i = ix2 0 (i 1) := (ix2_eta i).symm.trans (congrArg (fun k : Fin 1 => (ix2 k (i 1) : S1x1024.Idx)) (Subsingleton.elim (α := Fin 1) _ _))
  refine (congrArg _ hi).trans ?_
  unfold ggT
  refine (dgV_apply (fT_apply H t 1) (dyT_apply H t 1) _ (i 1) _ (dgV_apply (fT_apply H t 0) (dyT_apply H t 0) old (i 1) _ (ho _))).trans ?_
  unfold ggA
  rw [show 512 * (t.val + 1) = 512 * t.val + 256 * (0 : Fin 2).val + 256 + 256 by dsimp; omega, dg_add, dg_add]
  rfl

/-- What the running loss and the running gradient hold after point `n`. -/
theorem outs_eq : ∀ (n : ℕ) (h : n < cfg0.N), (outsAt0 m c n h).2.2.1 = lossA y w x u g (512 * (n + 1)) ∧ (outsAt0 m c n h).2.2.2 = ggA y w x u g (512 * (n + 1))
  | 0, h => by
    rw [outsAt0_A m c ⟨0, h⟩ rfl]
    dsimp only
    rw [out_A7, out_A8]
    exact ⟨lossT_eq H ⟨0, h⟩ _ fun i => Ideal.ofBits_zero_f32.trans (by simp [lossR]),
      ggT_eq H ⟨0, h⟩ _ fun C => Ideal.ofBits_zero_f32.trans (by simp [dg])⟩
  | n + 1, h => by
    have hN : n + 1 < 16 := lt_of_lt_of_eq h N_0
    have e := outs_eq n (Nat.lt_of_succ_lt h)
    rw [outsAt0_B m c ⟨n + 1, h⟩ (by dsimp only; omega)]
    dsimp only
    rw [out_B7, out_B8]
    exact ⟨lossT_eq H ⟨n + 1, h⟩ _ fun i => congrFun e.1 i, ggT_eq H ⟨n + 1, h⟩ _ fun C => congrFun e.2 (ix2 0 C)⟩

/-- A point's blocks of the first two results. -/
theorem blocks (i : S512x1024.Idx) : (outsAt0 m c t.val t.isLt).1 i
    = dfA y w x u g (ix2 ⟨512 * t.val + (i 0).val, by have : t.val < 16 := lt_of_lt_of_eq t.isLt N_0; have : (i 0).val < 512 := (i 0).isLt; omega⟩ (i 1))
    ∧ (outsAt0 m c t.val t.isLt).2.1 i
    = dyA y w x u g (ix2 ⟨512 * t.val + (i 0).val, by have : t.val < 16 := lt_of_lt_of_eq t.isLt N_0; have : (i 0).val < 512 := (i 0).isLt; omega⟩ (i 1)) := by
  have h : (outsAt0 m c t.val t.isLt).1 = both (dfT (iblk m c 0 t) (iblk m c 1 t) (iblk m c 2 t) (iblk m c 3 t) (iblk m c 4 t))
      ∧ (outsAt0 m c t.val t.isLt).2.1 = both (dyT (iblk m c 0 t) (iblk m c 1 t) (iblk m c 2 t) (iblk m c 3 t) (iblk m c 4 t)) := by
    by_cases h0 : t.val % 16 = 0
    · rw [outsAt0_A m c t h0]; dsimp only; rw [out_A5, out_A6]; exact ⟨rfl, rfl⟩
    · rw [outsAt0_B m c t h0]; dsimp only; rw [out_B5, out_B6]; exact ⟨rfl, rfl⟩
  have e : 512 * t.val + 256 * ((i 0).val / 256) + (i 0).val % 256 = 512 * t.val + (i 0).val := by omega
  rw [h.1, h.2]
  constructor
  · refine (dfT_apply H t _ _ _).trans ?_
    show ((dx (fR y w) g (dyR y w x u g) (512 * t.val + 256 * ((i 0).val / 256) + (i 0).val % 256) _ : ℝ) : EReal) = _
    rw [e]
    rfl
  · refine (dyT_apply H t _ _ _).trans ?_
    show ((dyR y w x u g (512 * t.val + 256 * ((i 0).val / 256) + (i 0).val % 256) _ : ℝ) : EReal) = _
    rw [e]
    rfl

/-- The last point. -/
def tLast : Fin cfg0.N := ⟨15, by rw [show cfg0.N = 16 from N_0]; omega⟩

/-- The first result. -/
theorem final5 : (dats m 0 c).arrAt 5 cfg0.N = dfA y w x u g :=
  (dats m 0 c).arrAt_eq_of_cover 5 (dfA y w x u g)
    (fun t hf => by
      have hN : t.val < 16 := lt_of_lt_of_eq t.isLt N_0
      show (cfg0.win 5).cut (grid0.coords t) ((dats m 0 c).after 5 t) = _
      rw [after0_5]
      funext y_
      have h0 : (y_ 0).val < 512 := (y_ 0).isLt
      refine Eq.trans ((blocks H t y_).1) ?_
      rw [View.read_apply]
      congr 1
      funext a
      apply Fin.ext
      match a with
      | ⟨0, _⟩ => show 512 * t.val + (y_ 0).val = win0_5.index t 0 * 512 + 1 * (y_ 0).val; rw [(idx5 t).1]; omega
      | ⟨1, _⟩ => show (y_ 1).val = win0_5.index t 1 * 1024 + 1 * (y_ 1).val; rw [(idx5 t).2]; omega)
    fun i => by
      have h0 : (i 0).val < 8192 := (i 0).isLt
      have h1 : (i 1).val < 1024 := (i 1).isLt
      let t : Fin cfg0.N := ⟨(i 0).val / 512, by rw [show cfg0.N = 16 from N_0]; omega⟩
      refine ⟨t, flush0_5 t, ?_⟩
      show i ∈ ((View.whole main_v2_0).slice (win0_5.rect t)).set
      rw [View.set_slice_whole, Rect.mem_set_unit]
      intro a
      match a with
      | ⟨0, _⟩ =>
        show win0_5.index t 0 * 512 ≤ (i 0).val ∧ (i 0).val < win0_5.index t 0 * 512 + 512
        rw [(idx5 t).1]; dsimp only [t]; omega
      | ⟨1, _⟩ =>
        show win0_5.index t 1 * 1024 ≤ (i 1).val ∧ (i 1).val < win0_5.index t 1 * 1024 + 1024
        rw [(idx5 t).2]; omega
/-- The second result. -/
theorem final6 : (dats m 0 c).arrAt 6 cfg0.N = dyA y w x u g :=
  (dats m 0 c).arrAt_eq_of_cover 6 (dyA y w x u g)
    (fun t hf => by
      have hN : t.val < 16 := lt_of_lt_of_eq t.isLt N_0
      show (cfg0.win 6).cut (grid0.coords t) ((dats m 0 c).after 6 t) = _
      rw [after0_6]
      funext y_
      have h0 : (y_ 0).val < 512 := (y_ 0).isLt
      refine Eq.trans ((blocks H t y_).2) ?_
      rw [View.read_apply]
      congr 1
      funext a
      apply Fin.ext
      match a with
      | ⟨0, _⟩ => show 512 * t.val + (y_ 0).val = win0_6.index t 0 * 512 + 1 * (y_ 0).val; rw [(idx6 t).1]; omega
      | ⟨1, _⟩ => show (y_ 1).val = win0_6.index t 1 * 1024 + 1 * (y_ 1).val; rw [(idx6 t).2]; omega)
    fun i => by
      have h0 : (i 0).val < 8192 := (i 0).isLt
      have h1 : (i 1).val < 1024 := (i 1).isLt
      let t : Fin cfg0.N := ⟨(i 0).val / 512, by rw [show cfg0.N = 16 from N_0]; omega⟩
      refine ⟨t, flush0_6 t, ?_⟩
      show i ∈ ((View.whole main_v2_1).slice (win0_6.rect t)).set
      rw [View.set_slice_whole, Rect.mem_set_unit]
      intro a
      match a with
      | ⟨0, _⟩ =>
        show win0_6.index t 0 * 512 ≤ (i 0).val ∧ (i 0).val < win0_6.index t 0 * 512 + 512
        rw [(idx6 t).1]; dsimp only [t]; omega
      | ⟨1, _⟩ =>
        show win0_6.index t 1 * 1024 ≤ (i 1).val ∧ (i 1).val < win0_6.index t 1 * 1024 + 1024
        rw [(idx6 t).2]; omega
/-- The third result. -/
theorem final7 : (dats m 0 c).arrAt 7 cfg0.N = lossA y w x u g 8192 :=
  (dats m 0 c).arrAt_eq_of_cover 7 (lossA y w x u g 8192)
    (fun t hf => by
      have hN : t.val < 16 := lt_of_lt_of_eq t.isLt N_0
      have hl : t.val = 15 := by have := (flush0_7 t).mp hf; omega
      show (cfg0.win 7).cut (grid0.coords t) ((dats m 0 c).after 7 t) = _
      rw [after0_7, (outs_eq H t.val t.isLt).1, hl]
      funext y_
      rw [View.read_apply]
      have e : ((cfg0.win 7).blk t).view.emb y_ = y_ := funext fun a => Fin.ext (by
        match a with
        | ⟨0, _⟩ => show win0_7.index t 0 * 8 + 1 * (y_ 0).val = (y_ 0).val; rw [(idx7 t).1]; omega
        | ⟨1, _⟩ => show win0_7.index t 1 * 128 + 1 * (y_ 1).val = (y_ 1).val; rw [(idx7 t).2]; omega)
      exact congrArg (lossA y w x u g 8192) e.symm)
    fun i => ⟨tLast, (flush0_7 tLast).mpr rfl, by
      show i ∈ ((View.whole main_v2_2).slice (win0_7.rect tLast)).set
      rw [View.set_slice_whole, Rect.mem_set_unit]
      intro a
      match a with
      | ⟨0, _⟩ =>
        have h : (i 0).val < 8 := (i 0).isLt
        show win0_7.index tLast 0 * 8 ≤ (i 0).val ∧ (i 0).val < win0_7.index tLast 0 * 8 + 8
        rw [(idx7 tLast).1]; omega
      | ⟨1, _⟩ =>
        have h : (i 1).val < 128 := (i 1).isLt
        show win0_7.index tLast 1 * 128 ≤ (i 1).val ∧ (i 1).val < win0_7.index tLast 1 * 128 + 128
        rw [(idx7 tLast).2]; omega⟩
/-- The fourth result. -/
theorem final8 : (dats m 0 c).arrAt 8 cfg0.N = ggA y w x u g 8192 :=
  (dats m 0 c).arrAt_eq_of_cover 8 (ggA y w x u g 8192)
    (fun t hf => by
      have hN : t.val < 16 := lt_of_lt_of_eq t.isLt N_0
      have hl : t.val = 15 := by have := (flush0_8 t).mp hf; omega
      show (cfg0.win 8).cut (grid0.coords t) ((dats m 0 c).after 8 t) = _
      rw [after0_8, (outs_eq H t.val t.isLt).2, hl]
      funext y_
      rw [View.read_apply]
      have e : ((cfg0.win 8).blk t).view.emb y_ = y_ := funext fun a => Fin.ext (by
        match a with
        | ⟨0, _⟩ => show win0_8.index t 0 * 1 + 1 * (y_ 0).val = (y_ 0).val; rw [(idx8 t).1]; omega
        | ⟨1, _⟩ => show win0_8.index t 1 * 1024 + 1 * (y_ 1).val = (y_ 1).val; rw [(idx8 t).2]; omega)
      exact congrArg (ggA y w x u g 8192) e.symm)
    fun i => ⟨tLast, (flush0_8 tLast).mpr rfl, by
      show i ∈ ((View.whole main_v2_3).slice (win0_8.rect tLast)).set
      rw [View.set_slice_whole, Rect.mem_set_unit]
      intro a
      match a with
      | ⟨0, _⟩ =>
        have h : (i 0).val < 1 := (i 0).isLt
        show win0_8.index tLast 0 * 1 ≤ (i 0).val ∧ (i 0).val < win0_8.index tLast 0 * 1 + 1
        rw [(idx8 tLast).1]; omega
      | ⟨1, _⟩ =>
        have h : (i 1).val < 1024 := (i 1).isLt
        show win0_8.index tLast 1 * 1024 ≤ (i 1).val ∧ (i 1).val < win0_8.index tLast 1 * 1024 + 1024
        rw [(idx8 tLast).2]; omega⟩

end Cert.Kernel2Ideal.Ffn

end
-- ==== Proof.Norm.Ref.lean ====
/-
  The host's operations of a norm over rows, and of its derivative, read over real entries.
-/
module

public import proofs.«01_k».proof.Proof.Norm.Spec
public import Idealize.ShloMosaic.Lib.Pointwise
public import Idealize.ShloMosaic.Lib.ValueIdx

@[expose] public section

noncomputable section

open Idealize.ShloMosaic

namespace NormGrad

/-- Matrices of `n` rows, and columns of them. -/
abbrev Mat (n k : ℕ) : Shape := ⟨2, ![n, k]⟩

/-- The entries of a matrix are these reals. -/
def IsMat {n k : ℕ} (v : (Mat n k).Idx → EReal) (f : ℕ → ℕ → ℝ) : Prop := ∀ (R : Fin n) (C : Fin k), v (ix2 R C) = (f R.val C.val : EReal)

/-- A matrix's entries as reals. -/
def entries {n k : ℕ} (v : (Mat n k).Idx → EReal) (R C : ℕ) : ℝ := if h : R < n ∧ C < k then (v (ix2 ⟨R, h.1⟩ ⟨C, h.2⟩)).toReal else 0

theorem entries_eq {n k : ℕ} (v : (Mat n k).Idx → EReal) (h : ∀ i, v i = ((v i).toReal : EReal)) : IsMat v (entries v) := fun R C => by
  rw [entries, dif_pos ⟨R.isLt, C.isLt⟩]; exact h _

/-- Half a row's scale over its mean square, as the derivative of the root has it. -/
theorem half_ratio (x : ℕ → ℕ → ℝ) (R : ℕ) : Ideal.ofBits .f32 0xBF000000#32 * Ideal.div ((rs x R : ℝ) : EReal) ((ms x R : ℝ) : EReal)
    = ((-(1 / 2) * (rs x R / ms x R) : ℝ) : EReal) := by
  rw [minus_half_word, Ideal.div_coe (ms_pos x R).ne', ← EReal.coe_mul, mul_one_div]
  norm_cast

/-- A row's mean square at extended reals. -/
theorem mean_sq (x : ℕ → ℕ → ℝ) {a : Fin 1024 → EReal} (R : ℕ) (ha : ∀ j, a j = (x R j.val : EReal)) :
    Ideal.div (∑ j, a j * a j) (Ideal.ofBits .f32 0x44800000#32) + Ideal.ofBits .f32 0x358637BD#32 = (ms x R : EReal) := by
  rw [sum_mul ha ha, width_word, div_width, eps_word, ← EReal.coe_add]
  rfl

end NormGrad

end
-- ==== Proof.FfnOut.Reference.lean ====
/-
  The reference's four results over arguments with real entries.
-/
module

public import proofs.«01_k».proof.Proof.Gen.Reference2Ideal.Read
public import proofs.«01_k».proof.Proof.Norm.Ref
public import proofs.«01_k».proof.Proof.FfnOut.Arrays

@[expose] public section

set_option maxRecDepth 16384

noncomputable section

open Idealize.ShloMosaic NormGrad

namespace Cert.Reference2Ideal.Ffn

open Cert.Reference2Ideal Cert.Reference2Ideal.Gen Cert.Reference2Ideal.Read
open Cert.Kernel2Ideal.Ffn (fR errR dyR lossR)

/-- The arguments hold these reals. -/
structure Holds (p0 : FVec Ideal S8192x2816 .f32) (p1 : FVec Ideal S2816x1024 .f32) (p2 p3 : FVec Ideal S8192x1024 .f32) (p4 : FVec Ideal S1x1024 .f32)
    (y w x t : ℕ → ℕ → ℝ) (g : ℕ → ℝ) : Prop where
  y_eq : IsMat p0 y
  w_eq : IsMat p1 w
  x_eq : IsMat p2 x
  t_eq : IsMat p3 t
  g_eq : ∀ C : Fin 1024, p4 (ix2 0 C) = (g C.val : EReal)

variable {p0 : FVec Ideal S8192x2816 .f32} {p1 : FVec Ideal S2816x1024 .f32} {p2 p3 : FVec Ideal S8192x1024 .f32} {p4 : FVec Ideal S1x1024 .f32}
  {y w x t : ℕ → ℕ → ℝ} {g : ℕ → ℝ} (H : Holds p0 p1 p2 p3 p4 y w x t g)
include H

theorem v0_apply (R : Fin 8192) (C : Fin 1024) : val_main_v0 (F := Ideal) p0 p1 (ix2 R C) = (fR y w R.val C.val : EReal) := by
  pointwise [val_main_v0]
  exact sum_mul (H.y_eq R) (fun k => H.w_eq k C)

theorem v7_apply (R : Fin 8192) : val_main_v7 (F := Ideal) p0 p1 (ix2 R 0) = (ms (fR y w) R.val : EReal) := by
  pointwise [val_main_v7, val_main_v5, val_main_v3, val_main_v2, val_main_v1, val_main_cst, val_main_v4, val_main_cst_0, val_main_v6, val_main_cst_1]
  exact mean_sq (fR y w) R.val (v0_apply H R)

theorem v8_apply (R : Fin 8192) : val_main_v8 (F := Ideal) p0 p1 (ix2 R 0) = (rs (fR y w) R.val : EReal) := by
  pointwise [val_main_v8, val_main_v7, val_main_v5, val_main_v3, val_main_v2, val_main_v1, val_main_cst, val_main_v4, val_main_cst_0, val_main_v6, val_main_cst_1]
  exact rsqrt_ms (fR y w) R.val (v0_apply H R)

theorem v11_apply (R : Fin 8192) : val_main_v11 (F := Ideal) p0 p1 (ix2 R 0) = ((-(1 / 2) * (rs (fR y w) R.val / ms (fR y w) R.val) : ℝ) : EReal) := by
  pointwise [val_main_v11, val_main_v10, val_main_cst_2, val_main_v9]
  rw [v7_apply H R, v8_apply H R]
  exact half_ratio (fR y w) R.val

theorem v13_apply (R : Fin 8192) (C : Fin 1024) : val_main_v13 (F := Ideal) p0 p1 (ix2 R C) = (xh (fR y w) R.val C.val : EReal) := by
  pointwise [val_main_v13, val_main_v12]
  rw [v8_apply H R, v0_apply H R C]
  unfold xh; norm_cast

theorem v17_apply (R : Fin 8192) (C : Fin 1024) : val_main_v17 (F := Ideal) p0 p1 p2 p3 p4 (ix2 R C) = (errR y w x t g R.val C.val : EReal) := by
  pointwise [val_main_v17, val_main_v16, val_main_v15, val_main_v14]
  rw [v13_apply H R C, H.x_eq R C, H.t_eq R C, H.g_eq C]
  unfold errR; norm_cast

/-- The cotangent of the prediction. -/
theorem dy_all (R : Fin 8192) (C : Fin 1024) : val_main_v31 (F := Ideal) p0 p1 p2 p3 p4 (ix2 R C) = (dyR y w x t g R.val C.val : EReal) := by
  pointwise [val_main_v31, val_main_v30, val_main_v29, val_main_v27, val_main_v26, val_main_cst_8, val_main_cst_9, val_main_v28, val_main_cst_10, val_main_v20, val_main_v19, val_main_cst_3]
  rw [v17_apply H R C, half_word, two_word, width_word, div_width]
  unfold dyR
  norm_cast
  ring_nf

/-- The loss. -/
theorem loss_all (r : Fin 8) (C : Fin 128) : val_main_v52 (F := Ideal) p0 p1 p2 p3 p4 (ix2 r C) = (lossR y w x t g 8192 : EReal) := by
  pointwise [val_main_v52, val_main_v25, val_main_cst_7, val_main_v24, val_main_v23, val_main_v21, val_main_v18, val_main_cst_4, val_main_v22, val_main_cst_5, val_main_cst_6]
  have e (R : Fin 8192) : Ideal.div (∑ j : Fin 1024, val_main_v17 (F := Ideal) p0 p1 p2 p3 p4 (ix2 R j) * val_main_v17 (F := Ideal) p0 p1 p2 p3 p4 (ix2 R j)) (Ideal.ofBits .f32 0x44800000#32)
      = (((∑ j : Fin 1024, errR y w x t g R.val j.val * errR y w x t g R.val j.val) / 1024 : ℝ) : EReal) := by
    rw [sum_mul (v17_apply H R) (v17_apply H R), width_word]
    exact div_width _
  refine (congrArg (fun z : EReal => Ideal.ofBits .f32 0x3F000000#32 * z) (Reals.sum_eq_coe fun R _ => e R)).trans ?_
  rw [half_word]
  unfold lossR
  rw [← Fin.sum_univ_eq_sum_range (fun R => (∑ j : Fin 1024, errR y w x t g R j.val * errR y w x t g R j.val) / 1024) 8192]
  norm_cast

theorem v36_apply (R : Fin 8192) (C : Fin 1024) : val_main_v36 (F := Ideal) p0 p1 p2 p3 p4 (ix2 R C) = ((dyR y w x t g R.val C.val * g C.val : ℝ) : EReal) := by
  pointwise [val_main_v36, val_main_v35]
  rw [dy_all H R C, H.g_eq C]
  norm_cast

theorem v39_apply (R : Fin 8192) : val_main_v39 (F := Ideal) p0 p1 p2 p3 p4 (ix2 R 0)
    = ((∑ j : Fin 1024, fR y w R.val j.val * (dyR y w x t g R.val j.val * g j.val) : ℝ) : EReal) := by
  pointwise [val_main_v39, val_main_v38, val_main_v37, val_main_cst_12]
  exact sum_mul (v0_apply H R) (v36_apply H R)

theorem v46_apply (R : Fin 8192) (C : Fin 1024) : val_main_v46 (F := Ideal) p0 p1 p2 p3 p4 (ix2 R C)
    = (((∑ j : Fin 1024, fR y w R.val j.val * (dyR y w x t g R.val j.val * g j.val)) * (-(1 / 2) * (rs (fR y w) R.val / ms (fR y w) R.val)) / 1024 : ℝ) : EReal) := by
  pointwise [val_main_v46, val_main_v45, val_main_v44, val_main_v42, val_main_v43, val_main_cst_13, val_main_cst_14]
  simp only [Fin.sum_univ_one, zero_add]
  rw [v39_apply H R, v11_apply H R, ← EReal.coe_mul, width_word, div_width]

/-- The gradient of the norm's argument. -/
theorem df_all (R : Fin 8192) (C : Fin 1024) : val_main_v51 (F := Ideal) p0 p1 p2 p3 p4 (ix2 R C)
    = (dx (fR y w) g (dyR y w x t g) R.val C.val : EReal) := by
  rw [← chain (fR y w) g (dyR y w x t g) R.val C.val _ rfl]
  pointwise [val_main_v51, val_main_v50, val_main_v48, val_main_v41, val_main_v40, val_main_v47, val_main_v49]
  rw [v46_apply H R C, v36_apply H R C, v8_apply H R, v0_apply H R C]
  norm_cast

/-- The gradient of the gain. -/
theorem dg_all (C : Fin 1024) : val_main_v34 (F := Ideal) p0 p1 p2 p3 p4 (ix2 0 C) = (dg (fR y w) (dyR y w x t g) 8192 C.val : EReal) := by
  pointwise [val_main_v34, val_main_v33, val_main_v32, val_main_cst_11]
  rw [sum_mul (fun R => v13_apply H R C) (fun R => dy_all H R C)]
  unfold dg
  rw [← Fin.sum_univ_eq_sum_range (fun R => dyR y w x t g R C.val * xh (fR y w) R C.val) 8192]
  simp only [mul_comm]

end Cert.Reference2Ideal.Ffn

end
-- ==== Proof.FfnOut.Equation.lean ====
/-
  Over arguments with finite entries the kernel's four result arrays are the reference's.
-/
module

public import proofs.«01_k».proof.Defs
public import proofs.«01_k».proof.Proof.Finite
public import proofs.«01_k».proof.Proof.FfnOut.Arrays
public import proofs.«01_k».proof.Proof.FfnOut.Reference
public import proofs.«01_k».proof.Proof.Gen.Kernel2Ideal.Value
public import proofs.«01_k».proof.Proof.Gen.Reference2Ideal.Run
public import Idealize.ShloMosaic.Lib.Quiescent

@[expose] public section

set_option maxRecDepth 16384

noncomputable section

open Idealize.ShloMosaic Idealize.ShloMosaic.TcCoe Idealize.SL.Sem

namespace Cert.FfnOutEq

open NormGrad

instance facts : Cert.Pre_finite2.Facts where
  bcast_S_S8192x2816 := by decide
  reducesTo_S8192x2816_S_d0_1 := by decide
  h_S_ := by decide
  bcast_S_S2816x1024 := by decide
  reducesTo_S2816x1024_S_d0_1 := by decide
  bcast_S_S8192x1024 := by decide
  reducesTo_S8192x1024_S_d0_1 := by decide
  bcast_S_S1x1024 := by decide
  reducesTo_S1x1024_S_d0_1 := by decide

/-- The arguments are these reals, where the predicate holds. -/
theorem holds (x0 : FVec Ideal Cert.Reference2Ideal.S8192x2816 .f32) (x1 : FVec Ideal Cert.Reference2Ideal.S2816x1024 .f32) (x2 : FVec Ideal Cert.Reference2Ideal.S8192x1024 .f32) (x3 : FVec Ideal Cert.Reference2Ideal.S8192x1024 .f32) (x4 : FVec Ideal Cert.Reference2Ideal.S1x1024 .f32)
    (h : Cert.Pre_finite2.fn (F := Ideal) x0 x1 x2 x3 x4 = fun _ => 1#1) :
    Cert.Reference2Ideal.Ffn.Holds x0 x1 x2 x3 x4 (entries x0) (entries x1) (entries x2) (entries x3) (entries x4 0) := by
  have e := congrFun h ix0
  simp only [Cert.Pre_finite2.fn, Cert.Pre_finite2.fn_part1, andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton (Cert.Pre_finite2.S_).Idx := ⟨fun a b => funext fun k => k.elim0⟩
  exact ⟨entries_eq _ (Finite.all _ _ _ _ _ ix0 e0), entries_eq _ (Finite.all _ _ _ _ _ ix0 e1), entries_eq _ (Finite.all _ _ _ _ _ ix0 e2), entries_eq _ (Finite.all _ _ _ _ _ ix0 e3), entries_eq _ (Finite.all _ _ _ _ _ ix0 e4) 0⟩

variable (m : (ℓ : Loc Cert.Kernel2Ideal.nD Cert.Kernel2Ideal.τ Cert.Kernel2Ideal.sig) → Buf (Elt Ideal) ℓ) (c : Dev Cert.Kernel2Ideal.nD)

/-! The kernel's arguments on a device. -/
abbrev a0 : FVec Ideal Cert.Reference2Ideal.S8192x2816 .f32 := m ((c : Thread Cert.Kernel2Ideal.nD Cert.Kernel2Ideal.τ).loc Cert.Kernel2Ideal.main_arg0)
abbrev a1 : FVec Ideal Cert.Reference2Ideal.S2816x1024 .f32 := m ((c : Thread Cert.Kernel2Ideal.nD Cert.Kernel2Ideal.τ).loc Cert.Kernel2Ideal.main_arg1)
abbrev a2 : FVec Ideal Cert.Reference2Ideal.S8192x1024 .f32 := m ((c : Thread Cert.Kernel2Ideal.nD Cert.Kernel2Ideal.τ).loc Cert.Kernel2Ideal.main_arg2)
abbrev a3 : FVec Ideal Cert.Reference2Ideal.S8192x1024 .f32 := m ((c : Thread Cert.Kernel2Ideal.nD Cert.Kernel2Ideal.τ).loc Cert.Kernel2Ideal.main_arg3)
abbrev a4 : FVec Ideal Cert.Reference2Ideal.S1x1024 .f32 := m ((c : Thread Cert.Kernel2Ideal.nD Cert.Kernel2Ideal.τ).loc Cert.Kernel2Ideal.main_arg4)

variable {m} (h : Cert.Pre_Kernel2Ideal_finite2 m)
include h

theorem holdsR : Cert.Reference2Ideal.Ffn.Holds (a0 m c) (a1 m c) (a2 m c) (a3 m c) (a4 m c) (entries (a0 m c)) (entries (a1 m c)) (entries (a2 m c)) (entries (a3 m c)) (entries (a4 m c) 0) :=
  holds _ _ _ _ _ (h c)
theorem holdsK : Cert.Kernel2Ideal.Ffn.Holds m c (entries (a0 m c)) (entries (a1 m c)) (entries (a2 m c)) (entries (a3 m c)) (entries (a4 m c) 0) :=
  have H := holdsR c h
  ⟨H.y_eq, H.w_eq, H.x_eq, H.t_eq, H.g_eq⟩

/-- The gradient of the norm's argument. -/
theorem result5 : (Cert.Kernel2Ideal.Gen.dats m 0 c).arrAt 5 Cert.Kernel2Ideal.cfg0.N = Cert.Reference2Ideal.Read.val_main_v51 (F := Ideal) (a0 m c) (a1 m c) (a2 m c) (a3 m c) (a4 m c) := by
  refine (Cert.Kernel2Ideal.Ffn.final5 (holdsK c h)).trans (funext fun y => ?_)
  obtain ⟨r, C, rfl⟩ : ∃ (r : Fin 8192) (C : Fin 1024), y = ix2 r C := ⟨y 0, y 1, (ix2_eta y).symm⟩
  exact (Cert.Reference2Ideal.Ffn.df_all (holdsR c h) r C).symm

/-- The cotangent of the prediction. -/
theorem result6 : (Cert.Kernel2Ideal.Gen.dats m 0 c).arrAt 6 Cert.Kernel2Ideal.cfg0.N = Cert.Reference2Ideal.Read.val_main_v31 (F := Ideal) (a0 m c) (a1 m c) (a2 m c) (a3 m c) (a4 m c) := by
  refine (Cert.Kernel2Ideal.Ffn.final6 (holdsK c h)).trans (funext fun y => ?_)
  obtain ⟨r, C, rfl⟩ : ∃ (r : Fin 8192) (C : Fin 1024), y = ix2 r C := ⟨y 0, y 1, (ix2_eta y).symm⟩
  exact (Cert.Reference2Ideal.Ffn.dy_all (holdsR c h) r C).symm

/-- The loss. -/
theorem result7 : (Cert.Kernel2Ideal.Gen.dats m 0 c).arrAt 7 Cert.Kernel2Ideal.cfg0.N = Cert.Reference2Ideal.Read.val_main_v52 (F := Ideal) (a0 m c) (a1 m c) (a2 m c) (a3 m c) (a4 m c) := by
  refine (Cert.Kernel2Ideal.Ffn.final7 (holdsK c h)).trans (funext fun y => ?_)
  obtain ⟨r, C, rfl⟩ : ∃ (r : Fin 8) (C : Fin 128), y = ix2 r C := ⟨y 0, y 1, (ix2_eta y).symm⟩
  exact (Cert.Reference2Ideal.Ffn.loss_all (holdsR c h) r C).symm

/-- The gradient of the gain. -/
theorem result8 : (Cert.Kernel2Ideal.Gen.dats m 0 c).arrAt 8 Cert.Kernel2Ideal.cfg0.N = Cert.Reference2Ideal.Read.val_main_v34 (F := Ideal) (a0 m c) (a1 m c) (a2 m c) (a3 m c) (a4 m c) := by
  refine (Cert.Kernel2Ideal.Ffn.final8 (holdsK c h)).trans (funext fun y => ?_)
  obtain ⟨r, C, rfl⟩ : ∃ (r : Fin 1) (C : Fin 1024), y = ix2 r C := ⟨y 0, y 1, (ix2_eta y).symm⟩
  obtain rfl : r = 0 := Subsingleton.elim _ _
  exact (Cert.Reference2Ideal.Ffn.dg_all (holdsR c h) C).symm

omit h
/-- The reference runs, keeps its arguments and has no semaphore. -/
theorem frame_reference : Cert.quiescent_Reference2Ideal := fun m ρ _ =>
  (θ_run Cert.Reference2Ideal.defs _ _).mono (fun r h => ⟨fun c => (h c).2.2.2.2, sem_eq_zero_of_no_sems rfl r.2⟩)
    (Cert.Reference2Ideal.Value.run (F := Ideal) m ρ)

/-- The kernel's results are the reference's. -/
theorem value : Cert.algebraic_Kernel2Ideal_Reference2Ideal_pre_finite2 := fun m g m' g' h e =>
  ⟨_, _, _, _, Cert.Kernel2Ideal.Value.run_blocks m g,
    (θ_run Cert.Reference2Ideal.defs _ _).mono (fun r H c => by
      obtain ⟨r0, r1, r2, r3, k⟩ := H c
      obtain ⟨e0, e1, e2, e3, e4⟩ := e c
      refine ⟨?_, ?_, ?_, ?_, k⟩
      · exact (r0.trans (Cert.Reference2Ideal.Read.val_main_v51_eq ..)).trans ((congr (congr (congr (congr (congrArg _ e0) e1) e2) e3) e4).trans (result5 c h).symm)
      · exact (r1.trans (Cert.Reference2Ideal.Read.val_main_v31_eq ..)).trans ((congr (congr (congr (congr (congrArg _ e0) e1) e2) e3) e4).trans (result6 c h).symm)
      · exact (r2.trans (Cert.Reference2Ideal.Read.val_main_v52_eq ..)).trans ((congr (congr (congr (congr (congrArg _ e0) e1) e2) e3) e4).trans (result7 c h).symm)
      · exact (r3.trans (Cert.Reference2Ideal.Read.val_main_v34_eq ..)).trans ((congr (congr (congr (congr (congrArg _ e0) e1) e2) e3) e4).trans (result8 c h).symm))
    (Cert.Reference2Ideal.Value.run (F := Ideal) m' g')⟩

end Cert.FfnOutEq

end
-- ==== Proof.DgradTwo.Body.lean ====
/-
  What one run of the two norms' gradient leaves in its four output buffers.
-/
module

public import proofs.«01_k».proof.Proof.Norm.Tile
public import proofs.«01_k».proof.Proof.Norm.Halves
public import proofs.«01_k».proof.Proof.Gen.Kernel3Ideal.Frame
public import Idealize.ShloMosaic.Lib.Tactic

@[expose] public section

set_option maxRecDepth 16384

noncomputable section

open Idealize.ShloMosaic Idealize.ShloMosaic.TcCoe Idealize.SL.Sem

namespace Cert.Kernel3Ideal.Dgrad

open Cert.Kernel3Ideal Cert.Kernel3Ideal.Gen NormGrad Halves

variable {F : FTy → Type} [FloatOps F]

/-- The weight's rows `2816 q …`. -/
def wt (q : Fin 2) (w : Vec F S5632x1024 .bf16) : Vec F S2816x1024 .bf16 := match q with
  | 0 => View.ld w (Rect.unit ![0, 0] S2816x1024.size inb_S5632x1024_S2816x1024_0_0)
  | 1 => View.ld w (Rect.unit ![2816, 0] S2816x1024.size inb_S5632x1024_S2816x1024_2816_0)

/-- A tile's cotangent of the first norm: the sum of two products. -/
def dhV (a0 a1 : Vec F S256x2816 .bf16) (w : Vec F S5632x1024 .bf16) : FVec F S256x1024 .f32 := k0_pay5 a0 (wt 0 w) a1 (wt 1 w)

section
variable (x z : Vec F S256x1024 .f32) (g k old : Vec F S1x1024 .f32) (dh d : FVec F S256x1024 .f32) (res : Vec F S256x1024 .f32)

/-! The body's stored values, in the norms' terms. -/

theorem cast0 : k0_pay7 x = x := shapeCast_self _ _
theorem cast1 : k0_pay18 x = x := shapeCast_self _ _
theorem pay_h1 (a0 a1 : Vec F S256x2816 .bf16) (w0 w1 : Vec F S2816x1024 .bf16) : k0_pay6 a0 w0 a1 w1 = k0_pay5 a0 w0 a1 w1 := rfl
theorem pay_x0 : k0_pay11 dh (k0_pay7 x) g (k0_pay8 x) res = addf res (dxV x g dh) := by simp only [k0_pay8, cast0]; rfl
theorem pay_g0 : k0_pay12 dh (k0_pay7 x) (k0_pay8 x) old = dgV x dh old := by simp only [k0_pay8, cast0]; rfl
theorem pay_z0 : k0_pay16 d z k (k0_pay13 z) = truncf .bf16 (dxV z k d) bitsLt_bf16_f32 := rfl
theorem pay_k0 : k0_pay17 d z (k0_pay13 z) old = dgV z d old := rfl
theorem pay_x1 : k0_pay23 (k0_pay19 x) (k0_pay20 x) (k0_pay21 dh g) (k0_pay22 dh x g) res = addf res (dxV x g dh) := by simp only [k0_pay19, k0_pay20, k0_pay21, k0_pay22, cast1]; rfl
theorem pay_g1 : k0_pay24 dh (k0_pay20 x) old = dgV x dh old := by simp only [k0_pay19, k0_pay20, k0_pay21, k0_pay22, cast1]; rfl
theorem pay_z1 : k0_pay1 (k0_pay25 z) (k0_pay27 (k0_pay19 x) (k0_pay20 x) (k0_pay21 dh g) (k0_pay22 dh x g) res k)
    (k0_pay28 (k0_pay19 x) (k0_pay20 x) (k0_pay21 dh g) (k0_pay22 dh x g) res z k)
    = truncf .bf16 (dxV z k (addf res (dxV x g dh))) bitsLt_bf16_f32 := by simp only [k0_pay19, k0_pay20, k0_pay21, k0_pay22, cast1]; rfl
theorem pay_k1 : k0_pay2 d (k0_pay26 z) old = dgV z d old := rfl
end

variable (c : Dev nD) (i : grid0.Coords)
  (a1 : Memref sig .tc .vmem S512x2816 .bf16) (h1 : a1.IsWhole)
  (a2 : Memref sig .tc .vmem S512x2816 .bf16) (h2 : a2.IsWhole)
  (a3 : Memref sig .tc .vmem S5632x1024 .bf16) (h3 : a3.IsWhole)
  (a4 : Memref sig .tc .vmem S512x1024 .f32) (h4 : a4.IsWhole)
  (a5 : Memref sig .tc .vmem S512x1024 .f32) (h5 : a5.IsWhole)
  (a6 : Memref sig .tc .vmem S1x1024 .f32) (h6 : a6.IsWhole)
  (a7 : Memref sig .tc .vmem S512x1024 .f32) (h7 : a7.IsWhole)
  (a8 : Memref sig .tc .vmem S1x1024 .f32) (h8 : a8.IsWhole)
  (a9 : Memref sig .tc .vmem S512x1024 .f32) (h9 : a9.IsWhole)
  (a10 : Memref sig .tc .vmem S1x1024 .f32) (h10 : a10.IsWhole)
  (a11 : Memref sig .tc .vmem S512x1024 .bf16) (h11 : a11.IsWhole)
  (a12 : Memref sig .tc .vmem S1x1024 .f32) (h12 : a12.IsWhole)
  (x0 : Vec F S512x2816 .bf16) (x1 : Vec F S512x2816 .bf16) (x2 : Vec F S5632x1024 .bf16) (x3 : Vec F S512x1024 .f32) (x4 : Vec F S512x1024 .f32) (x5 : Vec F S1x1024 .f32) (x6 : Vec F S512x1024 .f32) (x7 : Vec F S1x1024 .f32)
  (o9 : Vec F S1x1024 .f32) (o11 : Vec F S1x1024 .f32)

/-- Each tile's cotangent of the first norm. -/
def dhT (h : Fin 2) : FVec F S256x1024 .f32 := dhV (tile h x0) (tile h x1) x2
/-- Each tile's gradient of the first norm's argument, with what came along the residual. -/
def dxT (h : Fin 2) : FVec F S256x1024 .f32 := addf (tile h x3) (dxV (tile h x4) x5 (dhT x0 x1 x2 h))
/-- Each tile's gradient of the second norm's argument. -/
def dzT (h : Fin 2) : FVec F S256x1024 .bf16 := truncf .bf16 (dxV (tile h x6) x7 (dxT x0 x1 x2 x3 x4 x5 h)) bitsLt_bf16_f32
/-- The first gain's gradient after both tiles. -/
def ggT (old : Vec F S1x1024 .f32) : FVec F S1x1024 .f32 :=
  dgV (tile 1 x4) (dhT x0 x1 x2 1) (dgV (tile 0 x4) (dhT x0 x1 x2 0) old)
/-- The second gain's gradient after both tiles. -/
def gkT (old : Vec F S1x1024 .f32) : FVec F S1x1024 .f32 :=
  dgV (tile 1 x6) (dxT x0 x1 x2 x3 x4 x5 1) (dgV (tile 0 x6) (dxT x0 x1 x2 x3 x4 x5 0) old)

theorem out_A8 (hc : cond0_0 i) :
    out0_A_8 c i a1 h1 a2 h2 a3 h3 a4 h4 a5 h5 a6 h6 a7 h7 a8 h8 a9 h9 a10 h10 a11 h11 a12 h12 hc x0 x1 x2 x3 x4 x5 x6 x7
      = both (dxT x0 x1 x2 x3 x4 x5) := by
  unfold out0_A_8
  rw [View.read_writes_eq_canon _ _ _ (cover0_A_8 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread, h10.read_unread, h11.read_unread, h12.read_unread,
    View.ld_unit_zero (S := S1x1024) hz2,
    pay_h1, pay_x0, pay_g0, pay_z0, pay_k0, pay_x1, pay_g1, pay_z1, pay_k1]
  exact canon_both_of (K := 1024) (e := .f32) (dxT x0 x1 x2 x3 x4 x5) _ _ (by simp only [dxT, dhT, dhV, wt, tile]; rfl) (by simp only [dxT, dhT, dhV, wt, tile]; rfl) _ _ _

theorem out_A9 (hc : cond0_0 i) :
    out0_A_9 c i a1 h1 a2 h2 a3 h3 a4 h4 a5 h5 a6 h6 a7 h7 a8 h8 a9 h9 a10 h10 a11 h11 a12 h12 hc x0 x1 x2 x3 x4 x5 x6 x7
      = ggT x0 x1 x2 x4 (fun _ => Scalar.ofBits .f32 0x00000000#32) := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread, h10.read_unread, h11.read_unread, h12.read_unread,
    View.ld_unit_zero (S := S1x1024) hz2,
    pay_h1, pay_x0, pay_g0, pay_z0, pay_k0, pay_x1, pay_g1, pay_z1, pay_k1]
  exact View.canon_cons_unit_zero (S := S1x1024) hz2 _ _ _

theorem out_A10 (hc : cond0_0 i) :
    out0_A_10 c i a1 h1 a2 h2 a3 h3 a4 h4 a5 h5 a6 h6 a7 h7 a8 h8 a9 h9 a10 h10 a11 h11 a12 h12 hc x0 x1 x2 x3 x4 x5 x6 x7
      = both (dzT x0 x1 x2 x3 x4 x5 x6 x7) := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread, h10.read_unread, h11.read_unread, h12.read_unread,
    View.ld_unit_zero (S := S1x1024) hz2,
    pay_h1, pay_x0, pay_g0, pay_z0, pay_k0, pay_x1, pay_g1, pay_z1, pay_k1]
  exact canon_both_of (K := 1024) (e := .bf16) (dzT x0 x1 x2 x3 x4 x5 x6 x7) _ _ (by simp only [dzT, dxT, dhT, dhV, wt, tile]; rfl) (by simp only [dzT, dxT, dhT, dhV, wt, tile]; rfl) _ _ _

theorem out_A11 (hc : cond0_0 i) :
    out0_A_11 c i a1 h1 a2 h2 a3 h3 a4 h4 a5 h5 a6 h6 a7 h7 a8 h8 a9 h9 a10 h10 a11 h11 a12 h12 hc x0 x1 x2 x3 x4 x5 x6 x7
      = gkT x0 x1 x2 x3 x4 x5 x6 (fun _ => Scalar.ofBits .f32 0x00000000#32) := by
  unfold out0_A_11
  rw [View.read_writes_eq_canon _ _ _ (cover0_A_11 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread, h10.read_unread, h11.read_unread, h12.read_unread,
    View.ld_unit_zero (S := S1x1024) hz2,
    pay_h1, pay_x0, pay_g0, pay_z0, pay_k0, pay_x1, pay_g1, pay_z1, pay_k1]
  exact View.canon_cons_unit_zero (S := S1x1024) hz2 _ _ _

theorem out_B8 (hc : ¬cond0_0 i) :
    out0_B_8 c i a1 h1 a2 h2 a3 h3 a4 h4 a5 h5 a6 h6 a7 h7 a8 h8 a9 h9 a10 h10 a11 h11 a12 h12 hc x0 x1 x2 x3 x4 x5 x6 x7 o9 o11
      = both (dxT x0 x1 x2 x3 x4 x5) := by
  unfold out0_B_8
  rw [View.read_writes_eq_canon _ _ _ (cover0_B_8 c i a1 h1 a2 h2 a3 h3 a4 h4 a5 h5 a6 h6 a7 h7 a8 h8 a9 h9 a10 h10 a11 h11 a12 h12 hc x0 x1 x2 x3 x4 x5 x6 x7 o9 o11)]
  unfold kernelRun0_B
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread, h10.read_unread, h11.read_unread, h12.read_unread,
    View.ld_unit_zero (S := S1x1024) hz2,
    pay_h1, pay_x0, pay_g0, pay_z0, pay_k0, pay_x1, pay_g1, pay_z1, pay_k1]
  exact canon_both_of (K := 1024) (e := .f32) (dxT x0 x1 x2 x3 x4 x5) _ _ (by simp only [dxT, dhT, dhV, wt, tile]; rfl) (by simp only [dxT, dhT, dhV, wt, tile]; rfl) _ _ _

theorem out_B9 (hc : ¬cond0_0 i) :
    out0_B_9 c i a1 h1 a2 h2 a3 h3 a4 h4 a5 h5 a6 h6 a7 h7 a8 h8 a9 h9 a10 h10 a11 h11 a12 h12 hc x0 x1 x2 x3 x4 x5 x6 x7 o9 o11
      = ggT x0 x1 x2 x4 o9 := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 x6 x7 o9 o11)]
  unfold kernelRun0_B
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread, h10.read_unread, h11.read_unread, h12.read_unread,
    View.ld_unit_zero (S := S1x1024) hz2,
    pay_h1, pay_x0, pay_g0, pay_z0, pay_k0, pay_x1, pay_g1, pay_z1, pay_k1]
  exact View.canon_cons_unit_zero (S := S1x1024) hz2 _ _ _

theorem out_B10 (hc : ¬cond0_0 i) :
    out0_B_10 c i a1 h1 a2 h2 a3 h3 a4 h4 a5 h5 a6 h6 a7 h7 a8 h8 a9 h9 a10 h10 a11 h11 a12 h12 hc x0 x1 x2 x3 x4 x5 x6 x7 o9 o11
      = both (dzT x0 x1 x2 x3 x4 x5 x6 x7) := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 x6 x7 o9 o11)]
  unfold kernelRun0_B
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread, h10.read_unread, h11.read_unread, h12.read_unread,
    View.ld_unit_zero (S := S1x1024) hz2,
    pay_h1, pay_x0, pay_g0, pay_z0, pay_k0, pay_x1, pay_g1, pay_z1, pay_k1]
  exact canon_both_of (K := 1024) (e := .bf16) (dzT x0 x1 x2 x3 x4 x5 x6 x7) _ _ (by simp only [dzT, dxT, dhT, dhV, wt, tile]; rfl) (by simp only [dzT, dxT, dhT, dhV, wt, tile]; rfl) _ _ _

theorem out_B11 (hc : ¬cond0_0 i) :
    out0_B_11 c i a1 h1 a2 h2 a3 h3 a4 h4 a5 h5 a6 h6 a7 h7 a8 h8 a9 h9 a10 h10 a11 h11 a12 h12 hc x0 x1 x2 x3 x4 x5 x6 x7 o9 o11
      = gkT x0 x1 x2 x3 x4 x5 x6 o11 := by
  unfold out0_B_11
  rw [View.read_writes_eq_canon _ _ _ (cover0_B_11 c i a1 h1 a2 h2 a3 h3 a4 h4 a5 h5 a6 h6 a7 h7 a8 h8 a9 h9 a10 h10 a11 h11 a12 h12 hc x0 x1 x2 x3 x4 x5 x6 x7 o9 o11)]
  unfold kernelRun0_B
  dsimp only
  sl_unfold_words
  simp (disch := first | rfl | decide) only [↓View.readCov_skip, View.readCov_fill, View.readAt_eq_ld, h1.read_unread, h2.read_unread, h3.read_unread, h4.read_unread, h5.read_unread, h6.read_unread, h7.read_unread, h8.read_unread, h9.read_unread, h10.read_unread, h11.read_unread, h12.read_unread,
    View.ld_unit_zero (S := S1x1024) hz2,
    pay_h1, pay_x0, pay_g0, pay_z0, pay_k0, pay_x1, pay_g1, pay_z1, pay_k1]
  exact View.canon_cons_unit_zero (S := S1x1024) hz2 _ _ _

end Cert.Kernel3Ideal.Dgrad

end
-- ==== Proof.DgradTwo.Arrays.lean ====
/-
  What the four result arrays of the two norms' gradient hold, over arguments with real entries.
-/
module

public import proofs.«01_k».proof.Proof.DgradTwo.Body
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Dgrad

open Cert.Kernel3Ideal Cert.Kernel3Ideal.Gen NormGrad Halves

variable (m : (ℓ : Loc nD τ sig) → Buf (Elt Ideal) ℓ)

/-- The arguments hold these reals: the block's input, the mixed rows, the two gains, the weight, the cotangent of the projection, and what comes along the residual. -/
structure Holds (c : Dev nD) (x z : ℕ → ℕ → ℝ) (k g : ℕ → ℝ) (w a res : ℕ → ℕ → ℝ) : Prop where
  x_eq : ∀ (R : Fin 8192) (C : Fin 1024), (m ((c : Thread nD τ).loc main_arg0) : Vec Ideal S8192x1024 .f32) (ix2 R C) = (x R.val C.val : EReal)
  z_eq : ∀ (R : Fin 8192) (C : Fin 1024), (m ((c : Thread nD τ).loc main_arg1) : Vec Ideal S8192x1024 .f32) (ix2 R C) = (z R.val C.val : EReal)
  k_eq : ∀ C : Fin 1024, (m ((c : Thread nD τ).loc main_arg2) : Vec Ideal S1x1024 .f32) (ix2 0 C) = (k C.val : EReal)
  g_eq : ∀ C : Fin 1024, (m ((c : Thread nD τ).loc main_arg3) : Vec Ideal S1x1024 .f32) (ix2 0 C) = (g C.val : EReal)
  w_eq : ∀ (C : Fin 1024) (j : Fin 5632), (m ((c : Thread nD τ).loc main_arg4) : Vec Ideal S1024x5632 .f32) (ix2 C j) = (w C.val j.val : EReal)
  a_eq : ∀ (R : Fin 8192) (j : Fin 5632), (m ((c : Thread nD τ).loc main_arg5) : Vec Ideal S8192x5632 .f32) (ix2 R j) = (a R.val j.val : EReal)
  res_eq : ∀ (R : Fin 8192) (C : Fin 1024), (m ((c : Thread nD τ).loc main_arg6) : Vec Ideal S8192x1024 .f32) (ix2 R C) = (res R.val C.val : EReal)

/-- The second norm's argument: the input and the first norm of the mixed rows. -/
def x2 (x z : ℕ → ℕ → ℝ) (k : ℕ → ℝ) (R C : ℕ) : ℝ := x R C + xh z R C * k C
/-- The second norm's cotangent: the projection's, back through its weight. -/
def dh (w a : ℕ → ℕ → ℝ) (R C : ℕ) : ℝ := ∑ j : Fin 5632, a R j.val * w C j.val
/-- The gradient of the second norm's argument, with what came along the residual. -/
def d1 (x z : ℕ → ℕ → ℝ) (k g : ℕ → ℝ) (w a res : ℕ → ℕ → ℝ) (R C : ℕ) : ℝ := res R C + dx (x2 x z k) g (dh w a) R C

/-- The same sum over the two halves. -/
theorem dh_blocks (w a : ℕ → ℕ → ℝ) (R C : ℕ) : dh w a R C = (∑ j : Fin 2816, a R j.val * w C j.val)
    + ∑ j : Fin 2816, a R (2816 + j.val) * w C (2816 + j.val) := by
  unfold dh
  rw [Fin.sum_univ_eq_sum_range (fun j => a R j * w C j) 5632, show (5632 : ℕ) = 2816 + 2816 from rfl, Finset.sum_range_add]
  rw [Fin.sum_univ_eq_sum_range (fun j => a R j * w C j) 2816, Fin.sum_univ_eq_sum_range (fun j => a R (2816 + j) * w C (2816 + j)) 2816]

/-! ## What the host prepares -/

variable (c : Dev nD)

/-- The block's input, the mixed rows, their norm's gain, the projection's cotangent and its weight. -/
abbrev argX : FVec Ideal S8192x1024 .f32 := m ((c : Thread nD τ).loc main_arg0)
abbrev argZ : FVec Ideal S8192x1024 .f32 := m ((c : Thread nD τ).loc main_arg1)
abbrev argK : FVec Ideal S1x1024 .f32 := m ((c : Thread nD τ).loc main_arg2)
abbrev argA : FVec Ideal S8192x5632 .f32 := m ((c : Thread nD τ).loc main_arg5)
abbrev argW : FVec Ideal S1024x5632 .f32 := m ((c : Thread nD τ).loc main_arg4)

theorem prep14 : @Eq (Vec Ideal S8192x2816 .bf16) (V m c main_v14) (extractStridedSlice S8192x2816 ![0, 0]
    (truncf .bf16 (argA m c) bitsLt_bf16_f32) slices_S8192x5632_S8192x2816_0_0) := by
  unfold_abbrev_sides
  after_results
theorem prep15 : @Eq (Vec Ideal S8192x2816 .bf16) (V m c main_v15) (extractStridedSlice S8192x2816 ![0, 2816]
    (truncf .bf16 (argA m c) bitsLt_bf16_f32) slices_S8192x5632_S8192x2816_0_2816) := by
  unfold_abbrev_sides
  after_results
theorem prep17 : @Eq (Vec Ideal S5632x1024 .bf16) (V m c main_v17) (truncf .bf16 (transpose S5632x1024 [1, 0]
    (argW m c) transposes_S1024x5632_S5632x1024_1_0) bitsLt_bf16_f32) := by
  unfold_abbrev_sides
  after_results
theorem prep12 : @Eq (Vec Ideal S8192x1024 .f32) (V m c main_v12) (addf (argX m c) (mulf (mulf (argZ m c)
    (broadcastInDim S8192x1024 ![0, 1] bcast_S8192x1_S8192x1024_0_1 (Host.rsqrt (addf (Host.divf
      (broadcastInDim S8192x1 ![0] bcast_S8192_S8192x1_0 (Host.reduceAdd (mulf (argZ m c) (argZ m c)) (constant S_ .f32 0x00000000#32) reducesTo_S8192x1024_S8192_d1 h_S_))
      (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (argK m c)))) := by
  unfold_abbrev_sides
  after_results

/-! ## The windows' blocks -/

variable {m c}

theorem idx0 (t : Fin cfg0.N) : win0_0.index t 0 = t.val ∧ win0_0.index t 1 = 0 :=
  (by decide +kernel : ∀ t : Fin grid0.N, win0_0.index t 0 = t.val ∧ win0_0.index t 1 = 0) t
theorem row0 (t : Fin cfg0.N) (r : Fin 512) (C : Fin 2816) : (iblk m c 0 t : Vec Ideal S512x2816 .bf16) (ix2 r C)
    = (V m c main_v14 : Vec Ideal S8192x2816 .bf16) (ix2 ⟨512 * t.val + r.val, by have : t.val < 16 := lt_of_lt_of_eq t.isLt N_0; omega⟩ C) := by
  unfold iblk
  rw [View.read_apply]
  show V m c main_v14 _ = V m c main_v14 _
  congr 1
  funext a
  apply Fin.ext
  match a with
  | ⟨0, _⟩ => show win0_0.index t 0 * 512 + 1 * r.val = 512 * t.val + r.val; rw [(idx0 t).1]; omega
  | ⟨1, _⟩ => show win0_0.index t 1 * 2816 + 1 * C.val = C.val; rw [(idx0 t).2]; omega
theorem idx1 (t : Fin cfg0.N) : win0_1.index t 0 = t.val ∧ win0_1.index t 1 = 0 :=
  (by decide +kernel : ∀ t : Fin grid0.N, win0_1.index t 0 = t.val ∧ win0_1.index t 1 = 0) t
theorem row1 (t : Fin cfg0.N) (r : Fin 512) (C : Fin 2816) : (iblk m c 1 t : Vec Ideal S512x2816 .bf16) (ix2 r C)
    = (V m c main_v15 : Vec Ideal S8192x2816 .bf16) (ix2 ⟨512 * t.val + r.val, by have : t.val < 16 := lt_of_lt_of_eq t.isLt N_0; omega⟩ C) := by
  unfold iblk
  rw [View.read_apply]
  show V m c main_v15 _ = V m c main_v15 _
  congr 1
  funext a
  apply Fin.ext
  match a with
  | ⟨0, _⟩ => show win0_1.index t 0 * 512 + 1 * r.val = 512 * t.val + r.val; rw [(idx1 t).1]; omega
  | ⟨1, _⟩ => show win0_1.index t 1 * 2816 + 1 * C.val = C.val; rw [(idx1 t).2]; omega
theorem idx2 (t : Fin cfg0.N) : ∀ a, win0_2.index t a = 0 :=
  (by decide +kernel : ∀ t : Fin grid0.N, ∀ a, win0_2.index t a = 0) t
theorem row2 (t : Fin cfg0.N) (r : Fin 5632) (C : Fin 1024) : (iblk m c 2 t : Vec Ideal S5632x1024 .bf16) (ix2 r C)
    = (V m c main_v17 : Vec Ideal S5632x1024 .bf16) (ix2 r C) := by
  unfold iblk
  rw [View.read_apply]
  show V m c main_v17 _ = V m c main_v17 _
  congr 1
  funext a
  apply Fin.ext
  match a with
  | ⟨0, _⟩ => show win0_2.index t 0 * 5632 + 1 * r.val = r.val; rw [idx2 t 0]; omega
  | ⟨1, _⟩ => show win0_2.index t 1 * 1024 + 1 * C.val = C.val; rw [idx2 t 1]; omega
theorem idx3 (t : Fin cfg0.N) : win0_3.index t 0 = t.val ∧ win0_3.index t 1 = 0 :=
  (by decide +kernel : ∀ t : Fin grid0.N, win0_3.index t 0 = t.val ∧ win0_3.index t 1 = 0) t
theorem row3 (t : Fin cfg0.N) (r : Fin 512) (C : Fin 1024) : (iblk m c 3 t : Vec Ideal S512x1024 .f32) (ix2 r C)
    = (V m c main_arg6 : Vec Ideal S8192x1024 .f32) (ix2 ⟨512 * t.val + r.val, by have : t.val < 16 := lt_of_lt_of_eq t.isLt N_0; omega⟩ C) := by
  unfold iblk
  rw [View.read_apply]
  show V m c main_arg6 _ = V m c main_arg6 _
  congr 1
  funext a
  apply Fin.ext
  match a with
  | ⟨0, _⟩ => show win0_3.index t 0 * 512 + 1 * r.val = 512 * t.val + r.val; rw [(idx3 t).1]; omega
  | ⟨1, _⟩ => show win0_3.index t 1 * 1024 + 1 * C.val = C.val; rw [(idx3 t).2]; omega
theorem idx4 (t : Fin cfg0.N) : win0_4.index t 0 = t.val ∧ win0_4.index t 1 = 0 :=
  (by decide +kernel : ∀ t : Fin grid0.N, win0_4.index t 0 = t.val ∧ win0_4.index t 1 = 0) t
theorem row4 (t : Fin cfg0.N) (r : Fin 512) (C : Fin 1024) : (iblk m c 4 t : Vec Ideal S512x1024 .f32) (ix2 r C)
    = (V m c main_v12 : Vec Ideal S8192x1024 .f32) (ix2 ⟨512 * t.val + r.val, by have : t.val < 16 := lt_of_lt_of_eq t.isLt N_0; omega⟩ C) := by
  unfold iblk
  rw [View.read_apply]
  show V m c main_v12 _ = V m c main_v12 _
  congr 1
  funext a
  apply Fin.ext
  match a with
  | ⟨0, _⟩ => show win0_4.index t 0 * 512 + 1 * r.val = 512 * t.val + r.val; rw [(idx4 t).1]; omega
  | ⟨1, _⟩ => show win0_4.index t 1 * 1024 + 1 * C.val = C.val; rw [(idx4 t).2]; omega
theorem idx5 (t : Fin cfg0.N) : ∀ a, win0_5.index t a = 0 :=
  (by decide +kernel : ∀ t : Fin grid0.N, ∀ a, win0_5.index t a = 0) t
theorem row5 (t : Fin cfg0.N) (r : Fin 1) (C : Fin 1024) : (iblk m c 5 t : Vec Ideal S1x1024 .f32) (ix2 r C)
    = (V m c main_arg3 : Vec Ideal S1x1024 .f32) (ix2 r C) := by
  unfold iblk
  rw [View.read_apply]
  show V m c main_arg3 _ = V m c main_arg3 _
  congr 1
  funext a
  apply Fin.ext
  match a with
  | ⟨0, _⟩ => show win0_5.index t 0 * 1 + 1 * r.val = r.val; rw [idx5 t 0]; omega
  | ⟨1, _⟩ => show win0_5.index t 1 * 1024 + 1 * C.val = C.val; rw [idx5 t 1]; omega
theorem idx6 (t : Fin cfg0.N) : win0_6.index t 0 = t.val ∧ win0_6.index t 1 = 0 :=
  (by decide +kernel : ∀ t : Fin grid0.N, win0_6.index t 0 = t.val ∧ win0_6.index t 1 = 0) t
theorem row6 (t : Fin cfg0.N) (r : Fin 512) (C : Fin 1024) : (iblk m c 6 t : Vec Ideal S512x1024 .f32) (ix2 r C)
    = (V m c main_arg1 : Vec Ideal S8192x1024 .f32) (ix2 ⟨512 * t.val + r.val, by have : t.val < 16 := lt_of_lt_of_eq t.isLt N_0; omega⟩ C) := by
  unfold iblk
  rw [View.read_apply]
  show V m c main_arg1 _ = V m c main_arg1 _
  congr 1
  funext a
  apply Fin.ext
  match a with
  | ⟨0, _⟩ => show win0_6.index t 0 * 512 + 1 * r.val = 512 * t.val + r.val; rw [(idx6 t).1]; omega
  | ⟨1, _⟩ => show win0_6.index t 1 * 1024 + 1 * C.val = C.val; rw [(idx6 t).2]; omega
theorem idx7 (t : Fin cfg0.N) : ∀ a, win0_7.index t a = 0 :=
  (by decide +kernel : ∀ t : Fin grid0.N, ∀ a, win0_7.index t a = 0) t
theorem row7 (t : Fin cfg0.N) (r : Fin 1) (C : Fin 1024) : (iblk m c 7 t : Vec Ideal S1x1024 .f32) (ix2 r C)
    = (V m c main_arg2 : Vec Ideal S1x1024 .f32) (ix2 r C) := by
  unfold iblk
  rw [View.read_apply]
  show V m c main_arg2 _ = V m c main_arg2 _
  congr 1
  funext a
  apply Fin.ext
  match a with
  | ⟨0, _⟩ => show win0_7.index t 0 * 1 + 1 * r.val = r.val; rw [idx7 t 0]; omega
  | ⟨1, _⟩ => show win0_7.index t 1 * 1024 + 1 * C.val = C.val; rw [idx7 t 1]; omega
theorem idx8 (t : Fin cfg0.N) : win0_8.index t 0 = t.val ∧ win0_8.index t 1 = 0 :=
  (by decide +kernel : ∀ t : Fin grid0.N, win0_8.index t 0 = t.val ∧ win0_8.index t 1 = 0) t
theorem idx9 (t : Fin cfg0.N) : win0_9.index t 0 = 0 ∧ win0_9.index t 1 = 0 :=
  (by decide +kernel : ∀ t : Fin grid0.N, win0_9.index t 0 = 0 ∧ win0_9.index t 1 = 0) t
theorem idx10 (t : Fin cfg0.N) : win0_10.index t 0 = t.val ∧ win0_10.index t 1 = 0 :=
  (by decide +kernel : ∀ t : Fin grid0.N, win0_10.index t 0 = t.val ∧ win0_10.index t 1 = 0) t
theorem idx11 (t : Fin cfg0.N) : win0_11.index t 0 = 0 ∧ win0_11.index t 1 = 0 :=
  (by decide +kernel : ∀ t : Fin grid0.N, win0_11.index t 0 = 0 ∧ win0_11.index t 1 = 0) t

variable {x z : ℕ → ℕ → ℝ} {k g : ℕ → ℝ} {w a res : ℕ → ℕ → ℝ} (H : Holds m c x z k g w a res) (t : Fin cfg0.N)

include H

theorem x2_apply (R : Fin 8192) (C : Fin 1024) : (V m c main_v12 : Vec Ideal S8192x1024 .f32) (ix2 R C) = (x2 x z k R.val C.val : EReal) := by
  rw [prep12]; pointwise
  rw [rsqrt_ms z R.val (H.z_eq R)]
  have e1 := H.x_eq R C
  have e2 := H.z_eq R C
  have e3 := H.k_eq C
  unfold argX argZ argK
  rw [e1, e2, e3]
  unfold x2 xh
  norm_cast

theorem blk0 (r : Fin 512) (j : Fin 2816) : (iblk m c 0 t : Vec Ideal S512x2816 .bf16) (ix2 r j) = (a (512 * t.val + r.val) j.val : EReal) := by
  rw [row0, prep14]; pointwise
  exact (H.a_eq ⟨_, _⟩ ⟨_, _⟩).trans (by simp)
theorem blk1 (r : Fin 512) (j : Fin 2816) : (iblk m c 1 t : Vec Ideal S512x2816 .bf16) (ix2 r j) = (a (512 * t.val + r.val) (2816 + j.val) : EReal) := by
  rw [row1, prep15]; pointwise
  exact (H.a_eq ⟨_, _⟩ ⟨_, _⟩).trans (by simp)
theorem blk2 (j : Fin 5632) (C : Fin 1024) : (iblk m c 2 t : Vec Ideal S5632x1024 .bf16) (ix2 j C) = (w C.val j.val : EReal) := by
  rw [row2, prep17]; pointwise
  exact H.w_eq C j
theorem blk3 (r : Fin 512) (C : Fin 1024) : (iblk m c 3 t : Vec Ideal S512x1024 .f32) (ix2 r C) = (res (512 * t.val + r.val) C.val : EReal) := by
  rw [row3, V_main_arg6]; exact H.res_eq ⟨_, _⟩ C
theorem blk4 (r : Fin 512) (C : Fin 1024) : (iblk m c 4 t : Vec Ideal S512x1024 .f32) (ix2 r C) = (x2 x z k (512 * t.val + r.val) C.val : EReal) := by
  rw [row4]; exact x2_apply H ⟨_, _⟩ C
theorem blk5 (C : Fin 1024) : (iblk m c 5 t : Vec Ideal S1x1024 .f32) (ix2 0 C) = (g C.val : EReal) := by
  rw [row5, V_main_arg3]; exact H.g_eq C
theorem blk6 (r : Fin 512) (C : Fin 1024) : (iblk m c 6 t : Vec Ideal S512x1024 .f32) (ix2 r C) = (z (512 * t.val + r.val) C.val : EReal) := by
  rw [row6, V_main_arg1]; exact H.z_eq ⟨_, _⟩ C
theorem blk7 (C : Fin 1024) : (iblk m c 7 t : Vec Ideal S1x1024 .f32) (ix2 0 C) = (k C.val : EReal) := by
  rw [row7, V_main_arg2]; exact H.k_eq C

/-! ## One point -/

omit H in
/-- A tile's row, as a row of the whole matrix. -/
theorem tile_row (h : Fin 2) (r : Fin 256) : 512 * t.val + (256 * h.val + r.val) = (512 * t.val + 256 * h.val) + r.val := by omega

theorem dhT_apply (h : Fin 2) (r : Fin 256) (C : Fin 1024) : dhT (iblk m c 0 t) (iblk m c 1 t) (iblk m c 2 t) h (ix2 r C)
    = (dh w a ((512 * t.val + 256 * h.val) + r.val) C.val : EReal) := by
  rw [dh_blocks]
  pointwise [dhT, dhV, k0_pay5]
  have e (q : Fin 2) (j : Fin 2816) (C : Fin 1024) : wt q (iblk m c 2 t) (ix2 j C) = (w C.val (2816 * q.val + j.val) : EReal) := by
    refine Eq.trans ?_ (blk2 H t ⟨2816 * q.val + j.val, by omega⟩ C)
    match q with
    | 0 | 1 =>
      dsimp only [wt]
      refine congrArg (iblk m c 2 t) (funext fun i => Fin.ext ?_)
      match i with
      | ⟨0, _⟩ => first | (show 0 + 1 * j.val = 2816 * 0 + j.val; omega) | (show 2816 + 1 * j.val = 2816 * 1 + j.val; omega)
      | ⟨1, _⟩ => show 0 + 1 * C.val = C.val; omega
  rw [sum_mul (fun j => (tile_apply h _ r j).trans (blk0 H t _ j)) (fun j => e 0 j C), sum_mul (fun j => (tile_apply h _ r j).trans (blk1 H t _ j)) (fun j => e 1 j C)]
  simp only [tile_row t h r]
  norm_cast

theorem xT (h : Fin 2) (r : Fin 256) (C : Fin 1024) : tile h (iblk m c 4 t : Vec Ideal S512x1024 .f32) (ix2 r C)
    = (x2 x z k ((512 * t.val + 256 * h.val) + r.val) C.val : EReal) := by
  rw [tile_apply, ← tile_row]; exact blk4 H t _ C
theorem zT (h : Fin 2) (r : Fin 256) (C : Fin 1024) : tile h (iblk m c 6 t : Vec Ideal S512x1024 .f32) (ix2 r C)
    = (z ((512 * t.val + 256 * h.val) + r.val) C.val : EReal) := by
  rw [tile_apply, ← tile_row]; exact blk6 H t _ C

theorem dxT_apply (h : Fin 2) (r : Fin 256) (C : Fin 1024) : dxT (iblk m c 0 t) (iblk m c 1 t) (iblk m c 2 t) (iblk m c 3 t) (iblk m c 4 t) (iblk m c 5 t) h (ix2 r C)
    = (d1 x z k g w a res ((512 * t.val + 256 * h.val) + r.val) C.val : EReal) := by
  pointwise [dxT]
  rw [dxV_apply (xT H t h) (dhT_apply H t h) (blk5 H t) r C, tile_apply, blk3 H t, tile_row]
  unfold d1
  norm_cast

theorem dzT_apply (h : Fin 2) (r : Fin 256) (C : Fin 1024) : dzT (iblk m c 0 t) (iblk m c 1 t) (iblk m c 2 t) (iblk m c 3 t) (iblk m c 4 t) (iblk m c 5 t) (iblk m c 6 t) (iblk m c 7 t) h (ix2 r C)
    = (dx z k (d1 x z k g w a res) ((512 * t.val + 256 * h.val) + r.val) C.val : EReal) :=
  dxV_apply (zT H t h) (dxT_apply H t h) (blk7 H t) r C

/-! ## The arrays -/

variable (x z k g w a res) in
/-- The gradient of the second norm's argument, with what came along the residual. -/
def dxA : S8192x1024.Idx → EReal := fun y => (d1 x z k g w a res (y 0).val (y 1).val : EReal)
variable (x z k w a) in
/-- The gradient of the second gain over the first `n` rows. -/
def ggA (n : ℕ) : S1x1024.Idx → EReal := fun y => (dg (x2 x z k) (dh w a) n (y 1).val : EReal)
variable (x z k g w a res) in
/-- The gradient of the mixed rows. -/
def dzA : S8192x1024.Idx → EReal := fun y => (dx z k (d1 x z k g w a res) (y 0).val (y 1).val : EReal)
variable (x z k g w a res) in
/-- The gradient of the first gain over the first `n` rows. -/
def gkA (n : ℕ) : S1x1024.Idx → EReal := fun y => (dg z (d1 x z k g w a res) n (y 1).val : EReal)

omit H in
theorem row_eta (y : S1x1024.Idx) : y = ix2 0 (y 1) :=
  (ix2_eta y).symm.trans (congrArg (fun i : Fin 1 => (ix2 i (y 1) : S1x1024.Idx)) (Subsingleton.elim (α := Fin 1) _ _))

theorem ggT_eq (old : Vec Ideal S1x1024 .f32) (ho : ∀ C, old (ix2 0 C) = (dg (x2 x z k) (dh w a) (512 * t.val) C.val : EReal)) :
    ggT (iblk m c 0 t) (iblk m c 1 t) (iblk m c 2 t) (iblk m c 4 t) old = ggA x z k w a (512 * (t.val + 1)) := by
  funext y
  refine (congrArg _ (row_eta y)).trans ?_
  unfold ggT
  refine (dgV_apply (xT H t 1) (dhT_apply H t 1) _ (y 1) _ (dgV_apply (xT H t 0) (dhT_apply H t 0) old (y 1) _ (ho _))).trans ?_
  unfold ggA
  rw [show 512 * (t.val + 1) = 512 * t.val + 256 * (0 : Fin 2).val + 256 + 256 by dsimp; omega, dg_add, dg_add]
  rfl

theorem gkT_eq (old : Vec Ideal S1x1024 .f32) (ho : ∀ C, old (ix2 0 C) = (dg z (d1 x z k g w a res) (512 * t.val) C.val : EReal)) :
    gkT (iblk m c 0 t) (iblk m c 1 t) (iblk m c 2 t) (iblk m c 3 t) (iblk m c 4 t) (iblk m c 5 t) (iblk m c 6 t) old = gkA x z k g w a res (512 * (t.val + 1)) := by
  funext y
  refine (congrArg _ (row_eta y)).trans ?_
  unfold gkT
  refine (dgV_apply (zT H t 1) (dxT_apply H t 1) _ (y 1) _ (dgV_apply (zT H t 0) (dxT_apply H t 0) old (y 1) _ (ho _))).trans ?_
  unfold gkA
  rw [show 512 * (t.val + 1) = 512 * t.val + 256 * (0 : Fin 2).val + 256 + 256 by dsimp; omega, dg_add, dg_add]
  rfl

/-- What the two running gradients hold after point `n`. -/
theorem outs_eq : ∀ (n : ℕ) (h : n < cfg0.N), (outsAt0 m c n h).2.1 = ggA x z k w a (512 * (n + 1)) ∧ (outsAt0 m c n h).2.2.2 = gkA x z k g w a res (512 * (n + 1))
  | 0, h => by
    rw [outsAt0_A m c ⟨0, h⟩ rfl]
    dsimp only
    rw [out_A9, out_A11]
    exact ⟨ggT_eq H ⟨0, h⟩ _ fun C => Ideal.ofBits_zero_f32.trans (by simp [dg]), gkT_eq H ⟨0, h⟩ _ fun C => Ideal.ofBits_zero_f32.trans (by simp [dg])⟩
  | n + 1, h => by
    have hN : n + 1 < 16 := lt_of_lt_of_eq h N_0
    have e := outs_eq n (Nat.lt_of_succ_lt h)
    rw [outsAt0_B m c ⟨n + 1, h⟩ (by dsimp only; omega)]
    dsimp only
    rw [out_B9, out_B11]
    exact ⟨ggT_eq H ⟨n + 1, h⟩ _ fun C => congrFun e.1 (ix2 0 C), gkT_eq H ⟨n + 1, h⟩ _ fun C => congrFun e.2 (ix2 0 C)⟩

/-- A point's blocks of the first and third results. -/
theorem blocks (y : S512x1024.Idx) : (outsAt0 m c t.val t.isLt).1 y
    = dxA x z k g w a res (ix2 ⟨512 * t.val + (y 0).val, by have : t.val < 16 := lt_of_lt_of_eq t.isLt N_0; have : (y 0).val < 512 := (y 0).isLt; omega⟩ (y 1))
    ∧ (outsAt0 m c t.val t.isLt).2.2.1 y
    = dzA x z k g w a res (ix2 ⟨512 * t.val + (y 0).val, by have : t.val < 16 := lt_of_lt_of_eq t.isLt N_0; have : (y 0).val < 512 := (y 0).isLt; omega⟩ (y 1)) := by
  have h : (outsAt0 m c t.val t.isLt).1 = both (dxT (iblk m c 0 t) (iblk m c 1 t) (iblk m c 2 t) (iblk m c 3 t) (iblk m c 4 t) (iblk m c 5 t)) ∧ (outsAt0 m c t.val t.isLt).2.2.1 = both (dzT (iblk m c 0 t) (iblk m c 1 t) (iblk m c 2 t) (iblk m c 3 t) (iblk m c 4 t) (iblk m c 5 t) (iblk m c 6 t) (iblk m c 7 t)) := by
    by_cases h0 : t.val % 16 = 0
    · rw [outsAt0_A m c t h0]; dsimp only; rw [out_A8, out_A10]; exact ⟨rfl, rfl⟩
    · rw [outsAt0_B m c t h0]; dsimp only; rw [out_B8, out_B10]; exact ⟨rfl, rfl⟩
  have e : 512 * t.val + 256 * ((y 0).val / 256) + (y 0).val % 256 = 512 * t.val + (y 0).val := by omega
  rw [h.1, h.2]
  constructor
  · refine (dxT_apply H t _ _ _).trans ?_
    show ((d1 x z k g w a res (512 * t.val + 256 * ((y 0).val / 256) + (y 0).val % 256) _ : ℝ) : EReal) = _
    rw [e]
    rfl
  · refine (dzT_apply H t _ _ _).trans ?_
    show ((dx z k (d1 x z k g w a res) (512 * t.val + 256 * ((y 0).val / 256) + (y 0).val % 256) _ : ℝ) : EReal) = _
    rw [e]
    rfl

/-- The last point. -/
def tLast : Fin cfg0.N := ⟨15, by rw [show cfg0.N = 16 from N_0]; omega⟩

/-- The first result. -/
theorem final8 : (dats m 0 c).arrAt 8 cfg0.N = dxA x z k g w a res :=
  (dats m 0 c).arrAt_eq_of_cover 8 (dxA x z k g w a res)
    (fun t hf => by
      have hN : t.val < 16 := lt_of_lt_of_eq t.isLt N_0
      show (cfg0.win 8).cut (grid0.coords t) ((dats m 0 c).after 8 t) = _
      rw [after0_8]
      funext y
      have h0 : (y 0).val < 512 := (y 0).isLt
      refine Eq.trans ((blocks H t y).1) ?_
      rw [View.read_apply]
      congr 1
      funext a
      apply Fin.ext
      match a with
      | ⟨0, _⟩ => show 512 * t.val + (y 0).val = win0_8.index t 0 * 512 + 1 * (y 0).val; rw [(idx8 t).1]; omega
      | ⟨1, _⟩ => show (y 1).val = win0_8.index t 1 * 1024 + 1 * (y 1).val; rw [(idx8 t).2]; omega)
    fun i => by
      have h0 : (i 0).val < 8192 := (i 0).isLt
      have h1 : (i 1).val < 1024 := (i 1).isLt
      let t : Fin cfg0.N := ⟨(i 0).val / 512, by rw [show cfg0.N = 16 from N_0]; omega⟩
      refine ⟨t, flush0_8 t, ?_⟩
      show i ∈ ((View.whole main_v18_0).slice (win0_8.rect t)).set
      rw [View.set_slice_whole, Rect.mem_set_unit]
      intro a
      match a with
      | ⟨0, _⟩ =>
        show win0_8.index t 0 * 512 ≤ (i 0).val ∧ (i 0).val < win0_8.index t 0 * 512 + 512
        rw [(idx8 t).1]; dsimp only [t]; omega
      | ⟨1, _⟩ =>
        show win0_8.index t 1 * 1024 ≤ (i 1).val ∧ (i 1).val < win0_8.index t 1 * 1024 + 1024
        rw [(idx8 t).2]; omega
/-- The third result. -/
theorem final10 : (dats m 0 c).arrAt 10 cfg0.N = dzA x z k g w a res :=
  (dats m 0 c).arrAt_eq_of_cover 10 (dzA x z k g w a res)
    (fun t hf => by
      have hN : t.val < 16 := lt_of_lt_of_eq t.isLt N_0
      show (cfg0.win 10).cut (grid0.coords t) ((dats m 0 c).after 10 t) = _
      rw [after0_10]
      funext y
      have h0 : (y 0).val < 512 := (y 0).isLt
      refine Eq.trans ((blocks H t y).2) ?_
      rw [View.read_apply]
      congr 1
      funext a
      apply Fin.ext
      match a with
      | ⟨0, _⟩ => show 512 * t.val + (y 0).val = win0_10.index t 0 * 512 + 1 * (y 0).val; rw [(idx10 t).1]; omega
      | ⟨1, _⟩ => show (y 1).val = win0_10.index t 1 * 1024 + 1 * (y 1).val; rw [(idx10 t).2]; omega)
    fun i => by
      have h0 : (i 0).val < 8192 := (i 0).isLt
      have h1 : (i 1).val < 1024 := (i 1).isLt
      let t : Fin cfg0.N := ⟨(i 0).val / 512, by rw [show cfg0.N = 16 from N_0]; omega⟩
      refine ⟨t, flush0_10 t, ?_⟩
      show i ∈ ((View.whole main_v18_2).slice (win0_10.rect t)).set
      rw [View.set_slice_whole, Rect.mem_set_unit]
      intro a
      match a with
      | ⟨0, _⟩ =>
        show win0_10.index t 0 * 512 ≤ (i 0).val ∧ (i 0).val < win0_10.index t 0 * 512 + 512
        rw [(idx10 t).1]; dsimp only [t]; omega
      | ⟨1, _⟩ =>
        show win0_10.index t 1 * 1024 ≤ (i 1).val ∧ (i 1).val < win0_10.index t 1 * 1024 + 1024
        rw [(idx10 t).2]; omega
/-- The second result. -/
theorem final9 : (dats m 0 c).arrAt 9 cfg0.N = ggA x z k w a 8192 :=
  (dats m 0 c).arrAt_eq_of_cover 9 (ggA x z k w a 8192)
    (fun t hf => by
      have hN : t.val < 16 := lt_of_lt_of_eq t.isLt N_0
      have hl : t.val = 15 := by have := (flush0_9 t).mp hf; omega
      show (cfg0.win 9).cut (grid0.coords t) ((dats m 0 c).after 9 t) = _
      rw [after0_9, (outs_eq H t.val t.isLt).1, hl]
      funext y
      rw [View.read_apply]
      have e : ((cfg0.win 9).blk t).view.emb y = y := funext fun a => Fin.ext (by
        match a with
        | ⟨0, _⟩ => show win0_9.index t 0 * 1 + 1 * (y 0).val = (y 0).val; rw [(idx9 t).1]; omega
        | ⟨1, _⟩ => show win0_9.index t 1 * 1024 + 1 * (y 1).val = (y 1).val; rw [(idx9 t).2]; omega)
      exact congrArg (ggA x z k w a 8192) e.symm)
    fun i => ⟨tLast, (flush0_9 tLast).mpr rfl, by
      show i ∈ ((View.whole main_v18_1).slice (win0_9.rect tLast)).set
      rw [View.set_slice_whole, Rect.mem_set_unit]
      intro a
      match a with
      | ⟨0, _⟩ =>
        have h : (i 0).val < 1 := (i 0).isLt
        show win0_9.index tLast 0 * 1 ≤ (i 0).val ∧ (i 0).val < win0_9.index tLast 0 * 1 + 1
        rw [(idx9 tLast).1]; omega
      | ⟨1, _⟩ =>
        have h : (i 1).val < 1024 := (i 1).isLt
        show win0_9.index tLast 1 * 1024 ≤ (i 1).val ∧ (i 1).val < win0_9.index tLast 1 * 1024 + 1024
        rw [(idx9 tLast).2]; omega⟩
/-- The fourth result. -/
theorem final11 : (dats m 0 c).arrAt 11 cfg0.N = gkA x z k g w a res 8192 :=
  (dats m 0 c).arrAt_eq_of_cover 11 (gkA x z k g w a res 8192)
    (fun t hf => by
      have hN : t.val < 16 := lt_of_lt_of_eq t.isLt N_0
      have hl : t.val = 15 := by have := (flush0_11 t).mp hf; omega
      show (cfg0.win 11).cut (grid0.coords t) ((dats m 0 c).after 11 t) = _
      rw [after0_11, (outs_eq H t.val t.isLt).2, hl]
      funext y
      rw [View.read_apply]
      have e : ((cfg0.win 11).blk t).view.emb y = y := funext fun a => Fin.ext (by
        match a with
        | ⟨0, _⟩ => show win0_11.index t 0 * 1 + 1 * (y 0).val = (y 0).val; rw [(idx11 t).1]; omega
        | ⟨1, _⟩ => show win0_11.index t 1 * 1024 + 1 * (y 1).val = (y 1).val; rw [(idx11 t).2]; omega)
      exact congrArg (gkA x z k g w a res 8192) e.symm)
    fun i => ⟨tLast, (flush0_11 tLast).mpr rfl, by
      show i ∈ ((View.whole main_v18_3).slice (win0_11.rect tLast)).set
      rw [View.set_slice_whole, Rect.mem_set_unit]
      intro a
      match a with
      | ⟨0, _⟩ =>
        have h : (i 0).val < 1 := (i 0).isLt
        show win0_11.index tLast 0 * 1 ≤ (i 0).val ∧ (i 0).val < win0_11.index tLast 0 * 1 + 1
        rw [(idx11 tLast).1]; omega
      | ⟨1, _⟩ =>
        have h : (i 1).val < 1024 := (i 1).isLt
        show win0_11.index tLast 1 * 1024 ≤ (i 1).val ∧ (i 1).val < win0_11.index tLast 1 * 1024 + 1024
        rw [(idx11 tLast).2]; omega⟩

end Cert.Kernel3Ideal.Dgrad

end
-- ==== Proof.DgradTwo.Reference.lean ====
/-
  The reference's four results over arguments with real entries.
-/
module

public import proofs.«01_k».proof.Proof.Gen.Reference3Ideal.Read
public import proofs.«01_k».proof.Proof.Norm.Ref
public import proofs.«01_k».proof.Proof.DgradTwo.Arrays

@[expose] public section

set_option maxRecDepth 16384

noncomputable section

open Idealize.ShloMosaic NormGrad

namespace Cert.Reference3Ideal.Dgrad

open Cert.Reference3Ideal Cert.Reference3Ideal.Gen Cert.Reference3Ideal.Read
open Cert.Kernel3Ideal.Dgrad (x2 dh d1)

/-- The arguments hold these reals. -/
structure Holds (p0 p1 : FVec Ideal S8192x1024 .f32) (p2 p3 : FVec Ideal S1x1024 .f32) (p4 : FVec Ideal S1024x5632 .f32) (p5 : FVec Ideal S8192x5632 .f32)
    (p6 : FVec Ideal S8192x1024 .f32) (x z : ℕ → ℕ → ℝ) (k g : ℕ → ℝ) (w a res : ℕ → ℕ → ℝ) : Prop where
  x_eq : IsMat p0 x
  z_eq : IsMat p1 z
  k_eq : ∀ C : Fin 1024, p2 (ix2 0 C) = (k C.val : EReal)
  g_eq : ∀ C : Fin 1024, p3 (ix2 0 C) = (g C.val : EReal)
  w_eq : IsMat p4 w
  a_eq : IsMat p5 a
  res_eq : IsMat p6 res

variable {p0 p1 : FVec Ideal S8192x1024 .f32} {p2 p3 : FVec Ideal S1x1024 .f32} {p4 : FVec Ideal S1024x5632 .f32} {p5 : FVec Ideal S8192x5632 .f32}
  {p6 : FVec Ideal S8192x1024 .f32} {x z : ℕ → ℕ → ℝ} {k g : ℕ → ℝ} {w a res : ℕ → ℕ → ℝ} (H : Holds p0 p1 p2 p3 p4 p5 p6 x z k g w a res)
include H

theorem v6_apply (R : Fin 8192) : val_main_v6 (F := Ideal) p1 (ix2 R 0) = (ms z R.val : EReal) := by
  pointwise [val_main_v6, val_main_v4, val_main_v2, val_main_v1, val_main_v0, val_main_cst, val_main_v3, val_main_cst_0, val_main_v5, val_main_cst_1]
  exact mean_sq z R.val (H.z_eq R)

theorem v7_apply (R : Fin 8192) : val_main_v7 (F := Ideal) p1 (ix2 R 0) = (rs z R.val : EReal) := by
  pointwise [val_main_v7, val_main_v6, val_main_v4, val_main_v2, val_main_v1, val_main_v0, val_main_cst, val_main_v3, val_main_cst_0, val_main_v5, val_main_cst_1]
  exact rsqrt_ms z R.val (H.z_eq R)

theorem v10_apply (R : Fin 8192) : val_main_v10 (F := Ideal) p1 (ix2 R 0) = ((-(1 / 2) * (rs z R.val / ms z R.val) : ℝ) : EReal) := by
  pointwise [val_main_v10, val_main_v9, val_main_cst_2, val_main_v8]
  rw [v6_apply H R, v7_apply H R]
  exact half_ratio z R.val

theorem v12_apply (R : Fin 8192) (C : Fin 1024) : val_main_v12 (F := Ideal) p1 (ix2 R C) = (xh z R.val C.val : EReal) := by
  pointwise [val_main_v12, val_main_v11]
  rw [v7_apply H R, H.z_eq R C]
  unfold xh; norm_cast

theorem v15_apply (R : Fin 8192) (C : Fin 1024) : val_main_v15 (F := Ideal) p0 p1 p2 (ix2 R C) = (x2 x z k R.val C.val : EReal) := by
  pointwise [val_main_v15, val_main_v14, val_main_v13]
  rw [v12_apply H R C, H.x_eq R C, H.k_eq C]
  unfold x2; norm_cast

theorem v22_apply (R : Fin 8192) : val_main_v22 (F := Ideal) p0 p1 p2 (ix2 R 0) = (ms (x2 x z k) R.val : EReal) := by
  pointwise [val_main_v22, val_main_v20, val_main_v18, val_main_v17, val_main_v16, val_main_cst_3, val_main_v19, val_main_cst_4, val_main_v21, val_main_cst_5]
  exact mean_sq (x2 x z k) R.val (v15_apply H R)

theorem v23_apply (R : Fin 8192) : val_main_v23 (F := Ideal) p0 p1 p2 (ix2 R 0) = (rs (x2 x z k) R.val : EReal) := by
  pointwise [val_main_v23, val_main_v22, val_main_v20, val_main_v18, val_main_v17, val_main_v16, val_main_cst_3, val_main_v19, val_main_cst_4, val_main_v21, val_main_cst_5]
  exact rsqrt_ms (x2 x z k) R.val (v15_apply H R)

theorem v26_apply (R : Fin 8192) : val_main_v26 (F := Ideal) p0 p1 p2 (ix2 R 0) = ((-(1 / 2) * (rs (x2 x z k) R.val / ms (x2 x z k) R.val) : ℝ) : EReal) := by
  pointwise [val_main_v26, val_main_v25, val_main_cst_6, val_main_v24]
  rw [v22_apply H R, v23_apply H R]
  exact half_ratio (x2 x z k) R.val

theorem v28_apply (R : Fin 8192) (C : Fin 1024) : val_main_v28 (F := Ideal) p0 p1 p2 (ix2 R C) = (xh (x2 x z k) R.val C.val : EReal) := by
  pointwise [val_main_v28, val_main_v27]
  rw [v23_apply H R, v15_apply H R C]
  unfold xh; norm_cast

theorem v32_apply (R : Fin 8192) (C : Fin 1024) : val_main_v32 (F := Ideal) p4 p5 (ix2 R C) = (dh w a R.val C.val : EReal) := by
  pointwise [val_main_v32]
  exact sum_mul (H.a_eq R) (H.w_eq C)

theorem v37_apply (R : Fin 8192) (C : Fin 1024) : val_main_v37 (F := Ideal) p3 p4 p5 (ix2 R C) = ((dh w a R.val C.val * g C.val : ℝ) : EReal) := by
  pointwise [val_main_v37, val_main_v36]
  rw [v32_apply H R C, H.g_eq C]
  norm_cast

theorem v40_apply (R : Fin 8192) : val_main_v40 (F := Ideal) p0 p1 p2 p3 p4 p5 (ix2 R 0)
    = ((∑ j : Fin 1024, x2 x z k R.val j.val * (dh w a R.val j.val * g j.val) : ℝ) : EReal) := by
  pointwise [val_main_v40, val_main_v39, val_main_v38, val_main_cst_8]
  exact sum_mul (v15_apply H R) (v37_apply H R)

theorem v48_apply (R : Fin 8192) (C : Fin 1024) : val_main_v48 (F := Ideal) p0 p1 p2 p3 p4 p5 (ix2 R C)
    = (((∑ j : Fin 1024, x2 x z k R.val j.val * (dh w a R.val j.val * g j.val)) * (-(1 / 2) * (rs (x2 x z k) R.val / ms (x2 x z k) R.val)) / 1024 : ℝ) : EReal) := by
  pointwise [val_main_v48, val_main_v47, val_main_v46, val_main_v44, val_main_v45, val_main_cst_9, val_main_cst_10]
  simp only [Fin.sum_univ_one, zero_add]
  rw [v40_apply H R, v26_apply H R, ← EReal.coe_mul, width_word, div_width]

/-- The gradient of the second norm's argument. -/
theorem dx_all (R : Fin 8192) (C : Fin 1024) : val_main_v52 (F := Ideal) p0 p1 p2 p3 p4 p5 p6 (ix2 R C) = (d1 x z k g w a res R.val C.val : EReal) := by
  unfold d1
  rw [← chain (x2 x z k) g (dh w a) R.val C.val _ rfl]
  pointwise [val_main_v52, val_main_v50, val_main_v43, val_main_v42, val_main_v41, val_main_v49, val_main_v51]
  rw [v48_apply H R C, v37_apply H R C, v23_apply H R, v15_apply H R C, H.res_eq R C]
  norm_cast
  ring_nf

/-- The gradient of the second gain. -/
theorem dg_all (C : Fin 1024) : val_main_v35 (F := Ideal) p0 p1 p2 p4 p5 (ix2 0 C) = (dg (x2 x z k) (dh w a) 8192 C.val : EReal) := by
  pointwise [val_main_v35, val_main_v34, val_main_v33, val_main_cst_7]
  rw [sum_mul (fun R => v28_apply H R C) (fun R => v32_apply H R C)]
  unfold dg
  rw [← Fin.sum_univ_eq_sum_range (fun R => (dh w a) R C.val * xh (x2 x z k) R C.val) 8192]
  simp only [mul_comm]

theorem v57_apply (R : Fin 8192) (C : Fin 1024) : val_main_v57 (F := Ideal) p0 p1 p2 p3 p4 p5 p6 (ix2 R C) = ((d1 x z k g w a res R.val C.val * k C.val : ℝ) : EReal) := by
  pointwise [val_main_v57, val_main_v56]
  rw [dx_all H R C, H.k_eq C]
  norm_cast

theorem v60_apply (R : Fin 8192) : val_main_v60 (F := Ideal) p0 p1 p2 p3 p4 p5 p6 (ix2 R 0)
    = ((∑ j : Fin 1024, z R.val j.val * (d1 x z k g w a res R.val j.val * k j.val) : ℝ) : EReal) := by
  pointwise [val_main_v60, val_main_v59, val_main_v58, val_main_cst_12]
  exact sum_mul (H.z_eq R) (v57_apply H R)

theorem v67_apply (R : Fin 8192) (C : Fin 1024) : val_main_v67 (F := Ideal) p0 p1 p2 p3 p4 p5 p6 (ix2 R C)
    = (((∑ j : Fin 1024, z R.val j.val * (d1 x z k g w a res R.val j.val * k j.val)) * (-(1 / 2) * (rs z R.val / ms z R.val)) / 1024 : ℝ) : EReal) := by
  pointwise [val_main_v67, val_main_v66, val_main_v65, val_main_v63, val_main_v64, val_main_cst_13, val_main_cst_14]
  simp only [Fin.sum_univ_one, zero_add]
  rw [v60_apply H R, v10_apply H R, ← EReal.coe_mul, width_word, div_width]

/-- The gradient of the mixed rows. -/
theorem dz_all (R : Fin 8192) (C : Fin 1024) : val_main_v72 (F := Ideal) p0 p1 p2 p3 p4 p5 p6 (ix2 R C) = (dx z k (d1 x z k g w a res) R.val C.val : EReal) := by
  rw [← chain z k (d1 x z k g w a res) R.val C.val _ rfl]
  pointwise [val_main_v72, val_main_v71, val_main_v69, val_main_v62, val_main_v61, val_main_v68, val_main_v70]
  rw [v67_apply H R C, v57_apply H R C, v7_apply H R, H.z_eq R C]
  norm_cast

/-- The gradient of the first gain. -/
theorem dk_all (C : Fin 1024) : val_main_v55 (F := Ideal) p0 p1 p2 p3 p4 p5 p6 (ix2 0 C) = (dg z (d1 x z k g w a res) 8192 C.val : EReal) := by
  pointwise [val_main_v55, val_main_v54, val_main_v53, val_main_cst_11]
  rw [sum_mul (fun R => v12_apply H R C) (fun R => dx_all H R C)]
  unfold dg
  rw [← Fin.sum_univ_eq_sum_range (fun R => (d1 x z k g w a res) R C.val * xh z R C.val) 8192]
  simp only [mul_comm]

end Cert.Reference3Ideal.Dgrad

end
-- ==== Proof.DgradTwo.Equation.lean ====
/-
  Over arguments with finite entries the kernel's four result arrays are the reference's.
-/
module

public import proofs.«01_k».proof.Defs
public import proofs.«01_k».proof.Proof.Finite
public import proofs.«01_k».proof.Proof.DgradTwo.Arrays
public import proofs.«01_k».proof.Proof.DgradTwo.Reference
public import proofs.«01_k».proof.Proof.Gen.Kernel3Ideal.Value
public import proofs.«01_k».proof.Proof.Gen.Reference3Ideal.Run
public import Idealize.ShloMosaic.Lib.Quiescent

@[expose] public section

set_option maxRecDepth 16384

noncomputable section

open Idealize.ShloMosaic Idealize.ShloMosaic.TcCoe Idealize.SL.Sem

namespace Cert.DgradTwoEq

open NormGrad

instance facts : Cert.Pre_finite3.Facts where
  bcast_S_S8192x1024 := by decide
  reducesTo_S8192x1024_S_d0_1 := by decide
  h_S_ := by decide
  bcast_S_S1x1024 := by decide
  reducesTo_S1x1024_S_d0_1 := by decide
  bcast_S_S1024x5632 := by decide
  reducesTo_S1024x5632_S_d0_1 := by decide
  bcast_S_S8192x5632 := by decide
  reducesTo_S8192x5632_S_d0_1 := by decide

/-- The arguments are these reals, where the predicate holds. -/
theorem holds (x0 : FVec Ideal Cert.Reference3Ideal.S8192x1024 .f32) (x1 : FVec Ideal Cert.Reference3Ideal.S8192x1024 .f32) (x2 : FVec Ideal Cert.Reference3Ideal.S1x1024 .f32) (x3 : FVec Ideal Cert.Reference3Ideal.S1x1024 .f32) (x4 : FVec Ideal Cert.Reference3Ideal.S1024x5632 .f32) (x5 : FVec Ideal Cert.Reference3Ideal.S8192x5632 .f32) (x6 : FVec Ideal Cert.Reference3Ideal.S8192x1024 .f32)
    (h : Cert.Pre_finite3.fn (F := Ideal) x0 x1 x2 x3 x4 x5 x6 = fun _ => 1#1) :
    Cert.Reference3Ideal.Dgrad.Holds x0 x1 x2 x3 x4 x5 x6 (entries x0) (entries x1) (entries x2 0) (entries x3 0) (entries x4) (entries x5) (entries x6) := by
  have e := congrFun h ix0
  simp only [Cert.Pre_finite3.fn, Cert.Pre_finite3.fn_part1, andi] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton (Cert.Pre_finite3.S_).Idx := ⟨fun a b => funext fun k => k.elim0⟩
  exact ⟨entries_eq _ (Finite.all _ _ _ _ _ ix0 e0), entries_eq _ (Finite.all _ _ _ _ _ ix0 e1), entries_eq _ (Finite.all _ _ _ _ _ ix0 e2) 0, entries_eq _ (Finite.all _ _ _ _ _ ix0 e3) 0, entries_eq _ (Finite.all _ _ _ _ _ ix0 e4), entries_eq _ (Finite.all _ _ _ _ _ ix0 e5), entries_eq _ (Finite.all _ _ _ _ _ ix0 e6)⟩

variable (m : (ℓ : Loc Cert.Kernel3Ideal.nD Cert.Kernel3Ideal.τ Cert.Kernel3Ideal.sig) → Buf (Elt Ideal) ℓ) (c : Dev Cert.Kernel3Ideal.nD)

/-! The kernel's arguments on a device. -/
abbrev a0 : FVec Ideal Cert.Reference3Ideal.S8192x1024 .f32 := m ((c : Thread Cert.Kernel3Ideal.nD Cert.Kernel3Ideal.τ).loc Cert.Kernel3Ideal.main_arg0)
abbrev a1 : FVec Ideal Cert.Reference3Ideal.S8192x1024 .f32 := m ((c : Thread Cert.Kernel3Ideal.nD Cert.Kernel3Ideal.τ).loc Cert.Kernel3Ideal.main_arg1)
abbrev a2 : FVec Ideal Cert.Reference3Ideal.S1x1024 .f32 := m ((c : Thread Cert.Kernel3Ideal.nD Cert.Kernel3Ideal.τ).loc Cert.Kernel3Ideal.main_arg2)
abbrev a3 : FVec Ideal Cert.Reference3Ideal.S1x1024 .f32 := m ((c : Thread Cert.Kernel3Ideal.nD Cert.Kernel3Ideal.τ).loc Cert.Kernel3Ideal.main_arg3)
abbrev a4 : FVec Ideal Cert.Reference3Ideal.S1024x5632 .f32 := m ((c : Thread Cert.Kernel3Ideal.nD Cert.Kernel3Ideal.τ).loc Cert.Kernel3Ideal.main_arg4)
abbrev a5 : FVec Ideal Cert.Reference3Ideal.S8192x5632 .f32 := m ((c : Thread Cert.Kernel3Ideal.nD Cert.Kernel3Ideal.τ).loc Cert.Kernel3Ideal.main_arg5)
abbrev a6 : FVec Ideal Cert.Reference3Ideal.S8192x1024 .f32 := m ((c : Thread Cert.Kernel3Ideal.nD Cert.Kernel3Ideal.τ).loc Cert.Kernel3Ideal.main_arg6)

variable {m} (h : Cert.Pre_Kernel3Ideal_finite3 m)
include h

theorem holdsR : Cert.Reference3Ideal.Dgrad.Holds (a0 m c) (a1 m c) (a2 m c) (a3 m c) (a4 m c) (a5 m c) (a6 m c) (entries (a0 m c)) (entries (a1 m c)) (entries (a2 m c) 0) (entries (a3 m c) 0) (entries (a4 m c)) (entries (a5 m c)) (entries (a6 m c)) :=
  holds _ _ _ _ _ _ _ (h c)
theorem holdsK : Cert.Kernel3Ideal.Dgrad.Holds m c (entries (a0 m c)) (entries (a1 m c)) (entries (a2 m c) 0) (entries (a3 m c) 0) (entries (a4 m c)) (entries (a5 m c)) (entries (a6 m c)) :=
  have H := holdsR c h
  ⟨H.x_eq, H.z_eq, H.k_eq, H.g_eq, H.w_eq, H.a_eq, H.res_eq⟩

/-- The gradient of the second norm's argument. -/
theorem result8 : (Cert.Kernel3Ideal.Gen.dats m 0 c).arrAt 8 Cert.Kernel3Ideal.cfg0.N = Cert.Reference3Ideal.Read.val_main_v52 (F := Ideal) (a0 m c) (a1 m c) (a2 m c) (a3 m c) (a4 m c) (a5 m c) (a6 m c) := by
  refine (Cert.Kernel3Ideal.Dgrad.final8 (holdsK c h)).trans (funext fun y => ?_)
  obtain ⟨r, C, rfl⟩ : ∃ (r : Fin 8192) (C : Fin 1024), y = ix2 r C := ⟨y 0, y 1, (ix2_eta y).symm⟩
  exact (Cert.Reference3Ideal.Dgrad.dx_all (holdsR c h) r C).symm

/-- The gradient of the second gain. -/
theorem result9 : (Cert.Kernel3Ideal.Gen.dats m 0 c).arrAt 9 Cert.Kernel3Ideal.cfg0.N = Cert.Reference3Ideal.Read.val_main_v35 (F := Ideal) (a0 m c) (a1 m c) (a2 m c) (a4 m c) (a5 m c) := by
  refine (Cert.Kernel3Ideal.Dgrad.final9 (holdsK c h)).trans (funext fun y => ?_)
  obtain ⟨r, C, rfl⟩ : ∃ (r : Fin 1) (C : Fin 1024), y = ix2 r C := ⟨y 0, y 1, (ix2_eta y).symm⟩
  obtain rfl : r = 0 := Subsingleton.elim _ _
  exact (Cert.Reference3Ideal.Dgrad.dg_all (holdsR c h) C).symm

/-- The gradient of the mixed rows. -/
theorem result10 : (Cert.Kernel3Ideal.Gen.dats m 0 c).arrAt 10 Cert.Kernel3Ideal.cfg0.N = Cert.Reference3Ideal.Read.val_main_v72 (F := Ideal) (a0 m c) (a1 m c) (a2 m c) (a3 m c) (a4 m c) (a5 m c) (a6 m c) := by
  refine (Cert.Kernel3Ideal.Dgrad.final10 (holdsK c h)).trans (funext fun y => ?_)
  obtain ⟨r, C, rfl⟩ : ∃ (r : Fin 8192) (C : Fin 1024), y = ix2 r C := ⟨y 0, y 1, (ix2_eta y).symm⟩
  exact (Cert.Reference3Ideal.Dgrad.dz_all (holdsR c h) r C).symm

/-- The gradient of the first gain. -/
theorem result11 : (Cert.Kernel3Ideal.Gen.dats m 0 c).arrAt 11 Cert.Kernel3Ideal.cfg0.N = Cert.Reference3Ideal.Read.val_main_v55 (F := Ideal) (a0 m c) (a1 m c) (a2 m c) (a3 m c) (a4 m c) (a5 m c) (a6 m c) := by
  refine (Cert.Kernel3Ideal.Dgrad.final11 (holdsK c h)).trans (funext fun y => ?_)
  obtain ⟨r, C, rfl⟩ : ∃ (r : Fin 1) (C : Fin 1024), y = ix2 r C := ⟨y 0, y 1, (ix2_eta y).symm⟩
  obtain rfl : r = 0 := Subsingleton.elim _ _
  exact (Cert.Reference3Ideal.Dgrad.dk_all (holdsR c h) C).symm

omit h
/-- The reference runs, keeps its arguments and has no semaphore. -/
theorem frame_reference : Cert.quiescent_Reference3Ideal := fun m ρ _ =>
  (θ_run Cert.Reference3Ideal.defs _ _).mono (fun r h => ⟨fun c => (h c).2.2.2.2, sem_eq_zero_of_no_sems rfl r.2⟩)
    (Cert.Reference3Ideal.Value.run (F := Ideal) m ρ)

/-- The kernel's results are the reference's. -/
theorem value : Cert.algebraic_Kernel3Ideal_Reference3Ideal_pre_finite3 := fun m g m' g' h e =>
  ⟨_, _, _, _, Cert.Kernel3Ideal.Value.run_blocks m g,
    (θ_run Cert.Reference3Ideal.defs _ _).mono (fun r H c => by
      obtain ⟨r0, r1, r2, r3, k⟩ := H c
      obtain ⟨e0, e1, e2, e3, e4, e5, e6⟩ := e c
      refine ⟨?_, ?_, ?_, ?_, k⟩
      · exact (r0.trans (Cert.Reference3Ideal.Read.val_main_v52_eq ..)).trans ((congr (congr (congr (congr (congr (congr (congrArg _ e0) e1) e2) e3) e4) e5) e6).trans (result8 c h).symm)
      · exact (r1.trans (Cert.Reference3Ideal.Read.val_main_v35_eq ..)).trans ((congr (congr (congr (congr (congrArg _ e0) e1) e2) e4) e5).trans (result9 c h).symm)
      · exact (r2.trans (Cert.Reference3Ideal.Read.val_main_v72_eq ..)).trans ((congr (congr (congr (congr (congr (congr (congrArg _ e0) e1) e2) e3) e4) e5) e6).trans (result10 c h).symm)
      · exact (r3.trans (Cert.Reference3Ideal.Read.val_main_v55_eq ..)).trans ((congr (congr (congr (congr (congr (congr (congrArg _ e0) e1) e2) e3) e4) e5) e6).trans (result11 c h).symm))
    (Cert.Reference3Ideal.Value.run (F := Ideal) m' g')⟩

end Cert.DgradTwoEq

end
-- ==== Proof.DgradOne.Body.lean ====
/-
  What one run of the single norm's gradient leaves in its two output buffers.
-/
module

public import proofs.«01_k».proof.Proof.Norm.Tile
public import proofs.«01_k».proof.Proof.Norm.Halves
public import proofs.«01_k».proof.Proof.Gen.Kernel4Ideal.Frame
public import Idealize.ShloMosaic.Lib.Tactic

@[expose] public section

set_option maxRecDepth 16384

noncomputable section

open Idealize.ShloMosaic Idealize.ShloMosaic.TcCoe Idealize.SL.Sem

namespace Cert.Kernel4Ideal.Dgrad

open Cert.Kernel4Ideal Cert.Kernel4Ideal.Gen NormGrad Halves

variable {F : FTy → Type} [FloatOps F]

/-- The weight's rows `512 q …`. -/
def wt (q : Fin 4) (w : Vec F S2048x1024 .bf16) : Vec F S512x1024 .bf16 := match q with
  | 0 => View.ld w (Rect.unit ![0, 0] S512x1024.size inb_S2048x1024_S512x1024_0_0)
  | 1 => View.ld w (Rect.unit ![512, 0] S512x1024.size inb_S2048x1024_S512x1024_512_0)
  | 2 => View.ld w (Rect.unit ![1024, 0] S512x1024.size inb_S2048x1024_S512x1024_1024_0)
  | 3 => View.ld w (Rect.unit ![1536, 0] S512x1024.size inb_S2048x1024_S512x1024_1536_0)

/-- A tile's cotangent of the norm: the sum of four products. -/
def dhV (a0 a1 a2 a3 : Vec F S256x512 .bf16) (w : Vec F S2048x1024 .bf16) : FVec F S256x1024 .f32 :=
  k0_pay4 a0 (wt 0 w) a1 (wt 1 w) a2 (wt 2 w) a3 (wt 3 w)

section
variable (x : Vec F S256x1024 .f32) (g old : Vec F S1x1024 .f32) (dh : FVec F S256x1024 .f32) (res : Vec F S256x1024 .f32)

/-! The body's stored values, in the norm's terms. -/

theorem pay_dx0 : k0_pay12 (k0_pay7 x) (k0_pay8 x) (k0_pay9 dh g) (k0_pay10 dh x g) k0_pay11 res = addf res (dxV x g dh) := rfl
theorem pay_dx1 : k0_pay1 (k0_pay16 dh x g) res = addf res (dxV x g dh) := rfl
theorem pay_dg0 : k0_pay13 dh (k0_pay8 x) old = dgV x dh old := rfl
theorem pay_dg1 : k0_pay2 dh (k0_pay15 x) old = dgV x dh old := rfl
theorem pay_dh1 (a0 a1 a2 a3 : Vec F S256x512 .bf16) (w0 w1 w2 w3 : Vec F S512x1024 .bf16) :
    k0_pay6 (k0_pay5 a0 w0) a1 w1 a2 w2 a3 w3 = k0_pay4 a0 w0 a1 w1 a2 w2 a3 w3 := rfl
end

variable (c : Dev nD) (i : grid0.Coords) (a1 : Memref sig .tc .vmem S512x512 .bf16) (h1 : a1.IsWhole) (a2 : Memref sig .tc .vmem S512x512 .bf16) (h2 : a2.IsWhole)
  (a3 : Memref sig .tc .vmem S512x512 .bf16) (h3 : a3.IsWhole) (a4 : Memref sig .tc .vmem S512x512 .bf16) (h4 : a4.IsWhole)
  (a5 : Memref sig .tc .vmem S2048x1024 .bf16) (h5 : a5.IsWhole) (a6 : Memref sig .tc .vmem S512x1024 .f32) (h6 : a6.IsWhole)
  (a7 : Memref sig .tc .vmem S512x1024 .f32) (h7 : a7.IsWhole) (a8 : Memref sig .tc .vmem S1x1024 .f32) (h8 : a8.IsWhole)
  (a9 : Memref sig .tc .vmem S512x1024 .f32) (h9 : a9.IsWhole) (a10 : Memref sig .tc .vmem S1x1024 .f32) (h10 : a10.IsWhole)
  (x0 x1 x2 x3 : Vec F S512x512 .bf16) (x4 : Vec F S2048x1024 .bf16) (x5 x6 : Vec F S512x1024 .f32) (x7 : Vec F S1x1024 .f32)
  (o9 : Vec F S1x1024 .f32)

/-- Each tile's cotangent of the norm. -/
def dhT (h : Fin 2) : FVec F S256x1024 .f32 := dhV (tile h x0) (tile h x1) (tile h x2) (tile h x3) x4
/-- Each tile's gradient of the norm's argument, with what came along the residual. -/
def dxT (h : Fin 2) : FVec F S256x1024 .f32 := addf (tile h x5) (dxV (tile h x6) x7 (dhT x0 x1 x2 x3 x4 h))
/-- The gain's gradient after both tiles. -/
def ggT (old : Vec F S1x1024 .f32) : FVec F S1x1024 .f32 :=
  dgV (tile 1 x6) (dhT x0 x1 x2 x3 x4 1) (dgV (tile 0 x6) (dhT x0 x1 x2 x3 x4 0) old)

theorem out_A8 (hc : cond0_0 i) :
    out0_A_8 c i a1 h1 a2 h2 a3 h3 a4 h4 a5 h5 a6 h6 a7 h7 a8 h8 a9 h9 a10 h10 hc x0 x1 x2 x3 x4 x5 x6 x7
      = both (dxT x0 x1 x2 x3 x4 x5 x6 x7) := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5 x6 x7)]
  unfold kernelRun0_A
  dsimp only
  sl_unfold_words
  simp (disch := first | rfl | decide) only [↓View.readCov_skip, View.readCov_fill, View.readAt_eq_ld, h1.read_unread, h2.read_unread, h3.read_unread, h4.read_unread,
    h5.read_unread, h6.read_unread, h7.read_unread, h8.read_unread, h9.read_unread, h10.read_unread, View.ld_unit_zero (S := S1x1024) hz2, pay_dx0, pay_dx1, pay_dg0, pay_dg1, pay_dh1]
  exact canon_both_of (K := 1024) (e := .f32) (dxT x0 x1 x2 x3 x4 x5 x6 x7) _ _ (by simp only [dxT, dhT, dhV, tile, wt]; rfl) (by simp only [dxT, dhT, dhV, tile, wt]; rfl) _ _ _

theorem out_A9 (hc : cond0_0 i) :
    out0_A_9 c i a1 h1 a2 h2 a3 h3 a4 h4 a5 h5 a6 h6 a7 h7 a8 h8 a9 h9 a10 h10 hc x0 x1 x2 x3 x4 x5 x6 x7
      = ggT x0 x1 x2 x3 x4 x6 (fun _ => Scalar.ofBits .f32 0x00000000#32) := by
  unfold out0_A_9
  rw [View.read_writes_eq_canon _ _ _ (cover0_A_9 c i a1 h1 a2 h2 a3 h3 a4 h4 a5 h5 a6 h6 a7 h7 a8 h8 a9 h9 a10 h10 hc x0 x1 x2 x3 x4 x5 x6 x7)]
  unfold kernelRun0_A
  dsimp only
  sl_unfold_words
  simp (disch := first | rfl | decide) only [↓View.readCov_skip, View.readCov_fill, View.readAt_eq_ld, h1.read_unread, h2.read_unread, h3.read_unread, h4.read_unread,
    h5.read_unread, h6.read_unread, h7.read_unread, h8.read_unread, h9.read_unread, h10.read_unread, View.ld_unit_zero (S := S1x1024) hz2, pay_dx0, pay_dx1, pay_dg0, pay_dg1, pay_dh1]
  exact View.canon_cons_unit_zero (S := S1x1024) hz2 _ _ _

theorem out_B8 (hc : ¬cond0_0 i) :
    out0_B_8 c i a1 h1 a2 h2 a3 h3 a4 h4 a5 h5 a6 h6 a7 h7 a8 h8 a9 h9 a10 h10 hc x0 x1 x2 x3 x4 x5 x6 x7 o9
      = both (dxT x0 x1 x2 x3 x4 x5 x6 x7) := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 x6 x7 o9)]
  unfold kernelRun0_B
  dsimp only
  sl_unfold_words
  simp (disch := first | rfl | decide) only [↓View.readCov_skip, View.readCov_fill, View.readAt_eq_ld, h1.read_unread, h2.read_unread, h3.read_unread, h4.read_unread,
    h5.read_unread, h6.read_unread, h7.read_unread, h8.read_unread, h9.read_unread, h10.read_unread, View.ld_unit_zero (S := S1x1024) hz2, pay_dx0, pay_dx1, pay_dg0, pay_dg1, pay_dh1]
  exact canon_both_of (K := 1024) (e := .f32) (dxT x0 x1 x2 x3 x4 x5 x6 x7) _ _ (by simp only [dxT, dhT, dhV, tile, wt]; rfl) (by simp only [dxT, dhT, dhV, tile, wt]; rfl) _ _ _

theorem out_B9 (hc : ¬cond0_0 i) :
    out0_B_9 c i a1 h1 a2 h2 a3 h3 a4 h4 a5 h5 a6 h6 a7 h7 a8 h8 a9 h9 a10 h10 hc x0 x1 x2 x3 x4 x5 x6 x7 o9
      = ggT x0 x1 x2 x3 x4 x6 o9 := by
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 x6 x7 o9)]
  unfold kernelRun0_B
  dsimp only
  sl_unfold_words
  simp (disch := first | rfl | decide) only [↓View.readCov_skip, View.readCov_fill, View.readAt_eq_ld, h1.read_unread, h2.read_unread, h3.read_unread, h4.read_unread,
    h5.read_unread, h6.read_unread, h7.read_unread, h8.read_unread, h9.read_unread, h10.read_unread, View.ld_unit_zero (S := S1x1024) hz2, pay_dx0, pay_dx1, pay_dg0, pay_dg1, pay_dh1]
  exact View.canon_cons_unit_zero (S := S1x1024) hz2 _ _ _

end Cert.Kernel4Ideal.Dgrad

end
-- ==== Proof.DgradOne.Arrays.lean ====
/-
  What the two result arrays hold after the grid's 16 points, over arguments with real entries.
-/
module

public import proofs.«01_k».proof.Proof.DgradOne.Body
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Dgrad

open Cert.Kernel4Ideal Cert.Kernel4Ideal.Gen NormGrad Halves

variable (m : (ℓ : Loc nD τ sig) → Buf (Elt Ideal) ℓ)

/-- The arguments hold these reals: the norm's argument and gain, the weight, the projection's cotangent, and what comes along the residual. -/
structure Holds (c : Dev nD) (x : ℕ → ℕ → ℝ) (g : ℕ → ℝ) (w a res : ℕ → ℕ → ℝ) : Prop where
  x_eq : ∀ (R : Fin 8192) (C : Fin 1024), (m ((c : Thread nD τ).loc main_arg0) : Vec Ideal S8192x1024 .f32) (ix2 R C) = (x R.val C.val : EReal)
  g_eq : ∀ C : Fin 1024, (m ((c : Thread nD τ).loc main_arg1) : Vec Ideal S1x1024 .f32) (ix2 0 C) = (g C.val : EReal)
  w_eq : ∀ (C : Fin 1024) (k : Fin 2048), (m ((c : Thread nD τ).loc main_arg2) : Vec Ideal S1024x2048 .f32) (ix2 C k) = (w C.val k.val : EReal)
  a_eq : ∀ (R : Fin 8192) (k : Fin 2048), (m ((c : Thread nD τ).loc main_arg3) : Vec Ideal S8192x2048 .f32) (ix2 R k) = (a R.val k.val : EReal)
  res_eq : ∀ (R : Fin 8192) (C : Fin 1024), (m ((c : Thread nD τ).loc main_arg4) : Vec Ideal S8192x1024 .f32) (ix2 R C) = (res R.val C.val : EReal)

/-- The norm's cotangent: the projection's, back through its weight. -/
def dh (w a : ℕ → ℕ → ℝ) (R C : ℕ) : ℝ := ∑ k : Fin 2048, a R k.val * w C k.val

/-- The same sum over the four column blocks. -/
theorem dh_blocks (w a : ℕ → ℕ → ℝ) (R C : ℕ) : dh w a R C = (((∑ k : Fin 512, a R k.val * w C k.val)
    + ∑ k : Fin 512, a R (512 + k.val) * w C (512 + k.val)) + ∑ k : Fin 512, a R (1024 + k.val) * w C (1024 + k.val))
    + ∑ k : Fin 512, a R (1536 + k.val) * w C (1536 + k.val) := by
  unfold dh
  rw [Fin.sum_univ_eq_sum_range (fun k => a R k * w C k) 2048,
    show (2048 : ℕ) = 512 + 512 + 512 + 512 from rfl, Finset.sum_range_add, Finset.sum_range_add, Finset.sum_range_add]
  rw [Fin.sum_univ_eq_sum_range (fun k => a R k * w C k) 512, Fin.sum_univ_eq_sum_range (fun k => a R (512 + k) * w C (512 + k)) 512,
    Fin.sum_univ_eq_sum_range (fun k => a R (1024 + k) * w C (1024 + k)) 512, Fin.sum_univ_eq_sum_range (fun k => a R (1536 + k) * w C (1536 + k)) 512]

/-! ## What the host prepares -/

variable (c : Dev nD)

/-- The projection's cotangent and its weight. -/
abbrev argA : FVec Ideal S8192x2048 .f32 := m ((c : Thread nD τ).loc main_arg3)
abbrev argW : FVec Ideal S1024x2048 .f32 := m ((c : Thread nD τ).loc main_arg2)

theorem prep1 : @Eq (Vec Ideal S8192x512 .bf16) (V m c main_v1) (extractStridedSlice S8192x512 ![0, 0]
    (truncf .bf16 (argA m c) bitsLt_bf16_f32) slices_S8192x2048_S8192x512_0_0) := by
  unfold_abbrev_sides
  after_results
theorem prep2 : @Eq (Vec Ideal S8192x512 .bf16) (V m c main_v2) (extractStridedSlice S8192x512 ![0, 512]
    (truncf .bf16 (argA m c) bitsLt_bf16_f32) slices_S8192x2048_S8192x512_0_512) := by
  unfold_abbrev_sides
  after_results
theorem prep3 : @Eq (Vec Ideal S8192x512 .bf16) (V m c main_v3) (extractStridedSlice S8192x512 ![0, 1024]
    (truncf .bf16 (argA m c) bitsLt_bf16_f32) slices_S8192x2048_S8192x512_0_1024) := by
  unfold_abbrev_sides
  after_results
theorem prep4 : @Eq (Vec Ideal S8192x512 .bf16) (V m c main_v4) (extractStridedSlice S8192x512 ![0, 1536]
    (truncf .bf16 (argA m c) bitsLt_bf16_f32) slices_S8192x2048_S8192x512_0_1536) := by
  unfold_abbrev_sides
  after_results
theorem prep6 : @Eq (Vec Ideal S2048x1024 .bf16) (V m c main_v6) (truncf .bf16 (transpose S2048x1024 [1, 0]
    (argW m c) transposes_S1024x2048_S2048x1024_1_0) bitsLt_bf16_f32) := by
  unfold_abbrev_sides
  after_results

/-! ## The windows' blocks -/

variable {m c}

theorem idx0 (t : Fin cfg0.N) : win0_0.index t 0 = t.val ∧ win0_0.index t 1 = 0 :=
  (by decide +kernel : ∀ t : Fin grid0.N, win0_0.index t 0 = t.val ∧ win0_0.index t 1 = 0) t
theorem row0 (t : Fin cfg0.N) (r : Fin 512) (C : Fin 512) : (iblk m c 0 t : Vec Ideal S512x512 .bf16) (ix2 r C)
    = (V m c main_v1 : Vec Ideal S8192x512 .bf16) (ix2 ⟨512 * t.val + r.val, by have : t.val < 16 := lt_of_lt_of_eq t.isLt N_0; omega⟩ C) := by
  unfold iblk
  rw [View.read_apply]
  show V m c main_v1 _ = V m c main_v1 _
  congr 1
  funext a
  apply Fin.ext
  match a with
  | ⟨0, _⟩ => show win0_0.index t 0 * 512 + 1 * r.val = 512 * t.val + r.val; rw [(idx0 t).1]; omega
  | ⟨1, _⟩ => show win0_0.index t 1 * 512 + 1 * C.val = C.val; rw [(idx0 t).2]; omega
theorem idx1 (t : Fin cfg0.N) : win0_1.index t 0 = t.val ∧ win0_1.index t 1 = 0 :=
  (by decide +kernel : ∀ t : Fin grid0.N, win0_1.index t 0 = t.val ∧ win0_1.index t 1 = 0) t
theorem row1 (t : Fin cfg0.N) (r : Fin 512) (C : Fin 512) : (iblk m c 1 t : Vec Ideal S512x512 .bf16) (ix2 r C)
    = (V m c main_v2 : Vec Ideal S8192x512 .bf16) (ix2 ⟨512 * t.val + r.val, by have : t.val < 16 := lt_of_lt_of_eq t.isLt N_0; omega⟩ C) := by
  unfold iblk
  rw [View.read_apply]
  show V m c main_v2 _ = V m c main_v2 _
  congr 1
  funext a
  apply Fin.ext
  match a with
  | ⟨0, _⟩ => show win0_1.index t 0 * 512 + 1 * r.val = 512 * t.val + r.val; rw [(idx1 t).1]; omega
  | ⟨1, _⟩ => show win0_1.index t 1 * 512 + 1 * C.val = C.val; rw [(idx1 t).2]; omega
theorem idx2 (t : Fin cfg0.N) : win0_2.index t 0 = t.val ∧ win0_2.index t 1 = 0 :=
  (by decide +kernel : ∀ t : Fin grid0.N, win0_2.index t 0 = t.val ∧ win0_2.index t 1 = 0) t
theorem row2 (t : Fin cfg0.N) (r : Fin 512) (C : Fin 512) : (iblk m c 2 t : Vec Ideal S512x512 .bf16) (ix2 r C)
    = (V m c main_v3 : Vec Ideal S8192x512 .bf16) (ix2 ⟨512 * t.val + r.val, by have : t.val < 16 := lt_of_lt_of_eq t.isLt N_0; omega⟩ C) := by
  unfold iblk
  rw [View.read_apply]
  show V m c main_v3 _ = V m c main_v3 _
  congr 1
  funext a
  apply Fin.ext
  match a with
  | ⟨0, _⟩ => show win0_2.index t 0 * 512 + 1 * r.val = 512 * t.val + r.val; rw [(idx2 t).1]; omega
  | ⟨1, _⟩ => show win0_2.index t 1 * 512 + 1 * C.val = C.val; rw [(idx2 t).2]; omega
theorem idx3 (t : Fin cfg0.N) : win0_3.index t 0 = t.val ∧ win0_3.index t 1 = 0 :=
  (by decide +kernel : ∀ t : Fin grid0.N, win0_3.index t 0 = t.val ∧ win0_3.index t 1 = 0) t
theorem row3 (t : Fin cfg0.N) (r : Fin 512) (C : Fin 512) : (iblk m c 3 t : Vec Ideal S512x512 .bf16) (ix2 r C)
    = (V m c main_v4 : Vec Ideal S8192x512 .bf16) (ix2 ⟨512 * t.val + r.val, by have : t.val < 16 := lt_of_lt_of_eq t.isLt N_0; omega⟩ C) := by
  unfold iblk
  rw [View.read_apply]
  show V m c main_v4 _ = V m c main_v4 _
  congr 1
  funext a
  apply Fin.ext
  match a with
  | ⟨0, _⟩ => show win0_3.index t 0 * 512 + 1 * r.val = 512 * t.val + r.val; rw [(idx3 t).1]; omega
  | ⟨1, _⟩ => show win0_3.index t 1 * 512 + 1 * C.val = C.val; rw [(idx3 t).2]; omega
theorem idx4 (t : Fin cfg0.N) : ∀ a, win0_4.index t a = 0 :=
  (by decide +kernel : ∀ t : Fin grid0.N, ∀ a, win0_4.index t a = 0) t
theorem row4 (t : Fin cfg0.N) (r : Fin 2048) (C : Fin 1024) : (iblk m c 4 t : Vec Ideal S2048x1024 .bf16) (ix2 r C)
    = (V m c main_v6 : Vec Ideal S2048x1024 .bf16) (ix2 r C) := by
  unfold iblk
  rw [View.read_apply]
  show V m c main_v6 _ = V m c main_v6 _
  congr 1
  funext a
  apply Fin.ext
  match a with
  | ⟨0, _⟩ => show win0_4.index t 0 * 2048 + 1 * r.val = r.val; rw [idx4 t 0]; omega
  | ⟨1, _⟩ => show win0_4.index t 1 * 1024 + 1 * C.val = C.val; rw [idx4 t 1]; omega
theorem idx5 (t : Fin cfg0.N) : win0_5.index t 0 = t.val ∧ win0_5.index t 1 = 0 :=
  (by decide +kernel : ∀ t : Fin grid0.N, win0_5.index t 0 = t.val ∧ win0_5.index t 1 = 0) t
theorem row5 (t : Fin cfg0.N) (r : Fin 512) (C : Fin 1024) : (iblk m c 5 t : Vec Ideal S512x1024 .f32) (ix2 r C)
    = (V m c main_arg4 : Vec Ideal S8192x1024 .f32) (ix2 ⟨512 * t.val + r.val, by have : t.val < 16 := lt_of_lt_of_eq t.isLt N_0; omega⟩ C) := by
  unfold iblk
  rw [View.read_apply]
  show V m c main_arg4 _ = V m c main_arg4 _
  congr 1
  funext a
  apply Fin.ext
  match a with
  | ⟨0, _⟩ => show win0_5.index t 0 * 512 + 1 * r.val = 512 * t.val + r.val; rw [(idx5 t).1]; omega
  | ⟨1, _⟩ => show win0_5.index t 1 * 1024 + 1 * C.val = C.val; rw [(idx5 t).2]; omega
theorem idx6 (t : Fin cfg0.N) : win0_6.index t 0 = t.val ∧ win0_6.index t 1 = 0 :=
  (by decide +kernel : ∀ t : Fin grid0.N, win0_6.index t 0 = t.val ∧ win0_6.index t 1 = 0) t
theorem row6 (t : Fin cfg0.N) (r : Fin 512) (C : Fin 1024) : (iblk m c 6 t : Vec Ideal S512x1024 .f32) (ix2 r C)
    = (V m c main_arg0 : Vec Ideal S8192x1024 .f32) (ix2 ⟨512 * t.val + r.val, by have : t.val < 16 := lt_of_lt_of_eq t.isLt N_0; omega⟩ C) := by
  unfold iblk
  rw [View.read_apply]
  show V m c main_arg0 _ = V m c main_arg0 _
  congr 1
  funext a
  apply Fin.ext
  match a with
  | ⟨0, _⟩ => show win0_6.index t 0 * 512 + 1 * r.val = 512 * t.val + r.val; rw [(idx6 t).1]; omega
  | ⟨1, _⟩ => show win0_6.index t 1 * 1024 + 1 * C.val = C.val; rw [(idx6 t).2]; omega
theorem idx7 (t : Fin cfg0.N) : ∀ a, win0_7.index t a = 0 :=
  (by decide +kernel : ∀ t : Fin grid0.N, ∀ a, win0_7.index t a = 0) t
theorem row7 (t : Fin cfg0.N) (r : Fin 1) (C : Fin 1024) : (iblk m c 7 t : Vec Ideal S1x1024 .f32) (ix2 r C)
    = (V m c main_arg1 : Vec Ideal S1x1024 .f32) (ix2 r C) := by
  unfold iblk
  rw [View.read_apply]
  show V m c main_arg1 _ = V m c main_arg1 _
  congr 1
  funext a
  apply Fin.ext
  match a with
  | ⟨0, _⟩ => show win0_7.index t 0 * 1 + 1 * r.val = r.val; rw [idx7 t 0]; omega
  | ⟨1, _⟩ => show win0_7.index t 1 * 1024 + 1 * C.val = C.val; rw [idx7 t 1]; omega
theorem idx8 (t : Fin cfg0.N) : win0_8.index t 0 = t.val ∧ win0_8.index t 1 = 0 :=
  (by decide +kernel : ∀ t : Fin grid0.N, win0_8.index t 0 = t.val ∧ win0_8.index t 1 = 0) t
theorem idx9 (t : Fin cfg0.N) : win0_9.index t 0 = 0 ∧ win0_9.index t 1 = 0 :=
  (by decide +kernel : ∀ t : Fin grid0.N, win0_9.index t 0 = 0 ∧ win0_9.index t 1 = 0) t

variable {x : ℕ → ℕ → ℝ} {g : ℕ → ℝ} {w a res : ℕ → ℕ → ℝ} (H : Holds m c x g w a res) (t : Fin cfg0.N)

include H

theorem blk0 (r : Fin 512) (k : Fin 512) : (iblk m c 0 t : Vec Ideal S512x512 .bf16) (ix2 r k) = (a (512 * t.val + r.val) (k.val) : EReal) := by
  rw [row0, prep1]; pointwise
  exact (H.a_eq ⟨_, _⟩ ⟨_, _⟩).trans (by simp)
theorem blk1 (r : Fin 512) (k : Fin 512) : (iblk m c 1 t : Vec Ideal S512x512 .bf16) (ix2 r k) = (a (512 * t.val + r.val) (512 + k.val) : EReal) := by
  rw [row1, prep2]; pointwise
  exact (H.a_eq ⟨_, _⟩ ⟨_, _⟩).trans (by simp)
theorem blk2 (r : Fin 512) (k : Fin 512) : (iblk m c 2 t : Vec Ideal S512x512 .bf16) (ix2 r k) = (a (512 * t.val + r.val) (1024 + k.val) : EReal) := by
  rw [row2, prep3]; pointwise
  exact (H.a_eq ⟨_, _⟩ ⟨_, _⟩).trans (by simp)
theorem blk3 (r : Fin 512) (k : Fin 512) : (iblk m c 3 t : Vec Ideal S512x512 .bf16) (ix2 r k) = (a (512 * t.val + r.val) (1536 + k.val) : EReal) := by
  rw [row3, prep4]; pointwise
  exact (H.a_eq ⟨_, _⟩ ⟨_, _⟩).trans (by simp)
theorem blk4 (k : Fin 2048) (C : Fin 1024) : (iblk m c 4 t : Vec Ideal S2048x1024 .bf16) (ix2 k C) = (w C.val k.val : EReal) := by
  rw [row4, prep6]; pointwise
  exact H.w_eq C k
theorem blk5 (r : Fin 512) (C : Fin 1024) : (iblk m c 5 t : Vec Ideal S512x1024 .f32) (ix2 r C) = (res (512 * t.val + r.val) C.val : EReal) := by
  rw [row5, V_main_arg4]; exact H.res_eq ⟨_, _⟩ C
theorem blk6 (r : Fin 512) (C : Fin 1024) : (iblk m c 6 t : Vec Ideal S512x1024 .f32) (ix2 r C) = (x (512 * t.val + r.val) C.val : EReal) := by
  rw [row6, V_main_arg0]; exact H.x_eq ⟨_, _⟩ C
theorem blk7 (C : Fin 1024) : (iblk m c 7 t : Vec Ideal S1x1024 .f32) (ix2 0 C) = (g C.val : EReal) := by
  rw [row7, V_main_arg1]; exact H.g_eq C

/-! ## One point -/

omit H in
/-- A tile's row, as a row of the whole matrix. -/
theorem tile_row (h : Fin 2) (r : Fin 256) : 512 * t.val + (256 * h.val + r.val) = (512 * t.val + 256 * h.val) + r.val := by omega

theorem dhT_apply (h : Fin 2) (r : Fin 256) (C : Fin 1024) :
    dhT (iblk m c 0 t) (iblk m c 1 t) (iblk m c 2 t) (iblk m c 3 t) (iblk m c 4 t) h (ix2 r C)
      = (dh w a ((512 * t.val + 256 * h.val) + r.val) C.val : EReal) := by
  rw [dh_blocks]
  pointwise [dhT, dhV, k0_pay4]
  have e (q : Fin 4) (k : Fin 512) (C : Fin 1024) : wt q (iblk m c 4 t) (ix2 k C) = (w C.val (512 * q.val + k.val) : EReal) := by
    refine Eq.trans ?_ (blk4 H t ⟨512 * q.val + k.val, by omega⟩ C)
    match q with
    | 0 | 1 | 2 | 3 =>
      dsimp only [wt]
      refine congrArg (iblk m c 4 t) (funext fun i => Fin.ext ?_)
      match i with
      | ⟨0, _⟩ => first | (show 0 + 1 * k.val = 512 * 0 + k.val; omega) | (show 512 + 1 * k.val = 512 * 1 + k.val; omega)
                        | (show 1024 + 1 * k.val = 512 * 2 + k.val; omega) | (show 1536 + 1 * k.val = 512 * 3 + k.val; omega)
      | ⟨1, _⟩ => show 0 + 1 * C.val = C.val; omega
  rw [sum_mul (fun k => (tile_apply h _ r k).trans (blk0 H t _ k)) (fun k => e 0 k C), sum_mul (fun k => (tile_apply h _ r k).trans (blk1 H t _ k)) (fun k => e 1 k C),
    sum_mul (fun k => (tile_apply h _ r k).trans (blk2 H t _ k)) (fun k => e 2 k C), sum_mul (fun k => (tile_apply h _ r k).trans (blk3 H t _ k)) (fun k => e 3 k C)]
  simp only [tile_row t h r]
  norm_cast

theorem xT (h : Fin 2) (r : Fin 256) (C : Fin 1024) : tile h (iblk m c 6 t : Vec Ideal S512x1024 .f32) (ix2 r C)
    = (x ((512 * t.val + 256 * h.val) + r.val) C.val : EReal) := by
  rw [tile_apply, ← tile_row]; exact blk6 H t _ C

theorem dxT_apply (h : Fin 2) (r : Fin 256) (C : Fin 1024) :
    dxT (iblk m c 0 t) (iblk m c 1 t) (iblk m c 2 t) (iblk m c 3 t) (iblk m c 4 t) (iblk m c 5 t) (iblk m c 6 t) (iblk m c 7 t) h (ix2 r C)
      = ((res ((512 * t.val + 256 * h.val) + r.val) C.val + dx x g (dh w a) ((512 * t.val + 256 * h.val) + r.val) C.val : ℝ) : EReal) := by
  pointwise [dxT]
  rw [dxV_apply (xT H t h) (dhT_apply H t h) (blk7 H t) r C, tile_apply, blk5 H t, tile_row]
  norm_cast

theorem ggT_apply (old : Vec Ideal S1x1024 .f32) (C : Fin 1024) (ho : old (ix2 0 C) = (dg x (dh w a) (512 * t.val) C.val : EReal)) :
    ggT (iblk m c 0 t) (iblk m c 1 t) (iblk m c 2 t) (iblk m c 3 t) (iblk m c 4 t) (iblk m c 6 t) old (ix2 0 C)
      = (dg x (dh w a) (512 * (t.val + 1)) C.val : EReal) := by
  unfold ggT
  rw [dgV_apply (xT H t 1) (dhT_apply H t 1) _ C _ (dgV_apply (xT H t 0) (dhT_apply H t 0) old C _ ho)]
  rw [show 512 * (t.val + 1) = 512 * t.val + 256 * (0 : Fin 2).val + 256 + 256 by dsimp; omega, dg_add, dg_add]
  rfl

/-! ## The arrays -/

variable (x g w a res) in
/-- The gradient of the norm's argument, with what came along the residual. -/
def dxA : S8192x1024.Idx → EReal := fun y => ((res (y 0).val (y 1).val + dx x g (dh w a) (y 0).val (y 1).val : ℝ) : EReal)
variable (x w a) in
/-- The gradient of the gain over the first `n` rows. -/
def dgA (n : ℕ) : S1x1024.Idx → EReal := fun y => (dg x (dh w a) n (y 1).val : EReal)

theorem ggT_eq (old : Vec Ideal S1x1024 .f32) (ho : ∀ C, old (ix2 0 C) = (dg x (dh w a) (512 * t.val) C.val : EReal)) :
    ggT (iblk m c 0 t) (iblk m c 1 t) (iblk m c 2 t) (iblk m c 3 t) (iblk m c 4 t) (iblk m c 6 t) old = dgA x w a (512 * (t.val + 1)) := by
  funext y
  have hy : y = ix2 0 (y 1) := (ix2_eta y).symm.trans (congrArg (fun i : Fin 1 => (ix2 i (y 1) : S1x1024.Idx)) (Subsingleton.elim (α := Fin 1) _ _))
  refine (congrArg _ hy).trans ?_
  exact ggT_apply H t old (y 1) (ho _)

/-- What the running gradient holds after point `n`. -/
theorem outs_eq : ∀ (n : ℕ) (h : n < cfg0.N), (outsAt0 m c n h).2 = dgA x w a (512 * (n + 1))
  | 0, h => by
    rw [outsAt0_A m c ⟨0, h⟩ rfl]
    dsimp only
    rw [out_A9]
    exact ggT_eq H ⟨0, h⟩ _ fun C => Ideal.ofBits_zero_f32.trans (by simp [dg])
  | n + 1, h => by
    have hN : n + 1 < 16 := lt_of_lt_of_eq h N_0
    have e := outs_eq n (Nat.lt_of_succ_lt h)
    rw [outsAt0_B m c ⟨n + 1, h⟩ (by dsimp only; omega)]
    dsimp only
    rw [out_B9]
    exact ggT_eq H ⟨n + 1, h⟩ _ fun C => congrFun e (ix2 0 C)

/-- A point's block of the first result. -/
theorem block8 (y : S512x1024.Idx) : (outsAt0 m c t.val t.isLt).1 y
    = dxA x g w a res (ix2 ⟨512 * t.val + (y 0).val, by have : t.val < 16 := lt_of_lt_of_eq t.isLt N_0; have : (y 0).val < 512 := (y 0).isLt; omega⟩ (y 1)) := by
  have h : (outsAt0 m c t.val t.isLt).1
      = both (dxT (iblk m c 0 t) (iblk m c 1 t) (iblk m c 2 t) (iblk m c 3 t) (iblk m c 4 t) (iblk m c 5 t) (iblk m c 6 t) (iblk m c 7 t)) := by
    by_cases h0 : t.val % 16 = 0
    · rw [outsAt0_A m c t h0]; dsimp only; rw [out_A8]
    · rw [outsAt0_B m c t h0]; dsimp only; rw [out_B8]
  rw [h]
  refine (dxT_apply H t _ _ _).trans ?_
  have e : 512 * t.val + 256 * ((y 0).val / 256) + (y 0).val % 256 = 512 * t.val + (y 0).val := by omega
  show ((res (512 * t.val + 256 * ((y 0).val / 256) + (y 0).val % 256) _ + dx x g (dh w a) (512 * t.val + 256 * ((y 0).val / 256) + (y 0).val % 256) _ : ℝ) : EReal) = _
  rw [e]
  rfl

/-- The last point. -/
def tLast : Fin cfg0.N := ⟨15, by rw [show cfg0.N = 16 from N_0]; omega⟩

/-- The first result. -/
theorem final8 : (dats m 0 c).arrAt 8 cfg0.N = dxA x g w a res :=
  (dats m 0 c).arrAt_eq_of_cover 8 (dxA x g w a res)
    (fun t hf => by
      have hN : t.val < 16 := lt_of_lt_of_eq t.isLt N_0
      show (cfg0.win 8).cut (grid0.coords t) ((dats m 0 c).after 8 t) = _
      rw [after0_8]
      funext y
      have h0 : (y 0).val < 512 := (y 0).isLt
      refine Eq.trans (block8 H t y) ?_
      rw [View.read_apply]
      congr 1
      funext a
      apply Fin.ext
      match a with
      | ⟨0, _⟩ => show 512 * t.val + (y 0).val = win0_8.index t 0 * 512 + 1 * (y 0).val; rw [(idx8 t).1]; omega
      | ⟨1, _⟩ => show (y 1).val = win0_8.index t 1 * 1024 + 1 * (y 1).val; rw [(idx8 t).2]; omega)
    fun i => by
      have h0 : (i 0).val < 8192 := (i 0).isLt
      have h1 : (i 1).val < 1024 := (i 1).isLt
      let t : Fin cfg0.N := ⟨(i 0).val / 512, by rw [show cfg0.N = 16 from N_0]; omega⟩
      refine ⟨t, flush0_8 t, ?_⟩
      show i ∈ ((View.whole main_v7_0).slice (win0_8.rect t)).set
      rw [View.set_slice_whole, Rect.mem_set_unit]
      intro a
      match a with
      | ⟨0, _⟩ =>
        show win0_8.index t 0 * 512 ≤ (i 0).val ∧ (i 0).val < win0_8.index t 0 * 512 + 512
        rw [(idx8 t).1]; dsimp only [t]; omega
      | ⟨1, _⟩ =>
        show win0_8.index t 1 * 1024 ≤ (i 1).val ∧ (i 1).val < win0_8.index t 1 * 1024 + 1024
        rw [(idx8 t).2]; omega

/-- The second result. -/
theorem final9 : (dats m 0 c).arrAt 9 cfg0.N = dgA x w a 8192 :=
  (dats m 0 c).arrAt_eq_of_cover 9 (dgA x w a 8192)
    (fun t hf => by
      have hN : t.val < 16 := lt_of_lt_of_eq t.isLt N_0
      have hl : t.val = 15 := by have := (flush0_9 t).mp hf; omega
      show (cfg0.win 9).cut (grid0.coords t) ((dats m 0 c).after 9 t) = _
      rw [after0_9, outs_eq H t.val t.isLt, hl]
      funext y
      rw [View.read_apply]
      have e : ((cfg0.win 9).blk t).view.emb y = y := funext fun a => Fin.ext (by
        match a with
        | ⟨0, _⟩ => show win0_9.index t 0 * 1 + 1 * (y 0).val = (y 0).val; rw [(idx9 t).1]; omega
        | ⟨1, _⟩ => show win0_9.index t 1 * 1024 + 1 * (y 1).val = (y 1).val; rw [(idx9 t).2]; omega)
      exact congrArg (dgA x w a 8192) e.symm)
    fun i => ⟨tLast, (flush0_9 tLast).mpr rfl, by
      show i ∈ ((View.whole main_v7_1).slice (win0_9.rect tLast)).set
      rw [View.set_slice_whole, Rect.mem_set_unit]
      intro a
      match a with
      | ⟨0, _⟩ =>
        have h : (i 0).val < 1 := (i 0).isLt
        show win0_9.index tLast 0 * 1 ≤ (i 0).val ∧ (i 0).val < win0_9.index tLast 0 * 1 + 1
        rw [(idx9 tLast).1]; omega
      | ⟨1, _⟩ =>
        have h : (i 1).val < 1024 := (i 1).isLt
        show win0_9.index tLast 1 * 1024 ≤ (i 1).val ∧ (i 1).val < win0_9.index tLast 1 * 1024 + 1024
        rw [(idx9 tLast).2]; omega⟩

end Cert.Kernel4Ideal.Dgrad

end
-- ==== Proof.DgradOne.Reference.lean ====
/-
  The reference's two results over arguments with real entries.
-/
module

public import proofs.«01_k».proof.Proof.Gen.Reference4Ideal.Read
public import proofs.«01_k».proof.Proof.Norm.Ref
public import proofs.«01_k».proof.Proof.DgradOne.Arrays

@[expose] public section

set_option maxRecDepth 16384

noncomputable section

open Idealize.ShloMosaic NormGrad

namespace Cert.Reference4Ideal.Dgrad

open Cert.Reference4Ideal Cert.Reference4Ideal.Gen Cert.Reference4Ideal.Read
open Cert.Kernel4Ideal.Dgrad (dh)

/-- The arguments hold these reals. -/
structure Holds (x0 : FVec Ideal S8192x1024 .f32) (x1 : FVec Ideal S1x1024 .f32) (x2 : FVec Ideal S1024x2048 .f32) (x3 : FVec Ideal S8192x2048 .f32)
    (x4 : FVec Ideal S8192x1024 .f32) (x : ℕ → ℕ → ℝ) (g : ℕ → ℝ) (w a res : ℕ → ℕ → ℝ) : Prop where
  x_eq : IsMat x0 x
  g_eq : ∀ C : Fin 1024, x1 (ix2 0 C) = (g C.val : EReal)
  w_eq : IsMat x2 w
  a_eq : IsMat x3 a
  res_eq : IsMat x4 res

variable {x0 : FVec Ideal S8192x1024 .f32} {x1 : FVec Ideal S1x1024 .f32} {x2 : FVec Ideal S1024x2048 .f32} {x3 : FVec Ideal S8192x2048 .f32}
  {x4 : FVec Ideal S8192x1024 .f32} {x : ℕ → ℕ → ℝ} {g : ℕ → ℝ} {w a res : ℕ → ℕ → ℝ} (H : Holds x0 x1 x2 x3 x4 x g w a res)
include H

theorem v6_apply (R : Fin 8192) : val_main_v6 (F := Ideal) x0 (ix2 R 0) = (ms x R.val : EReal) := by
  pointwise [val_main_v6, val_main_v5, val_main_v4, val_main_v3, val_main_v2, val_main_v1, val_main_v0, val_main_cst, val_main_cst_0, val_main_cst_1]
  exact mean_sq x R.val (H.x_eq R)

theorem v7_apply (R : Fin 8192) : val_main_v7 (F := Ideal) x0 (ix2 R 0) = (rs x R.val : EReal) := by
  pointwise [val_main_v7, val_main_v6, val_main_v5, val_main_v4, val_main_v3, val_main_v2, val_main_v1, val_main_v0, val_main_cst, val_main_cst_0, val_main_cst_1]
  exact rsqrt_ms x R.val (H.x_eq R)

theorem v10_apply (R : Fin 8192) : val_main_v10 (F := Ideal) x0 (ix2 R 0) = ((-(1 / 2) * (rs x R.val / ms x R.val) : ℝ) : EReal) := by
  pointwise [val_main_v10, val_main_v9, val_main_v8, val_main_cst_2]
  rw [v6_apply H R, v7_apply H R]
  exact half_ratio x R.val

theorem v12_apply (R : Fin 8192) (C : Fin 1024) : val_main_v12 (F := Ideal) x0 (ix2 R C) = (xh x R.val C.val : EReal) := by
  pointwise [val_main_v12, val_main_v11]
  rw [v7_apply H R, H.x_eq R C]
  unfold xh; norm_cast

theorem v16_apply (R : Fin 8192) (C : Fin 1024) : val_main_v16 (F := Ideal) x2 x3 (ix2 R C) = (dh w a R.val C.val : EReal) := by
  pointwise [val_main_v16]
  exact sum_mul (H.a_eq R) (H.w_eq C)

theorem v21_apply (R : Fin 8192) (C : Fin 1024) : val_main_v21 (F := Ideal) x1 x2 x3 (ix2 R C) = ((dh w a R.val C.val * g C.val : ℝ) : EReal) := by
  pointwise [val_main_v21, val_main_v20]
  rw [v16_apply H R C, H.g_eq C]
  norm_cast

theorem v24_apply (R : Fin 8192) : val_main_v24 (F := Ideal) x0 x1 x2 x3 (ix2 R 0)
    = ((∑ j : Fin 1024, x R.val j.val * (dh w a R.val j.val * g j.val) : ℝ) : EReal) := by
  pointwise [val_main_v24, val_main_v23, val_main_v22, val_main_cst_4]
  exact sum_mul (H.x_eq R) (v21_apply H R)

theorem v32_apply (R : Fin 8192) (C : Fin 1024) : val_main_v32 (F := Ideal) x0 x1 x2 x3 (ix2 R C)
    = (((∑ j : Fin 1024, x R.val j.val * (dh w a R.val j.val * g j.val)) * (-(1 / 2) * (rs x R.val / ms x R.val)) / 1024 : ℝ) : EReal) := by
  pointwise [val_main_v32, val_main_v31, val_main_v30, val_main_v29, val_main_v28, val_main_cst_5, val_main_cst_6]
  simp only [Fin.sum_univ_one, zero_add]
  rw [v24_apply H R, v10_apply H R, ← EReal.coe_mul, width_word, div_width]

/-- The gradient of the norm's argument. -/
theorem dx_all (R : Fin 8192) (C : Fin 1024) : val_main_v36 (F := Ideal) x0 x1 x2 x3 x4 (ix2 R C)
    = ((res R.val C.val + dx x g (dh w a) R.val C.val : ℝ) : EReal) := by
  rw [← chain x g (dh w a) R.val C.val _ rfl]
  pointwise [val_main_v36, val_main_v35, val_main_v34, val_main_v33, val_main_v27, val_main_v26, val_main_v25]
  rw [v32_apply H R C, v21_apply H R C, v7_apply H R, H.x_eq R C, H.res_eq R C]
  norm_cast
  ring_nf

/-- The gradient of the gain. -/
theorem dg_all (C : Fin 1024) : val_main_v19 (F := Ideal) x0 x2 x3 (ix2 0 C) = (dg x (dh w a) 8192 C.val : EReal) := by
  pointwise [val_main_v19, val_main_v18, val_main_v17, val_main_cst_3]
  rw [sum_mul (fun R => v12_apply H R C) (fun R => v16_apply H R C)]
  unfold dg
  rw [← Fin.sum_univ_eq_sum_range (fun R => dh w a R C.val * xh x R C.val) 8192]
  simp only [mul_comm]

end Cert.Reference4Ideal.Dgrad

end
-- ==== Proof.DgradOne.Equation.lean ====
/-
  Over arguments with finite entries the kernel's two result arrays are the reference's.
-/
module

public import proofs.«01_k».proof.Defs
public import proofs.«01_k».proof.Proof.Finite
public import proofs.«01_k».proof.Proof.DgradOne.Arrays
public import proofs.«01_k».proof.Proof.DgradOne.Reference
public import proofs.«01_k».proof.Proof.Gen.Kernel4Ideal.Value
public import proofs.«01_k».proof.Proof.Gen.Reference4Ideal.Run
public import Idealize.ShloMosaic.Lib.Quiescent

@[expose] public section

set_option maxRecDepth 16384

noncomputable section

open Idealize.ShloMosaic Idealize.ShloMosaic.TcCoe Idealize.SL.Sem

namespace Cert.DgradOneEq

open NormGrad

instance facts : Cert.Pre_finite4.Facts where
  bcast_S_S8192x1024 := by decide
  reducesTo_S8192x1024_S_d0_1 := by decide
  h_S_ := by decide
  bcast_S_S1x1024 := by decide
  reducesTo_S1x1024_S_d0_1 := by decide
  bcast_S_S1024x2048 := by decide
  reducesTo_S1024x2048_S_d0_1 := by decide
  bcast_S_S8192x2048 := by decide
  reducesTo_S8192x2048_S_d0_1 := by decide

/-- The arguments are these reals, where the predicate holds. -/
theorem holds (x0 : FVec Ideal Cert.Reference4Ideal.S8192x1024 .f32) (x1 : FVec Ideal Cert.Reference4Ideal.S1x1024 .f32) (x2 : FVec Ideal Cert.Reference4Ideal.S1024x2048 .f32) (x3 : FVec Ideal Cert.Reference4Ideal.S8192x2048 .f32) (x4 : FVec Ideal Cert.Reference4Ideal.S8192x1024 .f32)
    (h : Cert.Pre_finite4.fn (F := Ideal) x0 x1 x2 x3 x4 = fun _ => 1#1) :
    Cert.Reference4Ideal.Dgrad.Holds x0 x1 x2 x3 x4 (entries x0) (entries x1 0) (entries x2) (entries x3) (entries x4) := by
  have e := congrFun h ix0
  simp only [Cert.Pre_finite4.fn, Cert.Pre_finite4.fn_part1, andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton (Cert.Pre_finite4.S_).Idx := ⟨fun a b => funext fun k => k.elim0⟩
  exact ⟨entries_eq _ (Finite.all _ _ _ _ _ ix0 e0), entries_eq _ (Finite.all _ _ _ _ _ ix0 e1) 0, entries_eq _ (Finite.all _ _ _ _ _ ix0 e2), entries_eq _ (Finite.all _ _ _ _ _ ix0 e3), entries_eq _ (Finite.all _ _ _ _ _ ix0 e4)⟩

variable (m : (ℓ : Loc Cert.Kernel4Ideal.nD Cert.Kernel4Ideal.τ Cert.Kernel4Ideal.sig) → Buf (Elt Ideal) ℓ) (c : Dev Cert.Kernel4Ideal.nD)

/-! The kernel's arguments on a device. -/
abbrev a0 : FVec Ideal Cert.Reference4Ideal.S8192x1024 .f32 := m ((c : Thread Cert.Kernel4Ideal.nD Cert.Kernel4Ideal.τ).loc Cert.Kernel4Ideal.main_arg0)
abbrev a1 : FVec Ideal Cert.Reference4Ideal.S1x1024 .f32 := m ((c : Thread Cert.Kernel4Ideal.nD Cert.Kernel4Ideal.τ).loc Cert.Kernel4Ideal.main_arg1)
abbrev a2 : FVec Ideal Cert.Reference4Ideal.S1024x2048 .f32 := m ((c : Thread Cert.Kernel4Ideal.nD Cert.Kernel4Ideal.τ).loc Cert.Kernel4Ideal.main_arg2)
abbrev a3 : FVec Ideal Cert.Reference4Ideal.S8192x2048 .f32 := m ((c : Thread Cert.Kernel4Ideal.nD Cert.Kernel4Ideal.τ).loc Cert.Kernel4Ideal.main_arg3)
abbrev a4 : FVec Ideal Cert.Reference4Ideal.S8192x1024 .f32 := m ((c : Thread Cert.Kernel4Ideal.nD Cert.Kernel4Ideal.τ).loc Cert.Kernel4Ideal.main_arg4)

variable {m} (h : Cert.Pre_Kernel4Ideal_finite4 m)
include h

theorem holdsR : Cert.Reference4Ideal.Dgrad.Holds (a0 m c) (a1 m c) (a2 m c) (a3 m c) (a4 m c) (entries (a0 m c)) (entries (a1 m c) 0) (entries (a2 m c)) (entries (a3 m c)) (entries (a4 m c)) :=
  holds _ _ _ _ _ (h c)
theorem holdsK : Cert.Kernel4Ideal.Dgrad.Holds m c (entries (a0 m c)) (entries (a1 m c) 0) (entries (a2 m c)) (entries (a3 m c)) (entries (a4 m c)) :=
  have H := holdsR c h
  ⟨H.x_eq, H.g_eq, H.w_eq, H.a_eq, H.res_eq⟩

/-- The gradient of the norm's argument. -/
theorem result8 : (Cert.Kernel4Ideal.Gen.dats m 0 c).arrAt 8 Cert.Kernel4Ideal.cfg0.N = Cert.Reference4Ideal.Read.val_main_v36 (F := Ideal) (a0 m c) (a1 m c) (a2 m c) (a3 m c) (a4 m c) := by
  refine (Cert.Kernel4Ideal.Dgrad.final8 (holdsK c h)).trans (funext fun y => ?_)
  obtain ⟨r, C, rfl⟩ : ∃ (r : Fin 8192) (C : Fin 1024), y = ix2 r C := ⟨y 0, y 1, (ix2_eta y).symm⟩
  exact (Cert.Reference4Ideal.Dgrad.dx_all (holdsR c h) r C).symm

/-- The gradient of the gain. -/
theorem result9 : (Cert.Kernel4Ideal.Gen.dats m 0 c).arrAt 9 Cert.Kernel4Ideal.cfg0.N = Cert.Reference4Ideal.Read.val_main_v19 (F := Ideal) (a0 m c) (a2 m c) (a3 m c) := by
  refine (Cert.Kernel4Ideal.Dgrad.final9 (holdsK c h)).trans (funext fun y => ?_)
  obtain ⟨r, C, rfl⟩ : ∃ (r : Fin 1) (C : Fin 1024), y = ix2 r C := ⟨y 0, y 1, (ix2_eta y).symm⟩
  obtain rfl : r = 0 := Subsingleton.elim _ _
  exact (Cert.Reference4Ideal.Dgrad.dg_all (holdsR c h) C).symm

omit h
/-- The reference runs, keeps its arguments and has no semaphore. -/
theorem frame_reference : Cert.quiescent_Reference4Ideal := fun m ρ _ =>
  (θ_run Cert.Reference4Ideal.defs _ _).mono (fun r h => ⟨fun c => (h c).2.2, sem_eq_zero_of_no_sems rfl r.2⟩)
    (Cert.Reference4Ideal.Value.run (F := Ideal) m ρ)

/-- The kernel's results are the reference's. -/
theorem value : Cert.algebraic_Kernel4Ideal_Reference4Ideal_pre_finite4 := fun m g m' g' h e =>
  ⟨_, _, Cert.Kernel4Ideal.Value.run_blocks m g,
    (θ_run Cert.Reference4Ideal.defs _ _).mono (fun r H c => by
      obtain ⟨r0, r1, k⟩ := H c
      obtain ⟨e0, e1, e2, e3, e4⟩ := e c
      refine ⟨?_, ?_, k⟩
      · exact (r0.trans (Cert.Reference4Ideal.Read.val_main_v36_eq ..)).trans ((congr (congr (congr (congr (congrArg _ e0) e1) e2) e3) e4).trans (result8 c h).symm)
      · exact (r1.trans (Cert.Reference4Ideal.Read.val_main_v19_eq ..)).trans ((congr (congr (congrArg _ e0) e2) e3).trans (result9 c h).symm))
    (Cert.Reference4Ideal.Value.run (F := Ideal) m' g')⟩

end Cert.DgradOneEq

end
-- ==== Proof.Attn.Basic.lean ====
module

public import proofs.«01_k».proof.Proof.Gen.Kernel6Ideal.Frame
public import proofs.«01_k».proof.Proof.Gen.Kernel6Ideal.Skeleton
public import proofs.«01_k».proof.Proof.Gen.Kernel6Ideal.Points
public import proofs.«01_k».proof.Proof.Gen.Kernel6Ideal.Launch
public import Idealize.ShloMosaic.Lib.Pipeline.FrameBody
public import Idealize.ShloMosaic.Lib.Ring
public import Idealize.ShloMosaic.Lib.Pipeline.Value
public import Idealize.ShloMosaic.Lib.Tactic

@[expose] public section

set_option maxRecDepth 16384

noncomputable section

namespace Cert.Attn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! What the runs of the attention gradient's kernel share: the conditions of its branches over the grid, the buffers it
is given at each point, and the body without its first branch. The grid is four pairs of heads by five steps: step `c < 4`
works on the `c`-th block of 2048 queries, and step 4 only writes the last block of the keys' and values' gradients. -/

/-- The first branch is taken at the first step of a pair of heads. -/
abbrev IsFirst (i : grid0.Coords) : Prop :=
  Scalar.cmpi .ne (Scalar.extui (Scalar.cmpi .eq (BitVec.ofNat 32 (i 1).val) 0#32)) 0#32 = 1#1
/-- The second at the steps that work on a block of queries. -/
abbrev IsWork (i : grid0.Coords) : Prop := k0_cond2 i = 1#1
/-- The third at the last step. -/
abbrev IsLast (i : grid0.Coords) : Prop := k0_cond3 i = 1#1

instance (i : grid0.Coords) : Decidable (IsFirst i) := by unfold IsFirst; infer_instance

theorem first_iff : ∀ t : Fin grid0.N, IsFirst (grid0.coords t) ↔ t.val % 5 = 0 := by decide +kernel
theorem work_iff : ∀ t : Fin grid0.N, IsWork (grid0.coords t) ↔ t.val % 5 ≠ 4 := by decide +kernel
theorem last_iff : ∀ t : Fin grid0.N, IsLast (grid0.coords t) ↔ t.val % 5 = 4 := by decide +kernel

/-- The queries' gradients are written back when their block changes: not after a pair's fourth step. -/
theorem flush_q : ∀ t : Fin grid0.N, win0_8.flush t = !decide (t.val % 5 = 3) := by decide +kernel

theorem live_q (t : Fin cfg0.N) (h : IsWork (grid0.coords t)) : cfg0.idle 8 (grid0.coords t) = false := by
  show (!(k0_cond2 (grid0.coords t) == 1#1)) = false
  rw [show k0_cond2 (grid0.coords t) = 1#1 from h]; rfl
theorem idle_q (t : Fin cfg0.N) (h : ¬IsWork (grid0.coords t)) : cfg0.idle 8 (grid0.coords t) = true := by
  show (!(k0_cond2 (grid0.coords t) == 1#1)) = true
  rw [beq_eq_false_iff_ne.mpr h]; rfl
theorem live_k : ∀ t : Fin grid0.N, (!(k0_cond2 (grid0.coords t) == 1#1) && !(k0_cond3 (grid0.coords t) == 1#1)) = false := by
  decide +kernel

/-- Holding a buffer at some contents. -/
abbrev some' (c : Dev nD) {sp : Space} {s : Shape} {e : EltTy} (M : Memref sig .tc sp s e) : sProp 𝕄 :=
  iprop(∃ d, owns (c : Thread nD τ) M fullShare d)
/-- Holding a buffer with pieces written into it. -/
abbrev wrote (c : Dev nD) {sp : Space} {s : Shape} {e : EltTy} (M : Memref sig .tc sp s e) (L : List (View.Piece (Elt F) s e)) : sProp 𝕄 :=
  iprop(∃ f, M.view.loc (c : Thread nD τ) ↦[M.view.set]{fullShare} M.view.writes (Elt F) f L)

theorem hz2 : (![0, 0] : Fin 2 → Nat) = fun _ => 0 := funext fun a => by fin_cases a <;> rfl

/-- A rectangle over the whole block holds every index. -/
theorem mem_full (y : S2048x128.Idx) : y ∈ (Rect.unit (s := S2048x128) ![0, 0] S2048x128.size inb_S2048x128_S2048x128_0_0).set :=
  View.mem_set_unit_zero (S := S2048x128) hz2 _ y

/-- One store over a whole block leaves its payload. -/
theorem read_full {sp : Space} {e : EltTy} (v : View sig .tc sp S2048x128 e) (f : v.ty.Contents (Elt F)) (x : S2048x128.Idx → Elt F e) :
    v.read (Elt F) (v.writes (Elt F) f [⟨Rect.unit ![0, 0] S2048x128.size inb_S2048x128_S2048x128_0_0, x⟩]) = x := by
  refine (View.read_writes_eq_canon v f _ fun y => ?_).trans (View.canon_unit_zero (S := S2048x128) hz2 _ x)
  exact Exists.intro _ (And.intro List.mem_cons_self (mem_full y))

/-- A load of a whole buffer reads its contents. -/
theorem load_full {sp : Space} {e : EltTy} {M : Memref sig .tc sp S2048x128 e} (h : M.IsWhole) (x : Vec F S2048x128 e) :
    View.readAt (Elt F) M.view (Rect.unit ![0, 0] S2048x128.size inb_S2048x128_S2048x128_0_0).toLoadRect (h.unread x) = x := by
  rw [View.readAt_eq_ld, h.read_unread]; exact View.ld_unit_zero (S := S2048x128) hz2 _ _

/-- A store over a whole block, the latest or third latest, covers the block. -/
theorem covers_head {e : EltTy} (x : S2048x128.Idx → Elt F e) (L : List (View.Piece (Elt F) S2048x128 e)) (y : S2048x128.Idx) :
    ∃ p ∈ (⟨Rect.unit ![0, 0] S2048x128.size inb_S2048x128_S2048x128_0_0, x⟩ :: L : List (View.Piece (Elt F) S2048x128 e)), y ∈ p.1.set :=
  Exists.intro _ (And.intro List.mem_cons_self (mem_full y))
theorem covers_third {e : EltTy} (p q : View.Piece (Elt F) S2048x128 e) (x : S2048x128.Idx → Elt F e)
    (L : List (View.Piece (Elt F) S2048x128 e)) (y : S2048x128.Idx) :
    ∃ r ∈ (p :: q :: ⟨Rect.unit ![0, 0] S2048x128.size inb_S2048x128_S2048x128_0_0, x⟩ :: L : List (View.Piece (Elt F) S2048x128 e)), y ∈ r.1.set :=
  Exists.intro _ (And.intro (List.mem_cons_of_mem _ (List.mem_cons_of_mem _ List.mem_cons_self)) (mem_full y))

/-- Stores covering a block leave the block they spell. -/
theorem owns_of_wrote (c : Dev nD) {sp : Space} {s : Shape} {e : EltTy} (M : Memref sig .tc sp s e) (L : List (View.Piece (Elt F) s e))
    (h : ∀ y, ∃ p ∈ L, y ∈ p.1.set) : wrote c M L ⊢ owns (c : Thread nD τ) M fullShare (View.canon L) := by
  unfold wrote owns
  iintro ⟨%f, H⟩
  iexists _; isplitr
  swap; · iexact H
  ipureintro; exact View.read_writes_eq_canon _ _ _ h

/-- A run leaving stores that cover their blocks leaves the blocks. -/
theorem blocks_of_run (c : Dev nD) {sp8 sp9 sp10 sp13 sp14 : Space} (M8 : Memref sig .tc sp8 S2048x128 .bf16) (M9 : Memref sig .tc sp9 S2048x128 .bf16)
    (M10 : Memref sig .tc sp10 S2048x128 .bf16) (M13 : Memref sig .tc sp13 S2048x128 .f32) (M14 : Memref sig .tc sp14 S2048x128 .f32)
    (L8 L9 L10 : List (View.Piece (Elt F) S2048x128 .bf16)) (L13 L14 : List (View.Piece (Elt F) S2048x128 .f32))
    (h : (∀ y, ∃ p ∈ L8, y ∈ p.1.set) ∧ (∀ y, ∃ p ∈ L9, y ∈ p.1.set) ∧ (∀ y, ∃ p ∈ L10, y ∈ p.1.set)
      ∧ (∀ y, ∃ p ∈ L13, y ∈ p.1.set) ∧ (∀ y, ∃ p ∈ L14, y ∈ p.1.set)) (G A B C S T R Q W : sProp 𝕄)
    (run : iprop(G ∗ A ∗ B ∗ C ∗ S ∗ T ∗ R ∗ (iprop(G ∗ wrote c M8 L8 ∗ wrote c M9 L9 ∗ wrote c M10 L10 ∗ wrote c M13 L13 ∗ wrote c M14 L14 ∗ R) -∗ Q)) ⊢ W) :
    iprop(G ∗ A ∗ B ∗ C ∗ S ∗ T ∗ R ∗ (iprop(G ∗ owns (c : Thread nD τ) M8 fullShare (View.canon L8) ∗ owns (c : Thread nD τ) M9 fullShare (View.canon L9)
        ∗ owns (c : Thread nD τ) M10 fullShare (View.canon L10) ∗ owns (c : Thread nD τ) M13 fullShare (View.canon L13)
        ∗ owns (c : Thread nD τ) M14 fullShare (View.canon L14) ∗ R) -∗ Q)) ⊢ W := by
  refine BIBase.Entails.trans ?_ run
  iintro ⟨HG, HA, HB, HC, HS, HT, HR, Hk⟩
  isplitl [HG]; · iexact HG
  isplitl [HA]; · iexact HA
  isplitl [HB]; · iexact HB
  isplitl [HC]; · iexact HC
  isplitl [HS]; · iexact HS
  isplitl [HT]; · iexact HT
  isplitl [HR]; · iexact HR
  iintro ⟨HG, H8, H9, H10, H13, H14, HR⟩
  iapply Hk
  isplitl [HG]; · iexact HG
  isplitl [H8]; · iapply (owns_of_wrote c M8 L8 h.1); iexact H8
  isplitl [H9]; · iapply (owns_of_wrote c M9 L9 h.2.1); iexact H9
  isplitl [H10]; · iapply (owns_of_wrote c M10 L10 h.2.2.1); iexact H10
  isplitl [H13]; · iapply (owns_of_wrote c M13 L13 h.2.2.2.1); iexact H13
  isplitl [H14]; · iapply (owns_of_wrote c M14 L14 h.2.2.2.2); iexact H14
  iexact HR

section
variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S2048x128 .f32) (harg28 : arg28.IsWhole) (arg29 : Memref sig .tc .vmem S2048x128 .f32) (harg29 : arg29.IsWhole) (arg30 : Memref sig .tc .vmem S2048x128 .f32) (harg30 : arg30.IsWhole) (arg31 : Memref sig .tc .vmem S2048x128 .f32) (harg31 : arg31.IsWhole) (arg32 : Memref sig .tc .vmem S2048x128 .f32) (harg32 : arg32.IsWhole) (arg33 : Memref sig .tc .vmem S2048x128 .f32) (harg33 : arg33.IsWhole)
/-- The eight inputs at their contents. -/
abbrev given (x0 x1 x2 x3 x4 x5 x6 x7 : Vec F S2048x128 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7)
/-- The buffers the kernel fills anew at every step, at some contents. -/
abbrev fresh : sProp 𝕄 := iprop(some' (F := F) c arg15 ∗ some' (F := F) c arg16 ∗ some' (F := F) c arg17 ∗ some' (F := F) c arg18 ∗ some' (F := F) c arg19 ∗ some' (F := F) c arg20 ∗ some' (F := F) c arg21 ∗ some' (F := F) c arg22 ∗ some' (F := F) c arg23 ∗ some' (F := F) c arg24 ∗ some' (F := F) c arg25 ∗ some' (F := F) c arg26 ∗ some' (F := F) c arg27 ∗ some' (F := F) c arg28 ∗ some' (F := F) c arg29 ∗ some' (F := F) c arg30 ∗ some' (F := F) c arg31 ∗ some' (F := F) c arg32 ∗ some' (F := F) c arg33)

set_option maxRecDepth 65536 in
/-- The body after its first branch. -/
def tail : { p : Prog (TpuEff nD τ sig (Elt F) Λ₀ .tc) PUnit // ¬IsFirst i → cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 = p } :=
  ⟨_, fun h => (dif_neg h : cc0_attn_bwd_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 = _)⟩

set_option maxRecDepth 65536 in
/-- At a first step the body clears the two carried buffers, then goes on. -/
theorem cleared (h : IsFirst i) : cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 = (do
    let _ : Vec F S2048x128 .f32 ← Prog.lift (.load arg13 (Rect.unit (s := S2048x128) ![0, 0] S2048x128.size inb_S2048x128_S2048x128_0_0).toLoadRect (View.loadsAt_vmem h_S2048x128))
    Prog.lift (.store arg13 (Rect.unit (s := S2048x128) ![0, 0] S2048x128.size inb_S2048x128_S2048x128_0_0) (k0_pay1 (F := F)) Finset.univ (View.stores_vmem_bits_univ h_S2048x128 rfl) (.inl rfl))
    let _ : Vec F S2048x128 .f32 ← Prog.lift (.load arg14 (Rect.unit (s := S2048x128) ![0, 0] S2048x128.size inb_S2048x128_S2048x128_0_0).toLoadRect (View.loadsAt_vmem h_S2048x128))
    Prog.lift (.store arg14 (Rect.unit (s := S2048x128) ![0, 0] S2048x128.size inb_S2048x128_S2048x128_0_0) (k0_pay2 (F := F)) Finset.univ (View.stores_vmem_bits_univ h_S2048x128 rfl) (.inl rfl))
    (tail (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33).1) := by
  show cc0_attn_bwd_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 = _
  unfold cc0_attn_bwd_skel tail; exact dif_pos h
end

end Cert.Attn

end
-- ==== Proof.Attn.Tail.lean ====
module

public import proofs.«01_k».proof.Proof.Attn.Basic

@[expose] public section

set_option maxRecDepth 16384

noncomputable section

namespace Cert.Attn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 6144000 in set_option sl_exec.stridedRows true in
/-- THE WORKING STEP. From the inputs' blocks and the two carried buffers at `s0` and `s1` the body leaves in the three
outputs and in the carried buffers the pieces this names. -/
def runTail (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S2048x128 .f32) (harg28 : arg28.IsWhole) (arg29 : Memref sig .tc .vmem S2048x128 .f32) (harg29 : arg29.IsWhole) (arg30 : Memref sig .tc .vmem S2048x128 .f32) (harg30 : arg30.IsWhole) (arg31 : Memref sig .tc .vmem S2048x128 .f32) (harg31 : arg31.IsWhole) (arg32 : Memref sig .tc .vmem S2048x128 .f32) (harg32 : arg32.IsWhole) (arg33 : Memref sig .tc .vmem S2048x128 .f32) (harg33 : arg33.IsWhole) (hw : IsWork i) (hl : ¬IsLast i)
    (x0 x1 x2 x3 x4 x5 x6 x7 : Vec F S2048x128 .f32) (s0 s1 : Vec F S2048x128 .f32) :
    Σ' (L8 L9 L10 : List (View.Piece (Elt F) S2048x128 .bf16)) (LS0 : List (View.Piece (Elt F) S2048x128 .f32)), { LS1 : List (View.Piece (Elt F) S2048x128 .f32) //
      ((∀ y, ∃ p ∈ L8, y ∈ p.1.set) ∧ (∀ y, ∃ p ∈ L9, y ∈ p.1.set) ∧ (∀ y, ∃ p ∈ L10, y ∈ p.1.set)
        ∧ (∀ y, ∃ p ∈ LS0, y ∈ p.1.set) ∧ (∀ y, ∃ p ∈ LS1, y ∈ p.1.set)) ∧
      ∀ (E : Set ℕ) (K : PUnit → sProp 𝕄),
        iprop(given c arg2 arg3 arg4 arg5 arg6 arg7 arg8 arg9 x0 x1 x2 x3 x4 x5 x6 x7 ∗ some' (F := F) c arg10 ∗ some' (F := F) c arg11 ∗ some' (F := F) c arg12 ∗ owns (c : Thread nD τ) arg13 fullShare s0 ∗ owns (c : Thread nD τ) arg14 fullShare s1 ∗ fresh (F := F) c arg15 arg16 arg17 arg18 arg19 arg20 arg21 arg22 arg23 arg24 arg25 arg26 arg27 arg28 arg29 arg30 arg31 arg32 arg33
            ∗ (iprop(given c arg2 arg3 arg4 arg5 arg6 arg7 arg8 arg9 x0 x1 x2 x3 x4 x5 x6 x7 ∗ wrote c arg10 L8 ∗ wrote c arg11 L9 ∗ wrote c arg12 L10 ∗ wrote c arg13 LS0 ∗ wrote c arg14 LS1 ∗ fresh (F := F) c arg15 arg16 arg17 arg18 arg19 arg20 arg21 arg22 arg23 arg24 arg25 arg26 arg27 arg28 arg29 arg30 arg31 arg32 arg33) -∗ K ⟨⟩))
          ⊢ wp frame (wpE (defs₀ (F := F)) Variants.none c none) E (tail (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33).1 K } := by
  refine ⟨?_, ?_, ?_, ?_, ?_, ?covers, fun E K => ?run⟩
  case run =>
    unfold tail
    simp only [k0_part106_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part107_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton]
    unfold given fresh some' wrote owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨%d10, %f10, -, H10⟩, ⟨%fs0, %hfs0, HS0⟩, ⟨%fs1, %hfs1, HS1⟩, ⟨⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, ⟨%ds16, %fs16, -, HS16⟩, ⟨%ds17, %fs17, -, HS17⟩, ⟨%ds18, %fs18, -, HS18⟩, ⟨%ds19, %fs19, -, HS19⟩, ⟨%ds20, %fs20, -, HS20⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0; obtain rfl := harg14.eq_unread hfs1
    sl_exec (disch := first | sl_exact hw | sl_exact hl)
    sl_step
    iapply Hk
    isplitl [H0 H1 H2 H3 H4 H5 H6 H7]
    · skip
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    isplitl [HS14]
    · iexists _, _; isplitr; swap; · iexact HS14
      ipureintro; rfl
    isplitl [HS15]
    · iexists _, _; isplitr; swap; · iexact HS15
      ipureintro; rfl
    isplitl [HS16]
    · iexists _, _; isplitr; swap; · iexact HS16
      ipureintro; rfl
    isplitl [HS17]
    · iexists _, _; isplitr; swap; · iexact HS17
      ipureintro; rfl
    isplitl [HS18]
    · iexists _, _; isplitr; swap; · iexact HS18
      ipureintro; rfl
    isplitl [HS19]
    · iexists _, _; isplitr; swap; · iexact HS19
      ipureintro; rfl
    iexists _, _; isplitr; swap; · iexact HS20
    ipureintro; rfl
  case covers =>
    exact And.intro (covers_head _ _) (And.intro (covers_head _ _) (And.intro (covers_head _ _) (And.intro (covers_third _ _ _ _) (covers_third _ _ _ _))))

end Cert.Attn

end
-- ==== Proof.Attn.Unit.lean ====
module

public import proofs.«01_k».proof.Proof.Attn.Tail

@[expose] public section

set_option maxRecDepth 16384

noncomputable section

namespace Cert.Attn

open Cert.Kernel6Ideal Cert.Kernel6Ideal.Gen
open Idealize.ShloMosaic Idealize.ShloMosaic.TcCoe Idealize.ShloMosaic.Tactic

variable {F : FTy → Type} [FloatOps F]

/-! One block of 128 queries against its 256 keys: what the body computes from the rows it loads, and where the 48
blocks of the three dilations lie. -/

/-- The weights of a block: exponentials of the scores less the saved logarithms, where the mask holds. -/
def unitWeights (M : IVec S256x256 1) (q kp kc l0 l1 : Vec F S128x128 .f32) : FVec F S256x256 .f32 :=
  k0_pay33 M (k0_pay31 k0_pay8 k0_pay9 (k0_pay26 q) (k0_pay27 kp kc)) l0 l1

/-- The gradients of a block's scores. -/
def unitGrads (M : IVec S256x256 1) (q kp kc vp vc g l0 l1 d0 d1 : Vec F S128x128 .f32) : FVec F S256x256 .bf16 :=
  k0_pay34 M (k0_pay31 k0_pay8 k0_pay9 (k0_pay26 q) (k0_pay27 kp kc)) (k0_pay32 k0_pay8 k0_pay9 (k0_pay28 vp vc) g) l0 l1 d0 d1

/-- The gradient of a block's queries. -/
def unitQ (M : IVec S256x256 1) (q kp kc vp vc g l0 l1 d0 d1 : Vec F S128x128 .f32) : FVec F S128x128 .f32 :=
  k0_pay39 k0_pay8
    (k0_pay35 M (k0_pay27 kp kc) (k0_pay31 k0_pay8 k0_pay9 (k0_pay26 q) (k0_pay27 kp kc)) (k0_pay32 k0_pay8 k0_pay9 (k0_pay28 vp vc) g) l0 l1 d0 d1)
    (k0_pay36 M (k0_pay27 kp kc) (k0_pay31 k0_pay8 k0_pay9 (k0_pay26 q) (k0_pay27 kp kc)) (k0_pay32 k0_pay8 k0_pay9 (k0_pay28 vp vc) g) l0 l1 d0 d1)

/-- Which of a block's five results. -/
inductive Kind | q | kOwn | kBack | vOwn | vBack

/-- A block's results: the queries' gradient, and the keys' and values' gradients at its own rows and at the rows before. -/
def unitOf (k : Kind) (M : IVec S256x256 1) (q kp kc vp vc g l0 l1 d0 d1 : Vec F S128x128 .f32) : FVec F S128x128 .f32 :=
  match k with
  | .q => unitQ M q kp kc vp vc g l0 l1 d0 d1
  | .kOwn => k0_pay40 (k0_pay29 k0_pay8 k0_pay9 (k0_pay26 q)) (unitGrads M q kp kc vp vc g l0 l1 d0 d1)
  | .kBack => k0_pay42 (k0_pay29 k0_pay8 k0_pay9 (k0_pay26 q)) (unitGrads M q kp kc vp vc g l0 l1 d0 d1)
  | .vOwn => k0_pay41 (k0_pay30 k0_pay8 k0_pay9 g) (unitWeights M q kp kc l0 l1)
  | .vBack => k0_pay43 (k0_pay30 k0_pay8 k0_pay9 g) (unitWeights M q kp kc l0 l1)

/-- 128 rows of a block, evenly spaced. -/
structure Rows where
  off : Fin S2048x128.rank → ℕ
  stride : Fin S2048x128.rank → ℕ
  inb : ∀ a, S128x128.size a = 0 ∨ off a + stride a * (S128x128.size a - 1) < S2048x128.size a
  pos : ∀ a, 0 < stride a

def Rows.rect (r : Rows) : Rect S2048x128 := ⟨⟨r.off, S128x128.size, r.stride, r.inb⟩, r.pos⟩

/-- 128 rows following one another. -/
def rowsFrom (o : ℕ) (h : o + 128 ≤ 2048) : Rows where
  off := ![o, 0]
  stride := fun _ => 1
  inb := fun a => .inr (by match a with | ⟨0, _⟩ => show o + 1 * 127 < 2048; omega | ⟨1, _⟩ => show 0 + 1 * 127 < 128; omega)
  pos := fun _ => Nat.one_pos

/-- 128 rows `d` apart. -/
def rowsBy (d o : ℕ) (h : 0 < d ∧ o + d * 127 < 2048) : Rows where
  off := ![o, 0]
  stride := ![d, 1]
  inb := fun a => .inr (by match a with | ⟨0, _⟩ => exact h.2 | ⟨1, _⟩ => show 0 + 1 * 127 < 128; omega)
  pos := fun a => by match a with | ⟨0, _⟩ => exact h.1 | ⟨1, _⟩ => exact Nat.one_pos

/-- A block of queries: its rows, the rows of the keys before, and whether those are the chunk's before. -/
structure Place where
  here : Rows
  back : Rows
  first : Bool

/-- What a block loads from. -/
structure Loads (F : FTy → Type) [FloatOps F] where
  q : (r : Rows) → Vec F S128x128 .f32
  kp : (r : Rows) → Vec F S128x128 .f32
  kc : (r : Rows) → Vec F S128x128 .f32
  vp : (r : Rows) → Vec F S128x128 .f32
  vc : (r : Rows) → Vec F S128x128 .f32
  g : (r : Rows) → Vec F S128x128 .f32
  l0 : (r : Rows) → Vec F S128x128 .f32
  l1 : (r : Rows) → Vec F S128x128 .f32
  d0 : (r : Rows) → Vec F S128x128 .f32
  d1 : (r : Rows) → Vec F S128x128 .f32

/-- Where a result is stored. -/
def Kind.rows (k : Kind) (p : Place) : Rows :=
  match k with
  | .q => p.here
  | .kOwn => p.here
  | .kBack => p.back
  | .vOwn => p.here
  | .vBack => p.back

/-- One block's store; `a` is the chunk's number. -/
def pieceAt (k : Kind) (a : BitVec 32) (L : Loads F) (p : Place) : View.Piece (Elt F) S2048x128 .f32 :=
  ⟨(k.rows p).rect, unitOf k (match p.first with | true => k0_pay11 a | false => k0_pay10) (L.q p.here)
    (match p.first with | true => L.kp p.back | false => L.kc p.back) (L.kc p.here)
    (match p.first with | true => L.vp p.back | false => L.vc p.back) (L.vc p.here) (L.g p.here)
    (L.l0 p.here) (L.l1 p.here) (L.d0 p.here) (L.d1 p.here)⟩

/-- The sixteen blocks at dilation 1, the latest first. -/
def places0 : List Place :=
  [⟨rowsFrom 1920 (by decide), rowsFrom 1792 (by decide), false⟩,
   ⟨rowsFrom 1792 (by decide), rowsFrom 1664 (by decide), false⟩,
   ⟨rowsFrom 1664 (by decide), rowsFrom 1536 (by decide), false⟩,
   ⟨rowsFrom 1536 (by decide), rowsFrom 1408 (by decide), false⟩,
   ⟨rowsFrom 1408 (by decide), rowsFrom 1280 (by decide), false⟩,
   ⟨rowsFrom 1280 (by decide), rowsFrom 1152 (by decide), false⟩,
   ⟨rowsFrom 1152 (by decide), rowsFrom 1024 (by decide), false⟩,
   ⟨rowsFrom 1024 (by decide), rowsFrom 896 (by decide), false⟩,
   ⟨rowsFrom 896 (by decide), rowsFrom 768 (by decide), false⟩,
   ⟨rowsFrom 768 (by decide), rowsFrom 640 (by decide), false⟩,
   ⟨rowsFrom 640 (by decide), rowsFrom 512 (by decide), false⟩,
   ⟨rowsFrom 512 (by decide), rowsFrom 384 (by decide), false⟩,
   ⟨rowsFrom 384 (by decide), rowsFrom 256 (by decide), false⟩,
   ⟨rowsFrom 256 (by decide), rowsFrom 128 (by decide), false⟩,
   ⟨rowsFrom 128 (by decide), rowsFrom 0 (by decide), false⟩,
   ⟨rowsFrom 0 (by decide), rowsFrom 1920 (by decide), true⟩]
/-- The sixteen blocks at dilation 4, the latest first. -/
def places1 : List Place :=
  [⟨rowsBy 4 1539 (by decide), rowsBy 4 1027 (by decide), false⟩,
   ⟨rowsBy 4 1538 (by decide), rowsBy 4 1026 (by decide), false⟩,
   ⟨rowsBy 4 1537 (by decide), rowsBy 4 1025 (by decide), false⟩,
   ⟨rowsBy 4 1536 (by decide), rowsBy 4 1024 (by decide), false⟩,
   ⟨rowsBy 4 1027 (by decide), rowsBy 4 515 (by decide), false⟩,
   ⟨rowsBy 4 1026 (by decide), rowsBy 4 514 (by decide), false⟩,
   ⟨rowsBy 4 1025 (by decide), rowsBy 4 513 (by decide), false⟩,
   ⟨rowsBy 4 1024 (by decide), rowsBy 4 512 (by decide), false⟩,
   ⟨rowsBy 4 515 (by decide), rowsBy 4 3 (by decide), false⟩,
   ⟨rowsBy 4 514 (by decide), rowsBy 4 2 (by decide), false⟩,
   ⟨rowsBy 4 513 (by decide), rowsBy 4 1 (by decide), false⟩,
   ⟨rowsBy 4 512 (by decide), rowsBy 4 0 (by decide), false⟩,
   ⟨rowsBy 4 3 (by decide), rowsBy 4 1539 (by decide), true⟩,
   ⟨rowsBy 4 2 (by decide), rowsBy 4 1538 (by decide), true⟩,
   ⟨rowsBy 4 1 (by decide), rowsBy 4 1537 (by decide), true⟩,
   ⟨rowsBy 4 0 (by decide), rowsBy 4 1536 (by decide), true⟩]
/-- The sixteen blocks at dilation 16, the latest first. -/
def places2 : List Place :=
  [⟨rowsBy 16 15 (by decide), rowsBy 16 15 (by decide), true⟩,
   ⟨rowsBy 16 14 (by decide), rowsBy 16 14 (by decide), true⟩,
   ⟨rowsBy 16 13 (by decide), rowsBy 16 13 (by decide), true⟩,
   ⟨rowsBy 16 12 (by decide), rowsBy 16 12 (by decide), true⟩,
   ⟨rowsBy 16 11 (by decide), rowsBy 16 11 (by decide), true⟩,
   ⟨rowsBy 16 10 (by decide), rowsBy 16 10 (by decide), true⟩,
   ⟨rowsBy 16 9 (by decide), rowsBy 16 9 (by decide), true⟩,
   ⟨rowsBy 16 8 (by decide), rowsBy 16 8 (by decide), true⟩,
   ⟨rowsBy 16 7 (by decide), rowsBy 16 7 (by decide), true⟩,
   ⟨rowsBy 16 6 (by decide), rowsBy 16 6 (by decide), true⟩,
   ⟨rowsBy 16 5 (by decide), rowsBy 16 5 (by decide), true⟩,
   ⟨rowsBy 16 4 (by decide), rowsBy 16 4 (by decide), true⟩,
   ⟨rowsBy 16 3 (by decide), rowsBy 16 3 (by decide), true⟩,
   ⟨rowsBy 16 2 (by decide), rowsBy 16 2 (by decide), true⟩,
   ⟨rowsBy 16 1 (by decide), rowsBy 16 1 (by decide), true⟩,
   ⟨rowsBy 16 0 (by decide), rowsBy 16 0 (by decide), true⟩]

/-- The stores of one result at one dilation. -/
def piecesOf (k : Kind) (a : BitVec 32) (L : Loads F) (P : List Place) : List (View.Piece (Elt F) S2048x128 .f32) := P.map (pieceAt k a L)

/-- The loads of a working step. -/
def loadsOf (arg2 : Memref sig .tc .vmem S2048x128 .f32) (harg2 : arg2.IsWhole) (arg3 : Memref sig .tc .vmem S2048x128 .f32) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S2048x128 .f32) (harg6 : arg6.IsWhole) (arg7 : Memref sig .tc .vmem S2048x128 .f32) (harg7 : arg7.IsWhole)
    (arg8 : Memref sig .tc .vmem S2048x128 .f32) (harg8 : arg8.IsWhole) (arg9 : Memref sig .tc .vmem S2048x128 .f32) (harg9 : arg9.IsWhole)
    (arg15 arg16 arg17 arg18 : Memref sig .tc .vmem S2048x128 .f32)
    (x0 x1 x2 x3 x4 x5 x6 x7 : Vec F S2048x128 .f32) : Loads F where
  q r := View.readAt (Elt F) arg2.view r.rect.toLoadRect (harg2.unread x0)
  kp r := View.readAt (Elt F) arg3.view r.rect.toLoadRect (harg3.unread x1)
  kc r := View.readAt (Elt F) arg4.view r.rect.toLoadRect (harg4.unread x2)
  vp r := View.readAt (Elt F) arg5.view r.rect.toLoadRect (harg5.unread x3)
  vc r := View.readAt (Elt F) arg6.view r.rect.toLoadRect (harg6.unread x4)
  g r := View.readAt (Elt F) arg7.view r.rect.toLoadRect (harg7.unread x5)
  l0 r := arg17.view.readCov [⟨Rect.unit (s := S2048x128) ![0, 0] S2048x128.size inb_S2048x128_S2048x128_0_0, k0_pay17 k0_pay8 (k0_pay13 (View.readAt (Elt F) arg9.view (Rect.unit (s := S2048x128) ![0, 0] S2048x128.size inb_S2048x128_S2048x128_0_0).toLoadRect (harg9.unread x7))) (k0_pay14 (View.readAt (Elt F) arg9.view (Rect.unit (s := S2048x128) ![0, 0] S2048x128.size inb_S2048x128_S2048x128_0_0).toLoadRect (harg9.unread x7)))⟩] r.rect.toLoadRect
  l1 r := arg18.view.readCov [⟨Rect.unit (s := S2048x128) ![0, 0] S2048x128.size inb_S2048x128_S2048x128_0_0, k0_pay19 k0_pay9 (k0_pay13 (View.readAt (Elt F) arg9.view (Rect.unit (s := S2048x128) ![0, 0] S2048x128.size inb_S2048x128_S2048x128_0_0).toLoadRect (harg9.unread x7))) (k0_pay14 (View.readAt (Elt F) arg9.view (Rect.unit (s := S2048x128) ![0, 0] S2048x128.size inb_S2048x128_S2048x128_0_0).toLoadRect (harg9.unread x7)))⟩] r.rect.toLoadRect
  d0 r := arg15.view.readCov [⟨Rect.unit (s := S2048x128) ![0, 0] S2048x128.size inb_S2048x128_S2048x128_0_0, k0_pay16 (k0_pay15 (View.readAt (Elt F) arg7.view (Rect.unit (s := S2048x128) ![0, 0] S2048x128.size inb_S2048x128_S2048x128_0_0).toLoadRect (harg7.unread x5)) (View.readAt (Elt F) arg8.view (Rect.unit (s := S2048x128) ![0, 0] S2048x128.size inb_S2048x128_S2048x128_0_0).toLoadRect (harg8.unread x6)))⟩] r.rect.toLoadRect
  d1 r := arg16.view.readCov [⟨Rect.unit (s := S2048x128) ![0, 0] S2048x128.size inb_S2048x128_S2048x128_0_0, k0_pay18 k0_pay9 (k0_pay12 (View.readAt (Elt F) arg7.view (Rect.unit (s := S2048x128) ![0, 0] S2048x128.size inb_S2048x128_S2048x128_0_0).toLoadRect (harg7.unread x5)) (View.readAt (Elt F) arg8.view (Rect.unit (s := S2048x128) ![0, 0] S2048x128.size inb_S2048x128_S2048x128_0_0).toLoadRect (harg8.unread x6)))⟩] r.rect.toLoadRect

section
variable (M : Memref sig .tc .vmem S2048x128 .f32) (h : M.IsWhole) (s : Vec F S2048x128 .f32)
  (O0 O1 O2 B0 B1 B2 : Memref sig .tc .vmem S2048x128 .f32) (o0 o1 o2 k0 k1 k2 : List (View.Piece (Elt F) S2048x128 .f32))

/-- The stores that complete the chunk before: the sums at its last rows, one dilation after another. -/
def done1 : List (View.Piece (Elt F) S2048x128 .f32) :=
  [⟨Rect.unit (s := S2048x128) ![1920, 0] S128x128.size inb_S2048x128_S128x128_1920_0,
    k0_pay814 (View.readAt (Elt F) M.view (Rect.unit (s := S2048x128) ![1920, 0] S128x128.size inb_S2048x128_S128x128_1920_0).toLoadRect (h.unread s))
      (B0.view.readCov k0 (Rect.unit (s := S2048x128) ![1920, 0] S128x128.size inb_S2048x128_S128x128_1920_0).toLoadRect)⟩]
def done2 : List (View.Piece (Elt F) S2048x128 .f32) :=
  ⟨Rect.unit (s := S2048x128) ![1536, 0] S512x128.size inb_S2048x128_S512x128_1536_0,
    k0_pay815 (View.readAt (Elt F) M.view (Rect.unit (s := S2048x128) ![1536, 0] S512x128.size inb_S2048x128_S512x128_1536_0).toLoadRect (M.view.writes (Elt F) (h.unread s) (done1 M h s B0 k0)))
      (B1.view.readCov k1 (Rect.unit (s := S2048x128) ![1536, 0] S512x128.size inb_S2048x128_S512x128_1536_0).toLoadRect)⟩ :: done1 M h s B0 k0
def done3 : List (View.Piece (Elt F) S2048x128 .f32) :=
  ⟨Rect.unit (s := S2048x128) ![0, 0] S2048x128.size inb_S2048x128_S2048x128_0_0,
    k0_pay816 (View.readAt (Elt F) M.view (Rect.unit (s := S2048x128) ![0, 0] S2048x128.size inb_S2048x128_S2048x128_0_0).toLoadRect (M.view.writes (Elt F) (h.unread s) (done2 M h s B0 B1 k0 k1)))
      (B2.view.readCov k2 (Rect.unit (s := S2048x128) ![0, 0] S2048x128.size inb_S2048x128_S2048x128_0_0).toLoadRect)⟩ :: done2 M h s B0 B1 k0 k1
/-- The stores that begin this chunk's own. -/
def next1 : List (View.Piece (Elt F) S2048x128 .f32) :=
  ⟨Rect.unit (s := S2048x128) ![0, 0] S2048x128.size inb_S2048x128_S2048x128_0_0,
    k0_pay818 (O0.view.readCov o0 (Rect.unit (s := S2048x128) ![0, 0] S2048x128.size inb_S2048x128_S2048x128_0_0).toLoadRect)
      (O1.view.readCov o1 (Rect.unit (s := S2048x128) ![0, 0] S2048x128.size inb_S2048x128_S2048x128_0_0).toLoadRect)
      (O2.view.readCov o2 (Rect.unit (s := S2048x128) ![0, 0] S2048x128.size inb_S2048x128_S2048x128_0_0).toLoadRect)⟩ :: done3 M h s B0 B1 B2 k0 k1 k2
def next2 : List (View.Piece (Elt F) S2048x128 .f32) :=
  ⟨Rect.unit (s := S2048x128) ![0, 0] S1920x128.size inb_S2048x128_S1920x128_0_0,
    k0_pay820 (k0_pay819 (M.view.readCov (next1 M h s O0 O1 O2 B0 B1 B2 o0 o1 o2 k0 k1 k2) (Rect.unit (s := S2048x128) ![0, 0] S1920x128.size inb_S2048x128_S1920x128_0_0).toLoadRect)
      (B0.view.readCov k0 (Rect.unit (s := S2048x128) ![0, 0] S1920x128.size inb_S2048x128_S1920x128_0_0).toLoadRect))⟩ :: next1 M h s O0 O1 O2 B0 B1 B2 o0 o1 o2 k0 k1 k2
def next3 : List (View.Piece (Elt F) S2048x128 .f32) :=
  ⟨Rect.unit (s := S2048x128) ![0, 0] S1536x128.size inb_S2048x128_S1536x128_0_0,
    k0_pay821 (M.view.readCov (next2 M h s O0 O1 O2 B0 B1 B2 o0 o1 o2 k0 k1 k2) (Rect.unit (s := S2048x128) ![0, 0] S1536x128.size inb_S2048x128_S1536x128_0_0).toLoadRect)
      (B1.view.readCov k1 (Rect.unit (s := S2048x128) ![0, 0] S1536x128.size inb_S2048x128_S1536x128_0_0).toLoadRect)⟩ :: next2 M h s O0 O1 O2 B0 B1 B2 o0 o1 o2 k0 k1 k2
end

end Cert.Attn

end
-- ==== Proof.Attn.Dense.lean ====
/-
  Attention over dense score arrays: the steps of the forward lines and of their derivative, each as one function of
  the arrays before it. The reference and the lines that prepare the kernel's saved arrays are both made of these.
-/
module

public import proofs.«01_k».proof.Proof.Gen.Reference6Ideal
public import Idealize.ShloMosaic.PureOps.Ideal

@[expose] public section

set_option maxRecDepth 16384

noncomputable section

namespace Cert.Dense

open Cert.Reference6Ideal Cert.Reference6Ideal.Gen
open Idealize.ShloMosaic

abbrev Rows := FVec Ideal S8192x8x64 .f32
abbrev Heads := FVec Ideal S8x8192x64 .f32
abbrev Cube := FVec Ideal S8x8192x8192 .f32
abbrev Col := FVec Ideal S8x8192x1 .f32
abbrev Line := FVec Ideal S8x8192 .f32
abbrev Flat := FVec Ideal S8192x512 .f32
abbrev Mask := IVec S8192x8192 1

/-- The query's position less the key's. -/
def dist : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- The keys a query attends to: distances from 0 to `w`, multiples of `d`. -/
def band (w d : BitVec 32) : Mask :=
  andi (andi (cmpi .sge dist (broadcastInDim S8192x8192 ![] bcast_S_S8192x8192 (constantI S_ 32 0#32)))
      (cmpi .sle dist (broadcastInDim S8192x8192 ![] bcast_S_S8192x8192 (constantI S_ 32 w))))
    (cmpi .eq (Host.remsi dist (broadcastInDim S8192x8192 ![] bcast_S_S8192x8192 (constantI S_ 32 d)))
      (broadcastInDim S8192x8192 ![] bcast_S_S8192x8192 (constantI S_ 32 0#32)))

/-- The three parts of a projection, a row's lanes in heads. -/
def part (o : ℕ) (h : S8192x1536.Slices ![0, o] S8192x512) (x : FVec Ideal S8192x2048 .f32) : Rows :=
  shapeCast _ (extractStridedSlice S8192x512 ![0, o] (extractStridedSlice S8192x1536 ![0, 0] x slices_S8192x2048_S8192x1536_0_0) h) shapeCasts_S8192x512_S8192x8x64

/-- The scores: products of queries and keys, over eight. -/
def scores (q k : Rows) : Cube :=
  mulf (Host.dotGeneral dot_S8192x8x64_S8192x8x64_S8x8192x8192_2_2_0_0_1_1 none q k)
    (broadcastInDim S8x8192x8192 ![] bcast_S_S8x8192x8192 (constant S_ .f32 0x3E000000#32))

/-- The scores where the mask holds. -/
def masked (M : Mask) (S : Cube) : Cube :=
  select (broadcastInDim S8x8192x8192 ![1, 2] bcast_S8192x8192_S8x8192x8192_1_2 M) S
    (broadcastInDim S8x8192x8192 ![] bcast_S_S8x8192x8192 (id (constant S_ .f32 0xFF800000#32)))

/-- The largest score of a query. -/
def tops (X : Cube) : Line := Host.reduce FloatOps.maximumf X (constant S_ .f32 0xFF800000#32) reducesTo_S8x8192x8192_S8x8192_d2 h_S_

def colOf (m : Line) : Col := broadcastInDim S8x8192x1 ![0, 1] bcast_S8x8192_S8x8192x1_0_1 m

/-- The exponentials of the scores less their largest. -/
def weights (X : Cube) (m : Line) : Cube := Host.exp (subf X (broadcastInDim S8x8192x8192 ![0, 1, 2] bcast_S8x8192x1_S8x8192x8192_0_1_2 (colOf m)))

def sums (P : Cube) : Col := colOf (Host.reduceAdd P (constant S_ .f32 0x00000000#32) reducesTo_S8x8192x8192_S8x8192_d2 h_S_)

def mixed (P : Cube) (v : Rows) : Heads := Host.dotGeneral dot_S8x8192x8192_S8192x8x64_S8x8192x64_2_0_1_2_0_1 none P v

def wide (c : Col) : Heads := broadcastInDim S8x8192x64 ![0, 1, 2] bcast_S8x8192x1_S8x8192x64_0_1_2 c

def outs (N : Heads) (A : Col) : Heads := Host.divf N (wide A)

def logs (m : Line) (A : Col) : Col := addf (colOf m) (Host.log A)

def rel (l top : Col) : Col := Host.exp (subf l top)

def blend (w1 : Col) (o1 : Heads) (w2 : Col) (o2 : Heads) (w3 : Col) (o3 : Heads) : Heads :=
  addf (addf (mulf (wide w1) o1) (mulf (wide w2) o2)) (mulf (wide w3) o3)

/-- Heads side by side in a row. -/
def flat (a : Heads) : Flat := shapeCast _ (transpose S8192x8x64 [1, 0, 2] a transposes_S8x8192x64_S8192x8x64_1_0_2) shapeCasts_S8192x8x64_S8192x512

/-- One over the square. -/
def recipSq (A : Col) : Col := Host.divf (broadcastInDim S8x8192x1 ![] bcast_S_S8x8192x1 (constant S_ .f32 0x3F800000#32)) (mulf A A)

/-- Where a score is its query's largest. -/
def peaks (X : Cube) (m : Line) : Cube :=
  uitofp .f32 (cmpf .oeq X (broadcastInDim S8x8192x8192 ![0, 1, 2] bcast_S8x8192x1_S8x8192x8192_0_1_2 (shapeCast _ m shapeCasts_S8x8192_S8x8192x1)))

def counts (I : Cube) : Line := Host.reduceAdd I (constant S_ .f32 0x00000000#32) reducesTo_S8x8192x8192_S8x8192_d2 h_S_

/-- The gradient of the output, in heads. -/
def gradHeads (x : FVec Ideal S8192x1024 .f32) : Heads :=
  transpose S8x8192x64 [1, 0, 2] (shapeCast _ (extractStridedSlice S8192x512 ![0, 0] x slices_S8192x1024_S8192x512_0_0) shapeCasts_S8192x512_S8192x8x64) transposes_S8192x8x64_S8x8192x64_1_0_2

def headSum (a b : Heads) : Col :=
  shapeCast _ (Host.reduceAdd (mulf a b) (constant S_ .f32 0x00000000#32) reducesTo_S8x8192x64_S8x8192_d2 h_S_) shapeCasts_S8x8192_S8x8192x1

def pull (G r e : Col) : Col := Host.negf (mulf (mulf G r) e)

/-- The gradient of a pattern's sum of weights. -/
def dSum (dl A : Col) (wg : Heads) (r : Col) (N : Heads) : Col := addf (Host.divf dl A) (Host.negf (headSum (mulf wg (wide r)) N))

/-- The gradient of a pattern's weights times the weights. -/
def dWeights (u : Heads) (v : Rows) (dA : Col) (P : Cube) : Cube :=
  mulf (addf (Host.dotGeneral dot_S8x8192x64_S8192x8x64_S8x8192x8192_2_2_1_0_0_1 none u v)
    (broadcastInDim S8x8192x8192 ![0, 1] bcast_S8x8192_S8x8192x8192_0_1 (Host.reduceAdd dA (constant S_ .f32 0x00000000#32) reducesTo_S8x8192x1_S8x8192_d2 h_S_))) P

/-- The gradient of a pattern's largest scores. -/
def dTops (dl : Col) (D : Cube) : Line :=
  Host.reduceAdd (addf dl (shapeCast _ (Host.reduceAdd (Host.negf D) (constant S_ .f32 0x00000000#32) reducesTo_S8x8192x8192_S8x8192_d2 h_S_) shapeCasts_S8x8192_S8x8192x1))
    (constant S_ .f32 0x00000000#32) reducesTo_S8x8192x1_S8x8192_d2 h_S_

/-- The gradient of a pattern's products of queries and keys. -/
def dScores (M : Mask) (D : Cube) (t n : Line) (I : Cube) : Cube :=
  mulf (select (broadcastInDim S8x8192x8192 ![1, 2] bcast_S8192x8192_S8x8192x8192_1_2 M)
      (addf D (mulf (broadcastInDim S8x8192x8192 ![0, 1] bcast_S8x8192_S8x8192x8192_0_1 (Host.divf t n)) I))
      (broadcastInDim S8x8192x8192 ![] bcast_S_S8x8192x8192 (constant S_ .f32 0x00000000#32)))
    (broadcastInDim S8x8192x8192 ![] bcast_S_S8x8192x8192 (constant S_ .f32 0x3E000000#32))

def byHead (a : Heads) : Rows := transpose S8192x8x64 [1, 0, 2] a transposes_S8x8192x64_S8192x8x64_1_0_2

def dKeys (D : Cube) (q : Rows) : Rows := byHead (Host.dotGeneral dot_S8x8192x8192_S8192x8x64_S8x8192x64_1_0_2_2_0_1 none D q)

def dQueries (D : Cube) (k : Rows) : Rows := byHead (mixed D k)

def dValues (u : Heads) (P : Cube) : Rows :=
  transpose S8192x8x64 [2, 0, 1] (Host.dotGeneral dot_S8x8192x64_S8x8192x8192_S8x64x8192_1_1_2_2_0_0 none u P) transposes_S8x64x8192_S8192x8x64_2_0_1

end Cert.Dense
-- ==== Proof.Attn.Meaning.lean ====
/-
  The steps of attention over dense scores, read over arrays with real entries.
-/
module

public import proofs.«01_k».proof.Proof.Attn.Dense
public import proofs.«01_k».proof.Proof.Norm.Spec
public import Idealize.ShloMosaic.Lib.Pointwise
public import Idealize.ShloMosaic.Lib.WordCmp
public import Idealize.ShloMosaic.PureOps.Ideal.Laws

@[expose] public section

set_option maxRecDepth 16384

noncomputable section

namespace Cert.Dense

open Cert.Reference6Ideal Cert.Reference6Ideal.Gen
open Idealize.ShloMosaic

/-- An array of three axes holds these reals. -/
def Is3 {n k l : ℕ} (v : (⟨3, ![n, k, l]⟩ : Shape).Idx → EReal) (f : ℕ → ℕ → ℕ → ℝ) : Prop :=
  ∀ (i : Fin n) (j : Fin k) (a : Fin l), v (ix3 i j a) = (f i.val j.val a.val : EReal)

/-- A column of three axes holds these reals. -/
def IsCol (v : Col) (f : ℕ → ℕ → ℝ) : Prop := ∀ (i : Fin 8) (j : Fin 8192), v (ix3 i j 0) = (f i.val j.val : EReal)

def Is2 {n k : ℕ} (v : (⟨2, ![n, k]⟩ : Shape).Idx → EReal) (f : ℕ → ℕ → ℝ) : Prop :=
  ∀ (i : Fin n) (j : Fin k), v (ix2 i j) = (f i.val j.val : EReal)

/-- A query at `t` attends to a key at `s`, at dilation `d`. -/
def near (d t s : ℕ) : Prop := s ≤ t ∧ t - s ≤ 128 * d ∧ (t - s) % d = 0

instance (d t s : ℕ) : Decidable (near d t s) := by unfold near; infer_instance

theorem word_toInt (n : ℕ) (h : n < 2 ^ 31) : (BitVec.ofNat 32 n).toInt = n := WordCmp.toInt_ofNat_of_lt h

theorem eighth_word : Ideal.ofBits .f32 0x3E000000#32 = ((1 / 8 : ℝ) : EReal) := by
  simp [Ideal.ofBits, Ideal.ieee, -EReal.coe_mul]; norm_num

theorem bot_word : Ideal.ofBits .f32 0xFF800000#32 = (⊥ : EReal) := by simp [Ideal.ofBits, Ideal.ieee]

theorem band_apply (d : ℕ) (h0 : 0 < d) (h1 : d ≤ 16) (t s : Fin 8192) :
    band (BitVec.ofNat 32 (128 * d)) (BitVec.ofNat 32 d) (ix2 t s) = if near d t.val s.val then 1#1 else 0#1 := by
  pointwise [band, dist]
  have hs := s.isLt
  have ht := t.isLt
  rw [WordCmp.cmpi_sge_eq, WordCmp.cmpi_sle_eq, word_toInt (128 * d) (by omega), show (0#32 : BitVec 32).toInt = 0 from rfl]
  have hsub : (IntOp.subi (BitVec.ofNat 32 t.val) (BitVec.ofNat 32 s.val)).toInt = (t.val : Int) - s.val := by
    rw [IntOp.subi, BitVec.toInt_sub, word_toInt _ (by omega), word_toInt _ (by omega)]
    simp [Int.bmod]; omega
  rw [hsub]
  by_cases h : s.val ≤ t.val
  · have hw : IntOp.subi (BitVec.ofNat 32 t.val) (BitVec.ofNat 32 s.val) = BitVec.ofNat 32 (t.val - s.val) := by
      apply BitVec.eq_of_toInt_eq
      rw [hsub, word_toInt _ (by omega)]; omega
    have hr : IntOp.cmpi .eq (IntOp.remsi ArithUnit.host (BitVec.ofNat 32 (t.val - s.val)) (BitVec.ofNat 32 d)) 0#32
        = BitVec.ofBool (decide ((t.val - s.val) % d = 0)) := by
      rw [WordCmp.cmpi_eq_eq]
      congr 1
      refine decide_eq_decide.mpr ?_
      have hx : (BitVec.ofNat 32 (t.val - s.val)).toNat = t.val - s.val := by rw [BitVec.toNat_ofNat]; omega
      have := IntOp.remsi_eq_zero_iff ArithUnit.host (x := BitVec.ofNat 32 (t.val - s.val)) (by rw [hx]; omega) d h0 (by omega)
      rw [hx] at this
      exact this.trans Nat.dvd_iff_mod_eq_zero
    rw [hw, hr]
    have e0 : decide ((0 : Int) ≤ (t.val : Int) - s.val) = true := decide_eq_true (by omega)
    have e1 : decide ((t.val : Int) - s.val ≤ ((128 * d : ℕ) : Int)) = decide (t.val - s.val ≤ 128 * d) := decide_eq_decide.mpr (by omega)
    rw [e0, e1]
    unfold near
    by_cases a : t.val - s.val ≤ 128 * d <;> by_cases b : (t.val - s.val) % d = 0 <;> simp [h, a, b, IntOp.andi]
  · have e0 : decide ((0 : Int) ≤ (t.val : Int) - s.val) = false := decide_eq_false (by omega)
    rw [e0, if_neg (fun hn => h hn.1)]
    simp [IntOp.andi]

/-- The scores where the mask holds, minus infinity elsewhere. -/
def IsMasked (X : Cube) (d : ℕ) (f : ℕ → ℕ → ℕ → ℝ) : Prop :=
  ∀ (h : Fin 8) (t s : Fin 8192), X (ix3 h t s) = if near d t.val s.val then (f h.val t.val s.val : EReal) else ⊥

theorem part_apply (o : ℕ) (ho : o + 512 ≤ 1536) (h : S8192x1536.Slices ![0, o] S8192x512) (x : FVec Ideal S8192x2048 .f32) (f : ℕ → ℕ → ℝ)
    (hx : ∀ (R : Fin 8192) (C : Fin 2048), C.val < 1536 → x (ix2 R C) = (f R.val C.val : EReal)) :
    Is3 (part o h x) (fun t a l => f t (o + 64 * a + l)) := by
  intro t a l
  have := h.1
  pointwise (disch := omega) [part]
  refine (hx _ _ (by show o + (a.val * 64 + l.val) < 1536; omega)).trans ?_
  show ((f t.val (o + (a.val * 64 + l.val)) : ℝ) : EReal) = _
  rw [show o + (a.val * 64 + l.val) = o + 64 * a.val + l.val by ring]

theorem scores_apply {q k : Rows} {a b : ℕ → ℕ → ℕ → ℝ} (hq : Is3 q a) (hk : Is3 k b) :
    Is3 (scores q k) (fun h t s => (∑ l : Fin 64, a t h l.val * b s h l.val) * (1 / 8)) := by
  intro h t s
  pointwise [scores]
  rw [eighth_word, NormGrad.sum_mul (fun l => hq t h l) (fun l => hk s h l)]
  norm_cast

theorem masked_apply {M : Mask} {S : Cube} {d : ℕ} {f : ℕ → ℕ → ℕ → ℝ} (hM : ∀ t s : Fin 8192, M (ix2 t s) = if near d t.val s.val then 1#1 else 0#1)
    (hS : Is3 S f) : IsMasked (masked M S) d f := by
  intro h t s
  pointwise [masked]
  rw [hM t s, hS h t s]
  refine (congrArg (fun z => Scalar.select (if near d t.val s.val then 1#1 else 0#1) ((f h.val t.val s.val : ℝ) : EReal) z) bot_word).trans ?_
  by_cases hn : near d t.val s.val <;> simp [hn, Scalar.select]

theorem weights_apply {X : Cube} {m : Line} {d : ℕ} {f : ℕ → ℕ → ℕ → ℝ} {μ : ℕ → ℕ → ℝ} (hX : IsMasked X d f) (hm : Is2 m μ) :
    Is3 (weights X m) (fun h t s => if near d t s then Real.exp (f h t s - μ h t) else 0) := by
  intro h t s
  pointwise [weights, colOf]
  rw [hX h t s, hm h t]
  by_cases hn : near d t.val s.val
  · rw [if_pos hn, if_pos hn, ← EReal.coe_sub, Ideal.exp_coe]
  · rw [if_neg hn, if_neg hn, EReal.bot_sub, Ideal.exp_bot]; rfl

theorem sums_apply {P : Cube} {f : ℕ → ℕ → ℕ → ℝ} (hP : Is3 P f) : IsCol (sums P) (fun h t => ∑ s : Fin 8192, f h t s.val) := by
  intro h t
  pointwise [sums, colOf]
  exact Reals.sum_eq_coe (fun s _ => hP h t s)

theorem mixed_apply {P : Cube} {v : Rows} {f g : ℕ → ℕ → ℕ → ℝ} (hP : Is3 P f) (hv : Is3 v g) :
    Is3 (mixed P v) (fun h t l => ∑ s : Fin 8192, f h t s.val * g s.val h l) := by
  intro h t l
  pointwise [mixed]
  exact NormGrad.sum_mul (fun x => hP h t x) (fun x => hv x h l)

theorem peaks_apply {X : Cube} {m : Line} {d : ℕ} {f : ℕ → ℕ → ℕ → ℝ} {μ : ℕ → ℕ → ℝ} (hX : IsMasked X d f) (hm : Is2 m μ) :
    Is3 (peaks X m) (fun h t s => if near d t s ∧ f h t s = μ h t then 1 else 0) := by
  intro h t s
  pointwise [peaks]
  rw [hX h t s, hm h t]
  by_cases hn : near d t.val s.val
  · by_cases he : f h.val t.val s.val = μ h.val t.val
    · simp [hn, he, FloatOps.uitofp]
    · simp [hn, he, FloatOps.uitofp]
  · simp [hn, FloatOps.uitofp]

/-- The largest score is a real, and some key the query attends to has it. -/
theorem tops_apply {X : Cube} {d : ℕ} {f : ℕ → ℕ → ℕ → ℝ} (hX : IsMasked X d f) (h : Fin 8) (t : Fin 8192) :
    ∃ s : Fin 8192, near d t.val s.val ∧ tops X (ix2 h t) = (f h.val t.val s.val : EReal) := by
  have e : tops X (ix2 h t) = Finset.univ.sup (fun x : Fin 8192 => X (ix3 h t x)) := by
    pointwise [tops]
    rw [bot_word]; rfl
  obtain ⟨s, -, hs⟩ := Finset.exists_mem_eq_sup Finset.univ Finset.univ_nonempty (fun x : Fin 8192 => X (ix3 h t x))
  have hle : X (ix3 h t t) ≤ X (ix3 h t s) := hs ▸ Finset.le_sup (f := fun x : Fin 8192 => X (ix3 h t x)) (Finset.mem_univ t)
  have hn : near d t.val t.val := ⟨le_rfl, by omega, by simp⟩
  by_cases hq : near d t.val s.val
  · exact ⟨s, hq, by rw [e, hs, hX h t s, if_pos hq]⟩
  · rw [hX h t t, if_pos hn, hX h t s, if_neg hq] at hle
    exact absurd (le_bot_iff.mp hle) (EReal.coe_ne_bot _)

theorem headSum_apply {x y : Heads} {f g : ℕ → ℕ → ℕ → ℝ} (hx : Is3 x f) (hy : Is3 y g) :
    IsCol (headSum x y) (fun h t => ∑ l : Fin 64, f h t l.val * g h t l.val) := by
  intro h t
  pointwise [headSum]
  exact NormGrad.sum_mul (fun x => hx h t x) (fun x => hy h t x)

theorem dTops_apply {dl : Col} {D : Cube} {f : ℕ → ℕ → ℝ} {g : ℕ → ℕ → ℕ → ℝ} (hl : IsCol dl f) (hD : Is3 D g) :
    Is2 (dTops dl D) (fun h t => f h t + ∑ s : Fin 8192, -g h t s.val) := by
  intro h t
  pointwise [dTops]
  have e : ∑ x : Fin 8192, -D (ix3 h t x) = ((∑ s : Fin 8192, -g h.val t.val s.val : ℝ) : EReal) :=
    Reals.sum_eq_coe (fun s _ => (congrArg (fun z => -z) (hD h t s)).trans (EReal.coe_neg _).symm)
  rw [e]
  refine (Finset.sum_congr rfl (fun x _ => (congrArg (fun z => dl (ix3 h t z) + _) (Subsingleton.elim x 0)).trans
    ((congrArg (fun z => z + _) (hl h t)).trans (EReal.coe_add _ _).symm))).trans ?_
  rw [Finset.sum_const, Finset.card_univ, Fintype.card_fin, one_smul]

theorem dWeights_apply {u : Heads} {v : Rows} {dA : Col} {P : Cube} {a b p : ℕ → ℕ → ℕ → ℝ} {c : ℕ → ℕ → ℝ} (hu : Is3 u a) (hv : Is3 v b) (hA : IsCol dA c) (hP : Is3 P p) :
    Is3 (dWeights u v dA P) (fun h t s => ((∑ l : Fin 64, a h t l.val * b s h l.val) + c h t) * p h t s) := by
  intro h t s
  pointwise [dWeights]
  rw [Reals.sum_eq_coe (g := fun _ : Fin 1 => c h.val t.val) (fun x _ => (congrArg (fun z => dA (ix3 h t z)) (Subsingleton.elim x 0)).trans (hA h t)),
    NormGrad.sum_mul (fun l => hu h t l) (fun l => hv s h l), hP h t s]
  rw [Finset.sum_const, Finset.card_univ, Fintype.card_fin, one_smul]
  norm_cast

theorem dScores_apply {M : Mask} {D I : Cube} {x n : Line} {d : ℕ} {f p : ℕ → ℕ → ℕ → ℝ} {c : ℕ → ℕ → ℝ}
    (hM : ∀ t s : Fin 8192, M (ix2 t s) = if near d t.val s.val then 1#1 else 0#1) (hD : Is3 D f) (hI : Is3 I p) (hx : Is2 x (fun _ _ => 0)) (hn : Is2 n c)
    (hc : ∀ h t, c h t ≠ 0) :
    Is3 (dScores M D x n I) (fun h t s => (if near d t s then f h t s else 0) * (1 / 8)) := by
  intro h t s
  pointwise [dScores]
  rw [hM t s, hD h t s, hI h t s, hx h t, hn h t, Ideal.div_coe (hc _ _), eighth_word]
  by_cases hq : near d t.val s.val
  · simp only [hq, if_true, Scalar.select]
    rw [EReal.coe_zero, zero_mul, zero_mul, add_zero]; norm_cast
  · simp [hq, Scalar.select]

theorem dValues_apply {u : Heads} {P : Cube} {f g : ℕ → ℕ → ℕ → ℝ} (hu : Is3 u f) (hP : Is3 P g) :
    Is3 (dValues u P) (fun s h l => ∑ t : Fin 8192, f h t.val l * g h t.val s) := by
  intro s h l
  pointwise [dValues]
  exact NormGrad.sum_mul (fun x => hu h x l) (fun x => hP h x s)

theorem dKeys_apply {D : Cube} {q : Rows} {f g : ℕ → ℕ → ℕ → ℝ} (hD : Is3 D f) (hq : Is3 q g) :
    Is3 (dKeys D q) (fun s h l => ∑ t : Fin 8192, f h t.val s * g t.val h l) := by
  intro s h l
  pointwise [dKeys, byHead]
  exact NormGrad.sum_mul (fun x => hD h x s) (fun x => hq x h l)

theorem dQueries_apply {D : Cube} {k : Rows} {f g : ℕ → ℕ → ℕ → ℝ} (hD : Is3 D f) (hk : Is3 k g) :
    Is3 (dQueries D k) (fun t h l => ∑ s : Fin 8192, f h t s.val * g s.val h l) := by
  intro s h l
  pointwise [dQueries, byHead, mixed]
  exact NormGrad.sum_mul (fun x => hD h s x) (fun x => hk x h l)

theorem flat_apply {a : Heads} {f : ℕ → ℕ → ℕ → ℝ} (ha : Is3 a f) : Is2 (flat a) (fun t L => f (L / 64) t (L % 64)) := by
  intro t L
  pointwise [flat]
  exact ha _ _ _

theorem gradHeads_apply (x : FVec Ideal S8192x1024 .f32) (f : ℕ → ℕ → ℝ)
    (hx : ∀ (R : Fin 8192) (C : Fin 1024), C.val < 512 → x (ix2 R C) = (f R.val C.val : EReal)) : Is3 (gradHeads x) (fun h t l => f t (64 * h + l)) := by
  intro h t l
  pointwise [gradHeads]
  refine (hx _ _ (by show h.val * 64 + l.val < 512; omega)).trans ?_
  show ((f t.val (h.val * 64 + l.val) : ℝ) : EReal) = _
  rw [Nat.mul_comm h.val 64]

theorem wide_apply {c : Col} {f : ℕ → ℕ → ℝ} (hc : IsCol c f) : Is3 (wide c) (fun h t _ => f h t) := by
  intro h t l
  pointwise [wide]
  exact hc h t

theorem outs_apply {N : Heads} {A : Col} {f : ℕ → ℕ → ℕ → ℝ} {a : ℕ → ℕ → ℝ} (hN : Is3 N f) (hA : IsCol A a) (h0 : ∀ h t, a h t ≠ 0) :
    Is3 (outs N A) (fun h t l => f h t l / a h t) := by
  intro h t l
  pointwise [outs, wide]
  rw [hN h t l, hA h t, Ideal.div_coe (h0 _ _), ← EReal.coe_mul, mul_one_div]

theorem logs_apply {m : Line} {A : Col} {μ a : ℕ → ℕ → ℝ} (hm : Is2 m μ) (hA : IsCol A a) (h0 : ∀ h t, 0 < a h t) :
    IsCol (logs m A) (fun h t => μ h t + Real.log (a h t)) := by
  intro h t
  pointwise [logs, colOf]
  rw [hm h t, hA h t, Ideal.log_coe, if_neg (not_le.mpr (h0 _ _))]; norm_cast

theorem rel_apply {l top : Col} {f g : ℕ → ℕ → ℝ} (hl : IsCol l f) (ht : IsCol top g) : IsCol (rel l top) (fun h t => Real.exp (f h t - g h t)) := by
  intro h t
  pointwise [rel]
  rw [hl h t, ht h t, ← EReal.coe_sub, Ideal.exp_coe]

theorem max_apply {a b : Col} {f g : ℕ → ℕ → ℝ} (ha : IsCol a f) (hb : IsCol b g) : IsCol (maximumf a b) (fun h t => max (f h t) (g h t)) := by
  intro h t
  pointwise []
  rw [ha h t, hb h t]; norm_cast

theorem add_apply {a b : Col} {f g : ℕ → ℕ → ℝ} (ha : IsCol a f) (hb : IsCol b g) : IsCol (addf a b) (fun h t => f h t + g h t) := by
  intro h t
  pointwise []
  rw [ha h t, hb h t]; norm_cast

theorem mul_apply {a b : Col} {f g : ℕ → ℕ → ℝ} (ha : IsCol a f) (hb : IsCol b g) : IsCol (mulf a b) (fun h t => f h t * g h t) := by
  intro h t
  pointwise []
  rw [ha h t, hb h t]; norm_cast

theorem div_apply {a b : Col} {f g : ℕ → ℕ → ℝ} (ha : IsCol a f) (hb : IsCol b g) (h0 : ∀ h t, g h t ≠ 0) :
    IsCol (Host.divf a b) (fun h t => f h t / g h t) := by
  intro h t
  pointwise []
  rw [ha h t, hb h t, Ideal.div_coe (h0 _ _), ← EReal.coe_mul, mul_one_div]

theorem scale_apply {c : Col} {x : Heads} {f : ℕ → ℕ → ℝ} {g : ℕ → ℕ → ℕ → ℝ} (hc : IsCol c f) (hx : Is3 x g) :
    Is3 (mulf (wide c) x) (fun h t l => f h t * g h t l) := by
  intro h t l
  pointwise [wide]
  rw [hc h t, hx h t l]; norm_cast

theorem scale_right_apply {c : Col} {x : Heads} {f : ℕ → ℕ → ℝ} {g : ℕ → ℕ → ℕ → ℝ} (hc : IsCol c f) (hx : Is3 x g) :
    Is3 (mulf x (wide c)) (fun h t l => g h t l * f h t) := by
  intro h t l
  pointwise [wide]
  rw [hc h t, hx h t l]; norm_cast

theorem add3_apply {n k l : ℕ} {x y : FVec Ideal ⟨3, ![n, k, l]⟩ .f32} {f g : ℕ → ℕ → ℕ → ℝ} (hx : Is3 x f) (hy : Is3 y g) :
    Is3 (addf x y) (fun h t l => f h t l + g h t l) := by
  intro i j a
  pointwise []
  rw [hx i j a, hy i j a]; norm_cast

theorem recipSq_apply {A : Col} {a : ℕ → ℕ → ℝ} (hA : IsCol A a) (h0 : ∀ h t, a h t ≠ 0) : IsCol (recipSq A) (fun h t => 1 / (a h t * a h t)) := by
  intro h t
  pointwise [recipSq]
  rw [hA h t, ← EReal.coe_mul, Ideal.div_coe (mul_ne_zero (h0 _ _) (h0 _ _)), one_mul]

theorem counts_apply {I : Cube} {f : ℕ → ℕ → ℕ → ℝ} (hI : Is3 I f) : Is2 (counts I) (fun h t => ∑ s : Fin 8192, f h t s.val) := by
  intro h t
  pointwise [counts]
  exact Reals.sum_eq_coe (fun s _ => hI h t s)

theorem pull_apply {G r e : Col} {f g k : ℕ → ℕ → ℝ} (hG : IsCol G f) (hr : IsCol r g) (he : IsCol e k) :
    IsCol (pull G r e) (fun h t => -(f h t * g h t * k h t)) := by
  intro h t
  pointwise [pull]
  rw [hG h t, hr h t, he h t]; norm_cast

theorem neg_apply {a : Col} {f : ℕ → ℕ → ℝ} (ha : IsCol a f) : IsCol (Host.negf a) (fun h t => -f h t) := by
  intro h t
  pointwise []
  rw [ha h t]; norm_cast

end Cert.Dense
-- ==== Proof.Attn.UnitReal.lean ====
/-
  What one block computes over arrays with real entries.
-/
module

public import proofs.«01_k».proof.Proof.Attn.Unit
public import proofs.«01_k».proof.Proof.Attn.Meaning

@[expose] public section

set_option maxRecDepth 16384

noncomputable section

namespace Cert.Attn

open Cert.Kernel6Ideal Cert.Kernel6Ideal.Gen
open Idealize.ShloMosaic
open Cert.Dense (Is2 eighth_word)

/-- The mask of a block's 128 queries, both heads, on its 256 keys. -/
def IsBand (M : IVec S256x256 1) (mk : ℕ → ℕ → Prop) [∀ i j, Decidable (mk i j)] : Prop :=
  ∀ i j : Fin 256, M (ix2 i j) = if mk (i.val % 128) j.val then 1#1 else 0#1

/-- The block's mask, a word at a time. -/
theorem band_cell (i j n : ℕ) (hi : i < 128) (hj : j < 256) (hn : n < 256) :
    IntOp.andi (IntOp.andi (IntOp.cmpi .sge (BitVec.ofNat 32 j) (BitVec.ofNat 32 i))
        (IntOp.cmpi .sle (BitVec.ofNat 32 j) (IntOp.addi (BitVec.ofNat 32 i) 128#32)))
      (IntOp.cmpi .sge (BitVec.ofNat 32 j) (BitVec.ofNat 32 n)) = if (i ≤ j ∧ j ≤ i + 128) ∧ n ≤ j then 1#1 else 0#1 := by
  have ha : IntOp.addi (BitVec.ofNat 32 i) 128#32 = BitVec.ofNat 32 (i + 128) := by
    apply BitVec.eq_of_toNat_eq; simp [IntOp.addi]
  rw [ha, WordCmp.cmpi_sge_eq, WordCmp.cmpi_sle_eq, WordCmp.cmpi_sge_eq, Dense.word_toInt j (by omega), Dense.word_toInt i (by omega),
    Dense.word_toInt (i + 128) (by omega), Dense.word_toInt n (by omega)]
  by_cases a : i ≤ j <;> by_cases b : j ≤ i + 128 <;> by_cases c : n ≤ j <;>
    simp [a, b, c, IntOp.andi, show ((j : Int) ≤ (i : Int) + 128) ↔ j ≤ i + 128 by omega]

theorem plain_band : IsBand k0_pay10 (fun i j => i ≤ j ∧ j ≤ i + 128) := by
  intro i j
  have hi := i.isLt
  pointwise [k0_pay10]
  split
  · next h => rw [band_cell i.val j.val 0 h j.isLt (by omega), Nat.mod_eq_of_lt h]; simp
  · next h =>
    rw [band_cell (i.val - 128) j.val 0 (by omega) j.isLt (by omega), show i.val % 128 = i.val - 128 by omega]; simp

theorem first_band (c : ℕ) (hc : c < 2 ^ 31) : IsBand (k0_pay11 (BitVec.ofNat 32 c)) (fun i j => (i ≤ j ∧ j ≤ i + 128) ∧ (c = 0 → 128 ≤ j)) := by
  intro i j
  have hi := i.isLt
  have hw : Scalar.select (Scalar.cmpi CmpIPredicate.eq (BitVec.ofNat 32 c) 0#32) 128#32 0#32 = BitVec.ofNat 32 (if c = 0 then 128 else 0) := by
    rw [Scalar.cmpi, WordCmp.cmpi_eq_eq]
    by_cases h : c = 0
    · subst h; rfl
    · have : ¬ BitVec.ofNat 32 c = 0#32 := fun he => h (by
        have := congrArg BitVec.toNat he; rw [BitVec.toNat_ofNat, Nat.mod_eq_of_lt (by omega)] at this; simpa using this)
      simp [h, this, Scalar.select]
  have hn : (if c = 0 then 128 else 0) < 256 := by split <;> omega
  have hq : ((if c = 0 then 128 else 0) ≤ j.val) ↔ (c = 0 → 128 ≤ j.val) := by
    by_cases h : c = 0 <;> simp [h]
  pointwise [k0_pay11]
  rw [hw]
  split
  · next h => rw [band_cell i.val j.val _ h j.isLt hn, Nat.mod_eq_of_lt h]; simp only [hq]
  · next h =>
    rw [band_cell (i.val - 128) j.val _ (by omega) j.isLt hn, show i.val % 128 = i.val - 128 by omega]; simp only [hq]

theorem low_lane (x : Fin 128) : k0_pay8 (ix2 0 x) = if x.val / 64 = 0 then 1#1 else 0#1 := by
  have hx := x.isLt
  pointwise [k0_pay8]
  rw [WordCmp.cmpi_slt_eq, Dense.word_toInt x.val (by omega), show (64#32 : BitVec 32).toInt = 64 from rfl]
  by_cases h : x.val < 64
  · simp [show x.val / 64 = 0 by omega, show (x.val : Int) < 64 by omega]
  · simp [show ¬ x.val / 64 = 0 by omega, show ¬ (x.val : Int) < 64 by omega]

theorem high_lane (x : Fin 128) : k0_pay9 (ix2 0 x) = if x.val / 64 = 1 then 1#1 else 0#1 := by
  have hx := x.isLt
  pointwise [k0_pay9]
  rw [WordCmp.cmpi_sge_eq, Dense.word_toInt x.val (by omega), show (64#32 : BitVec 32).toInt = 64 from rfl]
  by_cases h : x.val < 64
  · simp [show ¬ x.val / 64 = 1 by omega, show ¬ (64 : Int) ≤ x.val by omega]
  · simp [show x.val / 64 = 1 by omega, show (64 : Int) ≤ x.val by omega]

theorem eighth_half : Ideal.ofBits .bf16 0x3E00#16 = ((1 / 8 : ℝ) : EReal) := by
  simp [Ideal.ofBits, Ideal.ieee, -EReal.coe_mul]; norm_num

/-- The rows of a stack of two, one head's counted. -/
theorem sum_stacked (h : ℕ) (hh : h < 2) (f : ℕ → ℕ → ℝ) :
    ∑ a : Fin 256, (if h = a.val / 128 then f (a.val / 128) (a.val % 128) else 0) = ∑ i : Fin 128, f h i.val := by
  have e := Fin.sum_univ_add (a := 128) (b := 128) (fun a : Fin (128 + 128) => if h = a.val / 128 then f (a.val / 128) (a.val % 128) else 0)
  refine e.trans ?_
  have e0 : ∀ i : Fin 128, (if h = (Fin.castAdd 128 i).val / 128 then f ((Fin.castAdd 128 i).val / 128) ((Fin.castAdd 128 i).val % 128) else 0) = if h = 0 then f h i.val else 0 := fun i => by
    have := i.isLt
    rw [Fin.val_castAdd, Nat.div_eq_of_lt this, Nat.mod_eq_of_lt this]; split <;> simp_all
  have e1 : ∀ i : Fin 128, (if h = (Fin.natAdd 128 i).val / 128 then f ((Fin.natAdd 128 i).val / 128) ((Fin.natAdd 128 i).val % 128) else 0) = if h = 1 then f h i.val else 0 := fun i => by
    have := i.isLt
    rw [Fin.val_natAdd, show (128 + i.val) / 128 = 1 by omega, show (128 + i.val) % 128 = i.val by omega]; split <;> simp_all
  rw [Finset.sum_congr rfl (fun i _ => e0 i), Finset.sum_congr rfl (fun i _ => e1 i)]
  rcases (show h = 0 ∨ h = 1 by omega) with rfl | rfl <;> simp

variable (mk : ℕ → ℕ → Prop) [∀ i j, Decidable (mk i j)] (Q K V G : ℕ → ℕ → ℝ) (L D : ℕ → ℕ → ℝ)

/-- A head's scores in a block. -/
def score (h i j : ℕ) : ℝ := ∑ x : Fin 128, (if x.val / 64 = h then Q i x.val * (1 / 8) else 0) * K j x.val

/-- A head's products of output gradients and values. -/
def pair (h i j : ℕ) : ℝ := ∑ x : Fin 128, (if x.val / 64 = h then G i x.val else 0) * V j x.val

def wt (h i j : ℕ) : ℝ := if mk i j then Real.exp (score Q K h i j - L h i) else 0

def grad (h i j : ℕ) : ℝ := wt mk Q K L h i j * (pair V G h i j - D h i)

/-- A block's loaded rows hold these reals. -/
structure Loaded (M : IVec S256x256 1) (q kp kc vp vc g l0 l1 d0 d1 : FVec Ideal S128x128 .f32) : Prop where
  M : IsBand M mk
  q : Is2 q Q
  kp : Is2 kp K
  kc : Is2 kc (fun j l => K (128 + j) l)
  vp : Is2 vp V
  vc : Is2 vc (fun j l => V (128 + j) l)
  g : Is2 g G
  l0 : Is2 l0 (fun i _ => L 0 i)
  l1 : Is2 l1 (fun i _ => L 1 i)
  d0 : Is2 d0 (fun i _ => D 0 i)
  d1 : Is2 d1 (fun i _ => D 1 i)

variable {mk Q K V G L D}

/-- One head's lanes of a stack of two, from an array's rows. -/
theorem stacked_rows {q : FVec Ideal S128x128 .f32} (hq : Is2 q Q) (a : Fin 256) (x : Fin 128) (p0 : a.val < 128 → a.val < 128) (p1 : ¬ a.val < 128 → a.val - 128 < 128) :
    (if h : a.val < 128 then Scalar.select (if x.val / 64 = 0 then 1#1 else 0#1) (q (ix2 ⟨a.val, p0 h⟩ x)) 0
      else Scalar.select (if x.val / 64 = 1 then 1#1 else 0#1) (q (ix2 ⟨a.val - 128, p1 h⟩ x)) 0)
      = ((if x.val / 64 = a.val / 128 then Q (a.val % 128) x.val else 0 : ℝ) : EReal) := by
  have ha := a.isLt
  split
  · next h =>
    rw [hq ⟨a.val, p0 h⟩ x, show a.val / 128 = 0 by omega, Nat.mod_eq_of_lt h]
    by_cases hx : x.val / 64 = 0 <;> simp [hx, Scalar.select]
  · next h =>
    rw [hq ⟨a.val - 128, p1 h⟩ x, show a.val / 128 = 1 by omega, show a.val % 128 = a.val - 128 by omega]
    by_cases hx : x.val / 64 = 1 <;> simp [hx, Scalar.select]

/-- Queries, a head at a time and over eight. -/
theorem q2_apply {q : FVec Ideal S128x128 .f32} (hq : Is2 q Q) (a : Fin 256) (x : Fin 128) :
    k0_pay29 (F := Ideal) k0_pay8 k0_pay9 (k0_pay26 q) (ix2 a x) = ((if x.val / 64 = a.val / 128 then Q (a.val % 128) x.val * (1 / 8) else 0 : ℝ) : EReal) := by
  pointwise [k0_pay29, k0_pay26]
  rw [low_lane, high_lane, eighth_half]
  refine (congrArg (fun z => z * _) (stacked_rows hq a x (fun h => h) _)).trans ?_
  rw [← EReal.coe_mul, ite_mul, zero_mul]

theorem g2_apply {g : FVec Ideal S128x128 .f32} (hg : Is2 g G) (a : Fin 256) (x : Fin 128) :
    k0_pay30 (F := Ideal) k0_pay8 k0_pay9 g (ix2 a x) = ((if x.val / 64 = a.val / 128 then G (a.val % 128) x.val else 0 : ℝ) : EReal) := by
  pointwise [k0_pay30]
  rw [low_lane, high_lane]
  exact stacked_rows hg a x (fun h => h) _

theorem kcat_apply {kp kc : FVec Ideal S128x128 .f32} (hp : Is2 kp K) (hc : Is2 kc (fun j l => K (128 + j) l)) (j : Fin 256) (l : Fin 128) :
    k0_pay27 (F := Ideal) kp kc (ix2 j l) = (K j.val l.val : EReal) := by
  pointwise [k0_pay27]
  split
  · next h => exact hp ⟨j.val, h⟩ l
  · next h => exact (hc ⟨j.val - 128, _⟩ l).trans (congrArg (fun z => ((K z l.val : ℝ) : EReal)) (Nat.add_sub_cancel' (not_lt.mp h)))

theorem s_apply {q kp kc : FVec Ideal S128x128 .f32} (hq : Is2 q Q) (hp : Is2 kp K) (hc : Is2 kc (fun j l => K (128 + j) l)) (a j : Fin 256) :
    k0_pay31 (F := Ideal) k0_pay8 k0_pay9 (k0_pay26 q) (k0_pay27 kp kc) (ix2 a j) = (score Q K (a.val / 128) (a.val % 128) j.val : EReal) := by
  pointwise [k0_pay31]
  exact NormGrad.sum_mul (fun x => q2_apply hq a x) (fun x => kcat_apply hp hc j x)

theorem dp_apply {vp vc g : FVec Ideal S128x128 .f32} (hp : Is2 vp V) (hc : Is2 vc (fun j l => V (128 + j) l)) (hg : Is2 g G) (a j : Fin 256) :
    k0_pay32 (F := Ideal) k0_pay8 k0_pay9 (k0_pay28 vp vc) g (ix2 a j) = (pair V G (a.val / 128) (a.val % 128) j.val : EReal) := by
  pointwise [k0_pay32]
  exact NormGrad.sum_mul (fun x => g2_apply hg a x) (fun x => kcat_apply hp hc j x)

/-- Two columns of a head each, read anywhere in a block of both heads. -/
theorem twice_apply {l0 l1 : FVec Ideal S128x128 .f32} (h0 : Is2 l0 (fun i _ => L 0 i)) (h1 : Is2 l1 (fun i _ => L 1 i)) (a j : Fin 256)
    (p0 : a.val < 128 → a.val < 128) (w : ¬ a.val < 128 → a.val - 128 < 128) (hj : ¬ j.val < 128 → j.val - 128 < 128) :
    (if h : j.val < 128 then (if h1 : a.val < 128 then l0 (ix2 ⟨a.val, p0 h1⟩ ⟨j.val, h⟩) else l1 (ix2 ⟨a.val - 128, w h1⟩ ⟨j.val, h⟩))
      else (if h1 : a.val < 128 then l0 (ix2 ⟨a.val, p0 h1⟩ ⟨j.val - 128, hj h⟩) else l1 (ix2 ⟨a.val - 128, w h1⟩ ⟨j.val - 128, hj h⟩)))
      = (L (a.val / 128) (a.val % 128) : EReal) := by
  have ha := a.isLt
  by_cases h : a.val < 128
  · simp only [h, dif_pos]
    rw [show a.val / 128 = 0 by omega, Nat.mod_eq_of_lt h]
    split <;> exact h0 _ _
  · simp only [h, dif_neg, not_false_eq_true]
    rw [show a.val / 128 = 1 by omega, show a.val % 128 = a.val - 128 by omega]
    split <;> exact h1 _ _

section
variable {M : IVec S256x256 1} {q kp kc vp vc g l0 l1 d0 d1 : FVec Ideal S128x128 .f32} (H : Loaded mk Q K V G L D M q kp kc vp vc g l0 l1 d0 d1)
include H

theorem weights_block (a j : Fin 256) : unitWeights (F := Ideal) M q kp kc l0 l1 (ix2 a j) = (wt mk Q K L (a.val / 128) (a.val % 128) j.val : EReal) := by
  pointwise [unitWeights, k0_pay33]
  refine (congrArg (fun z => Scalar.select (M (ix2 a j)) (Ideal.exp (k0_pay31 (F := Ideal) k0_pay8 k0_pay9 (k0_pay26 q) (k0_pay27 kp kc) (ix2 a j) - z)) 0) (twice_apply H.l0 H.l1 a j (fun h => h) (fun h => by have := a.isLt; omega) (fun h => by have := j.isLt; omega))).trans ?_
  refine (congrArg (fun z => Scalar.select (M (ix2 a j)) (Ideal.exp (z - ((L (a.val / 128) (a.val % 128) : ℝ) : EReal))) 0) (s_apply H.q H.kp H.kc a j)).trans ?_
  rw [H.M a j, ← EReal.coe_sub, Ideal.exp_coe]
  unfold wt
  by_cases h : mk (a.val % 128) j.val <;> simp [h, Scalar.select]

theorem grads_block (a j : Fin 256) : unitGrads (F := Ideal) M q kp kc vp vc g l0 l1 d0 d1 (ix2 a j) = (grad mk Q K V G L D (a.val / 128) (a.val % 128) j.val : EReal) := by
  pointwise [unitGrads, k0_pay34]
  refine (congrArg (fun z => unitWeights (F := Ideal) M q kp kc l0 l1 (ix2 a j) * (k0_pay32 (F := Ideal) k0_pay8 k0_pay9 (k0_pay28 vp vc) g (ix2 a j) - z)) (twice_apply H.d0 H.d1 a j (fun h => h) (fun h => by have := a.isLt; omega) (fun h => by have := j.isLt; omega))).trans ?_
  refine (congrArg (fun z => unitWeights (F := Ideal) M q kp kc l0 l1 (ix2 a j) * (z - (D (a.val / 128) (a.val % 128) : EReal))) (dp_apply H.vp H.vc H.g a j)).trans ?_
  refine (congrArg (fun z => z * ((pair V G (a.val / 128) (a.val % 128) j.val : EReal) - (D (a.val / 128) (a.val % 128) : EReal))) (weights_block H a j)).trans ?_
  unfold grad; norm_cast

theorem unit_q : Is2 (unitOf (F := Ideal) .q M q kp kc vp vc g l0 l1 d0 d1) (fun i x => (∑ j : Fin 256, grad mk Q K V G L D (x / 64) i j.val * K j.val x) * (1 / 8)) := by
  intro i x
  have hi := i.isLt
  have hx := x.isLt
  pointwise [unitOf, unitQ, k0_pay39, k0_pay35, k0_pay36]
  rw [low_lane, eighth_word]
  have e : ∀ a : Fin 256, (∑ j : Fin 256, k0_pay34 (F := Ideal) M (k0_pay31 k0_pay8 k0_pay9 (k0_pay26 q) (k0_pay27 kp kc)) (k0_pay32 k0_pay8 k0_pay9 (k0_pay28 vp vc) g) l0 l1 d0 d1 (ix2 a j)
      * k0_pay27 kp kc (ix2 j x)) = ((∑ j : Fin 256, grad mk Q K V G L D (a.val / 128) (a.val % 128) j.val * K j.val x.val : ℝ) : EReal) := fun a =>
    NormGrad.sum_mul (fun j => grads_block H a j) (fun j => kcat_apply H.kp H.kc j x)
  rw [e, e, show (128 + i.val) / 128 = 1 by omega, show (128 + i.val) % 128 = i.val by omega, Nat.div_eq_of_lt hi, Nat.mod_eq_of_lt hi]
  by_cases h : x.val / 64 = 0
  · simp only [h, if_true, Scalar.select]; norm_cast
  · rw [show x.val / 64 = 1 by omega]; simp only [Scalar.select]; norm_cast

/-- A product with the stacked queries, at a key. -/
theorem back_q (j : Fin 256) (x : Fin 128) : (∑ a : Fin 256, unitGrads (F := Ideal) M q kp kc vp vc g l0 l1 d0 d1 (ix2 a j) * k0_pay29 (F := Ideal) k0_pay8 k0_pay9 (k0_pay26 q) (ix2 a x))
    = ((∑ i : Fin 128, grad mk Q K V G L D (x.val / 64) i.val j.val * (Q i.val x.val * (1 / 8)) : ℝ) : EReal) := by
  have hx := x.isLt
  refine (NormGrad.sum_mul (fun a => grads_block H a j) (fun a => q2_apply H.q a x)).trans ?_
  rw [← sum_stacked (x.val / 64) (by omega) (fun h i => grad mk Q K V G L D h i j.val * (Q i x.val * (1 / 8)))]
  refine congrArg _ (Finset.sum_congr rfl fun a _ => ?_)
  rw [mul_ite, mul_zero]

theorem back_g (j : Fin 256) (x : Fin 128) : (∑ a : Fin 256, unitWeights (F := Ideal) M q kp kc l0 l1 (ix2 a j) * k0_pay30 (F := Ideal) k0_pay8 k0_pay9 g (ix2 a x))
    = ((∑ i : Fin 128, wt mk Q K L (x.val / 64) i.val j.val * G i.val x.val : ℝ) : EReal) := by
  have hx := x.isLt
  refine (NormGrad.sum_mul (fun a => weights_block H a j) (fun a => g2_apply H.g a x)).trans ?_
  rw [← sum_stacked (x.val / 64) (by omega) (fun h i => wt mk Q K L h i j.val * G i x.val)]
  refine congrArg _ (Finset.sum_congr rfl fun a _ => ?_)
  rw [mul_ite, mul_zero]

theorem unit_kOwn : Is2 (unitOf (F := Ideal) .kOwn M q kp kc vp vc g l0 l1 d0 d1)
    (fun j x => ∑ i : Fin 128, grad mk Q K V G L D (x / 64) i.val (128 + j) * (Q i.val x * (1 / 8))) := by
  intro j x
  pointwise [unitOf, k0_pay40, k0_pay37]
  exact back_q H _ x

theorem unit_kBack : Is2 (unitOf (F := Ideal) .kBack M q kp kc vp vc g l0 l1 d0 d1)
    (fun j x => ∑ i : Fin 128, grad mk Q K V G L D (x / 64) i.val j * (Q i.val x * (1 / 8))) := by
  intro j x
  pointwise [unitOf, k0_pay42, k0_pay37]
  exact back_q H _ x

theorem unit_vOwn : Is2 (unitOf (F := Ideal) .vOwn M q kp kc vp vc g l0 l1 d0 d1) (fun j x => ∑ i : Fin 128, wt mk Q K L (x / 64) i.val (128 + j) * G i.val x) := by
  intro j x
  pointwise [unitOf, k0_pay41, k0_pay38]
  exact back_g H _ x

theorem unit_vBack : Is2 (unitOf (F := Ideal) .vBack M q kp kc vp vc g l0 l1 d0 d1) (fun j x => ∑ i : Fin 128, wt mk Q K L (x / 64) i.val j * G i.val x) := by
  intro j x
  pointwise [unitOf, k0_pay43, k0_pay38]
  exact back_g H _ x

end

end Cert.Attn
-- ==== Proof.Attn.Spec.lean ====
/-
  The real sums of windowed attention and of its gradient: what every pattern's query sums over its keys, what every key sums over
  its queries, and the gradient of the softmax over all three patterns.
-/
module

public import proofs.«01_k».proof.Proof.Attn.Meaning

@[expose] public section

noncomputable section

namespace Cert.Spec

open Cert.Dense (near)

/-- A query's sum over its 129 keys, `d` apart. -/
def win (d t : ℕ) (F : ℕ → ℝ) : ℝ := ∑ n ∈ Finset.range 129, if d * n ≤ t then F (t - d * n) else 0

/-- A key's sum over the queries of its own block of `128 * d`. -/
def own (d s : ℕ) (F : ℕ → ℝ) : ℝ := ∑ n ∈ Finset.range 129, if s % (128 * d) / d + n < 128 then F (s + d * n) else 0

/-- A key's sum over the queries of the next block. -/
def back (d s : ℕ) (F : ℕ → ℝ) : ℝ := ∑ n ∈ Finset.range 129, if 128 ≤ s % (128 * d) / d + n then F (s + d * n) else 0

/-- A key's sum over its queries. -/
def fan (d s : ℕ) (F : ℕ → ℝ) : ℝ := own d s F + if s + 128 * d < 8192 then back d s F else 0

theorem win_congr {d t : ℕ} {F F' : ℕ → ℝ} (h : ∀ s, s ≤ t → F s = F' s) : win d t F = win d t F' :=
  Finset.sum_congr rfl fun n _ => by split <;> [exact h _ (Nat.sub_le _ _); rfl]

theorem win_mul (d t : ℕ) (F : ℕ → ℝ) (c : ℝ) : win d t (fun s => F s * c) = win d t F * c := by
  unfold win
  rw [Finset.sum_mul]
  exact Finset.sum_congr rfl fun n _ => by split <;> simp

theorem win_pos (d t : ℕ) (F : ℕ → ℝ) (h : ∀ s, 0 < F s) : 0 < win d t F := by
  unfold win
  refine Finset.sum_pos' (fun n _ => by split <;> [exact (h _).le; exact le_rfl]) (Exists.intro 0 (And.intro (by simp) ?_))
  simpa using h t

/-- The keys a mask selects for a query. -/
theorem dense_win (d : ℕ) (h0 : 0 < d) (t : ℕ) (ht : t < 8192) (F : ℕ → ℝ) :
    ∑ s : Fin 8192, (if near d t s.val then F s.val else 0) = win d t F := by
  rw [Fin.sum_univ_eq_sum_range (fun s => if near d t s then F s else 0) 8192]
  unfold win
  rw [← Finset.sum_filter, ← Finset.sum_filter]
  have key : ∀ s, near d t s → ∃ n, t - s = d * n ∧ n ≤ 128 ∧ s ≤ t := fun s hs => by
    obtain ⟨n, hn⟩ := Nat.dvd_of_mod_eq_zero hs.2.2
    refine ⟨n, hn, ?_, hs.1⟩
    have h := hs.2.1
    rw [hn, Nat.mul_comm 128 d] at h
    exact Nat.le_of_mul_le_mul_left h h0
  refine Finset.sum_nbij' (fun s => (t - s) / d) (fun n => t - d * n) ?_ ?_ ?_ ?_ ?_
  · intro s hs
    obtain ⟨n, hn, hb, hle⟩ := key s (Finset.mem_filter.mp hs).2
    simp only [Finset.mem_filter, Finset.mem_range]
    rw [hn, Nat.mul_div_cancel_left n h0]
    omega
  · intro n hn
    simp only [Finset.mem_filter, Finset.mem_range] at hn ⊢
    have e : t - (t - d * n) = d * n := by omega
    refine ⟨by omega, by omega, ?_, ?_⟩
    · rw [e, Nat.mul_comm 128 d]; exact Nat.mul_le_mul_left d (by omega)
    · rw [e]; exact Nat.mul_mod_right d n
  · intro s hs
    obtain ⟨n, hn, hb, hle⟩ := key s (Finset.mem_filter.mp hs).2
    show t - d * ((t - s) / d) = s
    rw [hn, Nat.mul_div_cancel_left n h0]; omega
  · intro n hn
    simp only [Finset.mem_filter, Finset.mem_range] at hn
    show (t - (t - d * n)) / d = n
    rw [show t - (t - d * n) = d * n by omega, Nat.mul_div_cancel_left n h0]
  · intro s hs
    obtain ⟨n, hn, hb, hle⟩ := key s (Finset.mem_filter.mp hs).2
    show F s = F (t - d * ((t - s) / d))
    rw [hn, Nat.mul_div_cancel_left n h0, show t - d * n = s by omega]

/-- The queries a mask selects for a key. -/
theorem dense_fan (d : ℕ) (hd : d = 1 ∨ d = 4 ∨ d = 16) (s : ℕ) (hs : s < 8192) (F : ℕ → ℝ) :
    ∑ t : Fin 8192, (if near d t.val s then F t.val else 0) = fan d s F := by
  have h0 : 0 < d := by omega
  have e : ∑ t : Fin 8192, (if near d t.val s then F t.val else 0) = ∑ n ∈ Finset.range 129, if s + d * n < 8192 then F (s + d * n) else 0 := by
    rw [Fin.sum_univ_eq_sum_range (fun t => if near d t s then F t else 0) 8192, ← Finset.sum_filter, ← Finset.sum_filter]
    have key : ∀ t, near d t s → ∃ n, t - s = d * n ∧ n ≤ 128 ∧ s ≤ t := fun t ht => by
      obtain ⟨n, hn⟩ := Nat.dvd_of_mod_eq_zero ht.2.2
      refine ⟨n, hn, ?_, ht.1⟩
      have h := ht.2.1
      rw [hn, Nat.mul_comm 128 d] at h
      exact Nat.le_of_mul_le_mul_left h h0
    refine Finset.sum_nbij' (fun t => (t - s) / d) (fun n => s + d * n) ?_ ?_ ?_ ?_ ?_
    · intro t ht
      obtain ⟨n, hn, hb, hle⟩ := key t (Finset.mem_filter.mp ht).2
      have hr := Finset.mem_range.mp (Finset.mem_filter.mp ht).1
      simp only [Finset.mem_filter, Finset.mem_range]
      rw [hn, Nat.mul_div_cancel_left n h0]
      omega
    · intro n hn
      simp only [Finset.mem_filter, Finset.mem_range] at hn ⊢
      have e : s + d * n - s = d * n := by omega
      refine ⟨hn.2, by omega, ?_, ?_⟩
      · rw [e, Nat.mul_comm 128 d]; exact Nat.mul_le_mul_left d (by omega)
      · rw [e]; exact Nat.mul_mod_right d n
    · intro t ht
      obtain ⟨n, hn, hb, hle⟩ := key t (Finset.mem_filter.mp ht).2
      show s + d * ((t - s) / d) = t
      rw [hn, Nat.mul_div_cancel_left n h0]; omega
    · intro n hn
      show (s + d * n - s) / d = n
      rw [show s + d * n - s = d * n by omega, Nat.mul_div_cancel_left n h0]
    · intro t ht
      obtain ⟨n, hn, hb, hle⟩ := key t (Finset.mem_filter.mp ht).2
      show F t = F (s + d * ((t - s) / d))
      rw [hn, Nat.mul_div_cancel_left n h0, show s + d * n = t by omega]
  rw [e]
  unfold fan own back
  by_cases h : s + 128 * d < 8192
  · rw [if_pos h, ← Finset.sum_add_distrib]
    refine Finset.sum_congr rfl fun n hn => ?_
    have hn' := Finset.mem_range.mp hn
    have hin : s + d * n < 8192 := by rcases hd with rfl | rfl | rfl <;> omega
    rw [if_pos hin]
    by_cases hc : s % (128 * d) / d + n < 128
    · rw [if_pos hc, if_neg (by omega), add_zero]
    · rw [if_neg hc, if_pos (by omega), zero_add]
  · rw [if_neg h, add_zero]
    refine Finset.sum_congr rfl fun n hn => ?_
    have hn' := Finset.mem_range.mp hn
    have hin : s + d * n < 8192 ↔ s % (128 * d) / d + n < 128 := by rcases hd with rfl | rfl | rfl <;> omega
    simp only [hin]

/-- The keys a block of 256 selects for a query. -/
theorem block_win (d t i : ℕ) (hi : i < 128) (mk : ℕ → Prop) [∀ j, Decidable (mk j)] (pos : ℕ → ℕ) (F : ℕ → ℝ)
    (h1 : ∀ j, j < 256 → mk j → i ≤ j ∧ j ≤ i + 128 ∧ pos j + d * (i + 128 - j) = t)
    (h2 : ∀ n, n < 129 → d * n ≤ t → mk (i + 128 - n)) :
    ∑ j : Fin 256, (if mk j.val then F (pos j.val) else 0) = win d t F := by
  rw [Fin.sum_univ_eq_sum_range (fun j => if mk j then F (pos j) else 0) 256]
  unfold win
  rw [← Finset.sum_filter, ← Finset.sum_filter]
  refine Finset.sum_nbij' (fun j => i + 128 - j) (fun n => i + 128 - n) ?_ ?_ ?_ ?_ ?_
  · intro j hj
    simp only [Finset.mem_filter, Finset.mem_range] at hj ⊢
    obtain ⟨a, b, e⟩ := h1 j hj.1 hj.2
    omega
  · intro n hn
    simp only [Finset.mem_filter, Finset.mem_range] at hn ⊢
    exact ⟨by omega, h2 n hn.1 hn.2⟩
  · intro j hj
    simp only [Finset.mem_filter, Finset.mem_range] at hj
    obtain ⟨a, b, e⟩ := h1 j hj.1 hj.2
    show i + 128 - (i + 128 - j) = j
    omega
  · intro n hn
    simp only [Finset.mem_filter, Finset.mem_range] at hn
    show i + 128 - (i + 128 - n) = n
    omega
  · intro j hj
    simp only [Finset.mem_filter, Finset.mem_range] at hj
    obtain ⟨a, b, e⟩ := h1 j hj.1 hj.2
    show F (pos j) = F (t - d * (i + 128 - j))
    rw [← e, Nat.add_sub_cancel]

/-- The queries of a key's own block. -/
theorem block_own (d s : ℕ) (mk : ℕ → Prop) [∀ i, Decidable (mk i)] (pos : ℕ → ℕ) (F : ℕ → ℝ)
    (h1 : ∀ i, i < 128 → (mk i ↔ s % (128 * d) / d ≤ i))
    (h2 : ∀ i, s % (128 * d) / d ≤ i → pos i = s + d * (i - s % (128 * d) / d)) :
    ∑ i : Fin 128, (if mk i.val then F (pos i.val) else 0) = own d s F := by
  rw [Fin.sum_univ_eq_sum_range (fun i => if mk i then F (pos i) else 0) 128]
  unfold own
  generalize s % (128 * d) / d = x at *
  rw [← Finset.sum_filter, ← Finset.sum_filter]
  refine Finset.sum_nbij' (fun i => i - x) (fun n => x + n) ?_ ?_ ?_ ?_ ?_
  · intro i hi
    simp only [Finset.mem_filter, Finset.mem_range] at hi ⊢
    have := (h1 i hi.1).mp hi.2
    omega
  · intro n hn
    simp only [Finset.mem_filter, Finset.mem_range] at hn ⊢
    exact ⟨hn.2, (h1 _ hn.2).mpr (Nat.le_add_right _ _)⟩
  · intro i hi
    simp only [Finset.mem_filter, Finset.mem_range] at hi
    have := (h1 i hi.1).mp hi.2
    show x + (i - x) = i
    omega
  · intro n _
    show x + n - x = n
    omega
  · intro i hi
    simp only [Finset.mem_filter, Finset.mem_range] at hi
    exact congrArg F (h2 i ((h1 i hi.1).mp hi.2))

/-- The queries of the block after a key's. -/
theorem block_back (d s : ℕ) (hj : s % (128 * d) / d < 128) (mk : ℕ → Prop) [∀ i, Decidable (mk i)] (pos : ℕ → ℕ) (F : ℕ → ℝ)
    (h1 : ∀ i, i < 128 → (mk i ↔ i ≤ s % (128 * d) / d))
    (h2 : ∀ i, i ≤ s % (128 * d) / d → pos i = s + d * (128 + i - s % (128 * d) / d)) :
    ∑ i : Fin 128, (if mk i.val then F (pos i.val) else 0) = back d s F := by
  rw [Fin.sum_univ_eq_sum_range (fun i => if mk i then F (pos i) else 0) 128]
  unfold back
  generalize s % (128 * d) / d = x at *
  rw [← Finset.sum_filter, ← Finset.sum_filter]
  refine Finset.sum_nbij' (fun i => 128 + i - x) (fun n => x + n - 128) ?_ ?_ ?_ ?_ ?_
  · intro i hi
    simp only [Finset.mem_filter, Finset.mem_range] at hi ⊢
    have := (h1 i hi.1).mp hi.2
    omega
  · intro n hn
    simp only [Finset.mem_filter, Finset.mem_range] at hn ⊢
    exact ⟨by omega, (h1 _ (by omega)).mpr (by omega)⟩
  · intro i hi
    simp only [Finset.mem_filter, Finset.mem_range] at hi
    have := (h1 i hi.1).mp hi.2
    show x + (128 + i - x) - 128 = i
    omega
  · intro n hn
    simp only [Finset.mem_filter, Finset.mem_range] at hn
    show 128 + (x + n - 128) - x = n
    omega
  · intro i hi
    simp only [Finset.mem_filter, Finset.mem_range] at hi
    exact congrArg F (h2 i ((h1 i hi.1).mp hi.2))

variable (f g : ℕ → ℕ → ℝ)

/-- A head's score of a query and a key: rows of a projection holding queries, keys and values. -/
def score (h t s : ℕ) : ℝ := (∑ l : Fin 64, f t (64 * h + l.val) * f s (512 + 64 * h + l.val)) * (1 / 8)

/-- A pattern's sum of exponentials. -/
def total (d h t : ℕ) : ℝ := win d t fun s => Real.exp (score f h t s)

/-- A pattern's sum of weighted values. -/
def weighted (d h t l : ℕ) : ℝ := win d t fun s => Real.exp (score f h t s) * f s (1024 + 64 * h + l)

def allTotal (h t : ℕ) : ℝ := total f 1 h t + total f 4 h t + total f 16 h t

/-- The attention's output. -/
def att (h t l : ℕ) : ℝ := (weighted f 1 h t l + weighted f 4 h t l + weighted f 16 h t l) / allTotal f h t

/-- The products of the output and its gradient. -/
def delta (h t : ℕ) : ℝ := ∑ l : Fin 64, g t (64 * h + l.val) * att f h t l.val

/-- The attention weight of a key. -/
def weight (h t s : ℕ) : ℝ := Real.exp (score f h t s - Real.log (allTotal f h t))

/-- The gradient of a score. -/
def grade (h t s : ℕ) : ℝ := weight f h t s * ((∑ l : Fin 64, g t (64 * h + l.val) * f s (1024 + 64 * h + l.val)) - delta f g h t)

/-- The gradient of the queries. -/
def gradQ (t L : ℕ) : ℝ :=
  (win 1 t (fun s => grade f g (L / 64) t s * f s (512 + L)) + win 4 t (fun s => grade f g (L / 64) t s * f s (512 + L))
    + win 16 t (fun s => grade f g (L / 64) t s * f s (512 + L))) * (1 / 8)

/-- What a query adds to a key's gradient, and to a value's. -/
def keyTerm (L s t : ℕ) : ℝ := grade f g (L / 64) t s * (f t L * (1 / 8))
def valTerm (L s t : ℕ) : ℝ := weight f (L / 64) t s * g t L

/-- The gradient of the keys, or of the values: every pattern's sum over a key's queries. -/
def gather (F : ℕ → ℕ → ℝ) (s : ℕ) : ℝ := fan 1 s (F s) + fan 4 s (F s) + fan 16 s (F s)

theorem total_pos (d h t : ℕ) : 0 < total f d h t := win_pos d t _ fun s => Real.exp_pos _

theorem allTotal_pos (h t : ℕ) : 0 < allTotal f h t :=
  add_pos (add_pos (total_pos f 1 h t) (total_pos f 4 h t)) (total_pos f 16 h t)

theorem weight_eq (h t s : ℕ) : weight f h t s = Real.exp (score f h t s) / allTotal f h t := by
  rw [weight, Real.exp_sub, Real.exp_log (allTotal_pos f h t)]

end Cert.Spec

end
-- ==== Proof.Attn.Piece.lean ====
/-
  One block's results over the whole arrays: the sums over the window of a query, and over the queries a key meets from
  its own block and from the next.
-/
module

public import proofs.«01_k».proof.Proof.Attn.UnitReal
public import proofs.«01_k».proof.Proof.Attn.Spec

@[expose] public section

set_option maxRecDepth 16384

noncomputable section

namespace Cert.Attn

open Cert.Kernel6Ideal Cert.Kernel6Ideal.Gen
open Idealize.ShloMosaic
open Cert.Dense (Is2)
open Cert.Spec

/-! Where the blocks lie. -/

/-- A block's rows step by the dilation over all lanes. -/
abbrev Lined (d : ℕ) (r : Rows) : Prop := r.off 1 = 0 ∧ r.stride 1 = 1 ∧ r.stride 0 = d

/-- A block at dilation `d`: its rows, and the rows of the keys before it, in the chunk or in the chunk before. -/
abbrev Sited (d : ℕ) (p : Place) : Prop :=
  Lined d p.here ∧ Lined d p.back ∧ p.here.off 0 % (128 * d) < d ∧ p.back.off 0 % (128 * d) < d ∧ p.here.off 0 < 2048 ∧ p.back.off 0 < 2048
    ∧ (p.first = true → p.here.off 0 < d ∧ p.back.off 0 + 128 * d = p.here.off 0 + 2048)
    ∧ (p.first = false → p.here.off 0 = p.back.off 0 + 128 * d)

/-- The blocks' rows at dilation `d` make up the chunk. -/
abbrev Tiles (d : ℕ) (R : Place → Rows) (P : List Place) : Prop := ∀ r < d, ∀ b < 16 / d, ∃ p ∈ P, (R p).off 0 = r + 128 * d * b

theorem sited0 : ∀ p ∈ places0, Sited 1 p := by decide +kernel
theorem sited1 : ∀ p ∈ places1, Sited 4 p := by decide +kernel
theorem sited2 : ∀ p ∈ places2, Sited 16 p := by decide +kernel
theorem here0 : Tiles 1 Place.here places0 := by decide +kernel
theorem here1 : Tiles 4 Place.here places1 := by decide +kernel
theorem here2 : Tiles 16 Place.here places2 := by decide +kernel
theorem back0 : Tiles 1 Place.back places0 := by decide +kernel
theorem back1 : Tiles 4 Place.back places1 := by decide +kernel
theorem back2 : Tiles 16 Place.back places2 := by decide +kernel

variable (f g : ℕ → ℕ → ℝ)

/-- What a working step at chunk `c` and pair of heads `H` loads from. -/
structure Filled (L : Loads Ideal) (c H : ℕ) : Prop where
  q : ∀ d r, Lined d r → Is2 (L.q r) (fun i x => f (2048 * c + (r.off 0 + d * i)) (128 * H + x))
  kp : ∀ d r, Lined d r → Is2 (L.kp r) (fun i x => f (2048 * (c - 1) + (r.off 0 + d * i)) (512 + (128 * H + x)))
  kc : ∀ d r, Lined d r → Is2 (L.kc r) (fun i x => f (2048 * c + (r.off 0 + d * i)) (512 + (128 * H + x)))
  vp : ∀ d r, Lined d r → Is2 (L.vp r) (fun i x => f (2048 * (c - 1) + (r.off 0 + d * i)) (1024 + (128 * H + x)))
  vc : ∀ d r, Lined d r → Is2 (L.vc r) (fun i x => f (2048 * c + (r.off 0 + d * i)) (1024 + (128 * H + x)))
  go : ∀ d r, Lined d r → Is2 (L.g r) (fun i x => g (2048 * c + (r.off 0 + d * i)) (128 * H + x))
  l0 : ∀ d r, Lined d r → Is2 (L.l0 r) (fun i _ => Real.log (allTotal f (2 * H) (2048 * c + (r.off 0 + d * i))))
  l1 : ∀ d r, Lined d r → Is2 (L.l1 r) (fun i _ => Real.log (allTotal f (2 * H + 1) (2048 * c + (r.off 0 + d * i))))
  d0 : ∀ d r, Lined d r → Is2 (L.d0 r) (fun i _ => delta f g (2 * H) (2048 * c + (r.off 0 + d * i)))
  d1 : ∀ d r, Lined d r → Is2 (L.d1 r) (fun i _ => delta f g (2 * H + 1) (2048 * c + (r.off 0 + d * i)))

/-! A head's sums within its half of a slab. -/

theorem half_sum (h : ℕ) (hh : h < 2) (a b : ℕ → ℝ) :
    ∑ x : Fin 128, (if x.val / 64 = h then a x.val else 0) * b x.val = ∑ l : Fin 64, a (64 * h + l.val) * b (64 * h + l.val) := by
  have e := Fin.sum_univ_add (a := 64) (b := 64) (fun x : Fin (64 + 64) => (if x.val / 64 = h then a x.val else 0) * b x.val)
  refine e.trans ?_
  have e0 : ∀ i : Fin 64, (if (Fin.castAdd 64 i).val / 64 = h then a (Fin.castAdd 64 i).val else 0) * b (Fin.castAdd 64 i).val = if h = 0 then a (64 * h + i.val) * b (64 * h + i.val) else 0 := fun i => by
    have := i.isLt
    rw [Fin.val_castAdd, Nat.div_eq_of_lt this]
    by_cases q : h = 0
    · subst q; simp
    · rw [if_neg (fun z => q z.symm), if_neg q]; simp
  have e1 : ∀ i : Fin 64, (if (Fin.natAdd 64 i).val / 64 = h then a (Fin.natAdd 64 i).val else 0) * b (Fin.natAdd 64 i).val = if h = 1 then a (64 * h + i.val) * b (64 * h + i.val) else 0 := fun i => by
    have := i.isLt
    rw [Fin.val_natAdd, show (64 + i.val) / 64 = 1 by omega]
    by_cases q : h = 1
    · subst q; simp
    · rw [if_neg (fun z => q z.symm), if_neg q]; simp
  rw [Finset.sum_congr rfl (fun i _ => e0 i), Finset.sum_congr rfl (fun i _ => e1 i)]
  rcases (show h = 0 ∨ h = 1 by omega) with rfl | rfl <;> simp

variable {f g}

section
variable (c H : ℕ) (u p : ℕ → ℕ)

theorem score_eq (h : ℕ) (hh : h < 2) (i j : ℕ) : score (fun i x => f (u i) (128 * H + x)) (fun j x => f (p j) (512 + (128 * H + x))) h i j
    = Spec.score f (2 * H + h) (u i) (p j) := by
  unfold score Spec.score
  have e := half_sum h hh (fun x => f (u i) (128 * H + x) * (1 / 8)) (fun x => f (p j) (512 + (128 * H + x)))
  refine e.trans ?_
  rw [Finset.sum_mul]
  refine Finset.sum_congr rfl fun l _ => ?_
  rw [show 128 * H + (64 * h + l.val) = 64 * (2 * H + h) + l.val by ring, show 512 + (64 * (2 * H + h) + l.val) = 512 + 64 * (2 * H + h) + l.val by ring]
  ring

theorem pair_eq (h : ℕ) (hh : h < 2) (i j : ℕ) : pair (fun j x => f (p j) (1024 + (128 * H + x))) (fun i x => g (u i) (128 * H + x)) h i j
    = ∑ l : Fin 64, g (u i) (64 * (2 * H + h) + l.val) * f (p j) (1024 + 64 * (2 * H + h) + l.val) := by
  unfold pair
  refine (half_sum h hh (fun x => g (u i) (128 * H + x)) (fun x => f (p j) (1024 + (128 * H + x)))).trans ?_
  refine Finset.sum_congr rfl fun l _ => ?_
  rw [show 128 * H + (64 * h + l.val) = 64 * (2 * H + h) + l.val by ring, show 1024 + (64 * (2 * H + h) + l.val) = 1024 + 64 * (2 * H + h) + l.val by ring]

variable (mk : ℕ → ℕ → Prop) [∀ i j, Decidable (mk i j)]

theorem wt_eq (h : ℕ) (hh : h < 2) (i j : ℕ) :
    wt mk (fun i x => f (u i) (128 * H + x)) (fun j x => f (p j) (512 + (128 * H + x))) (fun h i => Real.log (allTotal f (2 * H + h) (u i))) h i j
      = if mk i j then weight f (2 * H + h) (u i) (p j) else 0 := by
  unfold wt weight
  rw [score_eq H u p h hh]

theorem grad_eq (h : ℕ) (hh : h < 2) (i j : ℕ) :
    grad mk (fun i x => f (u i) (128 * H + x)) (fun j x => f (p j) (512 + (128 * H + x))) (fun j x => f (p j) (1024 + (128 * H + x)))
        (fun i x => g (u i) (128 * H + x)) (fun h i => Real.log (allTotal f (2 * H + h) (u i))) (fun h i => delta f g (2 * H + h) (u i)) h i j
      = if mk i j then grade f g (2 * H + h) (u i) (p j) else 0 := by
  unfold grad grade
  rw [wt_eq H u p mk h hh, pair_eq H u p h hh]
  split
  · rfl
  · rw [zero_mul]
end

/-! One block. -/

section
variable {L : Loads Ideal} {c H d : ℕ} (hL : Filled f g L c H) (hd : d = 1 ∨ d = 4 ∨ d = 16) {p : Place} (hp : Sited d p)

/-- The positions of a block's queries, keys of its own and keys before. -/
def qPos (c d : ℕ) (p : Place) (i : ℕ) : ℕ := 2048 * c + (p.here.off 0 + d * i)
def bPos (c d : ℕ) (p : Place) (j : ℕ) : ℕ := (if p.first = true then 2048 * (c - 1) else 2048 * c) + (p.back.off 0 + d * j)
def kPos (c d : ℕ) (p : Place) (j : ℕ) : ℕ := if j < 128 then bPos c d p j else qPos c d p (j - 128)

theorem kPos_back (c d : ℕ) (p : Place) {j : ℕ} (h : j < 128) : kPos c d p j = bPos c d p j := if_pos h
theorem kPos_here (c d : ℕ) (p : Place) (j : ℕ) : kPos c d p (128 + j) = qPos c d p j := by
  unfold kPos
  rw [if_neg (by omega), Nat.add_sub_cancel_left]

/-- Which keys a query meets. -/
def meets (c : ℕ) (p : Place) (i j : ℕ) : Prop := (i ≤ j ∧ j ≤ i + 128) ∧ (p.first = true → c = 0 → 128 ≤ j)
instance (c : ℕ) (p : Place) (i j : ℕ) : Decidable (meets c p i j) := by unfold meets; infer_instance

/-- A block's mask. -/
abbrev maskOf (c : ℕ) (p : Place) : IVec S256x256 1 := match p.first with | true => k0_pay11 (BitVec.ofNat 32 c) | false => k0_pay10

theorem mask_meets (hc : c < 2 ^ 31) (p : Place) : IsBand (maskOf c p) (meets c p) := by
  obtain ⟨a, b, s⟩ := p
  cases s
  · intro i j
    refine (plain_band i j).trans ?_
    unfold meets
    simp
  · intro i j
    refine (first_band c hc i j).trans ?_
    unfold meets
    simp

include hL hp in
theorem held_block (hc : c < 2 ^ 31) : Loaded (meets c p) (fun i x => f (qPos c d p i) (128 * H + x)) (fun j x => f (kPos c d p j) (512 + (128 * H + x)))
    (fun j x => f (kPos c d p j) (1024 + (128 * H + x))) (fun i x => g (qPos c d p i) (128 * H + x))
    (fun h i => Real.log (allTotal f (2 * H + h) (qPos c d p i))) (fun h i => delta f g (2 * H + h) (qPos c d p i))
    (maskOf c p) (L.q p.here) (match p.first with | true => L.kp p.back | false => L.kc p.back) (L.kc p.here)
    (match p.first with | true => L.vp p.back | false => L.vc p.back) (L.vc p.here) (L.g p.here) (L.l0 p.here) (L.l1 p.here) (L.d0 p.here) (L.d1 p.here) where
  M := mask_meets hc p
  q := hL.q d _ hp.1
  kp := by
    have h1 := hL.kp d _ hp.2.1
    have h2 := hL.kc d _ hp.2.1
    obtain ⟨a, b, s⟩ := p
    intro i x
    cases s
    · exact (h2 i x).trans (by beta_reduce; rw [kPos_back _ _ _ i.isLt]; rfl)
    · exact (h1 i x).trans (by beta_reduce; rw [kPos_back _ _ _ i.isLt]; rfl)
  kc := fun i x => (hL.kc d _ hp.1 i x).trans (by beta_reduce; rw [kPos_here]; rfl)
  vp := by
    have h1 := hL.vp d _ hp.2.1
    have h2 := hL.vc d _ hp.2.1
    obtain ⟨a, b, s⟩ := p
    intro i x
    cases s
    · exact (h2 i x).trans (by beta_reduce; rw [kPos_back _ _ _ i.isLt]; rfl)
    · exact (h1 i x).trans (by beta_reduce; rw [kPos_back _ _ _ i.isLt]; rfl)
  vc := fun i x => (hL.vc d _ hp.1 i x).trans (by beta_reduce; rw [kPos_here]; rfl)
  g := hL.go d _ hp.1
  l0 := hL.l0 d _ hp.1
  l1 := hL.l1 d _ hp.1
  d0 := hL.d0 d _ hp.1
  d1 := hL.d1 d _ hp.1

/-! The window of a query, seen from its block. -/

include hd hp in
theorem window (i : ℕ) (hi : i < 128) (F : ℕ → ℝ) :
    ∑ j : Fin 256, (if meets c p i j.val then F (kPos c d p j.val) else 0) = win d (qPos c d p i) F := by
  obtain ⟨-, -, h1, h2, h3, h4, h5, h6⟩ := hp
  refine block_win d _ i hi (meets c p i) (kPos c d p) F ?_ ?_
  · rintro j hj ⟨⟨a, b⟩, e⟩
    refine ⟨a, b, ?_⟩
    unfold kPos bPos qPos
    cases hs : p.first
    · have := h6 hs
      rcases hd with rfl | rfl | rfl <;> split <;> (try simp only [if_neg Bool.false_ne_true]) <;> omega
    · have := h5 hs
      have := e hs
      rcases hd with rfl | rfl | rfl <;> split <;> (try simp only [if_true]) <;> omega
  · intro n hn hle
    refine ⟨⟨by omega, by omega⟩, fun hs hc => ?_⟩
    have := h5 hs
    unfold qPos at hle
    rcases hd with rfl | rfl | rfl <;> omega

include hd hp in
/-- The queries a key meets in its own block. -/
theorem own_block (j : ℕ) (hj : j < 128) (F : ℕ → ℝ) :
    ∑ i : Fin 128, (if meets c p i.val (128 + j) then F (qPos c d p i.val) else 0) = own d (qPos c d p j) F := by
  obtain ⟨-, -, h1, h2, h3, h4, h5, h6⟩ := hp
  have e : qPos c d p j % (128 * d) / d = j := by
    unfold qPos
    rcases hd with rfl | rfl | rfl <;> omega
  refine block_own d _ (fun i => meets c p i (128 + j)) (qPos c d p) F (fun i hi => ?_) (fun i hi => ?_)
  · rw [e]
    exact ⟨fun h => by have := h.1.2; omega, fun h => ⟨⟨by omega, by omega⟩, fun _ _ => by omega⟩⟩
  · rw [e] at hi ⊢
    unfold qPos
    rcases hd with rfl | rfl | rfl <;> omega

include hd hp in
/-- The queries a key meets in the block after its own. -/
theorem next_block (j : ℕ) (hj : j < 128) (F : ℕ → ℝ) :
    ∑ i : Fin 128, (if meets c p i.val j then F (qPos c d p i.val) else 0) = if p.first = true ∧ c = 0 then 0 else back d (bPos c d p j) F := by
  obtain ⟨-, -, h1, h2, h3, h4, h5, h6⟩ := hp
  split
  · next h =>
    refine Finset.sum_eq_zero fun i _ => if_neg fun z => ?_
    have := z.2 h.1 h.2
    omega
  · next h =>
    have e : bPos c d p j % (128 * d) / d = j := by
      unfold bPos
      cases hs : p.first
      · rcases hd with rfl | rfl | rfl <;> simp only [if_neg Bool.false_ne_true] <;> omega
      · rcases hd with rfl | rfl | rfl <;> simp only [if_true] <;> omega
    refine block_back d _ (by rw [e]; exact hj) (fun i => meets c p i j) (qPos c d p) F (fun i hi => ?_) (fun i hi => ?_)
    · rw [e]
      exact ⟨fun h => h.1.1, fun h' => ⟨⟨h', by omega⟩, fun a b => absurd ⟨a, b⟩ h⟩⟩
    · rw [e] at hi ⊢
      unfold bPos qPos
      cases hs : p.first
      · have := h6 hs
        rcases hd with rfl | rfl | rfl <;> simp only [if_neg Bool.false_ne_true] <;> omega
      · have := h5 hs
        have hc : c ≠ 0 := fun z => h ⟨hs, z⟩
        rcases hd with rfl | rfl | rfl <;> simp only [if_true] <;> omega

/-- What a block leaves of each kind, at a row's position and a lane. -/
def kindAt (f g : ℕ → ℕ → ℝ) (k : Kind) (c d : ℕ) (p : Place) (i L : ℕ) : ℝ :=
  match k with
  | .q => win d (qPos c d p i) (fun s => grade f g (L / 64) (qPos c d p i) s * f s (512 + L)) * (1 / 8)
  | .kOwn => own d (qPos c d p i) (keyTerm f g L (qPos c d p i))
  | .kBack => if p.first = true ∧ c = 0 then 0 else back d (bPos c d p i) (keyTerm f g L (bPos c d p i))
  | .vOwn => own d (qPos c d p i) (valTerm f g L (qPos c d p i))
  | .vBack => if p.first = true ∧ c = 0 then 0 else back d (bPos c d p i) (valTerm f g L (bPos c d p i))

include hL hd hp in
theorem piece_value (hc : c < 2 ^ 31) (k : Kind) : Is2 (pieceAt k (BitVec.ofNat 32 c) L p).2 (fun i x => kindAt f g k c d p i (128 * H + x)) := by
  have hB := held_block hL hp hc
  have lane : ∀ x : Fin 128, x.val / 64 < 2 ∧ (128 * H + x.val) / 64 = 2 * H + x.val / 64 := fun x => by have := x.isLt; omega
  intro i x
  obtain ⟨hx, hl⟩ := lane x
  cases k
  · refine (unit_q hB i x).trans (congrArg (fun z : ℝ => (z : EReal)) ?_)
    unfold kindAt
    dsimp only
    rw [← window hd hp i.val i.isLt, hl]
    refine congrArg (fun z : ℝ => z * (1 / 8)) (Finset.sum_congr rfl fun j _ => ?_)
    rw [grad_eq H (qPos c d p) (kPos c d p) (meets c p) _ hx, ite_mul, zero_mul]
  · refine (unit_kOwn hB i x).trans (congrArg (fun z : ℝ => (z : EReal)) ?_)
    unfold kindAt
    dsimp only
    rw [← own_block hd hp i.val i.isLt]
    refine Finset.sum_congr rfl fun j _ => ?_
    rw [grad_eq H (qPos c d p) (kPos c d p) (meets c p) _ hx, ite_mul, zero_mul]
    unfold keyTerm
    rw [hl, kPos_here]
  · refine (unit_kBack hB i x).trans (congrArg (fun z : ℝ => (z : EReal)) ?_)
    unfold kindAt
    dsimp only
    rw [← next_block hd hp i.val i.isLt]
    refine Finset.sum_congr rfl fun j _ => ?_
    rw [grad_eq H (qPos c d p) (kPos c d p) (meets c p) _ hx, ite_mul, zero_mul]
    unfold keyTerm
    rw [hl, kPos_back _ _ _ i.isLt]
  · refine (unit_vOwn hB i x).trans (congrArg (fun z : ℝ => (z : EReal)) ?_)
    unfold kindAt
    dsimp only
    rw [← own_block hd hp i.val i.isLt]
    refine Finset.sum_congr rfl fun j _ => ?_
    rw [wt_eq H (qPos c d p) (kPos c d p) (meets c p) _ hx, ite_mul, zero_mul]
    unfold valTerm
    rw [hl, kPos_here]
  · refine (unit_vBack hB i x).trans (congrArg (fun z : ℝ => (z : EReal)) ?_)
    unfold kindAt
    dsimp only
    rw [← next_block hd hp i.val i.isLt]
    refine Finset.sum_congr rfl fun j _ => ?_
    rw [wt_eq H (qPos c d p) (kPos c d p) (meets c p) _ hx, ite_mul, zero_mul]
    unfold valTerm
    rw [hl, kPos_back _ _ _ i.isLt]
end

end Cert.Attn

end
-- ==== Proof.Attn.Buffers.lean ====
/-
  The buffers of a working step: what the sixteen blocks of a dilation leave together, and the sums of the dilations.
-/
module

public import proofs.«01_k».proof.Proof.Attn.Piece
public import Idealize.ShloMosaic.Lib.WritesUnit

@[expose] public section

set_option maxRecDepth 16384

noncomputable section

namespace Cert.Attn

open Cert.Kernel6Ideal Cert.Kernel6Ideal.Gen
open Idealize.ShloMosaic Idealize.ShloMosaic.TcCoe Idealize.ShloMosaic.Tactic
open Cert.Dense (Is2)
open Cert.Spec

/-! Reading rows of a block of known entries. -/

theorem at_rows {X : S2048x128.Idx → EReal} {A : ℕ → ℕ → ℝ} (hX : Is2 X A) (W o d : ℕ) (e : (⟨2, ![W, 128]⟩ : Shape).Idx → S2048x128.Idx)
    (h0 : ∀ y, (e y 0).val = o + d * (y 0).val) (h1 : ∀ y, (e y 1).val = (y 1).val) : Is2 (fun j => X (e j)) (fun i x => A (o + d * i) x) := by
  intro i x
  have hy : e (ix2 i x) = ix2 ⟨o + d * i.val, by have := (e (ix2 i x) 0).isLt; rw [h0] at this; exact this⟩ x :=
    funext fun a => Fin.ext (by
      match a with
      | ⟨0, _⟩ => exact h0 (ix2 i x)
      | ⟨1, _⟩ => exact h1 (ix2 i x))
  show X (e (ix2 i x)) = _
  rw [hy]
  exact hX _ x

theorem Is2.to {n k : ℕ} {X : (⟨2, ![n, k]⟩ : Shape).Idx → EReal} {A B : ℕ → ℕ → ℝ} (hX : Is2 X A) (h : ∀ i x, i < n → x < k → A i x = B i x) : Is2 X B :=
  fun i x => (hX i x).trans (congrArg (fun z : ℝ => (z : EReal)) (h i.val x.val i.isLt x.isLt))

/-- A load of a band of rows. -/
theorem load_rows {sp : Space} (v : View sig .tc sp S2048x128 .f32) (b : v.ty.Contents (Elt Ideal)) {A : ℕ → ℕ → ℝ} (hA : Is2 (v.read (Elt Ideal) b) A) (o W : ℕ)
    (inb : ∀ a : Fin 2, (![o, 0] : Fin 2 → ℕ) a + (![W, 128] : Fin 2 → ℕ) a ≤ S2048x128.size a) :
    Is2 (v.readAt (Elt Ideal) (Rect.unit (s := S2048x128) ![o, 0] ![W, 128] inb).toLoadRect b) (fun i x => A (o + i) x) := by
  rw [View.readAt_eq_ld]
  exact Is2.to (at_rows hA W o 1 (Rect.unit (s := S2048x128) ![o, 0] ![W, 128] inb).toLoadRect.idx (fun _ => rfl) (fun y => by show 0 + 1 * (y 1).val = _; omega))
    fun i x _ _ => by rw [Nat.one_mul]

theorem cov_rows {sp : Space} (v : View sig .tc sp S2048x128 .f32) (L : List (View.Piece (Elt Ideal) S2048x128 .f32)) {A : ℕ → ℕ → ℝ} (hA : Is2 (View.canon L) A) (o W : ℕ)
    (inb : ∀ a : Fin 2, (![o, 0] : Fin 2 → ℕ) a + (![W, 128] : Fin 2 → ℕ) a ≤ S2048x128.size a) :
    Is2 (v.readCov L (Rect.unit (s := S2048x128) ![o, 0] ![W, 128] inb).toLoadRect) (fun i x => A (o + i) x) := by
  rw [View.readCov_eq_canon']
  exact Is2.to (at_rows hA W o 1 (Rect.unit (s := S2048x128) ![o, 0] ![W, 128] inb).toLoadRect.idx (fun _ => rfl) (fun y => by show 0 + 1 * (y 1).val = _; omega))
    fun i x _ _ => by rw [Nat.one_mul]

/-- A store over a band of rows. -/
theorem store_rows {sp : Space} (v : View sig .tc sp S2048x128 .f32) (b : v.ty.Contents (Elt Ideal)) (L : List (View.Piece (Elt Ideal) S2048x128 .f32)) {A B : ℕ → ℕ → ℝ}
    (hA : Is2 (v.read (Elt Ideal) (v.writes (Elt Ideal) b L)) A) (o W : ℕ) (inb : ∀ a : Fin 2, (![o, 0] : Fin 2 → ℕ) a + (![W, 128] : Fin 2 → ℕ) a ≤ S2048x128.size a)
    (w : (⟨2, ![W, 128]⟩ : Shape).Idx → EReal) (hw : Is2 w B) :
    Is2 (v.read (Elt Ideal) (v.writes (Elt Ideal) b ((⟨Rect.unit (s := S2048x128) ![o, 0] ![W, 128] inb, w⟩ : View.Piece (Elt Ideal) S2048x128 .f32) :: L)))
      (fun y x => if o ≤ y ∧ y < o + W then B (y - o) x else A y x) := by
  intro y x
  beta_reduce
  split
  · next h =>
    refine (View.read_writes_cons_rows_of_mem v b inb w L (ix2 y x) (ix2 ⟨y.val - o, by omega⟩ x) rfl ?_ rfl).trans (hw _ x)
    show y.val = o + (y.val - o)
    omega
  · next h =>
    refine (View.read_writes_cons_rows_of_not_mem v b inb w L (ix2 y x) rfl rfl ?_).trans (hA y x)
    show y.val < o ∨ o + W ≤ y.val
    omega

theorem store_canon (L : List (View.Piece (Elt Ideal) S2048x128 .f32)) {sp : Space} (v : View sig .tc sp S2048x128 .f32) {A B : ℕ → ℕ → ℝ}
    (hA : Is2 (View.canon L) A) (o W : ℕ) (inb : ∀ a : Fin 2, (![o, 0] : Fin 2 → ℕ) a + (![W, 128] : Fin 2 → ℕ) a ≤ S2048x128.size a)
    (w : (⟨2, ![W, 128]⟩ : Shape).Idx → EReal) (hw : Is2 w B) :
    Is2 (View.canon ((⟨Rect.unit (s := S2048x128) ![o, 0] ![W, 128] inb, w⟩ : View.Piece (Elt Ideal) S2048x128 .f32) :: L))
      (fun y x => if o ≤ y ∧ y < o + W then B (y - o) x else A y x) := by
  have e := fun L y => View.read_writes_junk_apply_eq_canon (Val := Elt Ideal) v y L
  intro y x
  rw [← e]
  exact store_rows v v.junk L (fun y x => (e L _).trans (hA y x)) o W inb w hw y x

/-! The sums. -/

theorem sum_128 {a b : FVec Ideal S128x128 .f32} {A B : ℕ → ℕ → ℝ} (ha : Is2 a A) (hb : Is2 b B) : Is2 (k0_pay814 (F := Ideal) a b) (fun i x => A i x + B i x) := by
  intro i x
  pointwise [k0_pay814]
  rw [ha i x, hb i x, ← EReal.coe_add]
theorem sum_512 {a b : FVec Ideal S512x128 .f32} {A B : ℕ → ℕ → ℝ} (ha : Is2 a A) (hb : Is2 b B) : Is2 (k0_pay815 (F := Ideal) a b) (fun i x => A i x + B i x) := by
  intro i x
  pointwise [k0_pay815]
  rw [ha i x, hb i x, ← EReal.coe_add]
theorem sum_2048 {a b : FVec Ideal S2048x128 .f32} {A B : ℕ → ℕ → ℝ} (ha : Is2 a A) (hb : Is2 b B) : Is2 (k0_pay816 (F := Ideal) a b) (fun i x => A i x + B i x) := by
  intro i x
  pointwise [k0_pay816]
  rw [ha i x, hb i x, ← EReal.coe_add]
theorem sum_1920 {a b : FVec Ideal S1920x128 .f32} {A B : ℕ → ℕ → ℝ} (ha : Is2 a A) (hb : Is2 b B) : Is2 (k0_pay820 (k0_pay819 (F := Ideal) a b)) (fun i x => A i x + B i x) := by
  intro i x
  pointwise [k0_pay820, k0_pay819]
  rw [ha i x, hb i x, ← EReal.coe_add]
theorem sum_1536 {a b : FVec Ideal S1536x128 .f32} {A B : ℕ → ℕ → ℝ} (ha : Is2 a A) (hb : Is2 b B) : Is2 (k0_pay821 (F := Ideal) a b) (fun i x => A i x + B i x) := by
  intro i x
  pointwise [k0_pay821]
  rw [ha i x, hb i x, ← EReal.coe_add]
theorem sum_three {a b c : FVec Ideal S2048x128 .f32} {A B C : ℕ → ℕ → ℝ} (ha : Is2 a A) (hb : Is2 b B) (hc : Is2 c C) :
    Is2 (k0_pay813 (F := Ideal) a b c) (fun i x => A i x + B i x + C i x) ∧ Is2 (k0_pay818 (F := Ideal) a b c) (fun i x => A i x + B i x + C i x) := by
  constructor <;> intro i x <;> pointwise [k0_pay813, k0_pay818] <;> rw [ha i x, hb i x, hc i x, ← EReal.coe_add, ← EReal.coe_add]

section
variable (M : Memref sig .tc .vmem S2048x128 .f32) (h : M.IsWhole) (s : Vec Ideal S2048x128 .f32)
  (O0 O1 O2 B0 B1 B2 : Memref sig .tc .vmem S2048x128 .f32) (o0 o1 o2 k0 k1 k2 : List (View.Piece (Elt Ideal) S2048x128 .f32))
  {S P0 P1 P2 Q0 Q1 Q2 : ℕ → ℕ → ℝ} (hs : Is2 s S) (p0 : Is2 (View.canon o0) P0) (p1 : Is2 (View.canon o1) P1) (p2 : Is2 (View.canon o2) P2)
  (q0 : Is2 (View.canon k0) Q0) (q1 : Is2 (View.canon k1) Q1) (q2 : Is2 (View.canon k2) Q2)

include hs q0 q1 q2 in
/-- The chunk before, complete: its last rows get what the next chunk's queries give them. -/
theorem done_apply : Is2 (View.canon (done3 M h s B0 B1 B2 k0 k1 k2))
    (fun y x => S y x + (if 1920 ≤ y then Q0 y x else 0) + (if 1536 ≤ y then Q1 y x else 0) + Q2 y x) := by
  have e0 : Is2 (M.view.read (Elt Ideal) (h.unread s)) S := by rw [h.read_unread]; exact hs
  have e1 := store_rows M.view (h.unread s) [] e0 1920 128 inb_S2048x128_S128x128_1920_0 _
    (sum_128 (load_rows M.view (h.unread s) e0 1920 128 inb_S2048x128_S128x128_1920_0) (cov_rows B0.view k0 q0 1920 128 inb_S2048x128_S128x128_1920_0))
  have e2 := store_rows M.view (h.unread s) (done1 M h s B0 k0) e1 1536 512 inb_S2048x128_S512x128_1536_0 _
    (sum_512 (load_rows M.view _ e1 1536 512 inb_S2048x128_S512x128_1536_0) (cov_rows B1.view k1 q1 1536 512 inb_S2048x128_S512x128_1536_0))
  have e3 := sum_2048 (load_rows M.view _ e2 0 2048 inb_S2048x128_S2048x128_0_0) (cov_rows B2.view k2 q2 0 2048 inb_S2048x128_S2048x128_0_0)
  unfold done3
  rw [View.canon_cons_unit_zero (S := S2048x128) hz2]
  refine Is2.to e3 fun y x hy _ => ?_
  rw [Nat.zero_add]
  by_cases a : 1920 ≤ y
  · rw [if_pos (by omega), if_pos (by omega), if_pos a, if_pos (by omega), show 1536 + (y - 1536) = y by omega, show 1920 + (y - 1920) = y by omega]
  · by_cases b : 1536 ≤ y
    · rw [if_pos (by omega), show 1536 + (y - 1536) = y by omega, if_neg (by omega), if_neg a, if_pos b, add_zero]
    · rw [if_neg (by omega), if_neg (by omega), if_neg a, if_neg b, add_zero, add_zero]

include p0 p1 p2 q0 q1 in
/-- The chunk's own sums, carried on: its first rows with what their own chunk's queries give them. -/
theorem next_apply : Is2 (View.canon (next3 M h s O0 O1 O2 B0 B1 B2 o0 o1 o2 k0 k1 k2))
    (fun y x => P0 y x + P1 y x + P2 y x + (if y < 1920 then Q0 y x else 0) + (if y < 1536 then Q1 y x else 0)) := by
  have e1 : Is2 (View.canon (next1 M h s O0 O1 O2 B0 B1 B2 o0 o1 o2 k0 k1 k2)) (fun y x => P0 (0 + y) x + P1 (0 + y) x + P2 (0 + y) x) := by
    unfold next1
    rw [View.canon_cons_unit_zero (S := S2048x128) hz2]
    exact (sum_three (cov_rows O0.view o0 p0 0 2048 inb_S2048x128_S2048x128_0_0) (cov_rows O1.view o1 p1 0 2048 inb_S2048x128_S2048x128_0_0)
      (cov_rows O2.view o2 p2 0 2048 inb_S2048x128_S2048x128_0_0)).2
  have e2 := store_canon (next1 M h s O0 O1 O2 B0 B1 B2 o0 o1 o2 k0 k1 k2) M.view e1 0 1920 inb_S2048x128_S1920x128_0_0 _
    (sum_1920 (cov_rows M.view _ e1 0 1920 inb_S2048x128_S1920x128_0_0) (cov_rows B0.view k0 q0 0 1920 inb_S2048x128_S1920x128_0_0))
  have e3 := store_canon (next2 M h s O0 O1 O2 B0 B1 B2 o0 o1 o2 k0 k1 k2) M.view e2 0 1536 inb_S2048x128_S1536x128_0_0 _
    (sum_1536 (cov_rows M.view _ e2 0 1536 inb_S2048x128_S1536x128_0_0) (cov_rows B1.view k1 q1 0 1536 inb_S2048x128_S1536x128_0_0))
  refine Is2.to e3 fun y x hy _ => ?_
  simp only [Nat.zero_add, Nat.sub_zero, Nat.zero_le, true_and]
  by_cases a : y < 1536
  · rw [if_pos a, if_pos (by omega), if_pos (by omega), if_pos a]
  · rw [if_neg a, if_neg a]
    by_cases b : y < 1920
    · rw [if_pos b, if_pos b, add_zero]
    · rw [if_neg b, if_neg b, add_zero, add_zero]
end

/-! A dilation's sixteen blocks together. -/

/-- Stores of blocks that make up the chunk leave what each block's rows hold. -/
theorem canon_rows {d : ℕ} (hd : d = 1 ∨ d = 4 ∨ d = 16) (R : Place → Rows) (w : Place → FVec Ideal S128x128 .f32) (P : List Place) (lined : ∀ p ∈ P, Lined d (R p))
    (hT : Tiles d R P) (G : ℕ → ℕ → ℝ) (hw : ∀ p ∈ P, Is2 (w p) (fun i x => G ((R p).off 0 + d * i) x)) :
    Is2 (View.canon (P.map fun p => (⟨(R p).rect, w p⟩ : View.Piece (Elt Ideal) S2048x128 .f32))) G := by
  intro y x
  refine View.canon_apply_of_pieces (Val := Elt Ideal) (e := .f32) (fun z : S2048x128.Idx => ((G (z 0).val (z 1).val : ℝ) : EReal)) _ ?_ (ix2 y x) ?_
  · intro q hq z
    obtain ⟨p, hp, rfl⟩ := List.mem_map.1 hq
    have hl := lined p hp
    refine ((congrArg (w p) (ix2_eta (z : S128x128.Idx)).symm).trans (hw p hp (z 0) (z 1))).trans ?_
    have a0 : (((R p).rect.emb z) 0).val = (R p).off 0 + d * (z 0).val := by
      show (R p).off 0 + (R p).stride 0 * (z 0).val = _
      rw [hl.2.2]
    have a1 : (((R p).rect.emb z) 1).val = (z 1).val := by
      show (R p).off 1 + (R p).stride 1 * (z 1).val = _
      rw [hl.1, hl.2.1, Nat.zero_add, Nat.one_mul]
    show _ = ((G (((R p).rect.emb z) 0).val (((R p).rect.emb z) 1).val : ℝ) : EReal)
    rw [a0, a1]
  · have hy := y.isLt
    have hr : y.val % d < d := Nat.mod_lt _ (by omega)
    have hb : y.val / (128 * d) < 16 / d := by rcases hd with rfl | rfl | rfl <;> omega
    have hi : y.val % (128 * d) / d < 128 := by rcases hd with rfl | rfl | rfl <;> omega
    obtain ⟨p, hp, ho⟩ := hT _ hr _ hb
    have hl := lined p hp
    refine ⟨_, List.mem_map.2 ⟨p, hp, rfl⟩, ?_⟩
    refine (LoadRect.mem_set _).2 fun a => ?_
    match a with
    | ⟨0, _⟩ =>
      refine ⟨y.val % (128 * d) / d, hi, ?_⟩
      show y.val = (R p).off 0 + (R p).stride 0 * _
      rw [hl.2.2, ho]
      rcases hd with rfl | rfl | rfl <;> omega
    | ⟨1, _⟩ =>
      refine ⟨x.val, x.isLt, ?_⟩
      show x.val = (R p).off 1 + (R p).stride 1 * _
      rw [hl.1, hl.2.1, Nat.zero_add, Nat.one_mul]

section
variable {f g : ℕ → ℕ → ℝ} {L : Loads Ideal} {c H d : ℕ} (hL : Filled f g L c H) (hc : c < 2 ^ 31) (hd : d = 1 ∨ d = 4 ∨ d = 16) {P : List Place} (hP : ∀ p ∈ P, Sited d p)

/-- What a chunk's queries give the keys of a row: those of the next block, in the chunk or in the one before. -/
def backAt (c d : ℕ) (T : ℕ → ℕ → ℝ) (y : ℕ) : ℝ :=
  if y + 128 * d < 2048 then back d (2048 * c + y) (T (2048 * c + y)) else if c = 0 then 0 else back d (2048 * (c - 1) + y) (T (2048 * (c - 1) + y))

include hL hc hd hP

theorem canon_tiles (k : Kind) (hk : ∀ p, k.rows p = p.here ∨ k.rows p = p.back) (hT : Tiles d k.rows P) (G : ℕ → ℕ → ℝ)
    (hG : ∀ p ∈ P, ∀ i < 128, ∀ x, kindAt f g k c d p i (128 * H + x) = G ((k.rows p).off 0 + d * i) x) :
    Is2 (View.canon (piecesOf k (BitVec.ofNat 32 c) L P)) G :=
  canon_rows hd k.rows (fun p => (pieceAt k (BitVec.ofNat 32 c) L p).2) P
    (fun p hp => by
      rcases hk p with e | e <;> rw [e]
      · exact (hP p hp).1
      · exact (hP p hp).2.1)
    hT G fun p hp => Is2.to (piece_value hL hd (hP p hp) hc k) fun i x hi _ => hG p hp i hi x

theorem canon_q (hT : Tiles d Place.here P) : Is2 (View.canon (piecesOf .q (BitVec.ofNat 32 c) L P))
    (fun y x => win d (2048 * c + y) (fun s => grade f g ((128 * H + x) / 64) (2048 * c + y) s * f s (512 + (128 * H + x))) * (1 / 8)) :=
  canon_tiles hL hc hd hP .q (fun _ => .inl rfl) hT _ fun _ _ _ _ _ => rfl

theorem canon_kOwn (hT : Tiles d Place.here P) : Is2 (View.canon (piecesOf .kOwn (BitVec.ofNat 32 c) L P))
    (fun y x => own d (2048 * c + y) (keyTerm f g (128 * H + x) (2048 * c + y))) :=
  canon_tiles hL hc hd hP .kOwn (fun _ => .inl rfl) hT _ fun _ _ _ _ _ => rfl

theorem canon_vOwn (hT : Tiles d Place.here P) : Is2 (View.canon (piecesOf .vOwn (BitVec.ofNat 32 c) L P))
    (fun y x => own d (2048 * c + y) (valTerm f g (128 * H + x) (2048 * c + y))) :=
  canon_tiles hL hc hd hP .vOwn (fun _ => .inl rfl) hT _ fun _ _ _ _ _ => rfl

omit hL hc hP in
theorem back_place (T : ℕ → ℕ → ℝ) {p : Place} (hp : Sited d p) (i : ℕ) (hi : i < 128) :
    (if p.first = true ∧ c = 0 then 0 else back d (bPos c d p i) (T (bPos c d p i))) = backAt c d T (p.back.off 0 + d * i) := by
  obtain ⟨l1, -, h1, h2, h3, h4, h5, h6⟩ := hp
  have h7 : p.here.off 0 + d * 127 < 2048 := by
    have := p.here.inb 0
    rw [l1.2.2] at this
    exact this.resolve_left (by decide)
  unfold backAt bPos
  cases hs : p.first
  · have := h6 hs
    rw [if_neg (show ¬(false = true ∧ c = 0) by simp), if_neg Bool.false_ne_true, if_pos (show p.back.off 0 + d * i + 128 * d < 2048 by rcases hd with rfl | rfl | rfl <;> omega)]
  · have := h5 hs
    rw [if_neg (by rcases hd with rfl | rfl | rfl <;> omega : ¬ p.back.off 0 + d * i + 128 * d < 2048), if_pos rfl]
    simp only [true_and]

theorem canon_kBack (hT : Tiles d Place.back P) : Is2 (View.canon (piecesOf .kBack (BitVec.ofNat 32 c) L P))
    (fun y x => backAt c d (keyTerm f g (128 * H + x)) y) :=
  canon_tiles hL hc hd hP .kBack (fun _ => .inr rfl) hT _ fun p hp i hi x => back_place hd (keyTerm f g (128 * H + x)) (hP p hp) i hi

theorem canon_vBack (hT : Tiles d Place.back P) : Is2 (View.canon (piecesOf .vBack (BitVec.ofNat 32 c) L P))
    (fun y x => backAt c d (valTerm f g (128 * H + x)) y) :=
  canon_tiles hL hc hd hP .vBack (fun _ => .inr rfl) hT _ fun p hp i hi x => back_place hd (valTerm f g (128 * H + x)) (hP p hp) i hi
end

/-! The sums of the three dilations, from one chunk to the next. -/

/-- A chunk's sums as carried on: what its own queries give its keys. -/
def carryAt (c : ℕ) (T : ℕ → ℕ → ℝ) (y : ℕ) : ℝ :=
  own 1 (2048 * c + y) (T (2048 * c + y)) + own 4 (2048 * c + y) (T (2048 * c + y)) + own 16 (2048 * c + y) (T (2048 * c + y))
    + (if y < 1920 then backAt c 1 T y else 0) + (if y < 1536 then backAt c 4 T y else 0)

theorem carry_done (c y : ℕ) (hc : c < 3) (hy : y < 2048) (T : ℕ → ℕ → ℝ) :
    carryAt c T y + (if 1920 ≤ y then backAt (c + 1) 1 T y else 0) + (if 1536 ≤ y then backAt (c + 1) 4 T y else 0) + backAt (c + 1) 16 T y = gather T (2048 * c + y) := by
  unfold carryAt gather fan
  rw [if_pos (by omega : 2048 * c + y + 128 * 1 < 8192), if_pos (by omega : 2048 * c + y + 128 * 4 < 8192), if_pos (by omega : 2048 * c + y + 128 * 16 < 8192)]
  unfold backAt
  rw [Nat.add_sub_cancel]
  simp only [Nat.succ_ne_zero, if_false]
  rw [if_neg (by omega : ¬ y + 128 * 16 < 2048)]
  by_cases a : y < 1536
  · simp only [show y < 1920 by omega, a, show ¬ 1920 ≤ y by omega, show ¬ 1536 ≤ y by omega, show y + 128 * 1 < 2048 by omega, show y + 128 * 4 < 2048 by omega, if_true, if_false]
    ring
  · by_cases b : y < 1920
    · simp only [b, a, show ¬ 1920 ≤ y by omega, show 1536 ≤ y by omega, show y + 128 * 1 < 2048 by omega, show ¬ y + 128 * 4 < 2048 by omega, if_true, if_false]
      ring
    · simp only [b, a, show 1920 ≤ y by omega, show 1536 ≤ y by omega, show ¬ y + 128 * 1 < 2048 by omega, show ¬ y + 128 * 4 < 2048 by omega, if_true, if_false]
      ring

theorem carry_last (y : ℕ) (hy : y < 2048) (T : ℕ → ℕ → ℝ) : carryAt 3 T y = gather T (2048 * 3 + y) := by
  unfold carryAt gather fan backAt
  rw [if_neg (by omega : ¬ 2048 * 3 + y + 128 * 16 < 8192)]
  by_cases a : y < 1536
  · simp only [show y < 1920 by omega, a, show y + 128 * 1 < 2048 by omega, show y + 128 * 4 < 2048 by omega, show 2048 * 3 + y + 128 * 1 < 8192 by omega, show 2048 * 3 + y + 128 * 4 < 8192 by omega, if_true]
    ring
  · by_cases b : y < 1920
    · simp only [b, a, show y + 128 * 1 < 2048 by omega, show 2048 * 3 + y + 128 * 1 < 8192 by omega, show ¬ 2048 * 3 + y + 128 * 4 < 8192 by omega, if_true, if_false]
      ring
    · simp only [b, a, show ¬ 2048 * 3 + y + 128 * 1 < 8192 by omega, show ¬ 2048 * 3 + y + 128 * 4 < 8192 by omega, if_false]
      ring

end Cert.Attn

end
-- ==== Proof.Attn.Forward.lean ====
/-
  Windowed attention's forward pass on dense arrays, and its meaning on arrays with real entries.
-/
module

public import proofs.«01_k».proof.Proof.Attn.Spec

@[expose] public section

set_option maxRecDepth 16384

noncomputable section

namespace Cert.Dense

open Cert.Reference6Ideal Cert.Reference6Ideal.Gen
open Idealize.ShloMosaic
open Cert.Spec

/-- A projection's queries, keys and values. -/
def qOf (x : FVec Ideal S8192x2048 .f32) : Rows := part 0 slices_S8192x1536_S8192x512_0_0 x
def kOf (x : FVec Ideal S8192x2048 .f32) : Rows := part 512 slices_S8192x1536_S8192x512_0_512 x
def vOf (x : FVec Ideal S8192x2048 .f32) : Rows := part 1024 slices_S8192x1536_S8192x512_0_1024 x

/-- A pattern's masked scores. -/
def scored (w d : BitVec 32) (x : FVec Ideal S8192x2048 .f32) : Cube := masked (band w d) (scores (qOf x) (kOf x))

/-- A pattern's weights, their sums, its output and the logarithm of its sums, from its masked scores. -/
def wts (X : Cube) : Cube := weights X (tops X)
def sumOf (X : Cube) : Col := sums (wts X)
def outOf (X : Cube) (v : Rows) : Heads := outs (mixed (wts X) v) (sumOf X)
def logOf (X : Cube) : Col := logs (tops X) (sumOf X)

/-- The largest of three logarithms; the sum of the three relative to it; a pattern's share. -/
def topOf (l1 l2 l3 : Col) : Col := maximumf (maximumf l1 l2) l3
def denOf (l1 l2 l3 : Col) : Col := addf (addf (rel l1 (topOf l1 l2 l3)) (rel l2 (topOf l1 l2 l3))) (rel l3 (topOf l1 l2 l3))
def share (l l1 l2 l3 : Col) : Col := Host.divf (rel l (topOf l1 l2 l3)) (denOf l1 l2 l3)

/-- The attention's output, and the logarithm of all sums, in rows. -/
def attOf (l1 l2 l3 : Col) (o1 o2 o3 : Heads) : Flat := flat (blend (share l1 l1 l2 l3) o1 (share l2 l1 l2 l3) o2 (share l3 l1 l2 l3) o3)
def lseOf (l1 l2 l3 : Col) : Flat := flat (wide (addf (topOf l1 l2 l3) (Host.log (denOf l1 l2 l3))))

theorem Is3.congr {n k l : ℕ} {v : (⟨3, ![n, k, l]⟩ : Shape).Idx → EReal} {f f' : ℕ → ℕ → ℕ → ℝ} (hv : Is3 v f)
    (h : ∀ (i : Fin n) (j : Fin k) (m : Fin l), f i.val j.val m.val = f' i.val j.val m.val) : Is3 v f' :=
  fun i j m => (hv i j m).trans (congrArg _ (h i j m))
theorem IsCol.congr {v : Col} {f f' : ℕ → ℕ → ℝ} (hv : IsCol v f) (h : ∀ (i : Fin 8) (j : Fin 8192), f i.val j.val = f' i.val j.val) : IsCol v f' :=
  fun i j => (hv i j).trans (congrArg _ (h i j))

/-- What a pattern's masked scores lead to. -/
structure Pattern (f : ℕ → ℕ → ℝ) (d : ℕ) (μ : ℕ → ℕ → ℝ) (X : Cube) (v : Rows) : Prop where
  msk : IsMasked X d (score f)
  hit : ∀ (h : Fin 8) (t : Fin 8192), ∃ s : Fin 8192, near d t.val s.val ∧ score f h.val t.val s.val = μ h.val t.val
  top : Is2 (tops X) μ
  P : Is3 (wts X) (fun h t s => if near d t s then Real.exp (score f h t s - μ h t) else 0)
  A : IsCol (sumOf X) (fun h t => total f d h t * Real.exp (-μ h t))
  N : Is3 (mixed (wts X) v) (fun h t l => weighted f d h t l * Real.exp (-μ h t))
  o : Is3 (outOf X v) (fun h t l => weighted f d h t l / total f d h t)
  l : IsCol (logOf X) (fun h t => Real.log (total f d h t))

variable {f : ℕ → ℕ → ℝ}

theorem pattern (d : ℕ) (h0 : 0 < d) {M : Mask} {q k v : Rows} (hM : ∀ t s : Fin 8192, M (ix2 t s) = if near d t.val s.val then 1#1 else 0#1)
    (hq : Is3 q (fun t h l => f t (64 * h + l))) (hk : Is3 k (fun t h l => f t (512 + 64 * h + l))) (hv : Is3 v (fun t h l => f t (1024 + 64 * h + l))) :
    ∃ μ : ℕ → ℕ → ℝ, Pattern f d μ (masked M (scores q k)) v := by
  have hX : IsMasked (masked M (scores q k)) d (score f) := masked_apply hM (scores_apply hq hk)
  choose s hs he using tops_apply hX
  let μ : ℕ → ℕ → ℝ := fun h t => if h' : h < 8 ∧ t < 8192 then score f h t (s ⟨h, h'.1⟩ ⟨t, h'.2⟩) else 0
  have hμ : ∀ (h : Fin 8) (t : Fin 8192), μ h.val t.val = score f h.val t.val (s h t).val := fun h t => dif_pos (And.intro h.isLt t.isLt)
  have top : Is2 (tops (masked M (scores q k))) μ := fun h t => (he h t).trans (congrArg _ (hμ h t).symm)
  have P := weights_apply hX top
  have A : IsCol (sumOf (masked M (scores q k))) (fun h t => total f d h t * Real.exp (-μ h t)) := (sums_apply P).congr fun h t => by
    rw [dense_win d h0 t.val t.isLt (fun s => Real.exp (score f h.val t.val s - μ h.val t.val)), total, ← win_mul]
    exact win_congr fun s _ => by rw [sub_eq_add_neg, Real.exp_add]
  have N : Is3 (mixed (wts (masked M (scores q k))) v) (fun h t l => weighted f d h t l * Real.exp (-μ h t)) := (mixed_apply P hv).congr fun h t l => by
    rw [Finset.sum_congr rfl (fun s _ => ite_mul _ _ _ _)]
    simp only [zero_mul]
    rw [dense_win d h0 t.val t.isLt (fun s => Real.exp (score f h.val t.val s - μ h.val t.val) * f s (1024 + 64 * h.val + l.val)), weighted, ← win_mul]
    exact win_congr fun s _ => by rw [sub_eq_add_neg, Real.exp_add]; ring
  have pos : ∀ h t, 0 < total f d h t * Real.exp (-μ h t) := fun h t => mul_pos (total_pos f d h t) (Real.exp_pos _)
  refine ⟨μ, hX, fun h t => ⟨s h t, hs h t, (hμ h t).symm⟩, top, P, A, N, ?_, ?_⟩
  · exact (outs_apply N A fun h t => (pos h t).ne').congr fun h t l => by
      exact mul_div_mul_right (weighted f d h.val t.val l.val) (total f d h.val t.val) (Real.exp_pos (-μ h.val t.val)).ne'
  · exact (logs_apply top A pos).congr fun h t => by
      rw [Real.log_mul (total_pos f d h.val t.val).ne' (Real.exp_pos _).ne', Real.log_exp]; ring

theorem log_apply {a : Col} {g : ℕ → ℕ → ℝ} (ha : IsCol a g) (h0 : ∀ h t, 0 < g h t) : IsCol (Host.log a) (fun h t => Real.log (g h t)) := by
  intro h t
  pointwise
  rw [ha h t, Ideal.log_coe, if_neg (not_le.mpr (h0 _ _))]

/-- The largest of the three logarithms. -/
def peak (f : ℕ → ℕ → ℝ) (h t : ℕ) : ℝ := max (max (Real.log (total f 1 h t)) (Real.log (total f 4 h t))) (Real.log (total f 16 h t))

section
variable {l1 l2 l3 : Col} (h1 : IsCol l1 (fun h t => Real.log (total f 1 h t))) (h2 : IsCol l2 (fun h t => Real.log (total f 4 h t)))
  (h3 : IsCol l3 (fun h t => Real.log (total f 16 h t)))
include h1 h2 h3

theorem topOf_apply : IsCol (topOf l1 l2 l3) (peak f) := max_apply (max_apply h1 h2) h3

theorem rel_total {d : ℕ} {l : Col} (h : IsCol l (fun h t => Real.log (total f d h t))) :
    IsCol (rel l (topOf l1 l2 l3)) (fun h t => total f d h t * Real.exp (-peak f h t)) :=
  (rel_apply h (topOf_apply h1 h2 h3)).congr fun i j => by rw [sub_eq_add_neg, Real.exp_add, Real.exp_log (total_pos f d _ _)]

theorem denOf_apply : IsCol (denOf l1 l2 l3) (fun h t => allTotal f h t * Real.exp (-peak f h t)) :=
  (add_apply (add_apply (rel_total h1 h2 h3 h1) (rel_total h1 h2 h3 h2)) (rel_total h1 h2 h3 h3)).congr fun i j => by unfold allTotal; ring

theorem den_pos (h t : ℕ) : 0 < allTotal f h t * Real.exp (-peak f h t) := mul_pos (allTotal_pos f h t) (Real.exp_pos _)

theorem share_apply {d : ℕ} {l : Col} (h : IsCol l (fun h t => Real.log (total f d h t))) :
    IsCol (share l l1 l2 l3) (fun h t => total f d h t / allTotal f h t) :=
  (div_apply (rel_total h1 h2 h3 h) (denOf_apply h1 h2 h3) fun i j => (den_pos h1 h2 h3 i j).ne').congr fun i j => by
    exact mul_div_mul_right (total f d i.val j.val) (allTotal f i.val j.val) (Real.exp_pos (-peak f i.val j.val)).ne'

theorem attOf_apply {o1 o2 o3 : Heads} (g1 : Is3 o1 (fun h t l => weighted f 1 h t l / total f 1 h t))
    (g2 : Is3 o2 (fun h t l => weighted f 4 h t l / total f 4 h t)) (g3 : Is3 o3 (fun h t l => weighted f 16 h t l / total f 16 h t)) :
    Is2 (attOf l1 l2 l3 o1 o2 o3) (fun t L => att f (L / 64) t (L % 64)) :=
  flat_apply (f := att f) ((add3_apply (add3_apply (scale_apply (share_apply h1 h2 h3 h1) g1) (scale_apply (share_apply h1 h2 h3 h2) g2))
    (scale_apply (share_apply h1 h2 h3 h3) g3)).congr fun h t l => by
      have a := (total_pos f 1 h.val t.val).ne'; have b := (total_pos f 4 h.val t.val).ne'; have c := (total_pos f 16 h.val t.val).ne'
      have z := (allTotal_pos f h.val t.val).ne'
      unfold att; field_simp)

theorem lseOf_apply : Is2 (lseOf l1 l2 l3) (fun t L => Real.log (allTotal f (L / 64) t)) :=
  flat_apply (f := fun h t _ => Real.log (allTotal f h t)) (wide_apply ((add_apply (topOf_apply h1 h2 h3)
    (log_apply (denOf_apply h1 h2 h3) (den_pos h1 h2 h3))).congr fun i j => by
      rw [Real.log_mul (allTotal_pos f i.val j.val).ne' (Real.exp_pos _).ne', Real.log_exp]; ring))
end

/-! The three patterns of a projection with real entries. -/

section
variable {x : FVec Ideal S8192x2048 .f32} (hx : ∀ (R : Fin 8192) (C : Fin 2048), C.val < 1536 → x (ix2 R C) = (f R.val C.val : EReal))
include hx

theorem qOf_apply : Is3 (qOf x) (fun t h l => f t (64 * h + l)) :=
  (part_apply 0 (by decide) _ x f hx).congr fun t h l => by rw [Nat.zero_add]
theorem kOf_apply : Is3 (kOf x) (fun t h l => f t (512 + 64 * h + l)) := part_apply 512 (by decide) _ x f hx
theorem vOf_apply : Is3 (vOf x) (fun t h l => f t (1024 + 64 * h + l)) := part_apply 1024 (by decide) _ x f hx

theorem scored_pattern (d : ℕ) (h0 : 0 < d) (h1 : d ≤ 16) : ∃ μ : ℕ → ℕ → ℝ, Pattern f d μ (scored (BitVec.ofNat 32 (128 * d)) (BitVec.ofNat 32 d) x) (vOf x) :=
  pattern d h0 (band_apply d h0 h1) (qOf_apply hx) (kOf_apply hx) (vOf_apply hx)
end

end Cert.Dense

end
-- ==== Proof.Attn.Host.lean ====
/-
  What the host prepares: the attention's output and the logarithm of its sums, from the projection.
-/
module

public import proofs.«01_k».proof.Proof.Attn.Forward
public import proofs.«01_k».proof.Proof.Gen.Kernel6Ideal.Frame

@[expose] public section

set_option maxRecDepth 16384

noncomputable section

namespace Cert.Attn

open Cert.Kernel6Ideal Cert.Kernel6Ideal.Gen
open Idealize.ShloMosaic Idealize.ShloMosaic.TcCoe Idealize.ShloMosaic.Tactic
open Cert.Dense

section
variable (X : Valuation τ sig (Elt Ideal))

/-- The lines up to each pattern's masked scores, and the last line. -/
abbrev stage1 : Valuation τ sig (Elt Ideal) := StableHlo.after hostOps0_1 (StableHlo.after hostOps0 X)
abbrev stage2 : Valuation τ sig (Elt Ideal) := StableHlo.after hostOps0_3 (StableHlo.after hostOps0_2 X)
abbrev stage3 : Valuation τ sig (Elt Ideal) := StableHlo.after hostOps0_5 (StableHlo.after hostOps0_4 X)
abbrev stage4 : Valuation τ sig (Elt Ideal) := StableHlo.after hostOps0_6 X

set_option maxHeartbeats 4000000 in
theorem stage1_q : @Eq (Vec Ideal S8192x8x64 .f32) (stage1 X main_v4) (qOf (X main_arg0)) := by
  after_results
  rfl

set_option maxHeartbeats 4000000 in
theorem stage1_k : @Eq (Vec Ideal S8192x8x64 .f32) (stage1 X main_v5) (kOf (X main_arg0)) := by
  after_results
  rfl

set_option maxHeartbeats 4000000 in
theorem stage1_v : @Eq (Vec Ideal S8192x8x64 .f32) (stage1 X main_v6) (vOf (X main_arg0)) := by
  after_results
  rfl

set_option maxHeartbeats 4000000 in
theorem stage1_x : @Eq (Vec Ideal S8x8192x8192 .f32) (stage1 X main_v26) (masked (band 128#32 1#32) (scores (qOf (X main_arg0)) (kOf (X main_arg0)))) := by
  after_results
  rfl

set_option maxHeartbeats 4000000 in
theorem stage2_q : @Eq (Vec Ideal S8192x8x64 .f32) (stage2 X main_v4) (X main_v4) := by
  after_results

set_option maxHeartbeats 4000000 in
theorem stage2_k : @Eq (Vec Ideal S8192x8x64 .f32) (stage2 X main_v5) (X main_v5) := by
  after_results

set_option maxHeartbeats 4000000 in
theorem stage2_v : @Eq (Vec Ideal S8192x8x64 .f32) (stage2 X main_v6) (X main_v6) := by
  after_results

set_option maxHeartbeats 4000000 in
theorem stage2_o : @Eq (Vec Ideal S8x8192x64 .f32) (stage2 X main_v36) (outOf (X main_v26) (X main_v6)) := by
  after_results
  rfl

set_option maxHeartbeats 4000000 in
theorem stage2_l : @Eq (Vec Ideal S8x8192x1 .f32) (stage2 X main_v38) (logOf (X main_v26)) := by
  after_results
  rfl

set_option maxHeartbeats 4000000 in
theorem stage2_x : @Eq (Vec Ideal S8x8192x8192 .f32) (stage2 X main_v58) (masked (band 512#32 4#32) (scores (X main_v4) (X main_v5))) := by
  after_results
  rfl

set_option maxHeartbeats 4000000 in
theorem stage3_v : @Eq (Vec Ideal S8192x8x64 .f32) (stage3 X main_v6) (X main_v6) := by
  after_results

set_option maxHeartbeats 4000000 in
theorem stage3_o1 : @Eq (Vec Ideal S8x8192x64 .f32) (stage3 X main_v36) (X main_v36) := by
  after_results

set_option maxHeartbeats 4000000 in
theorem stage3_l1 : @Eq (Vec Ideal S8x8192x1 .f32) (stage3 X main_v38) (X main_v38) := by
  after_results

set_option maxHeartbeats 4000000 in
theorem stage3_o : @Eq (Vec Ideal S8x8192x64 .f32) (stage3 X main_v68) (outOf (X main_v58) (X main_v6)) := by
  after_results
  rfl

set_option maxHeartbeats 4000000 in
theorem stage3_l : @Eq (Vec Ideal S8x8192x1 .f32) (stage3 X main_v70) (logOf (X main_v58)) := by
  after_results
  rfl

set_option maxHeartbeats 4000000 in
theorem stage3_x : @Eq (Vec Ideal S8x8192x8192 .f32) (stage3 X main_v90) (masked (band 2048#32 16#32) (scores (X main_v4) (X main_v5))) := by
  after_results
  rfl

set_option maxHeartbeats 4000000 in
theorem stage4_att : @Eq (Vec Ideal S8192x512 .f32) (stage4 X main_v125) (attOf (X main_v38) (X main_v70) (logOf (X main_v90)) (X main_v36) (X main_v68) (outOf (X main_v90) (X main_v6))) := by
  after_results
  rfl

set_option maxHeartbeats 4000000 in
theorem stage4_lse : @Eq (Vec Ideal S8192x512 .f32) (stage4 X main_v130) (lseOf (X main_v38) (X main_v70) (logOf (X main_v90))) := by
  after_results
  rfl

end

/-! The arrays the kernel is given. -/

variable (m : (ℓ : Loc nD τ sig) → Buf (Elt Ideal) ℓ) (c : Dev nD)

/-- The projection and the gradient of the attention's output. -/
abbrev proj : FVec Ideal S8192x2048 .f32 := m ((c : Thread nD τ).loc main_arg0)
abbrev dcat : FVec Ideal S8192x1024 .f32 := m ((c : Thread nD τ).loc main_arg1)

theorem V_stages (b : Ref sig .tc) : V m c b = stage4 (stage3 (stage2 (stage1 fun b => m (c, b)))) b := by
  unfold V
  simp only [List.flatten_cons, List.flatten_nil, List.append_nil, StableHlo.after_append]

theorem V_att : @Eq (Vec Ideal S8192x512 .f32) (V m c main_v125) (attOf (logOf (scored 128#32 1#32 (proj m c))) (logOf (scored 512#32 4#32 (proj m c)))
    (logOf (scored 2048#32 16#32 (proj m c))) (outOf (scored 128#32 1#32 (proj m c)) (vOf (proj m c))) (outOf (scored 512#32 4#32 (proj m c)) (vOf (proj m c)))
    (outOf (scored 2048#32 16#32 (proj m c)) (vOf (proj m c)))) := by
  refine (V_stages m c main_v125).trans ((stage4_att _).trans ?_)
  rw [stage3_l1, stage3_l, stage3_x, stage3_o1, stage3_o, stage3_v, stage2_l, stage2_x, stage2_o, stage2_q, stage2_k, stage2_v, stage1_x, stage1_q, stage1_k, stage1_v]
  rfl

theorem V_lse : @Eq (Vec Ideal S8192x512 .f32) (V m c main_v130) (lseOf (logOf (scored 128#32 1#32 (proj m c))) (logOf (scored 512#32 4#32 (proj m c)))
    (logOf (scored 2048#32 16#32 (proj m c)))) := by
  refine (V_stages m c main_v130).trans ((stage4_lse _).trans ?_)
  rw [stage3_l1, stage3_l, stage3_x, stage2_l, stage2_x, stage2_q, stage2_k, stage1_x, stage1_q, stage1_k]
  rfl

end Cert.Attn

end
-- ==== Proof.Attn.Block.lean ====
/-
  What a working step loads, over arrays with real entries.
-/
module

public import proofs.«01_k».proof.Proof.Attn.Buffers
public import proofs.«01_k».proof.Proof.Attn.Host

@[expose] public section

set_option maxRecDepth 16384

noncomputable section

namespace Cert.Attn

open Cert.Kernel6Ideal Cert.Kernel6Ideal.Gen
open Idealize.ShloMosaic Idealize.ShloMosaic.TcCoe Idealize.ShloMosaic.Tactic
open Cert.Dense (Is2 scored_pattern attOf_apply lseOf_apply vOf_apply)
open Cert.Spec

/-! The saved logarithms and the row sums, one head's spread over the lanes. -/

theorem lane_low {a : FVec Ideal S2048x128 .f32} {A : ℕ → ℕ → ℝ} (ha : Is2 a A) (u : ℕ → ℕ → ℝ) (hA : ∀ i x, x < 128 → A i x = u i (x / 64)) :
    Is2 (k0_pay17 (F := Ideal) k0_pay8 (k0_pay13 a) (k0_pay14 a)) (fun i _ => u i 0) := by
  intro i x
  have hx := x.isLt
  pointwise [k0_pay17, k0_pay13, k0_pay14]
  rw [low_lane x]
  by_cases h : x.val / 64 = 0
  · rw [if_pos h, show ∀ p q : EReal, Scalar.select 1#1 p q = p from fun _ _ => rfl, ha i x, hA _ _ hx, h]
  · rw [if_neg h, show ∀ p q : EReal, Scalar.select 0#1 p q = q from fun _ _ => rfl, ha i _, hA _ _ (by show (x.val + 128 - 64) % 128 < 128; omega)]
    refine congrArg (fun z => ((u i.val z : ℝ) : EReal)) ?_
    show (x.val + 128 - 64) % 128 / 64 = 0
    omega

theorem lane_high {a : FVec Ideal S2048x128 .f32} {A : ℕ → ℕ → ℝ} (ha : Is2 a A) (u : ℕ → ℕ → ℝ) (hA : ∀ i x, x < 128 → A i x = u i (x / 64)) :
    Is2 (k0_pay19 (F := Ideal) k0_pay9 (k0_pay13 a) (k0_pay14 a)) (fun i _ => u i 1) := by
  intro i x
  have hx := x.isLt
  pointwise [k0_pay19, k0_pay13, k0_pay14]
  rw [high_lane x]
  by_cases h : x.val / 64 = 1
  · rw [if_pos h, show ∀ p q : EReal, Scalar.select 1#1 p q = p from fun _ _ => rfl, ha i x, hA _ _ hx, h]
  · rw [if_neg h, show ∀ p q : EReal, Scalar.select 0#1 p q = q from fun _ _ => rfl, ha i _, hA _ _ (by show (x.val + 128 - 64) % 128 < 128; omega)]
    refine congrArg (fun z => ((u i.val z : ℝ) : EReal)) ?_
    show (x.val + 128 - 64) % 128 / 64 = 1
    omega

/-- A row's products over one head's lanes. -/
theorem row_half {a b : FVec Ideal S2048x128 .f32} {A B : ℕ → ℕ → ℝ} (ha : Is2 a A) (hb : Is2 b B) (i : Fin 2048) (k : ℕ) (hk : k < 2) (w : Fin 128 → BitVec 1)
    (hw : ∀ x, w x = if x.val / 64 = k then 1#1 else 0#1) :
    ∑ x : Fin 128, Scalar.select (w x) (a (ix2 i x) * b (ix2 i x)) (0 : EReal) = ((∑ l : Fin 64, A i.val (64 * k + l.val) * B i.val (64 * k + l.val) : ℝ) : EReal) := by
  rw [← half_sum k hk (A i.val) (B i.val)]
  refine (Finset.sum_congr rfl fun x _ => ?_).trans (NormGrad.sum_mul (a := fun x => ((if x.val / 64 = k then A i.val x.val else 0 : ℝ) : EReal)) (b := fun x => b (ix2 i x)) (fun _ => rfl) (fun x => hb i x))
  rw [hw x, ha i x]
  split <;> simp [Scalar.select]

theorem row_low {a b : FVec Ideal S2048x128 .f32} {A B : ℕ → ℕ → ℝ} (ha : Is2 a A) (hb : Is2 b B) :
    Is2 (k0_pay16 (F := Ideal) (k0_pay15 a b)) (fun i _ => ∑ l : Fin 64, A i l.val * B i l.val) := by
  intro i x
  pointwise [k0_pay16, k0_pay15, k0_pay12]
  refine (row_half ha hb i 0 (by decide) (fun x => k0_pay8 (ix2 0 x)) low_lane).trans ?_
  simp only [Nat.mul_zero, Nat.zero_add]

theorem row_high {a b : FVec Ideal S2048x128 .f32} {A B : ℕ → ℕ → ℝ} (ha : Is2 a A) (hb : Is2 b B) :
    Is2 (k0_pay18 (F := Ideal) k0_pay9 (k0_pay12 a b)) (fun i _ => ∑ l : Fin 64, A i (64 + l.val) * B i (64 + l.val)) := by
  intro i x
  pointwise [k0_pay18, k0_pay12]
  refine (row_half ha hb i 1 (by decide) (fun x => k0_pay9 (ix2 0 x)) high_lane).trans ?_
  simp only [Nat.mul_one]

/-! The blocks of the arrays. -/

variable (m : (ℓ : Loc nD τ sig) → Buf (Elt Ideal) ℓ) (c : Dev nD)

theorem points (t : Fin cfg0.N) : t.val < 20 := lt_of_lt_of_eq t.isLt N_0

theorem index0 (t : Fin cfg0.N) (h : t.val % 5 ≠ 4) : win0_0.index t 0 = t.val % 5 ∧ win0_0.index t 1 = t.val / 5 :=
  (by decide +kernel : ∀ t : Fin grid0.N, t.val % 5 ≠ 4 → win0_0.index t 0 = t.val % 5 ∧ win0_0.index t 1 = t.val / 5) t h
theorem place0 (X : Vec Ideal S8192x2048 .f32) (t : Fin cfg0.N) (h : t.val % 5 ≠ 4) (y : Fin 2048) (x : Fin 128) :
    (((cfg0.win 0).blk t).view.read (Elt Ideal) X : Vec Ideal S2048x128 .f32) (ix2 y x)
      = X (ix2 ⟨2048 * (t.val % 5) + y.val, by omega⟩ ⟨128 * (t.val / 5) + x.val, by have := points t; omega⟩) := by
  rw [View.read_apply]
  show X _ = X _
  congr 1
  funext a
  apply Fin.ext
  match a with
  | ⟨0, _⟩ => show win0_0.index t 0 * 2048 + 1 * y.val = 2048 * (t.val % 5) + y.val; rw [(index0 t h).1]; omega
  | ⟨1, _⟩ => show win0_0.index t 1 * 128 + 1 * x.val = 128 * (t.val / 5) + x.val; rw [(index0 t h).2]; omega
theorem block0 (t : Fin cfg0.N) (h : t.val % 5 ≠ 4) (y : Fin 2048) (x : Fin 128) : (iblk m c 0 t : Vec Ideal S2048x128 .f32) (ix2 y x)
    = (V m c main_arg0 : Vec Ideal S8192x2048 .f32) (ix2 ⟨2048 * (t.val % 5) + y.val, by omega⟩ ⟨128 * (t.val / 5) + x.val, by have := points t; omega⟩) :=
  place0 (V m c main_arg0) t h y x

theorem index1 (t : Fin cfg0.N) (h : t.val % 5 ≠ 4) : win0_1.index t 0 = t.val % 5 - 1 ∧ win0_1.index t 1 = 4 + t.val / 5 :=
  (by decide +kernel : ∀ t : Fin grid0.N, t.val % 5 ≠ 4 → win0_1.index t 0 = t.val % 5 - 1 ∧ win0_1.index t 1 = 4 + t.val / 5) t h
theorem place1 (X : Vec Ideal S8192x2048 .f32) (t : Fin cfg0.N) (h : t.val % 5 ≠ 4) (y : Fin 2048) (x : Fin 128) :
    (((cfg0.win 1).blk t).view.read (Elt Ideal) X : Vec Ideal S2048x128 .f32) (ix2 y x)
      = X (ix2 ⟨2048 * (t.val % 5 - 1) + y.val, by omega⟩ ⟨128 * (4 + t.val / 5) + x.val, by have := points t; omega⟩) := by
  rw [View.read_apply]
  show X _ = X _
  congr 1
  funext a
  apply Fin.ext
  match a with
  | ⟨0, _⟩ => show win0_1.index t 0 * 2048 + 1 * y.val = 2048 * (t.val % 5 - 1) + y.val; rw [(index1 t h).1]; omega
  | ⟨1, _⟩ => show win0_1.index t 1 * 128 + 1 * x.val = 128 * (4 + t.val / 5) + x.val; rw [(index1 t h).2]; omega
theorem block1 (t : Fin cfg0.N) (h : t.val % 5 ≠ 4) (y : Fin 2048) (x : Fin 128) : (iblk m c 1 t : Vec Ideal S2048x128 .f32) (ix2 y x)
    = (V m c main_arg0 : Vec Ideal S8192x2048 .f32) (ix2 ⟨2048 * (t.val % 5 - 1) + y.val, by omega⟩ ⟨128 * (4 + t.val / 5) + x.val, by have := points t; omega⟩) :=
  place1 (V m c main_arg0) t h y x

theorem index2 (t : Fin cfg0.N) (h : t.val % 5 ≠ 4) : win0_2.index t 0 = t.val % 5 ∧ win0_2.index t 1 = 4 + t.val / 5 :=
  (by decide +kernel : ∀ t : Fin grid0.N, t.val % 5 ≠ 4 → win0_2.index t 0 = t.val % 5 ∧ win0_2.index t 1 = 4 + t.val / 5) t h
theorem place2 (X : Vec Ideal S8192x2048 .f32) (t : Fin cfg0.N) (h : t.val % 5 ≠ 4) (y : Fin 2048) (x : Fin 128) :
    (((cfg0.win 2).blk t).view.read (Elt Ideal) X : Vec Ideal S2048x128 .f32) (ix2 y x)
      = X (ix2 ⟨2048 * (t.val % 5) + y.val, by omega⟩ ⟨128 * (4 + t.val / 5) + x.val, by have := points t; omega⟩) := by
  rw [View.read_apply]
  show X _ = X _
  congr 1
  funext a
  apply Fin.ext
  match a with
  | ⟨0, _⟩ => show win0_2.index t 0 * 2048 + 1 * y.val = 2048 * (t.val % 5) + y.val; rw [(index2 t h).1]; omega
  | ⟨1, _⟩ => show win0_2.index t 1 * 128 + 1 * x.val = 128 * (4 + t.val / 5) + x.val; rw [(index2 t h).2]; omega
theorem block2 (t : Fin cfg0.N) (h : t.val % 5 ≠ 4) (y : Fin 2048) (x : Fin 128) : (iblk m c 2 t : Vec Ideal S2048x128 .f32) (ix2 y x)
    = (V m c main_arg0 : Vec Ideal S8192x2048 .f32) (ix2 ⟨2048 * (t.val % 5) + y.val, by omega⟩ ⟨128 * (4 + t.val / 5) + x.val, by have := points t; omega⟩) :=
  place2 (V m c main_arg0) t h y x

theorem index3 (t : Fin cfg0.N) (h : t.val % 5 ≠ 4) : win0_3.index t 0 = t.val % 5 - 1 ∧ win0_3.index t 1 = 8 + t.val / 5 :=
  (by decide +kernel : ∀ t : Fin grid0.N, t.val % 5 ≠ 4 → win0_3.index t 0 = t.val % 5 - 1 ∧ win0_3.index t 1 = 8 + t.val / 5) t h
theorem place3 (X : Vec Ideal S8192x2048 .f32) (t : Fin cfg0.N) (h : t.val % 5 ≠ 4) (y : Fin 2048) (x : Fin 128) :
    (((cfg0.win 3).blk t).view.read (Elt Ideal) X : Vec Ideal S2048x128 .f32) (ix2 y x)
      = X (ix2 ⟨2048 * (t.val % 5 - 1) + y.val, by omega⟩ ⟨128 * (8 + t.val / 5) + x.val, by have := points t; omega⟩) := by
  rw [View.read_apply]
  show X _ = X _
  congr 1
  funext a
  apply Fin.ext
  match a with
  | ⟨0, _⟩ => show win0_3.index t 0 * 2048 + 1 * y.val = 2048 * (t.val % 5 - 1) + y.val; rw [(index3 t h).1]; omega
  | ⟨1, _⟩ => show win0_3.index t 1 * 128 + 1 * x.val = 128 * (8 + t.val / 5) + x.val; rw [(index3 t h).2]; omega
theorem block3 (t : Fin cfg0.N) (h : t.val % 5 ≠ 4) (y : Fin 2048) (x : Fin 128) : (iblk m c 3 t : Vec Ideal S2048x128 .f32) (ix2 y x)
    = (V m c main_arg0 : Vec Ideal S8192x2048 .f32) (ix2 ⟨2048 * (t.val % 5 - 1) + y.val, by omega⟩ ⟨128 * (8 + t.val / 5) + x.val, by have := points t; omega⟩) :=
  place3 (V m c main_arg0) t h y x

theorem index4 (t : Fin cfg0.N) (h : t.val % 5 ≠ 4) : win0_4.index t 0 = t.val % 5 ∧ win0_4.index t 1 = 8 + t.val / 5 :=
  (by decide +kernel : ∀ t : Fin grid0.N, t.val % 5 ≠ 4 → win0_4.index t 0 = t.val % 5 ∧ win0_4.index t 1 = 8 + t.val / 5) t h
theorem place4 (X : Vec Ideal S8192x2048 .f32) (t : Fin cfg0.N) (h : t.val % 5 ≠ 4) (y : Fin 2048) (x : Fin 128) :
    (((cfg0.win 4).blk t).view.read (Elt Ideal) X : Vec Ideal S2048x128 .f32) (ix2 y x)
      = X (ix2 ⟨2048 * (t.val % 5) + y.val, by omega⟩ ⟨128 * (8 + t.val / 5) + x.val, by have := points t; omega⟩) := by
  rw [View.read_apply]
  show X _ = X _
  congr 1
  funext a
  apply Fin.ext
  match a with
  | ⟨0, _⟩ => show win0_4.index t 0 * 2048 + 1 * y.val = 2048 * (t.val % 5) + y.val; rw [(index4 t h).1]; omega
  | ⟨1, _⟩ => show win0_4.index t 1 * 128 + 1 * x.val = 128 * (8 + t.val / 5) + x.val; rw [(index4 t h).2]; omega
theorem block4 (t : Fin cfg0.N) (h : t.val % 5 ≠ 4) (y : Fin 2048) (x : Fin 128) : (iblk m c 4 t : Vec Ideal S2048x128 .f32) (ix2 y x)
    = (V m c main_arg0 : Vec Ideal S8192x2048 .f32) (ix2 ⟨2048 * (t.val % 5) + y.val, by omega⟩ ⟨128 * (8 + t.val / 5) + x.val, by have := points t; omega⟩) :=
  place4 (V m c main_arg0) t h y x

theorem index5 (t : Fin cfg0.N) (h : t.val % 5 ≠ 4) : win0_5.index t 0 = t.val % 5 ∧ win0_5.index t 1 = t.val / 5 :=
  (by decide +kernel : ∀ t : Fin grid0.N, t.val % 5 ≠ 4 → win0_5.index t 0 = t.val % 5 ∧ win0_5.index t 1 = t.val / 5) t h
theorem place5 (X : Vec Ideal S8192x1024 .f32) (t : Fin cfg0.N) (h : t.val % 5 ≠ 4) (y : Fin 2048) (x : Fin 128) :
    (((cfg0.win 5).blk t).view.read (Elt Ideal) X : Vec Ideal S2048x128 .f32) (ix2 y x)
      = X (ix2 ⟨2048 * (t.val % 5) + y.val, by omega⟩ ⟨128 * (t.val / 5) + x.val, by have := points t; omega⟩) := by
  rw [View.read_apply]
  show X _ = X _
  congr 1
  funext a
  apply Fin.ext
  match a with
  | ⟨0, _⟩ => show win0_5.index t 0 * 2048 + 1 * y.val = 2048 * (t.val % 5) + y.val; rw [(index5 t h).1]; omega
  | ⟨1, _⟩ => show win0_5.index t 1 * 128 + 1 * x.val = 128 * (t.val / 5) + x.val; rw [(index5 t h).2]; omega
theorem block5 (t : Fin cfg0.N) (h : t.val % 5 ≠ 4) (y : Fin 2048) (x : Fin 128) : (iblk m c 5 t : Vec Ideal S2048x128 .f32) (ix2 y x)
    = (V m c main_arg1 : Vec Ideal S8192x1024 .f32) (ix2 ⟨2048 * (t.val % 5) + y.val, by omega⟩ ⟨128 * (t.val / 5) + x.val, by have := points t; omega⟩) :=
  place5 (V m c main_arg1) t h y x

theorem index6 (t : Fin cfg0.N) (h : t.val % 5 ≠ 4) : win0_6.index t 0 = t.val % 5 ∧ win0_6.index t 1 = t.val / 5 :=
  (by decide +kernel : ∀ t : Fin grid0.N, t.val % 5 ≠ 4 → win0_6.index t 0 = t.val % 5 ∧ win0_6.index t 1 = t.val / 5) t h
theorem place6 (X : Vec Ideal S8192x512 .f32) (t : Fin cfg0.N) (h : t.val % 5 ≠ 4) (y : Fin 2048) (x : Fin 128) :
    (((cfg0.win 6).blk t).view.read (Elt Ideal) X : Vec Ideal S2048x128 .f32) (ix2 y x)
      = X (ix2 ⟨2048 * (t.val % 5) + y.val, by omega⟩ ⟨128 * (t.val / 5) + x.val, by have := points t; omega⟩) := by
  rw [View.read_apply]
  show X _ = X _
  congr 1
  funext a
  apply Fin.ext
  match a with
  | ⟨0, _⟩ => show win0_6.index t 0 * 2048 + 1 * y.val = 2048 * (t.val % 5) + y.val; rw [(index6 t h).1]; omega
  | ⟨1, _⟩ => show win0_6.index t 1 * 128 + 1 * x.val = 128 * (t.val / 5) + x.val; rw [(index6 t h).2]; omega
theorem block6 (t : Fin cfg0.N) (h : t.val % 5 ≠ 4) (y : Fin 2048) (x : Fin 128) : (iblk m c 6 t : Vec Ideal S2048x128 .f32) (ix2 y x)
    = (V m c main_v125 : Vec Ideal S8192x512 .f32) (ix2 ⟨2048 * (t.val % 5) + y.val, by omega⟩ ⟨128 * (t.val / 5) + x.val, by have := points t; omega⟩) :=
  place6 (V m c main_v125) t h y x

theorem index7 (t : Fin cfg0.N) (h : t.val % 5 ≠ 4) : win0_7.index t 0 = t.val % 5 ∧ win0_7.index t 1 = t.val / 5 :=
  (by decide +kernel : ∀ t : Fin grid0.N, t.val % 5 ≠ 4 → win0_7.index t 0 = t.val % 5 ∧ win0_7.index t 1 = t.val / 5) t h
theorem place7 (X : Vec Ideal S8192x512 .f32) (t : Fin cfg0.N) (h : t.val % 5 ≠ 4) (y : Fin 2048) (x : Fin 128) :
    (((cfg0.win 7).blk t).view.read (Elt Ideal) X : Vec Ideal S2048x128 .f32) (ix2 y x)
      = X (ix2 ⟨2048 * (t.val % 5) + y.val, by omega⟩ ⟨128 * (t.val / 5) + x.val, by have := points t; omega⟩) := by
  rw [View.read_apply]
  show X _ = X _
  congr 1
  funext a
  apply Fin.ext
  match a with
  | ⟨0, _⟩ => show win0_7.index t 0 * 2048 + 1 * y.val = 2048 * (t.val % 5) + y.val; rw [(index7 t h).1]; omega
  | ⟨1, _⟩ => show win0_7.index t 1 * 128 + 1 * x.val = 128 * (t.val / 5) + x.val; rw [(index7 t h).2]; omega
theorem block7 (t : Fin cfg0.N) (h : t.val % 5 ≠ 4) (y : Fin 2048) (x : Fin 128) : (iblk m c 7 t : Vec Ideal S2048x128 .f32) (ix2 y x)
    = (V m c main_v130 : Vec Ideal S8192x512 .f32) (ix2 ⟨2048 * (t.val % 5) + y.val, by omega⟩ ⟨128 * (t.val / 5) + x.val, by have := points t; omega⟩) :=
  place7 (V m c main_v130) t h y x

section
variable {m c} {f g : ℕ → ℕ → ℝ} (hf : ∀ (R : Fin 8192) (C : Fin 2048), C.val < 1536 → proj m c (ix2 R C) = (f R.val C.val : EReal))
  (hg : ∀ (R : Fin 8192) (C : Fin 1024), C.val < 512 → dcat m c (ix2 R C) = (g R.val C.val : EReal)) (t : Fin cfg0.N) (h : t.val % 5 ≠ 4)

include hf in
theorem V_att_apply : Is2 (V m c main_v125 : Vec Ideal S8192x512 .f32) (fun t L => att f (L / 64) t (L % 64)) := by
  obtain ⟨μ1, p1⟩ := scored_pattern hf 1 (by decide) (by decide)
  obtain ⟨μ2, p2⟩ := scored_pattern hf 4 (by decide) (by decide)
  obtain ⟨μ3, p3⟩ := scored_pattern hf 16 (by decide) (by decide)
  exact V_att m c ▸ attOf_apply p1.l p2.l p3.l p1.o p2.o p3.o

include hf in
theorem V_lse_apply : Is2 (V m c main_v130 : Vec Ideal S8192x512 .f32) (fun t L => Real.log (allTotal f (L / 64) t)) := by
  obtain ⟨μ1, p1⟩ := scored_pattern hf 1 (by decide) (by decide)
  obtain ⟨μ2, p2⟩ := scored_pattern hf 4 (by decide) (by decide)
  obtain ⟨μ3, p3⟩ := scored_pattern hf 16 (by decide) (by decide)
  exact V_lse m c ▸ lseOf_apply p1.l p2.l p3.l

include hf h in
theorem real_q : Is2 (iblk m c 0 t : Vec Ideal S2048x128 .f32) (fun y x => f (2048 * (t.val % 5) + y) (128 * (t.val / 5) + x)) := fun y x => by
  have := points t
  rw [block0 m c t h, V_main_arg0]
  exact hf _ _ (by show 128 * (t.val / 5) + x.val < 1536; omega)
include hf h in
theorem real_kp : Is2 (iblk m c 1 t : Vec Ideal S2048x128 .f32) (fun y x => f (2048 * (t.val % 5 - 1) + y) (512 + (128 * (t.val / 5) + x))) := fun y x => by
  have := points t
  rw [block1 m c t h, V_main_arg0]
  refine (hf _ _ (by show 128 * (4 + t.val / 5) + x.val < 1536; omega)).trans (congrArg (fun z => ((f (2048 * (t.val % 5 - 1) + y.val) z : ℝ) : EReal)) ?_)
  show 128 * (4 + t.val / 5) + x.val = _
  omega
include hf h in
theorem real_kc : Is2 (iblk m c 2 t : Vec Ideal S2048x128 .f32) (fun y x => f (2048 * (t.val % 5) + y) (512 + (128 * (t.val / 5) + x))) := fun y x => by
  have := points t
  rw [block2 m c t h, V_main_arg0]
  refine (hf _ _ (by show 128 * (4 + t.val / 5) + x.val < 1536; omega)).trans (congrArg (fun z => ((f (2048 * (t.val % 5) + y.val) z : ℝ) : EReal)) ?_)
  show 128 * (4 + t.val / 5) + x.val = _
  omega
include hf h in
theorem real_vp : Is2 (iblk m c 3 t : Vec Ideal S2048x128 .f32) (fun y x => f (2048 * (t.val % 5 - 1) + y) (1024 + (128 * (t.val / 5) + x))) := fun y x => by
  have := points t
  rw [block3 m c t h, V_main_arg0]
  refine (hf _ _ (by show 128 * (8 + t.val / 5) + x.val < 1536; omega)).trans (congrArg (fun z => ((f (2048 * (t.val % 5 - 1) + y.val) z : ℝ) : EReal)) ?_)
  show 128 * (8 + t.val / 5) + x.val = _
  omega
include hf h in
theorem real_vc : Is2 (iblk m c 4 t : Vec Ideal S2048x128 .f32) (fun y x => f (2048 * (t.val % 5) + y) (1024 + (128 * (t.val / 5) + x))) := fun y x => by
  have := points t
  rw [block4 m c t h, V_main_arg0]
  refine (hf _ _ (by show 128 * (8 + t.val / 5) + x.val < 1536; omega)).trans (congrArg (fun z => ((f (2048 * (t.val % 5) + y.val) z : ℝ) : EReal)) ?_)
  show 128 * (8 + t.val / 5) + x.val = _
  omega
include hg h in
theorem real_g : Is2 (iblk m c 5 t : Vec Ideal S2048x128 .f32) (fun y x => g (2048 * (t.val % 5) + y) (128 * (t.val / 5) + x)) := fun y x => by
  have := points t
  rw [block5 m c t h, V_main_arg1]
  exact hg _ _ (by show 128 * (t.val / 5) + x.val < 512; omega)
include hf h in
theorem real_o : Is2 (iblk m c 6 t : Vec Ideal S2048x128 .f32) (fun y x => att f ((128 * (t.val / 5) + x) / 64) (2048 * (t.val % 5) + y) ((128 * (t.val / 5) + x) % 64)) := fun y x => by
  rw [block6 m c t h]
  exact V_att_apply hf _ _
include hf h in
theorem real_lse : Is2 (iblk m c 7 t : Vec Ideal S2048x128 .f32) (fun y x => Real.log (allTotal f ((128 * (t.val / 5) + x) / 64) (2048 * (t.val % 5) + y))) := fun y x => by
  rw [block7 m c t h]
  exact V_lse_apply hf _ _

/-- A load of a block's rows. -/
theorem load_lined {M : Memref sig .tc .vmem S2048x128 .f32} (hM : M.IsWhole) {a : Vec Ideal S2048x128 .f32} {A : ℕ → ℕ → ℝ} (hA : Is2 a A) (d : ℕ) (r : Rows) (hr : Lined d r) :
    Is2 (View.readAt (Elt Ideal) M.view r.rect.toLoadRect (hM.unread a)) (fun i x => A (r.off 0 + d * i) x) := by
  rw [View.readAt_eq_ld, hM.read_unread]
  exact at_rows hA 128 (r.off 0) d r.rect.toLoadRect.idx (fun y => by show r.off 0 + r.stride 0 * (y 0).val = _; rw [hr.2.2])
    (fun y => by show r.off 1 + r.stride 1 * (y 1).val = _; rw [hr.1, hr.2.1]; omega)
theorem cov_lined (M : Memref sig .tc .vmem S2048x128 .f32) {a : Vec Ideal S2048x128 .f32} {A : ℕ → ℕ → ℝ} (hA : Is2 a A) (d : ℕ) (r : Rows) (hr : Lined d r) :
    Is2 (M.view.readCov [(⟨Rect.unit (s := S2048x128) ![0, 0] S2048x128.size inb_S2048x128_S2048x128_0_0, a⟩ : View.Piece (Elt Ideal) S2048x128 .f32)] r.rect.toLoadRect) (fun i x => A (r.off 0 + d * i) x) := by
  rw [View.readCov_eq_canon', View.canon_unit_zero (S := S2048x128) hz2]
  exact at_rows hA 128 (r.off 0) d r.rect.toLoadRect.idx (fun y => by show r.off 0 + r.stride 0 * (y 0).val = _; rw [hr.2.2])
    (fun y => by show r.off 1 + r.stride 1 * (y 1).val = _; rw [hr.1, hr.2.1]; omega)

include hf hg h in
theorem filled (A2 : Memref sig .tc .vmem S2048x128 .f32) (h2 : A2.IsWhole) (A3 : Memref sig .tc .vmem S2048x128 .f32) (h3 : A3.IsWhole)
    (A4 : Memref sig .tc .vmem S2048x128 .f32) (h4 : A4.IsWhole) (A5 : Memref sig .tc .vmem S2048x128 .f32) (h5 : A5.IsWhole)
    (A6 : Memref sig .tc .vmem S2048x128 .f32) (h6 : A6.IsWhole) (A7 : Memref sig .tc .vmem S2048x128 .f32) (h7 : A7.IsWhole)
    (A8 : Memref sig .tc .vmem S2048x128 .f32) (h8 : A8.IsWhole) (A9 : Memref sig .tc .vmem S2048x128 .f32) (h9 : A9.IsWhole)
    (A15 A16 A17 A18 : Memref sig .tc .vmem S2048x128 .f32) :
    Filled f g (loadsOf A2 h2 A3 h3 A4 h4 A5 h5 A6 h6 A7 h7 A8 h8 A9 h9 A15 A16 A17 A18 (iblk m c 0 t) (iblk m c 1 t) (iblk m c 2 t) (iblk m c 3 t) (iblk m c 4 t)
      (iblk m c 5 t) (iblk m c 6 t) (iblk m c 7 t)) (t.val % 5) (t.val / 5) := by
  have head : ∀ x, x < 128 → (128 * (t.val / 5) + x) / 64 = 2 * (t.val / 5) + x / 64 := fun x _ => by omega
  have lo := lane_low (real_lse hf t h) (fun i k => Real.log (allTotal f (2 * (t.val / 5) + k) (2048 * (t.val % 5) + i))) (fun i x hx => by rw [head x hx])
  have hi := lane_high (real_lse hf t h) (fun i k => Real.log (allTotal f (2 * (t.val / 5) + k) (2048 * (t.val % 5) + i))) (fun i x hx => by rw [head x hx])
  have d0 : Is2 (k0_pay16 (F := Ideal) (k0_pay15 (iblk m c 5 t) (iblk m c 6 t))) (fun i _ => delta f g (2 * (t.val / 5)) (2048 * (t.val % 5) + i)) :=
    Is2.to (row_low (real_g hg t h) (real_o hf t h)) fun i x _ _ => by
      unfold delta
      refine Finset.sum_congr rfl fun l _ => ?_
      have := l.isLt
      rw [show 128 * (t.val / 5) + l.val = 64 * (2 * (t.val / 5)) + l.val by omega, show (64 * (2 * (t.val / 5)) + l.val) / 64 = 2 * (t.val / 5) by omega,
        show (64 * (2 * (t.val / 5)) + l.val) % 64 = l.val by omega]
  have d1 : Is2 (k0_pay18 (F := Ideal) k0_pay9 (k0_pay12 (iblk m c 5 t) (iblk m c 6 t))) (fun i _ => delta f g (2 * (t.val / 5) + 1) (2048 * (t.val % 5) + i)) :=
    Is2.to (row_high (real_g hg t h) (real_o hf t h)) fun i x _ _ => by
      unfold delta
      refine Finset.sum_congr rfl fun l _ => ?_
      have := l.isLt
      rw [show 128 * (t.val / 5) + (64 + l.val) = 64 * (2 * (t.val / 5) + 1) + l.val by omega, show (64 * (2 * (t.val / 5) + 1) + l.val) / 64 = 2 * (t.val / 5) + 1 by omega,
        show (64 * (2 * (t.val / 5) + 1) + l.val) % 64 = l.val by omega]
  exact {
    q := fun d r hr => load_lined h2 (real_q hf t h) d r hr
    kp := fun d r hr => load_lined h3 (real_kp hf t h) d r hr
    kc := fun d r hr => load_lined h4 (real_kc hf t h) d r hr
    vp := fun d r hr => load_lined h5 (real_vp hf t h) d r hr
    vc := fun d r hr => load_lined h6 (real_vc hf t h) d r hr
    go := fun d r hr => load_lined h7 (real_g hg t h) d r hr
    l0 := fun d r hr => by
      unfold loadsOf
      dsimp only
      rw [load_full h9]
      exact cov_lined A17 lo d r hr
    l1 := fun d r hr => by
      unfold loadsOf
      dsimp only
      rw [load_full h9]
      exact cov_lined A18 hi d r hr
    d0 := fun d r hr => by
      unfold loadsOf
      dsimp only
      rw [load_full h7, load_full h8]
      exact cov_lined A15 d0 d r hr
    d1 := fun d r hr => by
      unfold loadsOf
      dsimp only
      rw [load_full h7, load_full h8]
      exact cov_lined A16 d1 d r hr }
end

end Cert.Attn

end
-- ==== Proof.Attn.Lists0.lean ====
module

public import proofs.«01_k».proof.Proof.Attn.Unit

@[expose] public section

set_option maxRecDepth 16384

noncomputable section

namespace Cert.Attn

open Cert.Kernel6Ideal Cert.Kernel6Ideal.Gen
open Idealize.ShloMosaic Idealize.ShloMosaic.TcCoe Idealize.ShloMosaic.Tactic

variable {F : FTy → Type} [FloatOps F]

/-! The stores at dilation 1, one result after another. -/

section
variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg15 : Memref sig .tc .vmem S2048x128 .f32) (arg16 : Memref sig .tc .vmem S2048x128 .f32) (arg17 : Memref sig .tc .vmem S2048x128 .f32) (arg18 : Memref sig .tc .vmem S2048x128 .f32)
  (x0 x1 x2 x3 x4 x5 x6 x7 : Vec F S2048x128 .f32)

set_option maxHeartbeats 8000000 in
theorem list_q0 : (@runTail.sl.HS6_16 F _ c i arg2 harg2 arg3 harg3 arg4 harg4 arg5 harg5 arg6 harg6 arg7 harg7 arg8 harg8 arg9 harg9 arg15 arg16 arg17 arg18 x0 x1 x2 x3 x4 x5 x6 x7) = (piecesOf .q (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places0) := (rfl)

set_option maxHeartbeats 8000000 in
theorem list_kOwn0 : (@runTail.sl.HS9_16 F _ c i arg2 harg2 arg3 harg3 arg4 harg4 arg5 harg5 arg6 harg6 arg7 harg7 arg8 harg8 arg9 harg9 arg15 arg16 arg17 arg18 x0 x1 x2 x3 x4 x5 x6 x7) = (piecesOf .kOwn (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places0) := (rfl)

set_option maxHeartbeats 8000000 in
theorem list_kBack0 : (@runTail.sl.HS12_16 F _ c i arg2 harg2 arg3 harg3 arg4 harg4 arg5 harg5 arg6 harg6 arg7 harg7 arg8 harg8 arg9 harg9 arg15 arg16 arg17 arg18 x0 x1 x2 x3 x4 x5 x6 x7) = (piecesOf .kBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places0) := (rfl)

set_option maxHeartbeats 8000000 in
theorem list_vOwn0 : (@runTail.sl.HS15_16 F _ c i arg2 harg2 arg3 harg3 arg4 harg4 arg7 harg7 arg9 harg9 arg17 arg18 x0 x1 x2 x5 x7) = (piecesOf .vOwn (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places0) := (rfl)

set_option maxHeartbeats 8000000 in
theorem list_vBack0 : (@runTail.sl.HS18_16 F _ c i arg2 harg2 arg3 harg3 arg4 harg4 arg7 harg7 arg9 harg9 arg17 arg18 x0 x1 x2 x5 x7) = (piecesOf .vBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places0) := (rfl)

end

end Cert.Attn

end
-- ==== Proof.Attn.Lists1.lean ====
module

public import proofs.«01_k».proof.Proof.Attn.Unit

@[expose] public section

set_option maxRecDepth 16384

noncomputable section

namespace Cert.Attn

open Cert.Kernel6Ideal Cert.Kernel6Ideal.Gen
open Idealize.ShloMosaic Idealize.ShloMosaic.TcCoe Idealize.ShloMosaic.Tactic

variable {F : FTy → Type} [FloatOps F]

/-! The stores at dilation 4, one result after another. -/

section
variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg15 : Memref sig .tc .vmem S2048x128 .f32) (arg16 : Memref sig .tc .vmem S2048x128 .f32) (arg17 : Memref sig .tc .vmem S2048x128 .f32) (arg18 : Memref sig .tc .vmem S2048x128 .f32)
  (x0 x1 x2 x3 x4 x5 x6 x7 : Vec F S2048x128 .f32)

set_option maxHeartbeats 8000000 in
theorem list_q1 : (@runTail.sl.HS7_16 F _ c i arg2 harg2 arg3 harg3 arg4 harg4 arg5 harg5 arg6 harg6 arg7 harg7 arg8 harg8 arg9 harg9 arg15 arg16 arg17 arg18 x0 x1 x2 x3 x4 x5 x6 x7) = (piecesOf .q (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places1) := (rfl)

set_option maxHeartbeats 8000000 in
theorem list_kOwn1 : (@runTail.sl.HS10_16 F _ c i arg2 harg2 arg3 harg3 arg4 harg4 arg5 harg5 arg6 harg6 arg7 harg7 arg8 harg8 arg9 harg9 arg15 arg16 arg17 arg18 x0 x1 x2 x3 x4 x5 x6 x7) = (piecesOf .kOwn (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places1) := (rfl)

set_option maxHeartbeats 8000000 in
theorem list_kBack1 : (@runTail.sl.HS13_16 F _ c i arg2 harg2 arg3 harg3 arg4 harg4 arg5 harg5 arg6 harg6 arg7 harg7 arg8 harg8 arg9 harg9 arg15 arg16 arg17 arg18 x0 x1 x2 x3 x4 x5 x6 x7) = (piecesOf .kBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places1) := (rfl)

set_option maxHeartbeats 8000000 in
theorem list_vOwn1 : (@runTail.sl.HS16_16 F _ c i arg2 harg2 arg3 harg3 arg4 harg4 arg7 harg7 arg9 harg9 arg17 arg18 x0 x1 x2 x5 x7) = (piecesOf .vOwn (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places1) := (rfl)

set_option maxHeartbeats 8000000 in
theorem list_vBack1 : (@runTail.sl.HS19_16 F _ c i arg2 harg2 arg3 harg3 arg4 harg4 arg7 harg7 arg9 harg9 arg17 arg18 x0 x1 x2 x5 x7) = (piecesOf .vBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places1) := (rfl)

end

end Cert.Attn

end
-- ==== Proof.Attn.Lists2.lean ====
module

public import proofs.«01_k».proof.Proof.Attn.Unit

@[expose] public section

set_option maxRecDepth 16384

noncomputable section

namespace Cert.Attn

open Cert.Kernel6Ideal Cert.Kernel6Ideal.Gen
open Idealize.ShloMosaic Idealize.ShloMosaic.TcCoe Idealize.ShloMosaic.Tactic

variable {F : FTy → Type} [FloatOps F]

/-! The stores at dilation 16, one result after another. -/

section
variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg15 : Memref sig .tc .vmem S2048x128 .f32) (arg16 : Memref sig .tc .vmem S2048x128 .f32) (arg17 : Memref sig .tc .vmem S2048x128 .f32) (arg18 : Memref sig .tc .vmem S2048x128 .f32)
  (x0 x1 x2 x3 x4 x5 x6 x7 : Vec F S2048x128 .f32)

set_option maxHeartbeats 8000000 in
theorem list_q2 : (@runTail.sl.HS8_16 F _ c i arg2 harg2 arg3 harg3 arg4 harg4 arg5 harg5 arg6 harg6 arg7 harg7 arg8 harg8 arg9 harg9 arg15 arg16 arg17 arg18 x0 x1 x2 x3 x4 x5 x6 x7) = (piecesOf .q (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places2) := (rfl)

set_option maxHeartbeats 8000000 in
theorem list_kOwn2 : (@runTail.sl.HS11_16 F _ c i arg2 harg2 arg3 harg3 arg4 harg4 arg5 harg5 arg6 harg6 arg7 harg7 arg8 harg8 arg9 harg9 arg15 arg16 arg17 arg18 x0 x1 x2 x3 x4 x5 x6 x7) = (piecesOf .kOwn (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places2) := (rfl)

set_option maxHeartbeats 8000000 in
theorem list_kBack2 : (@runTail.sl.HS14_16 F _ c i arg2 harg2 arg3 harg3 arg4 harg4 arg5 harg5 arg6 harg6 arg7 harg7 arg8 harg8 arg9 harg9 arg15 arg16 arg17 arg18 x0 x1 x2 x3 x4 x5 x6 x7) = (piecesOf .kBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places2) := (rfl)

set_option maxHeartbeats 8000000 in
theorem list_vOwn2 : (@runTail.sl.HS17_16 F _ c i arg2 harg2 arg3 harg3 arg4 harg4 arg7 harg7 arg9 harg9 arg17 arg18 x0 x1 x2 x5 x7) = (piecesOf .vOwn (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places2) := (rfl)

set_option maxHeartbeats 8000000 in
theorem list_vBack2 : (@runTail.sl.HS20_16 F _ c i arg2 harg2 arg3 harg3 arg4 harg4 arg7 harg7 arg9 harg9 arg17 arg18 x0 x1 x2 x5 x7) = (piecesOf .vBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places2) := (rfl)

end

end Cert.Attn

end
-- ==== Proof.Attn.Stores.lean ====
module

public import proofs.«01_k».proof.Proof.Attn.Lists0
public import proofs.«01_k».proof.Proof.Attn.Lists1
public import proofs.«01_k».proof.Proof.Attn.Lists2

@[expose] public section

set_option maxRecDepth 16384

noncomputable section

namespace Cert.Attn

open Cert.Kernel6Ideal Cert.Kernel6Ideal.Gen
open Idealize.ShloMosaic Idealize.ShloMosaic.TcCoe Idealize.ShloMosaic.Tactic

variable {F : FTy → Type} [FloatOps F]

/-! The working step's stores, read off its run. -/

section
variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S2048x128 .f32) (harg28 : arg28.IsWhole) (arg29 : Memref sig .tc .vmem S2048x128 .f32) (harg29 : arg29.IsWhole) (arg30 : Memref sig .tc .vmem S2048x128 .f32) (harg30 : arg30.IsWhole) (arg31 : Memref sig .tc .vmem S2048x128 .f32) (harg31 : arg31.IsWhole) (arg32 : Memref sig .tc .vmem S2048x128 .f32) (harg32 : arg32.IsWhole) (arg33 : Memref sig .tc .vmem S2048x128 .f32) (harg33 : arg33.IsWhole) (hw : IsWork i) (hl : ¬IsLast i)
  (x0 x1 x2 x3 x4 x5 x6 x7 s0 s1 : Vec F S2048x128 .f32)

set_option maxHeartbeats 8000000 in
theorem stores_q : (runTail c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hw hl x0 x1 x2 x3 x4 x5 x6 x7 s0 s1).1
    = [⟨(Rect.unit (s := S2048x128) ![0, 0] S2048x128.size inb_S2048x128_S2048x128_0_0), k0_pay813 (arg19.view.readCov (piecesOf .q (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places0) (Rect.unit (s := S2048x128) ![0, 0] S2048x128.size inb_S2048x128_S2048x128_0_0).toLoadRect)
      (arg20.view.readCov (piecesOf .q (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places1) (Rect.unit (s := S2048x128) ![0, 0] S2048x128.size inb_S2048x128_S2048x128_0_0).toLoadRect)
      (arg21.view.readCov (piecesOf .q (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places2) (Rect.unit (s := S2048x128) ![0, 0] S2048x128.size inb_S2048x128_S2048x128_0_0).toLoadRect)⟩] := by
  rw [← list_q0 c i arg2 harg2 arg3 harg3 arg4 harg4 arg5 harg5 arg6 harg6 arg7 harg7 arg8 harg8 arg9 harg9 arg15 arg16 arg17 arg18 x0 x1 x2 x3 x4 x5 x6 x7,
    ← list_q1 c i arg2 harg2 arg3 harg3 arg4 harg4 arg5 harg5 arg6 harg6 arg7 harg7 arg8 harg8 arg9 harg9 arg15 arg16 arg17 arg18 x0 x1 x2 x3 x4 x5 x6 x7,
    ← list_q2 c i arg2 harg2 arg3 harg3 arg4 harg4 arg5 harg5 arg6 harg6 arg7 harg7 arg8 harg8 arg9 harg9 arg15 arg16 arg17 arg18 x0 x1 x2 x3 x4 x5 x6 x7]
  exact rfl

set_option maxHeartbeats 8000000 in
theorem stores_k : (runTail c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hw hl x0 x1 x2 x3 x4 x5 x6 x7 s0 s1).2.1
    = [⟨(Rect.unit (s := S2048x128) ![0, 0] S2048x128.size inb_S2048x128_S2048x128_0_0), k0_pay817 (arg13.view.readCov (done3 arg13 harg13 s0 arg25 arg26 arg27 (piecesOf .kBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places0)
      (piecesOf .kBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places1)
      (piecesOf .kBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places2)) (Rect.unit (s := S2048x128) ![0, 0] S2048x128.size inb_S2048x128_S2048x128_0_0).toLoadRect)⟩] := by
  rw [← list_kBack0 c i arg2 harg2 arg3 harg3 arg4 harg4 arg5 harg5 arg6 harg6 arg7 harg7 arg8 harg8 arg9 harg9 arg15 arg16 arg17 arg18 x0 x1 x2 x3 x4 x5 x6 x7,
    ← list_kBack1 c i arg2 harg2 arg3 harg3 arg4 harg4 arg5 harg5 arg6 harg6 arg7 harg7 arg8 harg8 arg9 harg9 arg15 arg16 arg17 arg18 x0 x1 x2 x3 x4 x5 x6 x7,
    ← list_kBack2 c i arg2 harg2 arg3 harg3 arg4 harg4 arg5 harg5 arg6 harg6 arg7 harg7 arg8 harg8 arg9 harg9 arg15 arg16 arg17 arg18 x0 x1 x2 x3 x4 x5 x6 x7]
  exact rfl

set_option maxHeartbeats 8000000 in
theorem carries_k : (runTail c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hw hl x0 x1 x2 x3 x4 x5 x6 x7 s0 s1).2.2.2.1
    = next3 arg13 harg13 s0 arg22 arg23 arg24 arg25 arg26 arg27 (piecesOf .kOwn (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places0)
      (piecesOf .kOwn (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places1)
      (piecesOf .kOwn (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places2)
      (piecesOf .kBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places0)
      (piecesOf .kBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places1)
      (piecesOf .kBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places2) := by
  rw [← list_kBack0 c i arg2 harg2 arg3 harg3 arg4 harg4 arg5 harg5 arg6 harg6 arg7 harg7 arg8 harg8 arg9 harg9 arg15 arg16 arg17 arg18 x0 x1 x2 x3 x4 x5 x6 x7,
    ← list_kBack1 c i arg2 harg2 arg3 harg3 arg4 harg4 arg5 harg5 arg6 harg6 arg7 harg7 arg8 harg8 arg9 harg9 arg15 arg16 arg17 arg18 x0 x1 x2 x3 x4 x5 x6 x7,
    ← list_kBack2 c i arg2 harg2 arg3 harg3 arg4 harg4 arg5 harg5 arg6 harg6 arg7 harg7 arg8 harg8 arg9 harg9 arg15 arg16 arg17 arg18 x0 x1 x2 x3 x4 x5 x6 x7,
    ← list_kOwn0 c i arg2 harg2 arg3 harg3 arg4 harg4 arg5 harg5 arg6 harg6 arg7 harg7 arg8 harg8 arg9 harg9 arg15 arg16 arg17 arg18 x0 x1 x2 x3 x4 x5 x6 x7,
    ← list_kOwn1 c i arg2 harg2 arg3 harg3 arg4 harg4 arg5 harg5 arg6 harg6 arg7 harg7 arg8 harg8 arg9 harg9 arg15 arg16 arg17 arg18 x0 x1 x2 x3 x4 x5 x6 x7,
    ← list_kOwn2 c i arg2 harg2 arg3 harg3 arg4 harg4 arg5 harg5 arg6 harg6 arg7 harg7 arg8 harg8 arg9 harg9 arg15 arg16 arg17 arg18 x0 x1 x2 x3 x4 x5 x6 x7]
  exact rfl

set_option maxHeartbeats 8000000 in
theorem stores_v : (runTail c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hw hl x0 x1 x2 x3 x4 x5 x6 x7 s0 s1).2.2.1
    = [⟨(Rect.unit (s := S2048x128) ![0, 0] S2048x128.size inb_S2048x128_S2048x128_0_0), k0_pay825 (arg14.view.readCov (done3 arg14 harg14 s1 arg31 arg32 arg33 (piecesOf .vBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places0)
      (piecesOf .vBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places1)
      (piecesOf .vBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places2)) (Rect.unit (s := S2048x128) ![0, 0] S2048x128.size inb_S2048x128_S2048x128_0_0).toLoadRect)⟩] := by
  rw [← list_vBack0 c i arg2 harg2 arg3 harg3 arg4 harg4 arg5 harg5 arg6 harg6 arg7 harg7 arg8 harg8 arg9 harg9 arg15 arg16 arg17 arg18 x0 x1 x2 x3 x4 x5 x6 x7,
    ← list_vBack1 c i arg2 harg2 arg3 harg3 arg4 harg4 arg5 harg5 arg6 harg6 arg7 harg7 arg8 harg8 arg9 harg9 arg15 arg16 arg17 arg18 x0 x1 x2 x3 x4 x5 x6 x7,
    ← list_vBack2 c i arg2 harg2 arg3 harg3 arg4 harg4 arg5 harg5 arg6 harg6 arg7 harg7 arg8 harg8 arg9 harg9 arg15 arg16 arg17 arg18 x0 x1 x2 x3 x4 x5 x6 x7]
  exact rfl

set_option maxHeartbeats 8000000 in
theorem carries_v : (runTail c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hw hl x0 x1 x2 x3 x4 x5 x6 x7 s0 s1).2.2.2.2.1
    = next3 arg14 harg14 s1 arg28 arg29 arg30 arg31 arg32 arg33 (piecesOf .vOwn (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places0)
      (piecesOf .vOwn (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places1)
      (piecesOf .vOwn (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places2)
      (piecesOf .vBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places0)
      (piecesOf .vBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places1)
      (piecesOf .vBack (BitVec.ofNat 32 (i 1).val) (loadsOf arg2 harg2 arg3 harg3 arg4 harg4 arg5 harg5 arg6 harg6 arg7 harg7 arg8 harg8 arg9 harg9 arg15 arg16 arg17 arg18 x0 x1 x2 x3 x4 x5 x6 x7) places2) := by
  rw [← list_vBack0 c i arg2 harg2 arg3 harg3 arg4 harg4 arg5 harg5 arg6 harg6 arg7 harg7 arg8 harg8 arg9 harg9 arg15 arg16 arg17 arg18 x0 x1 x2 x3 x4 x5 x6 x7,
    ← list_vBack1 c i arg2 harg2 arg3 harg3 arg4 harg4 arg5 harg5 arg6 harg6 arg7 harg7 arg8 harg8 arg9 harg9 arg15 arg16 arg17 arg18 x0 x1 x2 x3 x4 x5 x6 x7,
    ← list_vBack2 c i arg2 harg2 arg3 harg3 arg4 harg4 arg5 harg5 arg6 harg6 arg7 harg7 arg8 harg8 arg9 harg9 arg15 arg16 arg17 arg18 x0 x1 x2 x3 x4 x5 x6 x7,
    ← list_vOwn0 c i arg2 harg2 arg3 harg3 arg4 harg4 arg5 harg5 arg6 harg6 arg7 harg7 arg8 harg8 arg9 harg9 arg15 arg16 arg17 arg18 x0 x1 x2 x3 x4 x5 x6 x7,
    ← list_vOwn1 c i arg2 harg2 arg3 harg3 arg4 harg4 arg5 harg5 arg6 harg6 arg7 harg7 arg8 harg8 arg9 harg9 arg15 arg16 arg17 arg18 x0 x1 x2 x3 x4 x5 x6 x7,
    ← list_vOwn2 c i arg2 harg2 arg3 harg3 arg4 harg4 arg5 harg5 arg6 harg6 arg7 harg7 arg8 harg8 arg9 harg9 arg15 arg16 arg17 arg18 x0 x1 x2 x3 x4 x5 x6 x7]
  exact rfl
end

end Cert.Attn

end
-- ==== Proof.Attn.Ends.lean ====
module

public import proofs.«01_k».proof.Proof.Attn.Basic

@[expose] public section

set_option maxRecDepth 16384

noncomputable section

namespace Cert.Attn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- THE FIRST STEP of a pair of heads is the working step from cleared carried buffers. -/
theorem runFirst (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S2048x128 .f32) (harg28 : arg28.IsWhole) (arg29 : Memref sig .tc .vmem S2048x128 .f32) (harg29 : arg29.IsWhole) (arg30 : Memref sig .tc .vmem S2048x128 .f32) (harg30 : arg30.IsWhole) (arg31 : Memref sig .tc .vmem S2048x128 .f32) (harg31 : arg31.IsWhole) (arg32 : Memref sig .tc .vmem S2048x128 .f32) (harg32 : arg32.IsWhole) (arg33 : Memref sig .tc .vmem S2048x128 .f32) (harg33 : arg33.IsWhole) (hf : IsFirst i) (G : sProp 𝕄)
    (E : Set ℕ) (K : PUnit → sProp 𝕄)
    (h : iprop(G ∗ owns (c : Thread nD τ) arg13 fullShare (k0_pay1 (F := F)) ∗ owns (c : Thread nD τ) arg14 fullShare (k0_pay2 (F := F)))
      ⊢ wp frame (wpE (defs₀ (F := F)) Variants.none c none) E (tail (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33).1 K) :
    iprop(G ∗ some' (F := F) c arg13 ∗ some' (F := F) c arg14)
      ⊢ wp frame (wpE (defs₀ (F := F)) Variants.none c none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  rw [cleared i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hf]
  revert h
  generalize (tail (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33).1 = p
  intro h
  unfold some' owns
  iintro ⟨HG, ⟨%d13, %f13, -, H13⟩, ⟨%d14, %f14, -, H14⟩⟩
  sl_exec
  iapply h
  isplitl [HG]; · iexact HG
  isplitl [H13]
  · unfold owns; iexists _; isplitr
    swap; · iexact H13
    ipureintro; exact read_full _ _ _
  unfold owns; iexists _; isplitr
  swap; · iexact H14
  ipureintro; exact read_full _ _ _

set_option maxHeartbeats 2000000 in
/-- THE LAST STEP of a pair of heads writes the carried buffers out as they are. -/
theorem runLast (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S2048x128 .f32) (harg28 : arg28.IsWhole) (arg29 : Memref sig .tc .vmem S2048x128 .f32) (harg29 : arg29.IsWhole) (arg30 : Memref sig .tc .vmem S2048x128 .f32) (harg30 : arg30.IsWhole) (arg31 : Memref sig .tc .vmem S2048x128 .f32) (harg31 : arg31.IsWhole) (arg32 : Memref sig .tc .vmem S2048x128 .f32) (harg32 : arg32.IsWhole) (arg33 : Memref sig .tc .vmem S2048x128 .f32) (harg33 : arg33.IsWhole) (hf : ¬IsFirst i) (hw : ¬IsWork i) (hl : IsLast i)
    (s0 s1 : Vec F S2048x128 .f32) (G : sProp 𝕄) (E : Set ℕ) (K : PUnit → sProp 𝕄) :
    iprop(G ∗ some' (F := F) c arg11 ∗ some' (F := F) c arg12 ∗ owns (c : Thread nD τ) arg13 fullShare s0 ∗ owns (c : Thread nD τ) arg14 fullShare s1
        ∗ (iprop(G ∗ owns (c : Thread nD τ) arg11 fullShare (k0_pay6 s0) ∗ owns (c : Thread nD τ) arg12 fullShare (k0_pay7 s1) ∗ owns (c : Thread nD τ) arg13 fullShare s0 ∗ owns (c : Thread nD τ) arg14 fullShare s1) -∗ K ⟨⟩))
      ⊢ wp frame (wpE (defs₀ (F := F)) Variants.none c none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  rw [cc0_attn_bwd_eq_skeleton]
  unfold cc0_attn_bwd_skel some' owns
  iintro ⟨HG, ⟨%d11, %f11, -, H11⟩, ⟨%d12, %f12, -, H12⟩, ⟨%f13, %h13, H13⟩, ⟨%f14, %h14, H14⟩, Hk⟩
  obtain rfl := harg13.eq_unread h13; obtain rfl := harg14.eq_unread h14
  sl_exec (disch := first | sl_exact hf | sl_exact hw | sl_exact hl)
  sl_step
  iapply Hk
  isplitl [HG]; · iexact HG
  isplitl [H11]
  · iexists _; isplitr
    swap; · iexact H11
    ipureintro
    refine (read_full _ _ _).trans ?_
    exact congrArg k0_pay6 (load_full harg13 s0)
  isplitl [H12]
  · iexists _; isplitr
    swap; · iexact H12
    ipureintro
    refine (read_full _ _ _).trans ?_
    exact congrArg k0_pay7 (load_full harg14 s1)
  isplitl [H13]
  · iexists _; isplitr; · ipureintro; exact harg13.read_unread _
    iexact H13
  iexists _; isplitr; · ipureintro; exact harg14.read_unread _
  iexact H14

end Cert.Attn

end
-- ==== Proof.Attn.Points.lean ====
module

public import proofs.«01_k».proof.Proof.Attn.Tail
public import proofs.«01_k».proof.Proof.Attn.Ends

@[expose] public section

set_option maxRecDepth 16384
set_option maxHeartbeats 1000000

noncomputable section

namespace Cert.Attn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

attribute [local irreducible] runTail tail

/-! One point of the grid: what the kernel leaves there, and its run. -/

/-- What a point leaves: the blocks of the three gradients and the two carried buffers. -/
structure Held (F : FTy → Type) [FloatOps F] where
  dq : Vec F S2048x128 .bf16
  dk : Vec F S2048x128 .bf16
  dv : Vec F S2048x128 .bf16
  sk : Vec F S2048x128 .f32
  sv : Vec F S2048x128 .f32

/-! The buffers of point `t`. -/
abbrev b0 (t : Fin cfg0.N) := win0_0.stage (cfg0.slots t 0)
abbrev h0 (t : Fin cfg0.N) := hstage0_0 ((cfg0.slots t 0).cast nbuf0_0)
abbrev b1 (t : Fin cfg0.N) := win0_1.stage (cfg0.slots t 1)
abbrev h1 (t : Fin cfg0.N) := hstage0_1 ((cfg0.slots t 1).cast nbuf0_1)
abbrev b2 (t : Fin cfg0.N) := win0_2.stage (cfg0.slots t 2)
abbrev h2 (t : Fin cfg0.N) := hstage0_2 ((cfg0.slots t 2).cast nbuf0_2)
abbrev b3 (t : Fin cfg0.N) := win0_3.stage (cfg0.slots t 3)
abbrev h3 (t : Fin cfg0.N) := hstage0_3 ((cfg0.slots t 3).cast nbuf0_3)
abbrev b4 (t : Fin cfg0.N) := win0_4.stage (cfg0.slots t 4)
abbrev h4 (t : Fin cfg0.N) := hstage0_4 ((cfg0.slots t 4).cast nbuf0_4)
abbrev b5 (t : Fin cfg0.N) := win0_5.stage (cfg0.slots t 5)
abbrev h5 (t : Fin cfg0.N) := hstage0_5 ((cfg0.slots t 5).cast nbuf0_5)
abbrev b6 (t : Fin cfg0.N) := win0_6.stage (cfg0.slots t 6)
abbrev h6 (t : Fin cfg0.N) := hstage0_6 ((cfg0.slots t 6).cast nbuf0_6)
abbrev b7 (t : Fin cfg0.N) := win0_7.stage (cfg0.slots t 7)
abbrev h7 (t : Fin cfg0.N) := hstage0_7 ((cfg0.slots t 7).cast nbuf0_7)
abbrev b8 (t : Fin cfg0.N) := win0_8.stage (cfg0.slots t 8)
abbrev h8 (t : Fin cfg0.N) := hstage0_8 ((cfg0.slots t 8).cast nbuf0_8)
abbrev b9 (t : Fin cfg0.N) := win0_9.stage (cfg0.slots t 9)
abbrev h9 (t : Fin cfg0.N) := hstage0_9 ((cfg0.slots t 9).cast nbuf0_9)
abbrev b10 (t : Fin cfg0.N) := win0_10.stage (cfg0.slots t 10)
abbrev h10 (t : Fin cfg0.N) := hstage0_10 ((cfg0.slots t 10).cast nbuf0_10)

variable (m : (ℓ : Loc nD τ sig) → Buf (Elt F) ℓ)

/-- What a working step leaves from the carried buffers `s0`, `s1`. -/
def worked (c : Dev nD) (t : Fin cfg0.N) (h : t.val % 5 ≠ 4) (s0 s1 : Vec F S2048x128 .f32) : Held F where
  dq := View.canon (runTail c (grid0.coords t) (b0 t) (h0 t) (b1 t) (h1 t) (b2 t) (h2 t) (b3 t) (h3 t) (b4 t) (h4 t) (b5 t) (h5 t) (b6 t) (h6 t) (b7 t) (h7 t) (b8 t) (h8 t) (b9 t) (h9 t) (b10 t) (h10 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) ((work_iff t).mpr h) (fun e => h ((last_iff t).mp e)) (iblk m c 0 t) (iblk m c 1 t) (iblk m c 2 t) (iblk m c 3 t) (iblk m c 4 t) (iblk m c 5 t) (iblk m c 6 t) (iblk m c 7 t) s0 s1).1
  dk := View.canon (runTail c (grid0.coords t) (b0 t) (h0 t) (b1 t) (h1 t) (b2 t) (h2 t) (b3 t) (h3 t) (b4 t) (h4 t) (b5 t) (h5 t) (b6 t) (h6 t) (b7 t) (h7 t) (b8 t) (h8 t) (b9 t) (h9 t) (b10 t) (h10 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) ((work_iff t).mpr h) (fun e => h ((last_iff t).mp e)) (iblk m c 0 t) (iblk m c 1 t) (iblk m c 2 t) (iblk m c 3 t) (iblk m c 4 t) (iblk m c 5 t) (iblk m c 6 t) (iblk m c 7 t) s0 s1).2.1
  dv := View.canon (runTail c (grid0.coords t) (b0 t) (h0 t) (b1 t) (h1 t) (b2 t) (h2 t) (b3 t) (h3 t) (b4 t) (h4 t) (b5 t) (h5 t) (b6 t) (h6 t) (b7 t) (h7 t) (b8 t) (h8 t) (b9 t) (h9 t) (b10 t) (h10 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) ((work_iff t).mpr h) (fun e => h ((last_iff t).mp e)) (iblk m c 0 t) (iblk m c 1 t) (iblk m c 2 t) (iblk m c 3 t) (iblk m c 4 t) (iblk m c 5 t) (iblk m c 6 t) (iblk m c 7 t) s0 s1).2.2.1
  sk := View.canon (runTail c (grid0.coords t) (b0 t) (h0 t) (b1 t) (h1 t) (b2 t) (h2 t) (b3 t) (h3 t) (b4 t) (h4 t) (b5 t) (h5 t) (b6 t) (h6 t) (b7 t) (h7 t) (b8 t) (h8 t) (b9 t) (h9 t) (b10 t) (h10 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) ((work_iff t).mpr h) (fun e => h ((last_iff t).mp e)) (iblk m c 0 t) (iblk m c 1 t) (iblk m c 2 t) (iblk m c 3 t) (iblk m c 4 t) (iblk m c 5 t) (iblk m c 6 t) (iblk m c 7 t) s0 s1).2.2.2.1
  sv := View.canon (runTail c (grid0.coords t) (b0 t) (h0 t) (b1 t) (h1 t) (b2 t) (h2 t) (b3 t) (h3 t) (b4 t) (h4 t) (b5 t) (h5 t) (b6 t) (h6 t) (b7 t) (h7 t) (b8 t) (h8 t) (b9 t) (h9 t) (b10 t) (h10 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) ((work_iff t).mpr h) (fun e => h ((last_iff t).mp e)) (iblk m c 0 t) (iblk m c 1 t) (iblk m c 2 t) (iblk m c 3 t) (iblk m c 4 t) (iblk m c 5 t) (iblk m c 6 t) (iblk m c 7 t) s0 s1).2.2.2.2.1

section
variable (c : Dev nD) (t : Fin cfg0.N) (h : t.val % 5 ≠ 4) (s0 s1 : Vec F S2048x128 .f32)
/-- The working step's run at a point. -/
theorem pointWork (E : Set ℕ) (K : PUnit → sProp 𝕄) :
    iprop(given c (b0 t) (b1 t) (b2 t) (b3 t) (b4 t) (b5 t) (b6 t) (b7 t) (iblk m c 0 t) (iblk m c 1 t) (iblk m c 2 t) (iblk m c 3 t) (iblk m c 4 t) (iblk m c 5 t) (iblk m c 6 t) (iblk m c 7 t) ∗ some' (F := F) c (b8 t) ∗ some' (F := F) c (b9 t) ∗ some' (F := F) c (b10 t) ∗ owns (c : Thread nD τ) (Memref.whole cc0_scratch0) fullShare s0 ∗ owns (c : Thread nD τ) (Memref.whole cc0_scratch1) fullShare s1 ∗ fresh (F := F) c (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) (Memref.whole cc0_scratch15) (Memref.whole cc0_scratch16) (Memref.whole cc0_scratch17) (Memref.whole cc0_scratch18) (Memref.whole cc0_scratch19) (Memref.whole cc0_scratch20) ∗ (iprop(given c (b0 t) (b1 t) (b2 t) (b3 t) (b4 t) (b5 t) (b6 t) (b7 t) (iblk m c 0 t) (iblk m c 1 t) (iblk m c 2 t) (iblk m c 3 t) (iblk m c 4 t) (iblk m c 5 t) (iblk m c 6 t) (iblk m c 7 t) ∗ owns (c : Thread nD τ) (b8 t) fullShare (worked m c t h s0 s1).dq ∗ owns (c : Thread nD τ) (b9 t) fullShare (worked m c t h s0 s1).dk ∗ owns (c : Thread nD τ) (b10 t) fullShare (worked m c t h s0 s1).dv ∗ owns (c : Thread nD τ) (Memref.whole cc0_scratch0) fullShare (worked m c t h s0 s1).sk ∗ owns (c : Thread nD τ) (Memref.whole cc0_scratch1) fullShare (worked m c t h s0 s1).sv ∗ fresh (F := F) c (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) (Memref.whole cc0_scratch15) (Memref.whole cc0_scratch16) (Memref.whole cc0_scratch17) (Memref.whole cc0_scratch18) (Memref.whole cc0_scratch19) (Memref.whole cc0_scratch20)) -∗ K ⟨⟩))
      ⊢ wp frame (wpE (defs₀ (F := F)) Variants.none c none) E (tail (F := F) (grid0.coords t) (b0 t) (h0 t) (b1 t) (h1 t) (b2 t) (h2 t) (b3 t) (h3 t) (b4 t) (h4 t) (b5 t) (h5 t) (b6 t) (h6 t) (b7 t) (h7 t) (b8 t) (h8 t) (b9 t) (h9 t) (b10 t) (h10 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _)).1 K := by
  unfold worked
  dsimp only
  generalize runTail c (grid0.coords t) (b0 t) (h0 t) (b1 t) (h1 t) (b2 t) (h2 t) (b3 t) (h3 t) (b4 t) (h4 t) (b5 t) (h5 t) (b6 t) (h6 t) (b7 t) (h7 t) (b8 t) (h8 t) (b9 t) (h9 t) (b10 t) (h10 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) ((work_iff t).mpr h) (fun e => h ((last_iff t).mp e)) (iblk m c 0 t) (iblk m c 1 t) (iblk m c 2 t) (iblk m c 3 t) (iblk m c 4 t) (iblk m c 5 t) (iblk m c 6 t) (iblk m c 7 t) s0 s1 = rt
  exact blocks_of_run c (b8 t) (b9 t) (b10 t) (Memref.whole cc0_scratch0) (Memref.whole cc0_scratch1) rt.1 rt.2.1 rt.2.2.1 rt.2.2.2.1 rt.2.2.2.2.1 rt.2.2.2.2.2.1 _ _ _ _ _ _ _ _ _ (rt.2.2.2.2.2.2 E K)
end

section
variable (c : Dev nD) (t : Fin cfg0.N)
/-- The body at a point past the first of its pair is the body without its first branch. -/
theorem point_tail (h : t.val % 5 ≠ 0) : bodyAt0 (F := F) t = (tail (F := F) (grid0.coords t) (b0 t) (h0 t) (b1 t) (h1 t) (b2 t) (h2 t) (b3 t) (h3 t) (b4 t) (h4 t) (b5 t) (h5 t) (b6 t) (h6 t) (b7 t) (h7 t) (b8 t) (h8 t) (b9 t) (h9 t) (b10 t) (h10 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _)).1 :=
  (tail (F := F) (grid0.coords t) (b0 t) (h0 t) (b1 t) (h1 t) (b2 t) (h2 t) (b3 t) (h3 t) (b4 t) (h4 t) (b5 t) (h5 t) (b6 t) (h6 t) (b7 t) (h7 t) (b8 t) (h8 t) (b9 t) (h9 t) (b10 t) (h10 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _)).2 (fun e => h ((first_iff t).mp e))

/-- A pair's first point. -/
theorem pointFirst (hz : t.val % 5 = 0) (h : t.val % 5 ≠ 4) (E : Set ℕ) (K : PUnit → sProp 𝕄) :
    iprop((given c (b0 t) (b1 t) (b2 t) (b3 t) (b4 t) (b5 t) (b6 t) (b7 t) (iblk m c 0 t) (iblk m c 1 t) (iblk m c 2 t) (iblk m c 3 t) (iblk m c 4 t) (iblk m c 5 t) (iblk m c 6 t) (iblk m c 7 t) ∗ some' (F := F) c (b8 t) ∗ some' (F := F) c (b9 t) ∗ some' (F := F) c (b10 t) ∗ fresh (F := F) c (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) (Memref.whole cc0_scratch15) (Memref.whole cc0_scratch16) (Memref.whole cc0_scratch17) (Memref.whole cc0_scratch18) (Memref.whole cc0_scratch19) (Memref.whole cc0_scratch20) ∗ (iprop(given c (b0 t) (b1 t) (b2 t) (b3 t) (b4 t) (b5 t) (b6 t) (b7 t) (iblk m c 0 t) (iblk m c 1 t) (iblk m c 2 t) (iblk m c 3 t) (iblk m c 4 t) (iblk m c 5 t) (iblk m c 6 t) (iblk m c 7 t) ∗ owns (c : Thread nD τ) (b8 t) fullShare (worked m c t h (k0_pay1 (F := F)) (k0_pay2 (F := F))).dq ∗ owns (c : Thread nD τ) (b9 t) fullShare (worked m c t h (k0_pay1 (F := F)) (k0_pay2 (F := F))).dk ∗ owns (c : Thread nD τ) (b10 t) fullShare (worked m c t h (k0_pay1 (F := F)) (k0_pay2 (F := F))).dv ∗ owns (c : Thread nD τ) (Memref.whole cc0_scratch0) fullShare (worked m c t h (k0_pay1 (F := F)) (k0_pay2 (F := F))).sk ∗ owns (c : Thread nD τ) (Memref.whole cc0_scratch1) fullShare (worked m c t h (k0_pay1 (F := F)) (k0_pay2 (F := F))).sv ∗ fresh (F := F) c (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) (Memref.whole cc0_scratch15) (Memref.whole cc0_scratch16) (Memref.whole cc0_scratch17) (Memref.whole cc0_scratch18) (Memref.whole cc0_scratch19) (Memref.whole cc0_scratch20)) -∗ K ⟨⟩)) ∗ some' (F := F) c (Memref.whole cc0_scratch0) ∗ some' (F := F) c (Memref.whole cc0_scratch1))
      ⊢ wp frame (wpE (defs₀ (F := F)) Variants.none c none) E (bodyAt0 (F := F) t) K := by
  refine runFirst c (grid0.coords t) (b0 t) (h0 t) (b1 t) (h1 t) (b2 t) (h2 t) (b3 t) (h3 t) (b4 t) (h4 t) (b5 t) (h5 t) (b6 t) (h6 t) (b7 t) (h7 t) (b8 t) (h8 t) (b9 t) (h9 t) (b10 t) (h10 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) ((first_iff t).mpr hz) _ E K ?_
  iintro ⟨⟨HG, H8, H9, H10, HF, Hk⟩, H13, H14⟩
  iapply (pointWork m c t h _ _ E K)
  isplitl [HG]; · iexact HG
  isplitl [H8]; · iexact H8
  isplitl [H9]; · iexact H9
  isplitl [H10]; · iexact H10
  isplitl [H13]; · iexact H13
  isplitl [H14]; · iexact H14
  isplitl [HF]; · iexact HF
  iexact Hk
end

end Cert.Attn

end
-- ==== Proof.Attn.Frame.lean ====
module

public import proofs.«01_k».proof.Proof.Attn.Points
public import Idealize.ShloMosaic.Lib.Claim

@[expose] public section

set_option maxRecDepth 16384

noncomputable section

namespace Cert.Attn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! The frame of the attention gradient's kernel: what every point of the grid leaves, the invariant its points hand on
(the two carried buffers within a pair of heads), and the run of the whole program. -/

variable (m : (ℓ : Loc nD τ sig) → Buf (Elt F) ℓ) (ρ : Dev nD → PrngReg)

/-- What a pair's first point leaves: it starts from cleared buffers. -/
def heldStart (c : Dev nD) (t : Fin cfg0.N) (h : t.val % 5 ≠ 4) : Held F := worked m c t h (k0_pay1 (F := F)) (k0_pay2 (F := F))

/-- What a point leaves from what the one before it left: a pair's last point writes the carried buffers out. -/
def heldNext (c : Dev nD) (t : Fin cfg0.N) (p : Held F) : Held F :=
  if h4 : t.val % 5 = 4 then ⟨p.dq, k0_pay6 p.sk, k0_pay7 p.sv, p.sk, p.sv⟩
  else if t.val % 5 = 0 then heldStart m c t h4
  else worked m c t h4 p.sk p.sv

/-- What point `n` leaves. -/
def held (c : Dev nD) : (n : ℕ) → n < cfg0.N → Held F
  | 0, hn => heldStart m c ⟨0, hn⟩ (by show 0 % 5 ≠ 4; decide)
  | n + 1, hn => heldNext m c ⟨n + 1, hn⟩ (held c n (Nat.lt_of_succ_lt hn))

theorem held_zero (c : Dev nD) (hn : 0 < cfg0.N) : held m c 0 hn = heldStart m c ⟨0, hn⟩ (by show 0 % 5 ≠ 4; decide) := rfl
theorem held_succ (c : Dev nD) (n : ℕ) (hn : n + 1 < cfg0.N) :
    held m c (n + 1) hn = heldNext m c ⟨n + 1, hn⟩ (held m c n (Nat.lt_of_succ_lt hn)) := rfl

theorem pred_lt {n : ℕ} (h : n < cfg0.N) : n - 1 < cfg0.N := Nat.lt_of_le_of_lt (Nat.sub_le _ _) h

attribute [local irreducible] worked

theorem held_first (c : Dev nD) (t : Fin cfg0.N) (hz : t.val % 5 = 0) :
    held m c t.val t.isLt = worked m c t (by omega) (k0_pay1 (F := F)) (k0_pay2 (F := F)) := by
  obtain ⟨n, hn⟩ := t
  cases n with
  | zero => exact (held_zero m c hn).trans rfl
  | succ n =>
    refine (held_succ m c n hn).trans ((dif_neg (show ¬(n + 1) % 5 = 4 by dsimp only at hz; omega)).trans ?_)
    exact (if_pos hz).trans rfl
theorem held_mid (c : Dev nD) (t : Fin cfg0.N) (hz : t.val % 5 ≠ 0) (h4 : t.val % 5 ≠ 4) :
    held m c t.val t.isLt = worked m c t h4 (held m c (t.val - 1) (pred_lt t.isLt)).sk (held m c (t.val - 1) (pred_lt t.isLt)).sv := by
  obtain ⟨n, hn⟩ := t
  cases n with
  | zero => exact absurd rfl hz
  | succ n => exact (held_succ m c n hn).trans ((dif_neg h4).trans (if_neg hz))
theorem held_last (c : Dev nD) (t : Fin cfg0.N) (h4 : t.val % 5 = 4) :
    held m c t.val t.isLt = ⟨(held m c (t.val - 1) (pred_lt t.isLt)).dq, k0_pay6 (held m c (t.val - 1) (pred_lt t.isLt)).sk,
      k0_pay7 (held m c (t.val - 1) (pred_lt t.isLt)).sv, (held m c (t.val - 1) (pred_lt t.isLt)).sk, (held m c (t.val - 1) (pred_lt t.isLt)).sv⟩ := by
  obtain ⟨n, hn⟩ := t
  cases n with
  | zero => exact absurd h4 (by show ¬0 % 5 = 4; decide)
  | succ n => exact (held_succ m c n hn).trans (dif_pos h4)

/-- What the points hand on before point `n`. -/
def carried (c : Dev nD) (n : ℕ) (hn : n ≤ cfg0.N) : sProp 𝕄 :=
  if h : n % 5 = 0 then Pipeline.ΦA spec0 c
  else iprop((owns (c : Thread nD τ) (Memref.whole cc0_scratch0) fullShare (held m c (n - 1) (by omega)).sk ∗ owns (c : Thread nD τ) (Memref.whole cc0_scratch1) fullShare (held m c (n - 1) (by omega)).sv ∗ fresh (F := F) c (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) (Memref.whole cc0_scratch15) (Memref.whole cc0_scratch16) (Memref.whole cc0_scratch17) (Memref.whole cc0_scratch18) (Memref.whole cc0_scratch19) (Memref.whole cc0_scratch20)) ∗ (∃ r, prngReg c r))

theorem carried_start (c : Dev nD) (n : ℕ) (hn : n ≤ cfg0.N) (h : n % 5 = 0) : carried m c n hn = Pipeline.ΦA spec0 c := by
  exact dif_pos h
theorem carried_mid (c : Dev nD) (n : ℕ) (hn : n ≤ cfg0.N) (h : n % 5 ≠ 0) : carried m c n hn
    = iprop((owns (c : Thread nD τ) (Memref.whole cc0_scratch0) fullShare (held m c (n - 1) (by omega)).sk ∗ owns (c : Thread nD τ) (Memref.whole cc0_scratch1) fullShare (held m c (n - 1) (by omega)).sv ∗ fresh (F := F) c (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) (Memref.whole cc0_scratch15) (Memref.whole cc0_scratch16) (Memref.whole cc0_scratch17) (Memref.whole cc0_scratch18) (Memref.whole cc0_scratch19) (Memref.whole cc0_scratch20)) ∗ (∃ r, prngReg c r)) := by
  exact dif_neg h

theorem any_eq (c : Dev nD) : (Pipeline.ΦA spec0 c : sProp 𝕄)
    = iprop((some' (F := F) c (Memref.whole cc0_scratch0) ∗ some' (F := F) c (Memref.whole cc0_scratch1) ∗ fresh (F := F) c (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) (Memref.whole cc0_scratch15) (Memref.whole cc0_scratch16) (Memref.whole cc0_scratch17) (Memref.whole cc0_scratch18) (Memref.whole cc0_scratch19) (Memref.whole cc0_scratch20)) ∗ (∃ r, prngReg c r)) := by
  unfold Pipeline.ΦA; rw [scopedRest0_eq]; simp only [fresh, some', owns_whole]; rfl

/-- The proof data of the run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (held m c t.val t.isLt).dq
    | ⟨9, _⟩ => (held m c t.val t.isLt).dk
    | ⟨10, _⟩ => (held m c t.val t.isLt).dv
    | ⟨_ + 11, h⟩ => absurd h (Nat.not_lt.2 (Nat.le_add_left _ _))
  Φ t := carried m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (held m c t.val t.isLt).dq := by dsimp only [dats]
theorem after_9 (c : Dev nD) (t : Fin cfg0.N) : (dats m 0 c).after 9 t = (held m c t.val t.isLt).dk := by dsimp only [dats]
theorem after_10 (c : Dev nD) (t : Fin cfg0.N) : (dats m 0 c).after 10 t = (held m c t.val t.isLt).dv := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- A pair's last point finds the queries' gradients as its fourth point left them. -/
theorem before_q (c : Dev nD) (t : Fin cfg0.N) (h : t.val % 5 = 4) (d) :
    (dats m 0 c).before 8 t d = (held m c (t.val - 1) (pred_lt t.isLt)).dq := by
  have hf : (cfg0.win 8).flush ⟨t.val - 1, pred_lt t.isLt⟩ = false := by
    refine (flush_q ⟨t.val - 1, pred_lt t.isLt⟩).trans ?_
    have e : (t.val - 1) % 5 = 3 := by omega
    simp [e]
  have hl : cfg0.idle 8 (cfg0.grid.coords ⟨t.val - 1, pred_lt t.isLt⟩) = false :=
    live_q ⟨t.val - 1, pred_lt t.isLt⟩ ((work_iff _).mpr (by dsimp only; omega))
  rw [Dat.before_of_pos _ 8 t (by omega) ((cfg0.win 8).fetch_out rfl t), hf, if_neg Bool.false_ne_true]
  unfold Dat.left; rw [hl]; dsimp only
  unfold Dat.kept
  rw [Pipeline.fill_of_clip_none 8 _ (fun _ => rfl) d ((dats m 0 c).after 8 _), Window.fill_cut]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d))
    ∗ (∃ d, owns (c : Thread nD τ) (b7 t) fullShare ((dats m 0 c).before 7 t d))
    ∗ (∃ d, owns (c : Thread nD τ) (b8 t) fullShare ((dats m 0 c).before 8 t d))
    ∗ (∃ d, owns (c : Thread nD τ) (b9 t) fullShare ((dats m 0 c).before 9 t d))
    ∗ (∃ d, owns (c : Thread nD τ) (b10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_in (c : Dev nD) (t : Fin cfg0.N) : bodyPost m c t = iprop(carried m c (t.val + 1) t.isLt ∗ (dats m 0 c).owesAt () t.castSucc
    ∗ owns (c : Thread nD τ) (b0 t) fullShare (iblk m c 0 t)
    ∗ owns (c : Thread nD τ) (b1 t) fullShare (iblk m c 1 t)
    ∗ owns (c : Thread nD τ) (b2 t) fullShare (iblk m c 2 t)
    ∗ owns (c : Thread nD τ) (b3 t) fullShare (iblk m c 3 t)
    ∗ owns (c : Thread nD τ) (b4 t) fullShare (iblk m c 4 t)
    ∗ owns (c : Thread nD τ) (b5 t) fullShare (iblk m c 5 t)
    ∗ owns (c : Thread nD τ) (b6 t) fullShare (iblk m c 6 t)
    ∗ owns (c : Thread nD τ) (b7 t) fullShare (iblk m c 7 t)
    ∗ owns (c : Thread nD τ) (b8 t) fullShare (held m c t.val t.isLt).dq ∗ owns (c : Thread nD τ) (b9 t) fullShare (held m c t.val t.isLt).dk
    ∗ owns (c : Thread nD τ) (b10 t) fullShare (held m c t.val t.isLt).dv) := by
  unfold bodyPost
  rw [show (dats m 0 c).owesAt () t.succ = (dats m 0 c).owesAt () t.castSucc from rfl,
    show (dats m 0 c).Φ t.succ = carried m c (t.val + 1) t.isLt from rfl]
  have e8 : (dats m 0 c).leavesExact 8 t = owns (c : Thread nD τ) (b8 t) fullShare (held m c t.val t.isLt).dq := by
    unfold Dat.leavesExact
    by_cases hw : IsWork (grid0.coords t)
    · rw [show cfg0.idle 8 (cfg0.grid.coords t) = false from live_q t hw, after_8]
    · have e4 : t.val % 5 = 4 := by by_contra e; exact hw ((work_iff t).mpr e)
      rw [show cfg0.idle 8 (cfg0.grid.coords t) = true from idle_q t hw,
        show (cfg0.win 8).flush t = true from (flush_q t).trans (by simp [e4]), after_8]
  have e9 : (dats m 0 c).leavesExact 9 t = owns (c : Thread nD τ) (b9 t) fullShare (held m c t.val t.isLt).dk := by
    unfold Dat.leavesExact; rw [show cfg0.idle 9 (cfg0.grid.coords t) = false from live_k t, after_9]
  have e10 : (dats m 0 c).leavesExact 10 t = owns (c : Thread nD τ) (b10 t) fullShare (held m c t.val t.isLt).dv := by
    unfold Dat.leavesExact; rw [show cfg0.idle 10 (cfg0.grid.coords t) = false from live_k t, after_10]
  have e0 : (dats m 0 c).leavesExact 0 t = owns (c : Thread nD τ) (b0 t) fullShare (iblk m c 0 t) := by
    unfold Dat.leavesExact; rw [show cfg0.idle 0 (cfg0.grid.coords t) = false from rfl, after_0]
  have e1 : (dats m 0 c).leavesExact 1 t = owns (c : Thread nD τ) (b1 t) fullShare (iblk m c 1 t) := by
    unfold Dat.leavesExact; rw [show cfg0.idle 1 (cfg0.grid.coords t) = false from rfl, after_1]
  have e2 : (dats m 0 c).leavesExact 2 t = owns (c : Thread nD τ) (b2 t) fullShare (iblk m c 2 t) := by
    unfold Dat.leavesExact; rw [show cfg0.idle 2 (cfg0.grid.coords t) = false from rfl, after_2]
  have e3 : (dats m 0 c).leavesExact 3 t = owns (c : Thread nD τ) (b3 t) fullShare (iblk m c 3 t) := by
    unfold Dat.leavesExact; rw [show cfg0.idle 3 (cfg0.grid.coords t) = false from rfl, after_3]
  have e4 : (dats m 0 c).leavesExact 4 t = owns (c : Thread nD τ) (b4 t) fullShare (iblk m c 4 t) := by
    unfold Dat.leavesExact; rw [show cfg0.idle 4 (cfg0.grid.coords t) = false from rfl, after_4]
  have e5 : (dats m 0 c).leavesExact 5 t = owns (c : Thread nD τ) (b5 t) fullShare (iblk m c 5 t) := by
    unfold Dat.leavesExact; rw [show cfg0.idle 5 (cfg0.grid.coords t) = false from rfl, after_5]
  have e6 : (dats m 0 c).leavesExact 6 t = owns (c : Thread nD τ) (b6 t) fullShare (iblk m c 6 t) := by
    unfold Dat.leavesExact; rw [show cfg0.idle 6 (cfg0.grid.coords t) = false from rfl, after_6]
  have e7 : (dats m 0 c).leavesExact 7 t = owns (c : Thread nD τ) (b7 t) fullShare (iblk m c 7 t) := by
    unfold Dat.leavesExact; rw [show cfg0.idle 7 (cfg0.grid.coords t) = false from rfl, after_7]
  rw [e0, e1, e2, e3, e4, e5, e6, e7, e8, e9, e10]

set_option maxHeartbeats 1600000 in
theorem sound_first (c : Dev nD) (t : Fin cfg0.N) (hz : t.val % 5 = 0) : bodyPre m c t ⊢ wp frame (wpE (defs₀ (F := F)) Variants.none c none) Set.univ (bodyAt0 t) (fun _ => bodyPost m c t) := by
  unfold bodyPre
  rw [leaves_in]
  simp only [before_0, before_1, before_2, before_3, before_4, before_5, before_6, before_7]
  rw [show (dats m 0 c).Φ t.castSucc = carried m c t.val (Nat.le_of_lt t.isLt) from rfl]
  rw [carried_start m c _ _ hz, any_eq, carried_mid m c (t.val + 1) _ (by omega)]
  simp only [show t.val + 1 - 1 = t.val from rfl, held_first m c t hz]
  iintro ⟨⟨⟨HS0, HS1, HF⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (pointFirst m c t hz (by omega) Set.univ _)
  isplitr [HS0 HS1]
  swap
  · isplitl [HS0]; · iexact HS0
    iexact HS1
  isplitl [H0 H1 H2 H3 H4 H5 H6 H7]
  · unfold given
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [H9]; · iexists _; iexact H9
  isplitl [H10]; · iexists _; iexact H10
  isplitl [HF]; · iexact HF
  iintro ⟨⟨H0, H1, H2, H3, H4, H5, H6, H7⟩, H8, H9, H10, HS0, HS1, HF⟩
  isplitl [HS0 HS1 HF Hg]
  · isplitl [HS0 HS1 HF]
    · isplitl [HS0]; · iexact HS0
      isplitl [HS1]; · iexact HS1
      iexact HF
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1600000 in
theorem sound_mid (c : Dev nD) (t : Fin cfg0.N) (hz : t.val % 5 ≠ 0) (h4 : t.val % 5 ≠ 4) : bodyPre m c t ⊢ wp frame (wpE (defs₀ (F := F)) Variants.none c none) Set.univ (bodyAt0 t) (fun _ => bodyPost m c t) := by
  unfold bodyPre
  rw [leaves_in]
  simp only [before_0, before_1, before_2, before_3, before_4, before_5, before_6, before_7]
  rw [show (dats m 0 c).Φ t.castSucc = carried m c t.val (Nat.le_of_lt t.isLt) from rfl]
  rw [carried_mid m c _ _ hz, carried_mid m c (t.val + 1) _ (by omega), point_tail t hz]
  simp only [show t.val + 1 - 1 = t.val from rfl, held_mid m c t hz h4]
  iintro ⟨⟨⟨HS0, HS1, HF⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (pointWork m c t h4 _ _ Set.univ _)
  isplitl [H0 H1 H2 H3 H4 H5 H6 H7]
  · unfold given
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [H9]; · iexists _; iexact H9
  isplitl [H10]; · iexists _; iexact H10
  isplitl [HS0]; · iexact HS0
  isplitl [HS1]; · iexact HS1
  isplitl [HF]; · iexact HF
  iintro ⟨⟨H0, H1, H2, H3, H4, H5, H6, H7⟩, H8, H9, H10, HS0, HS1, HF⟩
  isplitl [HS0 HS1 HF Hg]
  · isplitl [HS0 HS1 HF]
    · isplitl [HS0]; · iexact HS0
      isplitl [HS1]; · iexact HS1
      iexact HF
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1600000 in
theorem sound_last (c : Dev nD) (t : Fin cfg0.N) (hl : t.val % 5 = 4) : bodyPre m c t ⊢ wp frame (wpE (defs₀ (F := F)) Variants.none c none) Set.univ (bodyAt0 t) (fun _ => bodyPost m c t) := by
  unfold bodyPre
  rw [leaves_in]
  simp only [before_0, before_1, before_2, before_3, before_4, before_5, before_6, before_7]
  rw [show (dats m 0 c).Φ t.castSucc = carried m c t.val (Nat.le_of_lt t.isLt) from rfl]
  rw [carried_mid m c _ _ (by omega), carried_start m c (t.val + 1) _ (by omega), any_eq]
  simp only [held_last m c t hl, before_q m c t hl]
  iintro ⟨⟨⟨HS0, HS1, HF⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runLast c (grid0.coords t) (b0 t) (h0 t) (b1 t) (h1 t) (b2 t) (h2 t) (b3 t) (h3 t) (b4 t) (h4 t) (b5 t) (h5 t) (b6 t) (h6 t) (b7 t) (h7 t) (b8 t) (h8 t) (b9 t) (h9 t) (b10 t) (h10 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (fun e => absurd ((first_iff t).mp e) (by omega)) (fun e => (work_iff t).mp e hl) ((last_iff t).mpr hl) _ _ (iprop(emp) : sProp 𝕄) Set.univ _)
  isplitr; · iempintro
  isplitl [H9]; · iexists _; iexact H9
  isplitl [H10]; · iexists _; iexact H10
  isplitl [HS0]; · iexact HS0
  isplitl [HS1]; · iexact HS1
  iintro ⟨-, H9, H10, HS0, HS1⟩
  isplitl [HS0 HS1 HF Hg]
  · isplitl [HS0 HS1 HF]
    · isplitl [HS0]; · iexists _; iexact HS0
      isplitl [HS1]; · iexists _; iexact HS1
      iexact HF
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem sound_body (c : Dev nD) (t : Fin cfg0.N) : bodyPre m c t ⊢ wp frame (wpE (defs₀ (F := F)) Variants.none c none) Set.univ (bodyAt0 t) (fun _ => bodyPost m c t) := by
  by_cases hz : t.val % 5 = 0
  · exact sound_first m c t hz
  · by_cases h4 : t.val % 5 = 4
    · exact sound_last m c t h4
    · exact sound_mid m c t hz h4

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = carried m c 0 (Nat.zero_le _) from rfl, carried_start m c 0 _ rfl]
theorem hout (c : Dev nD) : (dats m 0 c).Φ (Fin.last cfg0.N) ⊢ Pipeline.ΦA spec0 c := by
  rw [show (dats m 0 c).Φ (Fin.last cfg0.N) = carried m c cfg0.N (Nat.le_refl _) from rfl, carried_start m c _ _ (by rw [show cfg0.N = 20 from N_0])]

set_option backward.isDefEq.respectTransparency.types false in
/-- Every run of the program ends with the gradients' arrays as the points left them and no counter raised. -/
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arguments end unchanged and no counter is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Attn

end
-- ==== Proof.Attn.Step.lean ====
/-
  What a point of the grid leaves, over arrays with real entries.
-/
module

public import proofs.«01_k».proof.Proof.Attn.Block
public import proofs.«01_k».proof.Proof.Attn.Stores
public import proofs.«01_k».proof.Proof.Attn.Frame

@[expose] public section

set_option maxRecDepth 16384

noncomputable section

namespace Cert.Attn

open Cert.Kernel6Ideal Cert.Kernel6Ideal.Gen
open Idealize.ShloMosaic Idealize.ShloMosaic.TcCoe Idealize.ShloMosaic.Tactic
open Cert.Dense (Is2)
open Cert.Spec

attribute [local irreducible] runTail

variable (m : (ℓ : Loc nD τ sig) → Buf (Elt Ideal) ℓ) (c : Dev nD)

theorem chunk_of (t : Fin cfg0.N) : ((grid0.coords t) 1).val = t.val % 5 :=
  (by decide +kernel : ∀ t : Fin grid0.N, ((grid0.coords t) 1).val = t.val % 5) t

theorem cast_apply {a : FVec Ideal S2048x128 .f32} {A : ℕ → ℕ → ℝ} (ha : Is2 a A) :
    (Is2 (k0_pay817 (F := Ideal) a) A ∧ Is2 (k0_pay825 (F := Ideal) a) A) ∧ Is2 (k0_pay6 (F := Ideal) a) A ∧ Is2 (k0_pay7 (F := Ideal) a) A := by
  refine ⟨⟨?_, ?_⟩, ?_, ?_⟩ <;> intro i x <;> pointwise [k0_pay817, k0_pay825, k0_pay6, k0_pay7] <;> exact ha i x

/-- The loads of a point. -/
abbrev loadsAt (t : Fin cfg0.N) : Loads Ideal := loadsOf (b0 t) (h0 t) (b1 t) (h1 t) (b2 t) (h2 t) (b3 t) (h3 t) (b4 t) (h4 t) (b5 t) (h5 t) (b6 t) (h6 t) (b7 t) (h7 t)
  (Memref.whole cc0_scratch2) (Memref.whole cc0_scratch3) (Memref.whole cc0_scratch4) (Memref.whole cc0_scratch5)
  (iblk m c 0 t) (iblk m c 1 t) (iblk m c 2 t) (iblk m c 3 t) (iblk m c 4 t) (iblk m c 5 t) (iblk m c 6 t) (iblk m c 7 t)

section
variable {m c} {f g : ℕ → ℕ → ℝ} (hf : ∀ (R : Fin 8192) (C : Fin 2048), C.val < 1536 → proj m c (ix2 R C) = (f R.val C.val : EReal))
  (hg : ∀ (R : Fin 8192) (C : Fin 1024), C.val < 512 → dcat m c (ix2 R C) = (g R.val C.val : EReal)) (t : Fin cfg0.N) (h : t.val % 5 ≠ 4)

include hf hg h in
theorem filled_at : Filled f g (loadsAt m c t) (t.val % 5) (t.val / 5) := filled hf hg t h _ _ _ _ _ _ _ _ _ _ _ _ _ _ _ _ _ _ _ _

theorem small_chunk (t : Fin cfg0.N) : t.val % 5 < 2 ^ 31 := by omega

variable (s0 s1 : Vec Ideal S2048x128 .f32)

include hf hg in
theorem step_q : Is2 (worked m c t h s0 s1).dq (fun y x => gradQ f g (2048 * (t.val % 5) + y) (128 * (t.val / 5) + x)) := by
  have L := filled_at hf hg t h
  have hc := small_chunk t
  have e : (worked m c t h s0 s1).dq = _ := congrArg View.canon (stores_q ..)
  rw [e, View.canon_unit_zero (S := S2048x128) hz2, chunk_of t]
  exact Is2.to (sum_three (cov_rows _ _ (canon_q L hc (.inl rfl) sited0 here0) 0 2048 inb_S2048x128_S2048x128_0_0)
    (cov_rows _ _ (canon_q L hc (.inr (.inl rfl)) sited1 here1) 0 2048 inb_S2048x128_S2048x128_0_0)
    (cov_rows _ _ (canon_q L hc (.inr (.inr rfl)) sited2 here2) 0 2048 inb_S2048x128_S2048x128_0_0)).1 fun y x _ _ => by
      unfold gradQ
      rw [Nat.zero_add]
      ring

include hf hg in
theorem step_k {S : ℕ → ℕ → ℝ} (hs : Is2 s0 S) : Is2 (worked m c t h s0 s1).dk (fun y x => S y x + (if 1920 ≤ y then backAt (t.val % 5) 1 (keyTerm f g (128 * (t.val / 5) + x)) y else 0)
    + (if 1536 ≤ y then backAt (t.val % 5) 4 (keyTerm f g (128 * (t.val / 5) + x)) y else 0) + backAt (t.val % 5) 16 (keyTerm f g (128 * (t.val / 5) + x)) y) := by
  have L := filled_at hf hg t h
  have hc := small_chunk t
  have e : (worked m c t h s0 s1).dk = _ := congrArg View.canon (stores_k ..)
  rw [e, View.canon_unit_zero (S := S2048x128) hz2, chunk_of t]
  refine (And.left (And.left (cast_apply (Is2.to (cov_rows _ _ (done_apply _ _ _ _ _ _ _ _ _ hs (canon_kBack L hc (.inl rfl) sited0 back0) (canon_kBack L hc (.inr (.inl rfl)) sited1 back1)
    (canon_kBack L hc (.inr (.inr rfl)) sited2 back2)) 0 2048 inb_S2048x128_S2048x128_0_0) fun y x _ _ => ?_))))
  rw [Nat.zero_add]

include hf hg in
theorem step_sk : Is2 (worked m c t h s0 s1).sk (fun y x => carryAt (t.val % 5) (keyTerm f g (128 * (t.val / 5) + x)) y) := by
  have L := filled_at hf hg t h
  have hc := small_chunk t
  have e : (worked m c t h s0 s1).sk = _ := congrArg View.canon (carries_k ..)
  rw [e, chunk_of t]
  exact next_apply _ _ _ _ _ _ _ _ _ _ _ _ _ _ _ (canon_kOwn L hc (.inl rfl) sited0 here0) (canon_kOwn L hc (.inr (.inl rfl)) sited1 here1)
    (canon_kOwn L hc (.inr (.inr rfl)) sited2 here2) (canon_kBack L hc (.inl rfl) sited0 back0) (canon_kBack L hc (.inr (.inl rfl)) sited1 back1)

include hf hg in
theorem step_v {S : ℕ → ℕ → ℝ} (hs : Is2 s1 S) : Is2 (worked m c t h s0 s1).dv (fun y x => S y x + (if 1920 ≤ y then backAt (t.val % 5) 1 (valTerm f g (128 * (t.val / 5) + x)) y else 0)
    + (if 1536 ≤ y then backAt (t.val % 5) 4 (valTerm f g (128 * (t.val / 5) + x)) y else 0) + backAt (t.val % 5) 16 (valTerm f g (128 * (t.val / 5) + x)) y) := by
  have L := filled_at hf hg t h
  have hc := small_chunk t
  have e : (worked m c t h s0 s1).dv = _ := congrArg View.canon (stores_v ..)
  rw [e, View.canon_unit_zero (S := S2048x128) hz2, chunk_of t]
  refine (And.right (And.left (cast_apply (Is2.to (cov_rows _ _ (done_apply _ _ _ _ _ _ _ _ _ hs (canon_vBack L hc (.inl rfl) sited0 back0) (canon_vBack L hc (.inr (.inl rfl)) sited1 back1)
    (canon_vBack L hc (.inr (.inr rfl)) sited2 back2)) 0 2048 inb_S2048x128_S2048x128_0_0) fun y x _ _ => ?_))))
  rw [Nat.zero_add]

include hf hg in
theorem step_sv : Is2 (worked m c t h s0 s1).sv (fun y x => carryAt (t.val % 5) (valTerm f g (128 * (t.val / 5) + x)) y) := by
  have L := filled_at hf hg t h
  have hc := small_chunk t
  have e : (worked m c t h s0 s1).sv = _ := congrArg View.canon (carries_v ..)
  rw [e, chunk_of t]
  exact next_apply _ _ _ _ _ _ _ _ _ _ _ _ _ _ _ (canon_vOwn L hc (.inl rfl) sited0 here0) (canon_vOwn L hc (.inr (.inl rfl)) sited1 here1)
    (canon_vOwn L hc (.inr (.inr rfl)) sited2 here2) (canon_vBack L hc (.inl rfl) sited0 back0) (canon_vBack L hc (.inr (.inl rfl)) sited1 back1)
end

/-! What the points hold. -/

section
variable {m c} {f g : ℕ → ℕ → ℝ} (hf : ∀ (R : Fin 8192) (C : Fin 2048), C.val < 1536 → proj m c (ix2 R C) = (f R.val C.val : EReal))
  (hg : ∀ (R : Fin 8192) (C : Fin 1024), C.val < 512 → dcat m c (ix2 R C) = (g R.val C.val : EReal)) (t : Fin cfg0.N)

theorem held_worked (h : t.val % 5 ≠ 4) : ∃ s0 s1, held m c t.val t.isLt = worked m c t h s0 s1
    ∧ (t.val % 5 ≠ 0 → s0 = (held m c (t.val - 1) (pred_lt t.isLt)).sk ∧ s1 = (held m c (t.val - 1) (pred_lt t.isLt)).sv) := by
  by_cases hz : t.val % 5 = 0
  · exact ⟨_, _, held_first m c t hz, fun z => absurd hz z⟩
  · exact ⟨_, _, held_mid m c t hz h, fun _ => ⟨rfl, rfl⟩⟩

include hf hg

theorem held_sums (h : t.val % 5 ≠ 4) : Is2 (held m c t.val t.isLt).sk (fun y x => carryAt (t.val % 5) (keyTerm f g (128 * (t.val / 5) + x)) y)
    ∧ Is2 (held m c t.val t.isLt).sv (fun y x => carryAt (t.val % 5) (valTerm f g (128 * (t.val / 5) + x)) y) := by
  obtain ⟨s0, s1, e, -⟩ := held_worked (m := m) (c := c) t h
  rw [e]
  exact ⟨step_sk hf hg t h s0 s1, step_sv hf hg t h s0 s1⟩

theorem held_q (h : t.val % 5 ≠ 4) : Is2 (held m c t.val t.isLt).dq (fun y x => gradQ f g (2048 * (t.val % 5) + y) (128 * (t.val / 5) + x)) := by
  obtain ⟨s0, s1, e, -⟩ := held_worked (m := m) (c := c) t h
  rw [e]
  exact step_q hf hg t h s0 s1

/-- The carried sums before a point past its pair's first. -/
theorem sums_before (hz : t.val % 5 ≠ 0) :
    Is2 (held m c (t.val - 1) (pred_lt t.isLt)).sk (fun y x => carryAt (t.val % 5 - 1) (keyTerm f g (128 * (t.val / 5) + x)) y)
    ∧ Is2 (held m c (t.val - 1) (pred_lt t.isLt)).sv (fun y x => carryAt (t.val % 5 - 1) (valTerm f g (128 * (t.val / 5) + x)) y) := by
  have e := held_sums hf hg ⟨t.val - 1, pred_lt t.isLt⟩ (show (t.val - 1) % 5 ≠ 4 by omega)
  dsimp only at e
  rw [show (t.val - 1) % 5 = t.val % 5 - 1 by omega, show (t.val - 1) / 5 = t.val / 5 by omega] at e
  exact e

theorem held_q_last (h : t.val % 5 = 4) : Is2 (held m c t.val t.isLt).dq (fun y x => gradQ f g (2048 * 3 + y) (128 * (t.val / 5) + x)) := by
  rw [held_last m c t h]
  have e := held_q hf hg ⟨t.val - 1, pred_lt t.isLt⟩ (show (t.val - 1) % 5 ≠ 4 by omega)
  dsimp only at e
  rw [show (t.val - 1) % 5 = 3 by omega, show (t.val - 1) / 5 = t.val / 5 by omega] at e
  exact e

theorem held_kv (hz : t.val % 5 ≠ 0) :
    Is2 (held m c t.val t.isLt).dk (fun y x => gather (keyTerm f g (128 * (t.val / 5) + x)) (2048 * (t.val % 5 - 1) + y))
    ∧ Is2 (held m c t.val t.isLt).dv (fun y x => gather (valTerm f g (128 * (t.val / 5) + x)) (2048 * (t.val % 5 - 1) + y)) := by
  obtain ⟨bk, bv⟩ := sums_before hf hg t hz
  by_cases h : t.val % 5 = 4
  · rw [held_last m c t h]
    rw [h] at bk bv ⊢
    exact ⟨(cast_apply (Is2.to bk fun y x hy _ => carry_last y hy _)).2.1, (cast_apply (Is2.to bv fun y x hy _ => carry_last y hy _)).2.2⟩
  · obtain ⟨s0, s1, e, r⟩ := held_worked (m := m) (c := c) t h
    obtain ⟨r0, r1⟩ := r hz
    rw [e]
    obtain ⟨n, hn⟩ : ∃ n, t.val % 5 = n + 1 := ⟨t.val % 5 - 1, by omega⟩
    have ek := step_k hf hg t h s0 s1 (r0 ▸ bk)
    have ev := step_v hf hg t h s0 s1 (r1 ▸ bv)
    rw [hn, Nat.add_sub_cancel] at ek ev
    rw [hn, Nat.add_sub_cancel]
    exact ⟨Is2.to ek fun y x hy _ => carry_done n y (by omega) hy _, Is2.to ev fun y x hy _ => carry_done n y (by omega) hy _⟩
end

end Cert.Attn

end
-- ==== Proof.Attn.Arrays.lean ====
/-
  The arrays of the gradients of queries, keys and values after the last point, over arguments with real entries.
-/
module

public import proofs.«01_k».proof.Proof.Attn.Step

@[expose] public section

set_option maxRecDepth 16384

noncomputable section

namespace Cert.Attn

open Cert.Kernel6Ideal Cert.Kernel6Ideal.Gen
open Idealize.ShloMosaic Idealize.ShloMosaic.TcCoe Idealize.ShloMosaic.Tactic
open Cert.Dense (Is2)
open Cert.Spec

/-- The array of `8192` rows of `512` lanes with these entries. -/
def arr (F : ℕ → ℕ → ℝ) : S8192x512.Idx → EReal := fun i => ((F (i 0).val (i 1).val : ℝ) : EReal)

theorem arr_at (F : ℕ → ℕ → ℝ) (i : S8192x512.Idx) {a b : ℕ} (h0 : (i 0).val = a) (h1 : (i 1).val = b) : arr F i = ((F a b : ℝ) : EReal) := by
  subst h0 h1; rfl

theorem block_q (t : Fin cfg0.N) : win0_8.index t 0 = min (t.val % 5) 3 ∧ win0_8.index t 1 = t.val / 5 :=
  (by decide +kernel : ∀ t : Fin grid0.N, win0_8.index t 0 = min (t.val % 5) 3 ∧ win0_8.index t 1 = t.val / 5) t
theorem block_k (t : Fin cfg0.N) : win0_9.index t 0 = t.val % 5 - 1 ∧ win0_9.index t 1 = t.val / 5 :=
  (by decide +kernel : ∀ t : Fin grid0.N, win0_9.index t 0 = t.val % 5 - 1 ∧ win0_9.index t 1 = t.val / 5) t
theorem block_v (t : Fin cfg0.N) : win0_10.index t 0 = t.val % 5 - 1 ∧ win0_10.index t 1 = t.val / 5 :=
  (by decide +kernel : ∀ t : Fin grid0.N, win0_10.index t 0 = t.val % 5 - 1 ∧ win0_10.index t 1 = t.val / 5) t
theorem flush_k : ∀ t : Fin grid0.N, win0_9.flush t = !decide (t.val % 5 = 0) := by decide +kernel
theorem flush_v : ∀ t : Fin grid0.N, win0_10.flush t = !decide (t.val % 5 = 0) := by decide +kernel

variable {m : (ℓ : Loc nD τ sig) → Buf (Elt Ideal) ℓ} {c : Dev nD} {f g : ℕ → ℕ → ℝ}

section
variable (hf : ∀ (R : Fin 8192) (C : Fin 2048), C.val < 1536 → proj m c (ix2 R C) = (f R.val C.val : EReal))
  (hg : ∀ (R : Fin 8192) (C : Fin 1024), C.val < 512 → dcat m c (ix2 R C) = (g R.val C.val : EReal))
include hf hg

/-- What is stored at the queries' block's points. -/
theorem stored_q (t : Fin cfg0.N) : Is2 (held m c t.val t.isLt).dq (fun y x => gradQ f g (2048 * min (t.val % 5) 3 + y) (128 * (t.val / 5) + x)) := by
  by_cases h : t.val % 5 = 4
  · rw [h]; exact held_q_last hf hg t h
  · rw [show min (t.val % 5) 3 = t.val % 5 by omega]; exact held_q hf hg t h

/-- The queries' gradients. -/
theorem final_q : (dats m 0 c).arrAt 8 cfg0.N = arr (gradQ f g) :=
  (dats m 0 c).arrAt_eq_of_cover 8 (arr (gradQ f g))
    (fun t hd => by
      show (cfg0.win 8).cut (grid0.coords t) ((dats m 0 c).after 8 t) = _
      rw [after_8]
      funext y
      obtain ⟨r, x, rfl⟩ : ∃ (r : Fin 2048) (x : Fin 128), y = ix2 r x := ⟨y 0, y 1, (ix2_eta y).symm⟩
      refine Eq.trans (stored_q hf hg t r x) ?_
      rw [View.read_apply]
      have e0 : (((cfg0.win 8).blk t).view.emb (ix2 r x) 0).val = 2048 * min (t.val % 5) 3 + r.val := by
        show win0_8.index t 0 * 2048 + 1 * r.val = _; rw [(block_q t).1]; omega
      have e1 : (((cfg0.win 8).blk t).view.emb (ix2 r x) 1).val = 128 * (t.val / 5) + x.val := by
        show win0_8.index t 1 * 128 + 1 * x.val = _; rw [(block_q t).2]; omega
      exact (arr_at (gradQ f g) (((cfg0.win 8).blk t).view.emb (ix2 r x)) e0 e1).symm)
    fun i => by
      have h0 : (i 0).val < 8192 := (i 0).isLt
      have h1 : (i 1).val < 512 := (i 1).isLt
      obtain ⟨t, ht⟩ : ∃ t : Fin cfg0.N, t.val = 5 * ((i 1).val / 128) + ((i 0).val / 2048 + (i 0).val / 2048 / 3) := ⟨⟨5 * ((i 1).val / 128) + ((i 0).val / 2048 + (i 0).val / 2048 / 3), by rw [show cfg0.N = 20 from N_0]; omega⟩, rfl⟩
      obtain ⟨k, hk, hk0, hk1⟩ : ∃ k, (i 0).val / 2048 = k ∧ (i 0).val < 2048 * k + 2048 ∧ 2048 * k ≤ (i 0).val := ⟨_, rfl, by omega, by omega⟩
      rw [hk] at ht; have hq : k < 4 := by omega
      have hs : t.val / 5 = (i 1).val / 128 ∧ min (t.val % 5) 3 = k ∧ t.val % 5 ≠ 3 := by (rcases (by omega : k = 0 ∨ k = 1 ∨ k = 2 ∨ k = 3) with rfl | rfl | rfl | rfl) <;> omega
      refine ⟨t, (flush_q t).trans (by rw [Bool.not_eq_true', decide_eq_false_iff_not]; exact hs.2.2), ?_⟩
      show i ∈ ((View.whole main_v131_0).slice (win0_8.rect t)).set
      rw [View.set_slice_whole, Rect.mem_set_unit]
      intro a
      match a with
      | ⟨0, _⟩ =>
        show win0_8.index t 0 * 2048 ≤ (i 0).val ∧ (i 0).val < win0_8.index t 0 * 2048 + 2048
        rw [(block_q t).1, hs.2.1]; omega
      | ⟨1, _⟩ =>
        show win0_8.index t 1 * 128 ≤ (i 1).val ∧ (i 1).val < win0_8.index t 1 * 128 + 128
        rw [(block_q t).2, hs.1]; omega

/-- The keys' gradients. -/
theorem final_k : (dats m 0 c).arrAt 9 cfg0.N = arr (fun s L => gather (keyTerm f g L) s) :=
  (dats m 0 c).arrAt_eq_of_cover 9 (arr (fun s L => gather (keyTerm f g L) s))
    (fun t hd => by
      show (cfg0.win 9).cut (grid0.coords t) ((dats m 0 c).after 9 t) = _
      rw [after_9]
      funext y
      obtain ⟨r, x, rfl⟩ : ∃ (r : Fin 2048) (x : Fin 128), y = ix2 r x := ⟨y 0, y 1, (ix2_eta y).symm⟩
      have hz : t.val % 5 ≠ 0 := by have := (flush_k t).symm.trans hd; rw [Bool.not_eq_true', decide_eq_false_iff_not] at this; exact this
      refine Eq.trans ((held_kv hf hg t hz).1 r x) ?_
      rw [View.read_apply]
      have e0 : (((cfg0.win 9).blk t).view.emb (ix2 r x) 0).val = 2048 * (t.val % 5 - 1) + r.val := by
        show win0_9.index t 0 * 2048 + 1 * r.val = _; rw [(block_k t).1]; omega
      have e1 : (((cfg0.win 9).blk t).view.emb (ix2 r x) 1).val = 128 * (t.val / 5) + x.val := by
        show win0_9.index t 1 * 128 + 1 * x.val = _; rw [(block_k t).2]; omega
      exact (arr_at (fun s L => gather (keyTerm f g L) s) (((cfg0.win 9).blk t).view.emb (ix2 r x)) e0 e1).symm)
    fun i => by
      have h0 : (i 0).val < 8192 := (i 0).isLt
      have h1 : (i 1).val < 512 := (i 1).isLt
      obtain ⟨t, ht⟩ : ∃ t : Fin cfg0.N, t.val = 5 * ((i 1).val / 128) + ((i 0).val / 2048 + 1) := ⟨⟨5 * ((i 1).val / 128) + ((i 0).val / 2048 + 1), by rw [show cfg0.N = 20 from N_0]; omega⟩, rfl⟩
      obtain ⟨k, hk, hk0, hk1⟩ : ∃ k, (i 0).val / 2048 = k ∧ (i 0).val < 2048 * k + 2048 ∧ 2048 * k ≤ (i 0).val := ⟨_, rfl, by omega, by omega⟩
      have hs : t.val / 5 = (i 1).val / 128 ∧ t.val % 5 - 1 = k ∧ t.val % 5 ≠ 0 := by omega
      refine ⟨t, (flush_k t).trans (by rw [Bool.not_eq_true', decide_eq_false_iff_not]; exact hs.2.2), ?_⟩
      show i ∈ ((View.whole main_v131_1).slice (win0_9.rect t)).set
      rw [View.set_slice_whole, Rect.mem_set_unit]
      intro a
      match a with
      | ⟨0, _⟩ =>
        show win0_9.index t 0 * 2048 ≤ (i 0).val ∧ (i 0).val < win0_9.index t 0 * 2048 + 2048
        rw [(block_k t).1, hs.2.1]; omega
      | ⟨1, _⟩ =>
        show win0_9.index t 1 * 128 ≤ (i 1).val ∧ (i 1).val < win0_9.index t 1 * 128 + 128
        rw [(block_k t).2, hs.1]; omega

/-- The values' gradients. -/
theorem final_v : (dats m 0 c).arrAt 10 cfg0.N = arr (fun s L => gather (valTerm f g L) s) :=
  (dats m 0 c).arrAt_eq_of_cover 10 (arr (fun s L => gather (valTerm f g L) s))
    (fun t hd => by
      show (cfg0.win 10).cut (grid0.coords t) ((dats m 0 c).after 10 t) = _
      rw [after_10]
      funext y
      obtain ⟨r, x, rfl⟩ : ∃ (r : Fin 2048) (x : Fin 128), y = ix2 r x := ⟨y 0, y 1, (ix2_eta y).symm⟩
      have hz : t.val % 5 ≠ 0 := by have := (flush_v t).symm.trans hd; rw [Bool.not_eq_true', decide_eq_false_iff_not] at this; exact this
      refine Eq.trans ((held_kv hf hg t hz).2 r x) ?_
      rw [View.read_apply]
      have e0 : (((cfg0.win 10).blk t).view.emb (ix2 r x) 0).val = 2048 * (t.val % 5 - 1) + r.val := by
        show win0_10.index t 0 * 2048 + 1 * r.val = _; rw [(block_v t).1]; omega
      have e1 : (((cfg0.win 10).blk t).view.emb (ix2 r x) 1).val = 128 * (t.val / 5) + x.val := by
        show win0_10.index t 1 * 128 + 1 * x.val = _; rw [(block_v t).2]; omega
      exact (arr_at (fun s L => gather (valTerm f g L) s) (((cfg0.win 10).blk t).view.emb (ix2 r x)) e0 e1).symm)
    fun i => by
      have h0 : (i 0).val < 8192 := (i 0).isLt
      have h1 : (i 1).val < 512 := (i 1).isLt
      obtain ⟨t, ht⟩ : ∃ t : Fin cfg0.N, t.val = 5 * ((i 1).val / 128) + ((i 0).val / 2048 + 1) := ⟨⟨5 * ((i 1).val / 128) + ((i 0).val / 2048 + 1), by rw [show cfg0.N = 20 from N_0]; omega⟩, rfl⟩
      obtain ⟨k, hk, hk0, hk1⟩ : ∃ k, (i 0).val / 2048 = k ∧ (i 0).val < 2048 * k + 2048 ∧ 2048 * k ≤ (i 0).val := ⟨_, rfl, by omega, by omega⟩
      have hs : t.val / 5 = (i 1).val / 128 ∧ t.val % 5 - 1 = k ∧ t.val % 5 ≠ 0 := by omega
      refine ⟨t, (flush_v t).trans (by rw [Bool.not_eq_true', decide_eq_false_iff_not]; exact hs.2.2), ?_⟩
      show i ∈ ((View.whole main_v131_2).slice (win0_10.rect t)).set
      rw [View.set_slice_whole, Rect.mem_set_unit]
      intro a
      match a with
      | ⟨0, _⟩ =>
        show win0_10.index t 0 * 2048 ≤ (i 0).val ∧ (i 0).val < win0_10.index t 0 * 2048 + 2048
        rw [(block_v t).1, hs.2.1]; omega
      | ⟨1, _⟩ =>
        show win0_10.index t 1 * 128 ≤ (i 1).val ∧ (i 1).val < win0_10.index t 1 * 128 + 128
        rw [(block_v t).2, hs.1]; omega

end

end Cert.Attn

end
-- ==== Proof.Attn.Backward.lean ====
/-
  The gradient of windowed attention on dense arrays, and its meaning on arrays with real entries.
-/
module

public import proofs.«01_k».proof.Proof.Attn.Forward

@[expose] public section

set_option maxRecDepth 16384

noncomputable section

namespace Cert.Spec

theorem win_sum {n : ℕ} (d t : ℕ) (F : Fin n → ℕ → ℝ) : win d t (fun s => ∑ l, F l s) = ∑ l, win d t (F l) := by
  unfold win
  rw [Finset.sum_comm]
  exact Finset.sum_congr rfl fun n _ => by split <;> simp

theorem win_sub (d t : ℕ) (F F' : ℕ → ℝ) : win d t (fun s => F s - F' s) = win d t F - win d t F' := by
  unfold win
  rw [← Finset.sum_sub_distrib]
  exact Finset.sum_congr rfl fun n _ => by split <;> simp

variable (f g : ℕ → ℕ → ℝ)

/-- The products of a pattern's own output and the output's gradient. -/
def pulled (d h t : ℕ) : ℝ := ∑ l : Fin 64, g t (64 * h + l.val) * (weighted f d h t l.val / total f d h t)

theorem total_mul_pulled (d h t : ℕ) : total f d h t * pulled f g d h t = ∑ l : Fin 64, g t (64 * h + l.val) * weighted f d h t l.val := by
  have := (total_pos f d h t).ne'
  unfold pulled
  rw [Finset.mul_sum]
  exact Finset.sum_congr rfl fun l _ => by field_simp

theorem delta_mul (h t : ℕ) : delta f g h t * allTotal f h t
    = total f 1 h t * pulled f g 1 h t + total f 4 h t * pulled f g 4 h t + total f 16 h t * pulled f g 16 h t := by
  have := (allTotal_pos f h t).ne'
  rw [total_mul_pulled, total_mul_pulled, total_mul_pulled, ← Finset.sum_add_distrib, ← Finset.sum_add_distrib, delta, Finset.sum_mul]
  exact Finset.sum_congr rfl fun l _ => by unfold att; field_simp

/-- A pattern's gradients of scores sum to its share of what its output exceeds the attention's by. -/
theorem win_grade (d h t : ℕ) : win d t (fun s => grade f g h t s) = total f d h t / allTotal f h t * (pulled f g d h t - delta f g h t) := by
  have e : ∀ s, grade f g h t s = (∑ l : Fin 64, (Real.exp (score f h t s) * f s (1024 + 64 * h + l.val)) * (g t (64 * h + l.val) / allTotal f h t))
      - Real.exp (score f h t s) * (delta f g h t / allTotal f h t) := fun s => by
    rw [grade, weight_eq, mul_sub, Finset.mul_sum]
    congr 1
    · exact Finset.sum_congr rfl fun l _ => by ring
    · ring
  rw [win_congr fun s _ => e s, win_sub, win_sum, win_mul]
  rw [Finset.sum_congr rfl fun l _ => win_mul d t (fun s => Real.exp (score f h t s) * f s (1024 + 64 * h + l.val)) (g t (64 * h + l.val) / allTotal f h t)]
  have p := total_mul_pulled f g d h t
  rw [mul_sub, div_mul_eq_mul_div, p, Finset.sum_div]
  congr 1
  · exact Finset.sum_congr rfl fun l _ => by unfold weighted; ring
  · unfold total; ring

end Cert.Spec

namespace Cert.Dense

open Cert.Reference6Ideal Cert.Reference6Ideal.Gen
open Idealize.ShloMosaic
open Cert.Spec

/-- The gradient of every pattern's exponential through the sum of the three. -/
def pulls (l1 l2 l3 : Col) (o1 o2 o3 G : Heads) : Col :=
  addf (addf (pull (headSum G o3) (recipSq (denOf l1 l2 l3)) (rel l3 (topOf l1 l2 l3))) (pull (headSum G o2) (recipSq (denOf l1 l2 l3)) (rel l2 (topOf l1 l2 l3))))
    (pull (headSum G o1) (recipSq (denOf l1 l2 l3)) (rel l1 (topOf l1 l2 l3)))

/-- The gradient of a pattern's logarithm. -/
def dLog (p : Col) (l l1 l2 l3 : Col) (o G : Heads) : Col := mulf (addf (Host.divf (headSum G o) (denOf l1 l2 l3)) p) (rel l (topOf l1 l2 l3))

/-- A pattern's gradient of its output over its sum of weights, of its weights, and of its scores. -/
def uOf (w : Col) (G : Heads) (X : Cube) : Heads := outs (mulf (wide w) G) (sumOf X)
def dWts (X : Cube) (v : Rows) (dl w : Col) (G : Heads) : Cube :=
  dWeights (uOf w G X) v (dSum dl (sumOf X) (mulf (wide w) G) (recipSq (sumOf X)) (mixed (wts X) v)) (wts X)
def dCube (M : Mask) (X : Cube) (v : Rows) (dl w : Col) (G : Heads) : Cube :=
  dScores M (dWts X v dl w G) (dTops dl (dWts X v dl w G)) (counts (peaks X (tops X))) (peaks X (tops X))

variable {f g : ℕ → ℕ → ℝ}

section
variable {l1 l2 l3 : Col} {o1 o2 o3 G : Heads} (h1 : IsCol l1 (fun h t => Real.log (total f 1 h t))) (h2 : IsCol l2 (fun h t => Real.log (total f 4 h t)))
  (h3 : IsCol l3 (fun h t => Real.log (total f 16 h t))) (hG : Is3 G (fun h t l => g t (64 * h + l)))
include h1 h2 h3 hG

theorem pulls_apply (g1 : Is3 o1 (fun h t l => weighted f 1 h t l / total f 1 h t)) (g2 : Is3 o2 (fun h t l => weighted f 4 h t l / total f 4 h t))
    (g3 : Is3 o3 (fun h t l => weighted f 16 h t l / total f 16 h t)) :
    IsCol (pulls l1 l2 l3 o1 o2 o3 G) (fun h t => -(delta f g h t / (allTotal f h t * Real.exp (-peak f h t)))) := by
  have r := recipSq_apply (denOf_apply h1 h2 h3) fun h t => (den_pos h1 h2 h3 h t).ne'
  refine (add_apply (add_apply (pull_apply (headSum_apply hG g3) r (rel_total h1 h2 h3 h3)) (pull_apply (headSum_apply hG g2) r (rel_total h1 h2 h3 h2)))
    (pull_apply (headSum_apply hG g1) r (rel_total h1 h2 h3 h1))).congr fun h t => ?_
  have e := delta_mul f g h.val t.val
  have s := (allTotal_pos f h.val t.val).ne'
  have x := (Real.exp_pos (-peak f h.val t.val)).ne'
  unfold pulled at e
  rw [eq_comm, ← sub_eq_zero]
  have d := eq_div_of_mul_eq s e
  rw [d]
  field_simp
  ring

theorem dLog_apply {d : ℕ} {p l : Col} {o : Heads} (hp : IsCol p (fun h t => -(delta f g h t / (allTotal f h t * Real.exp (-peak f h t)))))
    (hl : IsCol l (fun h t => Real.log (total f d h t))) (ho : Is3 o (fun h t l => weighted f d h t l / total f d h t)) :
    IsCol (dLog p l l1 l2 l3 o G) (fun h t => total f d h t / allTotal f h t * (pulled f g d h t - delta f g h t)) := by
  refine (mul_apply (add_apply (div_apply (headSum_apply hG ho) (denOf_apply h1 h2 h3) fun h t => (den_pos h1 h2 h3 h t).ne') hp) (rel_total h1 h2 h3 hl)).congr fun h t => ?_
  have s := (allTotal_pos f h.val t.val).ne'
  have x := (Real.exp_pos (-peak f h.val t.val)).ne'
  show (pulled f g d h.val t.val / _ + _) * _ = _
  field_simp
  ring
end

section
variable {d : ℕ} {μ : ℕ → ℕ → ℝ} {X : Cube} {v q k : Rows} {M : Mask} {dl w : Col} {G : Heads} (h0 : 0 < d) (hp : Pattern f d μ X v)
  (hM : ∀ t s : Fin 8192, M (ix2 t s) = if near d t.val s.val then 1#1 else 0#1)
  (hv : Is3 v (fun t h l => f t (1024 + 64 * h + l))) (hG : Is3 G (fun h t l => g t (64 * h + l)))
  (hl : IsCol dl (fun h t => total f d h t / allTotal f h t * (pulled f g d h t - delta f g h t)))
  (hw : IsCol w (fun h t => total f d h t / allTotal f h t))
include hp hG hw

theorem sum_pos (h t : ℕ) : 0 < total f d h t * Real.exp (-μ h t) := mul_pos (total_pos f d h t) (Real.exp_pos _)

theorem uOf_apply : Is3 (uOf w G X) (fun h t l => g t (64 * h + l) * (Real.exp (μ h t) / allTotal f h t)) :=
  (outs_apply (scale_apply hw hG) hp.A fun h t => (mul_pos (total_pos f d h t) (Real.exp_pos _)).ne').congr fun h t l => by
    have a := (total_pos f d h.val t.val).ne'
    have s := (allTotal_pos f h.val t.val).ne'
    have x := (Real.exp_pos (μ h.val t.val)).ne'
    rw [Real.exp_neg]; field_simp

include hl hv
theorem dWts_apply : Is3 (dWts X v dl w G) (fun h t s => if near d t s then grade f g h t s else 0) := by
  have pos : ∀ h t, total f d h t * Real.exp (-μ h t) ≠ 0 := fun h t => (mul_pos (total_pos f d h t) (Real.exp_pos _)).ne'
  have hA : IsCol (dSum dl (sumOf X) (mulf (wide w) G) (recipSq (sumOf X)) (mixed (wts X) v))
      (fun h t => -(delta f g h t * (Real.exp (μ h t) / allTotal f h t))) :=
    (add_apply (div_apply hl hp.A pos) (neg_apply (headSum_apply (scale_right_apply (recipSq_apply hp.A pos) (scale_apply hw hG)) hp.N))).congr fun h t => by
      have a := (total_pos f d h.val t.val).ne'
      have s := (allTotal_pos f h.val t.val).ne'
      have x := (Real.exp_pos (μ h.val t.val)).ne'
      have e : ∑ l : Fin 64, total f d h.val t.val / allTotal f h.val t.val * g t.val (64 * h.val + l.val)
            * (1 / (total f d h.val t.val * Real.exp (-μ h.val t.val) * (total f d h.val t.val * Real.exp (-μ h.val t.val))))
            * (weighted f d h.val t.val l.val * Real.exp (-μ h.val t.val)) = pulled f g d h.val t.val * (Real.exp (μ h.val t.val) / allTotal f h.val t.val) := by
        unfold pulled
        rw [Finset.sum_mul]
        exact Finset.sum_congr rfl fun l _ => by rw [Real.exp_neg]; field_simp
      rw [e, Real.exp_neg]; field_simp; ring
  refine (dWeights_apply (uOf_apply hp hG hw) hv hA hp.P).congr fun h t s => ?_
  by_cases hn : near d t.val s.val
  · rw [if_pos hn, if_pos hn, grade, weight_eq, sub_eq_add_neg (score f _ _ _), Real.exp_add, Real.exp_neg]
    have z := (allTotal_pos f h.val t.val).ne'
    have x := (Real.exp_pos (μ h.val t.val)).ne'
    rw [Finset.sum_congr rfl fun l _ => show g t.val (64 * h.val + l.val) * (Real.exp (μ h.val t.val) / allTotal f h.val t.val) * f s.val (1024 + 64 * h.val + l.val)
      = g t.val (64 * h.val + l.val) * f s.val (1024 + 64 * h.val + l.val) * (Real.exp (μ h.val t.val) / allTotal f h.val t.val) by ring, ← Finset.sum_mul]
    field_simp
    ring
  · rw [if_neg hn, if_neg hn, mul_zero]

include h0 hM
theorem dCube_apply : Is3 (dCube M X v dl w G) (fun h t s => (if near d t s then grade f g h t s else 0) * (1 / 8)) := by
  have hD := dWts_apply hp hv hG hl hw
  have ht : Is2 (dTops dl (dWts X v dl w G)) (fun _ _ => 0) := fun h t => (dTops_apply hl hD h t).trans (congrArg _ (by
    beta_reduce
    rw [Finset.sum_neg_distrib, dense_win d h0 t.val t.isLt (fun s => grade f g h.val t.val s), win_grade]; ring))
  have hI := peaks_apply hp.msk hp.top
  have hn : Is2 (counts (peaks X (tops X))) (fun h t => if h < 8 ∧ t < 8192 then ∑ s : Fin 8192, (if near d t s.val ∧ score f h t s.val = μ h t then (1 : ℝ) else 0) else 1) :=
    fun h t => (counts_apply hI h t).trans (congrArg _ (if_pos (And.intro h.isLt t.isLt)).symm)
  refine (dScores_apply hM hD hI ht hn fun h t => ?_).congr fun h t s => by
    by_cases hs : near d t.val s.val <;> simp [hs]
  by_cases hh : h < 8 ∧ t < 8192
  · rw [if_pos hh]
    obtain ⟨s, hs, he⟩ := hp.hit ⟨h, hh.1⟩ ⟨t, hh.2⟩
    have : 0 < ∑ s : Fin 8192, (if near d t s.val ∧ score f h t s.val = μ h t then (1 : ℝ) else 0) :=
      Finset.sum_pos' (fun s _ => by split <;> norm_num) ⟨s, Finset.mem_univ s, by rw [if_pos (And.intro hs he)]; norm_num⟩
    exact this.ne'
  · rw [if_neg hh]; norm_num

theorem dQ_apply (hk : Is3 k (fun t h l => f t (512 + 64 * h + l))) :
    Is3 (dQueries (dCube M X v dl w G) k) (fun t h l => win d t (fun s => grade f g h t s * f s (512 + 64 * h + l)) * (1 / 8)) :=
  (dQueries_apply (dCube_apply h0 hp hM hv hG hl hw) hk).congr fun t h l => by
    rw [← win_mul, ← dense_win d h0 t.val t.isLt]
    exact Finset.sum_congr rfl fun s _ => by split <;> ring

theorem dK_apply (hd : d = 1 ∨ d = 4 ∨ d = 16) (hq : Is3 q (fun t h l => f t (64 * h + l))) :
    Is3 (dKeys (dCube M X v dl w G) q) (fun s h l => fan d s (fun t => grade f g h t s * (f t (64 * h + l) * (1 / 8)))) :=
  (dKeys_apply (dCube_apply h0 hp hM hv hG hl hw) hq).congr fun s h l => by
    rw [← dense_fan d hd s.val s.isLt]
    exact Finset.sum_congr rfl fun t _ => by split <;> ring

omit hv hl h0 hM
theorem dV_apply (hd : d = 1 ∨ d = 4 ∨ d = 16) :
    Is3 (dValues (uOf w G X) (wts X)) (fun s h l => fan d s (fun t => weight f h t s * g t (64 * h + l))) :=
  (dValues_apply (uOf_apply hp hG hw) hp.P).congr fun s h l => by
    rw [← dense_fan d hd s.val s.isLt]
    refine Finset.sum_congr rfl fun t _ => ?_
    split
    · have x := (Real.exp_pos (μ h.val t.val)).ne'
      have z := (allTotal_pos f h.val t.val).ne'
      rw [weight_eq, sub_eq_add_neg, Real.exp_add, Real.exp_neg]; field_simp
    · ring
end

end Cert.Dense

end
-- ==== Proof.Attn.Reference.lean ====
/-
  The reference's results are the dense gradient's, and what they are on arguments with real entries.
-/
module

public import proofs.«01_k».proof.Proof.Attn.Backward
public import proofs.«01_k».proof.Proof.Gen.Reference6Ideal.Read

@[expose] public section

set_option maxRecDepth 16384

noncomputable section

namespace Cert.Dense

open Cert.Reference6Ideal Cert.Reference6Ideal.Gen Cert.Reference6Ideal.Read
open Idealize.ShloMosaic
open Cert.Spec

variable (x0 : FVec Ideal S8192x2048 .f32) (x1 : FVec Ideal S8192x1024 .f32)

/-! The three patterns' masked scores, logarithms and outputs. -/
abbrev X1 : Cube := scored 128#32 1#32 x0
abbrev X2 : Cube := scored 512#32 4#32 x0
abbrev X3 : Cube := scored 2048#32 16#32 x0
abbrev L1 : Col := logOf (X1 x0)
abbrev L2 : Col := logOf (X2 x0)
abbrev L3 : Col := logOf (X3 x0)
abbrev O1 : Heads := outOf (X1 x0) (vOf x0)
abbrev O2 : Heads := outOf (X2 x0) (vOf x0)
abbrev O3 : Heads := outOf (X3 x0) (vOf x0)

set_option maxHeartbeats 4000000 in
theorem x_eq1 : val_main_v26_0 (F := Ideal) x0 = X1 x0 := (rfl)
set_option maxHeartbeats 4000000 in
theorem l_eq1 : val_main_v46 (F := Ideal) x0 = L1 x0 := (rfl)
set_option maxHeartbeats 4000000 in
theorem o_eq1 : val_main_v41 (F := Ideal) x0 = O1 x0 := (rfl)
set_option maxHeartbeats 4000000 in
theorem x_eq2 : val_main_v66_0 (F := Ideal) x0 = X2 x0 := (rfl)
set_option maxHeartbeats 4000000 in
theorem l_eq2 : val_main_v86 (F := Ideal) x0 = L2 x0 := (rfl)
set_option maxHeartbeats 4000000 in
theorem o_eq2 : val_main_v81 (F := Ideal) x0 = O2 x0 := (rfl)
set_option maxHeartbeats 4000000 in
theorem x_eq3 : val_main_v106_0 (F := Ideal) x0 = X3 x0 := (rfl)
set_option maxHeartbeats 4000000 in
theorem l_eq3 : val_main_v126 (F := Ideal) x0 = L3 x0 := (rfl)
set_option maxHeartbeats 4000000 in
theorem o_eq3 : val_main_v121 (F := Ideal) x0 = O3 x0 := (rfl)
/-- The three logarithms, the three outputs and the output's gradient. -/
abbrev G0 : Heads := gradHeads x1
abbrev pull0 : Col := pulls (L1 x0) (L2 x0) (L3 x0) (O1 x0) (O2 x0) (O3 x0) (G0 x1)
set_option maxHeartbeats 4000000 in
theorem den_eq : val_main_v164 (F := Ideal) x0 = denOf (L1 x0) (L2 x0) (L3 x0) := (rfl)
set_option maxHeartbeats 4000000 in
theorem pull_eq : val_main_v222 (F := Ideal) x0 x1 = pull0 x0 x1 := (rfl)
abbrev S1 : Col := share (L1 x0) (L1 x0) (L2 x0) (L3 x0)
abbrev D1 : Col := dLog (pull0 x0 x1) (L1 x0) (L1 x0) (L2 x0) (L3 x0) (O1 x0) (G0 x1)
abbrev C1 : Cube := dCube (band 128#32 1#32) (X1 x0) (vOf x0) (D1 x0 x1) (S1 x0) (G0 x1)
set_option maxHeartbeats 4000000 in
theorem w_eq1 : val_main_v165 (F := Ideal) x0 = S1 x0 := (rfl)
set_option maxHeartbeats 4000000 in
theorem dl_eq1 : val_main_v229 (F := Ideal) x0 x1 = D1 x0 x1 := (rfl)
set_option maxHeartbeats 4000000 in
theorem u_eq1 : val_main_v308 (F := Ideal) x0 x1 = uOf (S1 x0) (G0 x1) (X1 x0) := (rfl)
set_option maxHeartbeats 4000000 in
theorem d_eq1 : val_main_v316 (F := Ideal) x0 x1 = dWts (X1 x0) (vOf x0) (D1 x0 x1) (S1 x0) (G0 x1) := (rfl)
set_option maxHeartbeats 4000000 in
theorem c_eq1 : val_main_v328 (F := Ideal) x0 x1 = C1 x0 x1 := (rfl)
abbrev S2 : Col := share (L2 x0) (L1 x0) (L2 x0) (L3 x0)
abbrev D2 : Col := dLog (pull0 x0 x1) (L2 x0) (L1 x0) (L2 x0) (L3 x0) (O2 x0) (G0 x1)
abbrev C2 : Cube := dCube (band 512#32 4#32) (X2 x0) (vOf x0) (D2 x0 x1) (S2 x0) (G0 x1)
set_option maxHeartbeats 4000000 in
theorem w_eq2 : val_main_v171 (F := Ideal) x0 = S2 x0 := (rfl)
set_option maxHeartbeats 4000000 in
theorem dl_eq2 : val_main_v228 (F := Ideal) x0 x1 = D2 x0 x1 := (rfl)
set_option maxHeartbeats 4000000 in
theorem u_eq2 : val_main_v272 (F := Ideal) x0 x1 = uOf (S2 x0) (G0 x1) (X2 x0) := (rfl)
set_option maxHeartbeats 4000000 in
theorem d_eq2 : val_main_v280 (F := Ideal) x0 x1 = dWts (X2 x0) (vOf x0) (D2 x0 x1) (S2 x0) (G0 x1) := (rfl)
set_option maxHeartbeats 4000000 in
theorem c_eq2 : val_main_v292 (F := Ideal) x0 x1 = C2 x0 x1 := (rfl)
abbrev S3 : Col := share (L3 x0) (L1 x0) (L2 x0) (L3 x0)
abbrev D3 : Col := dLog (pull0 x0 x1) (L3 x0) (L1 x0) (L2 x0) (L3 x0) (O3 x0) (G0 x1)
abbrev C3 : Cube := dCube (band 2048#32 16#32) (X3 x0) (vOf x0) (D3 x0 x1) (S3 x0) (G0 x1)
set_option maxHeartbeats 4000000 in
theorem w_eq3 : val_main_v178 (F := Ideal) x0 = S3 x0 := (rfl)
set_option maxHeartbeats 4000000 in
theorem dl_eq3 : val_main_v227 (F := Ideal) x0 x1 = D3 x0 x1 := (rfl)
set_option maxHeartbeats 4000000 in
theorem u_eq3 : val_main_v239 (F := Ideal) x0 x1 = uOf (S3 x0) (G0 x1) (X3 x0) := (rfl)
set_option maxHeartbeats 4000000 in
theorem d_eq3 : val_main_v246 (F := Ideal) x0 x1 = dWts (X3 x0) (vOf x0) (D3 x0 x1) (S3 x0) (G0 x1) := (rfl)
set_option maxHeartbeats 4000000 in
theorem c_eq3 : val_main_v258 (F := Ideal) x0 x1 = C3 x0 x1 := (rfl)
set_option maxHeartbeats 4000000 in
theorem q_all : val_main_v334 (F := Ideal) x0 x1 = addf (addf (dQueries (C3 x0 x1) (kOf x0)) (dQueries (C2 x0 x1) (kOf x0))) (dQueries (C1 x0 x1) (kOf x0)) := (rfl)
set_option maxHeartbeats 4000000 in
theorem k_all : val_main_v331 (F := Ideal) x0 x1 = addf (addf (dKeys (C3 x0 x1) (qOf x0)) (dKeys (C2 x0 x1) (qOf x0))) (dKeys (C1 x0 x1) (qOf x0)) := (rfl)
set_option maxHeartbeats 4000000 in
theorem v_all : val_main_v311 (F := Ideal) x0 x1 = addf (addf (dValues (uOf (S3 x0) (G0 x1) (X3 x0)) (wts (X3 x0))) (dValues (uOf (S2 x0) (G0 x1) (X2 x0)) (wts (X2 x0)))) (dValues (uOf (S1 x0) (G0 x1) (X1 x0)) (wts (X1 x0))) := (rfl)

/-! The results on arguments with real entries. -/

section
variable {x0 x1} {f g : ℕ → ℕ → ℝ} (hx : ∀ (R : Fin 8192) (C : Fin 2048), C.val < 1536 → x0 (ix2 R C) = (f R.val C.val : EReal))
  (hg : ∀ (R : Fin 8192) (C : Fin 1024), C.val < 512 → x1 (ix2 R C) = (g R.val C.val : EReal))
include hx hg

theorem totals : Is3 (val_main_v334 (F := Ideal) x0 x1) (fun t h l => gradQ f g t (64 * h + l))
    ∧ Is3 (val_main_v331 (F := Ideal) x0 x1) (fun s h l => gather (keyTerm f g (64 * h + l)) s)
    ∧ Is3 (val_main_v311 (F := Ideal) x0 x1) (fun s h l => gather (valTerm f g (64 * h + l)) s) := by
  obtain ⟨μ1, p1⟩ := scored_pattern hx 1 (by decide) (by decide)
  obtain ⟨μ2, p2⟩ := scored_pattern hx 4 (by decide) (by decide)
  obtain ⟨μ3, p3⟩ := scored_pattern hx 16 (by decide) (by decide)
  have hq := qOf_apply hx
  have hk := kOf_apply hx
  have hv := vOf_apply hx
  have hG : Is3 (G0 x1) (fun h t l => g t (64 * h + l)) := gradHeads_apply x1 g hg
  have hp := pulls_apply p1.l p2.l p3.l hG p1.o p2.o p3.o
  have d1 := dLog_apply p1.l p2.l p3.l hG hp p1.l p1.o
  have d2 := dLog_apply p1.l p2.l p3.l hG hp p2.l p2.o
  have d3 := dLog_apply p1.l p2.l p3.l hG hp p3.l p3.o
  have s1 := share_apply p1.l p2.l p3.l p1.l
  have s2 := share_apply p1.l p2.l p3.l p2.l
  have s3 := share_apply p1.l p2.l p3.l p3.l
  have b1 := band_apply 1 (by decide) (by decide)
  have b2 := band_apply 4 (by decide) (by decide)
  have b3 := band_apply 16 (by decide) (by decide)
  have div : ∀ (h : Fin 8) (l : Fin 64), (64 * h.val + l.val) / 64 = h.val := fun h l => by omega
  refine ⟨?_, ?_, ?_⟩
  · rw [q_all]
    exact (add3_apply (add3_apply (dQ_apply (by decide) p3 b3 hv hG d3 s3 hk) (dQ_apply (by decide) p2 b2 hv hG d2 s2 hk)) (dQ_apply (by decide) p1 b1 hv hG d1 s1 hk)).congr
      fun t h l => by
        unfold gradQ
        rw [div h l]
        simp only [← Nat.add_assoc]
        ring
  · rw [k_all]
    exact (add3_apply (add3_apply (dK_apply (by decide) p3 b3 hv hG d3 s3 (.inr (.inr rfl)) hq) (dK_apply (by decide) p2 b2 hv hG d2 s2 (.inr (.inl rfl)) hq))
      (dK_apply (by decide) p1 b1 hv hG d1 s1 (.inl rfl) hq)).congr fun t h l => by
        unfold gather keyTerm
        rw [div h l]
        ring
  · rw [v_all]
    exact (add3_apply (add3_apply (dV_apply p3 hG s3 (.inr (.inr rfl))) (dV_apply p2 hG s2 (.inr (.inl rfl)))) (dV_apply p1 hG s1 (.inl rfl))).congr fun t h l => by
        unfold gather valTerm
        rw [div h l]
        ring

omit hx hg in
/-- Heads laid side by side in a row. -/
theorem rows_apply {a : Rows} {F : ℕ → ℕ → ℝ} (ha : Is3 a (fun t h l => F t (64 * h + l))) : Is2 (shapeCast S8192x512 a shapeCasts_S8192x8x64_S8192x512) F := by
  intro t L
  have hL := L.isLt
  pointwise
  refine (ha _ _ _).trans (congrArg (fun z => ((F t.val z : ℝ) : EReal)) ?_)
  show 64 * (L.val / 64) + L.val % 64 = L.val
  omega

theorem result_q : Is2 (val_main_v342 (F := Ideal) x0 x1) (gradQ f g) := by
  intro t L
  have hL := L.isLt
  pointwise [val_main_v342, val_main_v339, val_main_v338]
  exact rows_apply (totals hx hg).1 t L

theorem result_k : Is2 (val_main_v343 (F := Ideal) x0 x1) (fun s L => gather (keyTerm f g L) s) := by
  intro t L
  have hL := L.isLt
  pointwise [val_main_v343, val_main_v340, val_main_v338]
  exact rows_apply (F := fun s L => gather (keyTerm f g L) s) (totals hx hg).2.1 t L

theorem result_v : Is2 (val_main_v344 (F := Ideal) x0 x1) (fun s L => gather (valTerm f g L) s) := by
  intro t L
  have hL := L.isLt
  pointwise [val_main_v344, val_main_v341, val_main_v338]
  rw [dif_neg (by omega), dif_neg (by omega)]
  refine (congrArg (val_main_v335 (F := Ideal) x0 x1) (congrArg (fun z => ix2 t z) (Fin.ext (?_ : _ = L.val)))).trans (rows_apply (F := fun s L => gather (valTerm f g L) s) (totals hx hg).2.2 t L)
  show 1024 + L.val - 512 - 512 = L.val
  omega
end

end Cert.Dense

end
-- ==== Proof.Attn.Equation.lean ====
/-
  Over projections and gradients with finite entries the kernel's three result arrays are the reference's.
-/
module

public import proofs.«01_k».proof.Defs
public import proofs.«01_k».proof.Proof.Finite
public import proofs.«01_k».proof.Proof.Attn.Arrays
public import proofs.«01_k».proof.Proof.Attn.Reference
public import proofs.«01_k».proof.Proof.Gen.Reference6Ideal.Run
public import Idealize.ShloMosaic.Lib.Quiescent

@[expose] public section

set_option maxRecDepth 16384

noncomputable section

open Idealize.ShloMosaic Idealize.ShloMosaic.TcCoe Idealize.SL.Sem

namespace Cert.AttnEq

open Cert.Spec

instance facts : Cert.Pre_finite6.Facts where
  slices_S8192x2048_S8192x1536_0_0 := by decide
  slices_S8192x1024_S8192x512_0_0 := by decide
  bcast_S_S8192x1536 := by decide
  reducesTo_S8192x1536_S_d0_1 := by decide
  h_S_ := by decide
  bcast_S_S8192x512 := by decide
  reducesTo_S8192x512_S_d0_1 := by decide

/-- The real part of the entry of row `r` and lane `C`, and nothing outside the array. -/
def number {A B : ℕ} (x : FVec Ideal ⟨2, ![A, B]⟩ .f32) (r C : ℕ) : ℝ :=
  if h : r < A ∧ C < B then (x (ix2 ⟨r, h.1⟩ ⟨C, h.2⟩)).toReal else 0

theorem number_eq {A B : ℕ} (x : FVec Ideal ⟨2, ![A, B]⟩ .f32) (r : Fin A) (C : Fin B) : number x r.val C.val = (x (ix2 r C)).toReal := by
  unfold number; rw [dif_pos ⟨r.isLt, C.isLt⟩]

/-- The entries that are read are reals, where the predicate holds. -/
theorem holds (x0 : FVec Ideal Cert.Reference6Ideal.S8192x2048 .f32) (x1 : FVec Ideal Cert.Reference6Ideal.S8192x1024 .f32)
    (h : Cert.Pre_finite6.fn (F := Ideal) x0 x1 = fun _ => 1#1) :
    (∀ (R : Fin 8192) (C : Fin 2048), C.val < 1536 → x0 (ix2 R C) = (number x0 R.val C.val : EReal))
    ∧ (∀ (R : Fin 8192) (C : Fin 1024), C.val < 512 → x1 (ix2 R C) = (number x1 R.val C.val : EReal)) := by
  have e := congrFun h ix0
  simp only [Cert.Pre_finite6.fn, andi] at e
  obtain ⟨e0, e1⟩ := IntOp.andi_eq_one.1 e
  haveI : Subsingleton (Cert.Pre_finite6.S_).Idx := ⟨fun a b => funext fun k => k.elim0⟩
  refine ⟨fun R C hC => ?_, fun R C hC => ?_⟩
  · rw [number_eq]
    have r := Finite.all _ _ _ _ _ ix0 e0 (ix2 R ⟨C.val, hC⟩)
    pointwise at r
    exact r
  · rw [number_eq]
    have r := Finite.all _ _ _ _ _ ix0 e1 (ix2 R ⟨C.val, hC⟩)
    pointwise at r
    exact r

variable (m : (ℓ : Loc Cert.Kernel6Ideal.nD Cert.Kernel6Ideal.τ Cert.Kernel6Ideal.sig) → Buf (Elt Ideal) ℓ) (c : Dev Cert.Kernel6Ideal.nD)

/-! The kernel's arguments on a device. -/
abbrev a0 : FVec Ideal Cert.Reference6Ideal.S8192x2048 .f32 := m ((c : Thread Cert.Kernel6Ideal.nD Cert.Kernel6Ideal.τ).loc Cert.Kernel6Ideal.main_arg0)
abbrev a1 : FVec Ideal Cert.Reference6Ideal.S8192x1024 .f32 := m ((c : Thread Cert.Kernel6Ideal.nD Cert.Kernel6Ideal.τ).loc Cert.Kernel6Ideal.main_arg1)

variable {m} (h : Cert.Pre_Kernel6Ideal_finite6 m)
include h

/-- The queries' gradients. -/
theorem result8 : (Cert.Attn.dats m 0 c).arrAt 8 Cert.Kernel6Ideal.cfg0.N = Cert.Reference6Ideal.Read.val_main_v342 (F := Ideal) (a0 m c) (a1 m c) := by
  obtain ⟨hf, hg⟩ := holds (a0 m c) (a1 m c) (h c)
  refine (Cert.Attn.final_q hf hg).trans (funext fun y => ?_)
  obtain ⟨r, C, rfl⟩ : ∃ (r : Fin 8192) (C : Fin 512), y = ix2 r C := ⟨y 0, y 1, (ix2_eta y).symm⟩
  exact (Cert.Dense.result_q hf hg r C).symm

/-- The keys' gradients. -/
theorem result9 : (Cert.Attn.dats m 0 c).arrAt 9 Cert.Kernel6Ideal.cfg0.N = Cert.Reference6Ideal.Read.val_main_v343 (F := Ideal) (a0 m c) (a1 m c) := by
  obtain ⟨hf, hg⟩ := holds (a0 m c) (a1 m c) (h c)
  refine (Cert.Attn.final_k hf hg).trans (funext fun y => ?_)
  obtain ⟨r, C, rfl⟩ : ∃ (r : Fin 8192) (C : Fin 512), y = ix2 r C := ⟨y 0, y 1, (ix2_eta y).symm⟩
  exact (Cert.Dense.result_k hf hg r C).symm

/-- The values' gradients. -/
theorem result10 : (Cert.Attn.dats m 0 c).arrAt 10 Cert.Kernel6Ideal.cfg0.N = Cert.Reference6Ideal.Read.val_main_v344 (F := Ideal) (a0 m c) (a1 m c) := by
  obtain ⟨hf, hg⟩ := holds (a0 m c) (a1 m c) (h c)
  refine (Cert.Attn.final_v hf hg).trans (funext fun y => ?_)
  obtain ⟨r, C, rfl⟩ : ∃ (r : Fin 8192) (C : Fin 512), y = ix2 r C := ⟨y 0, y 1, (ix2_eta y).symm⟩
  exact (Cert.Dense.result_v hf hg r C).symm

omit h
/-- The kernel runs and leaves these arrays, its arguments as they were. -/
theorem run_arrays (ρ : Dev Cert.Kernel6Ideal.nD → PrngReg) :
    θ_run Cert.Kernel6Ideal.defs (onTc (τ := Cert.Kernel6Ideal.τ) (Cert.Kernel6Ideal.main (F := Ideal))) ⟨m, fun _ => 0, ρ⟩ fun r => ∀ c : Dev Cert.Kernel6Ideal.nD,
      r.2.mem ((c : Thread Cert.Kernel6Ideal.nD Cert.Kernel6Ideal.τ).loc Cert.Kernel6Ideal.main_v131_0) = (Cert.Attn.dats m 0 c).arrAt 8 Cert.Kernel6Ideal.cfg0.N
      ∧ r.2.mem ((c : Thread Cert.Kernel6Ideal.nD Cert.Kernel6Ideal.τ).loc Cert.Kernel6Ideal.main_v131_1) = (Cert.Attn.dats m 0 c).arrAt 9 Cert.Kernel6Ideal.cfg0.N
      ∧ r.2.mem ((c : Thread Cert.Kernel6Ideal.nD Cert.Kernel6Ideal.τ).loc Cert.Kernel6Ideal.main_v131_2) = (Cert.Attn.dats m 0 c).arrAt 10 Cert.Kernel6Ideal.cfg0.N
      ∧ r.2.mem ((c : Thread Cert.Kernel6Ideal.nD Cert.Kernel6Ideal.τ).loc Cert.Kernel6Ideal.main_arg0) = m ((c : Thread Cert.Kernel6Ideal.nD Cert.Kernel6Ideal.τ).loc Cert.Kernel6Ideal.main_arg0)
      ∧ r.2.mem ((c : Thread Cert.Kernel6Ideal.nD Cert.Kernel6Ideal.τ).loc Cert.Kernel6Ideal.main_arg1) = m ((c : Thread Cert.Kernel6Ideal.nD Cert.Kernel6Ideal.τ).loc Cert.Kernel6Ideal.main_arg1) :=
  (θ_run Cert.Kernel6Ideal.defs _ _).mono (fun r p c => ⟨(p.1.1 c).1 8, (p.1.1 c).1 9, (p.1.1 c).1 10, p.2.1 c⟩)
    (θ_run_and (Cert.Attn.run m ρ) (Cert.Attn.frame m ρ))

/-- The reference runs, keeps its arguments and has no semaphore. -/
theorem frame_reference : Cert.quiescent_Reference6Ideal := fun m ρ _ =>
  (θ_run Cert.Reference6Ideal.defs _ _).mono (fun r h => ⟨fun c => (h c).2.2.2, sem_eq_zero_of_no_sems rfl r.2⟩)
    (Cert.Reference6Ideal.Value.run (F := Ideal) m ρ)

/-- The kernel's results are the reference's. -/
theorem value : Cert.algebraic_Kernel6Ideal_Reference6Ideal_pre_finite6 := fun m g m' g' h e =>
  ⟨_, _, _, run_arrays (m := m) g,
    (θ_run Cert.Reference6Ideal.defs _ _).mono (fun r H c => by
      obtain ⟨r0, r1, r2, k⟩ := H c
      obtain ⟨e0, e1⟩ := e c
      refine ⟨?_, ?_, ?_, k⟩
      · exact (r0.trans (Cert.Reference6Ideal.Read.val_main_v342_eq ..)).trans ((congr (congrArg _ e0) e1).trans (result8 c h).symm)
      · exact (r1.trans (Cert.Reference6Ideal.Read.val_main_v343_eq ..)).trans ((congr (congrArg _ e0) e1).trans (result9 c h).symm)
      · exact (r2.trans (Cert.Reference6Ideal.Read.val_main_v344_eq ..)).trans ((congr (congrArg _ e0) e1).trans (result10 c h).symm))
    (Cert.Reference6Ideal.Value.run (F := Ideal) m' g')⟩

end Cert.AttnEq

end
-- ==== Proof.Fwd.Unit.lean ====
/-
  The attention's forward kernel: one block of 128 queries against its 256 keys, what the body computes from the rows
  it loads and stores, and the sixteen stores of each dilation.
-/
module

public import proofs.«01_k».proof.Proof.Gen.Kernel7Ideal.Frame
public import proofs.«01_k».proof.Proof.Attn.Unit

@[expose] public section

set_option maxRecDepth 16384

noncomputable section

namespace Cert.Fwd

open Cert.Kernel7Ideal Cert.Kernel7Ideal.Gen
open Idealize.ShloMosaic Idealize.ShloMosaic.TcCoe Idealize.ShloMosaic.Tactic
open Cert.Attn (Rows Place places0 places1 places2)

variable {F : FTy → Type} [FloatOps F] [Named F]

/-- A block's scores, the mask's constant where the mask does not hold. -/
def unitScores (M : IVec S256x256 1) (q kp kc : Vec F S128x128 .f32) : FVec F S256x256 .f32 :=
  k0_pay13 k0_pay4 k0_pay5 M (k0_pay8 q) (k0_pay9 kp kc)

/-- Their largest, a row at a time. -/
def unitTops (M : IVec S256x256 1) (q kp kc : Vec F S128x128 .f32) : FVec F S256x1 .f32 :=
  k0_pay14 k0_pay4 k0_pay5 M (k0_pay8 q) (k0_pay9 kp kc)

/-- Which of a block's two results: its output, or the logarithm of its sums of exponentials. -/
inductive Kind | out | log

/-- A block's results. -/
def unitOf (k : Kind) (M : IVec S256x256 1) (q kp kc vp vc : Vec F S128x128 .f32) : FVec F S128x128 .f32 :=
  match k with
  | .out => k0_pay17 k0_pay4 (k0_pay10 vp vc) (unitScores M q kp kc) (unitTops M q kp kc)
  | .log => k0_pay18 k0_pay4 (unitScores M q kp kc) (unitTops M q kp kc)

/-- What a block loads from. -/
structure Loads (F : FTy → Type) [FloatOps F] where
  q : (r : Rows) → Vec F S128x128 .f32
  kp : (r : Rows) → Vec F S128x128 .f32
  kc : (r : Rows) → Vec F S128x128 .f32
  vp : (r : Rows) → Vec F S128x128 .f32
  vc : (r : Rows) → Vec F S128x128 .f32

/-- One block's store at a point of the grid. -/
def pieceAt (k : Kind) (i : grid0.Coords) (L : Loads F) (p : Place) : View.Piece (Elt F) S2048x128 .f32 :=
  ⟨p.here.rect, unitOf k (match p.first with | true => k0_pay7 i | false => k0_pay6) (L.q p.here)
    (match p.first with | true => L.kp p.back | false => L.kc p.back) (L.kc p.here)
    (match p.first with | true => L.vp p.back | false => L.vc p.back) (L.vc p.here)⟩

/-- The stores of one result at one dilation. -/
def piecesOf (k : Kind) (i : grid0.Coords) (L : Loads F) (P : List Place) : List (View.Piece (Elt F) S2048x128 .f32) := P.map (pieceAt k i L)

section
variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole)
  (x0 x1 x2 x3 x4 : Vec F S2048x128 .f32)

/-- The loads of a step. -/
def loadsOf : Loads F where
  q r := View.readAt (Elt F) arg2.view r.rect.toLoadRect (harg2.unread x0)
  kp r := View.readAt (Elt F) arg3.view r.rect.toLoadRect (harg3.unread x1)
  kc r := View.readAt (Elt F) arg4.view r.rect.toLoadRect (harg4.unread x2)
  vp r := View.readAt (Elt F) arg5.view r.rect.toLoadRect (harg5.unread x3)
  vc r := View.readAt (Elt F) arg6.view r.rect.toLoadRect (harg6.unread x4)

set_option maxHeartbeats 8000000 in
theorem list_out0 : @kernelRun0_A.sl.HS0_16 F _ _ c i arg2 harg2 arg3 harg3 arg4 harg4 arg5 harg5 arg6 harg6 x0 x1 x2 x3 x4
    = piecesOf .out i (loadsOf arg2 harg2 arg3 harg3 arg4 harg4 arg5 harg5 arg6 harg6 x0 x1 x2 x3 x4) places0 := (rfl)

set_option maxHeartbeats 8000000 in
theorem list_log0 : @kernelRun0_A.sl.HS3_16 F _ _ c i arg2 harg2 arg3 harg3 arg4 harg4 x0 x1 x2
    = piecesOf .log i (loadsOf arg2 harg2 arg3 harg3 arg4 harg4 arg5 harg5 arg6 harg6 x0 x1 x2 x3 x4) places0 := (rfl)

set_option maxHeartbeats 8000000 in
theorem list_out1 : @kernelRun0_A.sl.HS1_16 F _ _ c i arg2 harg2 arg3 harg3 arg4 harg4 arg5 harg5 arg6 harg6 x0 x1 x2 x3 x4
    = piecesOf .out i (loadsOf arg2 harg2 arg3 harg3 arg4 harg4 arg5 harg5 arg6 harg6 x0 x1 x2 x3 x4) places1 := (rfl)

set_option maxHeartbeats 8000000 in
theorem list_log1 : @kernelRun0_A.sl.HS4_16 F _ _ c i arg2 harg2 arg3 harg3 arg4 harg4 x0 x1 x2
    = piecesOf .log i (loadsOf arg2 harg2 arg3 harg3 arg4 harg4 arg5 harg5 arg6 harg6 x0 x1 x2 x3 x4) places1 := (rfl)

set_option maxHeartbeats 8000000 in
theorem list_out2 : @kernelRun0_A.sl.HS2_16 F _ _ c i arg2 harg2 arg3 harg3 arg4 harg4 arg5 harg5 arg6 harg6 x0 x1 x2 x3 x4
    = piecesOf .out i (loadsOf arg2 harg2 arg3 harg3 arg4 harg4 arg5 harg5 arg6 harg6 x0 x1 x2 x3 x4) places2 := (rfl)

set_option maxHeartbeats 8000000 in
theorem list_log2 : @kernelRun0_A.sl.HS5_16 F _ _ c i arg2 harg2 arg3 harg3 arg4 harg4 x0 x1 x2
    = piecesOf .log i (loadsOf arg2 harg2 arg3 harg3 arg4 harg4 arg5 harg5 arg6 harg6 x0 x1 x2 x3 x4) places2 := (rfl)

end

end Cert.Fwd

end
-- ==== Proof.Fwd.UnitReal.lean ====
/-
  The attention's forward kernel: what one block computes over arrays with real entries.
-/
module

public import proofs.«01_k».proof.Proof.Fwd.Unit
public import proofs.«01_k».proof.Proof.Attn.UnitReal

@[expose] public section

set_option maxRecDepth 16384

noncomputable section

namespace Cert.Fwd

open Cert.Kernel7Ideal Cert.Kernel7Ideal.Gen
open Idealize.ShloMosaic
open Cert.Dense (Is2)
open Cert.Attn (IsBand score)

/-! The two masks and the lanes of a head are those of the backward kernel. -/

theorem plain_band : IsBand k0_pay6 (fun i j => i ≤ j ∧ j ≤ i + 128) :=
  (show k0_pay6 = Cert.Kernel6Ideal.Gen.k0_pay10 from rfl) ▸ Cert.Attn.plain_band

theorem first_band (i : grid0.Coords) (hc : (i 1).val < 2 ^ 31) : IsBand (k0_pay7 i) (fun a j => (a ≤ j ∧ j ≤ a + 128) ∧ ((i 1).val = 0 → 128 ≤ j)) :=
  (show k0_pay7 i = Cert.Kernel6Ideal.Gen.k0_pay11 (BitVec.ofNat 32 (i 1).val) from rfl) ▸ Cert.Attn.first_band (i 1).val hc

theorem low_lane (x : Fin 128) : k0_pay4 (ix2 0 x) = if x.val / 64 = 0 then 1#1 else 0#1 := Cert.Attn.low_lane x

theorem mask_word : Named.named (F := Ideal) κ "mask" (φ := .f32) 0xF149F2CA#32 = (⊥ : EReal) := rfl

/-- Sums of exponentials less a constant, and the same with weights. -/
theorem sum_shift {n : ℕ} (p : Fin n → Prop) [∀ j, Decidable (p j)] (s v : Fin n → ℝ) (μ : ℝ) :
    ∑ j, (if p j then Real.exp (s j - μ) else 0) * v j = (∑ j, if p j then Real.exp (s j) * v j else 0) * Real.exp (-μ) := by
  rw [Finset.sum_mul]
  refine Finset.sum_congr rfl fun j _ => ?_
  split
  · rw [sub_eq_add_neg, Real.exp_add]; ring
  · rw [zero_mul, zero_mul]

variable (mk : ℕ → ℕ → Prop) [∀ i j, Decidable (mk i j)] (Q K V : ℕ → ℕ → ℝ)

/-- A block's loaded rows hold these reals, and every query meets the key at its own place. -/
structure Loaded (M : IVec S256x256 1) (q kp kc vp vc : FVec Ideal S128x128 .f32) : Prop where
  M : IsBand M mk
  self : ∀ i, i < 128 → mk i (i + 128)
  q : Is2 q Q
  kp : Is2 kp K
  kc : Is2 kc (fun j l => K (128 + j) l)
  vp : Is2 vp V
  vc : Is2 vc (fun j l => V (128 + j) l)

/-- A head's sum of exponentials in a block, and its sum of weighted values. -/
def den (h i : ℕ) : ℝ := ∑ j : Fin 256, if mk i j.val then Real.exp (score Q K h i j.val) else 0
def num (h i x : ℕ) : ℝ := ∑ j : Fin 256, if mk i j.val then Real.exp (score Q K h i j.val) * V j.val x else 0

variable {mk Q K V}

theorem vcat_apply {vp vc : FVec Ideal S128x128 .f32} (hp : Is2 vp V) (hc : Is2 vc (fun j l => V (128 + j) l)) (j : Fin 256) (l : Fin 128) :
    k0_pay10 (F := Ideal) vp vc (ix2 j l) = (V j.val l.val : EReal) := Cert.Attn.kcat_apply hp hc j l

section
variable {M : IVec S256x256 1} {q kp kc vp vc : FVec Ideal S128x128 .f32} (H : Loaded mk Q K V M q kp kc vp vc)
include H

theorem scores_block (a j : Fin 256) : unitScores (F := Ideal) M q kp kc (ix2 a j)
    = if mk (a.val % 128) j.val then (score Q K (a.val / 128) (a.val % 128) j.val : EReal) else ⊥ := by
  have e : unitScores (F := Ideal) M q kp kc (ix2 a j) = Scalar.select (M (ix2 a j))
      (Cert.Kernel6Ideal.Gen.k0_pay31 (F := Ideal) Cert.Kernel6Ideal.Gen.k0_pay8 Cert.Kernel6Ideal.Gen.k0_pay9 (Cert.Kernel6Ideal.Gen.k0_pay26 q)
        (Cert.Kernel6Ideal.Gen.k0_pay27 kp kc) (ix2 a j)) (Named.named (F := Ideal) κ "mask" (φ := .f32) 0xF149F2CA#32) := rfl
  rw [e, Cert.Attn.s_apply H.q H.kp H.kc a j, mask_word, H.M a j]
  by_cases h : mk (a.val % 128) j.val <;> simp [h, Scalar.select]

theorem tops_block (a : Fin 256) : ∃ μ : ℝ, unitTops (F := Ideal) M q kp kc (ix2 a 0) = (μ : EReal) := by
  have e : unitTops (F := Ideal) M q kp kc (ix2 a 0) = Finset.univ.sup (fun j : Fin 256 => unitScores (F := Ideal) M q kp kc (ix2 a j)) := by
    pointwise [unitTops, k0_pay14]
    rw [Cert.Dense.bot_word]; rfl
  obtain ⟨s, -, hs⟩ := Finset.exists_mem_eq_sup Finset.univ Finset.univ_nonempty (fun j : Fin 256 => unitScores (F := Ideal) M q kp kc (ix2 a j))
  have ha : a.val % 128 < 128 := Nat.mod_lt _ (by decide)
  have hle : unitScores (F := Ideal) M q kp kc (ix2 a ⟨a.val % 128 + 128, by omega⟩) ≤ unitScores (F := Ideal) M q kp kc (ix2 a s) :=
    hs ▸ Finset.le_sup (f := fun j : Fin 256 => unitScores (F := Ideal) M q kp kc (ix2 a j)) (Finset.mem_univ _)
  rw [scores_block H, scores_block H a s, if_pos (H.self _ ha)] at hle
  rw [e, hs, scores_block H a s]
  split
  · exact ⟨_, rfl⟩
  · next hn => rw [if_neg hn] at hle; exact absurd (le_bot_iff.mp hle) (EReal.coe_ne_bot _)

theorem den_pos (h i : ℕ) (hi : i < 128) : 0 < den mk Q K h i := by
  unfold den
  refine Finset.sum_pos' (fun j _ => by split <;> [exact (Real.exp_pos _).le; exact le_rfl]) ⟨⟨i + 128, by omega⟩, Finset.mem_univ _, ?_⟩
  rw [if_pos (H.self i hi)]
  exact Real.exp_pos _

/-- A row of the stack: its largest score, its exponentials and their sum. -/
theorem row_block (a : Fin 256) : ∃ μ : ℝ, unitTops (F := Ideal) M q kp kc (ix2 a 0) = (μ : EReal)
    ∧ (∀ j : Fin 256, k0_pay15 (F := Ideal) (unitScores M q kp kc) (unitTops M q kp kc) (ix2 a j)
      = ((if mk (a.val % 128) j.val then Real.exp (score Q K (a.val / 128) (a.val % 128) j.val - μ) else 0 : ℝ) : EReal))
    ∧ k0_pay16 (F := Ideal) (unitScores M q kp kc) (unitTops M q kp kc) (ix2 a 0) = ((den mk Q K (a.val / 128) (a.val % 128) * Real.exp (-μ) : ℝ) : EReal) := by
  obtain ⟨μ, hμ⟩ := tops_block H a
  have hw : ∀ j : Fin 256, k0_pay15 (F := Ideal) (unitScores M q kp kc) (unitTops M q kp kc) (ix2 a j)
      = ((if mk (a.val % 128) j.val then Real.exp (score Q K (a.val / 128) (a.val % 128) j.val - μ) else 0 : ℝ) : EReal) := fun j => by
    pointwise [k0_pay15]
    rw [scores_block H a j, hμ]
    split
    · rw [← EReal.coe_sub, Ideal.exp_coe]
    · rw [EReal.bot_sub, Ideal.exp_bot]; rfl
  refine ⟨μ, hμ, hw, ?_⟩
  pointwise [k0_pay16]
  refine (Reals.sum_eq_coe (fun j _ => hw j)).trans (congrArg (fun z : ℝ => (z : EReal)) ?_)
  have e := sum_shift (fun j : Fin 256 => mk (a.val % 128) j.val) (fun j => score Q K (a.val / 128) (a.val % 128) j.val) (fun _ => 1) μ
  simp only [mul_one] at e
  exact e

/-- A row's weighted values over its sum. -/
theorem quot_block (a : Fin 256) (x : Fin 128) :
    Ideal.div (∑ j : Fin 256, k0_pay15 (F := Ideal) (unitScores M q kp kc) (unitTops M q kp kc) (ix2 a j) * k0_pay10 (F := Ideal) vp vc (ix2 j x))
        (k0_pay16 (F := Ideal) (unitScores M q kp kc) (unitTops M q kp kc) (ix2 a 0))
      = ((num mk Q K V (a.val / 128) (a.val % 128) x.val / den mk Q K (a.val / 128) (a.val % 128) : ℝ) : EReal) := by
  obtain ⟨μ, -, hw, hd⟩ := row_block H a
  have hp := den_pos H (a.val / 128) (a.val % 128) (Nat.mod_lt _ (by decide))
  rw [hd, Ideal.div_coe (mul_pos hp (Real.exp_pos _)).ne', NormGrad.sum_mul hw (fun j => vcat_apply H.vp H.vc j x), ← EReal.coe_mul]
  refine congrArg (fun z : ℝ => (z : EReal)) ?_
  rw [sum_shift (fun j : Fin 256 => mk (a.val % 128) j.val) (fun j => score Q K (a.val / 128) (a.val % 128) j.val) (fun j => V j.val x.val) μ, mul_one_div]
  exact mul_div_mul_right _ _ (Real.exp_pos _).ne'

/-- A row's largest score and the logarithm of its sum. -/
theorem log_block (a : Fin 256) :
    unitTops (F := Ideal) M q kp kc (ix2 a 0) + Ideal.log (k0_pay16 (F := Ideal) (unitScores M q kp kc) (unitTops M q kp kc) (ix2 a 0))
      = (Real.log (den mk Q K (a.val / 128) (a.val % 128)) : EReal) := by
  obtain ⟨μ, ht, -, hd⟩ := row_block H a
  have hp := den_pos H (a.val / 128) (a.val % 128) (Nat.mod_lt _ (by decide))
  rw [hd, ht, Ideal.log_coe, if_neg (not_le.mpr (mul_pos hp (Real.exp_pos _))), ← EReal.coe_add, Real.log_mul hp.ne' (Real.exp_pos _).ne', Real.log_exp]
  exact congrArg (fun z : ℝ => (z : EReal)) (by ring)

theorem unit_out : Is2 (unitOf (F := Ideal) .out M q kp kc vp vc) (fun i x => num mk Q K V (x / 64) i x / den mk Q K (x / 64) i) := by
  intro i x
  have hi := i.isLt
  have hx := x.isLt
  pointwise [unitOf, k0_pay17]
  rw [low_lane]
  refine (congr (congrArg (Scalar.select _) (quot_block H _ x)) (quot_block H _ x)).trans ?_
  by_cases h : x.val / 64 = 0
  · rw [if_pos h, show ∀ p q : EReal, Scalar.select 1#1 p q = p from fun _ _ => rfl, h]
    show ((num mk Q K V (i.val / 128) (i.val % 128) x.val / den mk Q K (i.val / 128) (i.val % 128) : ℝ) : EReal) = _
    rw [Nat.div_eq_of_lt hi, Nat.mod_eq_of_lt hi]
  · rw [if_neg h, show ∀ p q : EReal, Scalar.select 0#1 p q = q from fun _ _ => rfl, show x.val / 64 = 1 by omega]
    show ((num mk Q K V ((128 + i.val) / 128) ((128 + i.val) % 128) x.val / den mk Q K ((128 + i.val) / 128) ((128 + i.val) % 128) : ℝ) : EReal) = _
    rw [show (128 + i.val) / 128 = 1 by omega, show (128 + i.val) % 128 = i.val by omega]

theorem unit_log : Is2 (unitOf (F := Ideal) .log M q kp kc vp vc) (fun i x => Real.log (den mk Q K (x / 64) i)) := by
  intro i x
  have hi := i.isLt
  have hx := x.isLt
  pointwise [unitOf, k0_pay18]
  rw [low_lane]
  refine (congr (congrArg (Scalar.select _) (log_block H _)) (log_block H _)).trans ?_
  by_cases h : x.val / 64 = 0
  · rw [if_pos h, show ∀ p q : EReal, Scalar.select 1#1 p q = p from fun _ _ => rfl, h]
    show ((Real.log (den mk Q K (i.val / 128) (i.val % 128)) : ℝ) : EReal) = _
    rw [Nat.div_eq_of_lt hi, Nat.mod_eq_of_lt hi]
  · rw [if_neg h, show ∀ p q : EReal, Scalar.select 0#1 p q = q from fun _ _ => rfl, show x.val / 64 = 1 by omega]
    show ((Real.log (den mk Q K ((128 + i.val) / 128) ((128 + i.val) % 128)) : ℝ) : EReal) = _
    rw [show (128 + i.val) / 128 = 1 by omega, show (128 + i.val) % 128 = i.val by omega]
end

end Cert.Fwd

end
-- ==== Proof.Fwd.Piece.lean ====
/-
  The attention's forward kernel: a block's results over the whole arrays, what a dilation's sixteen blocks leave
  together, and the three dilations' results put together.
-/
module

public import proofs.«01_k».proof.Proof.Fwd.UnitReal
public import proofs.«01_k».proof.Proof.Attn.Buffers

@[expose] public section

set_option maxRecDepth 16384

noncomputable section

namespace Cert.Fwd

open Cert.Kernel7Ideal Cert.Kernel7Ideal.Gen
open Idealize.ShloMosaic Idealize.ShloMosaic.TcCoe Idealize.ShloMosaic.Tactic
open Cert.Dense (Is2)
open Cert.Attn (IsBand Rows Place Lined Sited Tiles qPos bPos kPos kPos_back kPos_here meets score_eq window)
open Cert.Spec

variable (f : ℕ → ℕ → ℝ)

/-- What a point at chunk `c` and pair of heads `H` loads from. -/
structure Filled (L : Loads Ideal) (c H : ℕ) : Prop where
  q : ∀ d r, Lined d r → Is2 (L.q r) (fun i x => f (2048 * c + (r.off 0 + d * i)) (128 * H + x))
  kp : ∀ d r, Lined d r → Is2 (L.kp r) (fun i x => f (2048 * (c - 1) + (r.off 0 + d * i)) (512 + (128 * H + x)))
  kc : ∀ d r, Lined d r → Is2 (L.kc r) (fun i x => f (2048 * c + (r.off 0 + d * i)) (512 + (128 * H + x)))
  vp : ∀ d r, Lined d r → Is2 (L.vp r) (fun i x => f (2048 * (c - 1) + (r.off 0 + d * i)) (1024 + (128 * H + x)))
  vc : ∀ d r, Lined d r → Is2 (L.vc r) (fun i x => f (2048 * c + (r.off 0 + d * i)) (1024 + (128 * H + x)))

variable {f}

section
variable {L : Loads Ideal} {i : grid0.Coords} {H d : ℕ} (hL : Filled f L (i 1).val H) (hd : d = 1 ∨ d = 4 ∨ d = 16)

theorem mask_meets (i : grid0.Coords) (p : Place) : IsBand (match p.first with | true => k0_pay7 i | false => k0_pay6) (meets (i 1).val p) := by
  have hc : (i 1).val < 2 ^ 31 := lt_trans (i 1).isLt (by decide)
  obtain ⟨a, b, s⟩ := p
  cases s
  · intro u j
    refine (plain_band u j).trans ?_
    unfold meets
    simp
  · intro u j
    refine (first_band i hc u j).trans ?_
    unfold meets
    simp

/-- The keys, or the values, before a block: in its chunk or in the chunk before. -/
theorem before_block {d : ℕ} (p : Place) {X Y : FVec Ideal S128x128 .f32} (lane : ℕ) (c : ℕ) (h1 : Is2 X (fun i x => f (2048 * (c - 1) + (p.back.off 0 + d * i)) (lane + x)))
    (h2 : Is2 Y (fun i x => f (2048 * c + (p.back.off 0 + d * i)) (lane + x))) :
    Is2 (match p.first with | true => X | false => Y) (fun j x => f (kPos c d p j) (lane + x)) := by
  obtain ⟨a, b, s⟩ := p
  intro i x
  cases s
  · exact (h2 i x).trans (by beta_reduce; rw [kPos_back _ _ _ i.isLt]; rfl)
  · exact (h1 i x).trans (by beta_reduce; rw [kPos_back _ _ _ i.isLt]; rfl)

section
variable {p : Place} (hp : Sited d p)
include hL hp

theorem held_block : Loaded (meets (i 1).val p) (fun u x => f (qPos (i 1).val d p u) (128 * H + x)) (fun j x => f (kPos (i 1).val d p j) (512 + (128 * H + x)))
    (fun j x => f (kPos (i 1).val d p j) (1024 + (128 * H + x)))
    (match p.first with | true => k0_pay7 i | false => k0_pay6) (L.q p.here) (match p.first with | true => L.kp p.back | false => L.kc p.back) (L.kc p.here)
    (match p.first with | true => L.vp p.back | false => L.vc p.back) (L.vc p.here) where
  M := mask_meets i p
  self := fun u hu => ⟨⟨by omega, by omega⟩, fun _ _ => by omega⟩
  q := hL.q d _ hp.1
  kp := Cert.Attn.Is2.to (before_block p (512 + 128 * H) (i 1).val (Cert.Attn.Is2.to (hL.kp d _ hp.2.1) fun u x _ _ => by rw [Nat.add_assoc]) (Cert.Attn.Is2.to (hL.kc d _ hp.2.1) fun u x _ _ => by rw [Nat.add_assoc])) fun u x _ _ => by rw [Nat.add_assoc]
  kc := fun u x => (hL.kc d _ hp.1 u x).trans (by beta_reduce; rw [kPos_here]; rfl)
  vp := Cert.Attn.Is2.to (before_block p (1024 + 128 * H) (i 1).val (Cert.Attn.Is2.to (hL.vp d _ hp.2.1) fun u x _ _ => by rw [Nat.add_assoc]) (Cert.Attn.Is2.to (hL.vc d _ hp.2.1) fun u x _ _ => by rw [Nat.add_assoc])) fun u x _ _ => by rw [Nat.add_assoc]
  vc := fun u x => (hL.vc d _ hp.1 u x).trans (by beta_reduce; rw [kPos_here]; rfl)

include hd
omit hL in
theorem den_eq (h : ℕ) (hh : h < 2) (u : ℕ) (hu : u < 128) :
    den (meets (i 1).val p) (fun u x => f (qPos (i 1).val d p u) (128 * H + x)) (fun j x => f (kPos (i 1).val d p j) (512 + (128 * H + x))) h u
      = total f d (2 * H + h) (qPos (i 1).val d p u) := by
  unfold den total
  rw [← window hd hp u hu]
  refine Finset.sum_congr rfl fun j _ => ?_
  rw [score_eq H (qPos (i 1).val d p) (kPos (i 1).val d p) h hh]

omit hL in
theorem num_eq (h : ℕ) (hh : h < 2) (u : ℕ) (hu : u < 128) (x : ℕ) :
    num (meets (i 1).val p) (fun u x => f (qPos (i 1).val d p u) (128 * H + x)) (fun j x => f (kPos (i 1).val d p j) (512 + (128 * H + x)))
        (fun j x => f (kPos (i 1).val d p j) (1024 + (128 * H + x))) h u (64 * h + x)
      = weighted f d (2 * H + h) (qPos (i 1).val d p u) x := by
  unfold num weighted
  rw [← window hd hp u hu]
  refine Finset.sum_congr rfl fun j _ => ?_
  rw [score_eq H (qPos (i 1).val d p) (kPos (i 1).val d p) h hh]
  beta_reduce
  rw [show 1024 + (128 * H + (64 * h + x)) = 1024 + 64 * (2 * H + h) + x by ring]

theorem piece_out : Is2 (pieceAt .out i L p).2 (fun u x => weighted f d ((128 * H + x) / 64) (qPos (i 1).val d p u) ((128 * H + x) % 64)
    / total f d ((128 * H + x) / 64) (qPos (i 1).val d p u)) :=
  Cert.Attn.Is2.to (unit_out (held_block hL hp)) fun u x hu hx => by
    have e := num_eq hd hp (f := f) (i := i) (H := H) (x / 64) (by omega) u hu (x % 64)
    rw [Nat.div_add_mod] at e
    rw [e, den_eq hd hp _ (by omega) u hu, show (128 * H + x) / 64 = 2 * H + x / 64 by omega, show (128 * H + x) % 64 = x % 64 by omega]

theorem piece_log : Is2 (pieceAt .log i L p).2 (fun u x => Real.log (total f d ((128 * H + x) / 64) (qPos (i 1).val d p u))) :=
  Cert.Attn.Is2.to (unit_log (held_block hL hp)) fun u x hu hx => by
    rw [den_eq hd hp _ (by omega) u hu, show (128 * H + x) / 64 = 2 * H + x / 64 by omega]
end

section
variable {P : List Place} (hP : ∀ p ∈ P, Sited d p) (hT : Tiles d Place.here P)
include hL hd hP hT

theorem canon_out : Is2 (View.canon (piecesOf .out i L P)) (fun y x => weighted f d ((128 * H + x) / 64) (2048 * (i 1).val + y) ((128 * H + x) % 64)
    / total f d ((128 * H + x) / 64) (2048 * (i 1).val + y)) :=
  Cert.Attn.canon_rows hd Place.here (fun p => (pieceAt .out i L p).2) P (fun p hp => (hP p hp).1) hT _ fun p hp => piece_out hL hd (hP p hp)

theorem canon_log : Is2 (View.canon (piecesOf .log i L P)) (fun y x => Real.log (total f d ((128 * H + x) / 64) (2048 * (i 1).val + y))) :=
  Cert.Attn.canon_rows hd Place.here (fun p => (pieceAt .log i L p).2) P (fun p hp => (hP p hp).1) hT _ fun p hp => piece_log hL hd (hP p hp)
end
end

/-! The three dilations' logarithms and outputs, put together. -/

section
variable {l0 l1 l2 o0 o1 o2 : FVec Ideal S2048x128 .f32} {T0 T1 T2 W0 W1 W2 : ℕ → ℕ → ℝ} (t0 : ∀ y x, 0 < T0 y x) (t1 : ∀ y x, 0 < T1 y x) (t2 : ∀ y x, 0 < T2 y x)
  (h0 : Is2 l0 (fun y x => Real.log (T0 y x))) (h1 : Is2 l1 (fun y x => Real.log (T1 y x))) (h2 : Is2 l2 (fun y x => Real.log (T2 y x)))
  (g0 : Is2 o0 (fun y x => W0 y x / T0 y x)) (g1 : Is2 o1 (fun y x => W1 y x / T1 y x)) (g2 : Is2 o2 (fun y x => W2 y x / T2 y x))

/-- The largest of the three logarithms. -/
def top (T0 T1 T2 : ℕ → ℕ → ℝ) (y x : ℕ) : ℝ := max (max (Real.log (T0 y x)) (Real.log (T1 y x))) (Real.log (T2 y x))

include h0 h1 h2 in
theorem top_apply : Is2 (k0_pay499 (F := Ideal) l0 l1 l2) (top T0 T1 T2) := by
  intro y x
  pointwise [k0_pay499]
  rw [h0 y x, h1 y x, h2 y x]
  show max (max _ _) _ = _
  unfold top
  rw [(EReal.coe_strictMono.monotone).map_max, (EReal.coe_strictMono.monotone).map_max]

theorem rel_eq {l T : ℝ} {μ : ℝ} (hT : 0 < T) (hl : l = Real.log T) : Ideal.exp ((l : EReal) - (μ : EReal)) = ((T * Real.exp (-μ) : ℝ) : EReal) := by
  rw [← EReal.coe_sub, Ideal.exp_coe, hl, sub_eq_add_neg, Real.exp_add, Real.exp_log hT]

include t0 h0 h1 h2 in
theorem rel0_apply : Is2 (k0_pay500 (F := Ideal) l0 l1 l2) (fun y x => T0 y x * Real.exp (-top T0 T1 T2 y x)) := by
  intro y x
  pointwise [k0_pay500]
  rw [h0 y x, top_apply h0 h1 h2 y x]
  exact rel_eq (t0 _ _) rfl

include t1 h0 h1 h2 in
theorem rel1_apply : Is2 (k0_pay501 (F := Ideal) l0 l1 l2) (fun y x => T1 y x * Real.exp (-top T0 T1 T2 y x)) := by
  intro y x
  pointwise [k0_pay501]
  rw [h1 y x, top_apply h0 h1 h2 y x]
  exact rel_eq (t1 _ _) rfl

include t2 h0 h1 h2 in
theorem rel2_apply : Is2 (k0_pay502 (F := Ideal) l0 l1 l2) (fun y x => T2 y x * Real.exp (-top T0 T1 T2 y x)) := by
  intro y x
  pointwise [k0_pay502]
  rw [h2 y x, top_apply h0 h1 h2 y x]
  exact rel_eq (t2 _ _) rfl

include t0 t1 t2 h0 h1 h2

theorem sum_apply : Is2 (k0_pay503 (F := Ideal) l0 l1 l2) (fun y x => (T0 y x + T1 y x + T2 y x) * Real.exp (-top T0 T1 T2 y x)) := by
  intro y x
  pointwise [k0_pay503]
  rw [rel0_apply t0 h0 h1 h2 y x, rel1_apply t1 h0 h1 h2 y x, rel2_apply t2 h0 h1 h2 y x, ← EReal.coe_add, ← EReal.coe_add]
  refine congrArg (fun z : ℝ => (z : EReal)) ?_
  ring

/-- The logarithm of all sums. -/
theorem lse_apply : Is2 (k0_pay3 (F := Ideal) (k0_pay499 l0 l1 l2) (k0_pay503 l0 l1 l2)) (fun y x => Real.log (T0 y x + T1 y x + T2 y x)) := by
  intro y x
  have hp : 0 < T0 y x + T1 y x + T2 y x := add_pos (add_pos (t0 _ _) (t1 _ _)) (t2 _ _)
  have hq := mul_pos hp (Real.exp_pos (-top T0 T1 T2 y x))
  pointwise [k0_pay3]
  rw [top_apply h0 h1 h2 y x, sum_apply t0 t1 t2 h0 h1 h2 y x]
  refine (congrArg (fun z => (((top T0 T1 T2 y x : ℝ) : EReal) + z)) (Ideal.log_coe _)).trans ?_
  rw [if_neg (not_le.2 hq), ← EReal.coe_add, Real.log_mul hp.ne' (Real.exp_pos _).ne', Real.log_exp]
  refine congrArg (fun z : ℝ => (z : EReal)) ?_
  ring

include g0 g1 g2

/-- The attention's output. -/
theorem att_apply : Is2 (k0_pay1 (F := Ideal) (k0_pay502 l0 l1 l2) (k0_pay503 l0 l1 l2) (k0_pay504 l0 l1 l2 o0) (k0_pay505 l0 l1 l2 o1) o2)
    (fun y x => (W0 y x + W1 y x + W2 y x) / (T0 y x + T1 y x + T2 y x)) := by
  intro y x
  have a := t0 y x; have b := t1 y x; have c := t2 y x
  have hp : 0 < T0 y x + T1 y x + T2 y x := add_pos (add_pos a b) c
  have hq := mul_pos hp (Real.exp_pos (-top T0 T1 T2 y x))
  pointwise [k0_pay1, k0_pay504, k0_pay505]
  rw [rel0_apply t0 h0 h1 h2 y x, rel1_apply t1 h0 h1 h2 y x, rel2_apply t2 h0 h1 h2 y x, sum_apply t0 t1 t2 h0 h1 h2 y x, g0 y x, g1 y x, g2 y x]
  rw [← EReal.coe_mul, ← EReal.coe_mul, ← EReal.coe_mul, ← EReal.coe_add, ← EReal.coe_add]
  refine (Ideal.div_coe hq.ne' _).trans ?_
  rw [← EReal.coe_mul]
  refine congrArg (fun z : ℝ => (z : EReal)) ?_
  have e := (Real.exp_pos (-top T0 T1 T2 y x)).ne'
  field_simp

theorem att16_apply : Is2 (k0_pay2 (F := Ideal) (k0_pay502 l0 l1 l2) (k0_pay503 l0 l1 l2) (k0_pay504 l0 l1 l2 o0) (k0_pay505 l0 l1 l2 o1) o2)
    (fun y x => (W0 y x + W1 y x + W2 y x) / (T0 y x + T1 y x + T2 y x)) := by
  intro y x
  pointwise [k0_pay2]
  exact att_apply t0 t1 t2 h0 h1 h2 g0 g1 g2 y x
end

end Cert.Fwd

end
-- ==== Proof.Fwd.Stores.lean ====
/-
  The attention's forward kernel: the stores of the three results, read off the body's run.
-/
module

public import proofs.«01_k».proof.Proof.Fwd.Unit

@[expose] public section

set_option maxRecDepth 16384

noncomputable section

namespace Cert.Fwd

open Cert.Kernel7Ideal Cert.Kernel7Ideal.Gen
open Idealize.ShloMosaic Idealize.ShloMosaic.TcCoe Idealize.ShloMosaic.Tactic
open Cert.Attn (places0 places1 places2)

variable {F : FTy → Type} [FloatOps F] [Named F]

/-- A buffer read whole after these stores. -/
abbrev tile (M : Memref sig .tc .vmem S2048x128 .f32) (L : List (View.Piece (Elt F) S2048x128 .f32)) : Vec F S2048x128 .f32 :=
  M.view.readCov L (Rect.unit (s := S2048x128) ![0, 0] S2048x128.size inb_S2048x128_S2048x128_0_0).toLoadRect

section
variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole)
  (x0 x1 x2 x3 x4 : Vec F S2048x128 .f32)

set_option maxHeartbeats 8000000 in
theorem stores_att : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4).1 = [⟨Rect.unit (s := S2048x128) ![0, 0] S2048x128.size inb_S2048x128_S2048x128_0_0, k0_pay1 (k0_pay502 (tile arg13 (piecesOf .log i (loadsOf arg2 harg2 arg3 harg3 arg4 harg4 arg5 harg5 arg6 harg6 x0 x1 x2 x3 x4) places0)) (tile arg14 (piecesOf .log i (loadsOf arg2 harg2 arg3 harg3 arg4 harg4 arg5 harg5 arg6 harg6 x0 x1 x2 x3 x4) places1)) (tile arg15 (piecesOf .log i (loadsOf arg2 harg2 arg3 harg3 arg4 harg4 arg5 harg5 arg6 harg6 x0 x1 x2 x3 x4) places2)))
    (k0_pay503 (tile arg13 (piecesOf .log i (loadsOf arg2 harg2 arg3 harg3 arg4 harg4 arg5 harg5 arg6 harg6 x0 x1 x2 x3 x4) places0)) (tile arg14 (piecesOf .log i (loadsOf arg2 harg2 arg3 harg3 arg4 harg4 arg5 harg5 arg6 harg6 x0 x1 x2 x3 x4) places1)) (tile arg15 (piecesOf .log i (loadsOf arg2 harg2 arg3 harg3 arg4 harg4 arg5 harg5 arg6 harg6 x0 x1 x2 x3 x4) places2)))
    (k0_pay504 (tile arg13 (piecesOf .log i (loadsOf arg2 harg2 arg3 harg3 arg4 harg4 arg5 harg5 arg6 harg6 x0 x1 x2 x3 x4) places0)) (tile arg14 (piecesOf .log i (loadsOf arg2 harg2 arg3 harg3 arg4 harg4 arg5 harg5 arg6 harg6 x0 x1 x2 x3 x4) places1)) (tile arg15 (piecesOf .log i (loadsOf arg2 harg2 arg3 harg3 arg4 harg4 arg5 harg5 arg6 harg6 x0 x1 x2 x3 x4) places2)) (tile arg10 (piecesOf .out i (loadsOf arg2 harg2 arg3 harg3 arg4 harg4 arg5 harg5 arg6 harg6 x0 x1 x2 x3 x4) places0)))
    (k0_pay505 (tile arg13 (piecesOf .log i (loadsOf arg2 harg2 arg3 harg3 arg4 harg4 arg5 harg5 arg6 harg6 x0 x1 x2 x3 x4) places0)) (tile arg14 (piecesOf .log i (loadsOf arg2 harg2 arg3 harg3 arg4 harg4 arg5 harg5 arg6 harg6 x0 x1 x2 x3 x4) places1)) (tile arg15 (piecesOf .log i (loadsOf arg2 harg2 arg3 harg3 arg4 harg4 arg5 harg5 arg6 harg6 x0 x1 x2 x3 x4) places2)) (tile arg11 (piecesOf .out i (loadsOf arg2 harg2 arg3 harg3 arg4 harg4 arg5 harg5 arg6 harg6 x0 x1 x2 x3 x4) places1))) (tile arg12 (piecesOf .out i (loadsOf arg2 harg2 arg3 harg3 arg4 harg4 arg5 harg5 arg6 harg6 x0 x1 x2 x3 x4) places2))⟩] := by
  unfold tile
  rw [← list_log0 c i arg2 harg2 arg3 harg3 arg4 harg4 arg5 harg5 arg6 harg6 x0 x1 x2 x3 x4,
    ← list_log1 c i arg2 harg2 arg3 harg3 arg4 harg4 arg5 harg5 arg6 harg6 x0 x1 x2 x3 x4,
    ← list_log2 c i arg2 harg2 arg3 harg3 arg4 harg4 arg5 harg5 arg6 harg6 x0 x1 x2 x3 x4,
    ← list_out0 c i arg2 harg2 arg3 harg3 arg4 harg4 arg5 harg5 arg6 harg6 x0 x1 x2 x3 x4,
    ← list_out1 c i arg2 harg2 arg3 harg3 arg4 harg4 arg5 harg5 arg6 harg6 x0 x1 x2 x3 x4,
    ← list_out2 c i arg2 harg2 arg3 harg3 arg4 harg4 arg5 harg5 arg6 harg6 x0 x1 x2 x3 x4]
  exact rfl

set_option maxHeartbeats 8000000 in
theorem stores_lse : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4).2.1 = [⟨Rect.unit (s := S2048x128) ![0, 0] S2048x128.size inb_S2048x128_S2048x128_0_0, k0_pay3 (k0_pay499 (tile arg13 (piecesOf .log i (loadsOf arg2 harg2 arg3 harg3 arg4 harg4 arg5 harg5 arg6 harg6 x0 x1 x2 x3 x4) places0)) (tile arg14 (piecesOf .log i (loadsOf arg2 harg2 arg3 harg3 arg4 harg4 arg5 harg5 arg6 harg6 x0 x1 x2 x3 x4) places1)) (tile arg15 (piecesOf .log i (loadsOf arg2 harg2 arg3 harg3 arg4 harg4 arg5 harg5 arg6 harg6 x0 x1 x2 x3 x4) places2)))
    (k0_pay503 (tile arg13 (piecesOf .log i (loadsOf arg2 harg2 arg3 harg3 arg4 harg4 arg5 harg5 arg6 harg6 x0 x1 x2 x3 x4) places0)) (tile arg14 (piecesOf .log i (loadsOf arg2 harg2 arg3 harg3 arg4 harg4 arg5 harg5 arg6 harg6 x0 x1 x2 x3 x4) places1)) (tile arg15 (piecesOf .log i (loadsOf arg2 harg2 arg3 harg3 arg4 harg4 arg5 harg5 arg6 harg6 x0 x1 x2 x3 x4) places2)))⟩] := by
  unfold tile
  rw [← list_log0 c i arg2 harg2 arg3 harg3 arg4 harg4 arg5 harg5 arg6 harg6 x0 x1 x2 x3 x4,
    ← list_log1 c i arg2 harg2 arg3 harg3 arg4 harg4 arg5 harg5 arg6 harg6 x0 x1 x2 x3 x4,
    ← list_log2 c i arg2 harg2 arg3 harg3 arg4 harg4 arg5 harg5 arg6 harg6 x0 x1 x2 x3 x4]
  exact rfl

set_option maxHeartbeats 8000000 in
theorem stores_att16 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4).2.2.1 = [⟨Rect.unit (s := S2048x128) ![0, 0] S2048x128.size inb_S2048x128_S2048x128_0_0, k0_pay2 (k0_pay502 (tile arg13 (piecesOf .log i (loadsOf arg2 harg2 arg3 harg3 arg4 harg4 arg5 harg5 arg6 harg6 x0 x1 x2 x3 x4) places0)) (tile arg14 (piecesOf .log i (loadsOf arg2 harg2 arg3 harg3 arg4 harg4 arg5 harg5 arg6 harg6 x0 x1 x2 x3 x4) places1)) (tile arg15 (piecesOf .log i (loadsOf arg2 harg2 arg3 harg3 arg4 harg4 arg5 harg5 arg6 harg6 x0 x1 x2 x3 x4) places2)))
    (k0_pay503 (tile arg13 (piecesOf .log i (loadsOf arg2 harg2 arg3 harg3 arg4 harg4 arg5 harg5 arg6 harg6 x0 x1 x2 x3 x4) places0)) (tile arg14 (piecesOf .log i (loadsOf arg2 harg2 arg3 harg3 arg4 harg4 arg5 harg5 arg6 harg6 x0 x1 x2 x3 x4) places1)) (tile arg15 (piecesOf .log i (loadsOf arg2 harg2 arg3 harg3 arg4 harg4 arg5 harg5 arg6 harg6 x0 x1 x2 x3 x4) places2)))
    (k0_pay504 (tile arg13 (piecesOf .log i (loadsOf arg2 harg2 arg3 harg3 arg4 harg4 arg5 harg5 arg6 harg6 x0 x1 x2 x3 x4) places0)) (tile arg14 (piecesOf .log i (loadsOf arg2 harg2 arg3 harg3 arg4 harg4 arg5 harg5 arg6 harg6 x0 x1 x2 x3 x4) places1)) (tile arg15 (piecesOf .log i (loadsOf arg2 harg2 arg3 harg3 arg4 harg4 arg5 harg5 arg6 harg6 x0 x1 x2 x3 x4) places2)) (tile arg10 (piecesOf .out i (loadsOf arg2 harg2 arg3 harg3 arg4 harg4 arg5 harg5 arg6 harg6 x0 x1 x2 x3 x4) places0)))
    (k0_pay505 (tile arg13 (piecesOf .log i (loadsOf arg2 harg2 arg3 harg3 arg4 harg4 arg5 harg5 arg6 harg6 x0 x1 x2 x3 x4) places0)) (tile arg14 (piecesOf .log i (loadsOf arg2 harg2 arg3 harg3 arg4 harg4 arg5 harg5 arg6 harg6 x0 x1 x2 x3 x4) places1)) (tile arg15 (piecesOf .log i (loadsOf arg2 harg2 arg3 harg3 arg4 harg4 arg5 harg5 arg6 harg6 x0 x1 x2 x3 x4) places2)) (tile arg11 (piecesOf .out i (loadsOf arg2 harg2 arg3 harg3 arg4 harg4 arg5 harg5 arg6 harg6 x0 x1 x2 x3 x4) places1))) (tile arg12 (piecesOf .out i (loadsOf arg2 harg2 arg3 harg3 arg4 harg4 arg5 harg5 arg6 harg6 x0 x1 x2 x3 x4) places2))⟩] := by
  unfold tile
  rw [← list_log0 c i arg2 harg2 arg3 harg3 arg4 harg4 arg5 harg5 arg6 harg6 x0 x1 x2 x3 x4,
    ← list_log1 c i arg2 harg2 arg3 harg3 arg4 harg4 arg5 harg5 arg6 harg6 x0 x1 x2 x3 x4,
    ← list_log2 c i arg2 harg2 arg3 harg3 arg4 harg4 arg5 harg5 arg6 harg6 x0 x1 x2 x3 x4,
    ← list_out0 c i arg2 harg2 arg3 harg3 arg4 harg4 arg5 harg5 arg6 harg6 x0 x1 x2 x3 x4,
    ← list_out1 c i arg2 harg2 arg3 harg3 arg4 harg4 arg5 harg5 arg6 harg6 x0 x1 x2 x3 x4,
    ← list_out2 c i arg2 harg2 arg3 harg3 arg4 harg4 arg5 harg5 arg6 harg6 x0 x1 x2 x3 x4]
  exact rfl
end

end Cert.Fwd

end
-- ==== Proof.Fwd.Step.lean ====
/-
  The attention's forward kernel: what a point of the grid loads and what it leaves, over arrays with real entries.
-/
module

public import proofs.«01_k».proof.Proof.Fwd.Piece
public import proofs.«01_k».proof.Proof.Fwd.Stores

@[expose] public section

set_option maxRecDepth 16384

noncomputable section

namespace Cert.Fwd

open Cert.Kernel7Ideal Cert.Kernel7Ideal.Gen
open Idealize.ShloMosaic Idealize.ShloMosaic.TcCoe Idealize.ShloMosaic.Tactic
open Cert.Dense (Is2)
open Cert.Attn (Rows Lined at_rows hz2 sited0 sited1 sited2 here0 here1 here2 places0 places1 places2)
open Cert.Spec

/-! The blocks of the projection. -/

theorem points (t : Fin cfg0.N) : t.val < 16 := lt_of_lt_of_eq t.isLt N_0

theorem chunk_of (t : Fin cfg0.N) : ((grid0.coords t) 1).val = t.val % 4 :=
  (by decide +kernel : ∀ t : Fin grid0.N, ((grid0.coords t) 1).val = t.val % 4) t

theorem index0 (t : Fin cfg0.N) : win0_0.index t 0 = t.val % 4 ∧ win0_0.index t 1 = t.val / 4 :=
  (by decide +kernel : ∀ t : Fin grid0.N, win0_0.index t 0 = t.val % 4 ∧ win0_0.index t 1 = t.val / 4) t
theorem place0 (X : Vec Ideal S8192x2048 .f32) (t : Fin cfg0.N) (y : Fin 2048) (x : Fin 128) :
    (((cfg0.win 0).blk t).view.read (Elt Ideal) X : Vec Ideal S2048x128 .f32) (ix2 y x)
      = X (ix2 ⟨2048 * (t.val % 4) + y.val, by omega⟩ ⟨128 * (t.val / 4) + x.val, by have := points t; omega⟩) := by
  rw [View.read_apply]
  show X _ = X _
  congr 1
  funext a
  apply Fin.ext
  match a with
  | ⟨0, _⟩ => show win0_0.index t 0 * 2048 + 1 * y.val = 2048 * (t.val % 4) + y.val; rw [(index0 t).1]; omega
  | ⟨1, _⟩ => show win0_0.index t 1 * 128 + 1 * x.val = 128 * (t.val / 4) + x.val; rw [(index0 t).2]; omega

theorem index1 (t : Fin cfg0.N) : win0_1.index t 0 = t.val % 4 - 1 ∧ win0_1.index t 1 = 4 + t.val / 4 :=
  (by decide +kernel : ∀ t : Fin grid0.N, win0_1.index t 0 = t.val % 4 - 1 ∧ win0_1.index t 1 = 4 + t.val / 4) t
theorem place1 (X : Vec Ideal S8192x2048 .f32) (t : Fin cfg0.N) (y : Fin 2048) (x : Fin 128) :
    (((cfg0.win 1).blk t).view.read (Elt Ideal) X : Vec Ideal S2048x128 .f32) (ix2 y x)
      = X (ix2 ⟨2048 * (t.val % 4 - 1) + y.val, by omega⟩ ⟨128 * (4 + t.val / 4) + x.val, by have := points t; omega⟩) := by
  rw [View.read_apply]
  show X _ = X _
  congr 1
  funext a
  apply Fin.ext
  match a with
  | ⟨0, _⟩ => show win0_1.index t 0 * 2048 + 1 * y.val = 2048 * (t.val % 4 - 1) + y.val; rw [(index1 t).1]; omega
  | ⟨1, _⟩ => show win0_1.index t 1 * 128 + 1 * x.val = 128 * (4 + t.val / 4) + x.val; rw [(index1 t).2]; omega

theorem index2 (t : Fin cfg0.N) : win0_2.index t 0 = t.val % 4 ∧ win0_2.index t 1 = 4 + t.val / 4 :=
  (by decide +kernel : ∀ t : Fin grid0.N, win0_2.index t 0 = t.val % 4 ∧ win0_2.index t 1 = 4 + t.val / 4) t
theorem place2 (X : Vec Ideal S8192x2048 .f32) (t : Fin cfg0.N) (y : Fin 2048) (x : Fin 128) :
    (((cfg0.win 2).blk t).view.read (Elt Ideal) X : Vec Ideal S2048x128 .f32) (ix2 y x)
      = X (ix2 ⟨2048 * (t.val % 4) + y.val, by omega⟩ ⟨128 * (4 + t.val / 4) + x.val, by have := points t; omega⟩) := by
  rw [View.read_apply]
  show X _ = X _
  congr 1
  funext a
  apply Fin.ext
  match a with
  | ⟨0, _⟩ => show win0_2.index t 0 * 2048 + 1 * y.val = 2048 * (t.val % 4) + y.val; rw [(index2 t).1]; omega
  | ⟨1, _⟩ => show win0_2.index t 1 * 128 + 1 * x.val = 128 * (4 + t.val / 4) + x.val; rw [(index2 t).2]; omega

theorem index3 (t : Fin cfg0.N) : win0_3.index t 0 = t.val % 4 - 1 ∧ win0_3.index t 1 = 8 + t.val / 4 :=
  (by decide +kernel : ∀ t : Fin grid0.N, win0_3.index t 0 = t.val % 4 - 1 ∧ win0_3.index t 1 = 8 + t.val / 4) t
theorem place3 (X : Vec Ideal S8192x2048 .f32) (t : Fin cfg0.N) (y : Fin 2048) (x : Fin 128) :
    (((cfg0.win 3).blk t).view.read (Elt Ideal) X : Vec Ideal S2048x128 .f32) (ix2 y x)
      = X (ix2 ⟨2048 * (t.val % 4 - 1) + y.val, by omega⟩ ⟨128 * (8 + t.val / 4) + x.val, by have := points t; omega⟩) := by
  rw [View.read_apply]
  show X _ = X _
  congr 1
  funext a
  apply Fin.ext
  match a with
  | ⟨0, _⟩ => show win0_3.index t 0 * 2048 + 1 * y.val = 2048 * (t.val % 4 - 1) + y.val; rw [(index3 t).1]; omega
  | ⟨1, _⟩ => show win0_3.index t 1 * 128 + 1 * x.val = 128 * (8 + t.val / 4) + x.val; rw [(index3 t).2]; omega

theorem index4 (t : Fin cfg0.N) : win0_4.index t 0 = t.val % 4 ∧ win0_4.index t 1 = 8 + t.val / 4 :=
  (by decide +kernel : ∀ t : Fin grid0.N, win0_4.index t 0 = t.val % 4 ∧ win0_4.index t 1 = 8 + t.val / 4) t
theorem place4 (X : Vec Ideal S8192x2048 .f32) (t : Fin cfg0.N) (y : Fin 2048) (x : Fin 128) :
    (((cfg0.win 4).blk t).view.read (Elt Ideal) X : Vec Ideal S2048x128 .f32) (ix2 y x)
      = X (ix2 ⟨2048 * (t.val % 4) + y.val, by omega⟩ ⟨128 * (8 + t.val / 4) + x.val, by have := points t; omega⟩) := by
  rw [View.read_apply]
  show X _ = X _
  congr 1
  funext a
  apply Fin.ext
  match a with
  | ⟨0, _⟩ => show win0_4.index t 0 * 2048 + 1 * y.val = 2048 * (t.val % 4) + y.val; rw [(index4 t).1]; omega
  | ⟨1, _⟩ => show win0_4.index t 1 * 128 + 1 * x.val = 128 * (8 + t.val / 4) + x.val; rw [(index4 t).2]; omega

variable {m : (ℓ : Loc nD τ sig) → Buf (Elt Ideal) ℓ} {c : Dev nD} {f : ℕ → ℕ → ℝ}

/-- The projection on a device. -/
abbrev proj (m : (ℓ : Loc nD τ sig) → Buf (Elt Ideal) ℓ) (c : Dev nD) : FVec Ideal S8192x2048 .f32 := m ((c.tc : Thread nD τ).loc main_arg0)

section
variable (hf : ∀ (R : Fin 8192) (C : Fin 2048), C.val < 1536 → proj m c (ix2 R C) = (f R.val C.val : EReal)) (t : Fin cfg0.N)
include hf

theorem real_q : Is2 (iblk m c 0 t : Vec Ideal S2048x128 .f32) (fun y x => f (2048 * (t.val % 4) + y) (128 * (t.val / 4) + x)) := fun y x => by
  have := points t
  refine (place0 (V m c main_arg0) t y x).trans ?_
  rw [V_main_arg0]
  refine (hf _ _ (by show 128 * (t.val / 4) + x.val < 1536; omega)).trans (congrArg (fun z => ((f (2048 * (t.val % 4) + y.val) z : ℝ) : EReal)) ?_)
  show 128 * (t.val / 4) + x.val = _
  omega

theorem real_kp : Is2 (iblk m c 1 t : Vec Ideal S2048x128 .f32) (fun y x => f (2048 * (t.val % 4 - 1) + y) (512 + (128 * (t.val / 4) + x))) := fun y x => by
  have := points t
  refine (place1 (V m c main_arg0) t y x).trans ?_
  rw [V_main_arg0]
  refine (hf _ _ (by show 128 * (4 + t.val / 4) + x.val < 1536; omega)).trans (congrArg (fun z => ((f (2048 * (t.val % 4 - 1) + y.val) z : ℝ) : EReal)) ?_)
  show 128 * (4 + t.val / 4) + x.val = _
  omega

theorem real_kc : Is2 (iblk m c 2 t : Vec Ideal S2048x128 .f32) (fun y x => f (2048 * (t.val % 4) + y) (512 + (128 * (t.val / 4) + x))) := fun y x => by
  have := points t
  refine (place2 (V m c main_arg0) t y x).trans ?_
  rw [V_main_arg0]
  refine (hf _ _ (by show 128 * (4 + t.val / 4) + x.val < 1536; omega)).trans (congrArg (fun z => ((f (2048 * (t.val % 4) + y.val) z : ℝ) : EReal)) ?_)
  show 128 * (4 + t.val / 4) + x.val = _
  omega

theorem real_vp : Is2 (iblk m c 3 t : Vec Ideal S2048x128 .f32) (fun y x => f (2048 * (t.val % 4 - 1) + y) (1024 + (128 * (t.val / 4) + x))) := fun y x => by
  have := points t
  refine (place3 (V m c main_arg0) t y x).trans ?_
  rw [V_main_arg0]
  refine (hf _ _ (by show 128 * (8 + t.val / 4) + x.val < 1536; omega)).trans (congrArg (fun z => ((f (2048 * (t.val % 4 - 1) + y.val) z : ℝ) : EReal)) ?_)
  show 128 * (8 + t.val / 4) + x.val = _
  omega

theorem real_vc : Is2 (iblk m c 4 t : Vec Ideal S2048x128 .f32) (fun y x => f (2048 * (t.val % 4) + y) (1024 + (128 * (t.val / 4) + x))) := fun y x => by
  have := points t
  refine (place4 (V m c main_arg0) t y x).trans ?_
  rw [V_main_arg0]
  refine (hf _ _ (by show 128 * (8 + t.val / 4) + x.val < 1536; omega)).trans (congrArg (fun z => ((f (2048 * (t.val % 4) + y.val) z : ℝ) : EReal)) ?_)
  show 128 * (8 + t.val / 4) + x.val = _
  omega

omit hf in
/-- A load of a block's rows. -/
theorem load_lined {M : Memref sig .tc .vmem S2048x128 .f32} (hM : M.IsWhole) {a : Vec Ideal S2048x128 .f32} {A : ℕ → ℕ → ℝ} (hA : Is2 a A) (d : ℕ) (r : Rows) (hr : Lined d r) :
    Is2 (View.readAt (Elt Ideal) M.view r.rect.toLoadRect (hM.unread a)) (fun i x => A (r.off 0 + d * i) x) := by
  rw [View.readAt_eq_ld, hM.read_unread]
  exact at_rows hA 128 (r.off 0) d r.rect.toLoadRect.idx (fun y => by show r.off 0 + r.stride 0 * (y 0).val = _; rw [hr.2.2])
    (fun y => by show r.off 1 + r.stride 1 * (y 1).val = _; rw [hr.1, hr.2.1]; omega)

omit hf in
/-- A load of a whole buffer. -/
theorem load_whole (M : Memref sig .tc .vmem S2048x128 .f32) {L : List (View.Piece (Elt Ideal) S2048x128 .f32)} {A : ℕ → ℕ → ℝ} (hA : Is2 (View.canon L) A) :
    Is2 (tile (F := Ideal) M L) A := by
  unfold tile
  rw [View.readCov_eq_canon']
  exact Cert.Attn.Is2.to (at_rows hA 2048 0 1 (Rect.unit (s := S2048x128) ![0, 0] S2048x128.size inb_S2048x128_S2048x128_0_0).toLoadRect.idx (fun y => by show 0 + 1 * (y 0).val = _; rfl)
    (fun y => by show 0 + 1 * (y 1).val = _; omega)) fun i x _ _ => by rw [Nat.one_mul, Nat.zero_add]

theorem filled (A2 : Memref sig .tc .vmem S2048x128 .f32) (h2 : A2.IsWhole) (A3 : Memref sig .tc .vmem S2048x128 .f32) (h3 : A3.IsWhole)
    (A4 : Memref sig .tc .vmem S2048x128 .f32) (h4 : A4.IsWhole) (A5 : Memref sig .tc .vmem S2048x128 .f32) (h5 : A5.IsWhole)
    (A6 : Memref sig .tc .vmem S2048x128 .f32) (h6 : A6.IsWhole) :
    Filled f (loadsOf A2 h2 A3 h3 A4 h4 A5 h5 A6 h6 (iblk m c 0 t) (iblk m c 1 t) (iblk m c 2 t) (iblk m c 3 t) (iblk m c 4 t)) ((grid0.coords t) 1).val (t.val / 4) := by
  rw [chunk_of]
  exact {
    q := fun d r hr => load_lined h2 (real_q hf t) d r hr
    kp := fun d r hr => load_lined h3 (real_kp hf t) d r hr
    kc := fun d r hr => load_lined h4 (real_kc hf t) d r hr
    vp := fun d r hr => load_lined h5 (real_vp hf t) d r hr
    vc := fun d r hr => load_lined h6 (real_vc hf t) d r hr }

/-! What the point leaves. -/

omit hf in
theorem whole_out {e : EltTy} (v : View sig .tc .vmem S2048x128 e) {L : List (View.Piece (Elt Ideal) S2048x128 e)} {w : S2048x128.Idx → Elt Ideal e}
    (h : L = [⟨Rect.unit (s := S2048x128) ![0, 0] S2048x128.size inb_S2048x128_S2048x128_0_0, w⟩]) :
    v.read (Elt Ideal) (v.writes (Elt Ideal) v.junk L) = w := by
  subst h
  exact (View.read_writes_junk_eq_canon v _).trans (View.canon_unit_zero (S := S2048x128) hz2 _ w)
end

section
variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole)
  (x0 x1 x2 x3 x4 : Vec Ideal S2048x128 .f32) {H : ℕ}
  (hL : Filled f (loadsOf arg2 harg2 arg3 harg3 arg4 harg4 arg5 harg5 arg6 harg6 x0 x1 x2 x3 x4) (i 1).val H)
include hL

/-- The attention's output at a point, the logarithm of all sums, and the output's cast. -/
theorem outs_of {n : ℕ} (hn : (i 1).val = n) : Is2 (out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4)
      (fun y x => att f ((128 * H + x) / 64) (2048 * n + y) ((128 * H + x) % 64))
    ∧ Is2 (out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4)
      (fun y x => Real.log (allTotal f ((128 * H + x) / 64) (2048 * n + y)))
    ∧ Is2 (out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4)
      (fun y x => att f ((128 * H + x) / 64) (2048 * n + y) ((128 * H + x) % 64)) := by
  subst hn
  have l0 := load_whole arg13 (canon_log hL (.inl rfl) sited0 here0)
  have l1 := load_whole arg14 (canon_log hL (.inr (.inl rfl)) sited1 here1)
  have l2 := load_whole arg15 (canon_log hL (.inr (.inr rfl)) sited2 here2)
  have o0 := load_whole arg10 (canon_out hL (.inl rfl) sited0 here0)
  have o1 := load_whole arg11 (canon_out hL (.inr (.inl rfl)) sited1 here1)
  have o2 := load_whole arg12 (canon_out hL (.inr (.inr rfl)) sited2 here2)
  have T := fun d => fun (y x : ℕ) => total_pos f d ((128 * H + x) / 64) (2048 * (i 1).val + y)
  refine ⟨?_, ?_, ?_⟩
  · rw [show out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 = _ from whole_out VO0_5 (stores_att c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4)]
    exact att_apply (T 1) (T 4) (T 16) l0 l1 l2 o0 o1 o2
  · rw [show out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 = _ from whole_out VO0_6 (stores_lse c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4)]
    exact lse_apply (T 1) (T 4) (T 16) l0 l1 l2
  · rw [show out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 = _ from whole_out VO0_7 (stores_att16 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4)]
    exact att16_apply (T 1) (T 4) (T 16) l0 l1 l2 o0 o1 o2
end

section
variable (hf : ∀ (R : Fin 8192) (C : Fin 2048), C.val < 1536 → proj m c (ix2 R C) = (f R.val C.val : EReal)) (t : Fin cfg0.N)
include hf

attribute [local irreducible] out0_A_5 out0_A_6 out0_A_7 loadsOf in
theorem outs : Is2 (outsAt0 m c t).1 (fun y x => att f ((128 * (t.val / 4) + x) / 64) (2048 * (t.val % 4) + y) ((128 * (t.val / 4) + x) % 64))
    ∧ Is2 (outsAt0 m c t).2.1 (fun y x => Real.log (allTotal f ((128 * (t.val / 4) + x) / 64) (2048 * (t.val % 4) + y)))
    ∧ Is2 (outsAt0 m c t).2.2 (fun y x => att f ((128 * (t.val / 4) + x) / 64) (2048 * (t.val % 4) + y) ((128 * (t.val / 4) + x) % 64)) := by
  unfold outsAt0
  dsimp only
  exact outs_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t)
    (filled hf t (ms0_0 t) (hs0_0 t) (ms0_1 t) (hs0_1 t) (ms0_2 t) (hs0_2 t) (ms0_3 t) (hs0_3 t) (ms0_4 t) (hs0_4 t)) (chunk_of t)
end

end Cert.Fwd

end
-- ==== Proof.Fwd.Arrays.lean ====
/-
  The attention's forward kernel: its three result arrays after the last point, over arguments with real entries.
-/
module

public import proofs.«01_k».proof.Proof.Fwd.Step
public import proofs.«01_k».proof.Proof.Attn.Arrays

@[expose] public section

set_option maxRecDepth 16384

noncomputable section

namespace Cert.Fwd

open Cert.Kernel7Ideal Cert.Kernel7Ideal.Gen
open Idealize.ShloMosaic Idealize.ShloMosaic.TcCoe Idealize.ShloMosaic.Tactic
open Cert.Dense (Is2)
open Cert.Attn (arr arr_at)
open Cert.Spec

variable {m : (ℓ : Loc nD τ sig) → Buf (Elt Ideal) ℓ} {c : Dev nD} {f : ℕ → ℕ → ℝ}
  (hf : ∀ (R : Fin 8192) (C : Fin 2048), C.val < 1536 → proj m c (ix2 R C) = (f R.val C.val : EReal))

theorem block_att (t : Fin cfg0.N) : win0_5.index t 0 = t.val % 4 ∧ win0_5.index t 1 = t.val / 4 :=
  (by decide +kernel : ∀ t : Fin grid0.N, win0_5.index t 0 = t.val % 4 ∧ win0_5.index t 1 = t.val / 4) t

include hf in
/-- The attention's output. -/
theorem final_att : (dats m 0 c).arrAt 5 cfg0.N = arr (fun t L => att f (L / 64) t (L % 64)) :=
  (dats m 0 c).arrAt_eq_of_cover 5 (arr (fun t L => att f (L / 64) t (L % 64)))
    (fun t _ => by
      show (cfg0.win 5).cut (grid0.coords t) ((dats m 0 c).after 5 t) = _
      rw [after0_5]
      funext y
      obtain ⟨r, x, rfl⟩ : ∃ (r : Fin 2048) (x : Fin 128), y = ix2 r x := ⟨y 0, y 1, (ix2_eta y).symm⟩
      refine Eq.trans ((outs hf t).1 r x) ?_
      rw [View.read_apply]
      have e0 : (((cfg0.win 5).blk t).view.emb (ix2 r x) 0).val = 2048 * (t.val % 4) + r.val := by
        show win0_5.index t 0 * 2048 + 1 * r.val = _; rw [(block_att t).1]; omega
      have e1 : (((cfg0.win 5).blk t).view.emb (ix2 r x) 1).val = 128 * (t.val / 4) + x.val := by
        show win0_5.index t 1 * 128 + 1 * x.val = _; rw [(block_att t).2]; omega
      exact (arr_at (fun t L => att f (L / 64) t (L % 64)) (((cfg0.win 5).blk t).view.emb (ix2 r x)) e0 e1).symm)
    fun i => by
      have h0 : (i 0).val < 8192 := (i 0).isLt
      have h1 : (i 1).val < 512 := (i 1).isLt
      obtain ⟨t, ht⟩ : ∃ t : Fin cfg0.N, t.val = 4 * ((i 1).val / 128) + (i 0).val / 2048 := ⟨⟨4 * ((i 1).val / 128) + (i 0).val / 2048, by rw [show cfg0.N = 16 from N_0]; omega⟩, rfl⟩
      obtain ⟨k, hk, hk0, hk1⟩ : ∃ k, (i 0).val / 2048 = k ∧ (i 0).val < 2048 * k + 2048 ∧ 2048 * k ≤ (i 0).val := ⟨_, rfl, by omega, by omega⟩
      rw [hk] at ht
      have hs : t.val / 4 = (i 1).val / 128 ∧ t.val % 4 = k := by omega
      refine ⟨t, flush0_5 t, ?_⟩
      show i ∈ ((View.whole main_v0_0).slice (win0_5.rect t)).set
      rw [View.set_slice_whole, Rect.mem_set_unit]
      intro a
      match a with
      | ⟨0, _⟩ =>
        show win0_5.index t 0 * 2048 ≤ (i 0).val ∧ (i 0).val < win0_5.index t 0 * 2048 + 2048
        rw [(block_att t).1, hs.2]; omega
      | ⟨1, _⟩ =>
        show win0_5.index t 1 * 128 ≤ (i 1).val ∧ (i 1).val < win0_5.index t 1 * 128 + 128
        rw [(block_att t).2, hs.1]; omega

theorem block_lse (t : Fin cfg0.N) : win0_6.index t 0 = t.val % 4 ∧ win0_6.index t 1 = t.val / 4 :=
  (by decide +kernel : ∀ t : Fin grid0.N, win0_6.index t 0 = t.val % 4 ∧ win0_6.index t 1 = t.val / 4) t

include hf in
/-- The logarithms of all sums. -/
theorem final_lse : (dats m 0 c).arrAt 6 cfg0.N = arr (fun t L => Real.log (allTotal f (L / 64) t)) :=
  (dats m 0 c).arrAt_eq_of_cover 6 (arr (fun t L => Real.log (allTotal f (L / 64) t)))
    (fun t _ => by
      show (cfg0.win 6).cut (grid0.coords t) ((dats m 0 c).after 6 t) = _
      rw [after0_6]
      funext y
      obtain ⟨r, x, rfl⟩ : ∃ (r : Fin 2048) (x : Fin 128), y = ix2 r x := ⟨y 0, y 1, (ix2_eta y).symm⟩
      refine Eq.trans ((outs hf t).2.1 r x) ?_
      rw [View.read_apply]
      have e0 : (((cfg0.win 6).blk t).view.emb (ix2 r x) 0).val = 2048 * (t.val % 4) + r.val := by
        show win0_6.index t 0 * 2048 + 1 * r.val = _; rw [(block_lse t).1]; omega
      have e1 : (((cfg0.win 6).blk t).view.emb (ix2 r x) 1).val = 128 * (t.val / 4) + x.val := by
        show win0_6.index t 1 * 128 + 1 * x.val = _; rw [(block_lse t).2]; omega
      exact (arr_at (fun t L => Real.log (allTotal f (L / 64) t)) (((cfg0.win 6).blk t).view.emb (ix2 r x)) e0 e1).symm)
    fun i => by
      have h0 : (i 0).val < 8192 := (i 0).isLt
      have h1 : (i 1).val < 512 := (i 1).isLt
      obtain ⟨t, ht⟩ : ∃ t : Fin cfg0.N, t.val = 4 * ((i 1).val / 128) + (i 0).val / 2048 := ⟨⟨4 * ((i 1).val / 128) + (i 0).val / 2048, by rw [show cfg0.N = 16 from N_0]; omega⟩, rfl⟩
      obtain ⟨k, hk, hk0, hk1⟩ : ∃ k, (i 0).val / 2048 = k ∧ (i 0).val < 2048 * k + 2048 ∧ 2048 * k ≤ (i 0).val := ⟨_, rfl, by omega, by omega⟩
      rw [hk] at ht
      have hs : t.val / 4 = (i 1).val / 128 ∧ t.val % 4 = k := by omega
      refine ⟨t, flush0_6 t, ?_⟩
      show i ∈ ((View.whole main_v0_1).slice (win0_6.rect t)).set
      rw [View.set_slice_whole, Rect.mem_set_unit]
      intro a
      match a with
      | ⟨0, _⟩ =>
        show win0_6.index t 0 * 2048 ≤ (i 0).val ∧ (i 0).val < win0_6.index t 0 * 2048 + 2048
        rw [(block_lse t).1, hs.2]; omega
      | ⟨1, _⟩ =>
        show win0_6.index t 1 * 128 ≤ (i 1).val ∧ (i 1).val < win0_6.index t 1 * 128 + 128
        rw [(block_lse t).2, hs.1]; omega

theorem block_att16 (t : Fin cfg0.N) : win0_7.index t 0 = t.val % 4 ∧ win0_7.index t 1 = t.val / 4 :=
  (by decide +kernel : ∀ t : Fin grid0.N, win0_7.index t 0 = t.val % 4 ∧ win0_7.index t 1 = t.val / 4) t

include hf in
/-- The output's cast. -/
theorem final_att16 : (dats m 0 c).arrAt 7 cfg0.N = arr (fun t L => att f (L / 64) t (L % 64)) :=
  (dats m 0 c).arrAt_eq_of_cover 7 (arr (fun t L => att f (L / 64) t (L % 64)))
    (fun t _ => by
      show (cfg0.win 7).cut (grid0.coords t) ((dats m 0 c).after 7 t) = _
      rw [after0_7]
      funext y
      obtain ⟨r, x, rfl⟩ : ∃ (r : Fin 2048) (x : Fin 128), y = ix2 r x := ⟨y 0, y 1, (ix2_eta y).symm⟩
      refine Eq.trans ((outs hf t).2.2 r x) ?_
      rw [View.read_apply]
      have e0 : (((cfg0.win 7).blk t).view.emb (ix2 r x) 0).val = 2048 * (t.val % 4) + r.val := by
        show win0_7.index t 0 * 2048 + 1 * r.val = _; rw [(block_att16 t).1]; omega
      have e1 : (((cfg0.win 7).blk t).view.emb (ix2 r x) 1).val = 128 * (t.val / 4) + x.val := by
        show win0_7.index t 1 * 128 + 1 * x.val = _; rw [(block_att16 t).2]; omega
      exact (arr_at (fun t L => att f (L / 64) t (L % 64)) (((cfg0.win 7).blk t).view.emb (ix2 r x)) e0 e1).symm)
    fun i => by
      have h0 : (i 0).val < 8192 := (i 0).isLt
      have h1 : (i 1).val < 512 := (i 1).isLt
      obtain ⟨t, ht⟩ : ∃ t : Fin cfg0.N, t.val = 4 * ((i 1).val / 128) + (i 0).val / 2048 := ⟨⟨4 * ((i 1).val / 128) + (i 0).val / 2048, by rw [show cfg0.N = 16 from N_0]; omega⟩, rfl⟩
      obtain ⟨k, hk, hk0, hk1⟩ : ∃ k, (i 0).val / 2048 = k ∧ (i 0).val < 2048 * k + 2048 ∧ 2048 * k ≤ (i 0).val := ⟨_, rfl, by omega, by omega⟩
      rw [hk] at ht
      have hs : t.val / 4 = (i 1).val / 128 ∧ t.val % 4 = k := by omega
      refine ⟨t, flush0_7 t, ?_⟩
      show i ∈ ((View.whole main_v0_2).slice (win0_7.rect t)).set
      rw [View.set_slice_whole, Rect.mem_set_unit]
      intro a
      match a with
      | ⟨0, _⟩ =>
        show win0_7.index t 0 * 2048 ≤ (i 0).val ∧ (i 0).val < win0_7.index t 0 * 2048 + 2048
        rw [(block_att16 t).1, hs.2]; omega
      | ⟨1, _⟩ =>
        show win0_7.index t 1 * 128 ≤ (i 1).val ∧ (i 1).val < win0_7.index t 1 * 128 + 128
        rw [(block_att16 t).2, hs.1]; omega

end Cert.Fwd

end
-- ==== Proof.Fwd.Reference.lean ====
/-
  The forward reference's results are the dense attention's, and what they are on a projection with real entries.
-/
module

public import proofs.«01_k».proof.Proof.Attn.Reference
public import proofs.«01_k».proof.Proof.Gen.Reference7Ideal.Read

@[expose] public section

set_option maxRecDepth 16384

noncomputable section

namespace Cert.FwdDense

open Cert.Reference7Ideal Cert.Reference7Ideal.Gen Cert.Reference7Ideal.Read
open Idealize.ShloMosaic
open Cert.Dense
open Cert.Spec

variable (x0 : FVec Ideal S8192x2048 .f32)

set_option maxHeartbeats 4000000 in
theorem att_eq : val_main_v131 (F := Ideal) x0 = attOf (L1 x0) (L2 x0) (L3 x0) (O1 x0) (O2 x0) (O3 x0) := (rfl)
set_option maxHeartbeats 4000000 in
theorem lse_eq : val_main_v136 (F := Ideal) x0 = lseOf (L1 x0) (L2 x0) (L3 x0) := (rfl)

variable {x0} {f : ℕ → ℕ → ℝ} (hx : ∀ (R : Fin 8192) (C : Fin 2048), C.val < 1536 → x0 (ix2 R C) = (f R.val C.val : EReal))
include hx

theorem result_att : Is2 (val_main_v131 (F := Ideal) x0) (fun t L => att f (L / 64) t (L % 64)) := by
  obtain ⟨μ1, p1⟩ := scored_pattern hx 1 (by decide) (by decide)
  obtain ⟨μ2, p2⟩ := scored_pattern hx 4 (by decide) (by decide)
  obtain ⟨μ3, p3⟩ := scored_pattern hx 16 (by decide) (by decide)
  rw [att_eq]
  exact attOf_apply p1.l p2.l p3.l p1.o p2.o p3.o

theorem result_lse : Is2 (val_main_v136 (F := Ideal) x0) (fun t L => Real.log (allTotal f (L / 64) t)) := by
  obtain ⟨μ1, p1⟩ := scored_pattern hx 1 (by decide) (by decide)
  obtain ⟨μ2, p2⟩ := scored_pattern hx 4 (by decide) (by decide)
  obtain ⟨μ3, p3⟩ := scored_pattern hx 16 (by decide) (by decide)
  rw [lse_eq]
  exact lseOf_apply p1.l p2.l p3.l

theorem result_att16 : Is2 (val_main_v137 (F := Ideal) x0) (fun t L => att f (L / 64) t (L % 64)) := fun t L =>
  (val_main_v137_apply (F := Ideal) x0 (ix2 t L)).trans (result_att hx t L)

end Cert.FwdDense

end
-- ==== Proof.Fwd.Equation.lean ====
/-
  Over projections with finite entries the attention's forward kernel leaves the reference's three results.
-/
module

public import proofs.«01_k».proof.Defs
public import proofs.«01_k».proof.Proof.Fwd.Arrays
public import proofs.«01_k».proof.Proof.Fwd.Reference
public import proofs.«01_k».proof.Proof.Attn.Equation
public import proofs.«01_k».proof.Proof.Gen.Reference7Ideal.Run
public import Idealize.ShloMosaic.Lib.Quiescent

@[expose] public section

set_option maxRecDepth 16384

noncomputable section

open Idealize.ShloMosaic Idealize.ShloMosaic.TcCoe Idealize.SL.Sem

namespace Cert.FwdEq

open Cert.Spec
open Cert.AttnEq (number number_eq)

instance facts : Cert.Pre_finite7.Facts where
  slices_S8192x2048_S8192x1536_0_0 := by decide
  bcast_S_S8192x1536 := by decide
  reducesTo_S8192x1536_S_d0_1 := by decide
  h_S_ := by decide

/-- The entries that are read are reals, where the predicate holds. -/
theorem holds (x0 : FVec Ideal Cert.Reference7Ideal.S8192x2048 .f32) (h : Cert.Pre_finite7.fn (F := Ideal) x0 = fun _ => 1#1) :
    ∀ (R : Fin 8192) (C : Fin 2048), C.val < 1536 → x0 (ix2 R C) = (number x0 R.val C.val : EReal) := by
  have e := congrFun h ix0
  simp only [Cert.Pre_finite7.fn] at e
  haveI : Subsingleton (Cert.Pre_finite7.S_).Idx := ⟨fun a b => funext fun k => k.elim0⟩
  intro R C hC
  rw [number_eq]
  have r := Finite.all _ _ _ _ _ ix0 e (ix2 R ⟨C.val, hC⟩)
  pointwise at r
  exact r

variable (m : (ℓ : Loc Cert.Kernel7Ideal.nD Cert.Kernel7Ideal.τ Cert.Kernel7Ideal.sig) → Buf (Elt Ideal) ℓ) (c : Dev Cert.Kernel7Ideal.nD)

/-- The kernel's argument on a device. -/
abbrev a0 : FVec Ideal Cert.Reference7Ideal.S8192x2048 .f32 := m ((c : Thread Cert.Kernel7Ideal.nD Cert.Kernel7Ideal.τ).loc Cert.Kernel7Ideal.main_arg0)

variable {m} (h : Cert.Pre_Kernel7Ideal_finite7 m)
include h

/-- The attention's output. -/
theorem result5 : (Cert.Kernel7Ideal.Gen.dats m 0 c).arrAt 5 Cert.Kernel7Ideal.cfg0.N = Cert.Reference7Ideal.Read.val_main_v131 (F := Ideal) (a0 m c) := by
  have hf := holds (a0 m c) (h c)
  refine (Cert.Fwd.final_att hf).trans (funext fun y => ?_)
  obtain ⟨r, C, rfl⟩ : ∃ (r : Fin 8192) (C : Fin 512), y = ix2 r C := ⟨y 0, y 1, (ix2_eta y).symm⟩
  exact (Cert.FwdDense.result_att hf r C).symm

/-- The logarithms of all sums. -/
theorem result6 : (Cert.Kernel7Ideal.Gen.dats m 0 c).arrAt 6 Cert.Kernel7Ideal.cfg0.N = Cert.Reference7Ideal.Read.val_main_v136 (F := Ideal) (a0 m c) := by
  have hf := holds (a0 m c) (h c)
  refine (Cert.Fwd.final_lse hf).trans (funext fun y => ?_)
  obtain ⟨r, C, rfl⟩ : ∃ (r : Fin 8192) (C : Fin 512), y = ix2 r C := ⟨y 0, y 1, (ix2_eta y).symm⟩
  exact (Cert.FwdDense.result_lse hf r C).symm

/-- The output's cast. -/
theorem result7 : (Cert.Kernel7Ideal.Gen.dats m 0 c).arrAt 7 Cert.Kernel7Ideal.cfg0.N = Cert.Reference7Ideal.Read.val_main_v137 (F := Ideal) (a0 m c) := by
  have hf := holds (a0 m c) (h c)
  refine (Cert.Fwd.final_att16 hf).trans (funext fun y => ?_)
  obtain ⟨r, C, rfl⟩ : ∃ (r : Fin 8192) (C : Fin 512), y = ix2 r C := ⟨y 0, y 1, (ix2_eta y).symm⟩
  exact (Cert.FwdDense.result_att16 hf r C).symm

omit h
/-- The kernel runs and leaves these arrays, its argument as it was. -/
theorem run_arrays (ρ : Dev Cert.Kernel7Ideal.nD → PrngReg) :
    θ_run Cert.Kernel7Ideal.defs (onTc (τ := Cert.Kernel7Ideal.τ) (Cert.Kernel7Ideal.main (F := Ideal))) ⟨m, fun _ => 0, ρ⟩ fun r => ∀ c : Dev Cert.Kernel7Ideal.nD,
      r.2.mem ((c : Thread Cert.Kernel7Ideal.nD Cert.Kernel7Ideal.τ).loc Cert.Kernel7Ideal.main_v0_0) = (Cert.Kernel7Ideal.Gen.dats m 0 c).arrAt 5 Cert.Kernel7Ideal.cfg0.N
      ∧ r.2.mem ((c : Thread Cert.Kernel7Ideal.nD Cert.Kernel7Ideal.τ).loc Cert.Kernel7Ideal.main_v0_1) = (Cert.Kernel7Ideal.Gen.dats m 0 c).arrAt 6 Cert.Kernel7Ideal.cfg0.N
      ∧ r.2.mem ((c : Thread Cert.Kernel7Ideal.nD Cert.Kernel7Ideal.τ).loc Cert.Kernel7Ideal.main_v0_2) = (Cert.Kernel7Ideal.Gen.dats m 0 c).arrAt 7 Cert.Kernel7Ideal.cfg0.N
      ∧ r.2.mem ((c : Thread Cert.Kernel7Ideal.nD Cert.Kernel7Ideal.τ).loc Cert.Kernel7Ideal.main_arg0) = m ((c : Thread Cert.Kernel7Ideal.nD Cert.Kernel7Ideal.τ).loc Cert.Kernel7Ideal.main_arg0) :=
  (θ_run Cert.Kernel7Ideal.defs _ _).mono (fun r p c => ⟨(p.1 c).1 5, (p.1 c).1 6, (p.1 c).1 7, p.2.1 c⟩)
    (θ_run_and (Cert.Kernel7Ideal.Gen.run_main m ρ) (Cert.Kernel7Ideal.Gen.frame m ρ))

/-- The reference runs, keeps its argument and has no semaphore. -/
theorem frame_reference : Cert.quiescent_Reference7Ideal := fun m ρ _ =>
  (θ_run Cert.Reference7Ideal.defs _ _).mono (fun r h => ⟨fun c => (h c).2.2.2, sem_eq_zero_of_no_sems rfl r.2⟩)
    (Cert.Reference7Ideal.Value.run (F := Ideal) m ρ)

/-- The kernel's results are the reference's. -/
theorem value : Cert.algebraic_Kernel7Ideal_Reference7Ideal_pre_finite7 := fun m g m' g' h e =>
  ⟨_, _, _, run_arrays (m := m) g,
    (θ_run Cert.Reference7Ideal.defs _ _).mono (fun r H c => by
      obtain ⟨r0, r1, r2, k⟩ := H c
      have e0 := e c
      refine ⟨?_, ?_, ?_, k⟩
      · exact (r0.trans (Cert.Reference7Ideal.Read.val_main_v131_eq ..)).trans ((congrArg _ e0).trans (result5 c h).symm)
      · exact (r1.trans (Cert.Reference7Ideal.Read.val_main_v136_eq ..)).trans ((congrArg _ e0).trans (result6 c h).symm)
      · exact (r2.trans (Cert.Reference7Ideal.Read.val_main_v137_eq ..)).trans ((congrArg _ e0).trans (result7 c h).symm))
    (Cert.Reference7Ideal.Value.run (F := Ideal) m' g')⟩

end Cert.FwdEq

end
-- ==== Proof.Norm.Blocks.lean ====
/-
  Where the entries of a block of rows lie in the matrix, and the RMS norm of a row of 1024 extended reals.
-/
module

public import proofs.«01_k».proof.Proof.Norm.Ref

@[expose] public section

noncomputable section

open Idealize.ShloMosaic

namespace NormGrad

/-- An index of a matrix from its coordinates. -/
theorem eq_ix2 {n k : ℕ} {r : Fin n} {C : Fin k} (y : (Mat n k).Idx) (h0 : (y 0).val = r.val) (h1 : (y 1).val = C.val) : y = ix2 r C :=
  (ix2_eta y).symm.trans (congrArg₂ ix2 (Fin.ext h0) (Fin.ext h1))

section
variable {N n k t : ℕ} {f : Fin 2 → ℕ}

/-- An entry of block `t` of a matrix cut into blocks of `n` rows. -/
theorem at_rows (hf : f 0 = t ∧ f 1 = 0) (r : Fin n) (C : Fin k) (hb : n * t + r.val < N) (y : (Mat N k).Idx)
    (h0 : (y 0).val = f 0 * n + 1 * r.val) (h1 : (y 1).val = f 1 * k + 1 * C.val) : y = ix2 ⟨n * t + r.val, hb⟩ C :=
  eq_ix2 y (by rw [h0, hf.1, one_mul, mul_comm]) (by rw [h1, hf.2]; omega)

/-- An entry of the only block of a matrix. -/
theorem at_whole (hf : ∀ a, f a = 0) (r : Fin n) (C : Fin k) (y : (Mat n k).Idx)
    (h0 : (y 0).val = f 0 * n + 1 * r.val) (h1 : (y 1).val = f 1 * k + 1 * C.val) : y = ix2 r C :=
  eq_ix2 y (by rw [h0, hf]; omega) (by rw [h1, hf]; omega)

/-- The block that holds an entry. -/
theorem mem_rows (hn : 0 < n) (i : (Mat N k).Idx) (hf : f 0 = (i 0).val / n ∧ f 1 = 0) (a : Fin 2) :
    f a * (Mat n k).size a ≤ (i a).val ∧ (i a).val < f a * (Mat n k).size a + (Mat n k).size a := by
  match a with
  | ⟨0, _⟩ =>
    show f 0 * n ≤ (i 0).val ∧ (i 0).val < f 0 * n + n
    rw [hf.1]
    exact ⟨Nat.div_mul_le_self _ _, by have := Nat.lt_div_mul_add (a := (i 0).val) hn; omega⟩
  | ⟨1, _⟩ =>
    have h1 : (i 1).val < k := (i 1).isLt
    show f 1 * k ≤ (i 1).val ∧ (i 1).val < f 1 * k + k
    rw [hf.2]; omega

/-- The only block holds every entry. -/
theorem mem_whole (i : (Mat n k).Idx) (hf : ∀ a, f a = 0) (a : Fin 2) :
    f a * (Mat n k).size a ≤ (i a).val ∧ (i a).val < f a * (Mat n k).size a + (Mat n k).size a := by
  have h : (i a).val < (Mat n k).size a := (i a).isLt
  rw [hf]; omega
end

/-- A row's scale. -/
def scale (a : Fin 1024 → EReal) : EReal :=
  Ideal.rsqrt (Ideal.div (∑ j, a j * a j) (Ideal.ofBits .f32 0x44800000#32) + Ideal.ofBits .f32 0x358637BD#32)

/-- The norm of a row, with its gain. -/
def rowNorm (a g : Fin 1024 → EReal) (C : Fin 1024) : EReal := a C * scale a * g C

end NormGrad

end
-- ==== Proof.MixOut.Arrays.lean ====
/-
  What the three result arrays of the mixer's output projection hold: the projection, the residual stream after it, and the
  normed argument of the feed-forward half.
-/
module

public import proofs.«01_k».proof.Proof.Norm.Blocks
public import proofs.«01_k».proof.Proof.Norm.Halves
public import proofs.«01_k».proof.Proof.Gen.Kernel8Ideal.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Mix

open Cert.Kernel8Ideal Cert.Kernel8Ideal.Gen NormGrad Halves

/-! ## The results as functions of the arguments -/

section
variable (a p : S8192x512.Idx → EReal) (w : S1024x1024.Idx → EReal) (x : S8192x1024.Idx → EReal) (gp gn : S1x1024.Idx → EReal)

/-- The two mixers' outputs, side by side, through the projection. -/
def mixA : S8192x1024.Idx → EReal := fun y =>
  (∑ k : Fin 512, a (ix2 (y 0) k) * w (ix2 ⟨k.val, by omega⟩ (y 1))) + ∑ k : Fin 512, p (ix2 (y 0) k) * w (ix2 ⟨512 + k.val, by omega⟩ (y 1))
/-- The residual stream with the projection's norm added. -/
def sumA : S8192x1024.Idx → EReal := fun y => x y + rowNorm (fun j => mixA a p w (ix2 (y 0) j)) (fun j => gp (ix2 0 j)) (y 1)
/-- The residual stream's norm. -/
def nextA : S8192x1024.Idx → EReal := fun y => rowNorm (fun j => sumA a p w x gp (ix2 (y 0) j)) (fun j => gn (ix2 0 j)) (y 1)
end

/-! ## One block -/

section
variable (a p : Vec Ideal S512x512 .bf16) (wl wh : Vec Ideal S512x1024 .bf16) (x : Vec Ideal S512x1024 .f32) (gp gn : Vec Ideal S1x1024 .f32)

theorem pay2_apply (r : Fin 512) (C : Fin 1024) : k0_pay2 a wl p wh (ix2 r C)
    = (∑ k : Fin 512, a (ix2 r k) * wl (ix2 k C)) + ∑ k : Fin 512, p (ix2 r k) * wh (ix2 k C) := by
  pointwise [k0_pay2]

attribute [local irreducible] k0_pay2 in
theorem pay3_apply (r : Fin 512) (C : Fin 1024) : k0_pay3 a wl p wh x gp (ix2 r C)
    = x (ix2 r C) + rowNorm (fun j => k0_pay2 a wl p wh (ix2 r j)) (fun j => gp (ix2 0 j)) C := by
  pointwise [k0_pay3]
  rfl

attribute [local irreducible] k0_pay3 in
theorem pay4_apply (r : Fin 512) : k0_pay4 a wl p wh x gp (ix2 r 0) = scale (fun j => k0_pay3 a wl p wh x gp (ix2 r j)) := by
  pointwise [k0_pay4]
  rfl

theorem pay1_apply (s : FVec Ideal S512x1 .f32) (r : Fin 512) (C : Fin 1024) : k0_pay1 x s gn (ix2 r C) = x (ix2 r C) * s (ix2 r 0) * gn (ix2 0 C) := by
  pointwise [k0_pay1]
end

/-- The weight's two halves. -/
abbrev lo (w : Vec Ideal S1024x1024 .bf16) : Vec Ideal S512x1024 .bf16 := View.ld w r0_1
abbrev hi (w : Vec Ideal S1024x1024 .bf16) : Vec Ideal S512x1024 .bf16 := View.ld w r0_2

theorem lo_apply (w : Vec Ideal S1024x1024 .bf16) (k : Fin 512) (C : Fin 1024) : lo w (ix2 k C) = w (ix2 ⟨k.val, by omega⟩ C) :=
  congrArg w (eq_ix2 _ (show 0 + 1 * k.val = k.val by omega) (show 0 + 1 * C.val = C.val by omega))
theorem hi_apply (w : Vec Ideal S1024x1024 .bf16) (k : Fin 512) (C : Fin 1024) : hi w (ix2 k C) = w (ix2 ⟨512 + k.val, by omega⟩ C) :=
  congrArg w (eq_ix2 _ (show 512 + 1 * k.val = 512 + k.val by omega) (show 0 + 1 * C.val = C.val by omega))

theorem outs (a p : Vec Ideal S512x512 .bf16) (w : Vec Ideal S1024x1024 .bf16) (x : Vec Ideal S512x1024 .f32) (gp gn : Vec Ideal S1x1024 .f32) :
    out0_6 a p w x gp gn = k0_pay2 a (lo w) p (hi w) ∧ out0_7 a p w x gp gn = k0_pay3 a (lo w) p (hi w) x gp
      ∧ out0_8 a p w x gp gn = k0_pay1 (k0_pay3 a (lo w) p (hi w) x gp) (k0_pay4 a (lo w) p (hi w) x gp) gn := by
  unfold out0_6 out0_7 out0_8 k0_pay5
  simp only [View.canon_unit_zero (S := S512x1024) hz2, View.ld_unit_zero (S := S512x512) hz2, View.ld_unit_zero (S := S512x1024) hz2, View.ld_unit_zero (S := S1x1024) hz2,
    and_self]

/-! ## The windows' blocks -/

variable (m : (ℓ : Loc nD τ sig) → Buf (Elt Ideal) ℓ) (c : Dev nD) (t : Fin cfg0.N)

/-! The launched arguments. -/
abbrev aA : FVec Ideal S8192x512 .f32 := m ((c : Thread nD τ).loc main_arg0)
abbrev aP : FVec Ideal S8192x512 .f32 := m ((c : Thread nD τ).loc main_arg1)
abbrev aW : FVec Ideal S1024x1024 .f32 := m ((c : Thread nD τ).loc main_arg2)
abbrev aX : FVec Ideal S8192x1024 .f32 := m ((c : Thread nD τ).loc main_arg3)
abbrev aG : FVec Ideal S1x1024 .f32 := m ((c : Thread nD τ).loc main_arg4)
abbrev aN : FVec Ideal S1x1024 .f32 := m ((c : Thread nD τ).loc main_arg5)

theorem prep0 : @Eq (Vec Ideal S8192x512 .bf16) (V m c main_v0) (truncf .bf16 (aA m c) bitsLt_bf16_f32) := by
  unfold_abbrev_sides
  after_results
theorem prep1 : @Eq (Vec Ideal S8192x512 .bf16) (V m c main_v1) (truncf .bf16 (aP m c) bitsLt_bf16_f32) := by
  unfold_abbrev_sides
  after_results
theorem prep2 : @Eq (Vec Ideal S1024x1024 .bf16) (V m c main_v2) (truncf .bf16 (aW m c) bitsLt_bf16_f32) := by
  unfold_abbrev_sides
  after_results

/-- The windows that follow the rows. -/
theorem idx_rows : (win0_0.index t 0 = t.val ∧ win0_0.index t 1 = 0) ∧ (win0_1.index t 0 = t.val ∧ win0_1.index t 1 = 0)
    ∧ (win0_3.index t 0 = t.val ∧ win0_3.index t 1 = 0) ∧ (win0_6.index t 0 = t.val ∧ win0_6.index t 1 = 0)
    ∧ (win0_7.index t 0 = t.val ∧ win0_7.index t 1 = 0) ∧ (win0_8.index t 0 = t.val ∧ win0_8.index t 1 = 0) :=
  (by decide +kernel : ∀ t : Fin grid0.N, (win0_0.index t 0 = t.val ∧ win0_0.index t 1 = 0) ∧ (win0_1.index t 0 = t.val ∧ win0_1.index t 1 = 0)
    ∧ (win0_3.index t 0 = t.val ∧ win0_3.index t 1 = 0) ∧ (win0_6.index t 0 = t.val ∧ win0_6.index t 1 = 0)
    ∧ (win0_7.index t 0 = t.val ∧ win0_7.index t 1 = 0) ∧ (win0_8.index t 0 = t.val ∧ win0_8.index t 1 = 0)) t
/-- The windows that stay. -/
theorem idx_whole : (∀ a, win0_2.index t a = 0) ∧ (∀ a, win0_4.index t a = 0) ∧ ∀ a, win0_5.index t a = 0 :=
  (by decide +kernel : ∀ t : Fin grid0.N, (∀ a, win0_2.index t a = 0) ∧ (∀ a, win0_4.index t a = 0) ∧ ∀ a, win0_5.index t a = 0) t

theorem row_lt (r : Fin 512) : 512 * t.val + r.val < 8192 := by
  have : t.val < 16 := lt_of_lt_of_eq t.isLt N_0
  omega

/-- A block's row, as a row of the whole matrix. -/
abbrev rowAt (r : Fin 512) : Fin 8192 := ⟨512 * t.val + r.val, row_lt t r⟩

theorem blk0 (r : Fin 512) (k : Fin 512) : (iblk m c 0 t : Vec Ideal S512x512 .bf16) (ix2 r k) = aA m c (ix2 (rowAt t r) k) := by
  unfold iblk
  exact (View.read_apply ..).trans ((congrArg (V m c main_v0) (at_rows (idx_rows t).1 r k _ _ rfl rfl)).trans (congrFun (prep0 m c) _))
theorem blk1 (r : Fin 512) (k : Fin 512) : (iblk m c 1 t : Vec Ideal S512x512 .bf16) (ix2 r k) = aP m c (ix2 (rowAt t r) k) := by
  unfold iblk
  exact (View.read_apply ..).trans ((congrArg (V m c main_v1) (at_rows (idx_rows t).2.1 r k _ _ rfl rfl)).trans (congrFun (prep1 m c) _))
theorem blk2 (k : Fin 1024) (C : Fin 1024) : (iblk m c 2 t : Vec Ideal S1024x1024 .bf16) (ix2 k C) = aW m c (ix2 k C) := by
  unfold iblk
  exact (View.read_apply ..).trans ((congrArg (V m c main_v2) (at_whole (idx_whole t).1 k C _ rfl rfl)).trans (congrFun (prep2 m c) _))
theorem blk3 (r : Fin 512) (C : Fin 1024) : (iblk m c 3 t : Vec Ideal S512x1024 .f32) (ix2 r C) = aX m c (ix2 (rowAt t r) C) := by
  unfold iblk
  exact (View.read_apply ..).trans ((congrArg (V m c main_arg3) (at_rows (idx_rows t).2.2.1 r C _ _ rfl rfl)).trans (congrFun (V_main_arg3 m c) _))
theorem blk4 (C : Fin 1024) : (iblk m c 4 t : Vec Ideal S1x1024 .f32) (ix2 0 C) = aG m c (ix2 0 C) := by
  unfold iblk
  exact (View.read_apply ..).trans ((congrArg (V m c main_arg4) (at_whole (idx_whole t).2.1 (0 : Fin 1) C _ rfl rfl)).trans (congrFun (V_main_arg4 m c) _))
theorem blk5 (C : Fin 1024) : (iblk m c 5 t : Vec Ideal S1x1024 .f32) (ix2 0 C) = aN m c (ix2 0 C) := by
  unfold iblk
  exact (View.read_apply ..).trans ((congrArg (V m c main_arg5) (at_whole (idx_whole t).2.2 (0 : Fin 1) C _ rfl rfl)).trans (congrFun (V_main_arg5 m c) _))

/-- What the kernel's arrays are to hold. -/
abbrev mixM := mixA (aA m c) (aP m c) (aW m c)
abbrev sumM := sumA (aA m c) (aP m c) (aW m c) (aX m c) (aG m c)
abbrev nextM := nextA (aA m c) (aP m c) (aW m c) (aX m c) (aG m c) (aN m c)

theorem mix_block (r : Fin 512) (C : Fin 1024) : k0_pay2 (iblk m c 0 t) (lo (iblk m c 2 t)) (iblk m c 1 t) (hi (iblk m c 2 t)) (ix2 r C)
    = mixM m c (ix2 (rowAt t r) C) := by
  rw [pay2_apply]
  exact congrArg₂ (· + ·)
    (Finset.sum_congr rfl fun k _ => congrArg₂ (· * ·) (blk0 m c t r k) ((lo_apply _ k C).trans (blk2 m c t _ C)))
    (Finset.sum_congr rfl fun k _ => congrArg₂ (· * ·) (blk1 m c t r k) ((hi_apply _ k C).trans (blk2 m c t _ C)))

theorem sum_block (r : Fin 512) (C : Fin 1024) :
    k0_pay3 (iblk m c 0 t) (lo (iblk m c 2 t)) (iblk m c 1 t) (hi (iblk m c 2 t)) (iblk m c 3 t) (iblk m c 4 t) (ix2 r C)
      = sumM m c (ix2 (rowAt t r) C) := by
  rw [pay3_apply, blk3]
  simp only [mix_block, blk4]
  rfl

theorem next_block (r : Fin 512) (C : Fin 1024) :
    k0_pay1 (k0_pay3 (iblk m c 0 t) (lo (iblk m c 2 t)) (iblk m c 1 t) (hi (iblk m c 2 t)) (iblk m c 3 t) (iblk m c 4 t))
        (k0_pay4 (iblk m c 0 t) (lo (iblk m c 2 t)) (iblk m c 1 t) (hi (iblk m c 2 t)) (iblk m c 3 t) (iblk m c 4 t)) (iblk m c 5 t) (ix2 r C)
      = nextM m c (ix2 (rowAt t r) C) := by
  rw [pay1_apply, pay4_apply, blk5]
  simp only [sum_block]
  rfl

/-! ## The arrays -/

/-- The point whose block holds a row. -/
def tOf (i : S8192x1024.Idx) : Fin cfg0.N := ⟨(i 0).val / 512, by
  have h0 : (i 0).val < 8192 := (i 0).isLt
  rw [show cfg0.N = 16 from N_0]; omega⟩

theorem final6 : (dats m 0 c).arrAt 6 cfg0.N = mixM m c :=
  (dats m 0 c).arrAt_eq_of_cover 6 (mixM m c)
    (fun t _ => by
      rw [Value.flushed6, (outs _ _ _ _ _ _).1]
      funext y
      refine Eq.trans ((congrArg _ (ix2_eta y).symm).trans (mix_block m c t (y 0) (y 1))) ?_
      rw [View.read_apply]
      exact congrArg (mixM m c) (at_rows (idx_rows t).2.2.2.1 (y 0) (y 1) (row_lt t _) _ rfl rfl).symm)
    fun i => ⟨tOf i, flush0_6 _, by
      show i ∈ ((View.whole main_v3_0).slice (win0_6.rect (tOf i))).set
      rw [View.set_slice_whole, Rect.mem_set_unit]
      exact mem_rows (n := 512) (by norm_num) i (idx_rows (tOf i)).2.2.2.1⟩

theorem final7 : (dats m 0 c).arrAt 7 cfg0.N = sumM m c :=
  (dats m 0 c).arrAt_eq_of_cover 7 (sumM m c)
    (fun t _ => by
      rw [Value.flushed7, (outs _ _ _ _ _ _).2.1]
      funext y
      refine Eq.trans ((congrArg _ (ix2_eta y).symm).trans (sum_block m c t (y 0) (y 1))) ?_
      rw [View.read_apply]
      exact congrArg (sumM m c) (at_rows (idx_rows t).2.2.2.2.1 (y 0) (y 1) (row_lt t _) _ rfl rfl).symm)
    fun i => ⟨tOf i, flush0_7 _, by
      show i ∈ ((View.whole main_v3_1).slice (win0_7.rect (tOf i))).set
      rw [View.set_slice_whole, Rect.mem_set_unit]
      exact mem_rows (n := 512) (by norm_num) i (idx_rows (tOf i)).2.2.2.2.1⟩

theorem final8 : (dats m 0 c).arrAt 8 cfg0.N = nextM m c :=
  (dats m 0 c).arrAt_eq_of_cover 8 (nextM m c)
    (fun t _ => by
      rw [Value.flushed8, (outs _ _ _ _ _ _).2.2]
      funext y
      refine Eq.trans ((congrArg _ (ix2_eta y).symm).trans (next_block m c t (y 0) (y 1))) ?_
      rw [View.read_apply]
      exact congrArg (nextM m c) (at_rows (idx_rows t).2.2.2.2.2 (y 0) (y 1) (row_lt t _) _ rfl rfl).symm)
    fun i => ⟨tOf i, flush0_8 _, by
      show i ∈ ((View.whole main_v3_2).slice (win0_8.rect (tOf i))).set
      rw [View.set_slice_whole, Rect.mem_set_unit]
      exact mem_rows (n := 512) (by norm_num) i (idx_rows (tOf i)).2.2.2.2.2⟩

end Cert.Kernel8Ideal.Mix

end
-- ==== Proof.MixOut.Equation.lean ====
/-
  The mixer's output projection, the residual stream after it and the next norm: the kernel's three results are the reference's.
-/
module

public import proofs.«01_k».proof.Defs
public import proofs.«01_k».proof.Proof.MixOut.Arrays
public import proofs.«01_k».proof.Proof.Gen.Reference8Ideal.Run
public import proofs.«01_k».proof.Proof.Gen.Reference8Ideal.Read
public import Idealize.ShloMosaic.Lib.Quiescent

@[expose] public section

set_option maxRecDepth 16384

noncomputable section

open Idealize.ShloMosaic Idealize.ShloMosaic.TcCoe Idealize.SL.Sem

namespace Cert.MixOutEq

open NormGrad Cert.Reference8Ideal Cert.Reference8Ideal.Read Cert.Reference8Ideal.Gen
open Cert.Kernel8Ideal.Mix (mixA sumA nextA)

section
variable (a p : FVec Ideal S8192x512 .f32) (w : FVec Ideal S1024x1024 .f32) (x : FVec Ideal S8192x1024 .f32) (gp gn : FVec Ideal S1x1024 .f32)

theorem left_apply (R : Fin 8192) (k : Fin 512) : val_main_v0 (F := Ideal) a p (ix2 R (Fin.castAdd 512 k)) = a (ix2 R k) := by
  unfold val_main_v0
  refine concatenate_pair_apply_left 1 a p concatenates_S8192x512_S8192x512_S8192x1024_d1 _ rfl _ fun b => ?_
  match b with
  | ⟨0, _⟩ => rfl
  | ⟨1, _⟩ => rfl
theorem right_apply (R : Fin 8192) (k : Fin 512) : val_main_v0 (F := Ideal) a p (ix2 R (Fin.natAdd 512 k)) = p (ix2 R k) := by
  unfold val_main_v0
  refine concatenate_pair_apply_right 1 a p concatenates_S8192x512_S8192x512_S8192x1024_d1 _ rfl rfl _ (fun b hb => ?_) (Nat.add_comm k.val 512)
  match b with
  | ⟨0, _⟩ => rfl
  | ⟨1, _⟩ => exact absurd rfl hb

/-- The projection. -/
theorem mix_all (R : Fin 8192) (C : Fin 1024) : val_main_v1 (F := Ideal) a p w (ix2 R C) = mixA a p w (ix2 R C) := by
  have e : val_main_v1 (F := Ideal) a p w (ix2 R C) = ∑ k : Fin (512 + 512), val_main_v0 (F := Ideal) a p (ix2 R k) * w (ix2 k C) := by
    pointwise [val_main_v1]
  rw [e, Fin.sum_univ_add]
  simp only [left_apply, right_apply]
  rfl

/-- The residual stream after it. -/
theorem sum_all (R : Fin 8192) (C : Fin 1024) : val_main_v14 (F := Ideal) a p w x gp (ix2 R C) = sumA a p w x gp (ix2 R C) := by
  pointwise [val_main_v14, val_main_v13, val_main_v12, val_main_v11, val_main_v10, val_main_v9, val_main_v8, val_main_v7, val_main_v6, val_main_v5,
    val_main_v4, val_main_v3, val_main_v2, val_main_cst, val_main_cst_0, val_main_cst_1]
  simp only [mix_all]
  rfl

/-- The next norm. -/
theorem next_all (R : Fin 8192) (C : Fin 1024) : val_main_v27 (F := Ideal) a p w x gp gn (ix2 R C) = nextA a p w x gp gn (ix2 R C) := by
  pointwise [val_main_v27, val_main_v26, val_main_v25, val_main_v24, val_main_v23, val_main_v22, val_main_v21, val_main_v20, val_main_v19, val_main_v18,
    val_main_v17, val_main_v16, val_main_v15, val_main_cst_2, val_main_cst_3, val_main_cst_4]
  simp only [sum_all]
  rfl

/-- Two arrays of a matrix's shape that agree entry by entry. -/
theorem ext {u v : S8192x1024.Idx → EReal} (h : ∀ R C, u (ix2 R C) = v (ix2 R C)) : u = v := funext fun y => by
  rw [← ix2_eta y]; exact h _ _
end

/-- The reference runs, keeps its arguments and has no semaphore. -/
theorem frame_reference : Cert.quiescent_Reference8Ideal := fun m ρ _ =>
  (θ_run Cert.Reference8Ideal.defs _ _).mono (fun r h => ⟨fun c => (h c).2.2.2, sem_eq_zero_of_no_sems rfl r.2⟩)
    (Cert.Reference8Ideal.Value.run (F := Ideal) m ρ)

/-- The kernel's results are the reference's. -/
theorem value : Cert.algebraic_Kernel8Ideal_Reference8Ideal := fun m g m' g' _ e =>
  ⟨_, _, _, Cert.Kernel8Ideal.Value.run_blocks m g,
    (θ_run Cert.Reference8Ideal.defs _ _).mono (fun r H c => by
      obtain ⟨r0, r1, r2, k⟩ := H c
      obtain ⟨e0, e1, e2, e3, e4, e5⟩ := e c
      refine ⟨?_, ?_, ?_, k⟩
      · exact (r0.trans (val_main_v1_eq ..)).trans ((congr (congr (congrArg _ e0) e1) e2).trans
          ((ext (mix_all _ _ _)).trans (Cert.Kernel8Ideal.Mix.final6 m c).symm))
      · exact (r1.trans (val_main_v14_eq ..)).trans ((congr (congr (congr (congr (congrArg _ e0) e1) e2) e3) e4).trans
          ((ext (sum_all _ _ _ _ _)).trans (Cert.Kernel8Ideal.Mix.final7 m c).symm))
      · exact (r2.trans (val_main_v27_eq ..)).trans ((congr (congr (congr (congr (congr (congrArg _ e0) e1) e2) e3) e4) e5).trans
          ((ext (next_all _ _ _ _ _ _)).trans (Cert.Kernel8Ideal.Mix.final8 m c).symm)))
    (Cert.Reference8Ideal.Value.run (F := Ideal) m' g')⟩

end Cert.MixOutEq

end
-- ==== Proof.Pooling.Arrays.lean ====
/-
  What the pooling mixer's kernel leaves in its result, over a projection with real entries in the mixer's columns. A group's
  pooled input on a tile is the one the backward kernel computes again, so its lemmas serve here.
-/
module

public import proofs.«01_k».proof.Proof.Pool.Body
public import proofs.«01_k».proof.Proof.Pool.Group2
public import proofs.«01_k».proof.Proof.Norm.Blocks
public import proofs.«01_k».proof.Proof.Norm.Halves
public import proofs.«01_k».proof.Proof.Gen.Kernel9Ideal.Value

@[expose] public section

set_option maxRecDepth 16384

noncomputable section

open Idealize.ShloMosaic Idealize.ShloMosaic.TcCoe Idealize.SL.Sem
open Idealize.ShloMosaic.Pipeline (Dat)

namespace Cert.Kernel9Ideal.Pooling

open NormGrad Cert.Kernel9Ideal Cert.Kernel9Ideal.Gen
open Cert.KernelIdeal.Pool (byCols byCols_emb canon4 cover_cols pooledT mixV rowV col)

/-! ## One tile -/

/-- A group's columns of the result on the tile of point `i`. -/
def outT (i : grid0.Coords) (x0 : Vec Ideal S256x512 .f32) (x1 : Vec Ideal S16x512 .f32) (x2 : Vec Ideal S4x128x128 .f32) (x3 : Vec Ideal S1x512 .f32)
    (g : Fin 4) : FVec Ideal S256x128 .bf16 :=
  truncf .bf16
    (mulf (matmul dot_S256x128_S128x128_S256x128_1_0_0_1_n_n none (pooledT i x0 x1 g) (Cert.KernelIdeal.Gen.k0_pay7 (mixV g x2)) (constant S256x128 .f32 0x00000000#32))
      (broadcastTo S256x128 (rowV g x3) broadcasts_S1x128_S256x128))
    bitsLt_bf16_f32

/-- The body leaves the four groups' columns side by side. -/
theorem out_eq (i : grid0.Coords) (x0 : Vec Ideal S256x512 .f32) (x1 : Vec Ideal S16x512 .f32) (x2 : Vec Ideal S4x128x128 .f32) (x3 : Vec Ideal S1x512 .f32) :
    out0_4 i x0 x1 x2 x3 = byCols (outT i x0 x1 x2 x3) := by
  unfold out0_4 k0_pay21
  rw [View.ld_unit_zero (S := S256x512) Halves.hz2, View.ld_unit_zero (S := S16x512) Halves.hz2]
  funext y
  refine canon4 _ _ _ _ _ [] y (fun x => ?_) (fun x => ?_) (fun x => ?_) (fun x => ?_) ?_
  rotate_left 4
  · exact cover_cols y inb_S256x512_S256x128_0_0 inb_S256x512_S256x128_0_128 inb_S256x512_S256x128_0_256 inb_S256x512_S256x128_0_384
  · exact (byCols_emb (outT i x0 x1 x2 x3) 3 384 rfl inb_S256x512_S256x128_0_384 x).symm
  · exact (byCols_emb (outT i x0 x1 x2 x3) 2 256 rfl inb_S256x512_S256x128_0_256 x).symm
  · exact (byCols_emb (outT i x0 x1 x2 x3) 1 128 rfl inb_S256x512_S256x128_0_128 x).symm
  · exact (byCols_emb (outT i x0 x1 x2 x3) 0 0 rfl inb_S256x512_S256x128_0_0 x).symm

/-- An entry of the result: the pooled row through the group's channel mix, scaled. -/
def outR (u : ℕ → ℕ → ℝ) (W : S4x128x128.Idx → EReal) (s : S1x512.Idx → EReal) (g : Fin 4) (R : ℕ) (d : Fin 128) : EReal :=
  (∑ c : Fin 128, (Pool.pooled u g.val R c.val : EReal) * W (ix3 g c d)) * s (ix2 0 (col g d))

theorem outT_apply (u : ℕ → ℕ → ℝ) (t : ℕ) (ht : t < 32) (i : grid0.Coords) (hi : (i 0).val = t) (x0 : Vec Ideal S256x512 .f32) (x1 : Vec Ideal S16x512 .f32)
    (x2 : Vec Ideal S4x128x128 .f32) (x3 : Vec Ideal S1x512 .f32) (hx0 : ∀ r C, x0 (ix2 r C) = (u (256 * t + r.val) C.val : EReal))
    (hx1 : 0 < t → ∀ j C, x1 (ix2 j C) = (u (256 * t - 16 + j.val) C.val : EReal)) (g : Fin 4) (r : Fin 256) (d : Fin 128) :
    outT i x0 x1 x2 x3 g (ix2 r d) = outR u x2 x3 g (256 * t + r.val) d := by
  pointwise [outT]
  simp only [Cert.KernelIdeal.Pool.pay7_apply, Cert.KernelIdeal.Pool.mixV_apply]
  refine congrArg₂ (· * ·) (Finset.sum_congr rfl fun c _ => congrArg₂ (· * ·) ?_ rfl) (Cert.KernelIdeal.Pool.rowV_apply g x3 d)
  exact Cert.KernelIdeal.Pool.pooledT_apply u t ht i hi x0 x1 hx0 hx1 g r c

/-- A column of the mixer's part of the projection. -/
def atCol (C : Fin 512) : Fin 2048 := ⟨1536 + C.val, by omega⟩

/-- The result, over a projection that holds the reals `u` in the mixer's columns. -/
def outA (u : ℕ → ℕ → ℝ) (W : S4x128x128.Idx → EReal) (s : S1x512.Idx → EReal) : S8192x512.Idx → EReal := fun y =>
  outR u W s ⟨(y 1).val / 128, by have : (y 1).val < 512 := (y 1).isLt; omega⟩ (y 0).val ⟨(y 1).val % 128, Nat.mod_lt _ (by omega)⟩

/-! ## The windows' blocks -/

variable (m : (ℓ : Loc nD τ sig) → Buf (Elt Ideal) ℓ) (c : Dev nD) (t : Fin cfg0.N)

abbrev aU : FVec Ideal S8192x2048 .f32 := m ((c : Thread nD τ).loc main_arg0)
abbrev aW : FVec Ideal S4x128x128 .f32 := m ((c : Thread nD τ).loc main_arg1)
abbrev aS : FVec Ideal S1x512 .f32 := m ((c : Thread nD τ).loc main_arg2)

theorem tile_lt : t.val < 32 := lt_of_lt_of_eq t.isLt N_0

theorem row_lt (r : Fin 256) : 256 * t.val + r.val < 8192 := by have := tile_lt t; omega

theorem coord : (grid0.coords t 0).val = t.val := (by decide +kernel : ∀ t : Fin grid0.N, (grid0.coords t 0).val = t.val) t

/-- The windows that follow the tiles. -/
theorem idx_tile : (win0_0.index t 0 = t.val ∧ win0_0.index t 1 = 3) ∧ (win0_1.index t 0 = 16 * t.val - 1 ∧ win0_1.index t 1 = 3)
    ∧ (win0_4.index t 0 = t.val ∧ win0_4.index t 1 = 0) :=
  (by decide +kernel : ∀ t : Fin grid0.N, (win0_0.index t 0 = t.val ∧ win0_0.index t 1 = 3)
    ∧ (win0_1.index t 0 = 16 * t.val - 1 ∧ win0_1.index t 1 = 3) ∧ (win0_4.index t 0 = t.val ∧ win0_4.index t 1 = 0)) t
/-- The windows that stay. -/
theorem idx_whole : (∀ a, win0_2.index t a = 0) ∧ ∀ a, win0_3.index t a = 0 :=
  (by decide +kernel : ∀ t : Fin grid0.N, (∀ a, win0_2.index t a = 0) ∧ ∀ a, win0_3.index t a = 0) t

theorem blkW : (iblk m c 2 t : Vec Ideal S4x128x128 .f32) = aW m c := funext fun y => by
  unfold iblk
  refine (View.read_apply ..).trans ((congrArg (V m c main_arg1) (funext fun a => Fin.ext ?_)).trans (congrFun (V_main_arg1 m c) y))
  show win0_2.index t a * S4x128x128.size a + 1 * (y a).val = (y a).val
  rw [(idx_whole t).1]; omega
theorem blkS : (iblk m c 3 t : Vec Ideal S1x512 .f32) = aS m c := funext fun y => by
  unfold iblk
  refine (View.read_apply ..).trans ((congrArg (V m c main_arg2) (funext fun a => Fin.ext ?_)).trans (congrFun (V_main_arg2 m c) y))
  show win0_3.index t a * S1x512.size a + 1 * (y a).val = (y a).val
  rw [(idx_whole t).2]; omega

variable {m c} {u : ℕ → ℕ → ℝ} (H : ∀ (R : Fin 8192) (C : Fin 512), aU m c (ix2 R (atCol C)) = (u R.val C.val : EReal))
include H

theorem blk0 (r : Fin 256) (C : Fin 512) : (iblk m c 0 t : Vec Ideal S256x512 .f32) (ix2 r C) = (u (256 * t.val + r.val) C.val : EReal) := by
  have hN := tile_lt t
  refine Eq.trans ?_ (H ⟨256 * t.val + r.val, by omega⟩ C)
  unfold iblk
  refine (View.read_apply ..).trans ((congrArg (V m c main_arg0) (eq_ix2 _ ?_ ?_)).trans (congrFun (V_main_arg0 m c) _))
  · show win0_0.index t 0 * 256 + 1 * r.val = 256 * t.val + r.val; rw [(idx_tile t).1.1]; omega
  · show win0_0.index t 1 * 512 + 1 * C.val = 1536 + C.val; rw [(idx_tile t).1.2]; omega

/-- The 16 rows before the tile, after the first. -/
theorem blk1 (h0 : 0 < t.val) (j : Fin 16) (C : Fin 512) :
    (iblk m c 1 t : Vec Ideal S16x512 .f32) (ix2 j C) = (u (256 * t.val - 16 + j.val) C.val : EReal) := by
  have hN := tile_lt t
  refine Eq.trans ?_ (H ⟨256 * t.val - 16 + j.val, by omega⟩ C)
  unfold iblk
  refine (View.read_apply ..).trans ((congrArg (V m c main_arg0) (eq_ix2 _ ?_ ?_)).trans (congrFun (V_main_arg0 m c) _))
  · show win0_1.index t 0 * 16 + 1 * j.val = 256 * t.val - 16 + j.val; rw [(idx_tile t).2.1.1]; omega
  · show win0_1.index t 1 * 512 + 1 * C.val = 1536 + C.val; rw [(idx_tile t).2.1.2]; omega

/-- A point's block of the result. -/
theorem block (r : Fin 256) (C : Fin 512) : out0_4 (grid0.coords t) (iblk m c 0 t) (iblk m c 1 t) (iblk m c 2 t) (iblk m c 3 t) (ix2 r C)
    = outA u (aW m c) (aS m c) (ix2 ⟨256 * t.val + r.val, row_lt t r⟩ C) := by
  have e := outT_apply u t.val (tile_lt t) (grid0.coords t) (coord t) (iblk m c 0 t) (iblk m c 1 t) (aW m c) (aS m c) (blk0 t H) (blk1 t H)
    ⟨C.val / 128, by omega⟩ r ⟨C.val % 128, Nat.mod_lt _ (by omega)⟩
  rw [out_eq, blkW, blkS]
  exact e

attribute [local irreducible] outA out0_4 in
/-- The result. -/
theorem final : (dats m 0 c).arrAt 4 cfg0.N = outA u (aW m c) (aS m c) :=
  (dats m 0 c).arrAt_eq_of_cover 4 (outA u (aW m c) (aS m c))
    (fun t hf => by
      rw [Value.flushed4]
      funext y
      obtain ⟨r, C, rfl⟩ : ∃ (r : Fin 256) (C : Fin 512), y = ix2 r C := ⟨y 0, y 1, (ix2_eta y).symm⟩
      refine Eq.trans (block t H r C) ?_
      rw [View.read_apply]
      exact congrArg (outA u (aW m c) (aS m c)) (at_rows (idx_tile t).2.2 r C (row_lt t r) _ rfl rfl).symm)
    fun i => by
      have h0 : (i 0).val < 8192 := (i 0).isLt
      let t : Fin cfg0.N := ⟨(i 0).val / 256, by rw [show cfg0.N = 32 from N_0]; omega⟩
      refine ⟨t, flush0_4 t, ?_⟩
      show i ∈ ((View.whole main_v0).slice (win0_4.rect t)).set
      rw [View.set_slice_whole, Rect.mem_set_unit]
      exact mem_rows (n := 256) (by norm_num) i (idx_tile t).2.2

end Cert.Kernel9Ideal.Pooling

end
-- ==== Proof.Pooling.Equation.lean ====
/-
  The pooling mixer: over a projection with finite entries in the mixer's columns, the kernel's result is the reference's.
-/
module

public import proofs.«01_k».proof.Defs
public import proofs.«01_k».proof.Proof.Finite
public import proofs.«01_k».proof.Proof.Pool.RefOps
public import proofs.«01_k».proof.Proof.Pool.Tile
public import proofs.«01_k».proof.Proof.Pooling.Arrays
public import proofs.«01_k».proof.Proof.Gen.Reference9Ideal.Run
public import proofs.«01_k».proof.Proof.Gen.Reference9Ideal.Read
public import Idealize.ShloMosaic.Lib.Quiescent

@[expose] public section

set_option maxRecDepth 16384

noncomputable section

open Idealize.ShloMosaic Idealize.ShloMosaic.TcCoe Idealize.SL.Sem

namespace Cert.PoolingEq

open PoolRef Cert.Reference9Ideal Cert.Reference9Ideal.Gen Cert.Reference9Ideal.Read
open Cert.Kernel9Ideal.Pooling (outA outR atCol)

/-! ## The reference -/

/-- The reference's zeros. -/
theorem zero (i : S_.Idx) : (constant S_ .f32 0x00000000#32 : FVec Ideal S_ .f32) i = (0 : EReal) := Ideal.ofBits_zero_f32

/-! The counts of rows in a window. -/

theorem cnt0 : Is (val_main_v18 (F := Ideal)) fun R _ => Pool.cnt 2 R := fun R c => by
  pointwise [val_main_v18, val_main_v16, val_main_v15, val_main_v14, val_main_v12, val_main_v13, val_main_v11, val_main_v4, val_main_c, val_main_c_0]
  exact Cert.KernelIdeal.Pool.count_word 2 R.val (by omega) (by omega)

theorem cnt1 : Is (val_main_v37 (F := Ideal)) fun R _ => Pool.cnt 4 R := fun R c => by
  pointwise [val_main_v37, val_main_v35, val_main_v34, val_main_v33, val_main_v31, val_main_v32, val_main_v30, val_main_v4, val_main_c_2, val_main_c_3]
  exact Cert.KernelIdeal.Pool.count_word 4 R.val (by omega) (by omega)

theorem cnt2 : Is (val_main_v56 (F := Ideal)) fun R _ => Pool.cnt 8 R := fun R c => by
  pointwise [val_main_v56, val_main_v54, val_main_v53, val_main_v52, val_main_v50, val_main_v51, val_main_v49, val_main_v4, val_main_c_5, val_main_c_6]
  exact Cert.KernelIdeal.Pool.count_word 8 R.val (by omega) (by omega)

theorem cnt3 : Is (val_main_v75 (F := Ideal)) fun R _ => Pool.cnt 16 R := fun R c => by
  pointwise [val_main_v75, val_main_v73, val_main_v72, val_main_v71, val_main_v69, val_main_v70, val_main_v68, val_main_v4, val_main_c_8, val_main_c_9]
  exact Cert.KernelIdeal.Pool.count_word 16 R.val (by omega) (by omega)

section
variable {x0 : FVec Ideal S8192x2048 .f32} {x1 : FVec Ideal S4x128x128 .f32} {x2 : FVec Ideal S1x512 .f32} {u : ℕ → ℕ → ℝ}
  (H : ∀ (R : Fin 8192) (C : Fin 512), x0 (ix2 R (atCol C)) = (u R.val C.val : EReal))
include H

theorem u_all (g : Fin 4) (R : Fin 8192) (c : Fin 128) : val_main_v3 (F := Ideal) x0 (ix4 0 R g c) = (u R.val (128 * g.val + c.val) : EReal) := by
  pointwise [val_main_v3, val_main_v1, val_main_v0]
  refine Eq.trans ?_ (H R ⟨128 * g.val + c.val, by omega⟩)
  congr 2
  apply Fin.ext
  dsimp only [atCol]
  omega

/-! The pooled inputs. -/

theorem pooled0 : Is (val_main_v20 (F := Ideal) x0) (Pool.pooled u 0) :=
  have hu : Is (val_main_v6 (F := Ideal) x0) fun R c => u R (128 * 0 + c) := fun R c => by
    pointwise [val_main_v6, val_main_v5]
    simpa using u_all H 0 R c
  have h := cumsum_is (m := 8191) _ _ zero _ _ _ hu
  pooled_is 2 (by omega) (by omega) _ _ _ _ _ hu h (lag_is 2 8190 _ (fun _ => Ideal.ofBits_zero_f32) _ _ h _ _) cnt0

theorem pooled1 : Is (val_main_v39 (F := Ideal) x0) (Pool.pooled u 1) :=
  have hu : Is (val_main_v25 (F := Ideal) x0) fun R c => u R (128 * 1 + c) := fun R c => by
    pointwise [val_main_v25, val_main_v24]
    simpa using u_all H 1 R c
  have h := cumsum_is (m := 8191) _ _ zero _ _ _ hu
  pooled_is 4 (by omega) (by omega) _ _ _ _ _ hu h (lag_is 4 8188 _ (fun _ => Ideal.ofBits_zero_f32) _ _ h _ _) cnt1

theorem pooled2 : Is (val_main_v58 (F := Ideal) x0) (Pool.pooled u 2) :=
  have hu : Is (val_main_v44 (F := Ideal) x0) fun R c => u R (128 * 2 + c) := fun R c => by
    pointwise [val_main_v44, val_main_v43]
    simpa using u_all H 2 R c
  have h := cumsum_is (m := 8191) _ _ zero _ _ _ hu
  pooled_is 8 (by omega) (by omega) _ _ _ _ _ hu h (lag_is 8 8184 _ (fun _ => Ideal.ofBits_zero_f32) _ _ h _ _) cnt2

theorem pooled3 : Is (val_main_v77 (F := Ideal) x0) (Pool.pooled u 3) :=
  have hu : Is (val_main_v63 (F := Ideal) x0) fun R c => u R (128 * 3 + c) := fun R c => by
    pointwise [val_main_v63, val_main_v62]
    simpa using u_all H 3 R c
  have h := cumsum_is (m := 8191) _ _ zero _ _ _ hu
  pooled_is 16 (by omega) (by omega) _ _ _ _ _ hu h (lag_is 16 8176 _ (fun _ => Ideal.ofBits_zero_f32) _ _ h _ _) cnt3

/-! The pooled inputs through the channel mixes. -/

theorem mixed0 (R : Fin 8192) (d : Fin 128) : val_main_v23 (F := Ideal) x0 x1 (ix3 0 R d) = ∑ c : Fin 128, (Pool.pooled u 0 R.val c.val : EReal) * x1 (ix3 0 c d) := by
  pointwise [val_main_v23, val_main_v22, val_main_v21]
  exact Finset.sum_congr rfl fun c _ => congrArg₂ (· * ·) (pooled0 H R c) rfl

theorem mixed1 (R : Fin 8192) (d : Fin 128) : val_main_v42 (F := Ideal) x0 x1 (ix3 0 R d) = ∑ c : Fin 128, (Pool.pooled u 1 R.val c.val : EReal) * x1 (ix3 1 c d) := by
  pointwise [val_main_v42, val_main_v41, val_main_v40]
  exact Finset.sum_congr rfl fun c _ => congrArg₂ (· * ·) (pooled1 H R c) rfl

theorem mixed2 (R : Fin 8192) (d : Fin 128) : val_main_v61 (F := Ideal) x0 x1 (ix3 0 R d) = ∑ c : Fin 128, (Pool.pooled u 2 R.val c.val : EReal) * x1 (ix3 2 c d) := by
  pointwise [val_main_v61, val_main_v60, val_main_v59]
  exact Finset.sum_congr rfl fun c _ => congrArg₂ (· * ·) (pooled2 H R c) rfl

theorem mixed3 (R : Fin 8192) (d : Fin 128) : val_main_v80 (F := Ideal) x0 x1 (ix3 0 R d) = ∑ c : Fin 128, (Pool.pooled u 3 R.val c.val : EReal) * x1 (ix3 3 c d) := by
  pointwise [val_main_v80, val_main_v79, val_main_v78]
  exact Finset.sum_congr rfl fun c _ => congrArg₂ (· * ·) (pooled3 H R c) rfl

/-- The reference's result, group by group. -/
theorem ref_group (g : Fin 4) (R : Fin 8192) (d : Fin 128) (h : 128 * g.val + d.val < 512) :
    val_main_v86 (F := Ideal) x0 x1 x2 (ix2 R ⟨128 * g.val + d.val, h⟩) = outR u x1 x2 g R.val d := by
  pointwise [val_main_v86, val_main_v85, val_main_v84, val_main_v83, val_main_v82, val_main_v2, val_main_v81]
  fin_cases g
  · simp [mixed0 H R d, outR, Cert.KernelIdeal.Pool.col]
  · simp [mixed1 H R d, outR, Cert.KernelIdeal.Pool.col]
  · simp [mixed2 H R d, outR, Cert.KernelIdeal.Pool.col, show ¬256 + d.val < 128 by omega, show ¬256 + d.val - 128 < 128 by omega,
      show 256 + d.val - 128 - 128 = d.val by omega]
  · simp [mixed3 H R d, outR, Cert.KernelIdeal.Pool.col, show ¬384 + d.val < 128 by omega, show ¬384 + d.val - 128 < 128 by omega,
      show ¬384 + d.val - 128 - 128 < 128 by omega, show 384 + d.val - 128 - 128 - 128 = d.val by omega]
end

/-! ## The two programs -/

instance facts : Cert.Pre_finite9.Facts where
  slices_S8192x2048_S8192x512_0_1536 := by decide
  bcast_S_S8192x512 := by decide
  reducesTo_S8192x512_S_d0_1 := by decide
  h_S_ := by decide

/-- The real at a row and a column of the mixer's part of the projection. -/
def part (x : S8192x2048.Idx → EReal) (R C : ℕ) : ℝ :=
  if h : R < 8192 ∧ 1536 + C < 2048 then (x (ix2 ⟨R, h.1⟩ ⟨1536 + C, h.2⟩)).toReal else 0

/-- The mixer's part of the projection holds these reals, where the predicate holds. -/
theorem holds (x0 : FVec Ideal S8192x2048 .f32) (x1 : FVec Ideal S4x128x128 .f32) (x2 : FVec Ideal S1x512 .f32)
    (h : Cert.Pre_finite9.fn (F := Ideal) x0 x1 x2 = fun _ => 1#1) (R : Fin 8192) (C : Fin 512) :
    x0 (ix2 R (atCol C)) = (part x0 R.val C.val : EReal) := by
  have e := congrFun h ix0
  simp only [Cert.Pre_finite9.fn] at e
  haveI : Subsingleton (Cert.Pre_finite9.S_).Idx := ⟨fun a b => funext fun k => k.elim0⟩
  rw [part, dif_pos ⟨R.isLt, by omega⟩]
  have q := Finite.all _ _ _ _ _ ix0 e (ix2 R C)
  rw [show extractStridedSlice Cert.Pre_finite9.S8192x512 ![0, 1536] x0 Cert.Pre_finite9.Facts.slices_S8192x2048_S8192x512_0_1536 (ix2 R C)
    = x0 (ix2 R (atCol C)) by pointwise []; rfl] at q
  exact q

/-- The kernel's result is the reference's function of the launched arguments. -/
theorem result (m : (ℓ : Loc Cert.Kernel9Ideal.nD Cert.Kernel9Ideal.τ Cert.Kernel9Ideal.sig) → Buf (Elt Ideal) ℓ) (c : Dev Cert.Kernel9Ideal.nD)
    (h : Cert.Pre_Kernel9Ideal_finite9 m) : (Cert.Kernel9Ideal.Gen.dats m 0 c).arrAt 4 Cert.Kernel9Ideal.cfg0.N
      = val_main_v86 (F := Ideal) (Cert.Kernel9Ideal.Pooling.aU m c) (Cert.Kernel9Ideal.Pooling.aW m c) (Cert.Kernel9Ideal.Pooling.aS m c) := by
  have H := holds _ _ _ (h c)
  refine (Cert.Kernel9Ideal.Pooling.final H).trans (funext fun y => ?_)
  obtain ⟨R, C, rfl⟩ : ∃ (R : Fin 8192) (C : Fin 512), y = ix2 R C := ⟨y 0, y 1, (ix2_eta y).symm⟩
  have q := ref_group (x1 := Cert.Kernel9Ideal.Pooling.aW m c) (x2 := Cert.Kernel9Ideal.Pooling.aS m c) H ⟨C.val / 128, by omega⟩ R
    ⟨C.val % 128, Nat.mod_lt _ (by omega)⟩ (by dsimp only; omega)
  rw [show (⟨128 * (C.val / 128) + C.val % 128, by omega⟩ : Fin 512) = C from Fin.ext (Nat.div_add_mod _ _)] at q
  exact q.symm

/-- The reference runs, keeps its arguments and has no semaphore. -/
theorem frame_reference : Cert.quiescent_Reference9Ideal := fun m ρ _ =>
  (θ_run Cert.Reference9Ideal.defs _ _).mono (fun r h => ⟨fun c => (h c).2, sem_eq_zero_of_no_sems rfl r.2⟩)
    (Cert.Reference9Ideal.Value.run (F := Ideal) m ρ)

/-- The kernel's result is the reference's. -/
theorem value : Cert.algebraic_Kernel9Ideal_Reference9Ideal_pre_finite9 := fun m g m' g' h e =>
  ⟨_, Cert.Kernel9Ideal.Value.run_blocks m g,
    (θ_run Cert.Reference9Ideal.defs _ _).mono (fun r H c => by
      obtain ⟨r0, k⟩ := H c
      obtain ⟨e0, e1, e2⟩ := e c
      exact ⟨(r0.trans (val_main_v86_eq ..)).trans ((congr (congr (congrArg _ e0) e1) e2).trans (result m c h).symm), k⟩)
    (Cert.Reference9Ideal.Value.run (F := Ideal) m' g')⟩

end Cert.PoolingEq

end
-- ==== Proof.RmsNorm.Equation.lean ====
/-
  The kernel that scales each row of a matrix by its root mean square, and its gain: its result is the reference's.
-/
module

public import proofs.«01_k».proof.Defs
public import proofs.«01_k».proof.Proof.Norm.Blocks
public import proofs.«01_k».proof.Proof.Norm.Halves
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RmsNormEq

open NormGrad Cert.Kernel10Ideal Cert.Kernel10Ideal.Gen

/-- The norm of the rows of a matrix. -/
def normA (x : FVec Ideal S8192x1024 .f32) (g : FVec Ideal S1x1024 .f32) : S8192x1024.Idx → EReal :=
  fun y => rowNorm (fun j => x (ix2 (y 0) j)) (fun j => g (ix2 0 j)) (y 1)

/-- The reference's result. -/
theorem ref_all (x : FVec Ideal S8192x1024 .f32) (g : FVec Ideal S1x1024 .f32) (R : Fin 8192) (C : Fin 1024) :
    Cert.Reference10Ideal.Read.val_main_v12 (F := Ideal) x g (ix2 R C) = normA x g (ix2 R C) := by
  pointwise [Cert.Reference10Ideal.Read.val_main_v12, Cert.Reference10Ideal.Read.val_main_v11, Cert.Reference10Ideal.Read.val_main_v10,
    Cert.Reference10Ideal.Read.val_main_v9, Cert.Reference10Ideal.Read.val_main_v8, Cert.Reference10Ideal.Read.val_main_v7,
    Cert.Reference10Ideal.Read.val_main_v6, Cert.Reference10Ideal.Read.val_main_v5, Cert.Reference10Ideal.Read.val_main_v4,
    Cert.Reference10Ideal.Read.val_main_v3, Cert.Reference10Ideal.Read.val_main_v2, Cert.Reference10Ideal.Read.val_main_v1,
    Cert.Reference10Ideal.Read.val_main_v0, Cert.Reference10Ideal.Read.val_main_cst, Cert.Reference10Ideal.Read.val_main_cst_0,
    Cert.Reference10Ideal.Read.val_main_cst_1]
  rfl

/-- A block of the kernel's result. -/
theorem pay_apply (x : Vec Ideal S512x1024 .f32) (g : Vec Ideal S1x1024 .f32) (r : Fin 512) (C : Fin 1024) :
    k0_pay1 x g (ix2 r C) = rowNorm (fun j => x (ix2 r j)) (fun j => g (ix2 0 j)) C := by
  pointwise [k0_pay1]
  rfl

variable (m : (ℓ : Loc nD τ sig) → Buf (Elt Ideal) ℓ) (c : Dev nD) (t : Fin cfg0.N)

theorem idx0 : win0_0.index t 0 = t.val ∧ win0_0.index t 1 = 0 :=
  (by decide +kernel : ∀ t : Fin grid0.N, win0_0.index t 0 = t.val ∧ win0_0.index t 1 = 0) t
theorem idx1 : ∀ a, win0_1.index t a = 0 := (by decide +kernel : ∀ t : Fin grid0.N, ∀ a, win0_1.index t a = 0) t
theorem idx2 : win0_2.index t 0 = t.val ∧ win0_2.index t 1 = 0 :=
  (by decide +kernel : ∀ t : Fin grid0.N, win0_2.index t 0 = t.val ∧ win0_2.index t 1 = 0) t

theorem row_lt (r : Fin 512) : 512 * t.val + r.val < 8192 := by
  have : t.val < 16 := lt_of_lt_of_eq t.isLt N_0
  omega

theorem row0 (r : Fin 512) (C : Fin 1024) : (iblk m c 0 t : Vec Ideal S512x1024 .f32) (ix2 r C)
    = (V m c main_arg0 : Vec Ideal S8192x1024 .f32) (ix2 ⟨512 * t.val + r.val, row_lt t r⟩ C) := by
  unfold iblk
  exact (View.read_apply ..).trans (congrArg (V m c main_arg0) (at_rows (idx0 t) r C _ _ rfl rfl))
theorem row1 (r : Fin 1) (C : Fin 1024) : (iblk m c 1 t : Vec Ideal S1x1024 .f32) (ix2 r C)
    = (V m c main_arg1 : Vec Ideal S1x1024 .f32) (ix2 r C) := by
  unfold iblk
  exact (View.read_apply ..).trans (congrArg (V m c main_arg1) (at_whole (idx1 t) r C _ rfl rfl))

/-- A point's block of the result. -/
theorem block (r : Fin 512) (C : Fin 1024) : out0_2 (iblk m c 0 t) (iblk m c 1 t) (ix2 r C)
    = normA (V m c main_arg0) (V m c main_arg1) (ix2 ⟨512 * t.val + r.val, row_lt t r⟩ C) := by
  have e : out0_2 (iblk m c 0 t) (iblk m c 1 t) = k0_pay1 (iblk m c 0 t) (iblk m c 1 t) := by
    unfold out0_2
    rw [View.canon_unit_zero Halves.hz2, View.ld_unit_zero (S := S512x1024) Halves.hz2, View.ld_unit_zero (S := S1x1024) Halves.hz2]
  rw [e, pay_apply]
  simp only [row0, row1]
  rfl

/-- The result. -/
theorem final : (dats m 0 c).arrAt 2 cfg0.N = normA (V m c main_arg0) (V m c main_arg1) :=
  (dats m 0 c).arrAt_eq_of_cover 2 (normA (V m c main_arg0) (V m c main_arg1))
    (fun t hf => by
      rw [Value.flushed2]
      funext y
      obtain ⟨r, C, rfl⟩ : ∃ (r : Fin 512) (C : Fin 1024), y = ix2 r C := ⟨y 0, y 1, (ix2_eta y).symm⟩
      refine Eq.trans (block m c t r C) ?_
      rw [View.read_apply]
      exact congrArg (normA (V m c main_arg0) (V m c main_arg1)) (at_rows (idx2 t) r C (row_lt t r) _ rfl rfl).symm)
    fun i => by
      have h0 : (i 0).val < 8192 := (i 0).isLt
      let t : Fin cfg0.N := ⟨(i 0).val / 512, by rw [show cfg0.N = 16 from N_0]; omega⟩
      refine ⟨t, flush0_2 t, ?_⟩
      show i ∈ ((View.whole main_v0).slice (win0_2.rect t)).set
      rw [View.set_slice_whole, Rect.mem_set_unit]
      exact mem_rows (n := 512) (by norm_num) i (idx2 t)

/-- The kernel's result over the launched arguments is the reference's. -/
theorem result : (dats m 0 c).arrAt 2 cfg0.N = Cert.Reference10Ideal.Read.val_main_v12 (F := Ideal)
    (m ((c : Thread nD τ).loc main_arg0)) (m ((c : Thread nD τ).loc main_arg1)) := by
  rw [final, V_main_arg0, V_main_arg1]
  funext y
  obtain ⟨R, C, rfl⟩ : ∃ (R : Fin 8192) (C : Fin 1024), y = ix2 R C := ⟨y 0, y 1, (ix2_eta y).symm⟩
  exact (ref_all _ _ R C).symm

/-- The reference runs, keeps its arguments and has no semaphore. -/
theorem frame_reference : Cert.quiescent_Reference10Ideal := fun m ρ _ =>
  (θ_run Cert.Reference10Ideal.defs _ _).mono (fun r h => ⟨fun c => (h c).2, sem_eq_zero_of_no_sems rfl r.2⟩)
    (Cert.Reference10Ideal.Value.run (F := Ideal) m ρ)

/-- The kernel's result is the reference's. -/
theorem value : Cert.algebraic_Kernel10Ideal_Reference10Ideal := fun m g m' g' _ e =>
  ⟨_, Cert.Kernel10Ideal.Value.run_blocks m g,
    (θ_run Cert.Reference10Ideal.defs _ _).mono (fun r H c => by
      obtain ⟨r0, k⟩ := H c
      obtain ⟨e0, e1⟩ := e c
      exact ⟨(r0.trans (Cert.Reference10Ideal.Read.val_main_v12_eq ..)).trans ((congr (congrArg _ e0) e1).trans (result m c).symm), k⟩)
    (Cert.Reference10Ideal.Value.run (F := Ideal) m' g')⟩

end Cert.RmsNormEq

end
-- ==== Proof.Proj.Equation.lean ====
/-
  A product of rows with a weight's transpose: the kernel's result is the reference's.
-/
module

public import proofs.«01_k».proof.Defs
public import proofs.«01_k».proof.Proof.Norm.Blocks
public import proofs.«01_k».proof.Proof.Norm.Halves
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjEq

open NormGrad Halves Cert.Kernel11Ideal Cert.Kernel11Ideal.Gen Cert.Reference11Ideal.Read

/-- The product of a matrix with a weight. -/
def prod (h : FVec Ideal S8192x1024 .f32) (w : FVec Ideal S1024x2048 .f32) : S8192x2048.Idx → EReal :=
  fun y => ∑ k : Fin 1024, h (ix2 (y 0) k) * w (ix2 k (y 1))

/-- The reference's result. -/
theorem ref_all (h : FVec Ideal S8192x1024 .f32) (w : FVec Ideal S1024x2048 .f32) (R : Fin 8192) (C : Fin 2048) :
    val_main_v0 (F := Ideal) h w (ix2 R C) = prod h w (ix2 R C) := by
  pointwise [val_main_v0]
  rfl

/-- A block of the kernel's result. -/
theorem pay_apply (a : Vec Ideal S1024x1024 .bf16) (b : Vec Ideal S2048x1024 .bf16) (r : Fin 1024) (C : Fin 2048) :
    k0_pay1 a b (ix2 r C) = ∑ k : Fin 1024, a (ix2 r k) * b (ix2 C k) := by
  pointwise [k0_pay1]

variable (m : (ℓ : Loc nD τ sig) → Buf (Elt Ideal) ℓ) (c : Dev nD) (t : Fin cfg0.N)

/-! The launched arguments. -/
abbrev aH : FVec Ideal S8192x1024 .f32 := m ((c : Thread nD τ).loc main_arg0)
abbrev aW : FVec Ideal S1024x2048 .f32 := m ((c : Thread nD τ).loc main_arg1)

theorem prep0 : @Eq (Vec Ideal S8192x1024 .bf16) (V m c main_v0) (truncf .bf16 (aH m c) bitsLt_bf16_f32) := by
  unfold_abbrev_sides
  after_results
theorem prep2 : @Eq (Vec Ideal S2048x1024 .bf16) (V m c main_v2)
    (truncf .bf16 (transpose S2048x1024 [1, 0] (aW m c) transposes_S1024x2048_S2048x1024_1_0) bitsLt_bf16_f32) := by
  unfold_abbrev_sides
  after_results

theorem idx0 : win0_0.index t 0 = t.val ∧ win0_0.index t 1 = 0 :=
  (by decide +kernel : ∀ t : Fin grid0.N, win0_0.index t 0 = t.val ∧ win0_0.index t 1 = 0) t
theorem idx1 : ∀ a, win0_1.index t a = 0 := (by decide +kernel : ∀ t : Fin grid0.N, ∀ a, win0_1.index t a = 0) t
theorem idx2 : win0_2.index t 0 = t.val ∧ win0_2.index t 1 = 0 :=
  (by decide +kernel : ∀ t : Fin grid0.N, win0_2.index t 0 = t.val ∧ win0_2.index t 1 = 0) t

theorem row_lt (r : Fin 1024) : 1024 * t.val + r.val < 8192 := by
  have : t.val < 8 := lt_of_lt_of_eq t.isLt N_0
  omega

theorem row0 (r : Fin 1024) (C : Fin 1024) : (iblk m c 0 t : Vec Ideal S1024x1024 .bf16) (ix2 r C)
    = aH m c (ix2 ⟨1024 * t.val + r.val, row_lt t r⟩ C) := by
  have e : (iblk m c 0 t : Vec Ideal S1024x1024 .bf16) (ix2 r C) = (V m c main_v0 : Vec Ideal S8192x1024 .bf16) (ix2 ⟨1024 * t.val + r.val, row_lt t r⟩ C) := by
    unfold iblk
    exact (View.read_apply ..).trans (congrArg (V m c main_v0) (at_rows (idx0 t) r C _ _ rfl rfl))
  rw [e, prep0]
  pointwise
theorem row1 (r : Fin 2048) (C : Fin 1024) : (iblk m c 1 t : Vec Ideal S2048x1024 .bf16) (ix2 r C) = aW m c (ix2 C r) := by
  have e : (iblk m c 1 t : Vec Ideal S2048x1024 .bf16) (ix2 r C) = (V m c main_v2 : Vec Ideal S2048x1024 .bf16) (ix2 r C) := by
    unfold iblk
    exact (View.read_apply ..).trans (congrArg (V m c main_v2) (at_whole (idx1 t) r C _ rfl rfl))
  rw [e, prep2]
  pointwise

/-- A point's block of the result. -/
theorem block (r : Fin 1024) (C : Fin 2048) : out0_2 (iblk m c 0 t) (iblk m c 1 t) (ix2 r C)
    = prod (aH m c) (aW m c) (ix2 ⟨1024 * t.val + r.val, row_lt t r⟩ C) := by
  have e : out0_2 (iblk m c 0 t) (iblk m c 1 t) = k0_pay1 (iblk m c 0 t) (iblk m c 1 t) := by
    unfold out0_2
    rw [View.canon_unit_zero hz2, View.ld_unit_zero (S := S1024x1024) hz2, View.ld_unit_zero (S := S2048x1024) hz2]
  rw [e, pay_apply]
  simp only [row0, row1]
  rfl

/-- The result. -/
theorem final : (dats m 0 c).arrAt 2 cfg0.N = prod (aH m c) (aW m c) :=
  (dats m 0 c).arrAt_eq_of_cover 2 (prod (aH m c) (aW m c))
    (fun t hf => by
      rw [Value.flushed2]
      funext y
      obtain ⟨r, C, rfl⟩ : ∃ (r : Fin 1024) (C : Fin 2048), y = ix2 r C := ⟨y 0, y 1, (ix2_eta y).symm⟩
      refine Eq.trans (block m c t r C) ?_
      rw [View.read_apply]
      exact congrArg (prod (aH m c) (aW m c)) (at_rows (idx2 t) r C (row_lt t r) _ rfl rfl).symm)
    fun i => by
      have h0 : (i 0).val < 8192 := (i 0).isLt
      let t : Fin cfg0.N := ⟨(i 0).val / 1024, by rw [show cfg0.N = 8 from N_0]; omega⟩
      refine ⟨t, flush0_2 t, ?_⟩
      show i ∈ ((View.whole main_v3).slice (win0_2.rect t)).set
      rw [View.set_slice_whole, Rect.mem_set_unit]
      exact mem_rows (n := 1024) (by norm_num) i (idx2 t)

/-- The kernel's result over the launched arguments is the reference's. -/
theorem result : (dats m 0 c).arrAt 2 cfg0.N = val_main_v0 (F := Ideal) (aH m c) (aW m c) := by
  rw [final]
  funext y
  obtain ⟨R, C, rfl⟩ : ∃ (R : Fin 8192) (C : Fin 2048), y = ix2 R C := ⟨y 0, y 1, (ix2_eta y).symm⟩
  exact (ref_all _ _ R C).symm

/-- The reference runs, keeps its arguments and has no semaphore. -/
theorem frame_reference : Cert.quiescent_Reference11Ideal := fun m ρ _ =>
  (θ_run Cert.Reference11Ideal.defs _ _).mono (fun r h => ⟨fun c => (h c).2, sem_eq_zero_of_no_sems rfl r.2⟩)
    (Cert.Reference11Ideal.Value.run (F := Ideal) m ρ)

/-- The kernel's result is the reference's. -/
theorem value : Cert.algebraic_Kernel11Ideal_Reference11Ideal := fun m g m' g' _ e =>
  ⟨_, Cert.Kernel11Ideal.Value.run_blocks m g,
    (θ_run Cert.Reference11Ideal.defs _ _).mono (fun r H c => by
      obtain ⟨r0, k⟩ := H c
      obtain ⟨e0, e1⟩ := e c
      exact ⟨(r0.trans (val_main_v0_eq ..)).trans ((congr (congrArg _ e0) e1).trans (result m c).symm), k⟩)
    (Cert.Reference11Ideal.Value.run (F := Ideal) m' g')⟩

end Cert.ProjEq

end
-- ==== Proof.GradIn.Equation.lean ====
/-
  A weight's gradient, the product of its cotangent's transpose with its argument: the kernel's result is the reference's.
-/
module

public import proofs.«01_k».proof.Defs
public import proofs.«01_k».proof.Proof.Norm.Blocks
public import proofs.«01_k».proof.Proof.Norm.Halves
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Pipeline.Value
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GradInEq

open NormGrad Halves Cert.Kernel12Ideal Cert.Kernel12Ideal.Gen Cert.Reference12Ideal.Read

/-! ## What a point leaves in the accumulator and in the result's buffer -/

section
variable {F : FTy → Type} [FloatOps F]
variable (c : Dev nD) (i : grid0.Coords)
  (a1 : Memref sig .tc .vmem S1024x512 .bf16) (h1 : a1.IsWhole)
  (a2 : Memref sig .tc .vmem S1024x512 .bf16) (h2 : a2.IsWhole)
  (a3 : Memref sig .tc .vmem S1024x512 .bf16) (h3 : a3.IsWhole)
  (a4 : Memref sig .tc .vmem S1024x512 .bf16) (h4 : a4.IsWhole)
  (a5 : Memref sig .tc .vmem S1024x1024 .bf16) (h5 : a5.IsWhole)
  (a6 : Memref sig .tc .vmem S2048x1024 .bf16) (h6 : a6.IsWhole)
  (a7 : Memref sig .tc .vmem S2048x1024 .f32) (h7 : a7.IsWhole)
  (x0 x1 x2 x3 : Vec F S1024x512 .bf16) (x4 : Vec F S1024x1024 .bf16) (old : Vec F S2048x1024 .f32)

theorem acc_A (hc : cond0_0 i) (hd : ¬cond0_1 i) : sout0_A_0 c i a1 h1 a2 h2 a3 h3 a4 h4 a5 h5 a6 h6 a7 h7 hc hd x0 x1 x2 x3 x4 = k0_pay2 k0_pay1 x0 x1 x2 x3 x4 := by
  unfold sout0_A_0
  rw [View.read_writes_eq_canon _ _ _ (scover0_A_0 c i a1 h1 a2 h2 a3 h3 a4 h4 a5 h5 a6 h6 a7 h7 hc hd x0 x1 x2 x3 x4)]
  unfold kernelRun0_A
  dsimp only
  sl_unfold_words
  simp (disch := first | rfl | decide) only [View.readCov_fill, View.readCov_cons_toLoadRect, View.readAt_eq_ld, h1.read_unread, h2.read_unread, h3.read_unread, h4.read_unread, h5.read_unread, h6.read_unread, h7.read_unread,
    View.ld_unit_zero (S := S1024x512) hz2, View.ld_unit_zero (S := S1024x1024) hz2, View.ld_unit_zero (S := S2048x1024) hz2]
  exact View.canon_cons_unit_zero (Val := Elt F) (S := S2048x1024) (e := .f32) hz2 _ (k0_pay2 k0_pay1 x0 x1 x2 x3 x4) _

theorem acc_B (hc : ¬cond0_0 i) (hd : ¬cond0_1 i) : sout0_B_0 c i a1 h1 a2 h2 a3 h3 a4 h4 a5 h5 a6 h6 a7 h7 hc hd x0 x1 x2 x3 x4 old = k0_pay2 old x0 x1 x2 x3 x4 := by
  unfold sout0_B_0
  rw [View.read_writes_eq_canon _ _ _ (scover0_B_0 c i a1 h1 a2 h2 a3 h3 a4 h4 a5 h5 a6 h6 a7 h7 hc hd x0 x1 x2 x3 x4 old)]
  unfold kernelRun0_B
  dsimp only
  sl_unfold_words
  simp (disch := first | rfl | decide) only [View.readCov_fill, View.readCov_cons_toLoadRect, View.readAt_eq_ld, h1.read_unread, h2.read_unread, h3.read_unread, h4.read_unread, h5.read_unread, h6.read_unread, h7.read_unread,
    View.ld_unit_zero (S := S1024x512) hz2, View.ld_unit_zero (S := S1024x1024) hz2, View.ld_unit_zero (S := S2048x1024) hz2]
  exact View.canon_cons_unit_zero (Val := Elt F) (S := S2048x1024) (e := .f32) hz2 _ (k0_pay2 old x0 x1 x2 x3 x4) _

theorem acc_C (hc : ¬cond0_0 i) (hd : cond0_1 i) : sout0_C_0 c i a1 h1 a2 h2 a3 h3 a4 h4 a5 h5 a6 h6 a7 h7 hc hd x0 x1 x2 x3 x4 old = k0_pay2 old x0 x1 x2 x3 x4 := by
  unfold sout0_C_0
  rw [View.read_writes_eq_canon _ _ _ (scover0_C_0 c i a1 h1 a2 h2 a3 h3 a4 h4 a5 h5 a6 h6 a7 h7 hc hd x0 x1 x2 x3 x4 old)]
  unfold kernelRun0_C
  dsimp only
  sl_unfold_words
  simp (disch := first | rfl | decide) only [View.readCov_fill, View.readCov_cons_toLoadRect, View.readAt_eq_ld, h1.read_unread, h2.read_unread, h3.read_unread, h4.read_unread, h5.read_unread, h6.read_unread, h7.read_unread,
    View.ld_unit_zero (S := S1024x512) hz2, View.ld_unit_zero (S := S1024x1024) hz2, View.ld_unit_zero (S := S2048x1024) hz2]
  exact View.canon_cons_unit_zero (Val := Elt F) (S := S2048x1024) (e := .f32) hz2 _ (k0_pay2 old x0 x1 x2 x3 x4) _

theorem res_C (hc : ¬cond0_0 i) (hd : cond0_1 i) : out0_C_5 c i a1 h1 a2 h2 a3 h3 a4 h4 a5 h5 a6 h6 a7 h7 hc hd x0 x1 x2 x3 x4 old = k0_pay3 (k0_pay2 old x0 x1 x2 x3 x4) := by
  unfold out0_C_5
  rw [View.read_writes_eq_canon _ _ _ (cover0_C_5 c i a1 h1 a2 h2 a3 h3 a4 h4 a5 h5 a6 h6 a7 h7 hc hd x0 x1 x2 x3 x4 old)]
  unfold kernelRun0_C
  dsimp only
  sl_unfold_words
  simp (disch := first | rfl | decide) only [View.readCov_fill, View.readCov_cons_toLoadRect, View.readAt_eq_ld, h1.read_unread, h2.read_unread, h3.read_unread, h4.read_unread, h5.read_unread, h6.read_unread, h7.read_unread,
    View.ld_unit_zero (S := S1024x512) hz2, View.ld_unit_zero (S := S1024x1024) hz2, View.ld_unit_zero (S := S2048x1024) hz2]
  exact View.canon_cons_unit_zero (Val := Elt F) (S := S2048x1024) (e := .bf16) hz2 _ (k0_pay3 (k0_pay2 old x0 x1 x2 x3 x4)) _

end

/-! ## One point's product -/

/-- Four blocks side by side. -/
def cat (a : Fin 4 → Vec Ideal S1024x512 .bf16) : FVec Ideal S1024x2048 .bf16 :=
  concatenate S1024x2048 1 (List.ofFn fun n : Fin 4 => (⟨S1024x512, a n⟩ : (s : Shape) × (s.Idx → Ideal .bf16)))
    concatenates_S1024x512_S1024x512_S1024x512_S1024x512_S1024x2048_d1

/-- The block that holds a column, and the column's place in it. -/
def which (j : Fin 2048) : Fin 4 := ⟨j.val / 512, by omega⟩
def place (j : Fin 2048) : Fin 512 := ⟨j.val % 512, by omega⟩

theorem cat_apply (a : Fin 4 → Vec Ideal S1024x512 .bf16) (r : Fin 1024) (j : Fin 2048) : cat a (ix2 r j) = a (which j) (ix2 r (place j)) := by
  unfold cat
  refine concatenate_ofFn_apply (1 : Fin S1024x2048.rank) a _ rfl 512 rfl _ (which j) rfl _ rfl fun b hb => ?_
  match b with
  | ⟨0, _⟩ => rfl
  | ⟨1, _⟩ => exact absurd rfl hb

theorem pay1_apply (y : S2048x1024.Idx) : k0_pay1 (F := Ideal) y = 0 := by
  rw [← ix2_eta y]
  pointwise [k0_pay1]

theorem cat_eq (a : Fin 4 → Vec Ideal S1024x512 .bf16) :
    concatenate S1024x2048 1 [⟨S1024x512, a 0⟩, ⟨S1024x512, a 1⟩, ⟨S1024x512, a 2⟩, ⟨S1024x512, a 3⟩]
      concatenates_S1024x512_S1024x512_S1024x512_S1024x512_S1024x2048_d1 = cat a := rfl

theorem pay2_eq (old : Vec Ideal S2048x1024 .f32) (a : Fin 4 → Vec Ideal S1024x512 .bf16) (b : FVec Ideal S1024x1024 .bf16) :
    k0_pay2 old (a 0) (a 1) (a 2) (a 3) b = addf old (matmul dot_S1024x2048_S1024x1024_S2048x1024_0_0_1_1_n_n none (cat a) b (constant S2048x1024 .f32 0x00000000#32)) := by
  unfold k0_pay2
  dsimp only
  rw [shapeCast_self, shapeCast_self, shapeCast_self, shapeCast_self, shapeCast_self, shapeCast_self]
  rw [cat_eq]

theorem pay2_apply (old : Vec Ideal S2048x1024 .f32) (a : Fin 4 → Vec Ideal S1024x512 .bf16) (b : FVec Ideal S1024x1024 .bf16) (j : Fin 2048) (C : Fin 1024) :
    k0_pay2 old (a 0) (a 1) (a 2) (a 3) b (ix2 j C) = old (ix2 j C) + ∑ r : Fin 1024, a (which j) (ix2 r (place j)) * b (ix2 r C) := by
  rw [pay2_eq]
  pointwise
  simp only [cat_apply]

theorem pay3_apply (v : Vec Ideal S2048x1024 .f32) (y : S2048x1024.Idx) : k0_pay3 v y = v y := rfl

/-! ## The blocks of the arguments -/

variable (m : (ℓ : Loc nD τ sig) → Buf (Elt Ideal) ℓ) (c : Dev nD) (t : Fin cfg0.N)

/-! The launched arguments. -/
abbrev aH : FVec Ideal S8192x1024 .f32 := m ((c : Thread nD τ).loc main_arg0)
abbrev aD : FVec Ideal S8192x2048 .f32 := m ((c : Thread nD τ).loc main_arg1)

theorem prep0 : @Eq (Vec Ideal S8192x512 .bf16) (V m c main_v1) (truncf .bf16 (extractStridedSlice S8192x512 ![0, 0]
    (aD m c) slices_S8192x2048_S8192x512_0_0) bitsLt_bf16_f32) := by
  unfold_abbrev_sides
  after_results
theorem prep1 : @Eq (Vec Ideal S8192x512 .bf16) (V m c main_v3) (truncf .bf16 (extractStridedSlice S8192x512 ![0, 512]
    (aD m c) slices_S8192x2048_S8192x512_0_512) bitsLt_bf16_f32) := by
  unfold_abbrev_sides
  after_results
theorem prep2 : @Eq (Vec Ideal S8192x512 .bf16) (V m c main_v5) (truncf .bf16 (extractStridedSlice S8192x512 ![0, 1024]
    (aD m c) slices_S8192x2048_S8192x512_0_1024) bitsLt_bf16_f32) := by
  unfold_abbrev_sides
  after_results
theorem prep3 : @Eq (Vec Ideal S8192x512 .bf16) (V m c main_v7) (truncf .bf16 (extractStridedSlice S8192x512 ![0, 1536]
    (aD m c) slices_S8192x2048_S8192x512_0_1536) bitsLt_bf16_f32) := by
  unfold_abbrev_sides
  after_results
theorem prep4 : @Eq (Vec Ideal S8192x1024 .bf16) (V m c main_v8) (truncf .bf16 (aH m c) bitsLt_bf16_f32) := by
  unfold_abbrev_sides
  after_results

theorem idx0 : win0_0.index t 0 = t.val ∧ win0_0.index t 1 = 0 :=
  (by decide +kernel : ∀ t : Fin grid0.N, win0_0.index t 0 = t.val ∧ win0_0.index t 1 = 0) t
theorem idx1 : win0_1.index t 0 = t.val ∧ win0_1.index t 1 = 0 :=
  (by decide +kernel : ∀ t : Fin grid0.N, win0_1.index t 0 = t.val ∧ win0_1.index t 1 = 0) t
theorem idx2 : win0_2.index t 0 = t.val ∧ win0_2.index t 1 = 0 :=
  (by decide +kernel : ∀ t : Fin grid0.N, win0_2.index t 0 = t.val ∧ win0_2.index t 1 = 0) t
theorem idx3 : win0_3.index t 0 = t.val ∧ win0_3.index t 1 = 0 :=
  (by decide +kernel : ∀ t : Fin grid0.N, win0_3.index t 0 = t.val ∧ win0_3.index t 1 = 0) t
theorem idx4 : win0_4.index t 0 = t.val ∧ win0_4.index t 1 = 0 :=
  (by decide +kernel : ∀ t : Fin grid0.N, win0_4.index t 0 = t.val ∧ win0_4.index t 1 = 0) t
theorem idx5 : ∀ a, win0_5.index t a = 0 := (by decide +kernel : ∀ t : Fin grid0.N, ∀ a, win0_5.index t a = 0) t

theorem pt_lt : t.val < 8 := lt_of_lt_of_eq t.isLt N_0
theorem row_lt (r : Fin 1024) : 1024 * t.val + r.val < 8192 := by
  have := pt_lt t
  omega

theorem row0 (r : Fin 1024) (k : Fin 512) : (iblk m c 0 t : Vec Ideal S1024x512 .bf16) (ix2 r k)
    = aD m c (ix2 ⟨1024 * t.val + r.val, row_lt t r⟩ ⟨512 * 0 + k.val, by omega⟩) := by
  have e : (iblk m c 0 t : Vec Ideal S1024x512 .bf16) (ix2 r k) = (V m c main_v1 : Vec Ideal S8192x512 .bf16) (ix2 ⟨1024 * t.val + r.val, row_lt t r⟩ k) := by
    unfold iblk
    exact (View.read_apply ..).trans (congrArg (V m c main_v1) (at_rows (idx0 t) r k _ _ rfl rfl))
  rw [e, prep0]
  exact congrArg (aD m c) (eq_ix2 _ (show 0 + _ = _ from Nat.zero_add _) rfl)
theorem row1 (r : Fin 1024) (k : Fin 512) : (iblk m c 1 t : Vec Ideal S1024x512 .bf16) (ix2 r k)
    = aD m c (ix2 ⟨1024 * t.val + r.val, row_lt t r⟩ ⟨512 * 1 + k.val, by omega⟩) := by
  have e : (iblk m c 1 t : Vec Ideal S1024x512 .bf16) (ix2 r k) = (V m c main_v3 : Vec Ideal S8192x512 .bf16) (ix2 ⟨1024 * t.val + r.val, row_lt t r⟩ k) := by
    unfold iblk
    exact (View.read_apply ..).trans (congrArg (V m c main_v3) (at_rows (idx1 t) r k _ _ rfl rfl))
  rw [e, prep1]
  exact congrArg (aD m c) (eq_ix2 _ (show 0 + _ = _ from Nat.zero_add _) rfl)
theorem row2 (r : Fin 1024) (k : Fin 512) : (iblk m c 2 t : Vec Ideal S1024x512 .bf16) (ix2 r k)
    = aD m c (ix2 ⟨1024 * t.val + r.val, row_lt t r⟩ ⟨512 * 2 + k.val, by omega⟩) := by
  have e : (iblk m c 2 t : Vec Ideal S1024x512 .bf16) (ix2 r k) = (V m c main_v5 : Vec Ideal S8192x512 .bf16) (ix2 ⟨1024 * t.val + r.val, row_lt t r⟩ k) := by
    unfold iblk
    exact (View.read_apply ..).trans (congrArg (V m c main_v5) (at_rows (idx2 t) r k _ _ rfl rfl))
  rw [e, prep2]
  exact congrArg (aD m c) (eq_ix2 _ (show 0 + _ = _ from Nat.zero_add _) rfl)
theorem row3 (r : Fin 1024) (k : Fin 512) : (iblk m c 3 t : Vec Ideal S1024x512 .bf16) (ix2 r k)
    = aD m c (ix2 ⟨1024 * t.val + r.val, row_lt t r⟩ ⟨512 * 3 + k.val, by omega⟩) := by
  have e : (iblk m c 3 t : Vec Ideal S1024x512 .bf16) (ix2 r k) = (V m c main_v7 : Vec Ideal S8192x512 .bf16) (ix2 ⟨1024 * t.val + r.val, row_lt t r⟩ k) := by
    unfold iblk
    exact (View.read_apply ..).trans (congrArg (V m c main_v7) (at_rows (idx3 t) r k _ _ rfl rfl))
  rw [e, prep3]
  exact congrArg (aD m c) (eq_ix2 _ (show 0 + _ = _ from Nat.zero_add _) rfl)
theorem row4 (r : Fin 1024) (C : Fin 1024) : (iblk m c 4 t : Vec Ideal S1024x1024 .bf16) (ix2 r C)
    = aH m c (ix2 ⟨1024 * t.val + r.val, row_lt t r⟩ C) := by
  have e : (iblk m c 4 t : Vec Ideal S1024x1024 .bf16) (ix2 r C) = (V m c main_v8 : Vec Ideal S8192x1024 .bf16) (ix2 ⟨1024 * t.val + r.val, row_lt t r⟩ C) := by
    unfold iblk
    exact (View.read_apply ..).trans (congrArg (V m c main_v8) (at_rows (idx4 t) r C _ _ rfl rfl))
  rw [e, prep4]
  pointwise

/-- The cotangent's four blocks at a point. -/
def parts : Fin 4 → Vec Ideal S1024x512 .bf16 := ![iblk m c 0 t, iblk m c 1 t, iblk m c 2 t, iblk m c 3 t]

theorem parts_apply (q : Fin 4) (r : Fin 1024) (k : Fin 512) :
    parts m c t q (ix2 r k) = aD m c (ix2 ⟨1024 * t.val + r.val, row_lt t r⟩ ⟨512 * q.val + k.val, by omega⟩) := by
  match q with
  | 0 => exact row0 m c t r k
  | 1 => exact row1 m c t r k
  | 2 => exact row2 m c t r k
  | 3 => exact row3 m c t r k

/-! ## The sum over the rows -/

/-- One row's share of an entry of the gradient. -/
def term (j : Fin 2048) (C : Fin 1024) (R : ℕ) : EReal := if h : R < 8192 then aD m c (ix2 ⟨R, h⟩ j) * aH m c (ix2 ⟨R, h⟩ C) else 0

/-- The gradient. -/
def grad : S2048x1024.Idx → EReal := fun y => ∑ R ∈ Finset.range 8192, term m c (y 0) (y 1) R

/-- One point's step of the accumulator. -/
theorem step (old : Vec Ideal S2048x1024 .f32) (j : Fin 2048) (C : Fin 1024) (h : old (ix2 j C) = ∑ R ∈ Finset.range (1024 * t.val), term m c j C R) :
    k0_pay2 old (iblk m c 0 t) (iblk m c 1 t) (iblk m c 2 t) (iblk m c 3 t) (iblk m c 4 t) (ix2 j C)
      = ∑ R ∈ Finset.range (1024 * (t.val + 1)), term m c j C R := by
  refine (pay2_apply old (parts m c t) (iblk m c 4 t) j C).trans ?_
  rw [h, Nat.mul_add, Nat.mul_one, Finset.sum_range_add, Finset.sum_range (n := 1024)]
  refine congrArg _ (Finset.sum_congr rfl fun r _ => ?_)
  rw [parts_apply, row4]
  unfold term
  rw [dif_pos (row_lt t r)]
  have e : (⟨512 * (which j).val + (place j).val, by omega⟩ : Fin 2048) = j := Fin.ext (Nat.div_add_mod j.val 512)
  rw [e]

/-- The accumulator after a point. -/
theorem acc_eq (n : ℕ) (hn : n < cfg0.N) (j : Fin 2048) (C : Fin 1024) :
    (outsAt0 m c n hn).2 (ix2 j C) = ∑ R ∈ Finset.range (1024 * (n + 1)), term m c j C R := by
  induction n with
  | zero =>
    refine (congrFun (congrArg Prod.snd (outsAt0_A m c ⟨0, hn⟩ (Nat.zero_mod 8) (by norm_num))) (ix2 j C)).trans ?_
    dsimp only
    rw [acc_A]
    exact step m c ⟨0, hn⟩ _ j C ((pay1_apply _).trans (by simp))
  | succ n ih =>
    have h8 : n + 1 < 8 := lt_of_lt_of_eq hn N_0
    have hp := ih (by omega)
    by_cases h7 : (n + 1) % 8 = 7
    · refine (congrFun (congrArg Prod.snd (outsAt0_C m c ⟨n + 1, hn⟩ (by show ¬(n + 1) % 8 = 0; omega) h7)) (ix2 j C)).trans ?_
      dsimp only
      rw [acc_C]
      exact step m c ⟨n + 1, hn⟩ _ j C hp
    · refine (congrFun (congrArg Prod.snd (outsAt0_B m c ⟨n + 1, hn⟩ (by show ¬(n + 1) % 8 = 0; omega) h7)) (ix2 j C)).trans ?_
      dsimp only
      rw [acc_B]
      exact step m c ⟨n + 1, hn⟩ _ j C hp

/-- The result's buffer after the last point. -/
theorem out_eq (h7 : t.val = 7) (j : Fin 2048) (C : Fin 1024) : (outsAt0 m c t.val t.isLt).1 (ix2 j C) = grad m c (ix2 j C) := by
  refine (congrFun (congrArg Prod.fst (outsAt0_C m c t (by omega) (by omega))) (ix2 j C)).trans ?_
  dsimp only
  rw [res_C, pay3_apply]
  refine (step m c t _ j C ?_).trans (by rw [h7]; rfl)
  refine (acc_eq m c (t.val - 1) _ j C).trans ?_
  rw [show t.val - 1 + 1 = t.val by omega]

/-- The result. -/
theorem final : (dats m 0 c).arrAt 5 cfg0.N = grad m c :=
  (dats m 0 c).arrAt_eq_of_cover 5 (grad m c)
    (fun t hf => by
      rw [Value.flushed5]
      funext y
      obtain ⟨j, C, rfl⟩ : ∃ (j : Fin 2048) (C : Fin 1024), y = ix2 j C := ⟨y 0, y 1, (ix2_eta y).symm⟩
      refine Eq.trans (out_eq m c t (by have := (flush0_5 t).mp hf; have := pt_lt t; omega) j C) ?_
      rw [View.read_apply]
      exact congrArg (grad m c) (at_whole (idx5 t) j C _ rfl rfl).symm)
    fun i => by
      let t : Fin cfg0.N := ⟨7, by rw [show cfg0.N = 8 from N_0]; omega⟩
      refine ⟨t, (flush0_5 t).mpr rfl, ?_⟩
      show i ∈ ((View.whole main_v9).slice (win0_5.rect t)).set
      rw [View.set_slice_whole, Rect.mem_set_unit]
      exact mem_whole i (idx5 t)

/-- The reference's result. -/
theorem ref_all (j : Fin 2048) (C : Fin 1024) : val_main_v5 (F := Ideal) (aH m c) (aD m c) (ix2 j C) = grad m c (ix2 j C) := by
  have e : val_main_v5 (F := Ideal) (aH m c) (aD m c) (ix2 j C) = ∑ R : Fin 8192, aD m c (ix2 R j) * aH m c (ix2 R C) := by
    pointwise [val_main_v5, val_main_v4, val_main_v3, val_main_v2]
  rw [e]
  unfold grad
  rw [Finset.sum_range]
  refine Finset.sum_congr rfl fun R _ => ?_
  unfold term
  rw [dif_pos R.isLt]
  rfl

/-- The kernel's result over the launched arguments is the reference's. -/
theorem result : (dats m 0 c).arrAt 5 cfg0.N = val_main_v5 (F := Ideal) (aH m c) (aD m c) := by
  rw [final]
  funext y
  obtain ⟨j, C, rfl⟩ : ∃ (j : Fin 2048) (C : Fin 1024), y = ix2 j C := ⟨y 0, y 1, (ix2_eta y).symm⟩
  exact (ref_all m c j C).symm

/-- The reference runs, keeps its arguments and has no semaphore. -/
theorem frame_reference : Cert.quiescent_Reference12Ideal := fun m ρ _ =>
  (θ_run Cert.Reference12Ideal.defs _ _).mono (fun r h => ⟨fun c => (h c).2, sem_eq_zero_of_no_sems rfl r.2⟩)
    (Cert.Reference12Ideal.Value.run (F := Ideal) m ρ)

/-- The kernel's result is the reference's. -/
theorem value : Cert.algebraic_Kernel12Ideal_Reference12Ideal := fun m g m' g' _ e =>
  ⟨_, Cert.Kernel12Ideal.Value.run_blocks m g,
    (θ_run Cert.Reference12Ideal.defs _ _).mono (fun r H c => by
      obtain ⟨r0, k⟩ := H c
      obtain ⟨e0, e1⟩ := e c
      exact ⟨(r0.trans (val_main_v5_eq ..)).trans ((congr (congrArg _ e0) e1).trans (result m c).symm), k⟩)
    (Cert.Reference12Ideal.Value.run (F := Ideal) m' g')⟩

end Cert.GradInEq

end
-- ==== Proof.SumParts.Equation.lean ====
/-
  The sum of the eight devices' parts of a gradient: the kernel's result is the reference's.
-/
module

public import proofs.«01_k».proof.Defs
public import proofs.«01_k».proof.Proof.Norm.Blocks
public import proofs.«01_k».proof.Proof.Norm.Halves
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumPartsEq

open NormGrad Halves Cert.Kernel13Ideal Cert.Kernel13Ideal.Gen Cert.Reference13Ideal.Read

/-- The sum over the devices. -/
def total (p : FVec Ideal S8x256x1024 .bf16) : S256x1024.Idx → EReal := fun y => ∑ d : Fin 8, p (ix3 d (y 0) (y 1))

/-- The reference's result. -/
theorem ref_all (p : FVec Ideal S8x256x1024 .bf16) (R : Fin 256) (C : Fin 1024) :
    val_main_v1 (F := Ideal) p (ix2 R C) = total p (ix2 R C) := by
  pointwise [val_main_v1, val_main_v0, val_main_cst]
  rfl

/-- An entry of one device's part. -/
theorem part_apply (x : Vec Ideal S8x128x1024 .bf16) (d : Fin 8) (inb : ∀ a, (![d.val, 0, 0] : Fin 3 → ℕ) a + S1x128x1024.size a ≤ S8x128x1024.size a) (r : Fin 128) (C : Fin 1024) :
    (View.ld x (Rect.unit (s := S8x128x1024) ![d.val, 0, 0] S1x128x1024.size inb) : Vec Ideal S1x128x1024 .bf16) (ix3 0 r C) = x (ix3 d r C) :=
  congrArg x (((ix3_eta _).symm).trans (congr (congrArg₂ ix3 (Fin.ext (show d.val + 1 * 0 = d.val by omega))
    (Fin.ext (show 0 + 1 * r.val = r.val by omega))) (Fin.ext (show 0 + 1 * C.val = C.val by omega))))

/-- A block of the kernel's result. -/
theorem pay_apply (p : Fin 8 → Vec Ideal S1x128x1024 .bf16) (r : Fin 128) (C : Fin 1024) :
    k0_pay1 (p 0) (p 1) (p 2) (p 3) (p 4) (p 5) (p 6) (p 7) (ix2 r C) = ∑ d : Fin 8, p d (ix3 0 r C) := by
  rw [Fin.sum_univ_eight]
  pointwise [k0_pay1]

variable (m : (ℓ : Loc nD τ sig) → Buf (Elt Ideal) ℓ) (c : Dev nD) (t : Fin cfg0.N)

theorem idx0 : win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0) t
theorem idx1 : win0_1.index t 0 = t.val ∧ win0_1.index t 1 = 0 :=
  (by decide +kernel : ∀ t : Fin grid0.N, win0_1.index t 0 = t.val ∧ win0_1.index t 1 = 0) t

theorem row_lt (r : Fin 128) : 128 * t.val + r.val < 256 := by
  have : t.val < 2 := lt_of_lt_of_eq t.isLt N_0
  omega

/-- An entry of a block of the middle axis. -/
theorem at_mid {t : ℕ} {f : Fin 3 → ℕ} (hf : f 0 = 0 ∧ f 1 = t ∧ f 2 = 0) (d : Fin 8) (r : Fin 128) (C : Fin 1024) (hb : 128 * t + r.val < 256)
    (y : S8x256x1024.Idx) (h0 : (y 0).val = f 0 * 8 + 1 * d.val) (h1 : (y 1).val = f 1 * 128 + 1 * r.val) (h2 : (y 2).val = f 2 * 1024 + 1 * C.val) :
    y = ix3 d ⟨128 * t + r.val, hb⟩ C :=
  ((ix3_eta y).symm).trans (congr (congrArg₂ ix3 (Fin.ext (by rw [h0, hf.1]; omega))
    (Fin.ext (by rw [h1, hf.2.1, one_mul, mul_comm]))) (Fin.ext (by rw [h2, hf.2.2]; omega)))

theorem row0 (d : Fin 8) (r : Fin 128) (C : Fin 1024) : (iblk m c 0 t : Vec Ideal S8x128x1024 .bf16) (ix3 d r C)
    = (m ((c : Thread nD τ).loc main_arg0) : FVec Ideal S8x256x1024 .bf16) (ix3 d ⟨128 * t.val + r.val, row_lt t r⟩ C) := by
  unfold iblk
  exact (View.read_apply ..).trans (congrArg (V m c main_arg0) (at_mid (idx0 t) d r C _ _ rfl rfl rfl))

/-- A point's block of the result. -/
theorem block (x : Vec Ideal S8x128x1024 .bf16) (r : Fin 128) (C : Fin 1024) : out0_1 x (ix2 r C) = ∑ d : Fin 8, x (ix3 d r C) := by
  have e : out0_1 x = k0_pay1 (View.ld x r0_0) (View.ld x r0_1) (View.ld x r0_2) (View.ld x r0_3) (View.ld x r0_4) (View.ld x r0_5) (View.ld x r0_6) (View.ld x r0_7) := by
    unfold out0_1
    rw [View.canon_unit_zero hz2]
  rw [e]
  refine (pay_apply ![View.ld x r0_0, View.ld x r0_1, View.ld x r0_2, View.ld x r0_3, View.ld x r0_4, View.ld x r0_5, View.ld x r0_6, View.ld x r0_7] r C).trans ?_
  rw [Fin.sum_univ_eight, Fin.sum_univ_eight]
  exact congr (congrArg _ (congr (congrArg _ (congr (congrArg _ (congr (congrArg _ (congr (congrArg _ (congr (congrArg _ (congr (congrArg _
    (part_apply x 0 _ r C)) (part_apply x 1 _ r C))) (part_apply x 2 _ r C))) (part_apply x 3 _ r C))) (part_apply x 4 _ r C)))
    (part_apply x 5 _ r C))) (part_apply x 6 _ r C))) (part_apply x 7 _ r C)

/-- The result. -/
theorem final : (dats m 0 c).arrAt 1 cfg0.N = total (m ((c : Thread nD τ).loc main_arg0)) :=
  (dats m 0 c).arrAt_eq_of_cover 1 (total (m ((c : Thread nD τ).loc main_arg0)))
    (fun t hf => by
      rw [Value.flushed1]
      funext y
      obtain ⟨r, C, rfl⟩ : ∃ (r : Fin 128) (C : Fin 1024), y = ix2 r C := ⟨y 0, y 1, (ix2_eta y).symm⟩
      refine Eq.trans ((block _ r C).trans (Finset.sum_congr rfl fun d _ => row0 m c t d r C)) ?_
      rw [View.read_apply]
      exact congrArg (total (m ((c : Thread nD τ).loc main_arg0))) (at_rows (idx1 t) r C (row_lt t r) _ rfl rfl).symm)
    fun i => by
      have h0 : (i 0).val < 256 := (i 0).isLt
      let t : Fin cfg0.N := ⟨(i 0).val / 128, by rw [show cfg0.N = 2 from N_0]; omega⟩
      refine ⟨t, flush0_1 t, ?_⟩
      show i ∈ ((View.whole main_v0).slice (win0_1.rect t)).set
      rw [View.set_slice_whole, Rect.mem_set_unit]
      exact mem_rows (n := 128) (by norm_num) i (idx1 t)

/-- The kernel's result over the launched argument is the reference's. -/
theorem result : (dats m 0 c).arrAt 1 cfg0.N = val_main_v1 (F := Ideal) (m ((c : Thread nD τ).loc main_arg0)) := by
  rw [final]
  funext y
  obtain ⟨R, C, rfl⟩ : ∃ (R : Fin 256) (C : Fin 1024), y = ix2 R C := ⟨y 0, y 1, (ix2_eta y).symm⟩
  exact (ref_all _ R C).symm

/-- The reference runs, keeps its arguments and has no semaphore. -/
theorem frame_reference : Cert.quiescent_Reference13Ideal := fun m ρ _ =>
  (θ_run Cert.Reference13Ideal.defs _ _).mono (fun r h => ⟨fun c => (h c).2, sem_eq_zero_of_no_sems rfl r.2⟩)
    (Cert.Reference13Ideal.Value.run (F := Ideal) m ρ)

/-- The kernel's result is the reference's. -/
theorem value : Cert.algebraic_Kernel13Ideal_Reference13Ideal := fun m g m' g' _ e =>
  ⟨_, Cert.Kernel13Ideal.Value.run_blocks m g,
    (θ_run Cert.Reference13Ideal.defs _ _).mono (fun r H c => by
      obtain ⟨r0, k⟩ := H c
      have e0 := e c
      exact ⟨(r0.trans (val_main_v1_eq ..)).trans ((congrArg _ e0).trans (result m c).symm), k⟩)
    (Cert.Reference13Ideal.Value.run (F := Ideal) m' g')⟩

end Cert.SumPartsEq

end
-- ==== Proof.AdamW.Equation.lean ====
/-
  One step of the optimiser on a weight: the update and the two new moments are the reference's.
-/
module

public import proofs.«01_k».proof.Defs
public import proofs.«01_k».proof.Proof.Norm.Blocks
public import proofs.«01_k».proof.Proof.Norm.Halves
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamWEq

open NormGrad Halves Cert.Kernel14Ideal Cert.Kernel14Ideal.Gen Cert.Reference14Ideal.Read

/-! ## One entry -/

section
variable (x0 x1 x2 x3 : Vec Ideal S512x256 .f32) (y0 y1 y2 y3 : FVec Ideal S1024x256 .f32) (r : Fin 512) (R : Fin 1024) (C : Fin 256)
  (h0 : x0 (ix2 r C) = y0 (ix2 R C)) (h1 : x1 (ix2 r C) = y1 (ix2 R C)) (h2 : x2 (ix2 r C) = y2 (ix2 R C)) (h3 : x3 (ix2 r C) = y3 (ix2 R C))

include h1 h2 in
/-- The first moment. -/
theorem first : k0_pay1 x1 x2 (ix2 r C) = val_main_v4 (F := Ideal) y1 y2 (ix2 R C) := by
  pointwise [k0_pay1, val_main_v4, val_main_v3, val_main_v2, val_main_v1, val_main_v0, val_main_cst, val_main_cst_0]
  rw [h1, h2]

include h1 h3 in
/-- The second moment. -/
theorem second : k0_pay2 x1 x3 (ix2 r C) = val_main_v10 (F := Ideal) y1 y3 (ix2 R C) := by
  pointwise [k0_pay2, val_main_v10, val_main_v9, val_main_v8, val_main_v7, val_main_v6, val_main_v5, val_main_cst_1, val_main_cst_2]
  rw [h1, h3]

include h0 h1 h2 h3 in
/-- The update. -/
theorem update : k0_pay3 x1 x2 x3 x0 (ix2 r C) = val_main_v23 (F := Ideal) y0 y1 y2 y3 (ix2 R C) := by
  pointwise [k0_pay3, k0_pay1, k0_pay2, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [h0, h1, h2, h3]
end

/-! ## The arrays -/

variable (m : (ℓ : Loc nD τ sig) → Buf (Elt Ideal) ℓ) (c : Dev nD) (t : Fin cfg0.N)

theorem row_lt (r : Fin 512) : 512 * t.val + r.val < 1024 := by
  have : t.val < 2 := lt_of_lt_of_eq t.isLt N_0
  omega

theorem idx0 : win0_0.index t 0 = t.val ∧ win0_0.index t 1 = 0 :=
  (by decide +kernel : ∀ t : Fin grid0.N, win0_0.index t 0 = t.val ∧ win0_0.index t 1 = 0) t
theorem idx1 : win0_1.index t 0 = t.val ∧ win0_1.index t 1 = 0 :=
  (by decide +kernel : ∀ t : Fin grid0.N, win0_1.index t 0 = t.val ∧ win0_1.index t 1 = 0) t
theorem idx2 : win0_2.index t 0 = t.val ∧ win0_2.index t 1 = 0 :=
  (by decide +kernel : ∀ t : Fin grid0.N, win0_2.index t 0 = t.val ∧ win0_2.index t 1 = 0) t
theorem idx3 : win0_3.index t 0 = t.val ∧ win0_3.index t 1 = 0 :=
  (by decide +kernel : ∀ t : Fin grid0.N, win0_3.index t 0 = t.val ∧ win0_3.index t 1 = 0) t
theorem idx4 : win0_4.index t 0 = t.val ∧ win0_4.index t 1 = 0 :=
  (by decide +kernel : ∀ t : Fin grid0.N, win0_4.index t 0 = t.val ∧ win0_4.index t 1 = 0) t
theorem idx5 : win0_5.index t 0 = t.val ∧ win0_5.index t 1 = 0 :=
  (by decide +kernel : ∀ t : Fin grid0.N, win0_5.index t 0 = t.val ∧ win0_5.index t 1 = 0) t
theorem idx6 : win0_6.index t 0 = t.val ∧ win0_6.index t 1 = 0 :=
  (by decide +kernel : ∀ t : Fin grid0.N, win0_6.index t 0 = t.val ∧ win0_6.index t 1 = 0) t

theorem row0 (r : Fin 512) (C : Fin 256) : (iblk m c 0 t : Vec Ideal S512x256 .f32) (ix2 r C)
    = (m ((c : Thread nD τ).loc main_arg0) : FVec Ideal S1024x256 .f32) (ix2 ⟨512 * t.val + r.val, row_lt t r⟩ C) := by
  unfold iblk
  exact (View.read_apply ..).trans (congrArg (V m c main_arg0) (at_rows (idx0 t) r C _ _ rfl rfl))
theorem row1 (r : Fin 512) (C : Fin 256) : (iblk m c 1 t : Vec Ideal S512x256 .f32) (ix2 r C)
    = (m ((c : Thread nD τ).loc main_arg1) : FVec Ideal S1024x256 .f32) (ix2 ⟨512 * t.val + r.val, row_lt t r⟩ C) := by
  unfold iblk
  exact (View.read_apply ..).trans (congrArg (V m c main_arg1) (at_rows (idx1 t) r C _ _ rfl rfl))
theorem row2 (r : Fin 512) (C : Fin 256) : (iblk m c 2 t : Vec Ideal S512x256 .f32) (ix2 r C)
    = (m ((c : Thread nD τ).loc main_arg2) : FVec Ideal S1024x256 .f32) (ix2 ⟨512 * t.val + r.val, row_lt t r⟩ C) := by
  unfold iblk
  exact (View.read_apply ..).trans (congrArg (V m c main_arg2) (at_rows (idx2 t) r C _ _ rfl rfl))
theorem row3 (r : Fin 512) (C : Fin 256) : (iblk m c 3 t : Vec Ideal S512x256 .f32) (ix2 r C)
    = (m ((c : Thread nD τ).loc main_arg3) : FVec Ideal S1024x256 .f32) (ix2 ⟨512 * t.val + r.val, row_lt t r⟩ C) := by
  unfold iblk
  exact (View.read_apply ..).trans (congrArg (V m c main_arg3) (at_rows (idx3 t) r C _ _ rfl rfl))

theorem out4 : out0_4 (iblk m c 0 t) (iblk m c 1 t) (iblk m c 2 t) (iblk m c 3 t) = k0_pay3 (iblk m c 1 t) (iblk m c 2 t) (iblk m c 3 t) (iblk m c 0 t) := by
  unfold out0_4
  simp only [View.canon_unit_zero (S := S512x256) hz2, View.ld_unit_zero (S := S512x256) hz2]

theorem final4 : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) :=
  (dats m 0 c).arrAt_eq_of_cover 4 _
    (fun t hf => by
      rw [Value.flushed4]
      funext y
      obtain ⟨r, C, rfl⟩ : ∃ (r : Fin 512) (C : Fin 256), y = ix2 r C := ⟨y 0, y 1, (ix2_eta y).symm⟩
      refine Eq.trans ((congrFun (out4 m c t) (ix2 r C)).trans (update _ _ _ _ _ _ _ _ r _ C (row0 m c t r C) (row1 m c t r C) (row2 m c t r C) (row3 m c t r C))) ?_
      rw [View.read_apply]
      exact congrArg (val_main_v23 (F := Ideal) (m ((c : Thread nD τ).loc main_arg0)) (m ((c : Thread nD τ).loc main_arg1)) (m ((c : Thread nD τ).loc main_arg2)) (m ((c : Thread nD τ).loc main_arg3))) (at_rows (idx4 t) r C (row_lt t r) _ rfl rfl).symm)
    fun i => by
      have h0 : (i 0).val < 1024 := (i 0).isLt
      let t : Fin cfg0.N := ⟨(i 0).val / 512, by rw [show cfg0.N = 2 from N_0]; omega⟩
      refine ⟨t, flush0_4 t, ?_⟩
      show i ∈ ((View.whole main_v0_0).slice (win0_4.rect t)).set
      rw [View.set_slice_whole, Rect.mem_set_unit]
      exact mem_rows (n := 512) (by norm_num) i (idx4 t)

theorem out5 : out0_5 (iblk m c 0 t) (iblk m c 1 t) (iblk m c 2 t) (iblk m c 3 t) = k0_pay1 (iblk m c 1 t) (iblk m c 2 t) := by
  unfold out0_5
  simp only [View.canon_unit_zero (S := S512x256) hz2, View.ld_unit_zero (S := S512x256) hz2]

theorem final5 : (dats m 0 c).arrAt 5 cfg0.N = val_main_v4 (F := Ideal) (m ((c : Thread nD τ).loc main_arg1)) (m ((c : Thread nD τ).loc main_arg2)) :=
  (dats m 0 c).arrAt_eq_of_cover 5 _
    (fun t hf => by
      rw [Value.flushed5]
      funext y
      obtain ⟨r, C, rfl⟩ : ∃ (r : Fin 512) (C : Fin 256), y = ix2 r C := ⟨y 0, y 1, (ix2_eta y).symm⟩
      refine Eq.trans ((congrFun (out5 m c t) (ix2 r C)).trans (first _ _ _ _ r _ C (row1 m c t r C) (row2 m c t r C))) ?_
      rw [View.read_apply]
      exact congrArg (val_main_v4 (F := Ideal) (m ((c : Thread nD τ).loc main_arg1)) (m ((c : Thread nD τ).loc main_arg2))) (at_rows (idx5 t) r C (row_lt t r) _ rfl rfl).symm)
    fun i => by
      have h0 : (i 0).val < 1024 := (i 0).isLt
      let t : Fin cfg0.N := ⟨(i 0).val / 512, by rw [show cfg0.N = 2 from N_0]; omega⟩
      refine ⟨t, flush0_5 t, ?_⟩
      show i ∈ ((View.whole main_v0_1).slice (win0_5.rect t)).set
      rw [View.set_slice_whole, Rect.mem_set_unit]
      exact mem_rows (n := 512) (by norm_num) i (idx5 t)

theorem out6 : out0_6 (iblk m c 0 t) (iblk m c 1 t) (iblk m c 2 t) (iblk m c 3 t) = k0_pay2 (iblk m c 1 t) (iblk m c 3 t) := by
  unfold out0_6
  simp only [View.canon_unit_zero (S := S512x256) hz2, View.ld_unit_zero (S := S512x256) hz2]

theorem final6 : (dats m 0 c).arrAt 6 cfg0.N = val_main_v10 (F := Ideal) (m ((c : Thread nD τ).loc main_arg1)) (m ((c : Thread nD τ).loc main_arg3)) :=
  (dats m 0 c).arrAt_eq_of_cover 6 _
    (fun t hf => by
      rw [Value.flushed6]
      funext y
      obtain ⟨r, C, rfl⟩ : ∃ (r : Fin 512) (C : Fin 256), y = ix2 r C := ⟨y 0, y 1, (ix2_eta y).symm⟩
      refine Eq.trans ((congrFun (out6 m c t) (ix2 r C)).trans (second _ _ _ _ r _ C (row1 m c t r C) (row3 m c t r C))) ?_
      rw [View.read_apply]
      exact congrArg (val_main_v10 (F := Ideal) (m ((c : Thread nD τ).loc main_arg1)) (m ((c : Thread nD τ).loc main_arg3))) (at_rows (idx6 t) r C (row_lt t r) _ rfl rfl).symm)
    fun i => by
      have h0 : (i 0).val < 1024 := (i 0).isLt
      let t : Fin cfg0.N := ⟨(i 0).val / 512, by rw [show cfg0.N = 2 from N_0]; omega⟩
      refine ⟨t, flush0_6 t, ?_⟩
      show i ∈ ((View.whole main_v0_2).slice (win0_6.rect t)).set
      rw [View.set_slice_whole, Rect.mem_set_unit]
      exact mem_rows (n := 512) (by norm_num) i (idx6 t)

/-- The reference runs, keeps its arguments and has no semaphore. -/
theorem frame_reference : Cert.quiescent_Reference14Ideal := fun m ρ _ =>
  (θ_run Cert.Reference14Ideal.defs _ _).mono (fun r h => ⟨fun c => (h c).2.2.2, sem_eq_zero_of_no_sems rfl r.2⟩)
    (Cert.Reference14Ideal.Value.run (F := Ideal) m ρ)

/-- The kernel's results are the reference's. -/
theorem value : Cert.algebraic_Kernel14Ideal_Reference14Ideal := fun m g m' g' _ e =>
  ⟨_, _, _, Cert.Kernel14Ideal.Value.run_blocks m g,
    (θ_run Cert.Reference14Ideal.defs _ _).mono (fun r H c => by
      obtain ⟨r0, r1, r2, k⟩ := H c
      obtain ⟨e0, e1, e2, e3⟩ := e c
      refine ⟨?_, ?_, ?_, k⟩
      · exact (r0.trans (val_main_v23_eq ..)).trans ((congr (congr (congr (congrArg _ e0) e1) e2) e3).trans (final4 m c).symm)
      · exact (r1.trans (val_main_v4_eq ..)).trans ((congr (congrArg _ e1) e2).trans (final5 m c).symm)
      · exact (r2.trans (val_main_v10_eq ..)).trans ((congr (congrArg _ e1) e3).trans (final6 m c).symm))
    (Cert.Reference14Ideal.Value.run (F := Ideal) m' g')⟩

end Cert.AdamWEq

end
-- ==== Proof.Packed.Host.lean ====
/-
  The small weights, their gradients and moments, each packed into one array: the kernel's host lines.
-/
module

public import proofs.«01_k».proof.Defs
public import proofs.«01_k».proof.Proof.Norm.Blocks
public import proofs.«01_k».proof.Proof.Norm.Halves
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.Pipeline.Value
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PackedEq

open NormGrad Halves Cert.Kernel15Ideal Cert.Kernel15Ideal.Gen Cert.Reference15Ideal.Read

/-! ## The packing -/

/-- The small weights, or one moment or gradient of each. -/
structure Small where
  p0 : FVec Ideal S1x1024 .f32
  p1 : FVec Ideal S1x1024 .f32
  p2 : FVec Ideal S1x1024 .f32
  p3 : FVec Ideal S1x1024 .f32
  p4 : FVec Ideal S1x512 .f32
  p5 : FVec Ideal S1x5632 .f32
  p6 : FVec Ideal S1x4x128x128 .f32

/-- What fills the rows that no weight has. -/
def fill : IVec S_ 32 := constantI S_ 32 0#32
def zero : FVec Ideal S_ .f32 := sitofp .f32 fill

def rows8 (x : FVec Ideal S1x1024 .f32) : FVec Ideal S8x128 .f32 :=
  pad S8x128 ![0, 0] ![0, 0] ![0, 0] (shapeCast S8x128 x shapeCasts_S1x1024_S8x128) zero pads_S8x128_S8x128_000_000 h_S_
def rows4 (x : FVec Ideal S1x512 .f32) : FVec Ideal S8x128 .f32 :=
  pad S8x128 ![0, 0] ![4, 0] ![0, 0] (shapeCast S4x128 x shapeCasts_S1x512_S4x128) zero pads_S4x128_S8x128_040_000 h_S_
def rows44 (x : FVec Ideal S1x5632 .f32) : FVec Ideal S48x128 .f32 :=
  pad S48x128 ![0, 0] ![4, 0] ![0, 0] (shapeCast S44x128 x shapeCasts_S1x5632_S44x128) zero pads_S44x128_S48x128_040_000 h_S_
def rows512 (x : FVec Ideal S1x4x128x128 .f32) : FVec Ideal S512x128 .f32 :=
  pad S512x128 ![0, 0] ![0, 0] ![0, 0] (shapeCast S512x128 x shapeCasts_S1x4x128x128_S512x128) zero pads_S512x128_S512x128_000_000 h_S_

/-- Seven arrays one after another, each on rows of its own. -/
def pieces (a : Small) : List ((s : Shape) × (s.Idx → Ideal .f32)) :=
  [⟨S8x128, rows8 a.p0⟩, ⟨S8x128, rows8 a.p1⟩, ⟨S8x128, rows8 a.p2⟩, ⟨S8x128, rows8 a.p3⟩, ⟨S8x128, rows4 a.p4⟩, ⟨S48x128, rows44 a.p5⟩, ⟨S512x128, rows512 a.p6⟩]
def pack (a : Small) : FVec Ideal S600x128 .f32 :=
  concatenate S600x128 0 (pieces a) concatenates_S8x128_S8x128_S8x128_S8x128_S8x128_S48x128_S512x128_S600x128_d0

variable (m : (ℓ : Loc nD τ sig) → Buf (Elt Ideal) ℓ) (c : Dev nD)

abbrev aW : Small := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6)⟩
abbrev aG : Small := ⟨m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13)⟩
abbrev aM : Small := ⟨m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20)⟩
abbrev aV : Small := ⟨m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27)⟩

set_option maxHeartbeats 4000000 in
theorem prep0 : @Eq (Vec Ideal S600x128 .f32) (V m c main_v14) (pack (aW m c)) := by
  unfold_abbrev_sides
  simp only [List.flatten_cons, List.flatten_nil, List.append_nil, List.cons_append, List.nil_append]
  after_results
  rfl

set_option maxHeartbeats 4000000 in
theorem prep1 : @Eq (Vec Ideal S600x128 .f32) (V m c main_v29) (pack (aG m c)) := by
  unfold_abbrev_sides
  simp only [List.flatten_cons, List.flatten_nil, List.append_nil, List.cons_append, List.nil_append]
  after_results
  rfl

set_option maxHeartbeats 4000000 in
theorem prep2 : @Eq (Vec Ideal S600x128 .f32) (V m c main_v44) (pack (aM m c)) := by
  unfold_abbrev_sides
  simp only [List.flatten_cons, List.flatten_nil, List.append_nil, List.cons_append, List.nil_append]
  after_results
  rfl

set_option maxHeartbeats 4000000 in
theorem prep3 : @Eq (Vec Ideal S600x128 .f32) (V m c main_v59) (pack (aV m c)) := by
  unfold_abbrev_sides
  simp only [List.flatten_cons, List.flatten_nil, List.append_nil, List.cons_append, List.nil_append]
  after_results
  rfl

end Cert.PackedEq

end
-- ==== Proof.Packed.Equation.lean ====
/-
  One step of the optimiser on the small weights, packed into one array: each part of the update and of the new moments is
  that of its own weight.
-/
module

public import proofs.«01_k».proof.Defs
public import proofs.«01_k».proof.Proof.Packed.Host
public import proofs.«01_k».proof.Proof.Norm.Blocks
public import proofs.«01_k».proof.Proof.Norm.Halves
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.Pipeline.Value
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PackedEq

open NormGrad Halves Cert.Kernel15Ideal Cert.Kernel15Ideal.Gen Cert.Reference15Ideal.Read

/-! ## Where an entry comes from -/

/-- Where an entry of a packed array comes from. -/
inductive Src where
  | pad
  | p0 (i : S1x1024.Idx)
  | p1 (i : S1x1024.Idx)
  | p2 (i : S1x1024.Idx)
  | p3 (i : S1x1024.Idx)
  | p4 (i : S1x512.Idx)
  | p5 (i : S1x5632.Idx)
  | p6 (i : S1x4x128x128.Idx)

def Small.at (a : Small) : Src → Ideal .f32
  | .pad => zero (Shape.Idx.first h_S_)
  | .p0 i => a.p0 i
  | .p1 i => a.p1 i
  | .p2 i => a.p2 i
  | .p3 i => a.p3 i
  | .p4 i => a.p4 i
  | .p5 i => a.p5 i
  | .p6 i => a.p6 i

theorem pad_src {α : Type} {s t u : Shape} (lo hi interior : Fin s.rank → ℕ) (v : u.Idx → α) (h : s.Pads lo hi interior t) (hu : 0 < u.numel) (j : t.Idx) :
    (∃ i, ∀ x : s.Idx → α, pad t lo hi interior x v h hu j = x i) ∨ ∀ x : s.Idx → α, pad t lo hi interior x v h hu j = v (Shape.Idx.first hu) := by
  by_cases hin : ∀ a : Fin s.rank, lo a ≤ (j (a.cast h.1)).val ∧ ((j (a.cast h.1)).val - lo a) % (interior a + 1) = 0
        ∧ ((j (a.cast h.1)).val - lo a) / (interior a + 1) < s.size a
  · exact .inl ⟨_, fun x => dif_pos hin⟩
  · exact .inr fun x => dif_neg hin

theorem rows8_src (j : S8x128.Idx) : (∃ i, ∀ x, rows8 x j = x i) ∨ ∀ x, rows8 x j = zero (Shape.Idx.first h_S_) :=
  (pad_src _ _ _ _ _ _ j).imp (fun ⟨i, h⟩ => ⟨Shape.reshapeEquiv shapeCasts_S1x1024_S8x128 i, fun x => h _⟩) fun h x => h _
theorem rows4_src (j : S8x128.Idx) : (∃ i, ∀ x, rows4 x j = x i) ∨ ∀ x, rows4 x j = zero (Shape.Idx.first h_S_) :=
  (pad_src _ _ _ _ _ _ j).imp (fun ⟨i, h⟩ => ⟨Shape.reshapeEquiv shapeCasts_S1x512_S4x128 i, fun x => h _⟩) fun h x => h _
theorem rows44_src (j : S48x128.Idx) : (∃ i, ∀ x, rows44 x j = x i) ∨ ∀ x, rows44 x j = zero (Shape.Idx.first h_S_) :=
  (pad_src _ _ _ _ _ _ j).imp (fun ⟨i, h⟩ => ⟨Shape.reshapeEquiv shapeCasts_S1x5632_S44x128 i, fun x => h _⟩) fun h x => h _
theorem rows512_src (j : S512x128.Idx) : (∃ i, ∀ x, rows512 x j = x i) ∨ ∀ x, rows512 x j = zero (Shape.Idx.first h_S_) :=
  (pad_src _ _ _ _ _ _ j).imp (fun ⟨i, h⟩ => ⟨Shape.reshapeEquiv shapeCasts_S1x4x128x128_S512x128 i, fun x => h _⟩) fun h x => h _

theorem piece0 (a : Small) (R : Fin 600) (C : Fin 128) (r : Fin 8) (h : 0 + r.val = R.val) : pack a (ix2 R C) = rows8 a.p0 (ix2 r C) :=
  concatenate_apply_piece (0 : Fin S600x128.rank) (pieces a) _ (ix2 R C) 0 (by show 0 < 7; omega) S8x128 (rows8 a.p0) rfl rfl 0 rfl (ix2 r C)
    (fun b hb => by
      match b with
      | ⟨0, _⟩ => exact absurd rfl hb
      | ⟨1, _⟩ => rfl)
    h

theorem piece1 (a : Small) (R : Fin 600) (C : Fin 128) (r : Fin 8) (h : 8 + r.val = R.val) : pack a (ix2 R C) = rows8 a.p1 (ix2 r C) :=
  concatenate_apply_piece (0 : Fin S600x128.rank) (pieces a) _ (ix2 R C) 1 (by show 1 < 7; omega) S8x128 (rows8 a.p1) rfl rfl 8 rfl (ix2 r C)
    (fun b hb => by
      match b with
      | ⟨0, _⟩ => exact absurd rfl hb
      | ⟨1, _⟩ => rfl)
    h

theorem piece2 (a : Small) (R : Fin 600) (C : Fin 128) (r : Fin 8) (h : 16 + r.val = R.val) : pack a (ix2 R C) = rows8 a.p2 (ix2 r C) :=
  concatenate_apply_piece (0 : Fin S600x128.rank) (pieces a) _ (ix2 R C) 2 (by show 2 < 7; omega) S8x128 (rows8 a.p2) rfl rfl 16 rfl (ix2 r C)
    (fun b hb => by
      match b with
      | ⟨0, _⟩ => exact absurd rfl hb
      | ⟨1, _⟩ => rfl)
    h

theorem piece3 (a : Small) (R : Fin 600) (C : Fin 128) (r : Fin 8) (h : 24 + r.val = R.val) : pack a (ix2 R C) = rows8 a.p3 (ix2 r C) :=
  concatenate_apply_piece (0 : Fin S600x128.rank) (pieces a) _ (ix2 R C) 3 (by show 3 < 7; omega) S8x128 (rows8 a.p3) rfl rfl 24 rfl (ix2 r C)
    (fun b hb => by
      match b with
      | ⟨0, _⟩ => exact absurd rfl hb
      | ⟨1, _⟩ => rfl)
    h

theorem piece4 (a : Small) (R : Fin 600) (C : Fin 128) (r : Fin 8) (h : 32 + r.val = R.val) : pack a (ix2 R C) = rows4 a.p4 (ix2 r C) :=
  concatenate_apply_piece (0 : Fin S600x128.rank) (pieces a) _ (ix2 R C) 4 (by show 4 < 7; omega) S8x128 (rows4 a.p4) rfl rfl 32 rfl (ix2 r C)
    (fun b hb => by
      match b with
      | ⟨0, _⟩ => exact absurd rfl hb
      | ⟨1, _⟩ => rfl)
    h

theorem piece5 (a : Small) (R : Fin 600) (C : Fin 128) (r : Fin 48) (h : 40 + r.val = R.val) : pack a (ix2 R C) = rows44 a.p5 (ix2 r C) :=
  concatenate_apply_piece (0 : Fin S600x128.rank) (pieces a) _ (ix2 R C) 5 (by show 5 < 7; omega) S48x128 (rows44 a.p5) rfl rfl 40 rfl (ix2 r C)
    (fun b hb => by
      match b with
      | ⟨0, _⟩ => exact absurd rfl hb
      | ⟨1, _⟩ => rfl)
    h

theorem piece6 (a : Small) (R : Fin 600) (C : Fin 128) (r : Fin 512) (h : 88 + r.val = R.val) : pack a (ix2 R C) = rows512 a.p6 (ix2 r C) :=
  concatenate_apply_piece (0 : Fin S600x128.rank) (pieces a) _ (ix2 R C) 6 (by show 6 < 7; omega) S512x128 (rows512 a.p6) rfl rfl 88 rfl (ix2 r C)
    (fun b hb => by
      match b with
      | ⟨0, _⟩ => exact absurd rfl hb
      | ⟨1, _⟩ => rfl)
    h

/-- Every entry of a packed array comes from one place, whatever the arrays. -/
theorem pack_src (R : Fin 600) (C : Fin 128) : ∃ s, ∀ a, pack a (ix2 R C) = a.at s := by
  by_cases h0 : R.val < 8
  · rcases rows8_src (ix2 (⟨R.val - 0, by omega⟩ : Fin 8) C) with ⟨i, hi⟩ | hi
    · exact ⟨.p0 i, fun a => (piece0 a R C _ (by show 0 + (R.val - 0) = R.val; omega)).trans (hi _)⟩
    · exact ⟨.pad, fun a => (piece0 a R C _ (by show 0 + (R.val - 0) = R.val; omega)).trans (hi _)⟩
  by_cases h1 : R.val < 16
  · rcases rows8_src (ix2 (⟨R.val - 8, by omega⟩ : Fin 8) C) with ⟨i, hi⟩ | hi
    · exact ⟨.p1 i, fun a => (piece1 a R C _ (by show 8 + (R.val - 8) = R.val; omega)).trans (hi _)⟩
    · exact ⟨.pad, fun a => (piece1 a R C _ (by show 8 + (R.val - 8) = R.val; omega)).trans (hi _)⟩
  by_cases h2 : R.val < 24
  · rcases rows8_src (ix2 (⟨R.val - 16, by omega⟩ : Fin 8) C) with ⟨i, hi⟩ | hi
    · exact ⟨.p2 i, fun a => (piece2 a R C _ (by show 16 + (R.val - 16) = R.val; omega)).trans (hi _)⟩
    · exact ⟨.pad, fun a => (piece2 a R C _ (by show 16 + (R.val - 16) = R.val; omega)).trans (hi _)⟩
  by_cases h3 : R.val < 32
  · rcases rows8_src (ix2 (⟨R.val - 24, by omega⟩ : Fin 8) C) with ⟨i, hi⟩ | hi
    · exact ⟨.p3 i, fun a => (piece3 a R C _ (by show 24 + (R.val - 24) = R.val; omega)).trans (hi _)⟩
    · exact ⟨.pad, fun a => (piece3 a R C _ (by show 24 + (R.val - 24) = R.val; omega)).trans (hi _)⟩
  by_cases h4 : R.val < 40
  · rcases rows4_src (ix2 (⟨R.val - 32, by omega⟩ : Fin 8) C) with ⟨i, hi⟩ | hi
    · exact ⟨.p4 i, fun a => (piece4 a R C _ (by show 32 + (R.val - 32) = R.val; omega)).trans (hi _)⟩
    · exact ⟨.pad, fun a => (piece4 a R C _ (by show 32 + (R.val - 32) = R.val; omega)).trans (hi _)⟩
  by_cases h5 : R.val < 88
  · rcases rows44_src (ix2 (⟨R.val - 40, by omega⟩ : Fin 48) C) with ⟨i, hi⟩ | hi
    · exact ⟨.p5 i, fun a => (piece5 a R C _ (by show 40 + (R.val - 40) = R.val; omega)).trans (hi _)⟩
    · exact ⟨.pad, fun a => (piece5 a R C _ (by show 40 + (R.val - 40) = R.val; omega)).trans (hi _)⟩
  rcases rows512_src (ix2 (⟨R.val - 88, by omega⟩ : Fin 512) C) with ⟨i, hi⟩ | hi
  · exact ⟨.p6 i, fun a => (piece6 a R C _ (by show 88 + (R.val - 88) = R.val; omega)).trans (hi _)⟩
  · exact ⟨.pad, fun a => (piece6 a R C _ (by show 88 + (R.val - 88) = R.val; omega)).trans (hi _)⟩

/-! ## One entry's step -/

def mom (g m : Ideal .f32) : Ideal .f32 := FloatOps.addf (FloatOps.mulf (Scalar.ofBits .f32 0x3F666666#32) m) (FloatOps.mulf (Scalar.ofBits .f32 0x3DCCCCCD#32) g)
def sqr (g v : Ideal .f32) : Ideal .f32 := FloatOps.addf (FloatOps.mulf (Scalar.ofBits .f32 0x3F7FBE77#32) v) (FloatOps.mulf (Scalar.ofBits .f32 0x3A83126F#32) (FloatOps.mulf g g))
def upd (w g m v : Ideal .f32) : Ideal .f32 :=
  FloatOps.mulf (Scalar.ofBits .f32 0xBA83126F#32) (FloatOps.addf
    (FloatOps.divf (FloatOps.divf (mom g m) (Scalar.ofBits .f32 0x3F26BD02#32))
      (FloatOps.addf (FloatOps.sqrt (FloatOps.divf (sqr g v) (Scalar.ofBits .f32 0x3C231ACC#32))) (Scalar.ofBits .f32 0x322BCC77#32)))
    (FloatOps.mulf (Scalar.ofBits .f32 0x3C23D70A#32) w))

theorem zero_eq (i : S_.Idx) : zero i = (0 : EReal) := by
  show ((((0#32 : BitVec 32).toInt : ℤ) : ℝ) : EReal) = 0
  norm_num

theorem mom_zero : mom (0 : EReal) (0 : EReal) = (0 : EReal) := by
  show (_ : EReal) * 0 + _ * 0 = 0
  rw [mul_zero, mul_zero, add_zero]
theorem sqr_zero : sqr (0 : EReal) (0 : EReal) = (0 : EReal) := by
  show (_ : EReal) * 0 + _ * (0 * 0) = 0
  rw [mul_zero, mul_zero, mul_zero, add_zero]
theorem word17 : Ideal.ofBits .f32 0x3F26BD02#32 = ((10927362 / 2 ^ 24 : ℝ) : EReal) := by
  simp [Ideal.ofBits, Ideal.ieee, -EReal.coe_mul]; norm_num
theorem word19 : Ideal.ofBits .f32 0x3C231ACC#32 = ((10689228 / 2 ^ 30 : ℝ) : EReal) := by
  simp [Ideal.ofBits, Ideal.ieee, -EReal.coe_mul]; norm_num
theorem word22 : Ideal.ofBits .f32 0x322BCC77#32 = ((11258999 / 2 ^ 50 : ℝ) : EReal) := by
  simp [Ideal.ofBits, Ideal.ieee, -EReal.coe_mul]; norm_num
theorem real_ne {r : ℝ} (h : r ≠ 0) : (r : EReal) ≠ 0 := by exact_mod_cast h
theorem div_zero_left {x : EReal} (h : x ≠ 0) : Ideal.div 0 x = 0 := by
  unfold Ideal.div
  rw [if_neg h, zero_mul]
theorem sqrt_zero : Ideal.sqrt 0 = 0 := by
  show (if (0 : ℝ) < 0 then (⊥ : EReal) else ((Real.sqrt 0 : ℝ) : EReal)) = 0
  simp
theorem upd_zero : upd (0 : EReal) (0 : EReal) (0 : EReal) (0 : EReal) = (0 : EReal) := by
  unfold upd
  rw [mom_zero, sqr_zero]
  show Ideal.ofBits .f32 0xBA83126F#32 * (Ideal.div (Ideal.div 0 (Ideal.ofBits .f32 0x3F26BD02#32))
      (Ideal.sqrt (Ideal.div 0 (Ideal.ofBits .f32 0x3C231ACC#32)) + Ideal.ofBits .f32 0x322BCC77#32) + Ideal.ofBits .f32 0x3C23D70A#32 * 0) = 0
  rw [word17, word19, word22, div_zero_left (real_ne (by norm_num)), div_zero_left (real_ne (by norm_num)), sqrt_zero, zero_add,
    div_zero_left (real_ne (by norm_num)), mul_zero, add_zero, mul_zero]

theorem mom_ref0 (g m : FVec Ideal S1x1024 .f32) (i : S1x1024.Idx) : val_main_v4 (F := Ideal) g m i = mom (g i) (m i) := rfl
theorem mom_ref1 (g m : FVec Ideal S1x1024 .f32) (i : S1x1024.Idx) : val_main_v28 (F := Ideal) g m i = mom (g i) (m i) := rfl
theorem mom_ref2 (g m : FVec Ideal S1x1024 .f32) (i : S1x1024.Idx) : val_main_v52 (F := Ideal) g m i = mom (g i) (m i) := rfl
theorem mom_ref3 (g m : FVec Ideal S1x1024 .f32) (i : S1x1024.Idx) : val_main_v76 (F := Ideal) g m i = mom (g i) (m i) := rfl
theorem mom_ref4 (g m : FVec Ideal S1x512 .f32) (i : S1x512.Idx) : val_main_v100 (F := Ideal) g m i = mom (g i) (m i) := rfl
theorem mom_ref5 (g m : FVec Ideal S1x5632 .f32) (i : S1x5632.Idx) : val_main_v124 (F := Ideal) g m i = mom (g i) (m i) := rfl
theorem mom_ref6 (g m : FVec Ideal S1x4x128x128 .f32) (i : S1x4x128x128.Idx) : val_main_v148 (F := Ideal) g m i = mom (g i) (m i) := rfl
theorem sqr_ref0 (g v : FVec Ideal S1x1024 .f32) (i : S1x1024.Idx) : val_main_v10 (F := Ideal) g v i = sqr (g i) (v i) := rfl
theorem sqr_ref1 (g v : FVec Ideal S1x1024 .f32) (i : S1x1024.Idx) : val_main_v34 (F := Ideal) g v i = sqr (g i) (v i) := rfl
theorem sqr_ref2 (g v : FVec Ideal S1x1024 .f32) (i : S1x1024.Idx) : val_main_v58 (F := Ideal) g v i = sqr (g i) (v i) := rfl
theorem sqr_ref3 (g v : FVec Ideal S1x1024 .f32) (i : S1x1024.Idx) : val_main_v82 (F := Ideal) g v i = sqr (g i) (v i) := rfl
theorem sqr_ref4 (g v : FVec Ideal S1x512 .f32) (i : S1x512.Idx) : val_main_v106 (F := Ideal) g v i = sqr (g i) (v i) := rfl
theorem sqr_ref5 (g v : FVec Ideal S1x5632 .f32) (i : S1x5632.Idx) : val_main_v130 (F := Ideal) g v i = sqr (g i) (v i) := rfl
theorem sqr_ref6 (g v : FVec Ideal S1x4x128x128 .f32) (i : S1x4x128x128.Idx) : val_main_v154 (F := Ideal) g v i = sqr (g i) (v i) := rfl
theorem upd_ref0 (w g m v : FVec Ideal S1x1024 .f32) (i : S1x1024.Idx) : val_main_v23 (F := Ideal) w g m v i = upd (w i) (g i) (m i) (v i) := rfl
theorem upd_ref1 (w g m v : FVec Ideal S1x1024 .f32) (i : S1x1024.Idx) : val_main_v47 (F := Ideal) w g m v i = upd (w i) (g i) (m i) (v i) := rfl
theorem upd_ref2 (w g m v : FVec Ideal S1x1024 .f32) (i : S1x1024.Idx) : val_main_v71 (F := Ideal) w g m v i = upd (w i) (g i) (m i) (v i) := rfl
theorem upd_ref3 (w g m v : FVec Ideal S1x1024 .f32) (i : S1x1024.Idx) : val_main_v95 (F := Ideal) w g m v i = upd (w i) (g i) (m i) (v i) := rfl
theorem upd_ref4 (w g m v : FVec Ideal S1x512 .f32) (i : S1x512.Idx) : val_main_v119 (F := Ideal) w g m v i = upd (w i) (g i) (m i) (v i) := rfl
theorem upd_ref5 (w g m v : FVec Ideal S1x5632 .f32) (i : S1x5632.Idx) : val_main_v143 (F := Ideal) w g m v i = upd (w i) (g i) (m i) (v i) := rfl
theorem upd_ref6 (w g m v : FVec Ideal S1x4x128x128 .f32) (i : S1x4x128x128.Idx) : val_main_v167 (F := Ideal) w g m v i = upd (w i) (g i) (m i) (v i) := rfl

/-- The reference's arrays. -/
def momAll (G M : Small) : Small := ⟨val_main_v4 (F := Ideal) G.p0 M.p0, val_main_v28 (F := Ideal) G.p1 M.p1, val_main_v52 (F := Ideal) G.p2 M.p2, val_main_v76 (F := Ideal) G.p3 M.p3, val_main_v100 (F := Ideal) G.p4 M.p4, val_main_v124 (F := Ideal) G.p5 M.p5, val_main_v148 (F := Ideal) G.p6 M.p6⟩
theorem mom_at (G M : Small) (s : Src) : (momAll G M).at s = mom (G.at s) (M.at s) := by
  cases s with
  | pad =>
    show zero _ = mom (zero _) (zero _)
    rw [zero_eq]
    exact mom_zero.symm
  | p0 i => exact mom_ref0 G.p0 M.p0 i
  | p1 i => exact mom_ref1 G.p1 M.p1 i
  | p2 i => exact mom_ref2 G.p2 M.p2 i
  | p3 i => exact mom_ref3 G.p3 M.p3 i
  | p4 i => exact mom_ref4 G.p4 M.p4 i
  | p5 i => exact mom_ref5 G.p5 M.p5 i
  | p6 i => exact mom_ref6 G.p6 M.p6 i
theorem pack_mom (G M : Small) (R : Fin 600) (C : Fin 128) : pack (momAll G M) (ix2 R C) = mom (pack G (ix2 R C)) (pack M (ix2 R C)) := by
  obtain ⟨s, h⟩ := pack_src R C
  simp only [h]
  exact mom_at G M s

/-- The reference's arrays. -/
def sqrAll (G V : Small) : Small := ⟨val_main_v10 (F := Ideal) G.p0 V.p0, val_main_v34 (F := Ideal) G.p1 V.p1, val_main_v58 (F := Ideal) G.p2 V.p2, val_main_v82 (F := Ideal) G.p3 V.p3, val_main_v106 (F := Ideal) G.p4 V.p4, val_main_v130 (F := Ideal) G.p5 V.p5, val_main_v154 (F := Ideal) G.p6 V.p6⟩
theorem sqr_at (G V : Small) (s : Src) : (sqrAll G V).at s = sqr (G.at s) (V.at s) := by
  cases s with
  | pad =>
    show zero _ = sqr (zero _) (zero _)
    rw [zero_eq]
    exact sqr_zero.symm
  | p0 i => exact sqr_ref0 G.p0 V.p0 i
  | p1 i => exact sqr_ref1 G.p1 V.p1 i
  | p2 i => exact sqr_ref2 G.p2 V.p2 i
  | p3 i => exact sqr_ref3 G.p3 V.p3 i
  | p4 i => exact sqr_ref4 G.p4 V.p4 i
  | p5 i => exact sqr_ref5 G.p5 V.p5 i
  | p6 i => exact sqr_ref6 G.p6 V.p6 i
theorem pack_sqr (G V : Small) (R : Fin 600) (C : Fin 128) : pack (sqrAll G V) (ix2 R C) = sqr (pack G (ix2 R C)) (pack V (ix2 R C)) := by
  obtain ⟨s, h⟩ := pack_src R C
  simp only [h]
  exact sqr_at G V s

/-- The reference's arrays. -/
def updAll (W G M V : Small) : Small := ⟨val_main_v23 (F := Ideal) W.p0 G.p0 M.p0 V.p0, val_main_v47 (F := Ideal) W.p1 G.p1 M.p1 V.p1, val_main_v71 (F := Ideal) W.p2 G.p2 M.p2 V.p2, val_main_v95 (F := Ideal) W.p3 G.p3 M.p3 V.p3, val_main_v119 (F := Ideal) W.p4 G.p4 M.p4 V.p4, val_main_v143 (F := Ideal) W.p5 G.p5 M.p5 V.p5, val_main_v167 (F := Ideal) W.p6 G.p6 M.p6 V.p6⟩
theorem upd_at (W G M V : Small) (s : Src) : (updAll W G M V).at s = upd (W.at s) (G.at s) (M.at s) (V.at s) := by
  cases s with
  | pad =>
    show zero _ = upd (zero _) (zero _) (zero _) (zero _)
    rw [zero_eq]
    exact upd_zero.symm
  | p0 i => exact upd_ref0 W.p0 G.p0 M.p0 V.p0 i
  | p1 i => exact upd_ref1 W.p1 G.p1 M.p1 V.p1 i
  | p2 i => exact upd_ref2 W.p2 G.p2 M.p2 V.p2 i
  | p3 i => exact upd_ref3 W.p3 G.p3 M.p3 V.p3 i
  | p4 i => exact upd_ref4 W.p4 G.p4 M.p4 V.p4 i
  | p5 i => exact upd_ref5 W.p5 G.p5 M.p5 V.p5 i
  | p6 i => exact upd_ref6 W.p6 G.p6 M.p6 V.p6 i
theorem pack_upd (W G M V : Small) (R : Fin 600) (C : Fin 128) : pack (updAll W G M V) (ix2 R C) = upd (pack W (ix2 R C)) (pack G (ix2 R C)) (pack M (ix2 R C)) (pack V (ix2 R C)) := by
  obtain ⟨s, h⟩ := pack_src R C
  simp only [h]
  exact upd_at W G M V s

section
variable (g m v w : Vec Ideal S600x128 .f32) (y : S600x128.Idx)
theorem pay2_apply : k0_pay2 g m y = mom (g y) (m y) := by
  simp only [k0_pay2, k0_pay1, shapeCast_self]
  rfl
theorem pay3_apply : k0_pay3 g v y = sqr (g y) (v y) := by
  simp only [k0_pay3, k0_pay1, shapeCast_self]
  rfl
theorem pay4_apply : k0_pay4 g m v w y = upd (w y) (g y) (m y) (v y) := by
  simp only [k0_pay4, k0_pay3, k0_pay2, k0_pay1, shapeCast_self]
  rfl
end

/-! ## The arrays -/

variable (m : (ℓ : Loc nD τ sig) → Buf (Elt Ideal) ℓ) (c : Dev nD) (t : Fin cfg0.N)

theorem idx0 : ∀ a, win0_0.index t a = 0 := (by decide +kernel : ∀ t : Fin grid0.N, ∀ a, win0_0.index t a = 0) t
theorem idx1 : ∀ a, win0_1.index t a = 0 := (by decide +kernel : ∀ t : Fin grid0.N, ∀ a, win0_1.index t a = 0) t
theorem idx2 : ∀ a, win0_2.index t a = 0 := (by decide +kernel : ∀ t : Fin grid0.N, ∀ a, win0_2.index t a = 0) t
theorem idx3 : ∀ a, win0_3.index t a = 0 := (by decide +kernel : ∀ t : Fin grid0.N, ∀ a, win0_3.index t a = 0) t
theorem idx4 : ∀ a, win0_4.index t a = 0 := (by decide +kernel : ∀ t : Fin grid0.N, ∀ a, win0_4.index t a = 0) t
theorem idx5 : ∀ a, win0_5.index t a = 0 := (by decide +kernel : ∀ t : Fin grid0.N, ∀ a, win0_5.index t a = 0) t
theorem idx6 : ∀ a, win0_6.index t a = 0 := (by decide +kernel : ∀ t : Fin grid0.N, ∀ a, win0_6.index t a = 0) t
theorem row0 (R : Fin 600) (C : Fin 128) : (iblk m c 0 t : Vec Ideal S600x128 .f32) (ix2 R C) = pack (aW m c) (ix2 R C) := by
  have e : (iblk m c 0 t : Vec Ideal S600x128 .f32) (ix2 R C) = (V m c main_v14 : Vec Ideal S600x128 .f32) (ix2 R C) := by
    unfold iblk
    exact (View.read_apply ..).trans (congrArg (V m c main_v14) (at_whole (idx0 t) R C _ rfl rfl))
  rw [e, prep0]
theorem row1 (R : Fin 600) (C : Fin 128) : (iblk m c 1 t : Vec Ideal S600x128 .f32) (ix2 R C) = pack (aG m c) (ix2 R C) := by
  have e : (iblk m c 1 t : Vec Ideal S600x128 .f32) (ix2 R C) = (V m c main_v29 : Vec Ideal S600x128 .f32) (ix2 R C) := by
    unfold iblk
    exact (View.read_apply ..).trans (congrArg (V m c main_v29) (at_whole (idx1 t) R C _ rfl rfl))
  rw [e, prep1]
theorem row2 (R : Fin 600) (C : Fin 128) : (iblk m c 2 t : Vec Ideal S600x128 .f32) (ix2 R C) = pack (aM m c) (ix2 R C) := by
  have e : (iblk m c 2 t : Vec Ideal S600x128 .f32) (ix2 R C) = (V m c main_v44 : Vec Ideal S600x128 .f32) (ix2 R C) := by
    unfold iblk
    exact (View.read_apply ..).trans (congrArg (V m c main_v44) (at_whole (idx2 t) R C _ rfl rfl))
  rw [e, prep2]
theorem row3 (R : Fin 600) (C : Fin 128) : (iblk m c 3 t : Vec Ideal S600x128 .f32) (ix2 R C) = pack (aV m c) (ix2 R C) := by
  have e : (iblk m c 3 t : Vec Ideal S600x128 .f32) (ix2 R C) = (V m c main_v59 : Vec Ideal S600x128 .f32) (ix2 R C) := by
    unfold iblk
    exact (View.read_apply ..).trans (congrArg (V m c main_v59) (at_whole (idx3 t) R C _ rfl rfl))
  rw [e, prep3]

theorem out4 : out0_4 (iblk m c 0 t) (iblk m c 1 t) (iblk m c 2 t) (iblk m c 3 t) = k0_pay4 (iblk m c 1 t) (iblk m c 2 t) (iblk m c 3 t) (iblk m c 0 t) := by
  unfold out0_4
  simp only [View.canon_unit_zero (S := S600x128) hz2, View.ld_unit_zero (S := S600x128) hz2]

theorem final4 : (dats m 0 c).arrAt 4 cfg0.N = pack (updAll (aW m c) (aG m c) (aM m c) (aV m c)) :=
  (dats m 0 c).arrAt_eq_of_cover 4 _
    (fun t hf => by
      rw [Value.flushed4]
      funext y
      obtain ⟨R, C, rfl⟩ : ∃ (R : Fin 600) (C : Fin 128), y = ix2 R C := ⟨y 0, y 1, (ix2_eta y).symm⟩
      refine Eq.trans ((congrFun (out4 m c t) (ix2 R C)).trans (pay4_apply _ _ _ _ _)) ?_
      rw [row0, row1, row2, row3, ← pack_upd, View.read_apply]
      exact congrArg (pack (updAll (aW m c) (aG m c) (aM m c) (aV m c))) (at_whole (idx4 t) R C _ rfl rfl).symm)
    fun i => by
      let t : Fin cfg0.N := ⟨0, by rw [show cfg0.N = 1 from N_0]; omega⟩
      refine ⟨t, flush0_4 t, ?_⟩
      show i ∈ ((View.whole main_v60_0).slice (win0_4.rect t)).set
      rw [View.set_slice_whole, Rect.mem_set_unit]
      exact mem_whole i (idx4 t)

theorem out5 : out0_5 (iblk m c 0 t) (iblk m c 1 t) (iblk m c 2 t) (iblk m c 3 t) = k0_pay2 (iblk m c 1 t) (iblk m c 2 t) := by
  unfold out0_5
  simp only [View.canon_unit_zero (S := S600x128) hz2, View.ld_unit_zero (S := S600x128) hz2]

theorem final5 : (dats m 0 c).arrAt 5 cfg0.N = pack (momAll (aG m c) (aM m c)) :=
  (dats m 0 c).arrAt_eq_of_cover 5 _
    (fun t hf => by
      rw [Value.flushed5]
      funext y
      obtain ⟨R, C, rfl⟩ : ∃ (R : Fin 600) (C : Fin 128), y = ix2 R C := ⟨y 0, y 1, (ix2_eta y).symm⟩
      refine Eq.trans ((congrFun (out5 m c t) (ix2 R C)).trans (pay2_apply _ _ _)) ?_
      rw [row1, row2, ← pack_mom, View.read_apply]
      exact congrArg (pack (momAll (aG m c) (aM m c))) (at_whole (idx5 t) R C _ rfl rfl).symm)
    fun i => by
      let t : Fin cfg0.N := ⟨0, by rw [show cfg0.N = 1 from N_0]; omega⟩
      refine ⟨t, flush0_5 t, ?_⟩
      show i ∈ ((View.whole main_v60_1).slice (win0_5.rect t)).set
      rw [View.set_slice_whole, Rect.mem_set_unit]
      exact mem_whole i (idx5 t)

theorem out6 : out0_6 (iblk m c 0 t) (iblk m c 1 t) (iblk m c 2 t) (iblk m c 3 t) = k0_pay3 (iblk m c 1 t) (iblk m c 3 t) := by
  unfold out0_6
  simp only [View.canon_unit_zero (S := S600x128) hz2, View.ld_unit_zero (S := S600x128) hz2]

theorem final6 : (dats m 0 c).arrAt 6 cfg0.N = pack (sqrAll (aG m c) (aV m c)) :=
  (dats m 0 c).arrAt_eq_of_cover 6 _
    (fun t hf => by
      rw [Value.flushed6]
      funext y
      obtain ⟨R, C, rfl⟩ : ∃ (R : Fin 600) (C : Fin 128), y = ix2 R C := ⟨y 0, y 1, (ix2_eta y).symm⟩
      refine Eq.trans ((congrFun (out6 m c t) (ix2 R C)).trans (pay3_apply _ _ _)) ?_
      rw [row1, row3, ← pack_sqr, View.read_apply]
      exact congrArg (pack (sqrAll (aG m c) (aV m c))) (at_whole (idx6 t) R C _ rfl rfl).symm)
    fun i => by
      let t : Fin cfg0.N := ⟨0, by rw [show cfg0.N = 1 from N_0]; omega⟩
      refine ⟨t, flush0_6 t, ?_⟩
      show i ∈ ((View.whole main_v60_2).slice (win0_6.rect t)).set
      rw [View.set_slice_whole, Rect.mem_set_unit]
      exact mem_whole i (idx6 t)

theorem ref4 : val_main_v182 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) = pack (updAll (aW m c) (aG m c) (aM m c) (aV m c)) := rfl

theorem ref5 : val_main_v197 (F := Ideal) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) = pack (momAll (aG m c) (aM m c)) := rfl

theorem ref6 : val_main_v212 (F := Ideal) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) = pack (sqrAll (aG m c) (aV m c)) := rfl

/-- The reference runs, keeps its arguments and has no semaphore. -/
theorem frame_reference : Cert.quiescent_Reference15Ideal := fun m ρ _ =>
  (θ_run Cert.Reference15Ideal.defs _ _).mono (fun r h => ⟨fun c => (h c).2.2.2, sem_eq_zero_of_no_sems rfl r.2⟩)
    (Cert.Reference15Ideal.Value.run (F := Ideal) m ρ)

/-- The kernel's results are the reference's. -/
theorem value : Cert.algebraic_Kernel15Ideal_Reference15Ideal := fun m g m' g' _ e =>
  ⟨_, _, _, Cert.Kernel15Ideal.Value.run_blocks m g,
    (θ_run Cert.Reference15Ideal.defs _ _).mono (fun r H c => by
      obtain ⟨r0, r1, r2, k⟩ := H c
      obtain ⟨e0, e1, e2, e3, e4, e5, e6, e7, e8, e9, e10, e11, e12, e13, e14, e15, e16, e17, e18, e19, e20, e21, e22, e23, e24, e25, e26, e27⟩ := e c
      refine ⟨?_, ?_, ?_, k⟩
      · exact (r0.trans (val_main_v182_eq ..)).trans ((congr (congr (congr (congr (congr (congr (congr (congr (congr (congr (congr (congr (congr (congr (congr (congr (congr (congr (congr (congr (congr (congr (congr (congr (congr (congr (congr (congrArg _ e0) e1) e2) e3) e4) e5) e6) e7) e8) e9) e10) e11) e12) e13) e14) e15) e16) e17) e18) e19) e20) e21) e22) e23) e24) e25) e26) e27).trans ((ref4 m c).trans (final4 m c).symm))
      · exact (r1.trans (val_main_v197_eq ..)).trans ((congr (congr (congr (congr (congr (congr (congr (congr (congr (congr (congr (congr (congr (congrArg _ e7) e8) e9) e10) e11) e12) e13) e14) e15) e16) e17) e18) e19) e20).trans ((ref5 m c).trans (final5 m c).symm))
      · exact (r2.trans (val_main_v212_eq ..)).trans ((congr (congr (congr (congr (congr (congr (congr (congr (congr (congr (congr (congr (congr (congrArg _ e7) e8) e9) e10) e11) e12) e13) e21) e22) e23) e24) e25) e26) e27).trans ((ref6 m c).trans (final6 m c).symm)))
    (Cert.Reference15Ideal.Value.run (F := Ideal) m' g')⟩

end Cert.PackedEq

end
-- ==== Proof.UpGlu.Run.lean ====
module

public import proofs.«01_k».proof.Proof.Norm.Blocks
public import proofs.«01_k».proof.Proof.Gen.Kernel16Ideal.Frame
public import proofs.«01_k».proof.Proof.Gen.Kernel16Ideal.Skeleton
public import proofs.«01_k».proof.Proof.Gen.Kernel16Ideal.Points
public import proofs.«01_k».proof.Proof.Gen.Kernel16Ideal.Launch
public import Idealize.ShloMosaic.Lib.Pipeline.FrameBody
public import Idealize.ShloMosaic.Lib.Ring
public import Idealize.ShloMosaic.Lib.Pipeline.Value
public import Idealize.ShloMosaic.Lib.WritesUnit
public import Idealize.ShloMosaic.Lib.Tactic

@[expose] public section

set_option maxRecDepth 16384

noncomputable section

namespace Cert.UpGlu

open Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! What one point of the grid of the gated projection's kernel leaves: a block of 2048 rows is worked on in eight tiles of 256,
each convolved with the eight rows before it, and the last tile's last eight rows are put by for the block of rows below. -/

theorem inbX (s : Fin 8) : ∀ a, (![256 * s.val, 0] : Fin 2 → ℕ) a + S256x1024.size a ≤ S2048x1024.size a := fun a => by
  match a with
  | ⟨0, _⟩ => show 256 * s.val + 256 ≤ 2048; omega
  | ⟨1, _⟩ => show 0 + 1024 ≤ 1024; omega
theorem inbY (s : Fin 8) : ∀ a, (![256 * s.val, 0] : Fin 2 → ℕ) a + S256x256.size a ≤ S2048x256.size a := fun a => by
  match a with
  | ⟨0, _⟩ => show 256 * s.val + 256 ≤ 2048; omega
  | ⟨1, _⟩ => show 0 + 256 ≤ 256; omega

/-- The block two stores of a tile's height would meet in. -/
def piece (f : Fin 8 → Vec F S256x256 .bf16) (s : Fin 8) : View.Piece (Elt F) S2048x256 .bf16 :=
  ⟨Rect.unit (s := S2048x256) ![256 * s.val, 0] S256x256.size (inbY s), f s⟩
/-- The block of eight tiles. -/
def tiles (f : Fin 8 → Vec F S256x256 .bf16) : Vec F S2048x256 .bf16 :=
  View.canon [piece f 7, piece f 6, piece f 5, piece f 4, piece f 3, piece f 2, piece f 1, piece f 0]

section
variable (x0 : Vec F S2048x1024 .bf16) (x1 x2 : Vec F S256x1024 .bf16) (x3 x4 : Vec F S3x256 .f32) (x5 x6 : Vec F S1x256 .f32)

/-- A tile's product, gate and value side by side. -/
def prodT (s : Fin 8) : FVec F S256x512 .f32 :=
  k0_pay20 (k0_pay3 (View.ld x1 (Rect.unit (s := S256x1024) ![0, 0] S256x1024.size inb_S256x1024_S256x1024_0_0)) (View.ld x2 (Rect.unit (s := S256x1024) ![0, 0] S256x1024.size inb_S256x1024_S256x1024_0_0)))
    (View.ld x0 (Rect.unit (s := S2048x1024) ![256 * s.val, 0] S256x1024.size (inbX s)))
/-- Rounded. -/
def roundT (s : Fin 8) : FVec F S256x512 .bf16 := k0_pay19 (prodT x0 x1 x2 s)

/-- The eight rows before a tile: those given before the block's first, the tile before's last eight otherwise. -/
def before (h : FVec F S8x256 .f32) (f : Fin 8 → FVec F S8x256 .f32) (s : Fin 8) : FVec F S8x256 .f32 := match s with
  | 0 => h
  | 1 => f 0
  | 2 => f 1
  | 3 => f 2
  | 4 => f 3
  | 5 => f 4
  | 6 => f 5
  | 7 => f 6

/-- A tile's last eight rows, of the gate and of the value. -/
def endG (s : Fin 8) : FVec F S8x256 .f32 := k0_pay12 (roundT x0 x1 x2 s)
def endV (s : Fin 8) : FVec F S8x256 .f32 := k0_pay15 (roundT x0 x1 x2 s)

/-- A tile's convolved gate and value. -/
def convG (hg : FVec F S8x256 .f32) (s : Fin 8) : FVec F S256x256 .f32 :=
  k0_pay11 (View.ld x3 (Rect.unit (s := S3x256) ![0, 0] S3x256.size inb_S3x256_S3x256_0_0)) (View.ld x5 (Rect.unit (s := S1x256) ![0, 0] S1x256.size inb_S1x256_S1x256_0_0))
    (before hg (endG x0 x1 x2) s) (roundT x0 x1 x2 s)
def convV (hv : FVec F S8x256 .f32) (s : Fin 8) : FVec F S256x256 .f32 :=
  k0_pay14 (View.ld x4 (Rect.unit (s := S3x256) ![0, 0] S3x256.size inb_S3x256_S3x256_0_0)) (View.ld x6 (Rect.unit (s := S1x256) ![0, 0] S1x256.size inb_S1x256_S1x256_0_0))
    (before hv (endV x0 x1 x2) s) (roundT x0 x1 x2 s)

def out7 : Vec F S2048x256 .bf16 := tiles fun s => k0_pay21 (prodT x0 x1 x2 s)
def out8 : Vec F S2048x256 .bf16 := tiles fun s => k0_pay22 (prodT x0 x1 x2 s)
def out9 (hg : FVec F S8x256 .f32) : Vec F S2048x256 .bf16 := tiles fun s => k0_pay17 (convG x0 x1 x2 x3 x5 hg s)
def out10 (hv : FVec F S8x256 .f32) : Vec F S2048x256 .bf16 := tiles fun s => k0_pay17 (convV x0 x1 x2 x4 x6 hv s)
def out11 (hg hv : FVec F S8x256 .f32) : Vec F S2048x256 .bf16 := tiles fun s => k0_pay18 (convG x0 x1 x2 x3 x5 hg s) (convV x0 x1 x2 x4 x6 hv s)
end

/-- The buffer of rows put by, with a column block's rows replaced. -/
def putBy (i : grid0.Coords) (X : Vec F S11x2x8x256 .f32) (g v : FVec F S8x256 .f32) : Vec F S11x2x8x256 .f32 := fun y =>
  if (y 0).val = (i 1).val then (if (y 1).val = 0 then g (ix2 (y 2) (y 3)) else v (ix2 (y 2) (y 3))) else X y

/-- Eight stores over the tiles leave the block made of them. -/
theorem tiles_eq {sp : Space} (v : View sig .tc sp S2048x256 .bf16) (g : v.ty.Contents (Elt F)) (f : Fin 8 → Vec F S256x256 .bf16)
    (p0 p1 p2 p3 p4 p5 p6 p7 : Vec F S256x256 .bf16) (h0 : p0 = f 0) (h1 : p1 = f 1) (h2 : p2 = f 2) (h3 : p3 = f 3) (h4 : p4 = f 4) (h5 : p5 = f 5)
    (h6 : p6 = f 6) (h7 : p7 = f 7) :
    v.read (Elt F) (v.writes (Elt F) g [⟨Rect.unit (s := S2048x256) ![1792, 0] S256x256.size inb_S2048x256_S256x256_1792_0, p7⟩, ⟨Rect.unit (s := S2048x256) ![1536, 0] S256x256.size inb_S2048x256_S256x256_1536_0, p6⟩, ⟨Rect.unit (s := S2048x256) ![1280, 0] S256x256.size inb_S2048x256_S256x256_1280_0, p5⟩, ⟨Rect.unit (s := S2048x256) ![1024, 0] S256x256.size inb_S2048x256_S256x256_1024_0, p4⟩, ⟨Rect.unit (s := S2048x256) ![768, 0] S256x256.size inb_S2048x256_S256x256_768_0, p3⟩, ⟨Rect.unit (s := S2048x256) ![512, 0] S256x256.size inb_S2048x256_S256x256_512_0, p2⟩, ⟨Rect.unit (s := S2048x256) ![256, 0] S256x256.size inb_S2048x256_S256x256_256_0, p1⟩, ⟨Rect.unit (s := S2048x256) ![0, 0] S256x256.size inb_S2048x256_S256x256_0_0, p0⟩]) = tiles f := by
  refine (View.read_writes_eq_canon v g _ fun y =>
    View.cover_of_tiled [⟨Rect.unit (s := S2048x256) ![1792, 0] S256x256.size inb_S2048x256_S256x256_1792_0, p7⟩, ⟨Rect.unit (s := S2048x256) ![1536, 0] S256x256.size inb_S2048x256_S256x256_1536_0, p6⟩, ⟨Rect.unit (s := S2048x256) ![1280, 0] S256x256.size inb_S2048x256_S256x256_1280_0, p5⟩, ⟨Rect.unit (s := S2048x256) ![1024, 0] S256x256.size inb_S2048x256_S256x256_1024_0, p4⟩, ⟨Rect.unit (s := S2048x256) ![768, 0] S256x256.size inb_S2048x256_S256x256_768_0, p3⟩, ⟨Rect.unit (s := S2048x256) ![512, 0] S256x256.size inb_S2048x256_S256x256_512_0, p2⟩, ⟨Rect.unit (s := S2048x256) ![256, 0] S256x256.size inb_S2048x256_S256x256_256_0, p1⟩, ⟨Rect.unit (s := S2048x256) ![0, 0] S256x256.size inb_S2048x256_S256x256_0_0, p0⟩] S256x256.size (by rfl) y).trans ?_
  subst h0 h1 h2 h3 h4 h5 h6 h7
  rfl

theorem put_eq {sp : Space} (v : View sig .tc sp S11x2x8x256 .f32) (i : grid0.Coords) (f : v.ty.Contents (Elt F)) (g u : FVec F S8x256 .f32) :
    v.read (Elt F) (v.writes (Elt F) f [⟨Rect.unit (s := S11x2x8x256) (k0_off2 i) S1x1x8x256.size (k0_off2_inb i), k0_pay2 u⟩,
      ⟨Rect.unit (s := S11x2x8x256) (k0_off1 i) S1x1x8x256.size (k0_off1_inb i), k0_pay1 g⟩]) = putBy i (v.read (Elt F) f) g u := by
  have hc : ∀ (w : FVec F S8x256 .f32) (a : Fin 8) (b : Fin 256), k0_pay1 w (ix4 0 0 a b) = w (ix2 a b) := fun w a b => by
    pointwise [k0_pay1]
  funext y
  have h1 : (y 1).val < 2 := (y 1).isLt
  unfold putBy
  by_cases e0 : (y 0).val = (i 1).val
  · rw [if_pos e0]
    by_cases e1 : (y 1).val = 0
    · rw [if_pos e1, View.read_writes_cons_unit_of_not_mem v f (k0_off2_inb i) _ _ y (k0_off2_eq i) 1 (by left; rw [e1]; exact Nat.zero_lt_one),
        View.read_writes_cons_unit_of_mem v f (k0_off1_inb i) _ _ y (ix4 0 0 (y 2) (y 3)) (k0_off1_eq i) (fun a => by
          match a with
          | ⟨0, _⟩ => show (y 0).val = (i 1).val + 0; omega
          | ⟨1, _⟩ => show (y 1).val = 0 + 0; omega
          | ⟨2, _⟩ => show (y 2).val = 0 + (y 2).val; omega
          | ⟨3, _⟩ => show (y 3).val = 0 + (y 3).val; omega)]
      exact hc _ _ _
    · rw [if_neg e1, View.read_writes_cons_unit_of_mem v f (k0_off2_inb i) _ _ y (ix4 0 0 (y 2) (y 3)) (k0_off2_eq i) (fun a => by
          match a with
          | ⟨0, _⟩ => show (y 0).val = (i 1).val + 0; omega
          | ⟨1, _⟩ => show (y 1).val = 1 + 0; omega
          | ⟨2, _⟩ => show (y 2).val = 0 + (y 2).val; omega
          | ⟨3, _⟩ => show (y 3).val = 0 + (y 3).val; omega)]
      exact hc _ _ _
  · rw [if_neg e0, View.read_writes_cons_unit_of_not_mem v f (k0_off2_inb i) _ _ y (k0_off2_eq i) 0 (by
        show (y 0).val < (i 1).val ∨ (i 1).val + 1 ≤ (y 0).val; omega),
      View.read_writes_cons_unit_of_not_mem v f (k0_off1_inb i) _ _ y (k0_off1_eq i) 0 (by
        show (y 0).val < (i 1).val ∨ (i 1).val + 1 ≤ (y 0).val; omega), View.writes_nil]

set_option maxHeartbeats 4000000 in
/-- The body at one point, from the eight rows before its block. -/
theorem sound_kernel (c : Dev nD) (E : Set ℕ) (i : grid0.Coords) (arg2 : Memref sig .tc .vmem S2048x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S3x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S11x2x8x256 .f32) (harg14 : arg14.IsWhole)
    (x0 : Vec F S2048x1024 .bf16) (x1 x2 : Vec F S256x1024 .bf16) (x3 x4 : Vec F S3x256 .f32) (x5 x6 : Vec F S1x256 .f32) (X : Vec F S11x2x8x256 .f32)
    (hg hv : FVec F S8x256 .f32) (eg : k0_pay4 i (View.ld X (Rect.unit (s := S11x2x8x256) (k0_off1 i) S1x1x8x256.size (k0_off1_inb i))) = hg)
    (ev : k0_pay5 i (View.ld X (Rect.unit (s := S11x2x8x256) (k0_off2 i) S1x1x8x256.size (k0_off2_inb i))) = hv) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare X
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out7 x0 x1 x2) ∗ owns (c : Thread nD τ) arg10 fullShare (out8 x0 x1 x2) ∗ owns (c : Thread nD τ) arg11 fullShare (out9 x0 x1 x2 x3 x5 hg) ∗ owns (c : Thread nD τ) arg12 fullShare (out10 x0 x1 x2 x4 x6 hv) ∗ owns (c : Thread nD τ) arg13 fullShare (out11 x0 x1 x2 x3 x4 x5 x6 hg hv) ∗ owns (c : Thread nD τ) arg14 fullShare (putBy i X (endG x0 x1 x2 7) (endV x0 x1 x2 7))) -∗ K ⟨⟩))
      ⊢ wp frame (wpE (defs₀ (F := F)) Variants.none c none) E (cc0_ffn_up_glu i arg2 harg2 arg3 harg3 arg4 harg4 arg5 harg5 arg6 harg6 arg7 harg7 arg8 harg8 arg9 harg9 arg10 harg10 arg11 harg11 arg12 harg12 arg13 harg13 arg14 harg14) K := by
  simp only [cc0_ffn_up_glu_eq_skeleton]; unfold cc0_ffn_up_glu_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs, %hfs, HS⟩, Hk⟩
  subst hf0 hf1 hf2 hf3 hf4 hf5 hf6 hfs
  subst eg ev
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact tiles_eq _ _ _ _ _ _ _ _ _ _ _ rfl rfl rfl rfl rfl rfl rfl rfl
  isplitl [H8]
  · iexists _; isplitr
    swap; · iexact H8
    ipureintro
    exact tiles_eq _ _ _ _ _ _ _ _ _ _ _ rfl rfl rfl rfl rfl rfl rfl rfl
  isplitl [H9]
  · iexists _; isplitr
    swap; · iexact H9
    ipureintro
    exact tiles_eq _ _ _ _ _ _ _ _ _ _ _ rfl rfl rfl rfl rfl rfl rfl rfl
  isplitl [H10]
  · iexists _; isplitr
    swap; · iexact H10
    ipureintro
    exact tiles_eq _ _ _ _ _ _ _ _ _ _ _ rfl rfl rfl rfl rfl rfl rfl rfl
  isplitl [H11]
  · iexists _; isplitr
    swap; · iexact H11
    ipureintro
    exact tiles_eq _ _ _ _ _ _ _ _ _ _ _ rfl rfl rfl rfl rfl rfl rfl rfl
  iexists _; isplitr
  swap; · iexact HS
  ipureintro
  exact put_eq _ i _ _ _

end Cert.UpGlu

end
-- ==== Proof.UpGlu.Entries.lean ====
/-
  The entries of what one tile of the gated projection's kernel computes: the product, the convolution with the rows before,
  the gated value.
-/
module

public import proofs.«01_k».proof.Proof.UpGlu.Run
public import proofs.«01_k».proof.Proof.Norm.Halves
public import Idealize.ShloMosaic.Lib.Pointwise

@[expose] public section

set_option maxRecDepth 16384

noncomputable section

open Idealize.ShloMosaic Idealize.ShloMosaic.TcCoe Idealize.SL.Sem

namespace Cert.UpGlu

open Cert.Kernel16Ideal Cert.Kernel16Ideal.Gen NormGrad Halves

/-! ## A block of eight tiles -/

section
variable {F : FTy → Type} [FloatOps F]

/-- The block as a function of its index. -/
def stacked (f : Fin 8 → Vec F S256x256 .bf16) : Vec F S2048x256 .bf16 := fun y =>
  f ⟨(y 0).val / 256, by have : (y 0).val < 2048 := (y 0).isLt; omega⟩ (ix2 ⟨(y 0).val % 256, Nat.mod_lt _ (by omega)⟩ (y 1))

theorem stacked_emb (f : Fin 8 → Vec F S256x256 .bf16) (s : Fin 8) (x : S256x256.Idx) :
    stacked f ((Rect.unit (s := S2048x256) ![256 * s.val, 0] S256x256.size (inbY s)).emb x) = f s x := by
  have h0 : (x 0).val < 256 := (x 0).isLt
  have e0 : ((Rect.unit (s := S2048x256) ![256 * s.val, 0] S256x256.size (inbY s)).emb x 0).val = 256 * s.val + (x 0).val := by
    show 256 * s.val + 1 * (x 0).val = _; omega
  have e1 : (Rect.unit (s := S2048x256) ![256 * s.val, 0] S256x256.size (inbY s)).emb x 1 = x 1 := Fin.ext (by
    show 0 + 1 * (x 1).val = _; omega)
  unfold stacked
  congr 1
  · exact Fin.ext ((congrArg (· / 256) e0).trans (by dsimp only; omega))
  · funext a
    match a with
    | ⟨0, _⟩ => exact Fin.ext ((congrArg (· % 256) e0).trans (by show (256 * s.val + (x 0).val) % 256 = (x 0).val; omega))
    | ⟨1, _⟩ => exact e1

theorem tiles_stacked (f : Fin 8 → Vec F S256x256 .bf16) : tiles f = stacked f := by
  funext y
  have hy : (y 0).val < 2048 := (y 0).isLt
  have hk : (y 1).val < 256 := (y 1).isLt
  have hs : (y 0).val / 256 < 8 := by omega
  show View.canon (([7, 6, 5, 4, 3, 2, 1, 0] : List (Fin 8)).map (piece f)) y = _
  rw [← List.append_nil (List.map (piece f) _)]
  refine View.canon_append_of_piecesOf (stacked f) [] (([7, 6, 5, 4, 3, 2, 1, 0] : List (Fin 8)).map (piece f))
    ⟨fun x => (stacked_emb f 7 x).symm, fun x => (stacked_emb f 6 x).symm, fun x => (stacked_emb f 5 x).symm, fun x => (stacked_emb f 4 x).symm,
      fun x => (stacked_emb f 3 x).symm, fun x => (stacked_emb f 2 x).symm, fun x => (stacked_emb f 1 x).symm, fun x => (stacked_emb f 0 x).symm, trivial⟩ y
    ⟨piece f ⟨(y 0).val / 256, hs⟩, List.mem_map_of_mem (f := piece f) ?_, (Rect.mem_set_unit (inb := inbY ⟨(y 0).val / 256, hs⟩) ..).mpr fun a => ?_⟩
  · exact (by decide : ∀ s : Fin 8, s ∈ ([7, 6, 5, 4, 3, 2, 1, 0] : List (Fin 8))) _
  · match a with
    | ⟨0, _⟩ => show 256 * ((y 0).val / 256) ≤ (y 0).val ∧ (y 0).val < 256 * ((y 0).val / 256) + 256; omega
    | ⟨1, _⟩ => show 0 ≤ (y 1).val ∧ (y 1).val < 0 + 256; omega
end

/-! ## The product -/

theorem pay20_apply (v : FVec Ideal S512x1024 .bf16) (x : Vec Ideal S256x1024 .bf16) (r : Fin 256) (D : Fin 512) :
    k0_pay20 v x (ix2 r D) = ∑ k : Fin 1024, x (ix2 r k) * v (ix2 D k) := by
  pointwise [k0_pay20]

theorem pay3_left (a b : Vec Ideal S256x1024 .bf16) (C : Fin 256) (k : Fin 1024) : k0_pay3 a b (ix2 ⟨C.val, by omega⟩ k) = a (ix2 C k) := by
  unfold k0_pay3
  refine (concatenate_pair_apply_left 0 _ _ concatenates_S256x1024_S256x1024_S512x1024_d0 _ rfl (ix2 C k) fun b => ?_).trans (by pointwise [])
  match b with
  | ⟨0, _⟩ => rfl
  | ⟨1, _⟩ => rfl
theorem pay3_right (a b : Vec Ideal S256x1024 .bf16) (C : Fin 256) (k : Fin 1024) : k0_pay3 a b (ix2 ⟨256 + C.val, by omega⟩ k) = b (ix2 C k) := by
  unfold k0_pay3
  refine (concatenate_pair_apply_right 0 _ _ concatenates_S256x1024_S256x1024_S512x1024_d0 (ix2 ⟨256 + C.val, by omega⟩ k) rfl rfl (ix2 C k) (fun b hb => ?_)
    (show C.val + 256 = 256 + C.val from Nat.add_comm ..)).trans (by pointwise [])
  match b with
  | ⟨0, _⟩ => exact absurd rfl hb
  | ⟨1, _⟩ => rfl

section
variable (x0 : Vec Ideal S2048x1024 .bf16) (x1 x2 : Vec Ideal S256x1024 .bf16)

theorem prod_gate (s : Fin 8) (r C : Fin 256) : prodT x0 x1 x2 s (ix2 r ⟨C.val, by omega⟩)
    = ∑ k : Fin 1024, x0 (ix2 ⟨256 * s.val + r.val, by omega⟩ k) * x1 (ix2 C k) := by
  unfold prodT
  rw [View.ld_unit_zero (S := S256x1024) hz2, View.ld_unit_zero (S := S256x1024) hz2, pay20_apply]
  exact Finset.sum_congr rfl fun k _ => congrArg₂ (· * ·)
    (congrArg x0 (eq_ix2 _ (show 256 * s.val + 1 * r.val = 256 * s.val + r.val by omega) (show 0 + 1 * k.val = k.val by omega))) (pay3_left x1 x2 C k)
theorem prod_value (s : Fin 8) (r C : Fin 256) : prodT x0 x1 x2 s (ix2 r ⟨256 + C.val, by omega⟩)
    = ∑ k : Fin 1024, x0 (ix2 ⟨256 * s.val + r.val, by omega⟩ k) * x2 (ix2 C k) := by
  unfold prodT
  rw [View.ld_unit_zero (S := S256x1024) hz2, View.ld_unit_zero (S := S256x1024) hz2, pay20_apply]
  exact Finset.sum_congr rfl fun k _ => congrArg₂ (· * ·)
    (congrArg x0 (eq_ix2 _ (show 256 * s.val + 1 * r.val = 256 * s.val + r.val by omega) (show 0 + 1 * k.val = k.val by omega))) (pay3_right x1 x2 C k)
end

/-! ## The slices of a tile -/

section
variable (u : FVec Ideal S256x512 .bf16) (p : FVec Ideal S256x512 .f32) (r C : Fin 256)

theorem pay10_apply : k0_pay10 u (ix2 r C) = u (ix2 r ⟨C.val, by omega⟩) := by
  pointwise [k0_pay10]
theorem pay13_apply : k0_pay13 u (ix2 r C) = u (ix2 r ⟨256 + C.val, by omega⟩) := by
  pointwise [k0_pay13]
theorem pay12_apply (a : Fin 8) : k0_pay12 u (ix2 a C) = u (ix2 ⟨248 + a.val, by omega⟩ ⟨C.val, by omega⟩) := by
  pointwise [k0_pay12, k0_pay10]
theorem pay15_apply (a : Fin 8) : k0_pay15 u (ix2 a C) = u (ix2 ⟨248 + a.val, by omega⟩ ⟨256 + C.val, by omega⟩) := by
  pointwise [k0_pay15, k0_pay13]
theorem pay21_apply : k0_pay21 p (ix2 r C) = p (ix2 r ⟨C.val, by omega⟩) := by
  pointwise [k0_pay21, k0_pay19]
theorem pay22_apply : k0_pay22 p (ix2 r C) = p (ix2 r ⟨256 + C.val, by omega⟩) := by
  pointwise [k0_pay22, k0_pay19]
end

/-! ## The convolution -/

/-- The row `n` before a tile's row: among the eight rows before the tile, or in it. -/
def tap (n : ℕ) (h : FVec Ideal S8x256 .f32) (g : FVec Ideal S256x256 .f32) (r C : Fin 256) : EReal :=
  if hr : r.val < n then h (ix2 ⟨r.val + 8 - n, by omega⟩ C) else g (ix2 ⟨r.val - n, by omega⟩ C)

section
variable (h : FVec Ideal S8x256 .f32) (g : FVec Ideal S256x256 .f32)

abbrev cat : FVec Ideal S264x256 .f32 := concatenate S264x256 0 [⟨S8x256, h⟩, ⟨S256x256, g⟩] concatenates_S8x256_S256x256_S264x256_d0

theorem cat_lo (a : Fin 264) (C : Fin 256) (ha : a.val < 8) : cat h g (ix2 a C) = h (ix2 ⟨a.val, ha⟩ C) := by
  refine concatenate_pair_apply_left 0 _ _ concatenates_S8x256_S256x256_S264x256_d0 _ rfl _ fun b => ?_
  match b with
  | ⟨0, _⟩ => rfl
  | ⟨1, _⟩ => rfl
theorem cat_hi (a : Fin 264) (C : Fin 256) (ha : 8 ≤ a.val) : cat h g (ix2 a C) = g (ix2 ⟨a.val - 8, by omega⟩ C) := by
  refine concatenate_pair_apply_right 0 _ _ concatenates_S8x256_S256x256_S264x256_d0 _ rfl rfl _ (fun b hb => ?_) (show a.val - 8 + 8 = a.val by omega)
  match b with
  | ⟨0, _⟩ => exact absurd rfl hb
  | ⟨1, _⟩ => rfl

theorem cat_tap (n : ℕ) (hn : n ≤ 8) (r C : Fin 256) : cat h g (ix2 ⟨8 + r.val - n, by omega⟩ C) = tap n h g r C := by
  unfold tap
  split
  · rename_i hr
    rw [cat_lo h g _ _ (show 8 + r.val - n < 8 by omega)]
    exact congrArg h (eq_ix2 _ (show 8 + r.val - n = r.val + 8 - n by omega) rfl)
  · rename_i hr
    rw [cat_hi h g _ _ (show 8 ≤ 8 + r.val - n by omega)]
    exact congrArg g (eq_ix2 _ (show 8 + r.val - n - 8 = r.val - n by omega) rfl)

theorem rot_apply (n : ℕ) (hn : n ≤ 8) (b : BitVec 32) (hb : b.toNat = n) (r C : Fin 256) :
    extractStridedSlice S256x256 ![8, 0] (dynamicRotate 0 b none (cat h g) rotates_S264x256_d0) slices_S264x256_o8_0_S256x256 (ix2 r C) = tap n h g r C := by
  refine (extractStridedSlice_apply ![8, 0] _ _ (ix2 r C) (ix2 ⟨8 + r.val, by omega⟩ C) (fun a => ?_)).trans (Eq.trans ?_ (cat_tap h g n hn r C))
  · match a with
    | ⟨0, _⟩ => rfl
    | ⟨1, _⟩ => exact (Nat.zero_add _).symm
  · unfold dynamicRotate
    refine congrArg (cat h g) (eq_ix2 _ ?_ rfl)
    show ((8 + r.val) + 264 - (b.toNat + 0) % 264) % 264 = 8 + r.val - n
    omega

theorem cur_apply (r C : Fin 256) : extractStridedSlice S256x256 ![8, 0] (cat h g) slices_S264x256_o8_0_S256x256 (ix2 r C) = g (ix2 r C) := by
  refine (extractStridedSlice_apply ![8, 0] _ _ (ix2 r C) (ix2 ⟨8 + r.val, by omega⟩ C) (fun a => ?_)).trans ((cat_hi h g _ _ (show 8 ≤ 8 + r.val by omega)).trans ?_)
  · match a with
    | ⟨0, _⟩ => rfl
    | ⟨1, _⟩ => exact (Nat.zero_add _).symm
  · exact congrArg g (eq_ix2 _ (show 8 + r.val - 8 = r.val by omega) rfl)
end

section
variable (w : Vec Ideal S3x256 .f32) (b : Vec Ideal S1x256 .f32) (h : FVec Ideal S8x256 .f32) (u : FVec Ideal S256x512 .bf16) (r C : Fin 256)

theorem bias_apply : broadcastTo S256x256 b broadcasts_S1x256_S256x256 (ix2 r C) = b (ix2 0 C) := by
  pointwise []
theorem w0_apply : broadcastTo S256x256 (extractStridedSlice S1x256 ![0, 0] w slices_S3x256_o0_0_S1x256) broadcasts_S1x256_S256x256 (ix2 r C) = w (ix2 0 C) := by
  pointwise []
theorem w1_apply : broadcastTo S256x256 (extractStridedSlice S1x256 ![1, 0] w slices_S3x256_o1_0_S1x256) broadcasts_S1x256_S256x256 (ix2 r C) = w (ix2 1 C) := by
  pointwise []
theorem w2_apply : broadcastTo S256x256 (extractStridedSlice S1x256 ![2, 0] w slices_S3x256_o2_0_S1x256) broadcasts_S1x256_S256x256 (ix2 r C) = w (ix2 2 C) := by
  pointwise []

/-- The convolved tile's entry. -/
def mixed (g : FVec Ideal S256x256 .f32) : EReal :=
  b (ix2 0 C) + ((tap 2 h g r C * w (ix2 0 C) + tap 1 h g r C * w (ix2 1 C)) + g (ix2 r C) * w (ix2 2 C))

theorem pay11_apply : k0_pay11 w b h u (ix2 r C) = mixed w b h r C (k0_pay10 u) :=
  congrArg₂ (fun x y : EReal => x + y) (bias_apply b r C) (congrArg₂ (fun x y : EReal => x + y)
    (congrArg₂ (fun x y : EReal => x + y)
      (congrArg₂ (fun x y : EReal => x * y) (rot_apply h (k0_pay10 u) 2 (by omega) 2#32 rfl r C) (w0_apply w r C))
      (congrArg₂ (fun x y : EReal => x * y) (rot_apply h (k0_pay10 u) 1 (by omega) 1#32 rfl r C) (w1_apply w r C)))
    (congrArg₂ (fun x y : EReal => x * y) (cur_apply h (k0_pay10 u) r C) (w2_apply w r C)))
theorem pay14_apply : k0_pay14 w b h u (ix2 r C) = mixed w b h r C (k0_pay13 u) :=
  congrArg₂ (fun x y : EReal => x + y) (bias_apply b r C) (congrArg₂ (fun x y : EReal => x + y)
    (congrArg₂ (fun x y : EReal => x + y)
      (congrArg₂ (fun x y : EReal => x * y) (rot_apply h (k0_pay13 u) 2 (by omega) 2#32 rfl r C) (w0_apply w r C))
      (congrArg₂ (fun x y : EReal => x * y) (rot_apply h (k0_pay13 u) 1 (by omega) 1#32 rfl r C) (w1_apply w r C)))
    (congrArg₂ (fun x y : EReal => x * y) (cur_apply h (k0_pay13 u) r C) (w2_apply w r C)))
end

/-! ## Rows before a tile, as rows of the whole -/

theorem before_zero (h : FVec Ideal S8x256 .f32) (f : Fin 8 → FVec Ideal S8x256 .f32) (s : Fin 8) (hs : s.val = 0) : before h f s = h := by
  obtain rfl : s = 0 := Fin.ext hs
  rfl
theorem before_pos (h : FVec Ideal S8x256 .f32) (f : Fin 8 → FVec Ideal S8x256 .f32) : ∀ (s : Fin 8) (_ : 0 < s.val), before h f s = f ⟨s.val - 1, by omega⟩
  | 0, hs => absurd hs (Nat.lt_irrefl 0)
  | 1, _ => rfl
  | 2, _ => rfl
  | 3, _ => rfl
  | 4, _ => rfl
  | 5, _ => rfl
  | 6, _ => rfl
  | 7, _ => rfl

/-- If a block's rows start at row `B` of a matrix's column, and the rows above the block are the column's or zero above the matrix,
a tap is the column's row `n` before. -/
theorem tap_eq (B : ℕ) (hB : B = 0 ∨ 8 ≤ B) (P : ℕ → EReal) (h : FVec Ideal S8x256 .f32) (e : Fin 8 → FVec Ideal S8x256 .f32) (g : FVec Ideal S256x256 .f32)
    (s : Fin 8) (C : Fin 256) (hh : ∀ a : Fin 8, h (ix2 a C) = if B = 0 then 0 else P (B + a.val - 8))
    (he : ∀ (s : Fin 8) (a : Fin 8), e s (ix2 a C) = P (B + 256 * s.val + 248 + a.val)) (hg : ∀ r : Fin 256, g (ix2 r C) = P (B + 256 * s.val + r.val))
    (n : ℕ) (hn : n ≤ 8) (r : Fin 256) : tap n (before h e s) g r C = if B + 256 * s.val + r.val < n then 0 else P (B + 256 * s.val + r.val - n) := by
  unfold tap
  split
  · rename_i hr
    by_cases hs : s.val = 0
    · rw [before_zero h e s hs, hh]
      by_cases hb : B = 0
      · rw [if_pos hb, if_pos (by omega)]
      · rw [if_neg hb, if_neg (by omega)]
        exact congrArg P (by dsimp only; omega)
    · rw [before_pos h e s (by omega), he, if_neg (by omega)]
      exact congrArg P (by dsimp only; omega)
  · rename_i hr
    rw [hg, if_neg (by omega)]
    exact congrArg P (by dsimp only; omega)

/-! ## The gated value -/

/-- The kernel's spelling of the gate's function. -/
def gate (x : EReal) : EReal :=
  x * (Ideal.ofBits .f32 0x3F000000#32 + Ideal.ofBits .f32 0x3F000000#32
    * Ideal.tanh (x * (Ideal.ofBits .f32 0x3F4C422A#32 + ((80338380498831 / 2251799813685248 : ℝ) : EReal) * (x * x))))

theorem named_word : (Named.named (F := Ideal) κ "k01" (φ := .f32) 0x3D122279#32 : Ideal .f32) = ((80338380498831 / 2251799813685248 : ℝ) : EReal) := rfl

theorem pay18_apply (a b : FVec Ideal S256x256 .f32) (y : S256x256.Idx) : k0_pay18 a b y = gate (a y) * b y := rfl

end Cert.UpGlu

end
-- ==== Proof.UpGlu.Frame.lean ====
module

public import proofs.«01_k».proof.Proof.UpGlu.Run
public import Idealize.ShloMosaic.Lib.Claim

@[expose] public section

set_option maxRecDepth 16384

noncomputable section

namespace Cert.UpGlu

open Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! The frame of the gated projection's kernel: what every point of the grid leaves, the rows its points put by, and the run of
the whole program. The grid is four blocks of rows by eleven blocks of columns, the columns first. -/

variable (m : (ℓ : Loc nD τ sig) → Buf (Elt F) ℓ) (ρ : Dev nD → PrngReg)

theorem row_at : ∀ t : Fin grid0.N, ((grid0.coords t) 0).val = t.val / 11 := by decide +kernel
theorem col_at : ∀ t : Fin grid0.N, ((grid0.coords t) 1).val = t.val % 11 := by decide +kernel

/-- The rows a point puts by. -/
def endsG (c : Dev nD) (t : Fin cfg0.N) : FVec F S8x256 .f32 := endG (iblk m c 0 t) (iblk m c 1 t) (iblk m c 2 t) 7
def endsV (c : Dev nD) (t : Fin cfg0.N) : FVec F S8x256 .f32 := endV (iblk m c 0 t) (iblk m c 1 t) (iblk m c 2 t) 7

/-- The rows a point starts from: zeros above the first block, those put by eleven points before otherwise. -/
def haloG (c : Dev nD) (t : Fin cfg0.N) : FVec F S8x256 .f32 :=
  if t.val < 11 then fun _ => Scalar.ofBits .f32 0x00000000#32 else endsG m c ⟨t.val - 11, Nat.lt_of_le_of_lt (Nat.sub_le _ _) t.isLt⟩
def haloV (c : Dev nD) (t : Fin cfg0.N) : FVec F S8x256 .f32 :=
  if t.val < 11 then fun _ => Scalar.ofBits .f32 0x00000000#32 else endsV m c ⟨t.val - 11, Nat.lt_of_le_of_lt (Nat.sub_le _ _) t.isLt⟩

/-- The rows put by before point `n`: the last eleven points'. -/
def Kept (c : Dev nD) (n : ℕ) (X : Vec F S11x2x8x256 .f32) : Prop :=
  ∀ t : Fin cfg0.N, t.val < n → n ≤ t.val + 11 → ∀ (a : Fin 8) (b : Fin 256),
    X (ix4 ⟨t.val % 11, Nat.mod_lt _ (by omega)⟩ 0 a b) = endsG m c t (ix2 a b) ∧ X (ix4 ⟨t.val % 11, Nat.mod_lt _ (by omega)⟩ 1 a b) = endsV m c t (ix2 a b)

theorem kept_zero (c : Dev nD) (X : Vec F S11x2x8x256 .f32) : Kept m c 0 X := fun t h => absurd h (Nat.not_lt_zero _)

theorem kept_succ (c : Dev nD) (t : Fin cfg0.N) (X : Vec F S11x2x8x256 .f32) (h : Kept m c t.val X) :
    Kept m c (t.val + 1) (putBy (grid0.coords t) X (endsG m c t) (endsV m c t)) := fun t' h1 h2 a b => by
  unfold putBy
  have e := col_at t
  by_cases ht : t'.val = t.val
  · obtain rfl : t' = t := Fin.ext ht
    exact ⟨(if_pos e.symm).trans (if_pos rfl), (if_pos e.symm).trans (if_neg (by show ¬(1 : ℕ) = 0; omega))⟩
  · have hn : ¬t'.val % 11 = ((grid0.coords t) 1).val := by rw [e]; omega
    have k := h t' (by omega) (by omega) a b
    exact ⟨(if_neg hn).trans k.1, (if_neg hn).trans k.2⟩

theorem emb_1 (i : grid0.Coords) (a : Fin 8) (b : Fin 256) :
    (Rect.unit (s := S11x2x8x256) (k0_off1 i) S1x1x8x256.size (k0_off1_inb i)).emb (ix4 0 0 a b) = ix4 (i 1) 0 a b := by
  have h := k0_off1_eq i
  funext d
  match d with
  | ⟨0, _⟩ => exact Fin.ext (by show k0_off1 i 0 + 1 * 0 = (i 1).val; rw [h]; rfl)
  | ⟨1, _⟩ => exact Fin.ext (by show k0_off1 i 1 + 1 * 0 = 0; rw [h]; rfl)
  | ⟨2, _⟩ => exact Fin.ext (by show k0_off1 i 2 + 1 * a.val = a.val; rw [h]; show 0 + 1 * a.val = a.val; omega)
  | ⟨3, _⟩ => exact Fin.ext (by show k0_off1 i 3 + 1 * b.val = b.val; rw [h]; show 0 + 1 * b.val = b.val; omega)
theorem emb_2 (i : grid0.Coords) (a : Fin 8) (b : Fin 256) :
    (Rect.unit (s := S11x2x8x256) (k0_off2 i) S1x1x8x256.size (k0_off2_inb i)).emb (ix4 0 0 a b) = ix4 (i 1) 1 a b := by
  have h := k0_off2_eq i
  funext d
  match d with
  | ⟨0, _⟩ => exact Fin.ext (by show k0_off2 i 0 + 1 * 0 = (i 1).val; rw [h]; rfl)
  | ⟨1, _⟩ => exact Fin.ext (by show k0_off2 i 1 + 1 * 0 = 1; rw [h]; rfl)
  | ⟨2, _⟩ => exact Fin.ext (by show k0_off2 i 2 + 1 * a.val = a.val; rw [h]; show 0 + 1 * a.val = a.val; omega)
  | ⟨3, _⟩ => exact Fin.ext (by show k0_off2 i 3 + 1 * b.val = b.val; rw [h]; show 0 + 1 * b.val = b.val; omega)

/-- Two blocks of eight rows agree when they do at every place. -/
theorem funext2 (f g : FVec F S8x256 .f32) (h : ∀ (a : Fin 8) (b : Fin 256), f (ix2 a b) = g (ix2 a b)) : f = g := funext fun y => by
  have e : y = ix2 (y 0) (y 1) := NormGrad.eq_ix2 y rfl rfl
  rw [e]; exact h _ _

theorem cast_at (v : Vec F S1x1x8x256 .f32) (a : Fin 8) (b : Fin 256) : shapeCast S8x256 v shapeCasts_S1x1x8x256_S8x256 (ix2 a b) = v (ix4 0 0 a b) := by
  pointwise []

theorem below_iff : ∀ t : Fin grid0.N, Scalar.cmpi .sgt (BitVec.ofNat 32 ((grid0.coords t) 0).val) 0#32 = if t.val < 11 then 0#1 else 1#1 := by decide +kernel

theorem startG (c : Dev nD) (t : Fin cfg0.N) (X : Vec F S11x2x8x256 .f32) (h : Kept m c t.val X) :
    k0_pay4 (grid0.coords t) (View.ld X (Rect.unit (s := S11x2x8x256) (k0_off1 (grid0.coords t)) S1x1x8x256.size (k0_off1_inb _))) = haloG m c t := by
  unfold k0_pay4 haloG
  dsimp only
  rw [below_iff t]
  split
  · rfl
  · rename_i ht
    refine Eq.trans (b := shapeCast S8x256 (View.ld X (Rect.unit (s := S11x2x8x256) (k0_off1 (grid0.coords t)) S1x1x8x256.size (k0_off1_inb _))) shapeCasts_S1x1x8x256_S8x256) rfl ?_
    refine funext2 _ _ fun a b => ?_
    rw [cast_at]
    refine (congrArg X (emb_1 _ a b)).trans (Eq.trans ?_ (h ⟨t.val - 11, Nat.lt_of_le_of_lt (Nat.sub_le _ _) t.isLt⟩ (by show t.val - 11 < t.val; omega) (by show t.val ≤ t.val - 11 + 11; omega) a b).1)
    refine congrArg (fun z => X (ix4 z 0 a b)) (Fin.ext ((col_at t).trans ?_))
    show t.val % 11 = (t.val - 11) % 11; omega
theorem startV (c : Dev nD) (t : Fin cfg0.N) (X : Vec F S11x2x8x256 .f32) (h : Kept m c t.val X) :
    k0_pay5 (grid0.coords t) (View.ld X (Rect.unit (s := S11x2x8x256) (k0_off2 (grid0.coords t)) S1x1x8x256.size (k0_off2_inb _))) = haloV m c t := by
  unfold k0_pay5 haloV
  dsimp only
  rw [below_iff t]
  split
  · rfl
  · rename_i ht
    refine Eq.trans (b := shapeCast S8x256 (View.ld X (Rect.unit (s := S11x2x8x256) (k0_off2 (grid0.coords t)) S1x1x8x256.size (k0_off2_inb _))) shapeCasts_S1x1x8x256_S8x256) rfl ?_
    refine funext2 _ _ fun a b => ?_
    rw [cast_at]
    refine (congrArg X (emb_2 _ a b)).trans (Eq.trans ?_ (h ⟨t.val - 11, Nat.lt_of_le_of_lt (Nat.sub_le _ _) t.isLt⟩ (by show t.val - 11 < t.val; omega) (by show t.val ≤ t.val - 11 + 11; omega) a b).2)
    refine congrArg (fun z => X (ix4 z 1 a b)) (Fin.ext ((col_at t).trans ?_))
    show t.val % 11 = (t.val - 11) % 11; omega

/-- What the points hand on before point `n`. -/
def carried (c : Dev nD) (n : ℕ) : sProp 𝕄 :=
  iprop((∃ X : Vec F S11x2x8x256 .f32, owns (c : Thread nD τ) (Memref.whole cc0_scratch0) fullShare X ∗ ⌜Kept m c n X⌝) ∗ (∃ r, prngReg c r))

theorem any_eq (c : Dev nD) : (Pipeline.ΦA spec0 c : sProp 𝕄)
    = iprop((∃ X : Vec F S11x2x8x256 .f32, owns (c : Thread nD τ) (Memref.whole cc0_scratch0) fullShare X) ∗ (∃ r, prngReg c r)) := by
  unfold Pipeline.ΦA; rw [scopedRest0_eq]; simp only [owns_whole]; rfl

/-- The proof data of the run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t)
    | ⟨8, _⟩ => out8 (iblk m c 0 t) (iblk m c 1 t) (iblk m c 2 t)
    | ⟨9, _⟩ => out9 (iblk m c 0 t) (iblk m c 1 t) (iblk m c 2 t) (iblk m c 3 t) (iblk m c 5 t) (haloG m c t)
    | ⟨10, _⟩ => out10 (iblk m c 0 t) (iblk m c 1 t) (iblk m c 2 t) (iblk m c 4 t) (iblk m c 6 t) (haloV m c t)
    | ⟨11, _⟩ => out11 (iblk m c 0 t) (iblk m c 1 t) (iblk m c 2 t) (iblk m c 3 t) (iblk m c 4 t) (iblk m c 5 t) (iblk m c 6 t) (haloG m c t) (haloV m c t)
    | ⟨_ + 12, h⟩ => absurd h (Nat.not_lt.2 (Nat.le_add_left _ _))
  Φ t := carried m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out7 (iblk m c 0 t) (iblk m c 1 t) (iblk m c 2 t) := by dsimp only [dats]
theorem after_8 (c : Dev nD) (t : Fin cfg0.N) : (dats m 0 c).after 8 t = out8 (iblk m c 0 t) (iblk m c 1 t) (iblk m c 2 t) := by dsimp only [dats]
theorem after_9 (c : Dev nD) (t : Fin cfg0.N) : (dats m 0 c).after 9 t = out9 (iblk m c 0 t) (iblk m c 1 t) (iblk m c 2 t) (iblk m c 3 t) (iblk m c 5 t) (haloG m c t) := by dsimp only [dats]
theorem after_10 (c : Dev nD) (t : Fin cfg0.N) : (dats m 0 c).after 10 t = out10 (iblk m c 0 t) (iblk m c 1 t) (iblk m c 2 t) (iblk m c 4 t) (iblk m c 6 t) (haloV m c t) := by dsimp only [dats]
theorem after_11 (c : Dev nD) (t : Fin cfg0.N) : (dats m 0 c).after 11 t = out11 (iblk m c 0 t) (iblk m c 1 t) (iblk m c 2 t) (iblk m c 3 t) (iblk m c 4 t) (iblk m c 5 t) (iblk m c 6 t) (haloG m c t) (haloV m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = carried m c (t.val + 1) from rfl, show (dats m 0 c).Φ t.castSucc = carried m c t.val from rfl,
    show (dats m 0 c).owesAt () t.succ = (dats m 0 c).owesAt () t.castSucc from rfl,
    after_0, after_1, after_2, after_3, after_4, after_5, after_6, after_7, after_8, after_9, after_10, after_11]
  unfold carried
  iintro ⟨⟨⟨%X, HX, %hX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) X
    (haloG m c t) (haloV m c t) (startG m c t X hX) (startV m c t X hX) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HX]; · iexact HX
  iintro ⟨H0, H1, H2, H3, H4, H5, H6, H7, H8, H9, H10, H11, HX⟩
  isplitl [HX Hg]
  · isplitl [HX]
    · iexists _; isplitl [HX]; · iexact HX
      ipureintro; exact kept_succ m c t X hX
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = carried m c 0 from rfl, any_eq]
  unfold carried
  iintro ⟨⟨%X, HX⟩, Hg⟩
  isplitl [HX]
  · iexists X; isplitl [HX]; · iexact HX
    ipureintro; exact kept_zero m c X
  iexact Hg
theorem hout (c : Dev nD) : (dats m 0 c).Φ (Fin.last cfg0.N) ⊢ Pipeline.ΦA spec0 c := by
  rw [show (dats m 0 c).Φ (Fin.last cfg0.N) = carried m c cfg0.N from rfl, any_eq]
  unfold carried
  iintro ⟨⟨%X, HX, -⟩, Hg⟩
  isplitl [HX]
  · iexists X; iexact HX
  iexact Hg

set_option backward.isDefEq.respectTransparency.types false in
/-- Every run of the program ends with the results' arrays as the points left them and no counter raised. -/
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arguments end unchanged and no counter is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.UpGlu

end
-- ==== Proof.UpGlu.Arrays.lean ====
/-
  What the five result arrays of the gated projection hold: the projection's two halves, their convolutions down the rows, and the
  gated value.
-/
module

public import proofs.«01_k».proof.Proof.UpGlu.Entries
public import proofs.«01_k».proof.Proof.UpGlu.Frame

@[expose] public section

set_option maxRecDepth 16384

noncomputable section

open Idealize.ShloMosaic Idealize.ShloMosaic.TcCoe Idealize.SL.Sem
open Idealize.ShloMosaic.Pipeline (Dat)

namespace Cert.UpGlu

open Cert.Kernel16Ideal Cert.Kernel16Ideal.Gen NormGrad Halves

/-! ## The results as functions of the arguments -/

section
variable (h : S8192x1024.Idx → EReal) (w : S1024x5632.Idx → EReal) (cw : S3x5632.Idx → EReal) (cb : S1x5632.Idx → EReal)

/-- The projection's entry. -/
def proj (R C : ℕ) : EReal := if e : R < 8192 ∧ C < 5632 then ∑ k : Fin 1024, h (ix2 ⟨R, e.1⟩ k) * w (ix2 k ⟨C, e.2⟩) else 0
theorem proj_of (R : Fin 8192) (C : Fin 5632) : proj h w R.val C.val = ∑ k : Fin 1024, h (ix2 R k) * w (ix2 k C) := dif_pos ⟨R.isLt, C.isLt⟩
/-- Its entry `n` rows before, zero above the first row. -/
def back (n R C : ℕ) : EReal := if R < n then 0 else proj h w (R - n) C
/-- The convolution down the rows. -/
def conv (R : ℕ) (C : Fin 5632) : EReal :=
  cb (ix2 0 C) + ((back h w 2 R C.val * cw (ix2 0 C) + back h w 1 R C.val * cw (ix2 1 C)) + proj h w R C.val * cw (ix2 2 C))

/-- A column of the gate, a column of the value. -/
abbrev gateCol (C : Fin 2816) : Fin 5632 := ⟨C.val, by omega⟩
abbrev valueCol (C : Fin 2816) : Fin 5632 := ⟨2816 + C.val, by omega⟩

def all7 : S8192x2816.Idx → EReal := fun y => proj h w (y 0).val (gateCol (y 1)).val
def all8 : S8192x2816.Idx → EReal := fun y => proj h w (y 0).val (valueCol (y 1)).val
def all9 : S8192x2816.Idx → EReal := fun y => conv h w cw cb (y 0).val (gateCol (y 1))
def all10 : S8192x2816.Idx → EReal := fun y => conv h w cw cb (y 0).val (valueCol (y 1))
def all11 : S8192x2816.Idx → EReal := fun y => gate (conv h w cw cb (y 0).val (gateCol (y 1))) * conv h w cw cb (y 0).val (valueCol (y 1))
end

/-! ## The windows' blocks -/

section
variable {N K n k t u : ℕ} {f : Fin 2 → ℕ}

/-- An entry of block `(t, u)` of a matrix cut into blocks of `n` rows and `k` columns. -/
theorem at_block (hf : f 0 = t ∧ f 1 = u) (r : Fin n) (C : Fin k) (h0' : n * t + r.val < N) (h1' : k * u + C.val < K) (y : (Mat N K).Idx)
    (h0 : (y 0).val = f 0 * n + 1 * r.val) (h1 : (y 1).val = f 1 * k + 1 * C.val) : y = ix2 ⟨n * t + r.val, h0'⟩ ⟨k * u + C.val, h1'⟩ :=
  eq_ix2 y (by rw [h0, hf.1, one_mul, mul_comm]) (by rw [h1, hf.2, one_mul, mul_comm])

/-- The block that holds an entry. -/
theorem mem_block (hn : 0 < n) (hk : 0 < k) (i : (Mat N K).Idx) (hf : f 0 = (i 0).val / n ∧ f 1 = (i 1).val / k) (a : Fin 2) :
    f a * (Mat n k).size a ≤ (i a).val ∧ (i a).val < f a * (Mat n k).size a + (Mat n k).size a := by
  match a with
  | ⟨0, _⟩ =>
    show f 0 * n ≤ (i 0).val ∧ (i 0).val < f 0 * n + n
    rw [hf.1]
    exact ⟨Nat.div_mul_le_self _ _, by have := Nat.lt_div_mul_add (a := (i 0).val) hn; omega⟩
  | ⟨1, _⟩ =>
    show f 1 * k ≤ (i 1).val ∧ (i 1).val < f 1 * k + k
    rw [hf.2]
    exact ⟨Nat.div_mul_le_self _ _, by have := Nat.lt_div_mul_add (a := (i 1).val) hk; omega⟩
end

variable (m : (ℓ : Loc nD τ sig) → Buf (Elt Ideal) ℓ) (c : Dev nD) (t : Fin cfg0.N)

/-! The launched arguments. -/
abbrev aH : FVec Ideal S8192x1024 .f32 := m ((c : Thread nD τ).loc main_arg0)
abbrev aW : FVec Ideal S1024x5632 .f32 := m ((c : Thread nD τ).loc main_arg1)
abbrev aC : FVec Ideal S3x5632 .f32 := m ((c : Thread nD τ).loc main_arg2)
abbrev aB : FVec Ideal S1x5632 .f32 := m ((c : Thread nD τ).loc main_arg3)

theorem prep0 : @Eq (Vec Ideal S8192x1024 .bf16) (V m c main_v0) (truncf .bf16 (aH m c) bitsLt_bf16_f32) := by
  unfold_abbrev_sides
  after_results
theorem prep2 : @Eq (Vec Ideal S5632x1024 .bf16) (V m c main_v2)
    (truncf .bf16 (transpose S5632x1024 [1, 0] (aW m c) transposes_S1024x5632_S5632x1024_1_0) bitsLt_bf16_f32) := by
  unfold_abbrev_sides
  after_results
theorem prep2_apply (D : Fin 5632) (k : Fin 1024) : (V m c main_v2 : Vec Ideal S5632x1024 .bf16) (ix2 D k) = aW m c (ix2 k D) := by
  refine (congrFun (prep2 m c) _).trans ?_
  pointwise []

theorem t_lt : t.val < 44 := lt_of_lt_of_eq t.isLt N_0

/-- The windows of the projection's factors. -/
theorem idx_in : (win0_0.index t 0 = t.val / 11 ∧ win0_0.index t 1 = 0) ∧ (win0_1.index t 0 = t.val % 11 ∧ win0_1.index t 1 = 0)
    ∧ (win0_2.index t 0 = t.val % 11 + 11 ∧ win0_2.index t 1 = 0) :=
  (by decide +kernel : ∀ t : Fin grid0.N, (win0_0.index t 0 = t.val / 11 ∧ win0_0.index t 1 = 0) ∧ (win0_1.index t 0 = t.val % 11 ∧ win0_1.index t 1 = 0)
    ∧ (win0_2.index t 0 = t.val % 11 + 11 ∧ win0_2.index t 1 = 0)) t
/-- The windows of the convolution's factors. -/
theorem idx_conv : (win0_3.index t 0 = 0 ∧ win0_3.index t 1 = t.val % 11) ∧ (win0_4.index t 0 = 0 ∧ win0_4.index t 1 = t.val % 11 + 11)
    ∧ (win0_5.index t 0 = 0 ∧ win0_5.index t 1 = t.val % 11) ∧ (win0_6.index t 0 = 0 ∧ win0_6.index t 1 = t.val % 11 + 11) :=
  (by decide +kernel : ∀ t : Fin grid0.N, (win0_3.index t 0 = 0 ∧ win0_3.index t 1 = t.val % 11) ∧ (win0_4.index t 0 = 0 ∧ win0_4.index t 1 = t.val % 11 + 11)
    ∧ (win0_5.index t 0 = 0 ∧ win0_5.index t 1 = t.val % 11) ∧ (win0_6.index t 0 = 0 ∧ win0_6.index t 1 = t.val % 11 + 11)) t
/-- The results' windows. -/
theorem idx_out : (win0_7.index t 0 = t.val / 11 ∧ win0_7.index t 1 = t.val % 11) ∧ (win0_8.index t 0 = t.val / 11 ∧ win0_8.index t 1 = t.val % 11)
    ∧ (win0_9.index t 0 = t.val / 11 ∧ win0_9.index t 1 = t.val % 11) ∧ (win0_10.index t 0 = t.val / 11 ∧ win0_10.index t 1 = t.val % 11)
    ∧ (win0_11.index t 0 = t.val / 11 ∧ win0_11.index t 1 = t.val % 11) :=
  (by decide +kernel : ∀ t : Fin grid0.N, (win0_7.index t 0 = t.val / 11 ∧ win0_7.index t 1 = t.val % 11) ∧ (win0_8.index t 0 = t.val / 11 ∧ win0_8.index t 1 = t.val % 11)
    ∧ (win0_9.index t 0 = t.val / 11 ∧ win0_9.index t 1 = t.val % 11) ∧ (win0_10.index t 0 = t.val / 11 ∧ win0_10.index t 1 = t.val % 11)
    ∧ (win0_11.index t 0 = t.val / 11 ∧ win0_11.index t 1 = t.val % 11)) t

theorem row_lt (R : Fin 2048) : 2048 * (t.val / 11) + R.val < 8192 := by
  have := t_lt t
  omega
theorem col_lt (C : Fin 256) : 256 * (t.val % 11) + C.val < 2816 := by
  omega
theorem lo_lt (C : Fin 256) : 256 * (t.val % 11) + C.val < 5632 := by
  omega
theorem hi_lt (C : Fin 256) : 256 * (t.val % 11 + 11) + C.val < 5632 := by
  omega

theorem blk0 (R : Fin 2048) (k : Fin 1024) : (iblk m c 0 t : Vec Ideal S2048x1024 .bf16) (ix2 R k) = aH m c (ix2 ⟨2048 * (t.val / 11) + R.val, row_lt t R⟩ k) := by
  unfold iblk
  exact (View.read_apply ..).trans ((congrArg (V m c main_v0) (at_rows (idx_in t).1 R k _ _ rfl rfl)).trans (congrFun (prep0 m c) _))
theorem blk1 (C : Fin 256) (k : Fin 1024) : (iblk m c 1 t : Vec Ideal S256x1024 .bf16) (ix2 C k) = aW m c (ix2 k ⟨256 * (t.val % 11) + C.val, lo_lt t C⟩) := by
  unfold iblk
  exact (View.read_apply ..).trans ((congrArg (V m c main_v2) (at_rows (idx_in t).2.1 C k _ _ rfl rfl)).trans (prep2_apply m c _ _))
theorem blk2 (C : Fin 256) (k : Fin 1024) : (iblk m c 2 t : Vec Ideal S256x1024 .bf16) (ix2 C k) = aW m c (ix2 k ⟨256 * (t.val % 11 + 11) + C.val, hi_lt t C⟩) := by
  unfold iblk
  exact (View.read_apply ..).trans ((congrArg (V m c main_v2) (at_rows (idx_in t).2.2 C k _ _ rfl rfl)).trans (prep2_apply m c _ _))
theorem blk3 (d : Fin 3) (C : Fin 256) : (iblk m c 3 t : Vec Ideal S3x256 .f32) (ix2 d C) = aC m c (ix2 d ⟨256 * (t.val % 11) + C.val, lo_lt t C⟩) := by
  unfold iblk
  refine (View.read_apply ..).trans ((congrArg (V m c main_arg2) (at_block (idx_conv t).1 d C (by omega) (lo_lt t C) _ rfl rfl)).trans ((congrFun (V_main_arg2 m c) _).trans ?_))
  exact congrArg (aC m c) (eq_ix2 _ (by show 3 * 0 + d.val = d.val; omega) rfl)
theorem blk4 (d : Fin 3) (C : Fin 256) : (iblk m c 4 t : Vec Ideal S3x256 .f32) (ix2 d C) = aC m c (ix2 d ⟨256 * (t.val % 11 + 11) + C.val, hi_lt t C⟩) := by
  unfold iblk
  refine (View.read_apply ..).trans ((congrArg (V m c main_arg2) (at_block (idx_conv t).2.1 d C (by omega) (hi_lt t C) _ rfl rfl)).trans ((congrFun (V_main_arg2 m c) _).trans ?_))
  exact congrArg (aC m c) (eq_ix2 _ (by show 3 * 0 + d.val = d.val; omega) rfl)
theorem blk5 (d : Fin 1) (C : Fin 256) : (iblk m c 5 t : Vec Ideal S1x256 .f32) (ix2 d C) = aB m c (ix2 d ⟨256 * (t.val % 11) + C.val, lo_lt t C⟩) := by
  unfold iblk
  refine (View.read_apply ..).trans ((congrArg (V m c main_arg3) (at_block (idx_conv t).2.2.1 d C (by omega) (lo_lt t C) _ rfl rfl)).trans ((congrFun (V_main_arg3 m c) _).trans ?_))
  exact congrArg (aB m c) (eq_ix2 _ (by show 1 * 0 + d.val = d.val; omega) rfl)
theorem blk6 (d : Fin 1) (C : Fin 256) : (iblk m c 6 t : Vec Ideal S1x256 .f32) (ix2 d C) = aB m c (ix2 d ⟨256 * (t.val % 11 + 11) + C.val, hi_lt t C⟩) := by
  unfold iblk
  refine (View.read_apply ..).trans ((congrArg (V m c main_arg3) (at_block (idx_conv t).2.2.2 d C (by omega) (hi_lt t C) _ rfl rfl)).trans ((congrFun (V_main_arg3 m c) _).trans ?_))
  exact congrArg (aB m c) (eq_ix2 _ (by show 1 * 0 + d.val = d.val; omega) rfl)

/-! ## The gate of one tile -/

theorem prodG (s : Fin 8) (r C : Fin 256) : prodT (iblk m c 0 t) (iblk m c 1 t) (iblk m c 2 t) s (ix2 r ⟨C.val, by omega⟩)
    = proj (aH m c) (aW m c) (2048 * (t.val / 11) + 256 * s.val + r.val) (256 * (t.val % 11) + C.val) := by
  rw [prod_gate]
  refine (Finset.sum_congr rfl fun k _ => congrArg₂ (fun x y : EReal => x * y) (blk0 m c t _ k) (blk1 m c t C k)).trans ?_
  refine (proj_of (aH m c) (aW m c) ⟨2048 * (t.val / 11) + (256 * s.val + r.val), row_lt t ⟨256 * s.val + r.val, by omega⟩⟩ ⟨256 * (t.val % 11) + C.val, lo_lt t C⟩).symm.trans ?_
  exact congrArg (fun z => proj (aH m c) (aW m c) z (256 * (t.val % 11) + C.val)) (by dsimp only; omega)

theorem fullG (s : Fin 8) (r C : Fin 256) : k0_pay10 (roundT (iblk m c 0 t) (iblk m c 1 t) (iblk m c 2 t) s) (ix2 r C)
    = proj (aH m c) (aW m c) (2048 * (t.val / 11) + 256 * s.val + r.val) (256 * (t.val % 11) + C.val) :=
  (pay10_apply _ r C).trans (prodG m c t s r C)

theorem lastG (s : Fin 8) (a : Fin 8) (C : Fin 256) : endG (iblk m c 0 t) (iblk m c 1 t) (iblk m c 2 t) s (ix2 a C)
    = proj (aH m c) (aW m c) (2048 * (t.val / 11) + 256 * s.val + 248 + a.val) (256 * (t.val % 11) + C.val) :=
  (pay12_apply _ C a).trans ((prodG m c t s ⟨248 + a.val, by omega⟩ C).trans
    (congrArg (fun z => proj (aH m c) (aW m c) z (256 * (t.val % 11) + C.val)) (by dsimp only; omega)))

theorem haloG_apply (a : Fin 8) (C : Fin 256) : haloG m c t (ix2 a C)
    = if 2048 * (t.val / 11) = 0 then 0 else proj (aH m c) (aW m c) (2048 * (t.val / 11) + a.val - 8) (256 * (t.val % 11) + C.val) := by
  unfold haloG
  by_cases ht : t.val < 11
  · rw [if_pos ht, if_pos (by omega)]
    exact Ideal.ofBits_zero_f32
  · rw [if_neg ht, if_neg (by omega)]
    refine (lastG m c ⟨t.val - 11, Nat.lt_of_le_of_lt (Nat.sub_le _ _) t.isLt⟩ 7 a C).trans ?_
    have e0 : 2048 * ((t.val - 11) / 11) + 256 * 7 + 248 + a.val = 2048 * (t.val / 11) + a.val - 8 := by omega
    have e1 : (t.val - 11) % 11 = t.val % 11 := by omega
    show proj (aH m c) (aW m c) (2048 * ((t.val - 11) / 11) + 256 * 7 + 248 + a.val) (256 * ((t.val - 11) % 11) + C.val) = _
    rw [e0, e1]

theorem convG_apply (s : Fin 8) (r C : Fin 256) :
    convG (iblk m c 0 t) (iblk m c 1 t) (iblk m c 2 t) (iblk m c 3 t) (iblk m c 5 t) (haloG m c t) s (ix2 r C)
      = conv (aH m c) (aW m c) (aC m c) (aB m c) (2048 * (t.val / 11) + 256 * s.val + r.val) ⟨256 * (t.val % 11) + C.val, lo_lt t C⟩ := by
  have ht := tap_eq (2048 * (t.val / 11)) (by omega) (fun z => proj (aH m c) (aW m c) z (256 * (t.val % 11) + C.val)) (haloG m c t)
    (endG (iblk m c 0 t) (iblk m c 1 t) (iblk m c 2 t)) (k0_pay10 (roundT (iblk m c 0 t) (iblk m c 1 t) (iblk m c 2 t) s)) s C
    (fun a => haloG_apply m c t a C) (fun s a => lastG m c t s a C) (fun r => fullG m c t s r C)
  unfold convG
  rw [View.ld_unit_zero (S := S3x256) hz2, View.ld_unit_zero (S := S1x256) hz2, pay11_apply]
  exact congrArg₂ (fun x y : EReal => x + y) (blk5 m c t 0 C) (congrArg₂ (fun x y : EReal => x + y)
    (congrArg₂ (fun x y : EReal => x + y) (congrArg₂ (fun x y : EReal => x * y) (ht 2 (by omega) r) (blk3 m c t 0 C))
      (congrArg₂ (fun x y : EReal => x * y) (ht 1 (by omega) r) (blk3 m c t 1 C)))
    (congrArg₂ (fun x y : EReal => x * y) (fullG m c t s r C) (blk3 m c t 2 C)))

/-! ## The value of one tile -/

theorem prodV (s : Fin 8) (r C : Fin 256) : prodT (iblk m c 0 t) (iblk m c 1 t) (iblk m c 2 t) s (ix2 r ⟨256 + C.val, by omega⟩)
    = proj (aH m c) (aW m c) (2048 * (t.val / 11) + 256 * s.val + r.val) (256 * (t.val % 11 + 11) + C.val) := by
  rw [prod_value]
  refine (Finset.sum_congr rfl fun k _ => congrArg₂ (fun x y : EReal => x * y) (blk0 m c t _ k) (blk2 m c t C k)).trans ?_
  refine (proj_of (aH m c) (aW m c) ⟨2048 * (t.val / 11) + (256 * s.val + r.val), row_lt t ⟨256 * s.val + r.val, by omega⟩⟩ ⟨256 * (t.val % 11 + 11) + C.val, hi_lt t C⟩).symm.trans ?_
  exact congrArg (fun z => proj (aH m c) (aW m c) z (256 * (t.val % 11 + 11) + C.val)) (by dsimp only; omega)

theorem fullV (s : Fin 8) (r C : Fin 256) : k0_pay13 (roundT (iblk m c 0 t) (iblk m c 1 t) (iblk m c 2 t) s) (ix2 r C)
    = proj (aH m c) (aW m c) (2048 * (t.val / 11) + 256 * s.val + r.val) (256 * (t.val % 11 + 11) + C.val) :=
  (pay13_apply _ r C).trans (prodV m c t s r C)

theorem lastV (s : Fin 8) (a : Fin 8) (C : Fin 256) : endV (iblk m c 0 t) (iblk m c 1 t) (iblk m c 2 t) s (ix2 a C)
    = proj (aH m c) (aW m c) (2048 * (t.val / 11) + 256 * s.val + 248 + a.val) (256 * (t.val % 11 + 11) + C.val) :=
  (pay15_apply _ C a).trans ((prodV m c t s ⟨248 + a.val, by omega⟩ C).trans
    (congrArg (fun z => proj (aH m c) (aW m c) z (256 * (t.val % 11 + 11) + C.val)) (by dsimp only; omega)))

theorem haloV_apply (a : Fin 8) (C : Fin 256) : haloV m c t (ix2 a C)
    = if 2048 * (t.val / 11) = 0 then 0 else proj (aH m c) (aW m c) (2048 * (t.val / 11) + a.val - 8) (256 * (t.val % 11 + 11) + C.val) := by
  unfold haloV
  by_cases ht : t.val < 11
  · rw [if_pos ht, if_pos (by omega)]
    exact Ideal.ofBits_zero_f32
  · rw [if_neg ht, if_neg (by omega)]
    refine (lastV m c ⟨t.val - 11, Nat.lt_of_le_of_lt (Nat.sub_le _ _) t.isLt⟩ 7 a C).trans ?_
    have e0 : 2048 * ((t.val - 11) / 11) + 256 * 7 + 248 + a.val = 2048 * (t.val / 11) + a.val - 8 := by omega
    have e1 : (t.val - 11) % 11 = t.val % 11 := by omega
    show proj (aH m c) (aW m c) (2048 * ((t.val - 11) / 11) + 256 * 7 + 248 + a.val) (256 * ((t.val - 11) % 11 + 11) + C.val) = _
    rw [e0, e1]

theorem convV_apply (s : Fin 8) (r C : Fin 256) :
    convV (iblk m c 0 t) (iblk m c 1 t) (iblk m c 2 t) (iblk m c 4 t) (iblk m c 6 t) (haloV m c t) s (ix2 r C)
      = conv (aH m c) (aW m c) (aC m c) (aB m c) (2048 * (t.val / 11) + 256 * s.val + r.val) ⟨256 * (t.val % 11 + 11) + C.val, hi_lt t C⟩ := by
  have ht := tap_eq (2048 * (t.val / 11)) (by omega) (fun z => proj (aH m c) (aW m c) z (256 * (t.val % 11 + 11) + C.val)) (haloV m c t)
    (endV (iblk m c 0 t) (iblk m c 1 t) (iblk m c 2 t)) (k0_pay13 (roundT (iblk m c 0 t) (iblk m c 1 t) (iblk m c 2 t) s)) s C
    (fun a => haloV_apply m c t a C) (fun s a => lastV m c t s a C) (fun r => fullV m c t s r C)
  unfold convV
  rw [View.ld_unit_zero (S := S3x256) hz2, View.ld_unit_zero (S := S1x256) hz2, pay14_apply]
  exact congrArg₂ (fun x y : EReal => x + y) (blk6 m c t 0 C) (congrArg₂ (fun x y : EReal => x + y)
    (congrArg₂ (fun x y : EReal => x + y) (congrArg₂ (fun x y : EReal => x * y) (ht 2 (by omega) r) (blk4 m c t 0 C))
      (congrArg₂ (fun x y : EReal => x * y) (ht 1 (by omega) r) (blk4 m c t 1 C)))
    (congrArg₂ (fun x y : EReal => x * y) (fullV m c t s r C) (blk4 m c t 2 C)))

/-! ## The arrays -/

/-- The point whose block holds an entry. -/
def tOf (i : S8192x2816.Idx) : Fin cfg0.N := ⟨(i 0).val / 2048 * 11 + (i 1).val / 256, by
  have h0 : (i 0).val < 8192 := (i 0).isLt
  have h1 : (i 1).val < 2816 := (i 1).isLt
  rw [show cfg0.N = 44 from N_0]; omega⟩
theorem tOf_row (i : S8192x2816.Idx) : (tOf i).val / 11 = (i 0).val / 2048 := by
  have h1 : (i 1).val < 2816 := (i 1).isLt
  show ((i 0).val / 2048 * 11 + (i 1).val / 256) / 11 = _
  omega
theorem tOf_col (i : S8192x2816.Idx) : (tOf i).val % 11 = (i 1).val / 256 := by
  have h1 : (i 1).val < 2816 := (i 1).isLt
  show ((i 0).val / 2048 * 11 + (i 1).val / 256) % 11 = _
  omega

theorem block7 (R : Fin 2048) (C : Fin 256) : out7 (iblk m c 0 t) (iblk m c 1 t) (iblk m c 2 t) (ix2 R C)
    = all7 (aH m c) (aW m c) (ix2 ⟨2048 * (t.val / 11) + R.val, row_lt t R⟩ ⟨256 * (t.val % 11) + C.val, col_lt t C⟩) := by
  unfold out7
  rw [tiles_stacked]
  have e0 : 2048 * (t.val / 11) + 256 * (R.val / 256) + R.val % 256 = 2048 * (t.val / 11) + R.val := by omega
  have e1 : 256 * (t.val % 11 + 11) + C.val = 2816 + (256 * (t.val % 11) + C.val) := by omega
  have hs : R.val / 256 < 8 := by omega
  have hr : R.val % 256 < 256 := Nat.mod_lt _ (by omega)
  refine (pay21_apply _ ⟨R.val % 256, hr⟩ C).trans ((prodG m c t ⟨R.val / 256, hs⟩ ⟨R.val % 256, hr⟩ C).trans ?_)
  exact congrArg (fun z => proj (aH m c) (aW m c) z (256 * (t.val % 11) + C.val)) e0

theorem final7 : (dats m 0 c).arrAt 7 cfg0.N = all7 (aH m c) (aW m c) :=
  (dats m 0 c).arrAt_eq_of_cover 7 (all7 (aH m c) (aW m c))
    (fun t _ => by
      show (cfg0.win 7).cut (grid0.coords t) ((dats m 0 c).after 7 t) = _
      rw [after_7]
      funext y
      refine Eq.trans ((congrArg _ (ix2_eta y).symm).trans (block7 m c t (y 0) (y 1))) ?_
      rw [View.read_apply]
      exact congrArg (all7 (aH m c) (aW m c)) (at_block (idx_out t).1 (y 0) (y 1) (row_lt t _) (col_lt t _) _ rfl rfl).symm)
    fun i => ⟨tOf i, flush0_7 _, by
      show i ∈ ((View.whole main_v3_0).slice (win0_7.rect (tOf i))).set
      rw [View.set_slice_whole, Rect.mem_set_unit]
      exact mem_block (n := 2048) (k := 256) (by norm_num) (by norm_num) i ⟨(idx_out (tOf i)).1.1.trans (tOf_row i), (idx_out (tOf i)).1.2.trans (tOf_col i)⟩⟩

theorem block8 (R : Fin 2048) (C : Fin 256) : out8 (iblk m c 0 t) (iblk m c 1 t) (iblk m c 2 t) (ix2 R C)
    = all8 (aH m c) (aW m c) (ix2 ⟨2048 * (t.val / 11) + R.val, row_lt t R⟩ ⟨256 * (t.val % 11) + C.val, col_lt t C⟩) := by
  unfold out8
  rw [tiles_stacked]
  have e0 : 2048 * (t.val / 11) + 256 * (R.val / 256) + R.val % 256 = 2048 * (t.val / 11) + R.val := by omega
  have e1 : 256 * (t.val % 11 + 11) + C.val = 2816 + (256 * (t.val % 11) + C.val) := by omega
  have hs : R.val / 256 < 8 := by omega
  have hr : R.val % 256 < 256 := Nat.mod_lt _ (by omega)
  refine (pay22_apply _ ⟨R.val % 256, hr⟩ C).trans ((prodV m c t ⟨R.val / 256, hs⟩ ⟨R.val % 256, hr⟩ C).trans ?_)
  exact congrArg₂ (proj (aH m c) (aW m c)) e0 e1

theorem final8 : (dats m 0 c).arrAt 8 cfg0.N = all8 (aH m c) (aW m c) :=
  (dats m 0 c).arrAt_eq_of_cover 8 (all8 (aH m c) (aW m c))
    (fun t _ => by
      show (cfg0.win 8).cut (grid0.coords t) ((dats m 0 c).after 8 t) = _
      rw [after_8]
      funext y
      refine Eq.trans ((congrArg _ (ix2_eta y).symm).trans (block8 m c t (y 0) (y 1))) ?_
      rw [View.read_apply]
      exact congrArg (all8 (aH m c) (aW m c)) (at_block (idx_out t).2.1 (y 0) (y 1) (row_lt t _) (col_lt t _) _ rfl rfl).symm)
    fun i => ⟨tOf i, flush0_8 _, by
      show i ∈ ((View.whole main_v3_1).slice (win0_8.rect (tOf i))).set
      rw [View.set_slice_whole, Rect.mem_set_unit]
      exact mem_block (n := 2048) (k := 256) (by norm_num) (by norm_num) i ⟨(idx_out (tOf i)).2.1.1.trans (tOf_row i), (idx_out (tOf i)).2.1.2.trans (tOf_col i)⟩⟩

theorem block9 (R : Fin 2048) (C : Fin 256) : out9 (iblk m c 0 t) (iblk m c 1 t) (iblk m c 2 t) (iblk m c 3 t) (iblk m c 5 t) (haloG m c t) (ix2 R C)
    = all9 (aH m c) (aW m c) (aC m c) (aB m c) (ix2 ⟨2048 * (t.val / 11) + R.val, row_lt t R⟩ ⟨256 * (t.val % 11) + C.val, col_lt t C⟩) := by
  unfold out9
  rw [tiles_stacked]
  have e0 : 2048 * (t.val / 11) + 256 * (R.val / 256) + R.val % 256 = 2048 * (t.val / 11) + R.val := by omega
  have e1 : 256 * (t.val % 11 + 11) + C.val = 2816 + (256 * (t.val % 11) + C.val) := by omega
  have hs : R.val / 256 < 8 := by omega
  have hr : R.val % 256 < 256 := Nat.mod_lt _ (by omega)
  exact (convG_apply m c t ⟨R.val / 256, hs⟩ ⟨R.val % 256, hr⟩ C).trans (congrArg₂ (conv (aH m c) (aW m c) (aC m c) (aB m c)) e0 rfl)

theorem final9 : (dats m 0 c).arrAt 9 cfg0.N = all9 (aH m c) (aW m c) (aC m c) (aB m c) :=
  (dats m 0 c).arrAt_eq_of_cover 9 (all9 (aH m c) (aW m c) (aC m c) (aB m c))
    (fun t _ => by
      show (cfg0.win 9).cut (grid0.coords t) ((dats m 0 c).after 9 t) = _
      rw [after_9]
      funext y
      refine Eq.trans ((congrArg _ (ix2_eta y).symm).trans (block9 m c t (y 0) (y 1))) ?_
      rw [View.read_apply]
      exact congrArg (all9 (aH m c) (aW m c) (aC m c) (aB m c)) (at_block (idx_out t).2.2.1 (y 0) (y 1) (row_lt t _) (col_lt t _) _ rfl rfl).symm)
    fun i => ⟨tOf i, flush0_9 _, by
      show i ∈ ((View.whole main_v3_2).slice (win0_9.rect (tOf i))).set
      rw [View.set_slice_whole, Rect.mem_set_unit]
      exact mem_block (n := 2048) (k := 256) (by norm_num) (by norm_num) i ⟨(idx_out (tOf i)).2.2.1.1.trans (tOf_row i), (idx_out (tOf i)).2.2.1.2.trans (tOf_col i)⟩⟩

theorem block10 (R : Fin 2048) (C : Fin 256) : out10 (iblk m c 0 t) (iblk m c 1 t) (iblk m c 2 t) (iblk m c 4 t) (iblk m c 6 t) (haloV m c t) (ix2 R C)
    = all10 (aH m c) (aW m c) (aC m c) (aB m c) (ix2 ⟨2048 * (t.val / 11) + R.val, row_lt t R⟩ ⟨256 * (t.val % 11) + C.val, col_lt t C⟩) := by
  unfold out10
  rw [tiles_stacked]
  have e0 : 2048 * (t.val / 11) + 256 * (R.val / 256) + R.val % 256 = 2048 * (t.val / 11) + R.val := by omega
  have e1 : 256 * (t.val % 11 + 11) + C.val = 2816 + (256 * (t.val % 11) + C.val) := by omega
  have hs : R.val / 256 < 8 := by omega
  have hr : R.val % 256 < 256 := Nat.mod_lt _ (by omega)
  exact (convV_apply m c t ⟨R.val / 256, hs⟩ ⟨R.val % 256, hr⟩ C).trans (congrArg₂ (conv (aH m c) (aW m c) (aC m c) (aB m c)) e0 (Fin.ext e1))

theorem final10 : (dats m 0 c).arrAt 10 cfg0.N = all10 (aH m c) (aW m c) (aC m c) (aB m c) :=
  (dats m 0 c).arrAt_eq_of_cover 10 (all10 (aH m c) (aW m c) (aC m c) (aB m c))
    (fun t _ => by
      show (cfg0.win 10).cut (grid0.coords t) ((dats m 0 c).after 10 t) = _
      rw [after_10]
      funext y
      refine Eq.trans ((congrArg _ (ix2_eta y).symm).trans (block10 m c t (y 0) (y 1))) ?_
      rw [View.read_apply]
      exact congrArg (all10 (aH m c) (aW m c) (aC m c) (aB m c)) (at_block (idx_out t).2.2.2.1 (y 0) (y 1) (row_lt t _) (col_lt t _) _ rfl rfl).symm)
    fun i => ⟨tOf i, flush0_10 _, by
      show i ∈ ((View.whole main_v3_3).slice (win0_10.rect (tOf i))).set
      rw [View.set_slice_whole, Rect.mem_set_unit]
      exact mem_block (n := 2048) (k := 256) (by norm_num) (by norm_num) i ⟨(idx_out (tOf i)).2.2.2.1.1.trans (tOf_row i), (idx_out (tOf i)).2.2.2.1.2.trans (tOf_col i)⟩⟩

theorem block11 (R : Fin 2048) (C : Fin 256) : out11 (iblk m c 0 t) (iblk m c 1 t) (iblk m c 2 t) (iblk m c 3 t) (iblk m c 4 t) (iblk m c 5 t) (iblk m c 6 t) (haloG m c t) (haloV m c t) (ix2 R C)
    = all11 (aH m c) (aW m c) (aC m c) (aB m c) (ix2 ⟨2048 * (t.val / 11) + R.val, row_lt t R⟩ ⟨256 * (t.val % 11) + C.val, col_lt t C⟩) := by
  unfold out11
  rw [tiles_stacked]
  have e0 : 2048 * (t.val / 11) + 256 * (R.val / 256) + R.val % 256 = 2048 * (t.val / 11) + R.val := by omega
  have e1 : 256 * (t.val % 11 + 11) + C.val = 2816 + (256 * (t.val % 11) + C.val) := by omega
  have hs : R.val / 256 < 8 := by omega
  have hr : R.val % 256 < 256 := Nat.mod_lt _ (by omega)
  refine (pay18_apply _ _ _).trans ?_
  exact congrArg₂ (fun x y : EReal => gate x * y) ((convG_apply m c t ⟨R.val / 256, hs⟩ ⟨R.val % 256, hr⟩ C).trans (congrArg₂ (conv (aH m c) (aW m c) (aC m c) (aB m c)) e0 rfl))
    ((convV_apply m c t ⟨R.val / 256, hs⟩ ⟨R.val % 256, hr⟩ C).trans (congrArg₂ (conv (aH m c) (aW m c) (aC m c) (aB m c)) e0 (Fin.ext e1)))

theorem final11 : (dats m 0 c).arrAt 11 cfg0.N = all11 (aH m c) (aW m c) (aC m c) (aB m c) :=
  (dats m 0 c).arrAt_eq_of_cover 11 (all11 (aH m c) (aW m c) (aC m c) (aB m c))
    (fun t _ => by
      show (cfg0.win 11).cut (grid0.coords t) ((dats m 0 c).after 11 t) = _
      rw [after_11]
      funext y
      refine Eq.trans ((congrArg _ (ix2_eta y).symm).trans (block11 m c t (y 0) (y 1))) ?_
      rw [View.read_apply]
      exact congrArg (all11 (aH m c) (aW m c) (aC m c) (aB m c)) (at_block (idx_out t).2.2.2.2 (y 0) (y 1) (row_lt t _) (col_lt t _) _ rfl rfl).symm)
    fun i => ⟨tOf i, flush0_11 _, by
      show i ∈ ((View.whole main_v3_4).slice (win0_11.rect (tOf i))).set
      rw [View.set_slice_whole, Rect.mem_set_unit]
      exact mem_block (n := 2048) (k := 256) (by norm_num) (by norm_num) i ⟨(idx_out (tOf i)).2.2.2.2.1.trans (tOf_row i), (idx_out (tOf i)).2.2.2.2.2.trans (tOf_col i)⟩⟩

/-- The run: the five arrays, and the arguments unchanged. -/
theorem run_blocks (ρ : Dev nD → PrngReg) : θ_run defs (onTc (τ := τ) (main (F := Ideal))) ⟨m, fun _ => 0, ρ⟩ (fun r => ∀ c : Dev nD,
      r.2.mem ((c.tc : Thread nD τ).loc main_v3_0) = (dats m 0 c).arrAt 7 cfg0.N
      ∧ r.2.mem ((c.tc : Thread nD τ).loc main_v3_1) = (dats m 0 c).arrAt 8 cfg0.N
      ∧ r.2.mem ((c.tc : Thread nD τ).loc main_v3_2) = (dats m 0 c).arrAt 9 cfg0.N
      ∧ r.2.mem ((c.tc : Thread nD τ).loc main_v3_3) = (dats m 0 c).arrAt 10 cfg0.N
      ∧ r.2.mem ((c.tc : Thread nD τ).loc main_v3_4) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1 7, (h c).1 8, (h c).1 9, (h c).1 10, (h c).1 11,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 4).trans (((dats m 0 c).arrAt_in 4 rfl _).trans ((A_eq m c 4).trans (V_main_arg2 m c))),
      ((h c).1 6).trans (((dats m 0 c).arrAt_in 6 rfl _).trans ((A_eq m c 6).trans (V_main_arg3 m c)))⟩)
    ((θ_run defs _ _).mono (fun _ h => h.1) (run m ρ))

end Cert.UpGlu

end
-- ==== Proof.UpGlu.Equation.lean ====
/-
  The gated projection: the kernel's five results are the reference's.
-/
module

public import proofs.«01_k».proof.Defs
public import proofs.«01_k».proof.Proof.UpGlu.Arrays
public import proofs.«01_k».proof.Proof.Gen.Reference16Ideal.Run
public import proofs.«01_k».proof.Proof.Gen.Reference16Ideal.Read
public import Idealize.ShloMosaic.Lib.Quiescent

@[expose] public section

set_option maxRecDepth 16384

noncomputable section

open Idealize.ShloMosaic Idealize.ShloMosaic.TcCoe Idealize.SL.Sem

namespace Cert.UpGluEq

open NormGrad Cert.Reference16Ideal Cert.Reference16Ideal.Read Cert.Reference16Ideal.Gen
open Cert.UpGlu (proj proj_of back conv gateCol valueCol all7 all8 all9 all10 all11 gate)

/-! ## The gate's function, in the two spellings -/

theorem slope_word : Ideal.ofBits .f32 0x3F4C422A#32 = ((13386282 / 2 ^ 24 : ℝ) : EReal) := by
  simp [Ideal.ofBits, Ideal.ieee, -EReal.coe_mul]; norm_num
theorem cube_word : Ideal.ofBits .f32 0x3D372713#32 = ((12003091 / 2 ^ 28 : ℝ) : EReal) := by
  simp [Ideal.ofBits, Ideal.ieee, -EReal.coe_mul]; norm_num

/-- The reference's spelling. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * ((x * x) * x)))))

theorem gate_real (r : ℝ) : gate (r : EReal) = gelu (r : EReal) := by
  have e : r * (13386282 / 2 ^ 24 + 80338380498831 / 2251799813685248 * (r * r)) = 13386282 / 2 ^ 24 * (r + 12003091 / 2 ^ 28 * (r * r * r)) := by ring
  unfold gate gelu
  rw [half_word, slope_word, cube_word, Ideal.ofBits_one_f32, ← EReal.coe_one]
  simp only [← EReal.coe_mul, ← EReal.coe_add, Ideal.tanh_coe]
  rw [e]
  exact congrArg _ (by ring)

theorem gate_top : gate ⊤ = gelu ⊤ := by
  have a : (⊤ : EReal) * (((13386282 / 2 ^ 24 : ℝ) : EReal) + ((80338380498831 / 2251799813685248 : ℝ) : EReal) * (⊤ * ⊤)) = ⊤ := by
    rw [EReal.top_mul_top, EReal.coe_mul_top_of_pos (by norm_num), EReal.coe_add_top, EReal.top_mul_top]
  have b : ((13386282 / 2 ^ 24 : ℝ) : EReal) * (⊤ + ((12003091 / 2 ^ 28 : ℝ) : EReal) * ((⊤ * ⊤) * ⊤)) = ⊤ := by
    rw [EReal.top_mul_top, EReal.top_mul_top, EReal.coe_mul_top_of_pos (by norm_num), EReal.top_add_top, EReal.coe_mul_top_of_pos (by norm_num)]
  unfold gate gelu
  rw [half_word, slope_word, cube_word, Ideal.ofBits_one_f32, a, b, Ideal.tanh_top, ← EReal.coe_one]
  simp only [← EReal.coe_mul, ← EReal.coe_add]
  exact congrArg (fun z : ℝ => (⊤ : EReal) * (z : EReal)) (by norm_num)

theorem gate_bot : gate ⊥ = gelu ⊥ := by
  have a : (⊥ : EReal) * (((13386282 / 2 ^ 24 : ℝ) : EReal) + ((80338380498831 / 2251799813685248 : ℝ) : EReal) * (⊥ * ⊥)) = ⊥ := by
    rw [EReal.bot_mul_bot, EReal.coe_mul_top_of_pos (by norm_num), EReal.coe_add_top, EReal.bot_mul_top]
  have b : ((13386282 / 2 ^ 24 : ℝ) : EReal) * (⊥ + ((12003091 / 2 ^ 28 : ℝ) : EReal) * ((⊥ * ⊥) * ⊥)) = ⊥ := by
    rw [EReal.bot_mul_bot, EReal.top_mul_bot, EReal.coe_mul_bot_of_pos (by norm_num), EReal.bot_add, EReal.coe_mul_bot_of_pos (by norm_num)]
  have e : (-1 : EReal) = ((-1 : ℝ) : EReal) := by rw [EReal.coe_neg, EReal.coe_one]
  unfold gate gelu
  rw [half_word, slope_word, cube_word, Ideal.ofBits_one_f32, a, b, Ideal.tanh_bot, e, ← EReal.coe_one]
  simp only [← EReal.coe_mul, ← EReal.coe_add]
  exact congrArg (fun z : ℝ => (⊥ : EReal) * (z : EReal)) (by norm_num)

/-- The two spellings agree at every extended real. -/
theorem gate_eq (x : EReal) : gate x = gelu x := by
  induction x using EReal.rec with
  | bot => exact gate_bot
  | coe r => exact gate_real r
  | top => exact gate_top

/-! ## The reference's values -/

section
variable (h : FVec Ideal S8192x1024 .f32) (w : FVec Ideal S1024x5632 .f32) (cw : FVec Ideal S3x5632 .f32) (cb : FVec Ideal S1x5632 .f32)
  (R : Fin 8192) (C : Fin 5632)

theorem proj_all : val_main_v0 (F := Ideal) h w (ix2 R C) = proj h w R.val C.val := by
  rw [proj_of]
  pointwise [val_main_v0]

/-- The projection below two rows of zeros. -/
theorem padded_all (a : Fin 8194) : val_main_v2 (F := Ideal) h w (ix2 a C) = back h w 2 a.val C.val := by
  unfold val_main_v2 back
  by_cases ha : a.val < 2
  · rw [if_pos ha]
    refine (concatenate_pair_apply_left 0 _ _ concatenates_S2x5632_S8192x5632_S8194x5632_d0 (ix2 a C) rfl (ix2 ⟨a.val, ha⟩ C) fun b => ?_).trans
      ((val_main_v1_apply _).trans Ideal.ofBits_zero_f32)
    match b with
    | ⟨0, _⟩ => rfl
    | ⟨1, _⟩ => rfl
  · rw [if_neg ha]
    refine (concatenate_pair_apply_right 0 _ _ concatenates_S2x5632_S8192x5632_S8194x5632_d0 (ix2 a C) rfl rfl (ix2 ⟨a.val - 2, by omega⟩ C) (fun b hb => ?_)
      (show a.val - 2 + 2 = a.val by omega)).trans (proj_all h w _ C)
    match b with
    | ⟨0, _⟩ => exact absurd rfl hb
    | ⟨1, _⟩ => rfl

theorem two_before : val_main_v3 (F := Ideal) h w (ix2 R C) = back h w 2 R.val C.val := by
  rw [val_main_v3_apply, show idx_main_v3 (ix2 R C) = ix2 ⟨R.val, by omega⟩ C from eq_ix2 _ rfl rfl, padded_all]
theorem one_before : val_main_v11 (F := Ideal) h w (ix2 R C) = back h w 1 R.val C.val := by
  rw [val_main_v11_apply, show idx_main_v11 (ix2 R C) = ix2 ⟨1 + R.val, by omega⟩ C from eq_ix2 _ rfl rfl, padded_all]
  unfold back
  dsimp only
  by_cases hr : R.val < 1
  · rw [if_pos hr, if_pos (by omega)]
  · rw [if_neg hr, if_neg (by omega), show 1 + R.val - 2 = R.val - 1 by omega]
theorem none_before : val_main_v18 (F := Ideal) h w (ix2 R C) = proj h w R.val C.val := by
  rw [val_main_v18_apply, show idx_main_v18 (ix2 R C) = ix2 ⟨2 + R.val, by omega⟩ C from eq_ix2 _ rfl rfl, padded_all]
  unfold back
  dsimp only
  rw [if_neg (by omega), show 2 + R.val - 2 = R.val by omega]

theorem row0 : val_main_v7 (F := Ideal) cw (ix2 R C) = cw (ix2 0 C) := by
  rw [val_main_v7_apply, val_main_v6_apply, val_main_v5_apply, val_main_v4_apply]
  exact congrArg cw (eq_ix2 _ rfl (Nat.mod_eq_of_lt C.isLt))
theorem row1 : val_main_v15 (F := Ideal) cw (ix2 R C) = cw (ix2 1 C) := by
  rw [val_main_v15_apply, val_main_v14_apply, val_main_v13_apply, val_main_v12_apply]
  exact congrArg cw (eq_ix2 _ rfl (Nat.mod_eq_of_lt C.isLt))
theorem row2 : val_main_v22 (F := Ideal) cw (ix2 R C) = cw (ix2 2 C) := by
  rw [val_main_v22_apply, val_main_v21_apply, val_main_v20_apply, val_main_v19_apply]
  exact congrArg cw (eq_ix2 _ rfl (Nat.mod_eq_of_lt C.isLt))
theorem bias : val_main_v25 (F := Ideal) cb (ix2 R C) = cb (ix2 0 C) := by
  rw [val_main_v25_apply]
  exact congrArg cb (eq_ix2 _ rfl rfl)
theorem nothing : val_main_v9 (F := Ideal) (ix2 R C) = (0 : EReal) := (val_main_v9_apply _).trans Ideal.ofBits_zero_f32

/-- The convolution. -/
theorem conv_all : val_main_v26 (F := Ideal) h w cw cb (ix2 R C) = conv h w cw cb R.val C := by
  have e : val_main_v26 (F := Ideal) h w cw cb (ix2 R C) = (val_main_v25 (F := Ideal) cb (ix2 R C) : EReal)
      + ((((val_main_v9 (F := Ideal) (ix2 R C) : EReal) + val_main_v3 (F := Ideal) h w (ix2 R C) * val_main_v7 (F := Ideal) cw (ix2 R C))
        + val_main_v11 (F := Ideal) h w (ix2 R C) * val_main_v15 (F := Ideal) cw (ix2 R C))
        + val_main_v18 (F := Ideal) h w (ix2 R C) * val_main_v22 (F := Ideal) cw (ix2 R C)) := rfl
  rw [e, bias, nothing, two_before, one_before, none_before, row0, row1, row2, zero_add]
  rfl
end

section
variable (h : FVec Ideal S8192x1024 .f32) (w : FVec Ideal S1024x5632 .f32) (cw : FVec Ideal S3x5632 .f32) (cb : FVec Ideal S1x5632 .f32)
  (R : Fin 8192) (C : Fin 2816)

theorem left_all : val_main_v27 (F := Ideal) h w cw cb (ix2 R C) = conv h w cw cb R.val (gateCol C) := by
  rw [val_main_v27_apply, show idx_main_v27 (ix2 R C) = ix2 R (gateCol C) from eq_ix2 _ rfl rfl, conv_all]
theorem right_all : val_main_v28 (F := Ideal) h w cw cb (ix2 R C) = conv h w cw cb R.val (valueCol C) := by
  rw [val_main_v28_apply, show idx_main_v28 (ix2 R C) = ix2 R (valueCol C) from eq_ix2 _ rfl rfl, conv_all]

theorem all7_eq : val_main_v30 (F := Ideal) h w (ix2 R C) = all7 h w (ix2 R C) := by
  refine Eq.trans (b := val_main_v29 (F := Ideal) h w (ix2 R C)) rfl ?_
  rw [val_main_v29_apply, show idx_main_v29 (ix2 R C) = ix2 R (gateCol C) from eq_ix2 _ rfl rfl, proj_all]
  rfl
theorem all8_eq : val_main_v32 (F := Ideal) h w (ix2 R C) = all8 h w (ix2 R C) := by
  refine Eq.trans (b := val_main_v31 (F := Ideal) h w (ix2 R C)) rfl ?_
  rw [val_main_v31_apply, show idx_main_v31 (ix2 R C) = ix2 R (valueCol C) from eq_ix2 _ rfl rfl, proj_all]
  rfl
theorem all9_eq : val_main_v33 (F := Ideal) h w cw cb (ix2 R C) = all9 h w cw cb (ix2 R C) := left_all h w cw cb R C
theorem all10_eq : val_main_v34 (F := Ideal) h w cw cb (ix2 R C) = all10 h w cw cb (ix2 R C) := right_all h w cw cb R C

theorem all11_eq : val_main_v49 (F := Ideal) h w cw cb (ix2 R C) = all11 h w cw cb (ix2 R C) := by
  have e : val_main_v49 (F := Ideal) h w cw cb (ix2 R C)
      = ((val_main_v27 (F := Ideal) h w cw cb (ix2 R C) : EReal) * ((val_main_v45 (F := Ideal) (ix2 R C) : EReal) * ((val_main_v43 (F := Ideal) (ix2 R C) : EReal)
        + Ideal.tanh ((val_main_v40 (F := Ideal) (ix2 R C) : EReal) * ((val_main_v27 (F := Ideal) h w cw cb (ix2 R C) : EReal) + (val_main_v37 (F := Ideal) (ix2 R C) : EReal)
          * (((val_main_v27 (F := Ideal) h w cw cb (ix2 R C) : EReal) * val_main_v27 (F := Ideal) h w cw cb (ix2 R C)) * val_main_v27 (F := Ideal) h w cw cb (ix2 R C)))))))
        * val_main_v28 (F := Ideal) h w cw cb (ix2 R C) := rfl
  have c37 : (val_main_v37 (F := Ideal) (ix2 R C) : EReal) = Ideal.ofBits .f32 0x3D372713#32 := val_main_v37_apply _
  have c40 : (val_main_v40 (F := Ideal) (ix2 R C) : EReal) = Ideal.ofBits .f32 0x3F4C422A#32 := val_main_v40_apply _
  have c43 : (val_main_v43 (F := Ideal) (ix2 R C) : EReal) = Ideal.ofBits .f32 0x3F800000#32 := val_main_v43_apply _
  have c45 : (val_main_v45 (F := Ideal) (ix2 R C) : EReal) = Ideal.ofBits .f32 0x3F000000#32 := val_main_v45_apply _
  rw [e, c37, c40, c43, c45, left_all, right_all]
  exact congrArg (fun z : EReal => z * conv h w cw cb R.val (valueCol C)) (gate_eq _).symm

/-- Two arrays of a matrix's shape that agree entry by entry. -/
theorem ext {u v : S8192x2816.Idx → EReal} (h : ∀ R C, u (ix2 R C) = v (ix2 R C)) : u = v := funext fun y => by
  rw [← ix2_eta y]; exact h _ _
end

/-- The reference runs, keeps its arguments and has no semaphore. -/
theorem frame_reference : Cert.quiescent_Reference16Ideal := fun m ρ _ =>
  (θ_run Cert.Reference16Ideal.defs _ _).mono (fun r h => ⟨fun c => (h c).2.2.2.2.2, sem_eq_zero_of_no_sems rfl r.2⟩)
    (Cert.Reference16Ideal.Value.run (F := Ideal) m ρ)

/-- The kernel's results are the reference's. -/
theorem value : Cert.algebraic_Kernel16Ideal_Reference16Ideal := fun m g m' g' _ e =>
  ⟨_, _, _, _, _, Cert.UpGlu.run_blocks m g,
    (θ_run Cert.Reference16Ideal.defs _ _).mono (fun r H c => by
      obtain ⟨r0, r1, r2, r3, r4, k⟩ := H c
      obtain ⟨e0, e1, e2, e3⟩ := e c
      refine ⟨?_, ?_, ?_, ?_, ?_, k⟩
      · exact (r0.trans (val_main_v30_eq ..)).trans ((congr (congrArg _ e0) e1).trans ((ext (all7_eq _ _)).trans (Cert.UpGlu.final7 m c).symm))
      · exact (r1.trans (val_main_v32_eq ..)).trans ((congr (congrArg _ e0) e1).trans ((ext (all8_eq _ _)).trans (Cert.UpGlu.final8 m c).symm))
      · exact (r2.trans (val_main_v33_eq ..)).trans ((congr (congr (congr (congrArg _ e0) e1) e2) e3).trans
          ((ext (all9_eq _ _ _ _)).trans (Cert.UpGlu.final9 m c).symm))
      · exact (r3.trans (val_main_v34_eq ..)).trans ((congr (congr (congr (congrArg _ e0) e1) e2) e3).trans
          ((ext (all10_eq _ _ _ _)).trans (Cert.UpGlu.final10 m c).symm))
      · exact (r4.trans (val_main_v49_eq ..)).trans ((congr (congr (congr (congrArg _ e0) e1) e2) e3).trans
          ((ext (all11_eq _ _ _ _)).trans (Cert.UpGlu.final11 m c).symm)))
    (Cert.Reference16Ideal.Value.run (F := Ideal) m' g')⟩

end Cert.UpGluEq

end
-- ==== Proof.Attn.Word.lean ====
/-
  The printed program's frame from its idealization's: the two programs have the same text.
-/
module

public import proofs.«01_k».proof.Proof.Attn.Frame
public import proofs.«01_k».proof.Kernel6
public import proofs.«01_k».proof.Proof.Gen.Kernel6.Skeleton
public import Idealize.ShloMosaic.Lib.Tactic

@[expose] public section

set_option maxRecDepth 65536

noncomputable section

open Idealize.ShloMosaic Idealize.ShloMosaic.TcCoe Idealize.SL.Sem

namespace Cert.Attn

variable {F : FTy → Type} [FloatOps F]

/-- The two texts name the same host program. -/
theorem main_eq : Cert.Kernel6.main (F := F) = Cert.Kernel6Ideal.main (F := F) := by sl_kernel_rfl

/-- The two texts name the same kernel. -/
theorem defs_eq : Cert.Kernel6.defs (F := F) = Cert.Kernel6Ideal.defs (F := F) := by sl_kernel_rfl

/-- The printed program's arguments end unchanged and no counter is raised. -/
theorem frame_word (m : (ℓ : Loc Cert.Kernel6.nD Cert.Kernel6.τ Cert.Kernel6.sig) → Buf (Elt F) ℓ) (ρ : Dev Cert.Kernel6.nD → PrngReg) :
    θ_run (Cert.Kernel6.defs (F := F)) (onTc (τ := Cert.Kernel6.τ) (Cert.Kernel6.main (F := F))) ⟨m, fun _ => 0, ρ⟩
      (fun r => (∀ c : Dev Cert.Kernel6.nD,
        r.2.mem ((c.tc : Thread Cert.Kernel6.nD Cert.Kernel6.τ).loc Cert.Kernel6.main_arg0) = m ((c.tc : Thread Cert.Kernel6.nD Cert.Kernel6.τ).loc Cert.Kernel6.main_arg0)
        ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0) := by
  rw [main_eq, defs_eq]
  exact frame (F := F) m ρ

end Cert.Attn

end
-- ==== Proof.UpGlu.Word.lean ====
/-
  The printed program's frame from its idealization's: the two programs have the same text but for one constant, named in the idealization.
-/
module

public import proofs.«01_k».proof.Proof.UpGlu.Frame
public import proofs.«01_k».proof.Kernel16
public import proofs.«01_k».proof.Proof.Gen.Kernel16.Skeleton
public import Idealize.ShloMosaic.Lib.Tactic

@[expose] public section

set_option maxRecDepth 65536

noncomputable section

open Idealize.ShloMosaic Idealize.ShloMosaic.TcCoe Idealize.SL.Sem

namespace Cert.UpGlu

variable {F : FTy → Type} [FloatOps F]

/-- A named constant read as the word it stands for. -/
@[local instance, instance_reducible] def asWord : Named F where
  named _ _ _ bits := Scalar.ofBits _ bits

/-- The two texts name the same host program. -/
theorem main_eq : Cert.Kernel16.main (F := F) = Cert.Kernel16Ideal.main (F := F) := by sl_kernel_rfl

/-- The two texts name the same kernel. -/
theorem defs_eq : Cert.Kernel16.defs (F := F) = Cert.Kernel16Ideal.defs (F := F) := by sl_kernel_rfl

/-- The printed program's arguments end unchanged and no counter is raised. -/
theorem frame_word (m : (ℓ : Loc Cert.Kernel16.nD Cert.Kernel16.τ Cert.Kernel16.sig) → Buf (Elt F) ℓ) (ρ : Dev Cert.Kernel16.nD → PrngReg) :
    θ_run (Cert.Kernel16.defs (F := F)) (onTc (τ := Cert.Kernel16.τ) (Cert.Kernel16.main (F := F))) ⟨m, fun _ => 0, ρ⟩
      (fun r => (∀ c : Dev Cert.Kernel16.nD,
        r.2.mem ((c.tc : Thread Cert.Kernel16.nD Cert.Kernel16.τ).loc Cert.Kernel16.main_arg0) = m ((c.tc : Thread Cert.Kernel16.nD Cert.Kernel16.τ).loc Cert.Kernel16.main_arg0)
        ∧ r.2.mem ((c.tc : Thread Cert.Kernel16.nD Cert.Kernel16.τ).loc Cert.Kernel16.main_arg1) = m ((c.tc : Thread Cert.Kernel16.nD Cert.Kernel16.τ).loc Cert.Kernel16.main_arg1)
        ∧ r.2.mem ((c.tc : Thread Cert.Kernel16.nD Cert.Kernel16.τ).loc Cert.Kernel16.main_arg2) = m ((c.tc : Thread Cert.Kernel16.nD Cert.Kernel16.τ).loc Cert.Kernel16.main_arg2)
        ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0) := by
  rw [main_eq, defs_eq]
  exact frame (F := F) m ρ

end Cert.UpGlu

end
-- ==== Proof.lean ====
/-
  The claims of the statement, put together: each kernel's frame and its ideal reading's, each reference's frame, what the
  ideal readings keep, and the equations of the results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite9
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Pool.Equation
public import proofs.«01_k».proof.Proof.FfnOut.Equation
public import proofs.«01_k».proof.Proof.DgradTwo.Equation
public import proofs.«01_k».proof.Proof.DgradOne.Equation
public import proofs.«01_k».proof.Proof.Attn.Equation
public import proofs.«01_k».proof.Proof.Fwd.Equation
public import proofs.«01_k».proof.Proof.MixOut.Equation
public import proofs.«01_k».proof.Proof.Pooling.Equation
public import proofs.«01_k».proof.Proof.RmsNorm.Equation
public import proofs.«01_k».proof.Proof.Proj.Equation
public import proofs.«01_k».proof.Proof.GradIn.Equation
public import proofs.«01_k».proof.Proof.SumParts.Equation
public import proofs.«01_k».proof.Proof.AdamW.Equation
public import proofs.«01_k».proof.Proof.Packed.Equation
public import proofs.«01_k».proof.Proof.UpGlu.Equation
public import proofs.«01_k».proof.Proof.Attn.Word
public import proofs.«01_k».proof.Proof.UpGlu.Word
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments and has no semaphore. -/
theorem frame_reference : Cert.quiescent_ReferenceIdeal := fun m ρ _ =>
  (θ_run Cert.ReferenceIdeal.defs _ _).mono (fun r h => ⟨fun c => (h c).2.2.2, sem_eq_zero_of_no_sems rfl r.2⟩)
    (Cert.ReferenceIdeal.Value.run (F := Ideal) m ρ)

/-- The kernel's three results are the reference's. -/
theorem value : Cert.algebraic_KernelIdeal_ReferenceIdeal_pre_finite := fun m g m' g' h e =>
  ⟨_, _, _, Cert.KernelIdeal.Value.run_blocks m g,
    (θ_run Cert.ReferenceIdeal.defs _ _).mono (fun r H c => by
      obtain ⟨r1, r2, r3, k⟩ := H c
      obtain ⟨e0, e1, e2, e3⟩ := e c
      refine ⟨?_, ?_, ?_, k⟩
      · exact (r1.trans (Cert.ReferenceIdeal.Read.val_main_v177_eq _)).trans ((congr (congr (congrArg _ e1) e2) e3).trans (PoolEq.du_eq c h).symm)
      · exact (r2.trans (Cert.ReferenceIdeal.Read.val_main_v161_eq _)).trans ((congr (congr (congrArg _ e0) e1) e3).trans (PoolEq.gw_eq c h).symm)
      · exact (r3.trans (Cert.ReferenceIdeal.Read.val_main_v178_eq _)).trans ((congr (congr (congrArg _ e0) e1) e2).trans (PoolEq.gs_eq c h).symm))
    (Cert.ReferenceIdeal.Value.run (F := Ideal) m' g')⟩

/-- The reference runs, keeps its arguments and has no semaphore. -/
theorem frame_reference5 : Cert.quiescent_Reference5Ideal := fun m ρ _ =>
  (θ_run Cert.Reference5Ideal.defs _ _).mono (fun r h => ⟨fun c => (h c).2.2.2.2.2.2.2.2.2, sem_eq_zero_of_no_sems rfl r.2⟩)
    (Cert.Reference5Ideal.Value.run (F := Ideal) m ρ)

/-- The two constants of the gate's derivative are named for what they are rounded from. -/
theorem preserves5 : Cert.preserves_Kernel5_Kernel5Ideal :=
  ⟨IdealRules.named_const.statement Cert.Kernel5Ideal.κ "k01" .f32 _ _ rfl, IdealRules.named_const.statement Cert.Kernel5Ideal.κ "k013" .f32 _ _ rfl⟩

/-- The mask's constant is named for the infinity it stands for. -/
theorem preserves7 : Cert.preserves_Kernel7_Kernel7Ideal :=
  IdealRules.named_const.statement Cert.Kernel7Ideal.κ "mask" .f32 _ _ rfl

/-- The constant of the gate is named for what it is rounded from. -/
theorem preserves16 : Cert.preserves_Kernel16_Kernel16Ideal :=
  IdealRules.named_const.statement Cert.Kernel16Ideal.κ "k01" .f32 _ _ rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, PoolEq.facts, Cert.FfnOutEq.facts, Cert.DgradTwoEq.facts, Cert.DgradOneEq.facts, Cert.AttnEq.facts, Cert.FwdEq.facts, Cert.PoolingEq.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    fun m ρ _ => Cert.Kernel2Ideal.Gen.frame m ρ,
    FfnOutEq.frame_reference,
    fun m ρ _ => FfnOutEq.frame_reference m ρ trivial,
    fun m ρ _ => Cert.Kernel3.Gen.frame m ρ,
    fun m ρ _ => Cert.Kernel3Ideal.Gen.frame m ρ,
    fun m ρ _ => Cert.Kernel3Ideal.Gen.frame m ρ,
    DgradTwoEq.frame_reference,
    fun m ρ _ => DgradTwoEq.frame_reference m ρ trivial,
    fun m ρ _ => Cert.Kernel4.Gen.frame m ρ,
    fun m ρ _ => Cert.Kernel4Ideal.Gen.frame m ρ,
    fun m ρ _ => Cert.Kernel4Ideal.Gen.frame m ρ,
    DgradOneEq.frame_reference,
    fun m ρ _ => DgradOneEq.frame_reference m ρ trivial,
    fun m ρ _ => Cert.Kernel5.Gen.frame m ρ,
    fun m ρ _ => Cert.Kernel5Ideal.Gen.frame m ρ,
    frame_reference5,
    fun m ρ _ => Cert.Attn.frame_word m ρ,
    fun m ρ _ => Cert.Attn.frame m ρ,
    fun m ρ _ => Cert.Attn.frame m ρ,
    AttnEq.frame_reference,
    fun m ρ _ => AttnEq.frame_reference m ρ trivial,
    fun m ρ _ => Cert.Kernel7.Gen.frame m ρ,
    fun m ρ _ => Cert.Kernel7Ideal.Gen.frame m ρ,
    fun m ρ _ => Cert.Kernel7Ideal.Gen.frame m ρ,
    FwdEq.frame_reference,
    fun m ρ _ => FwdEq.frame_reference m ρ trivial,
    fun m ρ _ => Cert.Kernel8.Gen.frame m ρ,
    fun m ρ _ => Cert.Kernel8Ideal.Gen.frame m ρ,
    MixOutEq.frame_reference,
    fun m ρ _ => Cert.Kernel9.Gen.frame m ρ,
    fun m ρ _ => Cert.Kernel9Ideal.Gen.frame m ρ,
    fun m ρ _ => Cert.Kernel9Ideal.Gen.frame m ρ,
    PoolingEq.frame_reference,
    fun m ρ _ => PoolingEq.frame_reference m ρ trivial,
    fun m ρ _ => Cert.Kernel10.Gen.frame m ρ,
    fun m ρ _ => Cert.Kernel10Ideal.Gen.frame m ρ,
    RmsNormEq.frame_reference,
    fun m ρ _ => Cert.Kernel11.Gen.frame m ρ,
    fun m ρ _ => Cert.Kernel11Ideal.Gen.frame m ρ,
    ProjEq.frame_reference,
    fun m ρ _ => Cert.Kernel12.Gen.frame m ρ,
    fun m ρ _ => Cert.Kernel12Ideal.Gen.frame m ρ,
    GradInEq.frame_reference,
    fun m ρ _ => Cert.Kernel13.Gen.frame m ρ,
    fun m ρ _ => Cert.Kernel13Ideal.Gen.frame m ρ,
    SumPartsEq.frame_reference,
    fun m ρ _ => Cert.Kernel14.Gen.frame m ρ,
    fun m ρ _ => Cert.Kernel14Ideal.Gen.frame m ρ,
    AdamWEq.frame_reference,
    fun m ρ _ => Cert.Kernel15.Gen.frame m ρ,
    fun m ρ _ => Cert.Kernel15Ideal.Gen.frame m ρ,
    PackedEq.frame_reference,
    fun m ρ _ => Cert.UpGlu.frame_word m ρ,
    fun m ρ _ => Cert.UpGlu.frame m ρ,
    UpGluEq.frame_reference,
    trivial, value, trivial, Cert.FfnOutEq.value, trivial, Cert.DgradTwoEq.value, trivial, Cert.DgradOneEq.value, preserves5, trivial, Cert.AttnEq.value, preserves7, Cert.FwdEq.value, trivial, Cert.MixOutEq.value, trivial, Cert.PoolingEq.value, trivial, Cert.RmsNormEq.value, trivial, Cert.ProjEq.value, trivial, Cert.GradInEq.value, trivial, Cert.SumPartsEq.value, trivial, Cert.AdamWEq.value, trivial, Cert.PackedEq.value, preserves16, Cert.UpGluEq.value⟩

end Cert.Proof

end
